-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite_mix [hPre_finite_mix : Cert.Pre_finite_mix.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite_mix.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4)) (m ((c.tc : Thread Cert.Kernel34Ideal.nD Cert.Kernel34Ideal.τ).loc Cert.Kernel34Ideal.main_arg5)) (m ((c.tc : Thread Cert.Kernel34Ideal.nD Cert.Kernel34Ideal.τ).loc Cert.Kernel34Ideal.main_arg6)) (m ((c.tc : Thread Cert.Kernel34Ideal.nD Cert.Kernel34Ideal.τ).loc Cert.Kernel34Ideal.main_arg7)) (m ((c.tc : Thread Cert.Kernel34Ideal.nD Cert.Kernel34Ideal.τ).loc Cert.Kernel34Ideal.main_arg8)) (m ((c.tc : Thread Cert.Kernel34Ideal.nD Cert.Kernel34Ideal.τ).loc Cert.Kernel34Ideal.main_arg9))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite_mix [hPre_finite_mix : Cert.Pre_finite_mix.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite_mix.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4)) (m ((c.tc : Thread Cert.Reference34Ideal.nD Cert.Reference34Ideal.τ).loc Cert.Reference34Ideal.main_arg5)) (m ((c.tc : Thread Cert.Reference34Ideal.nD Cert.Reference34Ideal.τ).loc Cert.Reference34Ideal.main_arg6)) (m ((c.tc : Thread Cert.Reference34Ideal.nD Cert.Reference34Ideal.τ).loc Cert.Reference34Ideal.main_arg7)) (m ((c.tc : Thread Cert.Reference34Ideal.nD Cert.Reference34Ideal.τ).loc Cert.Reference34Ideal.main_arg8)) (m ((c.tc : Thread Cert.Reference34Ideal.nD Cert.Reference34Ideal.τ).loc Cert.Reference34Ideal.main_arg9))) = (fun _ => 1#1)

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_finite_gate [hPre_finite_gate : Cert.Pre_finite_gate.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_finite_gate.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))) = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_finite_gate [hPre_finite_gate : Cert.Pre_finite_gate.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_finite_gate.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2))) = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Kernel37Ideal_finite_conv [hPre_finite_conv : Cert.Pre_finite_conv.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_finite_conv.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3))) = (fun _ => 1#1)

def Pre_Reference37Ideal (m : (ℓ : Loc Cert.Reference37Ideal.nD Cert.Reference37Ideal.τ Cert.Reference37Ideal.sig) → Buf (Elt Ideal) ℓ) : Prop :=
  True

def Pre_Reference37Ideal_finite_conv [hPre_finite_conv : Cert.Pre_finite_conv.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_finite_conv.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3))) = (fun _ => 1#1)

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8)
      ∧ r.2.mem ((c.tc : Thread Cert.Kernel34.nD Cert.Kernel34.τ).loc Cert.Kernel34.main_arg9) = m ((c.tc : Thread Cert.Kernel34.nD Cert.Kernel34.τ).loc Cert.Kernel34.main_arg9))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ r.2.sem = fun _ => 0)

def quiescent_Kernel34Ideal_pre_finite_mix [hKernel34Ideal : Cert.Kernel34Ideal.Facts] [hPre_finite_mix : Cert.Pre_finite_mix.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite_mix m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9))
      ∧ r.2.sem = fun _ => 0)

def quiescent_Reference34Ideal_pre_finite_mix [hReference34Ideal : Cert.Reference34Ideal.Facts] [hPre_finite_mix : Cert.Pre_finite_mix.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite_mix m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Kernel35Ideal_pre_finite_gate [hKernel35Ideal : Cert.Kernel35Ideal.Facts] [hPre_finite_gate : Cert.Pre_finite_gate.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_finite_gate m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Reference35Ideal_pre_finite_gate [hReference35Ideal : Cert.Reference35Ideal.Facts] [hPre_finite_gate : Cert.Pre_finite_gate.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_finite_gate m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Kernel37Ideal_pre_finite_conv [hKernel37Ideal : Cert.Kernel37Ideal.Facts] [hPre_finite_conv : Cert.Pre_finite_conv.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal_finite_conv m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Reference37Ideal_pre_finite_conv [hReference37Ideal : Cert.Reference37Ideal.Facts] [hPre_finite_conv : Cert.Pre_finite_conv.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal_finite_conv m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6)
      ∧ r.2.mem ((c.tc : Thread Cert.Kernel39.nD Cert.Kernel39.τ).loc Cert.Kernel39.main_arg7) = m ((c.tc : Thread Cert.Kernel39.nD Cert.Kernel39.τ).loc Cert.Kernel39.main_arg7))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5)
      ∧ r.2.mem ((c.tc : Thread Cert.Kernel40.nD Cert.Kernel40.τ).loc Cert.Kernel40.main_arg6) = m ((c.tc : Thread Cert.Kernel40.nD Cert.Kernel40.τ).loc Cert.Kernel40.main_arg6)
      ∧ r.2.mem ((c.tc : Thread Cert.Kernel40.nD Cert.Kernel40.τ).loc Cert.Kernel40.main_arg7) = m ((c.tc : Thread Cert.Kernel40.nD Cert.Kernel40.τ).loc Cert.Kernel40.main_arg7))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
      ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
      ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5)
      ∧ r.2.mem ((c.tc : Thread Cert.Reference40Ideal.nD Cert.Reference40Ideal.τ).loc Cert.Reference40Ideal.main_arg6) = m ((c.tc : Thread Cert.Reference40Ideal.nD Cert.Reference40Ideal.τ).loc Cert.Reference40Ideal.main_arg6)
      ∧ r.2.mem ((c.tc : Thread Cert.Reference40Ideal.nD Cert.Reference40Ideal.τ).loc Cert.Reference40Ideal.main_arg7) = m ((c.tc : Thread Cert.Reference40Ideal.nD Cert.Reference40Ideal.τ).loc Cert.Reference40Ideal.main_arg7))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6)
      ∧ r.2.mem ((c.tc : Thread Cert.Kernel41.nD Cert.Kernel41.τ).loc Cert.Kernel41.main_arg7) = m ((c.tc : Thread Cert.Kernel41.nD Cert.Kernel41.τ).loc Cert.Kernel41.main_arg7))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
      ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6)
      ∧ r.2.mem ((c.tc : Thread Cert.Reference41Ideal.nD Cert.Reference41Ideal.τ).loc Cert.Reference41Ideal.main_arg7) = m ((c.tc : Thread Cert.Reference41Ideal.nD Cert.Reference41Ideal.τ).loc Cert.Reference41Ideal.main_arg7))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3)
      ∧ r.2.mem ((c.tc : Thread Cert.Kernel42.nD Cert.Kernel42.τ).loc Cert.Kernel42.main_arg4) = m ((c.tc : Thread Cert.Kernel42.nD Cert.Kernel42.τ).loc Cert.Kernel42.main_arg4)
      ∧ r.2.mem ((c.tc : Thread Cert.Kernel42.nD Cert.Kernel42.τ).loc Cert.Kernel42.main_arg5) = m ((c.tc : Thread Cert.Kernel42.nD Cert.Kernel42.τ).loc Cert.Kernel42.main_arg5)
      ∧ r.2.mem ((c.tc : Thread Cert.Kernel42.nD Cert.Kernel42.τ).loc Cert.Kernel42.main_arg6) = m ((c.tc : Thread Cert.Kernel42.nD Cert.Kernel42.τ).loc Cert.Kernel42.main_arg6)
      ∧ r.2.mem ((c.tc : Thread Cert.Kernel42.nD Cert.Kernel42.τ).loc Cert.Kernel42.main_arg7) = m ((c.tc : Thread Cert.Kernel42.nD Cert.Kernel42.τ).loc Cert.Kernel42.main_arg7))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
      ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4)
      ∧ r.2.mem ((c.tc : Thread Cert.Kernel42Ideal.nD Cert.Kernel42Ideal.τ).loc Cert.Kernel42Ideal.main_arg5) = m ((c.tc : Thread Cert.Kernel42Ideal.nD Cert.Kernel42Ideal.τ).loc Cert.Kernel42Ideal.main_arg5)
      ∧ r.2.mem ((c.tc : Thread Cert.Kernel42Ideal.nD Cert.Kernel42Ideal.τ).loc Cert.Kernel42Ideal.main_arg6) = m ((c.tc : Thread Cert.Kernel42Ideal.nD Cert.Kernel42Ideal.τ).loc Cert.Kernel42Ideal.main_arg6)
      ∧ r.2.mem ((c.tc : Thread Cert.Kernel42Ideal.nD Cert.Kernel42Ideal.τ).loc Cert.Kernel42Ideal.main_arg7) = m ((c.tc : Thread Cert.Kernel42Ideal.nD Cert.Kernel42Ideal.τ).loc Cert.Kernel42Ideal.main_arg7))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3)
      ∧ r.2.mem ((c.tc : Thread Cert.Reference42Ideal.nD Cert.Reference42Ideal.τ).loc Cert.Reference42Ideal.main_arg4) = m ((c.tc : Thread Cert.Reference42Ideal.nD Cert.Reference42Ideal.τ).loc Cert.Reference42Ideal.main_arg4)
      ∧ r.2.mem ((c.tc : Thread Cert.Reference42Ideal.nD Cert.Reference42Ideal.τ).loc Cert.Reference42Ideal.main_arg5) = m ((c.tc : Thread Cert.Reference42Ideal.nD Cert.Reference42Ideal.τ).loc Cert.Reference42Ideal.main_arg5)
      ∧ r.2.mem ((c.tc : Thread Cert.Reference42Ideal.nD Cert.Reference42Ideal.τ).loc Cert.Reference42Ideal.main_arg6) = m ((c.tc : Thread Cert.Reference42Ideal.nD Cert.Reference42Ideal.τ).loc Cert.Reference42Ideal.main_arg6)
      ∧ r.2.mem ((c.tc : Thread Cert.Reference42Ideal.nD Cert.Reference42Ideal.τ).loc Cert.Reference42Ideal.main_arg7) = m ((c.tc : Thread Cert.Reference42Ideal.nD Cert.Reference42Ideal.τ).loc Cert.Reference42Ideal.main_arg7))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3)
      ∧ r.2.mem ((c.tc : Thread Cert.Kernel43.nD Cert.Kernel43.τ).loc Cert.Kernel43.main_arg4) = m ((c.tc : Thread Cert.Kernel43.nD Cert.Kernel43.τ).loc Cert.Kernel43.main_arg4)
      ∧ r.2.mem ((c.tc : Thread Cert.Kernel43.nD Cert.Kernel43.τ).loc Cert.Kernel43.main_arg5) = m ((c.tc : Thread Cert.Kernel43.nD Cert.Kernel43.τ).loc Cert.Kernel43.main_arg5)
      ∧ r.2.mem ((c.tc : Thread Cert.Kernel43.nD Cert.Kernel43.τ).loc Cert.Kernel43.main_arg6) = m ((c.tc : Thread Cert.Kernel43.nD Cert.Kernel43.τ).loc Cert.Kernel43.main_arg6)
      ∧ r.2.mem ((c.tc : Thread Cert.Kernel43.nD Cert.Kernel43.τ).loc Cert.Kernel43.main_arg7) = m ((c.tc : Thread Cert.Kernel43.nD Cert.Kernel43.τ).loc Cert.Kernel43.main_arg7))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
      ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
      ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5)
      ∧ r.2.mem ((c.tc : Thread Cert.Kernel43Ideal.nD Cert.Kernel43Ideal.τ).loc Cert.Kernel43Ideal.main_arg6) = m ((c.tc : Thread Cert.Kernel43Ideal.nD Cert.Kernel43Ideal.τ).loc Cert.Kernel43Ideal.main_arg6)
      ∧ r.2.mem ((c.tc : Thread Cert.Kernel43Ideal.nD Cert.Kernel43Ideal.τ).loc Cert.Kernel43Ideal.main_arg7) = m ((c.tc : Thread Cert.Kernel43Ideal.nD Cert.Kernel43Ideal.τ).loc Cert.Kernel43Ideal.main_arg7))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3)
      ∧ r.2.mem ((c.tc : Thread Cert.Reference43Ideal.nD Cert.Reference43Ideal.τ).loc Cert.Reference43Ideal.main_arg4) = m ((c.tc : Thread Cert.Reference43Ideal.nD Cert.Reference43Ideal.τ).loc Cert.Reference43Ideal.main_arg4)
      ∧ r.2.mem ((c.tc : Thread Cert.Reference43Ideal.nD Cert.Reference43Ideal.τ).loc Cert.Reference43Ideal.main_arg5) = m ((c.tc : Thread Cert.Reference43Ideal.nD Cert.Reference43Ideal.τ).loc Cert.Reference43Ideal.main_arg5)
      ∧ r.2.mem ((c.tc : Thread Cert.Reference43Ideal.nD Cert.Reference43Ideal.τ).loc Cert.Reference43Ideal.main_arg6) = m ((c.tc : Thread Cert.Reference43Ideal.nD Cert.Reference43Ideal.τ).loc Cert.Reference43Ideal.main_arg6)
      ∧ r.2.mem ((c.tc : Thread Cert.Reference43Ideal.nD Cert.Reference43Ideal.τ).loc Cert.Reference43Ideal.main_arg7) = m ((c.tc : Thread Cert.Reference43Ideal.nD Cert.Reference43Ideal.τ).loc Cert.Reference43Ideal.main_arg7))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2)
      ∧ r.2.mem ((c.tc : Thread Cert.Kernel52.nD Cert.Kernel52.τ).loc Cert.Kernel52.main_arg3) = m ((c.tc : Thread Cert.Kernel52.nD Cert.Kernel52.τ).loc Cert.Kernel52.main_arg3)
      ∧ r.2.mem ((c.tc : Thread Cert.Kernel52.nD Cert.Kernel52.τ).loc Cert.Kernel52.main_arg4) = m ((c.tc : Thread Cert.Kernel52.nD Cert.Kernel52.τ).loc Cert.Kernel52.main_arg4)
      ∧ r.2.mem ((c.tc : Thread Cert.Kernel52.nD Cert.Kernel52.τ).loc Cert.Kernel52.main_arg5) = m ((c.tc : Thread Cert.Kernel52.nD Cert.Kernel52.τ).loc Cert.Kernel52.main_arg5)
      ∧ r.2.mem ((c.tc : Thread Cert.Kernel52.nD Cert.Kernel52.τ).loc Cert.Kernel52.main_arg6) = m ((c.tc : Thread Cert.Kernel52.nD Cert.Kernel52.τ).loc Cert.Kernel52.main_arg6)
      ∧ r.2.mem ((c.tc : Thread Cert.Kernel52.nD Cert.Kernel52.τ).loc Cert.Kernel52.main_arg7) = m ((c.tc : Thread Cert.Kernel52.nD Cert.Kernel52.τ).loc Cert.Kernel52.main_arg7)
      ∧ r.2.mem ((c.tc : Thread Cert.Kernel52.nD Cert.Kernel52.τ).loc Cert.Kernel52.main_arg8) = m ((c.tc : Thread Cert.Kernel52.nD Cert.Kernel52.τ).loc Cert.Kernel52.main_arg8)
      ∧ r.2.mem ((c.tc : Thread Cert.Kernel52.nD Cert.Kernel52.τ).loc Cert.Kernel52.main_arg9) = m ((c.tc : Thread Cert.Kernel52.nD Cert.Kernel52.τ).loc Cert.Kernel52.main_arg9)
      ∧ r.2.mem ((c.tc : Thread Cert.Kernel52.nD Cert.Kernel52.τ).loc Cert.Kernel52.main_arg10) = m ((c.tc : Thread Cert.Kernel52.nD Cert.Kernel52.τ).loc Cert.Kernel52.main_arg10)
      ∧ r.2.mem ((c.tc : Thread Cert.Kernel52.nD Cert.Kernel52.τ).loc Cert.Kernel52.main_arg11) = m ((c.tc : Thread Cert.Kernel52.nD Cert.Kernel52.τ).loc Cert.Kernel52.main_arg11)
      ∧ r.2.mem ((c.tc : Thread Cert.Kernel52.nD Cert.Kernel52.τ).loc Cert.Kernel52.main_arg12) = m ((c.tc : Thread Cert.Kernel52.nD Cert.Kernel52.τ).loc Cert.Kernel52.main_arg12)
      ∧ r.2.mem ((c.tc : Thread Cert.Kernel52.nD Cert.Kernel52.τ).loc Cert.Kernel52.main_arg13) = m ((c.tc : Thread Cert.Kernel52.nD Cert.Kernel52.τ).loc Cert.Kernel52.main_arg13)
      ∧ r.2.mem ((c.tc : Thread Cert.Kernel52.nD Cert.Kernel52.τ).loc Cert.Kernel52.main_arg14) = m ((c.tc : Thread Cert.Kernel52.nD Cert.Kernel52.τ).loc Cert.Kernel52.main_arg14)
      ∧ r.2.mem ((c.tc : Thread Cert.Kernel52.nD Cert.Kernel52.τ).loc Cert.Kernel52.main_arg15) = m ((c.tc : Thread Cert.Kernel52.nD Cert.Kernel52.τ).loc Cert.Kernel52.main_arg15)
      ∧ r.2.mem ((c.tc : Thread Cert.Kernel52.nD Cert.Kernel52.τ).loc Cert.Kernel52.main_arg16) = m ((c.tc : Thread Cert.Kernel52.nD Cert.Kernel52.τ).loc Cert.Kernel52.main_arg16)
      ∧ r.2.mem ((c.tc : Thread Cert.Kernel52.nD Cert.Kernel52.τ).loc Cert.Kernel52.main_arg17) = m ((c.tc : Thread Cert.Kernel52.nD Cert.Kernel52.τ).loc Cert.Kernel52.main_arg17)
      ∧ r.2.mem ((c.tc : Thread Cert.Kernel52.nD Cert.Kernel52.τ).loc Cert.Kernel52.main_arg18) = m ((c.tc : Thread Cert.Kernel52.nD Cert.Kernel52.τ).loc Cert.Kernel52.main_arg18)
      ∧ r.2.mem ((c.tc : Thread Cert.Kernel52.nD Cert.Kernel52.τ).loc Cert.Kernel52.main_arg19) = m ((c.tc : Thread Cert.Kernel52.nD Cert.Kernel52.τ).loc Cert.Kernel52.main_arg19)
      ∧ r.2.mem ((c.tc : Thread Cert.Kernel52.nD Cert.Kernel52.τ).loc Cert.Kernel52.main_arg20) = m ((c.tc : Thread Cert.Kernel52.nD Cert.Kernel52.τ).loc Cert.Kernel52.main_arg20)
      ∧ r.2.mem ((c.tc : Thread Cert.Kernel52.nD Cert.Kernel52.τ).loc Cert.Kernel52.main_arg21) = m ((c.tc : Thread Cert.Kernel52.nD Cert.Kernel52.τ).loc Cert.Kernel52.main_arg21)
      ∧ r.2.mem ((c.tc : Thread Cert.Kernel52.nD Cert.Kernel52.τ).loc Cert.Kernel52.main_arg22) = m ((c.tc : Thread Cert.Kernel52.nD Cert.Kernel52.τ).loc Cert.Kernel52.main_arg22)
      ∧ r.2.mem ((c.tc : Thread Cert.Kernel52.nD Cert.Kernel52.τ).loc Cert.Kernel52.main_arg23) = m ((c.tc : Thread Cert.Kernel52.nD Cert.Kernel52.τ).loc Cert.Kernel52.main_arg23)
      ∧ r.2.mem ((c.tc : Thread Cert.Kernel52.nD Cert.Kernel52.τ).loc Cert.Kernel52.main_arg24) = m ((c.tc : Thread Cert.Kernel52.nD Cert.Kernel52.τ).loc Cert.Kernel52.main_arg24)
      ∧ r.2.mem ((c.tc : Thread Cert.Kernel52.nD Cert.Kernel52.τ).loc Cert.Kernel52.main_arg25) = m ((c.tc : Thread Cert.Kernel52.nD Cert.Kernel52.τ).loc Cert.Kernel52.main_arg25)
      ∧ r.2.mem ((c.tc : Thread Cert.Kernel52.nD Cert.Kernel52.τ).loc Cert.Kernel52.main_arg26) = m ((c.tc : Thread Cert.Kernel52.nD Cert.Kernel52.τ).loc Cert.Kernel52.main_arg26)
      ∧ r.2.mem ((c.tc : Thread Cert.Kernel52.nD Cert.Kernel52.τ).loc Cert.Kernel52.main_arg27) = m ((c.tc : Thread Cert.Kernel52.nD Cert.Kernel52.τ).loc Cert.Kernel52.main_arg27)
      ∧ r.2.mem ((c.tc : Thread Cert.Kernel52.nD Cert.Kernel52.τ).loc Cert.Kernel52.main_arg28) = m ((c.tc : Thread Cert.Kernel52.nD Cert.Kernel52.τ).loc Cert.Kernel52.main_arg28)
      ∧ r.2.mem ((c.tc : Thread Cert.Kernel52.nD Cert.Kernel52.τ).loc Cert.Kernel52.main_arg29) = m ((c.tc : Thread Cert.Kernel52.nD Cert.Kernel52.τ).loc Cert.Kernel52.main_arg29)
      ∧ r.2.mem ((c.tc : Thread Cert.Kernel52.nD Cert.Kernel52.τ).loc Cert.Kernel52.main_arg30) = m ((c.tc : Thread Cert.Kernel52.nD Cert.Kernel52.τ).loc Cert.Kernel52.main_arg30)
      ∧ r.2.mem ((c.tc : Thread Cert.Kernel52.nD Cert.Kernel52.τ).loc Cert.Kernel52.main_arg31) = m ((c.tc : Thread Cert.Kernel52.nD Cert.Kernel52.τ).loc Cert.Kernel52.main_arg31)
      ∧ r.2.mem ((c.tc : Thread Cert.Kernel52.nD Cert.Kernel52.τ).loc Cert.Kernel52.main_arg32) = m ((c.tc : Thread Cert.Kernel52.nD Cert.Kernel52.τ).loc Cert.Kernel52.main_arg32)
      ∧ r.2.mem ((c.tc : Thread Cert.Kernel52.nD Cert.Kernel52.τ).loc Cert.Kernel52.main_arg33) = m ((c.tc : Thread Cert.Kernel52.nD Cert.Kernel52.τ).loc Cert.Kernel52.main_arg33)
      ∧ r.2.mem ((c.tc : Thread Cert.Kernel52.nD Cert.Kernel52.τ).loc Cert.Kernel52.main_arg34) = m ((c.tc : Thread Cert.Kernel52.nD Cert.Kernel52.τ).loc Cert.Kernel52.main_arg34)
      ∧ r.2.mem ((c.tc : Thread Cert.Kernel52.nD Cert.Kernel52.τ).loc Cert.Kernel52.main_arg35) = m ((c.tc : Thread Cert.Kernel52.nD Cert.Kernel52.τ).loc Cert.Kernel52.main_arg35)
      ∧ r.2.mem ((c.tc : Thread Cert.Kernel52.nD Cert.Kernel52.τ).loc Cert.Kernel52.main_arg36) = m ((c.tc : Thread Cert.Kernel52.nD Cert.Kernel52.τ).loc Cert.Kernel52.main_arg36)
      ∧ r.2.mem ((c.tc : Thread Cert.Kernel52.nD Cert.Kernel52.τ).loc Cert.Kernel52.main_arg37) = m ((c.tc : Thread Cert.Kernel52.nD Cert.Kernel52.τ).loc Cert.Kernel52.main_arg37)
      ∧ r.2.mem ((c.tc : Thread Cert.Kernel52.nD Cert.Kernel52.τ).loc Cert.Kernel52.main_arg38) = m ((c.tc : Thread Cert.Kernel52.nD Cert.Kernel52.τ).loc Cert.Kernel52.main_arg38)
      ∧ r.2.mem ((c.tc : Thread Cert.Kernel52.nD Cert.Kernel52.τ).loc Cert.Kernel52.main_arg39) = m ((c.tc : Thread Cert.Kernel52.nD Cert.Kernel52.τ).loc Cert.Kernel52.main_arg39)
      ∧ r.2.mem ((c.tc : Thread Cert.Kernel52.nD Cert.Kernel52.τ).loc Cert.Kernel52.main_arg40) = m ((c.tc : Thread Cert.Kernel52.nD Cert.Kernel52.τ).loc Cert.Kernel52.main_arg40)
      ∧ r.2.mem ((c.tc : Thread Cert.Kernel52.nD Cert.Kernel52.τ).loc Cert.Kernel52.main_arg41) = m ((c.tc : Thread Cert.Kernel52.nD Cert.Kernel52.τ).loc Cert.Kernel52.main_arg41)
      ∧ r.2.mem ((c.tc : Thread Cert.Kernel52.nD Cert.Kernel52.τ).loc Cert.Kernel52.main_arg42) = m ((c.tc : Thread Cert.Kernel52.nD Cert.Kernel52.τ).loc Cert.Kernel52.main_arg42)
      ∧ r.2.mem ((c.tc : Thread Cert.Kernel52.nD Cert.Kernel52.τ).loc Cert.Kernel52.main_arg43) = m ((c.tc : Thread Cert.Kernel52.nD Cert.Kernel52.τ).loc Cert.Kernel52.main_arg43)
      ∧ r.2.mem ((c.tc : Thread Cert.Kernel52.nD Cert.Kernel52.τ).loc Cert.Kernel52.main_arg44) = m ((c.tc : Thread Cert.Kernel52.nD Cert.Kernel52.τ).loc Cert.Kernel52.main_arg44)
      ∧ r.2.mem ((c.tc : Thread Cert.Kernel52.nD Cert.Kernel52.τ).loc Cert.Kernel52.main_arg45) = m ((c.tc : Thread Cert.Kernel52.nD Cert.Kernel52.τ).loc Cert.Kernel52.main_arg45)
      ∧ r.2.mem ((c.tc : Thread Cert.Kernel52.nD Cert.Kernel52.τ).loc Cert.Kernel52.main_arg46) = m ((c.tc : Thread Cert.Kernel52.nD Cert.Kernel52.τ).loc Cert.Kernel52.main_arg46)
      ∧ r.2.mem ((c.tc : Thread Cert.Kernel52.nD Cert.Kernel52.τ).loc Cert.Kernel52.main_arg47) = m ((c.tc : Thread Cert.Kernel52.nD Cert.Kernel52.τ).loc Cert.Kernel52.main_arg47)
      ∧ r.2.mem ((c.tc : Thread Cert.Kernel52.nD Cert.Kernel52.τ).loc Cert.Kernel52.main_arg48) = m ((c.tc : Thread Cert.Kernel52.nD Cert.Kernel52.τ).loc Cert.Kernel52.main_arg48)
      ∧ r.2.mem ((c.tc : Thread Cert.Kernel52.nD Cert.Kernel52.τ).loc Cert.Kernel52.main_arg49) = m ((c.tc : Thread Cert.Kernel52.nD Cert.Kernel52.τ).loc Cert.Kernel52.main_arg49)
      ∧ r.2.mem ((c.tc : Thread Cert.Kernel52.nD Cert.Kernel52.τ).loc Cert.Kernel52.main_arg50) = m ((c.tc : Thread Cert.Kernel52.nD Cert.Kernel52.τ).loc Cert.Kernel52.main_arg50)
      ∧ r.2.mem ((c.tc : Thread Cert.Kernel52.nD Cert.Kernel52.τ).loc Cert.Kernel52.main_arg51) = m ((c.tc : Thread Cert.Kernel52.nD Cert.Kernel52.τ).loc Cert.Kernel52.main_arg51))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
      ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
      ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4)
      ∧ r.2.mem ((c.tc : Thread Cert.Kernel52Ideal.nD Cert.Kernel52Ideal.τ).loc Cert.Kernel52Ideal.main_arg5) = m ((c.tc : Thread Cert.Kernel52Ideal.nD Cert.Kernel52Ideal.τ).loc Cert.Kernel52Ideal.main_arg5)
      ∧ r.2.mem ((c.tc : Thread Cert.Kernel52Ideal.nD Cert.Kernel52Ideal.τ).loc Cert.Kernel52Ideal.main_arg6) = m ((c.tc : Thread Cert.Kernel52Ideal.nD Cert.Kernel52Ideal.τ).loc Cert.Kernel52Ideal.main_arg6)
      ∧ r.2.mem ((c.tc : Thread Cert.Kernel52Ideal.nD Cert.Kernel52Ideal.τ).loc Cert.Kernel52Ideal.main_arg7) = m ((c.tc : Thread Cert.Kernel52Ideal.nD Cert.Kernel52Ideal.τ).loc Cert.Kernel52Ideal.main_arg7)
      ∧ r.2.mem ((c.tc : Thread Cert.Kernel52Ideal.nD Cert.Kernel52Ideal.τ).loc Cert.Kernel52Ideal.main_arg8) = m ((c.tc : Thread Cert.Kernel52Ideal.nD Cert.Kernel52Ideal.τ).loc Cert.Kernel52Ideal.main_arg8)
      ∧ r.2.mem ((c.tc : Thread Cert.Kernel52Ideal.nD Cert.Kernel52Ideal.τ).loc Cert.Kernel52Ideal.main_arg9) = m ((c.tc : Thread Cert.Kernel52Ideal.nD Cert.Kernel52Ideal.τ).loc Cert.Kernel52Ideal.main_arg9)
      ∧ r.2.mem ((c.tc : Thread Cert.Kernel52Ideal.nD Cert.Kernel52Ideal.τ).loc Cert.Kernel52Ideal.main_arg10) = m ((c.tc : Thread Cert.Kernel52Ideal.nD Cert.Kernel52Ideal.τ).loc Cert.Kernel52Ideal.main_arg10)
      ∧ r.2.mem ((c.tc : Thread Cert.Kernel52Ideal.nD Cert.Kernel52Ideal.τ).loc Cert.Kernel52Ideal.main_arg11) = m ((c.tc : Thread Cert.Kernel52Ideal.nD Cert.Kernel52Ideal.τ).loc Cert.Kernel52Ideal.main_arg11)
      ∧ r.2.mem ((c.tc : Thread Cert.Kernel52Ideal.nD Cert.Kernel52Ideal.τ).loc Cert.Kernel52Ideal.main_arg12) = m ((c.tc : Thread Cert.Kernel52Ideal.nD Cert.Kernel52Ideal.τ).loc Cert.Kernel52Ideal.main_arg12)
      ∧ r.2.mem ((c.tc : Thread Cert.Kernel52Ideal.nD Cert.Kernel52Ideal.τ).loc Cert.Kernel52Ideal.main_arg13) = m ((c.tc : Thread Cert.Kernel52Ideal.nD Cert.Kernel52Ideal.τ).loc Cert.Kernel52Ideal.main_arg13)
      ∧ r.2.mem ((c.tc : Thread Cert.Kernel52Ideal.nD Cert.Kernel52Ideal.τ).loc Cert.Kernel52Ideal.main_arg14) = m ((c.tc : Thread Cert.Kernel52Ideal.nD Cert.Kernel52Ideal.τ).loc Cert.Kernel52Ideal.main_arg14)
      ∧ r.2.mem ((c.tc : Thread Cert.Kernel52Ideal.nD Cert.Kernel52Ideal.τ).loc Cert.Kernel52Ideal.main_arg15) = m ((c.tc : Thread Cert.Kernel52Ideal.nD Cert.Kernel52Ideal.τ).loc Cert.Kernel52Ideal.main_arg15)
      ∧ r.2.mem ((c.tc : Thread Cert.Kernel52Ideal.nD Cert.Kernel52Ideal.τ).loc Cert.Kernel52Ideal.main_arg16) = m ((c.tc : Thread Cert.Kernel52Ideal.nD Cert.Kernel52Ideal.τ).loc Cert.Kernel52Ideal.main_arg16)
      ∧ r.2.mem ((c.tc : Thread Cert.Kernel52Ideal.nD Cert.Kernel52Ideal.τ).loc Cert.Kernel52Ideal.main_arg17) = m ((c.tc : Thread Cert.Kernel52Ideal.nD Cert.Kernel52Ideal.τ).loc Cert.Kernel52Ideal.main_arg17)
      ∧ r.2.mem ((c.tc : Thread Cert.Kernel52Ideal.nD Cert.Kernel52Ideal.τ).loc Cert.Kernel52Ideal.main_arg18) = m ((c.tc : Thread Cert.Kernel52Ideal.nD Cert.Kernel52Ideal.τ).loc Cert.Kernel52Ideal.main_arg18)
      ∧ r.2.mem ((c.tc : Thread Cert.Kernel52Ideal.nD Cert.Kernel52Ideal.τ).loc Cert.Kernel52Ideal.main_arg19) = m ((c.tc : Thread Cert.Kernel52Ideal.nD Cert.Kernel52Ideal.τ).loc Cert.Kernel52Ideal.main_arg19)
      ∧ r.2.mem ((c.tc : Thread Cert.Kernel52Ideal.nD Cert.Kernel52Ideal.τ).loc Cert.Kernel52Ideal.main_arg20) = m ((c.tc : Thread Cert.Kernel52Ideal.nD Cert.Kernel52Ideal.τ).loc Cert.Kernel52Ideal.main_arg20)
      ∧ r.2.mem ((c.tc : Thread Cert.Kernel52Ideal.nD Cert.Kernel52Ideal.τ).loc Cert.Kernel52Ideal.main_arg21) = m ((c.tc : Thread Cert.Kernel52Ideal.nD Cert.Kernel52Ideal.τ).loc Cert.Kernel52Ideal.main_arg21)
      ∧ r.2.mem ((c.tc : Thread Cert.Kernel52Ideal.nD Cert.Kernel52Ideal.τ).loc Cert.Kernel52Ideal.main_arg22) = m ((c.tc : Thread Cert.Kernel52Ideal.nD Cert.Kernel52Ideal.τ).loc Cert.Kernel52Ideal.main_arg22)
      ∧ r.2.mem ((c.tc : Thread Cert.Kernel52Ideal.nD Cert.Kernel52Ideal.τ).loc Cert.Kernel52Ideal.main_arg23) = m ((c.tc : Thread Cert.Kernel52Ideal.nD Cert.Kernel52Ideal.τ).loc Cert.Kernel52Ideal.main_arg23)
      ∧ r.2.mem ((c.tc : Thread Cert.Kernel52Ideal.nD Cert.Kernel52Ideal.τ).loc Cert.Kernel52Ideal.main_arg24) = m ((c.tc : Thread Cert.Kernel52Ideal.nD Cert.Kernel52Ideal.τ).loc Cert.Kernel52Ideal.main_arg24)
      ∧ r.2.mem ((c.tc : Thread Cert.Kernel52Ideal.nD Cert.Kernel52Ideal.τ).loc Cert.Kernel52Ideal.main_arg25) = m ((c.tc : Thread Cert.Kernel52Ideal.nD Cert.Kernel52Ideal.τ).loc Cert.Kernel52Ideal.main_arg25)
      ∧ r.2.mem ((c.tc : Thread Cert.Kernel52Ideal.nD Cert.Kernel52Ideal.τ).loc Cert.Kernel52Ideal.main_arg26) = m ((c.tc : Thread Cert.Kernel52Ideal.nD Cert.Kernel52Ideal.τ).loc Cert.Kernel52Ideal.main_arg26)
      ∧ r.2.mem ((c.tc : Thread Cert.Kernel52Ideal.nD Cert.Kernel52Ideal.τ).loc Cert.Kernel52Ideal.main_arg27) = m ((c.tc : Thread Cert.Kernel52Ideal.nD Cert.Kernel52Ideal.τ).loc Cert.Kernel52Ideal.main_arg27)
      ∧ r.2.mem ((c.tc : Thread Cert.Kernel52Ideal.nD Cert.Kernel52Ideal.τ).loc Cert.Kernel52Ideal.main_arg28) = m ((c.tc : Thread Cert.Kernel52Ideal.nD Cert.Kernel52Ideal.τ).loc Cert.Kernel52Ideal.main_arg28)
      ∧ r.2.mem ((c.tc : Thread Cert.Kernel52Ideal.nD Cert.Kernel52Ideal.τ).loc Cert.Kernel52Ideal.main_arg29) = m ((c.tc : Thread Cert.Kernel52Ideal.nD Cert.Kernel52Ideal.τ).loc Cert.Kernel52Ideal.main_arg29)
      ∧ r.2.mem ((c.tc : Thread Cert.Kernel52Ideal.nD Cert.Kernel52Ideal.τ).loc Cert.Kernel52Ideal.main_arg30) = m ((c.tc : Thread Cert.Kernel52Ideal.nD Cert.Kernel52Ideal.τ).loc Cert.Kernel52Ideal.main_arg30)
      ∧ r.2.mem ((c.tc : Thread Cert.Kernel52Ideal.nD Cert.Kernel52Ideal.τ).loc Cert.Kernel52Ideal.main_arg31) = m ((c.tc : Thread Cert.Kernel52Ideal.nD Cert.Kernel52Ideal.τ).loc Cert.Kernel52Ideal.main_arg31)
      ∧ r.2.mem ((c.tc : Thread Cert.Kernel52Ideal.nD Cert.Kernel52Ideal.τ).loc Cert.Kernel52Ideal.main_arg32) = m ((c.tc : Thread Cert.Kernel52Ideal.nD Cert.Kernel52Ideal.τ).loc Cert.Kernel52Ideal.main_arg32)
      ∧ r.2.mem ((c.tc : Thread Cert.Kernel52Ideal.nD Cert.Kernel52Ideal.τ).loc Cert.Kernel52Ideal.main_arg33) = m ((c.tc : Thread Cert.Kernel52Ideal.nD Cert.Kernel52Ideal.τ).loc Cert.Kernel52Ideal.main_arg33)
      ∧ r.2.mem ((c.tc : Thread Cert.Kernel52Ideal.nD Cert.Kernel52Ideal.τ).loc Cert.Kernel52Ideal.main_arg34) = m ((c.tc : Thread Cert.Kernel52Ideal.nD Cert.Kernel52Ideal.τ).loc Cert.Kernel52Ideal.main_arg34)
      ∧ r.2.mem ((c.tc : Thread Cert.Kernel52Ideal.nD Cert.Kernel52Ideal.τ).loc Cert.Kernel52Ideal.main_arg35) = m ((c.tc : Thread Cert.Kernel52Ideal.nD Cert.Kernel52Ideal.τ).loc Cert.Kernel52Ideal.main_arg35)
      ∧ r.2.mem ((c.tc : Thread Cert.Kernel52Ideal.nD Cert.Kernel52Ideal.τ).loc Cert.Kernel52Ideal.main_arg36) = m ((c.tc : Thread Cert.Kernel52Ideal.nD Cert.Kernel52Ideal.τ).loc Cert.Kernel52Ideal.main_arg36)
      ∧ r.2.mem ((c.tc : Thread Cert.Kernel52Ideal.nD Cert.Kernel52Ideal.τ).loc Cert.Kernel52Ideal.main_arg37) = m ((c.tc : Thread Cert.Kernel52Ideal.nD Cert.Kernel52Ideal.τ).loc Cert.Kernel52Ideal.main_arg37)
      ∧ r.2.mem ((c.tc : Thread Cert.Kernel52Ideal.nD Cert.Kernel52Ideal.τ).loc Cert.Kernel52Ideal.main_arg38) = m ((c.tc : Thread Cert.Kernel52Ideal.nD Cert.Kernel52Ideal.τ).loc Cert.Kernel52Ideal.main_arg38)
      ∧ r.2.mem ((c.tc : Thread Cert.Kernel52Ideal.nD Cert.Kernel52Ideal.τ).loc Cert.Kernel52Ideal.main_arg39) = m ((c.tc : Thread Cert.Kernel52Ideal.nD Cert.Kernel52Ideal.τ).loc Cert.Kernel52Ideal.main_arg39)
      ∧ r.2.mem ((c.tc : Thread Cert.Kernel52Ideal.nD Cert.Kernel52Ideal.τ).loc Cert.Kernel52Ideal.main_arg40) = m ((c.tc : Thread Cert.Kernel52Ideal.nD Cert.Kernel52Ideal.τ).loc Cert.Kernel52Ideal.main_arg40)
      ∧ r.2.mem ((c.tc : Thread Cert.Kernel52Ideal.nD Cert.Kernel52Ideal.τ).loc Cert.Kernel52Ideal.main_arg41) = m ((c.tc : Thread Cert.Kernel52Ideal.nD Cert.Kernel52Ideal.τ).loc Cert.Kernel52Ideal.main_arg41)
      ∧ r.2.mem ((c.tc : Thread Cert.Kernel52Ideal.nD Cert.Kernel52Ideal.τ).loc Cert.Kernel52Ideal.main_arg42) = m ((c.tc : Thread Cert.Kernel52Ideal.nD Cert.Kernel52Ideal.τ).loc Cert.Kernel52Ideal.main_arg42)
      ∧ r.2.mem ((c.tc : Thread Cert.Kernel52Ideal.nD Cert.Kernel52Ideal.τ).loc Cert.Kernel52Ideal.main_arg43) = m ((c.tc : Thread Cert.Kernel52Ideal.nD Cert.Kernel52Ideal.τ).loc Cert.Kernel52Ideal.main_arg43)
      ∧ r.2.mem ((c.tc : Thread Cert.Kernel52Ideal.nD Cert.Kernel52Ideal.τ).loc Cert.Kernel52Ideal.main_arg44) = m ((c.tc : Thread Cert.Kernel52Ideal.nD Cert.Kernel52Ideal.τ).loc Cert.Kernel52Ideal.main_arg44)
      ∧ r.2.mem ((c.tc : Thread Cert.Kernel52Ideal.nD Cert.Kernel52Ideal.τ).loc Cert.Kernel52Ideal.main_arg45) = m ((c.tc : Thread Cert.Kernel52Ideal.nD Cert.Kernel52Ideal.τ).loc Cert.Kernel52Ideal.main_arg45)
      ∧ r.2.mem ((c.tc : Thread Cert.Kernel52Ideal.nD Cert.Kernel52Ideal.τ).loc Cert.Kernel52Ideal.main_arg46) = m ((c.tc : Thread Cert.Kernel52Ideal.nD Cert.Kernel52Ideal.τ).loc Cert.Kernel52Ideal.main_arg46)
      ∧ r.2.mem ((c.tc : Thread Cert.Kernel52Ideal.nD Cert.Kernel52Ideal.τ).loc Cert.Kernel52Ideal.main_arg47) = m ((c.tc : Thread Cert.Kernel52Ideal.nD Cert.Kernel52Ideal.τ).loc Cert.Kernel52Ideal.main_arg47)
      ∧ r.2.mem ((c.tc : Thread Cert.Kernel52Ideal.nD Cert.Kernel52Ideal.τ).loc Cert.Kernel52Ideal.main_arg48) = m ((c.tc : Thread Cert.Kernel52Ideal.nD Cert.Kernel52Ideal.τ).loc Cert.Kernel52Ideal.main_arg48)
      ∧ r.2.mem ((c.tc : Thread Cert.Kernel52Ideal.nD Cert.Kernel52Ideal.τ).loc Cert.Kernel52Ideal.main_arg49) = m ((c.tc : Thread Cert.Kernel52Ideal.nD Cert.Kernel52Ideal.τ).loc Cert.Kernel52Ideal.main_arg49)
      ∧ r.2.mem ((c.tc : Thread Cert.Kernel52Ideal.nD Cert.Kernel52Ideal.τ).loc Cert.Kernel52Ideal.main_arg50) = m ((c.tc : Thread Cert.Kernel52Ideal.nD Cert.Kernel52Ideal.τ).loc Cert.Kernel52Ideal.main_arg50)
      ∧ r.2.mem ((c.tc : Thread Cert.Kernel52Ideal.nD Cert.Kernel52Ideal.τ).loc Cert.Kernel52Ideal.main_arg51) = m ((c.tc : Thread Cert.Kernel52Ideal.nD Cert.Kernel52Ideal.τ).loc Cert.Kernel52Ideal.main_arg51))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2)
      ∧ r.2.mem ((c.tc : Thread Cert.Reference52Ideal.nD Cert.Reference52Ideal.τ).loc Cert.Reference52Ideal.main_arg3) = m ((c.tc : Thread Cert.Reference52Ideal.nD Cert.Reference52Ideal.τ).loc Cert.Reference52Ideal.main_arg3)
      ∧ r.2.mem ((c.tc : Thread Cert.Reference52Ideal.nD Cert.Reference52Ideal.τ).loc Cert.Reference52Ideal.main_arg4) = m ((c.tc : Thread Cert.Reference52Ideal.nD Cert.Reference52Ideal.τ).loc Cert.Reference52Ideal.main_arg4)
      ∧ r.2.mem ((c.tc : Thread Cert.Reference52Ideal.nD Cert.Reference52Ideal.τ).loc Cert.Reference52Ideal.main_arg5) = m ((c.tc : Thread Cert.Reference52Ideal.nD Cert.Reference52Ideal.τ).loc Cert.Reference52Ideal.main_arg5)
      ∧ r.2.mem ((c.tc : Thread Cert.Reference52Ideal.nD Cert.Reference52Ideal.τ).loc Cert.Reference52Ideal.main_arg6) = m ((c.tc : Thread Cert.Reference52Ideal.nD Cert.Reference52Ideal.τ).loc Cert.Reference52Ideal.main_arg6)
      ∧ r.2.mem ((c.tc : Thread Cert.Reference52Ideal.nD Cert.Reference52Ideal.τ).loc Cert.Reference52Ideal.main_arg7) = m ((c.tc : Thread Cert.Reference52Ideal.nD Cert.Reference52Ideal.τ).loc Cert.Reference52Ideal.main_arg7)
      ∧ r.2.mem ((c.tc : Thread Cert.Reference52Ideal.nD Cert.Reference52Ideal.τ).loc Cert.Reference52Ideal.main_arg8) = m ((c.tc : Thread Cert.Reference52Ideal.nD Cert.Reference52Ideal.τ).loc Cert.Reference52Ideal.main_arg8)
      ∧ r.2.mem ((c.tc : Thread Cert.Reference52Ideal.nD Cert.Reference52Ideal.τ).loc Cert.Reference52Ideal.main_arg9) = m ((c.tc : Thread Cert.Reference52Ideal.nD Cert.Reference52Ideal.τ).loc Cert.Reference52Ideal.main_arg9)
      ∧ r.2.mem ((c.tc : Thread Cert.Reference52Ideal.nD Cert.Reference52Ideal.τ).loc Cert.Reference52Ideal.main_arg10) = m ((c.tc : Thread Cert.Reference52Ideal.nD Cert.Reference52Ideal.τ).loc Cert.Reference52Ideal.main_arg10)
      ∧ r.2.mem ((c.tc : Thread Cert.Reference52Ideal.nD Cert.Reference52Ideal.τ).loc Cert.Reference52Ideal.main_arg11) = m ((c.tc : Thread Cert.Reference52Ideal.nD Cert.Reference52Ideal.τ).loc Cert.Reference52Ideal.main_arg11)
      ∧ r.2.mem ((c.tc : Thread Cert.Reference52Ideal.nD Cert.Reference52Ideal.τ).loc Cert.Reference52Ideal.main_arg12) = m ((c.tc : Thread Cert.Reference52Ideal.nD Cert.Reference52Ideal.τ).loc Cert.Reference52Ideal.main_arg12)
      ∧ r.2.mem ((c.tc : Thread Cert.Reference52Ideal.nD Cert.Reference52Ideal.τ).loc Cert.Reference52Ideal.main_arg13) = m ((c.tc : Thread Cert.Reference52Ideal.nD Cert.Reference52Ideal.τ).loc Cert.Reference52Ideal.main_arg13)
      ∧ r.2.mem ((c.tc : Thread Cert.Reference52Ideal.nD Cert.Reference52Ideal.τ).loc Cert.Reference52Ideal.main_arg14) = m ((c.tc : Thread Cert.Reference52Ideal.nD Cert.Reference52Ideal.τ).loc Cert.Reference52Ideal.main_arg14)
      ∧ r.2.mem ((c.tc : Thread Cert.Reference52Ideal.nD Cert.Reference52Ideal.τ).loc Cert.Reference52Ideal.main_arg15) = m ((c.tc : Thread Cert.Reference52Ideal.nD Cert.Reference52Ideal.τ).loc Cert.Reference52Ideal.main_arg15)
      ∧ r.2.mem ((c.tc : Thread Cert.Reference52Ideal.nD Cert.Reference52Ideal.τ).loc Cert.Reference52Ideal.main_arg16) = m ((c.tc : Thread Cert.Reference52Ideal.nD Cert.Reference52Ideal.τ).loc Cert.Reference52Ideal.main_arg16)
      ∧ r.2.mem ((c.tc : Thread Cert.Reference52Ideal.nD Cert.Reference52Ideal.τ).loc Cert.Reference52Ideal.main_arg17) = m ((c.tc : Thread Cert.Reference52Ideal.nD Cert.Reference52Ideal.τ).loc Cert.Reference52Ideal.main_arg17)
      ∧ r.2.mem ((c.tc : Thread Cert.Reference52Ideal.nD Cert.Reference52Ideal.τ).loc Cert.Reference52Ideal.main_arg18) = m ((c.tc : Thread Cert.Reference52Ideal.nD Cert.Reference52Ideal.τ).loc Cert.Reference52Ideal.main_arg18)
      ∧ r.2.mem ((c.tc : Thread Cert.Reference52Ideal.nD Cert.Reference52Ideal.τ).loc Cert.Reference52Ideal.main_arg19) = m ((c.tc : Thread Cert.Reference52Ideal.nD Cert.Reference52Ideal.τ).loc Cert.Reference52Ideal.main_arg19)
      ∧ r.2.mem ((c.tc : Thread Cert.Reference52Ideal.nD Cert.Reference52Ideal.τ).loc Cert.Reference52Ideal.main_arg20) = m ((c.tc : Thread Cert.Reference52Ideal.nD Cert.Reference52Ideal.τ).loc Cert.Reference52Ideal.main_arg20)
      ∧ r.2.mem ((c.tc : Thread Cert.Reference52Ideal.nD Cert.Reference52Ideal.τ).loc Cert.Reference52Ideal.main_arg21) = m ((c.tc : Thread Cert.Reference52Ideal.nD Cert.Reference52Ideal.τ).loc Cert.Reference52Ideal.main_arg21)
      ∧ r.2.mem ((c.tc : Thread Cert.Reference52Ideal.nD Cert.Reference52Ideal.τ).loc Cert.Reference52Ideal.main_arg22) = m ((c.tc : Thread Cert.Reference52Ideal.nD Cert.Reference52Ideal.τ).loc Cert.Reference52Ideal.main_arg22)
      ∧ r.2.mem ((c.tc : Thread Cert.Reference52Ideal.nD Cert.Reference52Ideal.τ).loc Cert.Reference52Ideal.main_arg23) = m ((c.tc : Thread Cert.Reference52Ideal.nD Cert.Reference52Ideal.τ).loc Cert.Reference52Ideal.main_arg23)
      ∧ r.2.mem ((c.tc : Thread Cert.Reference52Ideal.nD Cert.Reference52Ideal.τ).loc Cert.Reference52Ideal.main_arg24) = m ((c.tc : Thread Cert.Reference52Ideal.nD Cert.Reference52Ideal.τ).loc Cert.Reference52Ideal.main_arg24)
      ∧ r.2.mem ((c.tc : Thread Cert.Reference52Ideal.nD Cert.Reference52Ideal.τ).loc Cert.Reference52Ideal.main_arg25) = m ((c.tc : Thread Cert.Reference52Ideal.nD Cert.Reference52Ideal.τ).loc Cert.Reference52Ideal.main_arg25)
      ∧ r.2.mem ((c.tc : Thread Cert.Reference52Ideal.nD Cert.Reference52Ideal.τ).loc Cert.Reference52Ideal.main_arg26) = m ((c.tc : Thread Cert.Reference52Ideal.nD Cert.Reference52Ideal.τ).loc Cert.Reference52Ideal.main_arg26)
      ∧ r.2.mem ((c.tc : Thread Cert.Reference52Ideal.nD Cert.Reference52Ideal.τ).loc Cert.Reference52Ideal.main_arg27) = m ((c.tc : Thread Cert.Reference52Ideal.nD Cert.Reference52Ideal.τ).loc Cert.Reference52Ideal.main_arg27)
      ∧ r.2.mem ((c.tc : Thread Cert.Reference52Ideal.nD Cert.Reference52Ideal.τ).loc Cert.Reference52Ideal.main_arg28) = m ((c.tc : Thread Cert.Reference52Ideal.nD Cert.Reference52Ideal.τ).loc Cert.Reference52Ideal.main_arg28)
      ∧ r.2.mem ((c.tc : Thread Cert.Reference52Ideal.nD Cert.Reference52Ideal.τ).loc Cert.Reference52Ideal.main_arg29) = m ((c.tc : Thread Cert.Reference52Ideal.nD Cert.Reference52Ideal.τ).loc Cert.Reference52Ideal.main_arg29)
      ∧ r.2.mem ((c.tc : Thread Cert.Reference52Ideal.nD Cert.Reference52Ideal.τ).loc Cert.Reference52Ideal.main_arg30) = m ((c.tc : Thread Cert.Reference52Ideal.nD Cert.Reference52Ideal.τ).loc Cert.Reference52Ideal.main_arg30)
      ∧ r.2.mem ((c.tc : Thread Cert.Reference52Ideal.nD Cert.Reference52Ideal.τ).loc Cert.Reference52Ideal.main_arg31) = m ((c.tc : Thread Cert.Reference52Ideal.nD Cert.Reference52Ideal.τ).loc Cert.Reference52Ideal.main_arg31)
      ∧ r.2.mem ((c.tc : Thread Cert.Reference52Ideal.nD Cert.Reference52Ideal.τ).loc Cert.Reference52Ideal.main_arg32) = m ((c.tc : Thread Cert.Reference52Ideal.nD Cert.Reference52Ideal.τ).loc Cert.Reference52Ideal.main_arg32)
      ∧ r.2.mem ((c.tc : Thread Cert.Reference52Ideal.nD Cert.Reference52Ideal.τ).loc Cert.Reference52Ideal.main_arg33) = m ((c.tc : Thread Cert.Reference52Ideal.nD Cert.Reference52Ideal.τ).loc Cert.Reference52Ideal.main_arg33)
      ∧ r.2.mem ((c.tc : Thread Cert.Reference52Ideal.nD Cert.Reference52Ideal.τ).loc Cert.Reference52Ideal.main_arg34) = m ((c.tc : Thread Cert.Reference52Ideal.nD Cert.Reference52Ideal.τ).loc Cert.Reference52Ideal.main_arg34)
      ∧ r.2.mem ((c.tc : Thread Cert.Reference52Ideal.nD Cert.Reference52Ideal.τ).loc Cert.Reference52Ideal.main_arg35) = m ((c.tc : Thread Cert.Reference52Ideal.nD Cert.Reference52Ideal.τ).loc Cert.Reference52Ideal.main_arg35)
      ∧ r.2.mem ((c.tc : Thread Cert.Reference52Ideal.nD Cert.Reference52Ideal.τ).loc Cert.Reference52Ideal.main_arg36) = m ((c.tc : Thread Cert.Reference52Ideal.nD Cert.Reference52Ideal.τ).loc Cert.Reference52Ideal.main_arg36)
      ∧ r.2.mem ((c.tc : Thread Cert.Reference52Ideal.nD Cert.Reference52Ideal.τ).loc Cert.Reference52Ideal.main_arg37) = m ((c.tc : Thread Cert.Reference52Ideal.nD Cert.Reference52Ideal.τ).loc Cert.Reference52Ideal.main_arg37)
      ∧ r.2.mem ((c.tc : Thread Cert.Reference52Ideal.nD Cert.Reference52Ideal.τ).loc Cert.Reference52Ideal.main_arg38) = m ((c.tc : Thread Cert.Reference52Ideal.nD Cert.Reference52Ideal.τ).loc Cert.Reference52Ideal.main_arg38)
      ∧ r.2.mem ((c.tc : Thread Cert.Reference52Ideal.nD Cert.Reference52Ideal.τ).loc Cert.Reference52Ideal.main_arg39) = m ((c.tc : Thread Cert.Reference52Ideal.nD Cert.Reference52Ideal.τ).loc Cert.Reference52Ideal.main_arg39)
      ∧ r.2.mem ((c.tc : Thread Cert.Reference52Ideal.nD Cert.Reference52Ideal.τ).loc Cert.Reference52Ideal.main_arg40) = m ((c.tc : Thread Cert.Reference52Ideal.nD Cert.Reference52Ideal.τ).loc Cert.Reference52Ideal.main_arg40)
      ∧ r.2.mem ((c.tc : Thread Cert.Reference52Ideal.nD Cert.Reference52Ideal.τ).loc Cert.Reference52Ideal.main_arg41) = m ((c.tc : Thread Cert.Reference52Ideal.nD Cert.Reference52Ideal.τ).loc Cert.Reference52Ideal.main_arg41)
      ∧ r.2.mem ((c.tc : Thread Cert.Reference52Ideal.nD Cert.Reference52Ideal.τ).loc Cert.Reference52Ideal.main_arg42) = m ((c.tc : Thread Cert.Reference52Ideal.nD Cert.Reference52Ideal.τ).loc Cert.Reference52Ideal.main_arg42)
      ∧ r.2.mem ((c.tc : Thread Cert.Reference52Ideal.nD Cert.Reference52Ideal.τ).loc Cert.Reference52Ideal.main_arg43) = m ((c.tc : Thread Cert.Reference52Ideal.nD Cert.Reference52Ideal.τ).loc Cert.Reference52Ideal.main_arg43)
      ∧ r.2.mem ((c.tc : Thread Cert.Reference52Ideal.nD Cert.Reference52Ideal.τ).loc Cert.Reference52Ideal.main_arg44) = m ((c.tc : Thread Cert.Reference52Ideal.nD Cert.Reference52Ideal.τ).loc Cert.Reference52Ideal.main_arg44)
      ∧ r.2.mem ((c.tc : Thread Cert.Reference52Ideal.nD Cert.Reference52Ideal.τ).loc Cert.Reference52Ideal.main_arg45) = m ((c.tc : Thread Cert.Reference52Ideal.nD Cert.Reference52Ideal.τ).loc Cert.Reference52Ideal.main_arg45)
      ∧ r.2.mem ((c.tc : Thread Cert.Reference52Ideal.nD Cert.Reference52Ideal.τ).loc Cert.Reference52Ideal.main_arg46) = m ((c.tc : Thread Cert.Reference52Ideal.nD Cert.Reference52Ideal.τ).loc Cert.Reference52Ideal.main_arg46)
      ∧ r.2.mem ((c.tc : Thread Cert.Reference52Ideal.nD Cert.Reference52Ideal.τ).loc Cert.Reference52Ideal.main_arg47) = m ((c.tc : Thread Cert.Reference52Ideal.nD Cert.Reference52Ideal.τ).loc Cert.Reference52Ideal.main_arg47)
      ∧ r.2.mem ((c.tc : Thread Cert.Reference52Ideal.nD Cert.Reference52Ideal.τ).loc Cert.Reference52Ideal.main_arg48) = m ((c.tc : Thread Cert.Reference52Ideal.nD Cert.Reference52Ideal.τ).loc Cert.Reference52Ideal.main_arg48)
      ∧ r.2.mem ((c.tc : Thread Cert.Reference52Ideal.nD Cert.Reference52Ideal.τ).loc Cert.Reference52Ideal.main_arg49) = m ((c.tc : Thread Cert.Reference52Ideal.nD Cert.Reference52Ideal.τ).loc Cert.Reference52Ideal.main_arg49)
      ∧ r.2.mem ((c.tc : Thread Cert.Reference52Ideal.nD Cert.Reference52Ideal.τ).loc Cert.Reference52Ideal.main_arg50) = m ((c.tc : Thread Cert.Reference52Ideal.nD Cert.Reference52Ideal.τ).loc Cert.Reference52Ideal.main_arg50)
      ∧ r.2.mem ((c.tc : Thread Cert.Reference52Ideal.nD Cert.Reference52Ideal.τ).loc Cert.Reference52Ideal.main_arg51) = m ((c.tc : Thread Cert.Reference52Ideal.nD Cert.Reference52Ideal.τ).loc Cert.Reference52Ideal.main_arg51))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v12) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal_pre_finite_mix [hKernel34Ideal : Cert.Kernel34Ideal.Facts] [hReference34Ideal : Cert.Reference34Ideal.Facts] [hPre_finite_mix : Cert.Pre_finite_mix.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite_mix m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)
      ∧ m' ((c.tc : Thread Cert.Reference34Ideal.nD Cert.Reference34Ideal.τ).loc Cert.Reference34Ideal.main_arg8) = m ((c.tc : Thread Cert.Kernel34Ideal.nD Cert.Kernel34Ideal.τ).loc Cert.Kernel34Ideal.main_arg8)
      ∧ m' ((c.tc : Thread Cert.Reference34Ideal.nD Cert.Reference34Ideal.τ).loc Cert.Reference34Ideal.main_arg9) = m ((c.tc : Thread Cert.Kernel34Ideal.nD Cert.Kernel34Ideal.τ).loc Cert.Kernel34Ideal.main_arg9)) →
    ∃ (v0 : (c : Dev Cert.Kernel34Ideal.nD) → Buf (Elt Ideal) ((c.tc : Thread Cert.Kernel34Ideal.nD Cert.Kernel34Ideal.τ).loc Cert.Kernel34Ideal.main_v0_1)) (v1 : (c : Dev Cert.Kernel34Ideal.nD) → Buf (Elt Ideal) ((c.tc : Thread Cert.Kernel34Ideal.nD Cert.Kernel34Ideal.τ).loc Cert.Kernel34Ideal.main_v0_4)) (v2 : (c : Dev Cert.Kernel34Ideal.nD) → Buf (Elt Ideal) ((c.tc : Thread Cert.Kernel34Ideal.nD Cert.Kernel34Ideal.τ).loc Cert.Kernel34Ideal.main_v0_5)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_1) = v0 c
          ∧ r.2.mem ((c.tc : Thread Cert.Kernel34Ideal.nD Cert.Kernel34Ideal.τ).loc Cert.Kernel34Ideal.main_v0_4) = v1 c
          ∧ r.2.mem ((c.tc : Thread Cert.Kernel34Ideal.nD Cert.Kernel34Ideal.τ).loc Cert.Kernel34Ideal.main_v0_5) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
          ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
          ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v56) = v0 c
          ∧ r.2.mem ((c.tc : Thread Cert.Reference34Ideal.nD Cert.Reference34Ideal.τ).loc Cert.Reference34Ideal.main_v55) = v1 c
          ∧ r.2.mem ((c.tc : Thread Cert.Reference34Ideal.nD Cert.Reference34Ideal.τ).loc Cert.Reference34Ideal.main_v29) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7)
          ∧ r.2.mem ((c.tc : Thread Cert.Reference34Ideal.nD Cert.Reference34Ideal.τ).loc Cert.Reference34Ideal.main_arg8) = m' ((c.tc : Thread Cert.Reference34Ideal.nD Cert.Reference34Ideal.τ).loc Cert.Reference34Ideal.main_arg8)
          ∧ r.2.mem ((c.tc : Thread Cert.Reference34Ideal.nD Cert.Reference34Ideal.τ).loc Cert.Reference34Ideal.main_arg9) = m' ((c.tc : Thread Cert.Reference34Ideal.nD Cert.Reference34Ideal.τ).loc Cert.Reference34Ideal.main_arg9))

def preserves_Kernel35_Kernel35Ideal : Prop :=
  True

def algebraic_Kernel35Ideal_Reference35Ideal_pre_finite_gate [hKernel35Ideal : Cert.Kernel35Ideal.Facts] [hReference35Ideal : Cert.Reference35Ideal.Facts] [hPre_finite_gate : Cert.Pre_finite_gate.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_finite_gate m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v8) = v0 c
          ∧ r.2.mem ((c.tc : Thread Cert.Reference35Ideal.nD Cert.Reference35Ideal.τ).loc Cert.Reference35Ideal.main_v9) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v34) = v0 c
          ∧ r.2.mem ((c.tc : Thread Cert.Reference36Ideal.nD Cert.Reference36Ideal.τ).loc Cert.Reference36Ideal.main_v35) = v1 c
          ∧ r.2.mem ((c.tc : Thread Cert.Reference36Ideal.nD Cert.Reference36Ideal.τ).loc Cert.Reference36Ideal.main_v17) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal_pre_finite_conv [hKernel37Ideal : Cert.Kernel37Ideal.Facts] [hReference37Ideal : Cert.Reference37Ideal.Facts] [hPre_finite_conv : Cert.Pre_finite_conv.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal_finite_conv m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v68) = v0 c
          ∧ r.2.mem ((c.tc : Thread Cert.Reference37Ideal.nD Cert.Reference37Ideal.τ).loc Cert.Reference37Ideal.main_v63) = v1 c
          ∧ r.2.mem ((c.tc : Thread Cert.Reference37Ideal.nD Cert.Reference37Ideal.τ).loc Cert.Reference37Ideal.main_v31) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)
      ∧ m' ((c.tc : Thread Cert.Reference39Ideal.nD Cert.Reference39Ideal.τ).loc Cert.Reference39Ideal.main_arg7) = m ((c.tc : Thread Cert.Kernel39Ideal.nD Cert.Kernel39Ideal.τ).loc Cert.Kernel39Ideal.main_arg7)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
          ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v32) = v0 c
          ∧ r.2.mem ((c.tc : Thread Cert.Reference39Ideal.nD Cert.Reference39Ideal.τ).loc Cert.Reference39Ideal.main_v35) = v1 c
          ∧ r.2.mem ((c.tc : Thread Cert.Reference39Ideal.nD Cert.Reference39Ideal.τ).loc Cert.Reference39Ideal.main_v38) = v2 c
          ∧ r.2.mem ((c.tc : Thread Cert.Reference39Ideal.nD Cert.Reference39Ideal.τ).loc Cert.Reference39Ideal.main_v41) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6)
          ∧ r.2.mem ((c.tc : Thread Cert.Reference39Ideal.nD Cert.Reference39Ideal.τ).loc Cert.Reference39Ideal.main_arg7) = m' ((c.tc : Thread Cert.Reference39Ideal.nD Cert.Reference39Ideal.τ).loc Cert.Reference39Ideal.main_arg7))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)
      ∧ m' ((c.tc : Thread Cert.Reference40Ideal.nD Cert.Reference40Ideal.τ).loc Cert.Reference40Ideal.main_arg6) = m ((c.tc : Thread Cert.Kernel40Ideal.nD Cert.Kernel40Ideal.τ).loc Cert.Kernel40Ideal.main_arg6)
      ∧ m' ((c.tc : Thread Cert.Reference40Ideal.nD Cert.Reference40Ideal.τ).loc Cert.Reference40Ideal.main_arg7) = m ((c.tc : Thread Cert.Kernel40Ideal.nD Cert.Kernel40Ideal.τ).loc Cert.Kernel40Ideal.main_arg7)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
          ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
          ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v32) = v0 c
          ∧ r.2.mem ((c.tc : Thread Cert.Reference40Ideal.nD Cert.Reference40Ideal.τ).loc Cert.Reference40Ideal.main_v35) = v1 c
          ∧ r.2.mem ((c.tc : Thread Cert.Reference40Ideal.nD Cert.Reference40Ideal.τ).loc Cert.Reference40Ideal.main_v38) = v2 c
          ∧ r.2.mem ((c.tc : Thread Cert.Reference40Ideal.nD Cert.Reference40Ideal.τ).loc Cert.Reference40Ideal.main_v41) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5)
          ∧ r.2.mem ((c.tc : Thread Cert.Reference40Ideal.nD Cert.Reference40Ideal.τ).loc Cert.Reference40Ideal.main_arg6) = m' ((c.tc : Thread Cert.Reference40Ideal.nD Cert.Reference40Ideal.τ).loc Cert.Reference40Ideal.main_arg6)
          ∧ r.2.mem ((c.tc : Thread Cert.Reference40Ideal.nD Cert.Reference40Ideal.τ).loc Cert.Reference40Ideal.main_arg7) = m' ((c.tc : Thread Cert.Reference40Ideal.nD Cert.Reference40Ideal.τ).loc Cert.Reference40Ideal.main_arg7))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)
      ∧ m' ((c.tc : Thread Cert.Reference41Ideal.nD Cert.Reference41Ideal.τ).loc Cert.Reference41Ideal.main_arg7) = m ((c.tc : Thread Cert.Kernel41Ideal.nD Cert.Kernel41Ideal.τ).loc Cert.Kernel41Ideal.main_arg7)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
          ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v32) = v0 c
          ∧ r.2.mem ((c.tc : Thread Cert.Reference41Ideal.nD Cert.Reference41Ideal.τ).loc Cert.Reference41Ideal.main_v35) = v1 c
          ∧ r.2.mem ((c.tc : Thread Cert.Reference41Ideal.nD Cert.Reference41Ideal.τ).loc Cert.Reference41Ideal.main_v38) = v2 c
          ∧ r.2.mem ((c.tc : Thread Cert.Reference41Ideal.nD Cert.Reference41Ideal.τ).loc Cert.Reference41Ideal.main_v41) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6)
          ∧ r.2.mem ((c.tc : Thread Cert.Reference41Ideal.nD Cert.Reference41Ideal.τ).loc Cert.Reference41Ideal.main_arg7) = m' ((c.tc : Thread Cert.Reference41Ideal.nD Cert.Reference41Ideal.τ).loc Cert.Reference41Ideal.main_arg7))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)
      ∧ m' ((c.tc : Thread Cert.Reference42Ideal.nD Cert.Reference42Ideal.τ).loc Cert.Reference42Ideal.main_arg4) = m ((c.tc : Thread Cert.Kernel42Ideal.nD Cert.Kernel42Ideal.τ).loc Cert.Kernel42Ideal.main_arg4)
      ∧ m' ((c.tc : Thread Cert.Reference42Ideal.nD Cert.Reference42Ideal.τ).loc Cert.Reference42Ideal.main_arg5) = m ((c.tc : Thread Cert.Kernel42Ideal.nD Cert.Kernel42Ideal.τ).loc Cert.Kernel42Ideal.main_arg5)
      ∧ m' ((c.tc : Thread Cert.Reference42Ideal.nD Cert.Reference42Ideal.τ).loc Cert.Reference42Ideal.main_arg6) = m ((c.tc : Thread Cert.Kernel42Ideal.nD Cert.Kernel42Ideal.τ).loc Cert.Kernel42Ideal.main_arg6)
      ∧ m' ((c.tc : Thread Cert.Reference42Ideal.nD Cert.Reference42Ideal.τ).loc Cert.Reference42Ideal.main_arg7) = m ((c.tc : Thread Cert.Kernel42Ideal.nD Cert.Kernel42Ideal.τ).loc Cert.Kernel42Ideal.main_arg7)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)) (v3 : (c : Dev Cert.Kernel42Ideal.nD) → Buf (Elt Ideal) ((c.tc : Thread Cert.Kernel42Ideal.nD Cert.Kernel42Ideal.τ).loc Cert.Kernel42Ideal.main_v0_3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_v0_3) = v3 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
          ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4)
          ∧ r.2.mem ((c.tc : Thread Cert.Kernel42Ideal.nD Cert.Kernel42Ideal.τ).loc Cert.Kernel42Ideal.main_arg5) = m ((c.tc : Thread Cert.Kernel42Ideal.nD Cert.Kernel42Ideal.τ).loc Cert.Kernel42Ideal.main_arg5)
          ∧ r.2.mem ((c.tc : Thread Cert.Kernel42Ideal.nD Cert.Kernel42Ideal.τ).loc Cert.Kernel42Ideal.main_arg6) = m ((c.tc : Thread Cert.Kernel42Ideal.nD Cert.Kernel42Ideal.τ).loc Cert.Kernel42Ideal.main_arg6)
          ∧ r.2.mem ((c.tc : Thread Cert.Kernel42Ideal.nD Cert.Kernel42Ideal.τ).loc Cert.Kernel42Ideal.main_arg7) = m ((c.tc : Thread Cert.Kernel42Ideal.nD Cert.Kernel42Ideal.τ).loc Cert.Kernel42Ideal.main_arg7))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v32) = v0 c
          ∧ r.2.mem ((c.tc : Thread Cert.Reference42Ideal.nD Cert.Reference42Ideal.τ).loc Cert.Reference42Ideal.main_v35) = v1 c
          ∧ r.2.mem ((c.tc : Thread Cert.Reference42Ideal.nD Cert.Reference42Ideal.τ).loc Cert.Reference42Ideal.main_v38) = v2 c
          ∧ r.2.mem ((c.tc : Thread Cert.Reference42Ideal.nD Cert.Reference42Ideal.τ).loc Cert.Reference42Ideal.main_v41) = v3 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3)
          ∧ r.2.mem ((c.tc : Thread Cert.Reference42Ideal.nD Cert.Reference42Ideal.τ).loc Cert.Reference42Ideal.main_arg4) = m' ((c.tc : Thread Cert.Reference42Ideal.nD Cert.Reference42Ideal.τ).loc Cert.Reference42Ideal.main_arg4)
          ∧ r.2.mem ((c.tc : Thread Cert.Reference42Ideal.nD Cert.Reference42Ideal.τ).loc Cert.Reference42Ideal.main_arg5) = m' ((c.tc : Thread Cert.Reference42Ideal.nD Cert.Reference42Ideal.τ).loc Cert.Reference42Ideal.main_arg5)
          ∧ r.2.mem ((c.tc : Thread Cert.Reference42Ideal.nD Cert.Reference42Ideal.τ).loc Cert.Reference42Ideal.main_arg6) = m' ((c.tc : Thread Cert.Reference42Ideal.nD Cert.Reference42Ideal.τ).loc Cert.Reference42Ideal.main_arg6)
          ∧ r.2.mem ((c.tc : Thread Cert.Reference42Ideal.nD Cert.Reference42Ideal.τ).loc Cert.Reference42Ideal.main_arg7) = m' ((c.tc : Thread Cert.Reference42Ideal.nD Cert.Reference42Ideal.τ).loc Cert.Reference42Ideal.main_arg7))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)
      ∧ m' ((c.tc : Thread Cert.Reference43Ideal.nD Cert.Reference43Ideal.τ).loc Cert.Reference43Ideal.main_arg4) = m ((c.tc : Thread Cert.Kernel43Ideal.nD Cert.Kernel43Ideal.τ).loc Cert.Kernel43Ideal.main_arg4)
      ∧ m' ((c.tc : Thread Cert.Reference43Ideal.nD Cert.Reference43Ideal.τ).loc Cert.Reference43Ideal.main_arg5) = m ((c.tc : Thread Cert.Kernel43Ideal.nD Cert.Kernel43Ideal.τ).loc Cert.Kernel43Ideal.main_arg5)
      ∧ m' ((c.tc : Thread Cert.Reference43Ideal.nD Cert.Reference43Ideal.τ).loc Cert.Reference43Ideal.main_arg6) = m ((c.tc : Thread Cert.Kernel43Ideal.nD Cert.Kernel43Ideal.τ).loc Cert.Kernel43Ideal.main_arg6)
      ∧ m' ((c.tc : Thread Cert.Reference43Ideal.nD Cert.Reference43Ideal.τ).loc Cert.Reference43Ideal.main_arg7) = m ((c.tc : Thread Cert.Kernel43Ideal.nD Cert.Kernel43Ideal.τ).loc Cert.Kernel43Ideal.main_arg7)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)) (v3 : (c : Dev Cert.Kernel43Ideal.nD) → Buf (Elt Ideal) ((c.tc : Thread Cert.Kernel43Ideal.nD Cert.Kernel43Ideal.τ).loc Cert.Kernel43Ideal.main_v0_3)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_v0_3) = v3 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
          ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
          ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5)
          ∧ r.2.mem ((c.tc : Thread Cert.Kernel43Ideal.nD Cert.Kernel43Ideal.τ).loc Cert.Kernel43Ideal.main_arg6) = m ((c.tc : Thread Cert.Kernel43Ideal.nD Cert.Kernel43Ideal.τ).loc Cert.Kernel43Ideal.main_arg6)
          ∧ r.2.mem ((c.tc : Thread Cert.Kernel43Ideal.nD Cert.Kernel43Ideal.τ).loc Cert.Kernel43Ideal.main_arg7) = m ((c.tc : Thread Cert.Kernel43Ideal.nD Cert.Kernel43Ideal.τ).loc Cert.Kernel43Ideal.main_arg7))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v32) = v0 c
          ∧ r.2.mem ((c.tc : Thread Cert.Reference43Ideal.nD Cert.Reference43Ideal.τ).loc Cert.Reference43Ideal.main_v35) = v1 c
          ∧ r.2.mem ((c.tc : Thread Cert.Reference43Ideal.nD Cert.Reference43Ideal.τ).loc Cert.Reference43Ideal.main_v38) = v2 c
          ∧ r.2.mem ((c.tc : Thread Cert.Reference43Ideal.nD Cert.Reference43Ideal.τ).loc Cert.Reference43Ideal.main_v41) = v3 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3)
          ∧ r.2.mem ((c.tc : Thread Cert.Reference43Ideal.nD Cert.Reference43Ideal.τ).loc Cert.Reference43Ideal.main_arg4) = m' ((c.tc : Thread Cert.Reference43Ideal.nD Cert.Reference43Ideal.τ).loc Cert.Reference43Ideal.main_arg4)
          ∧ r.2.mem ((c.tc : Thread Cert.Reference43Ideal.nD Cert.Reference43Ideal.τ).loc Cert.Reference43Ideal.main_arg5) = m' ((c.tc : Thread Cert.Reference43Ideal.nD Cert.Reference43Ideal.τ).loc Cert.Reference43Ideal.main_arg5)
          ∧ r.2.mem ((c.tc : Thread Cert.Reference43Ideal.nD Cert.Reference43Ideal.τ).loc Cert.Reference43Ideal.main_arg6) = m' ((c.tc : Thread Cert.Reference43Ideal.nD Cert.Reference43Ideal.τ).loc Cert.Reference43Ideal.main_arg6)
          ∧ r.2.mem ((c.tc : Thread Cert.Reference43Ideal.nD Cert.Reference43Ideal.τ).loc Cert.Reference43Ideal.main_arg7) = m' ((c.tc : Thread Cert.Reference43Ideal.nD Cert.Reference43Ideal.τ).loc Cert.Reference43Ideal.main_arg7))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v103) = v0 c
          ∧ r.2.mem ((c.tc : Thread Cert.Reference44Ideal.nD Cert.Reference44Ideal.τ).loc Cert.Reference44Ideal.main_v92) = v1 c
          ∧ r.2.mem ((c.tc : Thread Cert.Reference44Ideal.nD Cert.Reference44Ideal.τ).loc Cert.Reference44Ideal.main_v49) = v2 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v12) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v4) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)
      ∧ m' ((c.tc : Thread Cert.Reference52Ideal.nD Cert.Reference52Ideal.τ).loc Cert.Reference52Ideal.main_arg3) = m ((c.tc : Thread Cert.Kernel52Ideal.nD Cert.Kernel52Ideal.τ).loc Cert.Kernel52Ideal.main_arg3)
      ∧ m' ((c.tc : Thread Cert.Reference52Ideal.nD Cert.Reference52Ideal.τ).loc Cert.Reference52Ideal.main_arg4) = m ((c.tc : Thread Cert.Kernel52Ideal.nD Cert.Kernel52Ideal.τ).loc Cert.Kernel52Ideal.main_arg4)
      ∧ m' ((c.tc : Thread Cert.Reference52Ideal.nD Cert.Reference52Ideal.τ).loc Cert.Reference52Ideal.main_arg5) = m ((c.tc : Thread Cert.Kernel52Ideal.nD Cert.Kernel52Ideal.τ).loc Cert.Kernel52Ideal.main_arg5)
      ∧ m' ((c.tc : Thread Cert.Reference52Ideal.nD Cert.Reference52Ideal.τ).loc Cert.Reference52Ideal.main_arg6) = m ((c.tc : Thread Cert.Kernel52Ideal.nD Cert.Kernel52Ideal.τ).loc Cert.Kernel52Ideal.main_arg6)
      ∧ m' ((c.tc : Thread Cert.Reference52Ideal.nD Cert.Reference52Ideal.τ).loc Cert.Reference52Ideal.main_arg7) = m ((c.tc : Thread Cert.Kernel52Ideal.nD Cert.Kernel52Ideal.τ).loc Cert.Kernel52Ideal.main_arg7)
      ∧ m' ((c.tc : Thread Cert.Reference52Ideal.nD Cert.Reference52Ideal.τ).loc Cert.Reference52Ideal.main_arg8) = m ((c.tc : Thread Cert.Kernel52Ideal.nD Cert.Kernel52Ideal.τ).loc Cert.Kernel52Ideal.main_arg8)
      ∧ m' ((c.tc : Thread Cert.Reference52Ideal.nD Cert.Reference52Ideal.τ).loc Cert.Reference52Ideal.main_arg9) = m ((c.tc : Thread Cert.Kernel52Ideal.nD Cert.Kernel52Ideal.τ).loc Cert.Kernel52Ideal.main_arg9)
      ∧ m' ((c.tc : Thread Cert.Reference52Ideal.nD Cert.Reference52Ideal.τ).loc Cert.Reference52Ideal.main_arg10) = m ((c.tc : Thread Cert.Kernel52Ideal.nD Cert.Kernel52Ideal.τ).loc Cert.Kernel52Ideal.main_arg10)
      ∧ m' ((c.tc : Thread Cert.Reference52Ideal.nD Cert.Reference52Ideal.τ).loc Cert.Reference52Ideal.main_arg11) = m ((c.tc : Thread Cert.Kernel52Ideal.nD Cert.Kernel52Ideal.τ).loc Cert.Kernel52Ideal.main_arg11)
      ∧ m' ((c.tc : Thread Cert.Reference52Ideal.nD Cert.Reference52Ideal.τ).loc Cert.Reference52Ideal.main_arg12) = m ((c.tc : Thread Cert.Kernel52Ideal.nD Cert.Kernel52Ideal.τ).loc Cert.Kernel52Ideal.main_arg12)
      ∧ m' ((c.tc : Thread Cert.Reference52Ideal.nD Cert.Reference52Ideal.τ).loc Cert.Reference52Ideal.main_arg13) = m ((c.tc : Thread Cert.Kernel52Ideal.nD Cert.Kernel52Ideal.τ).loc Cert.Kernel52Ideal.main_arg13)
      ∧ m' ((c.tc : Thread Cert.Reference52Ideal.nD Cert.Reference52Ideal.τ).loc Cert.Reference52Ideal.main_arg14) = m ((c.tc : Thread Cert.Kernel52Ideal.nD Cert.Kernel52Ideal.τ).loc Cert.Kernel52Ideal.main_arg14)
      ∧ m' ((c.tc : Thread Cert.Reference52Ideal.nD Cert.Reference52Ideal.τ).loc Cert.Reference52Ideal.main_arg15) = m ((c.tc : Thread Cert.Kernel52Ideal.nD Cert.Kernel52Ideal.τ).loc Cert.Kernel52Ideal.main_arg15)
      ∧ m' ((c.tc : Thread Cert.Reference52Ideal.nD Cert.Reference52Ideal.τ).loc Cert.Reference52Ideal.main_arg16) = m ((c.tc : Thread Cert.Kernel52Ideal.nD Cert.Kernel52Ideal.τ).loc Cert.Kernel52Ideal.main_arg16)
      ∧ m' ((c.tc : Thread Cert.Reference52Ideal.nD Cert.Reference52Ideal.τ).loc Cert.Reference52Ideal.main_arg17) = m ((c.tc : Thread Cert.Kernel52Ideal.nD Cert.Kernel52Ideal.τ).loc Cert.Kernel52Ideal.main_arg17)
      ∧ m' ((c.tc : Thread Cert.Reference52Ideal.nD Cert.Reference52Ideal.τ).loc Cert.Reference52Ideal.main_arg18) = m ((c.tc : Thread Cert.Kernel52Ideal.nD Cert.Kernel52Ideal.τ).loc Cert.Kernel52Ideal.main_arg18)
      ∧ m' ((c.tc : Thread Cert.Reference52Ideal.nD Cert.Reference52Ideal.τ).loc Cert.Reference52Ideal.main_arg19) = m ((c.tc : Thread Cert.Kernel52Ideal.nD Cert.Kernel52Ideal.τ).loc Cert.Kernel52Ideal.main_arg19)
      ∧ m' ((c.tc : Thread Cert.Reference52Ideal.nD Cert.Reference52Ideal.τ).loc Cert.Reference52Ideal.main_arg20) = m ((c.tc : Thread Cert.Kernel52Ideal.nD Cert.Kernel52Ideal.τ).loc Cert.Kernel52Ideal.main_arg20)
      ∧ m' ((c.tc : Thread Cert.Reference52Ideal.nD Cert.Reference52Ideal.τ).loc Cert.Reference52Ideal.main_arg21) = m ((c.tc : Thread Cert.Kernel52Ideal.nD Cert.Kernel52Ideal.τ).loc Cert.Kernel52Ideal.main_arg21)
      ∧ m' ((c.tc : Thread Cert.Reference52Ideal.nD Cert.Reference52Ideal.τ).loc Cert.Reference52Ideal.main_arg22) = m ((c.tc : Thread Cert.Kernel52Ideal.nD Cert.Kernel52Ideal.τ).loc Cert.Kernel52Ideal.main_arg22)
      ∧ m' ((c.tc : Thread Cert.Reference52Ideal.nD Cert.Reference52Ideal.τ).loc Cert.Reference52Ideal.main_arg23) = m ((c.tc : Thread Cert.Kernel52Ideal.nD Cert.Kernel52Ideal.τ).loc Cert.Kernel52Ideal.main_arg23)
      ∧ m' ((c.tc : Thread Cert.Reference52Ideal.nD Cert.Reference52Ideal.τ).loc Cert.Reference52Ideal.main_arg24) = m ((c.tc : Thread Cert.Kernel52Ideal.nD Cert.Kernel52Ideal.τ).loc Cert.Kernel52Ideal.main_arg24)
      ∧ m' ((c.tc : Thread Cert.Reference52Ideal.nD Cert.Reference52Ideal.τ).loc Cert.Reference52Ideal.main_arg25) = m ((c.tc : Thread Cert.Kernel52Ideal.nD Cert.Kernel52Ideal.τ).loc Cert.Kernel52Ideal.main_arg25)
      ∧ m' ((c.tc : Thread Cert.Reference52Ideal.nD Cert.Reference52Ideal.τ).loc Cert.Reference52Ideal.main_arg26) = m ((c.tc : Thread Cert.Kernel52Ideal.nD Cert.Kernel52Ideal.τ).loc Cert.Kernel52Ideal.main_arg26)
      ∧ m' ((c.tc : Thread Cert.Reference52Ideal.nD Cert.Reference52Ideal.τ).loc Cert.Reference52Ideal.main_arg27) = m ((c.tc : Thread Cert.Kernel52Ideal.nD Cert.Kernel52Ideal.τ).loc Cert.Kernel52Ideal.main_arg27)
      ∧ m' ((c.tc : Thread Cert.Reference52Ideal.nD Cert.Reference52Ideal.τ).loc Cert.Reference52Ideal.main_arg28) = m ((c.tc : Thread Cert.Kernel52Ideal.nD Cert.Kernel52Ideal.τ).loc Cert.Kernel52Ideal.main_arg28)
      ∧ m' ((c.tc : Thread Cert.Reference52Ideal.nD Cert.Reference52Ideal.τ).loc Cert.Reference52Ideal.main_arg29) = m ((c.tc : Thread Cert.Kernel52Ideal.nD Cert.Kernel52Ideal.τ).loc Cert.Kernel52Ideal.main_arg29)
      ∧ m' ((c.tc : Thread Cert.Reference52Ideal.nD Cert.Reference52Ideal.τ).loc Cert.Reference52Ideal.main_arg30) = m ((c.tc : Thread Cert.Kernel52Ideal.nD Cert.Kernel52Ideal.τ).loc Cert.Kernel52Ideal.main_arg30)
      ∧ m' ((c.tc : Thread Cert.Reference52Ideal.nD Cert.Reference52Ideal.τ).loc Cert.Reference52Ideal.main_arg31) = m ((c.tc : Thread Cert.Kernel52Ideal.nD Cert.Kernel52Ideal.τ).loc Cert.Kernel52Ideal.main_arg31)
      ∧ m' ((c.tc : Thread Cert.Reference52Ideal.nD Cert.Reference52Ideal.τ).loc Cert.Reference52Ideal.main_arg32) = m ((c.tc : Thread Cert.Kernel52Ideal.nD Cert.Kernel52Ideal.τ).loc Cert.Kernel52Ideal.main_arg32)
      ∧ m' ((c.tc : Thread Cert.Reference52Ideal.nD Cert.Reference52Ideal.τ).loc Cert.Reference52Ideal.main_arg33) = m ((c.tc : Thread Cert.Kernel52Ideal.nD Cert.Kernel52Ideal.τ).loc Cert.Kernel52Ideal.main_arg33)
      ∧ m' ((c.tc : Thread Cert.Reference52Ideal.nD Cert.Reference52Ideal.τ).loc Cert.Reference52Ideal.main_arg34) = m ((c.tc : Thread Cert.Kernel52Ideal.nD Cert.Kernel52Ideal.τ).loc Cert.Kernel52Ideal.main_arg34)
      ∧ m' ((c.tc : Thread Cert.Reference52Ideal.nD Cert.Reference52Ideal.τ).loc Cert.Reference52Ideal.main_arg35) = m ((c.tc : Thread Cert.Kernel52Ideal.nD Cert.Kernel52Ideal.τ).loc Cert.Kernel52Ideal.main_arg35)
      ∧ m' ((c.tc : Thread Cert.Reference52Ideal.nD Cert.Reference52Ideal.τ).loc Cert.Reference52Ideal.main_arg36) = m ((c.tc : Thread Cert.Kernel52Ideal.nD Cert.Kernel52Ideal.τ).loc Cert.Kernel52Ideal.main_arg36)
      ∧ m' ((c.tc : Thread Cert.Reference52Ideal.nD Cert.Reference52Ideal.τ).loc Cert.Reference52Ideal.main_arg37) = m ((c.tc : Thread Cert.Kernel52Ideal.nD Cert.Kernel52Ideal.τ).loc Cert.Kernel52Ideal.main_arg37)
      ∧ m' ((c.tc : Thread Cert.Reference52Ideal.nD Cert.Reference52Ideal.τ).loc Cert.Reference52Ideal.main_arg38) = m ((c.tc : Thread Cert.Kernel52Ideal.nD Cert.Kernel52Ideal.τ).loc Cert.Kernel52Ideal.main_arg38)
      ∧ m' ((c.tc : Thread Cert.Reference52Ideal.nD Cert.Reference52Ideal.τ).loc Cert.Reference52Ideal.main_arg39) = m ((c.tc : Thread Cert.Kernel52Ideal.nD Cert.Kernel52Ideal.τ).loc Cert.Kernel52Ideal.main_arg39)
      ∧ m' ((c.tc : Thread Cert.Reference52Ideal.nD Cert.Reference52Ideal.τ).loc Cert.Reference52Ideal.main_arg40) = m ((c.tc : Thread Cert.Kernel52Ideal.nD Cert.Kernel52Ideal.τ).loc Cert.Kernel52Ideal.main_arg40)
      ∧ m' ((c.tc : Thread Cert.Reference52Ideal.nD Cert.Reference52Ideal.τ).loc Cert.Reference52Ideal.main_arg41) = m ((c.tc : Thread Cert.Kernel52Ideal.nD Cert.Kernel52Ideal.τ).loc Cert.Kernel52Ideal.main_arg41)
      ∧ m' ((c.tc : Thread Cert.Reference52Ideal.nD Cert.Reference52Ideal.τ).loc Cert.Reference52Ideal.main_arg42) = m ((c.tc : Thread Cert.Kernel52Ideal.nD Cert.Kernel52Ideal.τ).loc Cert.Kernel52Ideal.main_arg42)
      ∧ m' ((c.tc : Thread Cert.Reference52Ideal.nD Cert.Reference52Ideal.τ).loc Cert.Reference52Ideal.main_arg43) = m ((c.tc : Thread Cert.Kernel52Ideal.nD Cert.Kernel52Ideal.τ).loc Cert.Kernel52Ideal.main_arg43)
      ∧ m' ((c.tc : Thread Cert.Reference52Ideal.nD Cert.Reference52Ideal.τ).loc Cert.Reference52Ideal.main_arg44) = m ((c.tc : Thread Cert.Kernel52Ideal.nD Cert.Kernel52Ideal.τ).loc Cert.Kernel52Ideal.main_arg44)
      ∧ m' ((c.tc : Thread Cert.Reference52Ideal.nD Cert.Reference52Ideal.τ).loc Cert.Reference52Ideal.main_arg45) = m ((c.tc : Thread Cert.Kernel52Ideal.nD Cert.Kernel52Ideal.τ).loc Cert.Kernel52Ideal.main_arg45)
      ∧ m' ((c.tc : Thread Cert.Reference52Ideal.nD Cert.Reference52Ideal.τ).loc Cert.Reference52Ideal.main_arg46) = m ((c.tc : Thread Cert.Kernel52Ideal.nD Cert.Kernel52Ideal.τ).loc Cert.Kernel52Ideal.main_arg46)
      ∧ m' ((c.tc : Thread Cert.Reference52Ideal.nD Cert.Reference52Ideal.τ).loc Cert.Reference52Ideal.main_arg47) = m ((c.tc : Thread Cert.Kernel52Ideal.nD Cert.Kernel52Ideal.τ).loc Cert.Kernel52Ideal.main_arg47)
      ∧ m' ((c.tc : Thread Cert.Reference52Ideal.nD Cert.Reference52Ideal.τ).loc Cert.Reference52Ideal.main_arg48) = m ((c.tc : Thread Cert.Kernel52Ideal.nD Cert.Kernel52Ideal.τ).loc Cert.Kernel52Ideal.main_arg48)
      ∧ m' ((c.tc : Thread Cert.Reference52Ideal.nD Cert.Reference52Ideal.τ).loc Cert.Reference52Ideal.main_arg49) = m ((c.tc : Thread Cert.Kernel52Ideal.nD Cert.Kernel52Ideal.τ).loc Cert.Kernel52Ideal.main_arg49)
      ∧ m' ((c.tc : Thread Cert.Reference52Ideal.nD Cert.Reference52Ideal.τ).loc Cert.Reference52Ideal.main_arg50) = m ((c.tc : Thread Cert.Kernel52Ideal.nD Cert.Kernel52Ideal.τ).loc Cert.Kernel52Ideal.main_arg50)
      ∧ m' ((c.tc : Thread Cert.Reference52Ideal.nD Cert.Reference52Ideal.τ).loc Cert.Reference52Ideal.main_arg51) = m ((c.tc : Thread Cert.Kernel52Ideal.nD Cert.Kernel52Ideal.τ).loc Cert.Kernel52Ideal.main_arg51)) →
    ∃ (v0 : (c : Dev Cert.Kernel52Ideal.nD) → Buf (Elt Ideal) ((c.tc : Thread Cert.Kernel52Ideal.nD Cert.Kernel52Ideal.τ).loc Cert.Kernel52Ideal.main_v56_0)) (v1 : (c : Dev Cert.Kernel52Ideal.nD) → Buf (Elt Ideal) ((c.tc : Thread Cert.Kernel52Ideal.nD Cert.Kernel52Ideal.τ).loc Cert.Kernel52Ideal.main_v56_1)) (v2 : (c : Dev Cert.Kernel52Ideal.nD) → Buf (Elt Ideal) ((c.tc : Thread Cert.Kernel52Ideal.nD Cert.Kernel52Ideal.τ).loc Cert.Kernel52Ideal.main_v56_2)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v56_0) = v0 c
          ∧ r.2.mem ((c.tc : Thread Cert.Kernel52Ideal.nD Cert.Kernel52Ideal.τ).loc Cert.Kernel52Ideal.main_v56_1) = v1 c
          ∧ r.2.mem ((c.tc : Thread Cert.Kernel52Ideal.nD Cert.Kernel52Ideal.τ).loc Cert.Kernel52Ideal.main_v56_2) = v2 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
          ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
          ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4)
          ∧ r.2.mem ((c.tc : Thread Cert.Kernel52Ideal.nD Cert.Kernel52Ideal.τ).loc Cert.Kernel52Ideal.main_arg5) = m ((c.tc : Thread Cert.Kernel52Ideal.nD Cert.Kernel52Ideal.τ).loc Cert.Kernel52Ideal.main_arg5)
          ∧ r.2.mem ((c.tc : Thread Cert.Kernel52Ideal.nD Cert.Kernel52Ideal.τ).loc Cert.Kernel52Ideal.main_arg6) = m ((c.tc : Thread Cert.Kernel52Ideal.nD Cert.Kernel52Ideal.τ).loc Cert.Kernel52Ideal.main_arg6)
          ∧ r.2.mem ((c.tc : Thread Cert.Kernel52Ideal.nD Cert.Kernel52Ideal.τ).loc Cert.Kernel52Ideal.main_arg7) = m ((c.tc : Thread Cert.Kernel52Ideal.nD Cert.Kernel52Ideal.τ).loc Cert.Kernel52Ideal.main_arg7)
          ∧ r.2.mem ((c.tc : Thread Cert.Kernel52Ideal.nD Cert.Kernel52Ideal.τ).loc Cert.Kernel52Ideal.main_arg8) = m ((c.tc : Thread Cert.Kernel52Ideal.nD Cert.Kernel52Ideal.τ).loc Cert.Kernel52Ideal.main_arg8)
          ∧ r.2.mem ((c.tc : Thread Cert.Kernel52Ideal.nD Cert.Kernel52Ideal.τ).loc Cert.Kernel52Ideal.main_arg9) = m ((c.tc : Thread Cert.Kernel52Ideal.nD Cert.Kernel52Ideal.τ).loc Cert.Kernel52Ideal.main_arg9)
          ∧ r.2.mem ((c.tc : Thread Cert.Kernel52Ideal.nD Cert.Kernel52Ideal.τ).loc Cert.Kernel52Ideal.main_arg10) = m ((c.tc : Thread Cert.Kernel52Ideal.nD Cert.Kernel52Ideal.τ).loc Cert.Kernel52Ideal.main_arg10)
          ∧ r.2.mem ((c.tc : Thread Cert.Kernel52Ideal.nD Cert.Kernel52Ideal.τ).loc Cert.Kernel52Ideal.main_arg11) = m ((c.tc : Thread Cert.Kernel52Ideal.nD Cert.Kernel52Ideal.τ).loc Cert.Kernel52Ideal.main_arg11)
          ∧ r.2.mem ((c.tc : Thread Cert.Kernel52Ideal.nD Cert.Kernel52Ideal.τ).loc Cert.Kernel52Ideal.main_arg12) = m ((c.tc : Thread Cert.Kernel52Ideal.nD Cert.Kernel52Ideal.τ).loc Cert.Kernel52Ideal.main_arg12)
          ∧ r.2.mem ((c.tc : Thread Cert.Kernel52Ideal.nD Cert.Kernel52Ideal.τ).loc Cert.Kernel52Ideal.main_arg13) = m ((c.tc : Thread Cert.Kernel52Ideal.nD Cert.Kernel52Ideal.τ).loc Cert.Kernel52Ideal.main_arg13)
          ∧ r.2.mem ((c.tc : Thread Cert.Kernel52Ideal.nD Cert.Kernel52Ideal.τ).loc Cert.Kernel52Ideal.main_arg14) = m ((c.tc : Thread Cert.Kernel52Ideal.nD Cert.Kernel52Ideal.τ).loc Cert.Kernel52Ideal.main_arg14)
          ∧ r.2.mem ((c.tc : Thread Cert.Kernel52Ideal.nD Cert.Kernel52Ideal.τ).loc Cert.Kernel52Ideal.main_arg15) = m ((c.tc : Thread Cert.Kernel52Ideal.nD Cert.Kernel52Ideal.τ).loc Cert.Kernel52Ideal.main_arg15)
          ∧ r.2.mem ((c.tc : Thread Cert.Kernel52Ideal.nD Cert.Kernel52Ideal.τ).loc Cert.Kernel52Ideal.main_arg16) = m ((c.tc : Thread Cert.Kernel52Ideal.nD Cert.Kernel52Ideal.τ).loc Cert.Kernel52Ideal.main_arg16)
          ∧ r.2.mem ((c.tc : Thread Cert.Kernel52Ideal.nD Cert.Kernel52Ideal.τ).loc Cert.Kernel52Ideal.main_arg17) = m ((c.tc : Thread Cert.Kernel52Ideal.nD Cert.Kernel52Ideal.τ).loc Cert.Kernel52Ideal.main_arg17)
          ∧ r.2.mem ((c.tc : Thread Cert.Kernel52Ideal.nD Cert.Kernel52Ideal.τ).loc Cert.Kernel52Ideal.main_arg18) = m ((c.tc : Thread Cert.Kernel52Ideal.nD Cert.Kernel52Ideal.τ).loc Cert.Kernel52Ideal.main_arg18)
          ∧ r.2.mem ((c.tc : Thread Cert.Kernel52Ideal.nD Cert.Kernel52Ideal.τ).loc Cert.Kernel52Ideal.main_arg19) = m ((c.tc : Thread Cert.Kernel52Ideal.nD Cert.Kernel52Ideal.τ).loc Cert.Kernel52Ideal.main_arg19)
          ∧ r.2.mem ((c.tc : Thread Cert.Kernel52Ideal.nD Cert.Kernel52Ideal.τ).loc Cert.Kernel52Ideal.main_arg20) = m ((c.tc : Thread Cert.Kernel52Ideal.nD Cert.Kernel52Ideal.τ).loc Cert.Kernel52Ideal.main_arg20)
          ∧ r.2.mem ((c.tc : Thread Cert.Kernel52Ideal.nD Cert.Kernel52Ideal.τ).loc Cert.Kernel52Ideal.main_arg21) = m ((c.tc : Thread Cert.Kernel52Ideal.nD Cert.Kernel52Ideal.τ).loc Cert.Kernel52Ideal.main_arg21)
          ∧ r.2.mem ((c.tc : Thread Cert.Kernel52Ideal.nD Cert.Kernel52Ideal.τ).loc Cert.Kernel52Ideal.main_arg22) = m ((c.tc : Thread Cert.Kernel52Ideal.nD Cert.Kernel52Ideal.τ).loc Cert.Kernel52Ideal.main_arg22)
          ∧ r.2.mem ((c.tc : Thread Cert.Kernel52Ideal.nD Cert.Kernel52Ideal.τ).loc Cert.Kernel52Ideal.main_arg23) = m ((c.tc : Thread Cert.Kernel52Ideal.nD Cert.Kernel52Ideal.τ).loc Cert.Kernel52Ideal.main_arg23)
          ∧ r.2.mem ((c.tc : Thread Cert.Kernel52Ideal.nD Cert.Kernel52Ideal.τ).loc Cert.Kernel52Ideal.main_arg24) = m ((c.tc : Thread Cert.Kernel52Ideal.nD Cert.Kernel52Ideal.τ).loc Cert.Kernel52Ideal.main_arg24)
          ∧ r.2.mem ((c.tc : Thread Cert.Kernel52Ideal.nD Cert.Kernel52Ideal.τ).loc Cert.Kernel52Ideal.main_arg25) = m ((c.tc : Thread Cert.Kernel52Ideal.nD Cert.Kernel52Ideal.τ).loc Cert.Kernel52Ideal.main_arg25)
          ∧ r.2.mem ((c.tc : Thread Cert.Kernel52Ideal.nD Cert.Kernel52Ideal.τ).loc Cert.Kernel52Ideal.main_arg26) = m ((c.tc : Thread Cert.Kernel52Ideal.nD Cert.Kernel52Ideal.τ).loc Cert.Kernel52Ideal.main_arg26)
          ∧ r.2.mem ((c.tc : Thread Cert.Kernel52Ideal.nD Cert.Kernel52Ideal.τ).loc Cert.Kernel52Ideal.main_arg27) = m ((c.tc : Thread Cert.Kernel52Ideal.nD Cert.Kernel52Ideal.τ).loc Cert.Kernel52Ideal.main_arg27)
          ∧ r.2.mem ((c.tc : Thread Cert.Kernel52Ideal.nD Cert.Kernel52Ideal.τ).loc Cert.Kernel52Ideal.main_arg28) = m ((c.tc : Thread Cert.Kernel52Ideal.nD Cert.Kernel52Ideal.τ).loc Cert.Kernel52Ideal.main_arg28)
          ∧ r.2.mem ((c.tc : Thread Cert.Kernel52Ideal.nD Cert.Kernel52Ideal.τ).loc Cert.Kernel52Ideal.main_arg29) = m ((c.tc : Thread Cert.Kernel52Ideal.nD Cert.Kernel52Ideal.τ).loc Cert.Kernel52Ideal.main_arg29)
          ∧ r.2.mem ((c.tc : Thread Cert.Kernel52Ideal.nD Cert.Kernel52Ideal.τ).loc Cert.Kernel52Ideal.main_arg30) = m ((c.tc : Thread Cert.Kernel52Ideal.nD Cert.Kernel52Ideal.τ).loc Cert.Kernel52Ideal.main_arg30)
          ∧ r.2.mem ((c.tc : Thread Cert.Kernel52Ideal.nD Cert.Kernel52Ideal.τ).loc Cert.Kernel52Ideal.main_arg31) = m ((c.tc : Thread Cert.Kernel52Ideal.nD Cert.Kernel52Ideal.τ).loc Cert.Kernel52Ideal.main_arg31)
          ∧ r.2.mem ((c.tc : Thread Cert.Kernel52Ideal.nD Cert.Kernel52Ideal.τ).loc Cert.Kernel52Ideal.main_arg32) = m ((c.tc : Thread Cert.Kernel52Ideal.nD Cert.Kernel52Ideal.τ).loc Cert.Kernel52Ideal.main_arg32)
          ∧ r.2.mem ((c.tc : Thread Cert.Kernel52Ideal.nD Cert.Kernel52Ideal.τ).loc Cert.Kernel52Ideal.main_arg33) = m ((c.tc : Thread Cert.Kernel52Ideal.nD Cert.Kernel52Ideal.τ).loc Cert.Kernel52Ideal.main_arg33)
          ∧ r.2.mem ((c.tc : Thread Cert.Kernel52Ideal.nD Cert.Kernel52Ideal.τ).loc Cert.Kernel52Ideal.main_arg34) = m ((c.tc : Thread Cert.Kernel52Ideal.nD Cert.Kernel52Ideal.τ).loc Cert.Kernel52Ideal.main_arg34)
          ∧ r.2.mem ((c.tc : Thread Cert.Kernel52Ideal.nD Cert.Kernel52Ideal.τ).loc Cert.Kernel52Ideal.main_arg35) = m ((c.tc : Thread Cert.Kernel52Ideal.nD Cert.Kernel52Ideal.τ).loc Cert.Kernel52Ideal.main_arg35)
          ∧ r.2.mem ((c.tc : Thread Cert.Kernel52Ideal.nD Cert.Kernel52Ideal.τ).loc Cert.Kernel52Ideal.main_arg36) = m ((c.tc : Thread Cert.Kernel52Ideal.nD Cert.Kernel52Ideal.τ).loc Cert.Kernel52Ideal.main_arg36)
          ∧ r.2.mem ((c.tc : Thread Cert.Kernel52Ideal.nD Cert.Kernel52Ideal.τ).loc Cert.Kernel52Ideal.main_arg37) = m ((c.tc : Thread Cert.Kernel52Ideal.nD Cert.Kernel52Ideal.τ).loc Cert.Kernel52Ideal.main_arg37)
          ∧ r.2.mem ((c.tc : Thread Cert.Kernel52Ideal.nD Cert.Kernel52Ideal.τ).loc Cert.Kernel52Ideal.main_arg38) = m ((c.tc : Thread Cert.Kernel52Ideal.nD Cert.Kernel52Ideal.τ).loc Cert.Kernel52Ideal.main_arg38)
          ∧ r.2.mem ((c.tc : Thread Cert.Kernel52Ideal.nD Cert.Kernel52Ideal.τ).loc Cert.Kernel52Ideal.main_arg39) = m ((c.tc : Thread Cert.Kernel52Ideal.nD Cert.Kernel52Ideal.τ).loc Cert.Kernel52Ideal.main_arg39)
          ∧ r.2.mem ((c.tc : Thread Cert.Kernel52Ideal.nD Cert.Kernel52Ideal.τ).loc Cert.Kernel52Ideal.main_arg40) = m ((c.tc : Thread Cert.Kernel52Ideal.nD Cert.Kernel52Ideal.τ).loc Cert.Kernel52Ideal.main_arg40)
          ∧ r.2.mem ((c.tc : Thread Cert.Kernel52Ideal.nD Cert.Kernel52Ideal.τ).loc Cert.Kernel52Ideal.main_arg41) = m ((c.tc : Thread Cert.Kernel52Ideal.nD Cert.Kernel52Ideal.τ).loc Cert.Kernel52Ideal.main_arg41)
          ∧ r.2.mem ((c.tc : Thread Cert.Kernel52Ideal.nD Cert.Kernel52Ideal.τ).loc Cert.Kernel52Ideal.main_arg42) = m ((c.tc : Thread Cert.Kernel52Ideal.nD Cert.Kernel52Ideal.τ).loc Cert.Kernel52Ideal.main_arg42)
          ∧ r.2.mem ((c.tc : Thread Cert.Kernel52Ideal.nD Cert.Kernel52Ideal.τ).loc Cert.Kernel52Ideal.main_arg43) = m ((c.tc : Thread Cert.Kernel52Ideal.nD Cert.Kernel52Ideal.τ).loc Cert.Kernel52Ideal.main_arg43)
          ∧ r.2.mem ((c.tc : Thread Cert.Kernel52Ideal.nD Cert.Kernel52Ideal.τ).loc Cert.Kernel52Ideal.main_arg44) = m ((c.tc : Thread Cert.Kernel52Ideal.nD Cert.Kernel52Ideal.τ).loc Cert.Kernel52Ideal.main_arg44)
          ∧ r.2.mem ((c.tc : Thread Cert.Kernel52Ideal.nD Cert.Kernel52Ideal.τ).loc Cert.Kernel52Ideal.main_arg45) = m ((c.tc : Thread Cert.Kernel52Ideal.nD Cert.Kernel52Ideal.τ).loc Cert.Kernel52Ideal.main_arg45)
          ∧ r.2.mem ((c.tc : Thread Cert.Kernel52Ideal.nD Cert.Kernel52Ideal.τ).loc Cert.Kernel52Ideal.main_arg46) = m ((c.tc : Thread Cert.Kernel52Ideal.nD Cert.Kernel52Ideal.τ).loc Cert.Kernel52Ideal.main_arg46)
          ∧ r.2.mem ((c.tc : Thread Cert.Kernel52Ideal.nD Cert.Kernel52Ideal.τ).loc Cert.Kernel52Ideal.main_arg47) = m ((c.tc : Thread Cert.Kernel52Ideal.nD Cert.Kernel52Ideal.τ).loc Cert.Kernel52Ideal.main_arg47)
          ∧ r.2.mem ((c.tc : Thread Cert.Kernel52Ideal.nD Cert.Kernel52Ideal.τ).loc Cert.Kernel52Ideal.main_arg48) = m ((c.tc : Thread Cert.Kernel52Ideal.nD Cert.Kernel52Ideal.τ).loc Cert.Kernel52Ideal.main_arg48)
          ∧ r.2.mem ((c.tc : Thread Cert.Kernel52Ideal.nD Cert.Kernel52Ideal.τ).loc Cert.Kernel52Ideal.main_arg49) = m ((c.tc : Thread Cert.Kernel52Ideal.nD Cert.Kernel52Ideal.τ).loc Cert.Kernel52Ideal.main_arg49)
          ∧ r.2.mem ((c.tc : Thread Cert.Kernel52Ideal.nD Cert.Kernel52Ideal.τ).loc Cert.Kernel52Ideal.main_arg50) = m ((c.tc : Thread Cert.Kernel52Ideal.nD Cert.Kernel52Ideal.τ).loc Cert.Kernel52Ideal.main_arg50)
          ∧ r.2.mem ((c.tc : Thread Cert.Kernel52Ideal.nD Cert.Kernel52Ideal.τ).loc Cert.Kernel52Ideal.main_arg51) = m ((c.tc : Thread Cert.Kernel52Ideal.nD Cert.Kernel52Ideal.τ).loc Cert.Kernel52Ideal.main_arg51))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v325) = v0 c
          ∧ r.2.mem ((c.tc : Thread Cert.Reference52Ideal.nD Cert.Reference52Ideal.τ).loc Cert.Reference52Ideal.main_v339) = v1 c
          ∧ r.2.mem ((c.tc : Thread Cert.Reference52Ideal.nD Cert.Reference52Ideal.τ).loc Cert.Reference52Ideal.main_v353) = v2 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2)
          ∧ r.2.mem ((c.tc : Thread Cert.Reference52Ideal.nD Cert.Reference52Ideal.τ).loc Cert.Reference52Ideal.main_arg3) = m' ((c.tc : Thread Cert.Reference52Ideal.nD Cert.Reference52Ideal.τ).loc Cert.Reference52Ideal.main_arg3)
          ∧ r.2.mem ((c.tc : Thread Cert.Reference52Ideal.nD Cert.Reference52Ideal.τ).loc Cert.Reference52Ideal.main_arg4) = m' ((c.tc : Thread Cert.Reference52Ideal.nD Cert.Reference52Ideal.τ).loc Cert.Reference52Ideal.main_arg4)
          ∧ r.2.mem ((c.tc : Thread Cert.Reference52Ideal.nD Cert.Reference52Ideal.τ).loc Cert.Reference52Ideal.main_arg5) = m' ((c.tc : Thread Cert.Reference52Ideal.nD Cert.Reference52Ideal.τ).loc Cert.Reference52Ideal.main_arg5)
          ∧ r.2.mem ((c.tc : Thread Cert.Reference52Ideal.nD Cert.Reference52Ideal.τ).loc Cert.Reference52Ideal.main_arg6) = m' ((c.tc : Thread Cert.Reference52Ideal.nD Cert.Reference52Ideal.τ).loc Cert.Reference52Ideal.main_arg6)
          ∧ r.2.mem ((c.tc : Thread Cert.Reference52Ideal.nD Cert.Reference52Ideal.τ).loc Cert.Reference52Ideal.main_arg7) = m' ((c.tc : Thread Cert.Reference52Ideal.nD Cert.Reference52Ideal.τ).loc Cert.Reference52Ideal.main_arg7)
          ∧ r.2.mem ((c.tc : Thread Cert.Reference52Ideal.nD Cert.Reference52Ideal.τ).loc Cert.Reference52Ideal.main_arg8) = m' ((c.tc : Thread Cert.Reference52Ideal.nD Cert.Reference52Ideal.τ).loc Cert.Reference52Ideal.main_arg8)
          ∧ r.2.mem ((c.tc : Thread Cert.Reference52Ideal.nD Cert.Reference52Ideal.τ).loc Cert.Reference52Ideal.main_arg9) = m' ((c.tc : Thread Cert.Reference52Ideal.nD Cert.Reference52Ideal.τ).loc Cert.Reference52Ideal.main_arg9)
          ∧ r.2.mem ((c.tc : Thread Cert.Reference52Ideal.nD Cert.Reference52Ideal.τ).loc Cert.Reference52Ideal.main_arg10) = m' ((c.tc : Thread Cert.Reference52Ideal.nD Cert.Reference52Ideal.τ).loc Cert.Reference52Ideal.main_arg10)
          ∧ r.2.mem ((c.tc : Thread Cert.Reference52Ideal.nD Cert.Reference52Ideal.τ).loc Cert.Reference52Ideal.main_arg11) = m' ((c.tc : Thread Cert.Reference52Ideal.nD Cert.Reference52Ideal.τ).loc Cert.Reference52Ideal.main_arg11)
          ∧ r.2.mem ((c.tc : Thread Cert.Reference52Ideal.nD Cert.Reference52Ideal.τ).loc Cert.Reference52Ideal.main_arg12) = m' ((c.tc : Thread Cert.Reference52Ideal.nD Cert.Reference52Ideal.τ).loc Cert.Reference52Ideal.main_arg12)
          ∧ r.2.mem ((c.tc : Thread Cert.Reference52Ideal.nD Cert.Reference52Ideal.τ).loc Cert.Reference52Ideal.main_arg13) = m' ((c.tc : Thread Cert.Reference52Ideal.nD Cert.Reference52Ideal.τ).loc Cert.Reference52Ideal.main_arg13)
          ∧ r.2.mem ((c.tc : Thread Cert.Reference52Ideal.nD Cert.Reference52Ideal.τ).loc Cert.Reference52Ideal.main_arg14) = m' ((c.tc : Thread Cert.Reference52Ideal.nD Cert.Reference52Ideal.τ).loc Cert.Reference52Ideal.main_arg14)
          ∧ r.2.mem ((c.tc : Thread Cert.Reference52Ideal.nD Cert.Reference52Ideal.τ).loc Cert.Reference52Ideal.main_arg15) = m' ((c.tc : Thread Cert.Reference52Ideal.nD Cert.Reference52Ideal.τ).loc Cert.Reference52Ideal.main_arg15)
          ∧ r.2.mem ((c.tc : Thread Cert.Reference52Ideal.nD Cert.Reference52Ideal.τ).loc Cert.Reference52Ideal.main_arg16) = m' ((c.tc : Thread Cert.Reference52Ideal.nD Cert.Reference52Ideal.τ).loc Cert.Reference52Ideal.main_arg16)
          ∧ r.2.mem ((c.tc : Thread Cert.Reference52Ideal.nD Cert.Reference52Ideal.τ).loc Cert.Reference52Ideal.main_arg17) = m' ((c.tc : Thread Cert.Reference52Ideal.nD Cert.Reference52Ideal.τ).loc Cert.Reference52Ideal.main_arg17)
          ∧ r.2.mem ((c.tc : Thread Cert.Reference52Ideal.nD Cert.Reference52Ideal.τ).loc Cert.Reference52Ideal.main_arg18) = m' ((c.tc : Thread Cert.Reference52Ideal.nD Cert.Reference52Ideal.τ).loc Cert.Reference52Ideal.main_arg18)
          ∧ r.2.mem ((c.tc : Thread Cert.Reference52Ideal.nD Cert.Reference52Ideal.τ).loc Cert.Reference52Ideal.main_arg19) = m' ((c.tc : Thread Cert.Reference52Ideal.nD Cert.Reference52Ideal.τ).loc Cert.Reference52Ideal.main_arg19)
          ∧ r.2.mem ((c.tc : Thread Cert.Reference52Ideal.nD Cert.Reference52Ideal.τ).loc Cert.Reference52Ideal.main_arg20) = m' ((c.tc : Thread Cert.Reference52Ideal.nD Cert.Reference52Ideal.τ).loc Cert.Reference52Ideal.main_arg20)
          ∧ r.2.mem ((c.tc : Thread Cert.Reference52Ideal.nD Cert.Reference52Ideal.τ).loc Cert.Reference52Ideal.main_arg21) = m' ((c.tc : Thread Cert.Reference52Ideal.nD Cert.Reference52Ideal.τ).loc Cert.Reference52Ideal.main_arg21)
          ∧ r.2.mem ((c.tc : Thread Cert.Reference52Ideal.nD Cert.Reference52Ideal.τ).loc Cert.Reference52Ideal.main_arg22) = m' ((c.tc : Thread Cert.Reference52Ideal.nD Cert.Reference52Ideal.τ).loc Cert.Reference52Ideal.main_arg22)
          ∧ r.2.mem ((c.tc : Thread Cert.Reference52Ideal.nD Cert.Reference52Ideal.τ).loc Cert.Reference52Ideal.main_arg23) = m' ((c.tc : Thread Cert.Reference52Ideal.nD Cert.Reference52Ideal.τ).loc Cert.Reference52Ideal.main_arg23)
          ∧ r.2.mem ((c.tc : Thread Cert.Reference52Ideal.nD Cert.Reference52Ideal.τ).loc Cert.Reference52Ideal.main_arg24) = m' ((c.tc : Thread Cert.Reference52Ideal.nD Cert.Reference52Ideal.τ).loc Cert.Reference52Ideal.main_arg24)
          ∧ r.2.mem ((c.tc : Thread Cert.Reference52Ideal.nD Cert.Reference52Ideal.τ).loc Cert.Reference52Ideal.main_arg25) = m' ((c.tc : Thread Cert.Reference52Ideal.nD Cert.Reference52Ideal.τ).loc Cert.Reference52Ideal.main_arg25)
          ∧ r.2.mem ((c.tc : Thread Cert.Reference52Ideal.nD Cert.Reference52Ideal.τ).loc Cert.Reference52Ideal.main_arg26) = m' ((c.tc : Thread Cert.Reference52Ideal.nD Cert.Reference52Ideal.τ).loc Cert.Reference52Ideal.main_arg26)
          ∧ r.2.mem ((c.tc : Thread Cert.Reference52Ideal.nD Cert.Reference52Ideal.τ).loc Cert.Reference52Ideal.main_arg27) = m' ((c.tc : Thread Cert.Reference52Ideal.nD Cert.Reference52Ideal.τ).loc Cert.Reference52Ideal.main_arg27)
          ∧ r.2.mem ((c.tc : Thread Cert.Reference52Ideal.nD Cert.Reference52Ideal.τ).loc Cert.Reference52Ideal.main_arg28) = m' ((c.tc : Thread Cert.Reference52Ideal.nD Cert.Reference52Ideal.τ).loc Cert.Reference52Ideal.main_arg28)
          ∧ r.2.mem ((c.tc : Thread Cert.Reference52Ideal.nD Cert.Reference52Ideal.τ).loc Cert.Reference52Ideal.main_arg29) = m' ((c.tc : Thread Cert.Reference52Ideal.nD Cert.Reference52Ideal.τ).loc Cert.Reference52Ideal.main_arg29)
          ∧ r.2.mem ((c.tc : Thread Cert.Reference52Ideal.nD Cert.Reference52Ideal.τ).loc Cert.Reference52Ideal.main_arg30) = m' ((c.tc : Thread Cert.Reference52Ideal.nD Cert.Reference52Ideal.τ).loc Cert.Reference52Ideal.main_arg30)
          ∧ r.2.mem ((c.tc : Thread Cert.Reference52Ideal.nD Cert.Reference52Ideal.τ).loc Cert.Reference52Ideal.main_arg31) = m' ((c.tc : Thread Cert.Reference52Ideal.nD Cert.Reference52Ideal.τ).loc Cert.Reference52Ideal.main_arg31)
          ∧ r.2.mem ((c.tc : Thread Cert.Reference52Ideal.nD Cert.Reference52Ideal.τ).loc Cert.Reference52Ideal.main_arg32) = m' ((c.tc : Thread Cert.Reference52Ideal.nD Cert.Reference52Ideal.τ).loc Cert.Reference52Ideal.main_arg32)
          ∧ r.2.mem ((c.tc : Thread Cert.Reference52Ideal.nD Cert.Reference52Ideal.τ).loc Cert.Reference52Ideal.main_arg33) = m' ((c.tc : Thread Cert.Reference52Ideal.nD Cert.Reference52Ideal.τ).loc Cert.Reference52Ideal.main_arg33)
          ∧ r.2.mem ((c.tc : Thread Cert.Reference52Ideal.nD Cert.Reference52Ideal.τ).loc Cert.Reference52Ideal.main_arg34) = m' ((c.tc : Thread Cert.Reference52Ideal.nD Cert.Reference52Ideal.τ).loc Cert.Reference52Ideal.main_arg34)
          ∧ r.2.mem ((c.tc : Thread Cert.Reference52Ideal.nD Cert.Reference52Ideal.τ).loc Cert.Reference52Ideal.main_arg35) = m' ((c.tc : Thread Cert.Reference52Ideal.nD Cert.Reference52Ideal.τ).loc Cert.Reference52Ideal.main_arg35)
          ∧ r.2.mem ((c.tc : Thread Cert.Reference52Ideal.nD Cert.Reference52Ideal.τ).loc Cert.Reference52Ideal.main_arg36) = m' ((c.tc : Thread Cert.Reference52Ideal.nD Cert.Reference52Ideal.τ).loc Cert.Reference52Ideal.main_arg36)
          ∧ r.2.mem ((c.tc : Thread Cert.Reference52Ideal.nD Cert.Reference52Ideal.τ).loc Cert.Reference52Ideal.main_arg37) = m' ((c.tc : Thread Cert.Reference52Ideal.nD Cert.Reference52Ideal.τ).loc Cert.Reference52Ideal.main_arg37)
          ∧ r.2.mem ((c.tc : Thread Cert.Reference52Ideal.nD Cert.Reference52Ideal.τ).loc Cert.Reference52Ideal.main_arg38) = m' ((c.tc : Thread Cert.Reference52Ideal.nD Cert.Reference52Ideal.τ).loc Cert.Reference52Ideal.main_arg38)
          ∧ r.2.mem ((c.tc : Thread Cert.Reference52Ideal.nD Cert.Reference52Ideal.τ).loc Cert.Reference52Ideal.main_arg39) = m' ((c.tc : Thread Cert.Reference52Ideal.nD Cert.Reference52Ideal.τ).loc Cert.Reference52Ideal.main_arg39)
          ∧ r.2.mem ((c.tc : Thread Cert.Reference52Ideal.nD Cert.Reference52Ideal.τ).loc Cert.Reference52Ideal.main_arg40) = m' ((c.tc : Thread Cert.Reference52Ideal.nD Cert.Reference52Ideal.τ).loc Cert.Reference52Ideal.main_arg40)
          ∧ r.2.mem ((c.tc : Thread Cert.Reference52Ideal.nD Cert.Reference52Ideal.τ).loc Cert.Reference52Ideal.main_arg41) = m' ((c.tc : Thread Cert.Reference52Ideal.nD Cert.Reference52Ideal.τ).loc Cert.Reference52Ideal.main_arg41)
          ∧ r.2.mem ((c.tc : Thread Cert.Reference52Ideal.nD Cert.Reference52Ideal.τ).loc Cert.Reference52Ideal.main_arg42) = m' ((c.tc : Thread Cert.Reference52Ideal.nD Cert.Reference52Ideal.τ).loc Cert.Reference52Ideal.main_arg42)
          ∧ r.2.mem ((c.tc : Thread Cert.Reference52Ideal.nD Cert.Reference52Ideal.τ).loc Cert.Reference52Ideal.main_arg43) = m' ((c.tc : Thread Cert.Reference52Ideal.nD Cert.Reference52Ideal.τ).loc Cert.Reference52Ideal.main_arg43)
          ∧ r.2.mem ((c.tc : Thread Cert.Reference52Ideal.nD Cert.Reference52Ideal.τ).loc Cert.Reference52Ideal.main_arg44) = m' ((c.tc : Thread Cert.Reference52Ideal.nD Cert.Reference52Ideal.τ).loc Cert.Reference52Ideal.main_arg44)
          ∧ r.2.mem ((c.tc : Thread Cert.Reference52Ideal.nD Cert.Reference52Ideal.τ).loc Cert.Reference52Ideal.main_arg45) = m' ((c.tc : Thread Cert.Reference52Ideal.nD Cert.Reference52Ideal.τ).loc Cert.Reference52Ideal.main_arg45)
          ∧ r.2.mem ((c.tc : Thread Cert.Reference52Ideal.nD Cert.Reference52Ideal.τ).loc Cert.Reference52Ideal.main_arg46) = m' ((c.tc : Thread Cert.Reference52Ideal.nD Cert.Reference52Ideal.τ).loc Cert.Reference52Ideal.main_arg46)
          ∧ r.2.mem ((c.tc : Thread Cert.Reference52Ideal.nD Cert.Reference52Ideal.τ).loc Cert.Reference52Ideal.main_arg47) = m' ((c.tc : Thread Cert.Reference52Ideal.nD Cert.Reference52Ideal.τ).loc Cert.Reference52Ideal.main_arg47)
          ∧ r.2.mem ((c.tc : Thread Cert.Reference52Ideal.nD Cert.Reference52Ideal.τ).loc Cert.Reference52Ideal.main_arg48) = m' ((c.tc : Thread Cert.Reference52Ideal.nD Cert.Reference52Ideal.τ).loc Cert.Reference52Ideal.main_arg48)
          ∧ r.2.mem ((c.tc : Thread Cert.Reference52Ideal.nD Cert.Reference52Ideal.τ).loc Cert.Reference52Ideal.main_arg49) = m' ((c.tc : Thread Cert.Reference52Ideal.nD Cert.Reference52Ideal.τ).loc Cert.Reference52Ideal.main_arg49)
          ∧ r.2.mem ((c.tc : Thread Cert.Reference52Ideal.nD Cert.Reference52Ideal.τ).loc Cert.Reference52Ideal.main_arg50) = m' ((c.tc : Thread Cert.Reference52Ideal.nD Cert.Reference52Ideal.τ).loc Cert.Reference52Ideal.main_arg50)
          ∧ r.2.mem ((c.tc : Thread Cert.Reference52Ideal.nD Cert.Reference52Ideal.τ).loc Cert.Reference52Ideal.main_arg51) = m' ((c.tc : Thread Cert.Reference52Ideal.nD Cert.Reference52Ideal.τ).loc Cert.Reference52Ideal.main_arg51))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel52 : Cert.Kernel52.Facts) (hKernel52Ideal : Cert.Kernel52Ideal.Facts) (hReference52Ideal : Cert.Reference52Ideal.Facts) (hPre_finite_qk : Cert.Pre_finite_qk.Facts) (hPre_finite_mix : Cert.Pre_finite_mix.Facts) (hPre_finite_gate : Cert.Pre_finite_gate.Facts) (hPre_finite_conv : Cert.Pre_finite_conv.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Kernel34Ideal_pre_finite_mix (hKernel34Ideal := hKernel34Ideal) (hPre_finite_mix := hPre_finite_mix)
    ∧ quiescent_Reference34Ideal (hReference34Ideal := hReference34Ideal)
    ∧ quiescent_Reference34Ideal_pre_finite_mix (hReference34Ideal := hReference34Ideal) (hPre_finite_mix := hPre_finite_mix)
    ∧ quiescent_Kernel35 (hKernel35 := hKernel35)
    ∧ quiescent_Kernel35Ideal (hKernel35Ideal := hKernel35Ideal)
    ∧ quiescent_Kernel35Ideal_pre_finite_gate (hKernel35Ideal := hKernel35Ideal) (hPre_finite_gate := hPre_finite_gate)
    ∧ quiescent_Reference35Ideal (hReference35Ideal := hReference35Ideal)
    ∧ quiescent_Reference35Ideal_pre_finite_gate (hReference35Ideal := hReference35Ideal) (hPre_finite_gate := hPre_finite_gate)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Kernel37Ideal_pre_finite_conv (hKernel37Ideal := hKernel37Ideal) (hPre_finite_conv := hPre_finite_conv)
    ∧ quiescent_Reference37Ideal (hReference37Ideal := hReference37Ideal)
    ∧ quiescent_Reference37Ideal_pre_finite_conv (hReference37Ideal := hReference37Ideal) (hPre_finite_conv := hPre_finite_conv)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel52 (hKernel52 := hKernel52)
    ∧ quiescent_Kernel52Ideal (hKernel52Ideal := hKernel52Ideal)
    ∧ quiescent_Reference52Ideal (hReference52Ideal := hReference52Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal_pre_finite_mix (hKernel34Ideal := hKernel34Ideal) (hReference34Ideal := hReference34Ideal) (hPre_finite_mix := hPre_finite_mix)
    ∧ preserves_Kernel35_Kernel35Ideal
    ∧ algebraic_Kernel35Ideal_Reference35Ideal_pre_finite_gate (hKernel35Ideal := hKernel35Ideal) (hReference35Ideal := hReference35Ideal) (hPre_finite_gate := hPre_finite_gate)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal_pre_finite_conv (hKernel37Ideal := hKernel37Ideal) (hReference37Ideal := hReference37Ideal) (hPre_finite_conv := hPre_finite_conv)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel52_Kernel52Ideal
    ∧ algebraic_Kernel52Ideal_Reference52Ideal (hKernel52Ideal := hKernel52Ideal) (hReference52Ideal := hReference52Ideal)
-- ==== Pre_finite_conv.lean ====
abbrev S8192x3072 : Shape := ⟨2, ![8192, 3072]⟩
abbrev S4x3072 : Shape := ⟨2, ![4, 3072]⟩
abbrev S1x3072 : Shape := ⟨2, ![1, 3072]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)

variable [Facts]

def fn {F : FTy → Type} [FloatOps F] (main_arg0 : FVec F S8192x3072 .bf16) (main_arg1 : FVec F S8192x3072 .bf16) (main_arg2 : FVec F S4x3072 .f32) (main_arg3 : FVec F S1x3072 .f32) : IVec S8192x3072 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  main_v3
-- ==== Pre_finite_gate.lean ====
abbrev S8192x5632 : Shape := ⟨2, ![8192, 5632]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)

variable [Facts]

def fn {F : FTy → Type} [FloatOps F] (main_arg0 : FVec F S8192x5632 .bf16) (main_arg1 : FVec F S8192x5632 .bf16) (main_arg2 : FVec F S8192x5632 .bf16) : IVec S8192x5632 1 :=
  let main_v0 : FVec F S8192x5632 .f32 := (extf .f32 · bitsLt_bf16_f32) main_arg1
  let main_v1 : FVec F S8192x5632 .f32 := (extf .f32 · bitsLt_bf16_f32) main_arg2
  let main_v2 : FVec F S8192x5632 .f32 := mulf main_v0 main_v1
  let main_v3 : FVec F S8192x5632 .f32 := Host.absf main_v2
  let main_cst : FVec F S_ .f32 := constant S_ .f32 0x7F800000#32
  let main_v4 : FVec F S8192x5632 .f32 := broadcastInDim S8192x5632 ![] bcast_S_S8192x5632 main_cst
  let main_v5 : IVec S8192x5632 1 := cmpf .olt main_v3 main_v4
  main_v5
-- ==== Pre_finite_mix.lean ====
abbrev S8192x3072 : Shape := ⟨2, ![8192, 3072]⟩
abbrev S4x8192x128 : Shape := ⟨3, ![4, 8192, 128]⟩
abbrev S128x8192 : Shape := ⟨2, ![128, 8192]⟩
abbrev S8192x2048 : Shape := ⟨2, ![8192, 2048]⟩
abbrev S32x16x128x128 : Shape := ⟨4, ![32, 16, 128, 128]⟩
abbrev S8192x4096 : Shape := ⟨2, ![8192, 4096]⟩
abbrev S1x2048 : Shape := ⟨2, ![1, 2048]⟩
abbrev S_ : Shape := ⟨0, ![]⟩

class Facts : Prop where
  slices_S8192x4096_S8192x2048_0_0 : S8192x4096.Slices ![0, 0] S8192x2048
  bitsLt_bf16_f32 : FTy.bits .bf16 < FTy.bits .f32
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)

variable [Facts]

def fn {F : FTy → Type} [FloatOps F] (main_arg0 : FVec F S8192x3072 .bf16) (main_arg1 : FVec F S4x8192x128 .f32) (main_arg2 : FVec F S4x8192x128 .f32) (main_arg3 : FVec F S128x8192 .f32) (main_arg4 : FVec F S8192x2048 .bf16) (main_arg5 : FVec F S8192x2048 .bf16) (main_arg6 : FVec F S32x16x128x128 .f32) (main_arg7 : FVec F S8192x4096 .bf16) (main_arg8 : FVec F S1x2048 .f32) (main_arg9 : FVec F S1x2048 .f32) : IVec S8192x2048 1 :=
  let main_v0 : FVec F S8192x2048 .bf16 := (extractStridedSlice S8192x2048 ![0, 0] · slices_S8192x4096_S8192x2048_0_0) main_arg7
  let main_v1 : FVec F S8192x2048 .f32 := (extf .f32 · bitsLt_bf16_f32) main_v0
  let main_v2 : FVec F S8192x2048 .f32 := broadcastInDim S8192x2048 ![0, 1] bcast_S1x2048_S8192x2048_0_1 main_arg9
  let main_v3 : FVec F S8192x2048 .f32 := mulf main_v1 main_v2
  let main_v4 : FVec F S8192x2048 .f32 := Host.absf main_v3
  let main_cst : FVec F S_ .f32 := constant S_ .f32 0x7F800000#32
  let main_v5 : FVec F S8192x2048 .f32 := broadcastInDim S8192x2048 ![] bcast_S_S8192x2048 main_cst
  let main_v6 : IVec S8192x2048 1 := cmpf .olt main_v4 main_v5
  main_v6
-- ==== Pre_finite_qk.lean ====
abbrev S8192x512 : Shape := ⟨2, ![8192, 512]⟩
abbrev S256x512 : Shape := ⟨2, ![256, 512]⟩
abbrev S8448x512 : Shape := ⟨2, ![8448, 512]⟩
abbrev S_ : Shape := ⟨0, ![]⟩

class Facts : Prop where
  concatenates_S8192x512_S256x512_S8448x512_d0 : Shape.Concatenates [S8192x512, S256x512] S8448x512 0
  bitsLt_bf16_f32 : FTy.bits .bf16 < FTy.bits .f32
  bcast_S_S8448x512 : S_.BroadcastsInDim S8448x512 (![] : Fin 0 → Fin S8448x512.rank)

variable [Facts]

def fn {F : FTy → Type} [FloatOps F] (main_arg0 : FVec F S8192x512 .bf16) (main_arg1 : FVec F S256x512 .bf16) (main_arg2 : FVec F S256x512 .bf16) (main_arg3 : FVec F S8192x512 .bf16) : IVec S8448x512 1 :=
  let main_v0 : FVec F S8448x512 .bf16 := (fun a b => concatenate S8448x512 0 [⟨S8192x512, a⟩, ⟨S256x512, b⟩] concatenates_S8192x512_S256x512_S8448x512_d0) main_arg0 main_arg1
  let main_v1 : FVec F S8448x512 .f32 := (extf .f32 · bitsLt_bf16_f32) main_v0
  let main_v2 : FVec F S8448x512 .f32 := Host.absf main_v1
  let main_cst : FVec F S_ .f32 := constant S_ .f32 0x7F800000#32
  let main_v3 : FVec F S8448x512 .f32 := broadcastInDim S8448x512 ![] bcast_S_S8448x512 main_cst
  let main_v4 : IVec S8448x512 1 := cmpf .olt main_v2 main_v3
  main_v4
-- ==== Kernel.lean ====
abbrev S8192x512 : Shape := ⟨2, ![8192, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .bf16⟩
  | .hbm, ⟨4, _⟩ => ⟨S8192x512, .bf16⟩
  | .hbm, ⟨5, _⟩ => ⟨S256x512, .f32⟩
  | .hbm, ⟨6, _⟩ => ⟨S256x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x512, .f32⟩
  | .local _ .vmem, ⟨9, _⟩ => ⟨S256x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v133 : BitVec 1 := Scalar.cmpi .eq arg0 c0_i32
  let v134 : BitVec 32 := Scalar.extui v133
  let c0_i32_73 : BitVec 32 := 0#32
  let v135 : BitVec 1 := Scalar.cmpi .ne v134 c0_i32_73
  v135

def k0_cond2 (i : grid0.Coords) : BitVec 1 :=
  let arg0 : BitVec 32 := BitVec.ofNat 32 (i 0).val
  let c0_i32_74 : BitVec 32 := 0#32
  let v136 : BitVec 1 := Scalar.cmpi .sgt arg0 c0_i32_74
  let v137 : BitVec 32 := Scalar.extui v136
  let c0_i32_75 : BitVec 32 := 0#32
  let v138 : BitVec 1 := Scalar.cmpi .ne v137 c0_i32_75
  v138

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .bf16⟩
  | .hbm, ⟨4, _⟩ => ⟨S8192x512, .f32⟩
  | .hbm, ⟨5, _⟩ => ⟨S256x512, .f32⟩
  | .hbm, ⟨6, _⟩ => ⟨S256x512, .f32⟩
  | .hbm, ⟨7, _⟩ => ⟨S8192x512, .f32⟩
  | .hbm, ⟨8, _⟩ => ⟨S8192x4x128, .f32⟩
  | .hbm, ⟨9, _⟩ => ⟨S256x4x128, .f32⟩
  | .hbm, ⟨10, _⟩ => ⟨S256x4x128, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x128x8192, .f32⟩
  | .hbm, ⟨54, _⟩ => ⟨S8192x4x128, .f32⟩
  | .hbm, ⟨55, _⟩ => ⟨S8192x512, .f32⟩
  | .hbm, ⟨56, _⟩ => ⟨S8192x4x128, .f32⟩
  | .hbm, ⟨57, _⟩ => ⟨S4x128x8192, .f32⟩
  | .hbm, ⟨58, _⟩ => ⟨S4x8192x256, .f32⟩
  | .hbm, ⟨59, _⟩ => ⟨S4x128x256, .f32⟩
  | .hbm, ⟨60, _⟩ => ⟨S256x4x128, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x128, .f32⟩
  | .hbm, ⟨79, _⟩ => ⟨S256x4x128, .f32⟩
  | .hbm, ⟨80, _⟩ => ⟨S4x8192x128, .f32⟩
  | .hbm, ⟨81, _⟩ => ⟨S8192x4x128, .f32⟩
  | .hbm, ⟨82, _⟩ => ⟨S256x512, .f32⟩
  | .hbm, ⟨83, _⟩ => ⟨S256x512, .f32⟩
  | .hbm, ⟨84, _⟩ => ⟨S8192x512, .f32⟩
  | .hbm, ⟨85, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel2.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2048 : Shape := ⟨2, ![8192, 2048]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x5632 : Shape := ⟨2, ![8192, 5632]⟩
abbrev S_ : Shape := ⟨0, ![]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S2048x5632 : Shape := ⟨2, ![2048, 5632]⟩
abbrev S5632x2048 : Shape := ⟨2, ![5632, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S8192x5632, .f32⟩
  | .hbm, ⟨4, _⟩ => ⟨S_, .f32⟩
  | .hbm, ⟨5, _⟩ => ⟨S4x2048x1408, .f32⟩
  | .hbm, ⟨6, _⟩ => ⟨S1x2048x1408, .f32⟩
  | .hbm, ⟨7, _⟩ => ⟨S2048x1408, .f32⟩
  | .hbm, ⟨8, _⟩ => ⟨S1x2048x1408, .f32⟩
  | .hbm, ⟨9, _⟩ => ⟨S2048x1408, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S2048x5632, .f32⟩
  | .hbm, ⟨15, _⟩ => ⟨S8192x5632, .f32⟩
  | .hbm, ⟨16, _⟩ => ⟨S5632x2048, .f32⟩
  | .hbm, ⟨17, _⟩ => ⟨S2048x5632, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S1x2048x1408, .f32⟩
  | .hbm, ⟨23, _⟩ => ⟨S1x2048x1408, .f32⟩
  | .hbm, ⟨24, _⟩ => ⟨S1x2048x1408, .f32⟩
  | .hbm, ⟨25, _⟩ => ⟨S1x2048x1408, .f32⟩
  | .hbm, ⟨26, _⟩ => ⟨S4x2048x1408, .f32⟩
  | .hbm, ⟨27, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Kernel4.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .f32⟩
  | .hbm, ⟨3, _⟩ => ⟨S8192x2048, .f32⟩
  | .hbm, ⟨4, _⟩ => ⟨S_, .f32⟩
  | .hbm, ⟨5, _⟩ => ⟨S8192x5632, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x5632 : Shape := ⟨2, ![8192, 5632]⟩
abbrev S4x2048x1408 : Shape := ⟨3, ![4, 2048, 1408]⟩
abbrev S8192x2048 : Shape := ⟨2, ![8192, 2048]⟩
abbrev S512x5632 : Shape := ⟨2, ![512, 5632]⟩
abbrev S4x512x1408 : Shape := ⟨3, ![4, 512, 1408]⟩
abbrev S512x512 : Shape := ⟨2, ![512, 512]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x5632 : Shape := ⟨2, ![8192, 5632]⟩
abbrev S4x2048x1408 : Shape := ⟨3, ![4, 2048, 1408]⟩
abbrev S8192x2048 : Shape := ⟨2, ![8192, 2048]⟩
abbrev S_ : Shape := ⟨0, ![]⟩
abbrev S1x2048x1408 : Shape := ⟨3, ![1, 2048, 1408]⟩
abbrev S2048x1408 : Shape := ⟨2, ![2048, 1408]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .f32⟩
  | .hbm, ⟨3, _⟩ => ⟨S8192x5632, .f32⟩
  | .hbm, ⟨4, _⟩ => ⟨S4x2048x1408, .f32⟩
  | .hbm, ⟨5, _⟩ => ⟨S_, .f32⟩
  | .hbm, ⟨6, _⟩ => ⟨S8192x2048, .f32⟩
  | .hbm, ⟨7, _⟩ => ⟨S1x2048x1408, .f32⟩
  | .hbm, ⟨8, _⟩ => ⟨S2048x1408, .f32⟩
  | .hbm, ⟨9, _⟩ => ⟨S1x2048x1408, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S2048x5632, .f32⟩
  | .hbm, ⟨16, _⟩ => ⟨S8192x5632, .f32⟩
  | .hbm, ⟨17, _⟩ => ⟨S8192x2048, .f32⟩
  | .hbm, ⟨18, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel6.lean ====
abbrev S8192x5632 : Shape := ⟨2, ![8192, 5632]⟩
abbrev S4x2048x1408 : Shape := ⟨3, ![4, 2048, 1408]⟩
abbrev S8192x2048 : Shape := ⟨2, ![8192, 2048]⟩
abbrev S512x5632 : Shape := ⟨2, ![512, 5632]⟩
abbrev S4x512x1408 : Shape := ⟨3, ![4, 512, 1408]⟩
abbrev S512x512 : Shape := ⟨2, ![512, 512]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S512x512, .f32⟩
  | .local _ .vmem, ⟨5, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S4x2048x1408 : Shape := ⟨3, ![4, 2048, 1408]⟩
abbrev S_ : Shape := ⟨0, ![]⟩
abbrev S8192x2048 : Shape := ⟨2, ![8192, 2048]⟩
abbrev S1x2048x1408 : Shape := ⟨3, ![1, 2048, 1408]⟩
abbrev S2048x1408 : Shape := ⟨2, ![2048, 1408]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x5632, .f32⟩
  | .hbm, ⟨3, _⟩ => ⟨S4x2048x1408, .f32⟩
  | .hbm, ⟨4, _⟩ => ⟨S_, .f32⟩
  | .hbm, ⟨5, _⟩ => ⟨S8192x2048, .f32⟩
  | .hbm, ⟨6, _⟩ => ⟨S1x2048x1408, .f32⟩
  | .hbm, ⟨7, _⟩ => ⟨S2048x1408, .f32⟩
  | .hbm, ⟨8, _⟩ => ⟨S1x2048x1408, .f32⟩
  | .hbm, ⟨9, _⟩ => ⟨S2048x1408, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S2048x5632, .f32⟩
  | .hbm, ⟨15, _⟩ => ⟨S8192x5632, .f32⟩
  | .hbm, ⟨16, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S8192x2048 : Shape := ⟨2, ![8192, 2048]⟩
abbrev S4x2048x1408 : Shape := ⟨3, ![4, 2048, 1408]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S2048x5632 : Shape := ⟨2, ![2048, 5632]⟩
abbrev S8192x5632 : Shape := ⟨2, ![8192, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x2048, .f32⟩
  | .hbm, ⟨3, _⟩ => ⟨S4x2048x1408, .f32⟩
  | .hbm, ⟨4, _⟩ => ⟨S1x2048x1408, .f32⟩
  | .hbm, ⟨5, _⟩ => ⟨S2048x1408, .f32⟩
  | .hbm, ⟨6, _⟩ => ⟨S1x2048x1408, .f32⟩
  | .hbm, ⟨7, _⟩ => ⟨S2048x1408, .f32⟩
  | .hbm, ⟨8, _⟩ => ⟨S1x2048x1408, .f32⟩
  | .hbm, ⟨9, _⟩ => ⟨S2048x1408, .f32⟩
  | .hbm, ⟨10, _⟩ => ⟨S1x2048x1408, .f32⟩
  | .hbm, ⟨11, _⟩ => ⟨S2048x1408, .f32⟩
  | .hbm, ⟨12, _⟩ => ⟨S2048x5632, .f32⟩
  | .hbm, ⟨13, _⟩ => ⟨S8192x5632, .f32⟩
  | .hbm, ⟨14, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel8.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x4096 : Shape := ⟨2, ![8192, 4096]⟩
abbrev S4096x2048 : Shape := ⟨2, ![4096, 2048]⟩
abbrev S8192x2048 : Shape := ⟨2, ![8192, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x2048, .f32⟩
  | .hbm, ⟨3, _⟩ => ⟨S4096x2048, .f32⟩
  | .hbm, ⟨4, _⟩ => ⟨S_, .f32⟩
  | .hbm, ⟨5, _⟩ => ⟨S8192x4096, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .f32⟩
  | .hbm, ⟨3, _⟩ => ⟨S8192x2048, .f32⟩
  | .hbm, ⟨4, _⟩ => ⟨S_, .f32⟩
  | .hbm, ⟨5, _⟩ => ⟨S4096x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x2048, .f32⟩
  | .hbm, ⟨3, _⟩ => ⟨S2048x3072, .f32⟩
  | .hbm, ⟨4, _⟩ => ⟨S8192x3072, .f32⟩
  | .hbm, ⟨5, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x2048 : Shape := ⟨2, ![8192, 2048]⟩
abbrev S2048x6144 : Shape := ⟨2, ![2048, 6144]⟩
abbrev S3x8192x2048 : Shape := ⟨3, ![3, 8192, 2048]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S3x8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x6144 : Shape := ⟨2, ![2048, 6144]⟩
abbrev S8192x6144 : Shape := ⟨2, ![8192, 6144]⟩
abbrev S1x8192x2048 : Shape := ⟨3, ![1, 8192, 2048]⟩
abbrev S3x8192x2048 : Shape := ⟨3, ![3, 8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S3x8192x2048, .f32⟩
  | .hbm, ⟨12, _⟩ => ⟨S3x8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x3072 : Shape := ⟨2, ![8192, 3072]⟩
abbrev S2048x3072 : Shape := ⟨2, ![2048, 3072]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .f32⟩
  | .hbm, ⟨3, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x3072 : Shape := ⟨2, ![8192, 3072]⟩
abbrev S2048x3072 : Shape := ⟨2, ![2048, 3072]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .f32⟩
  | .hbm, ⟨3, _⟩ => ⟨S8192x3072, .f32⟩
  | .hbm, ⟨4, _⟩ => ⟨S2048x3072, .f32⟩
  | .hbm, ⟨5, _⟩ => ⟨S_, .f32⟩
  | .hbm, ⟨6, _⟩ => ⟨S8192x2048, .f32⟩
  | .hbm, ⟨7, _⟩ => ⟨S8192x3072, .f32⟩
  | .hbm, ⟨8, _⟩ => ⟨S8192x2048, .f32⟩
  | .hbm, ⟨9, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S3x8192x2048 : Shape := ⟨3, ![3, 8192, 2048]⟩
abbrev S2048x6144 : Shape := ⟨2, ![2048, 6144]⟩
abbrev S8192x2048 : Shape := ⟨2, ![8192, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S3x8192x2048, .bf16⟩
  | .hbm, ⟨1, _⟩ => ⟨S2048x6144, .bf16⟩
  | .hbm, ⟨2, _⟩ => ⟨S8192x2048, .f32⟩
  | .hbm, ⟨3, _⟩ => ⟨S8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S3x8192x2048 : Shape := ⟨3, ![3, 8192, 2048]⟩
abbrev S2048x6144 : Shape := ⟨2, ![2048, 6144]⟩
abbrev S8192x2048 : Shape := ⟨2, ![8192, 2048]⟩
abbrev S_ : Shape := ⟨0, ![]⟩
abbrev S1x8192x2048 : Shape := ⟨3, ![1, 8192, 2048]⟩
abbrev S8192x6144 : Shape := ⟨2, ![8192, 6144]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S2048x6144, .bf16⟩
  | .hbm, ⟨2, _⟩ => ⟨S8192x2048, .f32⟩
  | .hbm, ⟨3, _⟩ => ⟨S3x8192x2048, .f32⟩
  | .hbm, ⟨4, _⟩ => ⟨S2048x6144, .f32⟩
  | .hbm, ⟨5, _⟩ => ⟨S_, .f32⟩
  | .hbm, ⟨6, _⟩ => ⟨S8192x2048, .f32⟩
  | .hbm, ⟨7, _⟩ => ⟨S1x8192x2048, .f32⟩
  | .hbm, ⟨8, _⟩ => ⟨S8192x2048, .f32⟩
  | .hbm, ⟨9, _⟩ => ⟨S1x8192x2048, .f32⟩
  | .hbm, ⟨10, _⟩ => ⟨S8192x2048, .f32⟩
  | .hbm, ⟨11, _⟩ => ⟨S1x8192x2048, .f32⟩
  | .hbm, ⟨12, _⟩ => ⟨S8192x2048, .f32⟩
  | .hbm, ⟨13, _⟩ => ⟨S8192x6144, .f32⟩
  | .hbm, ⟨14, _⟩ => ⟨S8192x6144, .f32⟩
  | .hbm, ⟨15, _⟩ => ⟨S8192x2048, .f32⟩
  | .hbm, ⟨16, _⟩ => ⟨S8192x2048, .f32⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel18.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S8192x2048 : Shape := ⟨2, ![8192, 2048]⟩
abbrev S8192x3072 : Shape := ⟨2, ![8192, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S8192x2048, .f32⟩
  | .hbm, ⟨3, _⟩ => ⟨S8192x3072, .f32⟩
  | .hbm, ⟨4, _⟩ => ⟨S_, .f32⟩
  | .hbm, ⟨5, _⟩ => ⟨S2048x3072, .f32⟩
  | .hbm, ⟨6, _⟩ => ⟨S8192x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S8192x2048 : Shape := ⟨2, ![8192, 2048]⟩
abbrev S3x8192x2048 : Shape := ⟨3, ![3, 8192, 2048]⟩
abbrev S2048x6144 : Shape := ⟨2, ![2048, 6144]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S3x8192x2048, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S3x8192x2048 : Shape := ⟨3, ![3, 8192, 2048]⟩
abbrev S_ : Shape := ⟨0, ![]⟩
abbrev S2048x6144 : Shape := ⟨2, ![2048, 6144]⟩
abbrev S1x8192x2048 : Shape := ⟨3, ![1, 8192, 2048]⟩
abbrev S8192x6144 : Shape := ⟨2, ![8192, 6144]⟩
abbrev S6144x2048 : Shape := ⟨2, ![6144, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S3x8192x2048, .bf16⟩
  | .hbm, ⟨2, _⟩ => ⟨S8192x2048, .f32⟩
  | .hbm, ⟨3, _⟩ => ⟨S3x8192x2048, .f32⟩
  | .hbm, ⟨4, _⟩ => ⟨S_, .f32⟩
  | .hbm, ⟨5, _⟩ => ⟨S2048x6144, .f32⟩
  | .hbm, ⟨6, _⟩ => ⟨S1x8192x2048, .f32⟩
  | .hbm, ⟨7, _⟩ => ⟨S8192x2048, .f32⟩
  | .hbm, ⟨8, _⟩ => ⟨S1x8192x2048, .f32⟩
  | .hbm, ⟨9, _⟩ => ⟨S8192x2048, .f32⟩
  | .hbm, ⟨10, _⟩ => ⟨S1x8192x2048, .f32⟩
  | .hbm, ⟨11, _⟩ => ⟨S8192x2048, .f32⟩
  | .hbm, ⟨12, _⟩ => ⟨S8192x6144, .f32⟩
  | .hbm, ⟨13, _⟩ => ⟨S8192x6144, .f32⟩
  | .hbm, ⟨14, _⟩ => ⟨S6144x2048, .f32⟩
  | .hbm, ⟨15, _⟩ => ⟨S2048x6144, .f32⟩
  | .hbm, ⟨16, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel21.lean ====
abbrev S8192x2048 : Shape := ⟨2, ![8192, 2048]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S2048x512 : Shape := ⟨2, ![2048, 512]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x2048, .f32⟩
  | .hbm, ⟨3, _⟩ => ⟨S2048x512, .f32⟩
  | .hbm, ⟨4, _⟩ => ⟨S8192x512, .f32⟩
  | .hbm, ⟨5, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x512, .bf16⟩
  | .local _ .vmem, ⟨0, _⟩ => ⟨S256x2048, .bf16⟩
  | .local _ .vmem, ⟨1, _⟩ => ⟨S2048x512, .bf16⟩
  | .local _ .vmem, ⟨2, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S256x2048 : Shape := ⟨2, ![256, 2048]⟩
abbrev S2048x512 : Shape := ⟨2, ![2048, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S256x2048, .f32⟩
  | .hbm, ⟨3, _⟩ => ⟨S2048x512, .f32⟩
  | .hbm, ⟨4, _⟩ => ⟨S256x512, .f32⟩
  | .hbm, ⟨5, _⟩ => ⟨S256x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel23.lean ====
abbrev S8192x512 : Shape := ⟨2, ![8192, 512]⟩
abbrev S4x512x512 : Shape := ⟨3, ![4, 512, 512]⟩
abbrev S8192x2048 : Shape := ⟨2, ![8192, 2048]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S4x512x512, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S8192x512 : Shape := ⟨2, ![8192, 512]⟩
abbrev S4x512x512 : Shape := ⟨3, ![4, 512, 512]⟩
abbrev S8192x2048 : Shape := ⟨2, ![8192, 2048]⟩
abbrev S1x512x512 : Shape := ⟨3, ![1, 512, 512]⟩
abbrev S512x512 : Shape := ⟨2, ![512, 512]⟩
abbrev S512x2048 : Shape := ⟨2, ![512, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x512, .bf16⟩
  | .hbm, ⟨2, _⟩ => ⟨S8192x2048, .f32⟩
  | .hbm, ⟨3, _⟩ => ⟨S8192x512, .f32⟩
  | .hbm, ⟨4, _⟩ => ⟨S4x512x512, .f32⟩
  | .hbm, ⟨5, _⟩ => ⟨S1x512x512, .f32⟩
  | .hbm, ⟨6, _⟩ => ⟨S512x512, .f32⟩
  | .hbm, ⟨7, _⟩ => ⟨S1x512x512, .f32⟩
  | .hbm, ⟨8, _⟩ => ⟨S512x512, .f32⟩
  | .hbm, ⟨9, _⟩ => ⟨S1x512x512, .f32⟩
  | .hbm, ⟨10, _⟩ => ⟨S512x512, .f32⟩
  | .hbm, ⟨11, _⟩ => ⟨S1x512x512, .f32⟩
  | .hbm, ⟨12, _⟩ => ⟨S512x512, .f32⟩
  | .hbm, ⟨13, _⟩ => ⟨S512x2048, .f32⟩
  | .hbm, ⟨14, _⟩ => ⟨S8192x2048, .f32⟩
  | .hbm, ⟨15, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel24.lean ====
abbrev S8192x2048 : Shape := ⟨2, ![8192, 2048]⟩
abbrev S4x512x512 : Shape := ⟨3, ![4, 512, 512]⟩
abbrev S8192x512 : Shape := ⟨2, ![8192, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S8192x512, .bf16⟩
  | .local _ .vmem, ⟨0, _⟩ => ⟨S512x2048, .bf16⟩
  | .local _ .vmem, ⟨1, _⟩ => ⟨S512x2048, .bf16⟩
  | .local _ .vmem, ⟨2, _⟩ => ⟨S4x512x512, .bf16⟩
  | .local _ .vmem, ⟨3, _⟩ => ⟨S512x512, .bf16⟩
  | .local _ .vmem, ⟨4, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S4x512x512 : Shape := ⟨3, ![4, 512, 512]⟩
abbrev S_ : Shape := ⟨0, ![]⟩
abbrev S8192x512 : Shape := ⟨2, ![8192, 512]⟩
abbrev S1x512x512 : Shape := ⟨3, ![1, 512, 512]⟩
abbrev S512x512 : Shape := ⟨2, ![512, 512]⟩
abbrev S512x2048 : Shape := ⟨2, ![512, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S8192x2048, .f32⟩
  | .hbm, ⟨3, _⟩ => ⟨S4x512x512, .f32⟩
  | .hbm, ⟨4, _⟩ => ⟨S_, .f32⟩
  | .hbm, ⟨5, _⟩ => ⟨S8192x512, .f32⟩
  | .hbm, ⟨6, _⟩ => ⟨S1x512x512, .f32⟩
  | .hbm, ⟨7, _⟩ => ⟨S512x512, .f32⟩
  | .hbm, ⟨8, _⟩ => ⟨S1x512x512, .f32⟩
  | .hbm, ⟨9, _⟩ => ⟨S512x512, .f32⟩
  | .hbm, ⟨10, _⟩ => ⟨S1x512x512, .f32⟩
  | .hbm, ⟨11, _⟩ => ⟨S512x512, .f32⟩
  | .hbm, ⟨12, _⟩ => ⟨S1x512x512, .f32⟩
  | .hbm, ⟨13, _⟩ => ⟨S512x512, .f32⟩
  | .hbm, ⟨14, _⟩ => ⟨S512x2048, .f32⟩
  | .hbm, ⟨15, _⟩ => ⟨S8192x2048, .f32⟩
  | .hbm, ⟨16, _⟩ => ⟨S8192x512, .f32⟩
  | .hbm, ⟨17, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel25.lean ====
abbrev S8192x512 : Shape := ⟨2, ![8192, 512]⟩
abbrev S8192x2048 : Shape := ⟨2, ![8192, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x512 : Shape := ⟨2, ![8192, 512]⟩
abbrev S8192x2048 : Shape := ⟨2, ![8192, 2048]⟩
abbrev S_ : Shape := ⟨0, ![]⟩
abbrev S4x512x512 : Shape := ⟨3, ![4, 512, 512]⟩
abbrev S1x512x512 : Shape := ⟨3, ![1, 512, 512]⟩
abbrev S512x512 : Shape := ⟨2, ![512, 512]⟩
abbrev S512x2048 : Shape := ⟨2, ![512, 2048]⟩
abbrev S2048x512 : Shape := ⟨2, ![2048, 512]⟩

abbrev nBuf : Space → Nat
  | .hbm => 28
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .f32⟩
  | .hbm, ⟨3, _⟩ => ⟨S8192x2048, .f32⟩
  | .hbm, ⟨4, _⟩ => ⟨S_, .f32⟩
  | .hbm, ⟨5, _⟩ => ⟨S4x512x512, .f32⟩
  | .hbm, ⟨6, _⟩ => ⟨S1x512x512, .f32⟩
  | .hbm, ⟨7, _⟩ => ⟨S512x512, .f32⟩
  | .hbm, ⟨8, _⟩ => ⟨S1x512x512, .f32⟩
  | .hbm, ⟨9, _⟩ => ⟨S512x512, .f32⟩
  | .hbm, ⟨10, _⟩ => ⟨S1x512x512, .f32⟩
  | .hbm, ⟨11, _⟩ => ⟨S512x512, .f32⟩
  | .hbm, ⟨12, _⟩ => ⟨S1x512x512, .f32⟩
  | .hbm, ⟨13, _⟩ => ⟨S512x512, .f32⟩
  | .hbm, ⟨14, _⟩ => ⟨S512x2048, .f32⟩
  | .hbm, ⟨15, _⟩ => ⟨S8192x2048, .f32⟩
  | .hbm, ⟨16, _⟩ => ⟨S2048x512, .f32⟩
  | .hbm, ⟨17, _⟩ => ⟨S512x2048, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S1x512x512, .f32⟩
  | .hbm, ⟨23, _⟩ => ⟨S1x512x512, .f32⟩
  | .hbm, ⟨24, _⟩ => ⟨S1x512x512, .f32⟩
  | .hbm, ⟨25, _⟩ => ⟨S1x512x512, .f32⟩
  | .hbm, ⟨26, _⟩ => ⟨S4x512x512, .f32⟩
  | .hbm, ⟨27, _⟩ => ⟨S4x512x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Kernel26.lean ====
abbrev S8192x2048 : Shape := ⟨2, ![8192, 2048]⟩
abbrev S8192x512 : Shape := ⟨2, ![8192, 512]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x2048, .f32⟩
  | .hbm, ⟨3, _⟩ => ⟨S8192x512, .f32⟩
  | .hbm, ⟨4, _⟩ => ⟨S_, .f32⟩
  | .hbm, ⟨5, _⟩ => ⟨S2048x512, .f32⟩
  | .hbm, ⟨6, _⟩ => ⟨S8192x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel27.lean ====
abbrev S256x2048 : Shape := ⟨2, ![256, 2048]⟩
abbrev S256x512 : Shape := ⟨2, ![256, 512]⟩
abbrev S2048x512 : Shape := ⟨2, ![2048, 512]⟩
abbrev S256x1024 : Shape := ⟨2, ![256, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x512, .f32⟩
  | .hbm, ⟨2, _⟩ => ⟨S2048x512, .bf16⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S1024x512, .bf16⟩
  | .local _ .vmem, ⟨4, _⟩ => ⟨S1024x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S256x2048 : Shape := ⟨2, ![256, 2048]⟩
abbrev S256x512 : Shape := ⟨2, ![256, 512]⟩
abbrev S_ : Shape := ⟨0, ![]⟩
abbrev S2048x512 : Shape := ⟨2, ![2048, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x512, .f32⟩
  | .hbm, ⟨2, _⟩ => ⟨S256x2048, .f32⟩
  | .hbm, ⟨3, _⟩ => ⟨S_, .f32⟩
  | .hbm, ⟨4, _⟩ => ⟨S2048x512, .f32⟩
  | .hbm, ⟨5, _⟩ => ⟨S256x512, .f32⟩
  | .hbm, ⟨6, _⟩ => ⟨S512x2048, .f32⟩
  | .hbm, ⟨7, _⟩ => ⟨S2048x512, .f32⟩
  | .hbm, ⟨8, _⟩ => ⟨S2048x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S8192x512 : Shape := ⟨2, ![8192, 512]⟩
abbrev S2048x512 : Shape := ⟨2, ![2048, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S2048x512, .bf16⟩
  | .hbm, ⟨2, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x512 : Shape := ⟨2, ![8192, 512]⟩
abbrev S2048x512 : Shape := ⟨2, ![2048, 512]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2048x512, .bf16⟩
  | .hbm, ⟨2, _⟩ => ⟨S8192x512, .f32⟩
  | .hbm, ⟨3, _⟩ => ⟨S2048x512, .f32⟩
  | .hbm, ⟨4, _⟩ => ⟨S_, .f32⟩
  | .hbm, ⟨5, _⟩ => ⟨S8192x2048, .f32⟩
  | .hbm, ⟨6, _⟩ => ⟨S8192x512, .f32⟩
  | .hbm, ⟨7, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel29.lean ====
abbrev S256x512 : Shape := ⟨2, ![256, 512]⟩
abbrev S2048x512 : Shape := ⟨2, ![2048, 512]⟩
abbrev S256x2048 : Shape := ⟨2, ![256, 2048]⟩
abbrev S1024x512 : Shape := ⟨2, ![1024, 512]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S2048x512, .bf16⟩
  | .hbm, ⟨2, _⟩ => ⟨S256x2048, .f32⟩
  | .local _ .vmem, ⟨0, _⟩ => ⟨S256x512, .f32⟩
  | .local _ .vmem, ⟨1, _⟩ => ⟨S1024x512, .bf16⟩
  | .local _ .vmem, ⟨2, _⟩ => ⟨S1024x512, .bf16⟩
  | .local _ .vmem, ⟨3, _⟩ => ⟨S256x1024, .f32⟩
  | .local _ .vmem, ⟨4, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S256x512 : Shape := ⟨2, ![256, 512]⟩
abbrev S2048x512 : Shape := ⟨2, ![2048, 512]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S2048x512, .bf16⟩
  | .hbm, ⟨2, _⟩ => ⟨S2048x512, .f32⟩
  | .hbm, ⟨3, _⟩ => ⟨S_, .f32⟩
  | .hbm, ⟨4, _⟩ => ⟨S256x2048, .f32⟩
  | .hbm, ⟨5, _⟩ => ⟨S256x512, .f32⟩
  | .hbm, ⟨6, _⟩ => ⟨S256x2048, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel30.lean ====
abbrev S256x512 : Shape := ⟨2, ![256, 512]⟩
abbrev S2048x512 : Shape := ⟨2, ![2048, 512]⟩
abbrev S256x2048 : Shape := ⟨2, ![256, 2048]⟩
abbrev S1024x512 : Shape := ⟨2, ![1024, 512]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S2048x512, .bf16⟩
  | .hbm, ⟨2, _⟩ => ⟨S256x2048, .f32⟩
  | .hbm, ⟨3, _⟩ => ⟨S256x2048, .f32⟩
  | .local _ .vmem, ⟨0, _⟩ => ⟨S256x512, .f32⟩
  | .local _ .vmem, ⟨1, _⟩ => ⟨S1024x512, .bf16⟩
  | .local _ .vmem, ⟨2, _⟩ => ⟨S1024x512, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference30Ideal.lean ====
abbrev S256x512 : Shape := ⟨2, ![256, 512]⟩
abbrev S2048x512 : Shape := ⟨2, ![2048, 512]⟩
abbrev S256x2048 : Shape := ⟨2, ![256, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S2048x512, .bf16⟩
  | .hbm, ⟨2, _⟩ => ⟨S256x2048, .f32⟩
  | .hbm, ⟨3, _⟩ => ⟨S2048x512, .f32⟩
  | .hbm, ⟨4, _⟩ => ⟨S_, .f32⟩
  | .hbm, ⟨5, _⟩ => ⟨S256x2048, .f32⟩
  | .hbm, ⟨6, _⟩ => ⟨S256x512, .f32⟩
  | .hbm, ⟨7, _⟩ => ⟨S256x2048, .f32⟩
  | .hbm, ⟨8, _⟩ => ⟨S256x2048, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel31.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel32.lean ====
abbrev S8192x128 : Shape := ⟨2, ![8192, 128]⟩
abbrev S2048x128 : Shape := ⟨2, ![2048, 128]⟩
abbrev S8192x2048 : Shape := ⟨2, ![8192, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S2048x128, .bf16⟩
  | .hbm, ⟨2, _⟩ => ⟨S8192x2048, .f32⟩
  | .hbm, ⟨3, _⟩ => ⟨S8192x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference32Ideal.lean ====
abbrev S8192x128 : Shape := ⟨2, ![8192, 128]⟩
abbrev S2048x128 : Shape := ⟨2, ![2048, 128]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S_, .f32⟩
  | .hbm, ⟨5, _⟩ => ⟨S8192x2048, .f32⟩
  | .hbm, ⟨6, _⟩ => ⟨S8192x128, .f32⟩
  | .hbm, ⟨7, _⟩ => ⟨S8192x2048, .f32⟩
  | .hbm, ⟨8, _⟩ => ⟨S8192x2048, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel33.lean ====
abbrev S8192x2048 : Shape := ⟨2, ![8192, 2048]⟩
abbrev S8192x128 : Shape := ⟨2, ![8192, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x128, .f32⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S8192x2048 : Shape := ⟨2, ![8192, 2048]⟩
abbrev S8192x128 : Shape := ⟨2, ![8192, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .f32⟩
  | .hbm, ⟨2, _⟩ => ⟨S8192x2048, .f32⟩
  | .hbm, ⟨3, _⟩ => ⟨S_, .f32⟩
  | .hbm, ⟨4, _⟩ => ⟨S2048x128, .f32⟩
  | .hbm, ⟨5, _⟩ => ⟨S8192x128, .f32⟩
  | .hbm, ⟨6, _⟩ => ⟨S128x2048, .f32⟩
  | .hbm, ⟨7, _⟩ => ⟨S2048x128, .f32⟩
  | .hbm, ⟨8, _⟩ => ⟨S2048x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel34.lean ====
abbrev S8192x3072 : Shape := ⟨2, ![8192, 3072]⟩
abbrev S4x8192x128 : Shape := ⟨3, ![4, 8192, 128]⟩
abbrev S128x8192 : Shape := ⟨2, ![128, 8192]⟩
abbrev S8192x2048 : Shape := ⟨2, ![8192, 2048]⟩
abbrev S32x16x128x128 : Shape := ⟨4, ![32, 16, 128, 128]⟩
abbrev S8192x4096 : Shape := ⟨2, ![8192, 4096]⟩
abbrev S1x2048 : Shape := ⟨2, ![1, 2048]⟩
abbrev S256x768 : Shape := ⟨2, ![256, 768]⟩
abbrev S1x256x128 : Shape := ⟨3, ![1, 256, 128]⟩
abbrev S8x256 : Shape := ⟨2, ![8, 256]⟩
abbrev S256x512 : Shape := ⟨2, ![256, 512]⟩
abbrev S1x4x128x128 : Shape := ⟨4, ![1, 4, 128, 128]⟩
abbrev S1x512 : Shape := ⟨2, ![1, 512]⟩
abbrev S4x128x128 : Shape := ⟨3, ![4, 128, 128]⟩
abbrev S256x128 : Shape := ⟨2, ![256, 128]⟩
abbrev S256 : Shape := ⟨1, ![256]⟩
abbrev S256x1 : Shape := ⟨2, ![256, 1]⟩
abbrev S512 : Shape := ⟨1, ![512]⟩
abbrev S256x256 : Shape := ⟨2, ![256, 256]⟩
abbrev S1x128 : Shape := ⟨2, ![1, 128]⟩
abbrev S128x1 : Shape := ⟨2, ![128, 1]⟩
abbrev S1x1 : Shape := ⟨2, ![1, 1]⟩
abbrev S1x1x128x128 : Shape := ⟨4, ![1, 1, 128, 128]⟩
abbrev S128x128 : Shape := ⟨2, ![128, 128]⟩
abbrev S1x128x128 : Shape := ⟨3, ![1, 128, 128]⟩
abbrev S1x256 : Shape := ⟨2, ![1, 256]⟩
abbrev S128 : Shape := ⟨1, ![128]⟩
abbrev S1 : Shape := ⟨1, ![1]⟩

abbrev nBuf : Space → Nat
  | .hbm => 16
  | .vmem => 33
  | .smem => 0
  | _ => 0

abbrev bufTy : (tb : Table) → Fin (tcTables nBuf tb) → BufTy
  | .hbm, ⟨0, _⟩ => ⟨S8192x3072, .bf16⟩
  | .hbm, ⟨1, _⟩ => ⟨S4x8192x128, .f32⟩
  | .hbm, ⟨2, _⟩ => ⟨S4x8192x128, .f32⟩
  | .hbm, ⟨3, _⟩ => ⟨S128x8192, .f32⟩
  | .hbm, ⟨4, _⟩ => ⟨S8192x2048, .bf16⟩
  | .hbm, ⟨5, _⟩ => ⟨S8192x2048, .bf16⟩
  | .hbm, ⟨6, _⟩ => ⟨S32x16x128x128, .f32⟩
  | .hbm, ⟨7, _⟩ => ⟨S8192x4096, .bf16⟩
  | .hbm, ⟨8, _⟩ => ⟨S1x2048, .f32⟩
  | .hbm, ⟨9, _⟩ => ⟨S1x2048, .f32⟩
  | .hbm, ⟨10, _⟩ => ⟨S8192x3072, .bf16⟩
  | .hbm, ⟨11, _⟩ => ⟨S8192x2048, .bf16⟩
  | .hbm, ⟨12, _⟩ => ⟨S4x8192x128, .f32⟩
  | .hbm, ⟨13, _⟩ => ⟨S4x8192x128, .f32⟩
  | .hbm, ⟨14, _⟩ => ⟨S1x2048, .f32⟩
  | .hbm, ⟨15, _⟩ => ⟨S1x2048, .f32⟩
  | .local _ .vmem, ⟨0, _⟩ => ⟨S256x768, .bf16⟩
  | .local _ .vmem, ⟨1, _⟩ => ⟨S256x768, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S8x256, .f32⟩
  | .local _ .vmem, ⟨7, _⟩ => ⟨S8x256, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x4x128x128, .f32⟩
  | .local _ .vmem, ⟨13, _⟩ => ⟨S1x4x128x128, .f32⟩
  | .local _ .vmem, ⟨14, _⟩ => ⟨S256x512, .bf16⟩
  | .local _ .vmem, ⟨15, _⟩ => ⟨S256x512, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S256x768, .bf16⟩
  | .local _ .vmem, ⟨21, _⟩ => ⟨S256x768, .bf16⟩
  | .local _ .vmem, ⟨22, _⟩ => ⟨S256x512, .bf16⟩
  | .local _ .vmem, ⟨23, _⟩ => ⟨S256x512, .bf16⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S4x128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_6 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference34Ideal.lean ====
abbrev S8192x3072 : Shape := ⟨2, ![8192, 3072]⟩
abbrev S4x8192x128 : Shape := ⟨3, ![4, 8192, 128]⟩
abbrev S128x8192 : Shape := ⟨2, ![128, 8192]⟩
abbrev S8192x2048 : Shape := ⟨2, ![8192, 2048]⟩
abbrev S32x16x128x128 : Shape := ⟨4, ![32, 16, 128, 128]⟩
abbrev S8192x4096 : Shape := ⟨2, ![8192, 4096]⟩
abbrev S1x2048 : Shape := ⟨2, ![1, 2048]⟩
abbrev S8192x4x768 : Shape := ⟨3, ![8192, 4, 768]⟩
abbrev S8192x4x512 : Shape := ⟨3, ![8192, 4, 512]⟩
abbrev S_ : Shape := ⟨0, ![]⟩
abbrev S8192x4 : Shape := ⟨2, ![8192, 4]⟩
abbrev S8192x4x1 : Shape := ⟨3, ![8192, 4, 1]⟩
abbrev S2048 : Shape := ⟨1, ![2048]⟩

abbrev nBuf : Space → Nat
  | .hbm => 91
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x8192x128, .f32⟩
  | .hbm, ⟨2, _⟩ => ⟨S4x8192x128, .f32⟩
  | .hbm, ⟨3, _⟩ => ⟨S128x8192, .f32⟩
  | .hbm, ⟨4, _⟩ => ⟨S8192x2048, .bf16⟩
  | .hbm, ⟨5, _⟩ => ⟨S8192x2048, .bf16⟩
  | .hbm, ⟨6, _⟩ => ⟨S32x16x128x128, .f32⟩
  | .hbm, ⟨7, _⟩ => ⟨S8192x4096, .bf16⟩
  | .hbm, ⟨8, _⟩ => ⟨S1x2048, .f32⟩
  | .hbm, ⟨9, _⟩ => ⟨S1x2048, .f32⟩
  | .hbm, ⟨10, _⟩ => ⟨S8192x3072, .f32⟩
  | .hbm, ⟨11, _⟩ => ⟨S8192x4x768, .f32⟩
  | .hbm, ⟨12, _⟩ => ⟨S8192x4x512, .f32⟩
  | .hbm, ⟨13, _⟩ => ⟨S8192x2048, .f32⟩
  | .hbm, ⟨14, _⟩ => ⟨S8192x4096, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x4x512, .f32⟩
  | .hbm, ⟨33, _⟩ => ⟨S8192x4x512, .f32⟩
  | .hbm, ⟨34, _⟩ => ⟨S_, .f32⟩
  | .hbm, ⟨35, _⟩ => ⟨S8192x4, .f32⟩
  | .hbm, ⟨36, _⟩ => ⟨S8192x4x1, .f32⟩
  | .hbm, ⟨37, _⟩ => ⟨S_, .f32⟩
  | .hbm, ⟨38, _⟩ => ⟨S8192x4x1, .f32⟩
  | .hbm, ⟨39, _⟩ => ⟨S8192x4x1, .f32⟩
  | .hbm, ⟨40, _⟩ => ⟨S_, .f32⟩
  | .hbm, ⟨41, _⟩ => ⟨S8192x4x1, .f32⟩
  | .hbm, ⟨42, _⟩ => ⟨S8192x4x1, .f32⟩
  | .hbm, ⟨43, _⟩ => ⟨S8192x4x1, .f32⟩
  | .hbm, ⟨44, _⟩ => ⟨S8192x4x1, .f32⟩
  | .hbm, ⟨45, _⟩ => ⟨S_, .f32⟩
  | .hbm, ⟨46, _⟩ => ⟨S8192x4x1, .f32⟩
  | .hbm, ⟨47, _⟩ => ⟨S8192x4x1, .f32⟩
  | .hbm, ⟨48, _⟩ => ⟨S8192x4x512, .f32⟩
  | .hbm, ⟨49, _⟩ => ⟨S8192x4x512, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S8192x4x512, .f32⟩
  | .hbm, ⟨60, _⟩ => ⟨S8192x4x512, .f32⟩
  | .hbm, ⟨61, _⟩ => ⟨S_, .f32⟩
  | .hbm, ⟨62, _⟩ => ⟨S8192x4, .f32⟩
  | .hbm, ⟨63, _⟩ => ⟨S8192x4x1, .f32⟩
  | .hbm, ⟨64, _⟩ => ⟨S8192x4x512, .f32⟩
  | .hbm, ⟨65, _⟩ => ⟨S8192x4x512, .f32⟩
  | .hbm, ⟨66, _⟩ => ⟨S8192x4x1, .f32⟩
  | .hbm, ⟨67, _⟩ => ⟨S_, .f32⟩
  | .hbm, ⟨68, _⟩ => ⟨S8192x4x1, .f32⟩
  | .hbm, ⟨69, _⟩ => ⟨S8192x4x1, .f32⟩
  | .hbm, ⟨70, _⟩ => ⟨S_, .f32⟩
  | .hbm, ⟨71, _⟩ => ⟨S8192x4, .f32⟩
  | .hbm, ⟨72, _⟩ => ⟨S8192x4x512, .f32⟩
  | .hbm, ⟨73, _⟩ => ⟨S8192x4x512, .f32⟩
  | .hbm, ⟨74, _⟩ => ⟨S8192x4x512, .f32⟩
  | .hbm, ⟨75, _⟩ => ⟨S8192x4x512, .f32⟩
  | .hbm, ⟨76, _⟩ => ⟨S8192x4x512, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S2048, .f32⟩
  | .hbm, ⟨89, _⟩ => ⟨S1x2048, .f32⟩
  | .hbm, ⟨90, _⟩ => ⟨S8192x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_v8_2 : Ref sig .tc := ⟨.hbm, 25, rfl⟩
abbrev main_call0_cst_1 : Ref sig .tc := ⟨.hbm, 26, rfl⟩
abbrev main_call0_v6 : Ref sig .tc := ⟨.hbm, 27, rfl⟩
abbrev main_call0_v7 : Ref sig .tc := ⟨.hbm, 28, rfl⟩
abbrev main_v8_1 : Ref sig .tc := ⟨.hbm, 29, rfl⟩
abbrev main_v8_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]
-- ==== Kernel35.lean ====
abbrev S8192x5632 : Shape := ⟨2, ![8192, 5632]⟩
abbrev S512x1408 : Shape := ⟨2, ![512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference35Ideal.lean ====
abbrev S8192x5632 : Shape := ⟨2, ![8192, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel36.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference36Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel37.lean ====
abbrev S8192x3072 : Shape := ⟨2, ![8192, 3072]⟩
abbrev S4x3072 : Shape := ⟨2, ![4, 3072]⟩
abbrev S1x3072 : Shape := ⟨2, ![1, 3072]⟩
abbrev S256x768 : Shape := ⟨2, ![256, 768]⟩
abbrev S16x768 : Shape := ⟨2, ![16, 768]⟩
abbrev S4x768 : Shape := ⟨2, ![4, 768]⟩
abbrev S1x768 : Shape := ⟨2, ![1, 768]⟩
abbrev S288x768 : Shape := ⟨2, ![288, 768]⟩
abbrev S768 : Shape := ⟨1, ![768]⟩

abbrev nBuf : Space → Nat
  | .hbm => 7
  | .vmem => 20
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S4x3072, .f32⟩
  | .hbm, ⟨3, _⟩ => ⟨S1x3072, .f32⟩
  | .hbm, ⟨4, _⟩ => ⟨S8192x3072, .bf16⟩
  | .hbm, ⟨5, _⟩ => ⟨S4x3072, .f32⟩
  | .hbm, ⟨6, _⟩ => ⟨S1x3072, .f32⟩
  | .local _ .vmem, ⟨0, _⟩ => ⟨S256x768, .bf16⟩
  | .local _ .vmem, ⟨1, _⟩ => ⟨S256x768, .bf16⟩
  | .local _ .vmem, ⟨2, _⟩ => ⟨S16x768, .bf16⟩
  | .local _ .vmem, ⟨3, _⟩ => ⟨S16x768, .bf16⟩
  | .local _ .vmem, ⟨4, _⟩ => ⟨S256x768, .bf16⟩
  | .local _ .vmem, ⟨5, _⟩ => ⟨S256x768, .bf16⟩
  | .local _ .vmem, ⟨6, _⟩ => ⟨S16x768, .bf16⟩
  | .local _ .vmem, ⟨7, _⟩ => ⟨S16x768, .bf16⟩
  | .local _ .vmem, ⟨8, _⟩ => ⟨S16x768, .bf16⟩
  | .local _ .vmem, ⟨9, _⟩ => ⟨S16x768, .bf16⟩
  | .local _ .vmem, ⟨10, _⟩ => ⟨S4x768, .f32⟩
  | .local _ .vmem, ⟨11, _⟩ => ⟨S4x768, .f32⟩
  | .local _ .vmem, ⟨12, _⟩ => ⟨S1x768, .f32⟩
  | .local _ .vmem, ⟨13, _⟩ => ⟨S1x768, .f32⟩
  | .local _ .vmem, ⟨14, _⟩ => ⟨S256x768, .bf16⟩
  | .local _ .vmem, ⟨15, _⟩ => ⟨S256x768, .bf16⟩
  | .local _ .vmem, ⟨16, _⟩ => ⟨S4x768, .f32⟩
  | .local _ .vmem, ⟨17, _⟩ => ⟨S4x768, .f32⟩
  | .local _ .vmem, ⟨18, _⟩ => ⟨S1x768, .f32⟩
  | .local _ .vmem, ⟨19, _⟩ => ⟨S1x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32_28 : BitVec 32 := 0#32
  let v98 : BitVec 1 := Scalar.cmpi .eq arg1 c0_i32_28
  let v99 : BitVec 32 := Scalar.extui v98
  let c0_i32_29 : BitVec 32 := 0#32
  let v100 : BitVec 1 := Scalar.cmpi .ne v99 c0_i32_29
  v100

def k0_cond2 (i : grid0.Coords) : BitVec 1 :=
  let arg1 : BitVec 32 := BitVec.ofNat 32 (i 1).val
  let c0_i32_30 : BitVec 32 := 0#32
  let v101 : BitVec 1 := Scalar.cmpi .sgt arg1 c0_i32_30
  let v102 : BitVec 32 := Scalar.extui v101
  let c0_i32_31 : BitVec 32 := 0#32
  let v103 : BitVec 1 := Scalar.cmpi .ne v102 c0_i32_31
  v103

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference37Ideal.lean ====
abbrev S8192x3072 : Shape := ⟨2, ![8192, 3072]⟩
abbrev S4x3072 : Shape := ⟨2, ![4, 3072]⟩
abbrev S1x3072 : Shape := ⟨2, ![1, 3072]⟩
abbrev S_ : Shape := ⟨0, ![]⟩
abbrev S3x3072 : Shape := ⟨2, ![3, 3072]⟩
abbrev S8195x3072 : Shape := ⟨2, ![8195, 3072]⟩
abbrev S3072 : Shape := ⟨1, ![3072]⟩

abbrev nBuf : Space → Nat
  | .hbm => 104
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S4x3072, .f32⟩
  | .hbm, ⟨3, _⟩ => ⟨S1x3072, .f32⟩
  | .hbm, ⟨4, _⟩ => ⟨S8192x3072, .f32⟩
  | .hbm, ⟨5, _⟩ => ⟨S_, .f32⟩
  | .hbm, ⟨6, _⟩ => ⟨S3x3072, .f32⟩
  | .hbm, ⟨7, _⟩ => ⟨S8195x3072, .f32⟩
  | .hbm, ⟨8, _⟩ => ⟨S_, .f32⟩
  | .hbm, ⟨9, _⟩ => ⟨S3x3072, .f32⟩
  | .hbm, ⟨10, _⟩ => ⟨S8192x3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S_, .f32⟩
  | .hbm, ⟨37, _⟩ => ⟨S8192x3072, .f32⟩
  | .hbm, ⟨38, _⟩ => ⟨S8192x3072, .f32⟩
  | .hbm, ⟨39, _⟩ => ⟨S_, .f32⟩
  | .hbm, ⟨40, _⟩ => ⟨S8192x3072, .f32⟩
  | .hbm, ⟨41, _⟩ => ⟨S8192x3072, .f32⟩
  | .hbm, ⟨42, _⟩ => ⟨S_, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x3072, .f32⟩
  | .hbm, ⟨49, _⟩ => ⟨S8192x3072, .f32⟩
  | .hbm, ⟨50, _⟩ => ⟨S8192x3072, .f32⟩
  | .hbm, ⟨51, _⟩ => ⟨S8192x3072, .f32⟩
  | .hbm, ⟨52, _⟩ => ⟨S_, .f32⟩
  | .hbm, ⟨53, _⟩ => ⟨S3072, .f32⟩
  | .hbm, ⟨54, _⟩ => ⟨S1x3072, .f32⟩
  | .hbm, ⟨55, _⟩ => ⟨S8192x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S8192x3072, .f32⟩
  | .hbm, ⟨60, _⟩ => ⟨S8192x3072, .f32⟩
  | .hbm, ⟨61, _⟩ => ⟨S_, .f32⟩
  | .hbm, ⟨62, _⟩ => ⟨S4x3072, .f32⟩
  | .hbm, ⟨63, _⟩ => ⟨S_, .f32⟩
  | .hbm, ⟨64, _⟩ => ⟨S8195x3072, .f32⟩
  | .hbm, ⟨65, _⟩ => ⟨S8192x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S8192x3072, .f32⟩
  | .hbm, ⟨70, _⟩ => ⟨S8192x3072, .f32⟩
  | .hbm, ⟨71, _⟩ => ⟨S_, .f32⟩
  | .hbm, ⟨72, _⟩ => ⟨S4x3072, .f32⟩
  | .hbm, ⟨73, _⟩ => ⟨S4x3072, .f32⟩
  | .hbm, ⟨74, _⟩ => ⟨S_, .f32⟩
  | .hbm, ⟨75, _⟩ => ⟨S8195x3072, .f32⟩
  | .hbm, ⟨76, _⟩ => ⟨S8195x3072, .f32⟩
  | .hbm, ⟨77, _⟩ => ⟨S8192x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S8192x3072, .f32⟩
  | .hbm, ⟨82, _⟩ => ⟨S8192x3072, .f32⟩
  | .hbm, ⟨83, _⟩ => ⟨S_, .f32⟩
  | .hbm, ⟨84, _⟩ => ⟨S4x3072, .f32⟩
  | .hbm, ⟨85, _⟩ => ⟨S4x3072, .f32⟩
  | .hbm, ⟨86, _⟩ => ⟨S_, .f32⟩
  | .hbm, ⟨87, _⟩ => ⟨S8195x3072, .f32⟩
  | .hbm, ⟨88, _⟩ => ⟨S8195x3072, .f32⟩
  | .hbm, ⟨89, _⟩ => ⟨S8192x3072, .f32⟩
  | .hbm, ⟨90, _⟩ => ⟨S_, .f32⟩
  | .hbm, ⟨91, _⟩ => ⟨S3072, .f32⟩
  | .hbm, ⟨92, _⟩ => ⟨S1x3072, .f32⟩
  | .hbm, ⟨93, _⟩ => ⟨S8192x3072, .f32⟩
  | .hbm, ⟨94, _⟩ => ⟨S8192x3072, .f32⟩
  | .hbm, ⟨95, _⟩ => ⟨S_, .f32⟩
  | .hbm, ⟨96, _⟩ => ⟨S4x3072, .f32⟩
  | .hbm, ⟨97, _⟩ => ⟨S4x3072, .f32⟩
  | .hbm, ⟨98, _⟩ => ⟨S_, .f32⟩
  | .hbm, ⟨99, _⟩ => ⟨S8195x3072, .f32⟩
  | .hbm, ⟨100, _⟩ => ⟨S8195x3072, .f32⟩
  | .hbm, ⟨101, _⟩ => ⟨S3x3072, .f32⟩
  | .hbm, ⟨102, _⟩ => ⟨S8192x3072, .f32⟩
  | .hbm, ⟨103, _⟩ => ⟨S8192x3072, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v27_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v27_1 : Ref sig .tc := ⟨.hbm, 45, rfl⟩
abbrev main_v27_0 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Kernel39.lean ====
abbrev S4x512x512 : Shape := ⟨3, ![4, 512, 512]⟩
abbrev S512x512 : Shape := ⟨2, ![512, 512]⟩
abbrev S1x128x512 : Shape := ⟨3, ![1, 128, 512]⟩
abbrev S128x512 : Shape := ⟨2, ![128, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S512x512, .f32⟩
  | .hbm, ⟨4, _⟩ => ⟨S4x512x512, .f32⟩
  | .hbm, ⟨5, _⟩ => ⟨S4x512x512, .f32⟩
  | .hbm, ⟨6, _⟩ => ⟨S4x512x512, .f32⟩
  | .hbm, ⟨7, _⟩ => ⟨S4x512x512, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S4x512x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | .local _ .vmem, ⟨7, _⟩ => ⟨S128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S4x512x512 : Shape := ⟨3, ![4, 512, 512]⟩
abbrev S512x512 : Shape := ⟨2, ![512, 512]⟩
abbrev S1x512x512 : Shape := ⟨3, ![1, 512, 512]⟩
abbrev S_ : Shape := ⟨0, ![]⟩
abbrev S3x512x512 : Shape := ⟨3, ![3, 512, 512]⟩

abbrev nBuf : Space → Nat
  | .hbm => 59
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S512x512, .f32⟩
  | .hbm, ⟨4, _⟩ => ⟨S4x512x512, .f32⟩
  | .hbm, ⟨5, _⟩ => ⟨S4x512x512, .f32⟩
  | .hbm, ⟨6, _⟩ => ⟨S4x512x512, .f32⟩
  | .hbm, ⟨7, _⟩ => ⟨S4x512x512, .f32⟩
  | .hbm, ⟨8, _⟩ => ⟨S1x512x512, .f32⟩
  | .hbm, ⟨9, _⟩ => ⟨S512x512, .f32⟩
  | .hbm, ⟨10, _⟩ => ⟨S1x512x512, .f32⟩
  | .hbm, ⟨11, _⟩ => ⟨S512x512, .f32⟩
  | .hbm, ⟨12, _⟩ => ⟨S1x512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S1x512x512, .f32⟩
  | .hbm, ⟨48, _⟩ => ⟨S3x512x512, .f32⟩
  | .hbm, ⟨49, _⟩ => ⟨S4x512x512, .f32⟩
  | .hbm, ⟨50, _⟩ => ⟨S1x512x512, .f32⟩
  | .hbm, ⟨51, _⟩ => ⟨S3x512x512, .f32⟩
  | .hbm, ⟨52, _⟩ => ⟨S4x512x512, .f32⟩
  | .hbm, ⟨53, _⟩ => ⟨S1x512x512, .f32⟩
  | .hbm, ⟨54, _⟩ => ⟨S3x512x512, .f32⟩
  | .hbm, ⟨55, _⟩ => ⟨S4x512x512, .f32⟩
  | .hbm, ⟨56, _⟩ => ⟨S1x512x512, .f32⟩
  | .hbm, ⟨57, _⟩ => ⟨S3x512x512, .f32⟩
  | .hbm, ⟨58, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel40.lean ====
abbrev S4x2048x1408 : Shape := ⟨3, ![4, 2048, 1408]⟩
abbrev S2048x1408 : Shape := ⟨2, ![2048, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference40Ideal.lean ====
abbrev S4x2048x1408 : Shape := ⟨3, ![4, 2048, 1408]⟩
abbrev S2048x1408 : Shape := ⟨2, ![2048, 1408]⟩
abbrev S1x2048x1408 : Shape := ⟨3, ![1, 2048, 1408]⟩
abbrev S_ : Shape := ⟨0, ![]⟩
abbrev S3x2048x1408 : Shape := ⟨3, ![3, 2048, 1408]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S1x2048x1408, .f32⟩
  | .hbm, ⟨9, _⟩ => ⟨S2048x1408, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | .hbm, ⟨39, _⟩ => ⟨S2048x1408, .f32⟩
  | .hbm, ⟨40, _⟩ => ⟨S_, .f32⟩
  | .hbm, ⟨41, _⟩ => ⟨S2048x1408, .f32⟩
  | .hbm, ⟨42, _⟩ => ⟨S2048x1408, .f32⟩
  | .hbm, ⟨43, _⟩ => ⟨S2048x1408, .f32⟩
  | .hbm, ⟨44, _⟩ => ⟨S_, .f32⟩
  | .hbm, ⟨45, _⟩ => ⟨S2048x1408, .f32⟩
  | .hbm, ⟨46, _⟩ => ⟨S2048x1408, .f32⟩
  | .hbm, ⟨47, _⟩ => ⟨S1x2048x1408, .f32⟩
  | .hbm, ⟨48, _⟩ => ⟨S3x2048x1408, .f32⟩
  | .hbm, ⟨49, _⟩ => ⟨S4x2048x1408, .f32⟩
  | .hbm, ⟨50, _⟩ => ⟨S1x2048x1408, .f32⟩
  | .hbm, ⟨51, _⟩ => ⟨S3x2048x1408, .f32⟩
  | .hbm, ⟨52, _⟩ => ⟨S4x2048x1408, .f32⟩
  | .hbm, ⟨53, _⟩ => ⟨S1x2048x1408, .f32⟩
  | .hbm, ⟨54, _⟩ => ⟨S3x2048x1408, .f32⟩
  | .hbm, ⟨55, _⟩ => ⟨S4x2048x1408, .f32⟩
  | .hbm, ⟨56, _⟩ => ⟨S1x2048x1408, .f32⟩
  | .hbm, ⟨57, _⟩ => ⟨S3x2048x1408, .f32⟩
  | .hbm, ⟨58, _⟩ => ⟨S4x2048x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel41.lean ====
abbrev S4x1408x2048 : Shape := ⟨3, ![4, 1408, 2048]⟩
abbrev S1408x2048 : Shape := ⟨2, ![1408, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S4x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference41Ideal.lean ====
abbrev S4x1408x2048 : Shape := ⟨3, ![4, 1408, 2048]⟩
abbrev S1408x2048 : Shape := ⟨2, ![1408, 2048]⟩
abbrev S1x1408x2048 : Shape := ⟨3, ![1, 1408, 2048]⟩
abbrev S_ : Shape := ⟨0, ![]⟩
abbrev S3x1408x2048 : Shape := ⟨3, ![3, 1408, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S1x1408x2048, .f32⟩
  | .hbm, ⟨9, _⟩ => ⟨S1408x2048, .f32⟩
  | .hbm, ⟨10, _⟩ => ⟨S1x1408x2048, .f32⟩
  | .hbm, ⟨11, _⟩ => ⟨S1408x2048, .f32⟩
  | .hbm, ⟨12, _⟩ => ⟨S1x1408x2048, .f32⟩
  | .hbm, ⟨13, _⟩ => ⟨S1408x2048, .f32⟩
  | .hbm, ⟨14, _⟩ => ⟨S_, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S1408x2048, .f32⟩
  | .hbm, ⟨25, _⟩ => ⟨S_, .f32⟩
  | .hbm, ⟨26, _⟩ => ⟨S1408x2048, .f32⟩
  | .hbm, ⟨27, _⟩ => ⟨S1408x2048, .f32⟩
  | .hbm, ⟨28, _⟩ => ⟨S1408x2048, .f32⟩
  | .hbm, ⟨29, _⟩ => ⟨S_, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | .hbm, ⟨39, _⟩ => ⟨S1408x2048, .f32⟩
  | .hbm, ⟨40, _⟩ => ⟨S_, .f32⟩
  | .hbm, ⟨41, _⟩ => ⟨S1408x2048, .f32⟩
  | .hbm, ⟨42, _⟩ => ⟨S1408x2048, .f32⟩
  | .hbm, ⟨43, _⟩ => ⟨S1408x2048, .f32⟩
  | .hbm, ⟨44, _⟩ => ⟨S_, .f32⟩
  | .hbm, ⟨45, _⟩ => ⟨S1408x2048, .f32⟩
  | .hbm, ⟨46, _⟩ => ⟨S1408x2048, .f32⟩
  | .hbm, ⟨47, _⟩ => ⟨S1x1408x2048, .f32⟩
  | .hbm, ⟨48, _⟩ => ⟨S3x1408x2048, .f32⟩
  | .hbm, ⟨49, _⟩ => ⟨S4x1408x2048, .f32⟩
  | .hbm, ⟨50, _⟩ => ⟨S1x1408x2048, .f32⟩
  | .hbm, ⟨51, _⟩ => ⟨S3x1408x2048, .f32⟩
  | .hbm, ⟨52, _⟩ => ⟨S4x1408x2048, .f32⟩
  | .hbm, ⟨53, _⟩ => ⟨S1x1408x2048, .f32⟩
  | .hbm, ⟨54, _⟩ => ⟨S3x1408x2048, .f32⟩
  | .hbm, ⟨55, _⟩ => ⟨S4x1408x2048, .f32⟩
  | .hbm, ⟨56, _⟩ => ⟨S1x1408x2048, .f32⟩
  | .hbm, ⟨57, _⟩ => ⟨S3x1408x2048, .f32⟩
  | .hbm, ⟨58, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel42.lean ====
abbrev S4x1024x2048 : Shape := ⟨3, ![4, 1024, 2048]⟩
abbrev S1024x2048 : Shape := ⟨2, ![1024, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference42Ideal.lean ====
abbrev S4x1024x2048 : Shape := ⟨3, ![4, 1024, 2048]⟩
abbrev S1024x2048 : Shape := ⟨2, ![1024, 2048]⟩
abbrev S1x1024x2048 : Shape := ⟨3, ![1, 1024, 2048]⟩
abbrev S_ : Shape := ⟨0, ![]⟩
abbrev S3x1024x2048 : Shape := ⟨3, ![3, 1024, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S1x1024x2048, .f32⟩
  | .hbm, ⟨9, _⟩ => ⟨S1024x2048, .f32⟩
  | .hbm, ⟨10, _⟩ => ⟨S1x1024x2048, .f32⟩
  | .hbm, ⟨11, _⟩ => ⟨S1024x2048, .f32⟩
  | .hbm, ⟨12, _⟩ => ⟨S1x1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S1x1024x2048, .f32⟩
  | .hbm, ⟨48, _⟩ => ⟨S3x1024x2048, .f32⟩
  | .hbm, ⟨49, _⟩ => ⟨S4x1024x2048, .f32⟩
  | .hbm, ⟨50, _⟩ => ⟨S1x1024x2048, .f32⟩
  | .hbm, ⟨51, _⟩ => ⟨S3x1024x2048, .f32⟩
  | .hbm, ⟨52, _⟩ => ⟨S4x1024x2048, .f32⟩
  | .hbm, ⟨53, _⟩ => ⟨S1x1024x2048, .f32⟩
  | .hbm, ⟨54, _⟩ => ⟨S3x1024x2048, .f32⟩
  | .hbm, ⟨55, _⟩ => ⟨S4x1024x2048, .f32⟩
  | .hbm, ⟨56, _⟩ => ⟨S1x1024x2048, .f32⟩
  | .hbm, ⟨57, _⟩ => ⟨S3x1024x2048, .f32⟩
  | .hbm, ⟨58, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel43.lean ====
abbrev S4x2048x2824 : Shape := ⟨3, ![4, 2048, 2824]⟩
abbrev S2048x2824 : Shape := ⟨2, ![2048, 2824]⟩
abbrev S1x128x2824 : Shape := ⟨3, ![1, 128, 2824]⟩
abbrev S128x2824 : Shape := ⟨2, ![128, 2824]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2824, .f32⟩
  | .hbm, ⟨1, _⟩ => ⟨S4x2048x2824, .f32⟩
  | .hbm, ⟨2, _⟩ => ⟨S4x2048x2824, .f32⟩
  | .hbm, ⟨3, _⟩ => ⟨S2048x2824, .f32⟩
  | .hbm, ⟨4, _⟩ => ⟨S4x2048x2824, .f32⟩
  | .hbm, ⟨5, _⟩ => ⟨S4x2048x2824, .f32⟩
  | .hbm, ⟨6, _⟩ => ⟨S4x2048x2824, .f32⟩
  | .hbm, ⟨7, _⟩ => ⟨S4x2048x2824, .f32⟩
  | .hbm, ⟨8, _⟩ => ⟨S4x2048x2824, .f32⟩
  | .hbm, ⟨9, _⟩ => ⟨S4x2048x2824, .f32⟩
  | .hbm, ⟨10, _⟩ => ⟨S4x2048x2824, .f32⟩
  | .hbm, ⟨11, _⟩ => ⟨S4x2048x2824, .f32⟩
  | .local _ .vmem, ⟨0, _⟩ => ⟨S1x128x2824, .f32⟩
  | .local _ .vmem, ⟨1, _⟩ => ⟨S1x128x2824, .f32⟩
  | .local _ .vmem, ⟨2, _⟩ => ⟨S1x128x2824, .f32⟩
  | .local _ .vmem, ⟨3, _⟩ => ⟨S1x128x2824, .f32⟩
  | .local _ .vmem, ⟨4, _⟩ => ⟨S1x128x2824, .f32⟩
  | .local _ .vmem, ⟨5, _⟩ => ⟨S1x128x2824, .f32⟩
  | .local _ .vmem, ⟨6, _⟩ => ⟨S128x2824, .f32⟩
  | .local _ .vmem, ⟨7, _⟩ => ⟨S128x2824, .f32⟩
  | .local _ .vmem, ⟨8, _⟩ => ⟨S1x128x2824, .f32⟩
  | .local _ .vmem, ⟨9, _⟩ => ⟨S1x128x2824, .f32⟩
  | .local _ .vmem, ⟨10, _⟩ => ⟨S1x128x2824, .f32⟩
  | .local _ .vmem, ⟨11, _⟩ => ⟨S1x128x2824, .f32⟩
  | .local _ .vmem, ⟨12, _⟩ => ⟨S1x128x2824, .f32⟩
  | .local _ .vmem, ⟨13, _⟩ => ⟨S1x128x2824, .f32⟩
  | .local _ .vmem, ⟨14, _⟩ => ⟨S1x128x2824, .f32⟩
  | .local _ .vmem, ⟨15, _⟩ => ⟨S1x128x2824, .f32⟩
  | _, _ => ⟨S4x2048x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2824 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2824 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2824 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2824 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2824 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2824 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2824 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2824 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference43Ideal.lean ====
abbrev S4x2048x2824 : Shape := ⟨3, ![4, 2048, 2824]⟩
abbrev S2048x2824 : Shape := ⟨2, ![2048, 2824]⟩
abbrev S1x2048x2824 : Shape := ⟨3, ![1, 2048, 2824]⟩
abbrev S_ : Shape := ⟨0, ![]⟩
abbrev S3x2048x2824 : Shape := ⟨3, ![3, 2048, 2824]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x2824, .f32⟩
  | .hbm, ⟨1, _⟩ => ⟨S4x2048x2824, .f32⟩
  | .hbm, ⟨2, _⟩ => ⟨S4x2048x2824, .f32⟩
  | .hbm, ⟨3, _⟩ => ⟨S2048x2824, .f32⟩
  | .hbm, ⟨4, _⟩ => ⟨S4x2048x2824, .f32⟩
  | .hbm, ⟨5, _⟩ => ⟨S4x2048x2824, .f32⟩
  | .hbm, ⟨6, _⟩ => ⟨S4x2048x2824, .f32⟩
  | .hbm, ⟨7, _⟩ => ⟨S4x2048x2824, .f32⟩
  | .hbm, ⟨8, _⟩ => ⟨S1x2048x2824, .f32⟩
  | .hbm, ⟨9, _⟩ => ⟨S2048x2824, .f32⟩
  | .hbm, ⟨10, _⟩ => ⟨S1x2048x2824, .f32⟩
  | .hbm, ⟨11, _⟩ => ⟨S2048x2824, .f32⟩
  | .hbm, ⟨12, _⟩ => ⟨S1x2048x2824, .f32⟩
  | .hbm, ⟨13, _⟩ => ⟨S2048x2824, .f32⟩
  | .hbm, ⟨14, _⟩ => ⟨S_, .f32⟩
  | .hbm, ⟨15, _⟩ => ⟨S2048x2824, .f32⟩
  | .hbm, ⟨16, _⟩ => ⟨S2048x2824, .f32⟩
  | .hbm, ⟨17, _⟩ => ⟨S_, .f32⟩
  | .hbm, ⟨18, _⟩ => ⟨S2048x2824, .f32⟩
  | .hbm, ⟨19, _⟩ => ⟨S2048x2824, .f32⟩
  | .hbm, ⟨20, _⟩ => ⟨S2048x2824, .f32⟩
  | .hbm, ⟨21, _⟩ => ⟨S_, .f32⟩
  | .hbm, ⟨22, _⟩ => ⟨S2048x2824, .f32⟩
  | .hbm, ⟨23, _⟩ => ⟨S2048x2824, .f32⟩
  | .hbm, ⟨24, _⟩ => ⟨S2048x2824, .f32⟩
  | .hbm, ⟨25, _⟩ => ⟨S_, .f32⟩
  | .hbm, ⟨26, _⟩ => ⟨S2048x2824, .f32⟩
  | .hbm, ⟨27, _⟩ => ⟨S2048x2824, .f32⟩
  | .hbm, ⟨28, _⟩ => ⟨S2048x2824, .f32⟩
  | .hbm, ⟨29, _⟩ => ⟨S_, .f32⟩
  | .hbm, ⟨30, _⟩ => ⟨S2048x2824, .f32⟩
  | .hbm, ⟨31, _⟩ => ⟨S2048x2824, .f32⟩
  | .hbm, ⟨32, _⟩ => ⟨S_, .f32⟩
  | .hbm, ⟨33, _⟩ => ⟨S2048x2824, .f32⟩
  | .hbm, ⟨34, _⟩ => ⟨S2048x2824, .f32⟩
  | .hbm, ⟨35, _⟩ => ⟨S2048x2824, .f32⟩
  | .hbm, ⟨36, _⟩ => ⟨S_, .f32⟩
  | .hbm, ⟨37, _⟩ => ⟨S2048x2824, .f32⟩
  | .hbm, ⟨38, _⟩ => ⟨S2048x2824, .f32⟩
  | .hbm, ⟨39, _⟩ => ⟨S2048x2824, .f32⟩
  | .hbm, ⟨40, _⟩ => ⟨S_, .f32⟩
  | .hbm, ⟨41, _⟩ => ⟨S2048x2824, .f32⟩
  | .hbm, ⟨42, _⟩ => ⟨S2048x2824, .f32⟩
  | .hbm, ⟨43, _⟩ => ⟨S2048x2824, .f32⟩
  | .hbm, ⟨44, _⟩ => ⟨S_, .f32⟩
  | .hbm, ⟨45, _⟩ => ⟨S2048x2824, .f32⟩
  | .hbm, ⟨46, _⟩ => ⟨S2048x2824, .f32⟩
  | .hbm, ⟨47, _⟩ => ⟨S1x2048x2824, .f32⟩
  | .hbm, ⟨48, _⟩ => ⟨S3x2048x2824, .f32⟩
  | .hbm, ⟨49, _⟩ => ⟨S4x2048x2824, .f32⟩
  | .hbm, ⟨50, _⟩ => ⟨S1x2048x2824, .f32⟩
  | .hbm, ⟨51, _⟩ => ⟨S3x2048x2824, .f32⟩
  | .hbm, ⟨52, _⟩ => ⟨S4x2048x2824, .f32⟩
  | .hbm, ⟨53, _⟩ => ⟨S1x2048x2824, .f32⟩
  | .hbm, ⟨54, _⟩ => ⟨S3x2048x2824, .f32⟩
  | .hbm, ⟨55, _⟩ => ⟨S4x2048x2824, .f32⟩
  | .hbm, ⟨56, _⟩ => ⟨S1x2048x2824, .f32⟩
  | .hbm, ⟨57, _⟩ => ⟨S3x2048x2824, .f32⟩
  | .hbm, ⟨58, _⟩ => ⟨S4x2048x2824, .f32⟩
  | _, _ => ⟨S4x2048x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel44.lean ====
abbrev S3x8192x2048 : Shape := ⟨3, ![3, 8192, 2048]⟩
abbrev S3x2048 : Shape := ⟨2, ![3, 2048]⟩
abbrev S1x2048 : Shape := ⟨2, ![1, 2048]⟩
abbrev S8192x4096 : Shape := ⟨2, ![8192, 4096]⟩
abbrev S3x256x1024 : Shape := ⟨3, ![3, 256, 1024]⟩
abbrev S3x16x1024 : Shape := ⟨3, ![3, 16, 1024]⟩
abbrev S3x1024 : Shape := ⟨2, ![3, 1024]⟩
abbrev S1x1024 : Shape := ⟨2, ![1, 1024]⟩
abbrev S256x1024 : Shape := ⟨2, ![256, 1024]⟩
abbrev S16x1024 : Shape := ⟨2, ![16, 1024]⟩
abbrev S1x16x1024 : Shape := ⟨3, ![1, 16, 1024]⟩
abbrev S1x256x1024 : Shape := ⟨3, ![1, 256, 1024]⟩
abbrev S288x1024 : Shape := ⟨2, ![288, 1024]⟩
abbrev S288x128 : Shape := ⟨2, ![288, 128]⟩
abbrev S288 : Shape := ⟨1, ![288]⟩
abbrev S288x1 : Shape := ⟨2, ![288, 1]⟩
abbrev S1024 : Shape := ⟨1, ![1024]⟩

abbrev nBuf : Space → Nat
  | .hbm => 7
  | .vmem => 20
  | .smem => 0
  | _ => 0

abbrev bufTy : (tb : Table) → Fin (tcTables nBuf tb) → BufTy
  | .hbm, ⟨0, _⟩ => ⟨S3x8192x2048, .bf16⟩
  | .hbm, ⟨1, _⟩ => ⟨S3x2048, .f32⟩
  | .hbm, ⟨2, _⟩ => ⟨S1x2048, .f32⟩
  | .hbm, ⟨3, _⟩ => ⟨S8192x4096, .bf16⟩
  | .hbm, ⟨4, _⟩ => ⟨S3x8192x2048, .bf16⟩
  | .hbm, ⟨5, _⟩ => ⟨S3x2048, .f32⟩
  | .hbm, ⟨6, _⟩ => ⟨S1x2048, .f32⟩
  | .local _ .vmem, ⟨0, _⟩ => ⟨S3x256x1024, .bf16⟩
  | .local _ .vmem, ⟨1, _⟩ => ⟨S3x256x1024, .bf16⟩
  | .local _ .vmem, ⟨2, _⟩ => ⟨S3x16x1024, .bf16⟩
  | .local _ .vmem, ⟨3, _⟩ => ⟨S3x16x1024, .bf16⟩
  | .local _ .vmem, ⟨4, _⟩ => ⟨S3x16x1024, .bf16⟩
  | .local _ .vmem, ⟨5, _⟩ => ⟨S3x16x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S16x1024, .bf16⟩
  | .local _ .vmem, ⟨13, _⟩ => ⟨S16x1024, .bf16⟩
  | .local _ .vmem, ⟨14, _⟩ => ⟨S3x256x1024, .bf16⟩
  | .local _ .vmem, ⟨15, _⟩ => ⟨S3x256x1024, .bf16⟩
  | .local _ .vmem, ⟨16, _⟩ => ⟨S3x1024, .f32⟩
  | .local _ .vmem, ⟨17, _⟩ => ⟨S3x1024, .f32⟩
  | .local _ .vmem, ⟨18, _⟩ => ⟨S1x1024, .f32⟩
  | .local _ .vmem, ⟨19, _⟩ => ⟨S1x1024, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v272 : BitVec 32 := Scalar.extui v0
  let c0_i32_92 : BitVec 32 := 0#32
  let v273 : BitVec 1 := Scalar.cmpi .ne v272 c0_i32_92
  v273

def k0_cond2 (i : grid0.Coords) : BitVec 1 :=
  let arg1 : BitVec 32 := BitVec.ofNat 32 (i 1).val
  let c0_i32_93 : BitVec 32 := 0#32
  let v274 : BitVec 1 := Scalar.cmpi .sgt arg1 c0_i32_93
  let v275 : BitVec 32 := Scalar.extui v274
  let c0_i32_94 : BitVec 32 := 0#32
  let v276 : BitVec 1 := Scalar.cmpi .ne v275 c0_i32_94
  v276

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let v3 : BitVec 32 := Scalar.addi c2_i32 arg0
  let c0_i32 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference44Ideal.lean ====
abbrev S3x8192x2048 : Shape := ⟨3, ![3, 8192, 2048]⟩
abbrev S3x2048 : Shape := ⟨2, ![3, 2048]⟩
abbrev S1x2048 : Shape := ⟨2, ![1, 2048]⟩
abbrev S8192x4096 : Shape := ⟨2, ![8192, 4096]⟩
abbrev S1x8192x2048 : Shape := ⟨3, ![1, 8192, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S8192x16x128 : Shape := ⟨3, ![8192, 16, 128]⟩
abbrev S8192x16 : Shape := ⟨2, ![8192, 16]⟩
abbrev S8192x16x1 : Shape := ⟨3, ![8192, 16, 1]⟩
abbrev S2048 : Shape := ⟨1, ![2048]⟩

abbrev nBuf : Space → Nat
  | .hbm => 128
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S3x2048, .f32⟩
  | .hbm, ⟨2, _⟩ => ⟨S1x2048, .f32⟩
  | .hbm, ⟨3, _⟩ => ⟨S8192x4096, .bf16⟩
  | .hbm, ⟨4, _⟩ => ⟨S3x8192x2048, .f32⟩
  | .hbm, ⟨5, _⟩ => ⟨S1x8192x2048, .f32⟩
  | .hbm, ⟨6, _⟩ => ⟨S8192x2048, .f32⟩
  | .hbm, ⟨7, _⟩ => ⟨S1x8192x2048, .f32⟩
  | .hbm, ⟨8, _⟩ => ⟨S8192x2048, .f32⟩
  | .hbm, ⟨9, _⟩ => ⟨S1x8192x2048, .f32⟩
  | .hbm, ⟨10, _⟩ => ⟨S8192x2048, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S2x2048, .f32⟩
  | .hbm, ⟨16, _⟩ => ⟨S8194x2048, .f32⟩
  | .hbm, ⟨17, _⟩ => ⟨S_, .f32⟩
  | .hbm, ⟨18, _⟩ => ⟨S2x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x16x128, .f32⟩
  | .hbm, ⟨38, _⟩ => ⟨S8192x16x128, .f32⟩
  | .hbm, ⟨39, _⟩ => ⟨S_, .f32⟩
  | .hbm, ⟨40, _⟩ => ⟨S8192x16, .f32⟩
  | .hbm, ⟨41, _⟩ => ⟨S8192x16x1, .f32⟩
  | .hbm, ⟨42, _⟩ => ⟨S_, .f32⟩
  | .hbm, ⟨43, _⟩ => ⟨S8192x16x1, .f32⟩
  | .hbm, ⟨44, _⟩ => ⟨S8192x16x1, .f32⟩
  | .hbm, ⟨45, _⟩ => ⟨S_, .f32⟩
  | .hbm, ⟨46, _⟩ => ⟨S8192x16x1, .f32⟩
  | .hbm, ⟨47, _⟩ => ⟨S8192x16x1, .f32⟩
  | .hbm, ⟨48, _⟩ => ⟨S8192x16x1, .f32⟩
  | .hbm, ⟨49, _⟩ => ⟨S8192x16x1, .f32⟩
  | .hbm, ⟨50, _⟩ => ⟨S_, .f32⟩
  | .hbm, ⟨51, _⟩ => ⟨S8192x16x1, .f32⟩
  | .hbm, ⟨52, _⟩ => ⟨S8192x16x1, .f32⟩
  | .hbm, ⟨53, _⟩ => ⟨S8192x16x128, .f32⟩
  | .hbm, ⟨54, _⟩ => ⟨S8192x16x128, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S8192x16x128, .f32⟩
  | .hbm, ⟨65, _⟩ => ⟨S8192x16x128, .f32⟩
  | .hbm, ⟨66, _⟩ => ⟨S_, .f32⟩
  | .hbm, ⟨67, _⟩ => ⟨S8192x16, .f32⟩
  | .hbm, ⟨68, _⟩ => ⟨S8192x16x1, .f32⟩
  | .hbm, ⟨69, _⟩ => ⟨S8192x16x128, .f32⟩
  | .hbm, ⟨70, _⟩ => ⟨S8192x16x128, .f32⟩
  | .hbm, ⟨71, _⟩ => ⟨S8192x16x1, .f32⟩
  | .hbm, ⟨72, _⟩ => ⟨S_, .f32⟩
  | .hbm, ⟨73, _⟩ => ⟨S8192x16x1, .f32⟩
  | .hbm, ⟨74, _⟩ => ⟨S8192x16x1, .f32⟩
  | .hbm, ⟨75, _⟩ => ⟨S_, .f32⟩
  | .hbm, ⟨76, _⟩ => ⟨S8192x16, .f32⟩
  | .hbm, ⟨77, _⟩ => ⟨S8192x16x128, .f32⟩
  | .hbm, ⟨78, _⟩ => ⟨S8192x16x128, .f32⟩
  | .hbm, ⟨79, _⟩ => ⟨S8192x16x128, .f32⟩
  | .hbm, ⟨80, _⟩ => ⟨S8192x16x128, .f32⟩
  | .hbm, ⟨81, _⟩ => ⟨S8192x16x128, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S3x2048, .f32⟩
  | .hbm, ⟨93, _⟩ => ⟨S_, .f32⟩
  | .hbm, ⟨94, _⟩ => ⟨S8194x2048, .f32⟩
  | .hbm, ⟨95, _⟩ => ⟨S8192x2048, .f32⟩
  | .hbm, ⟨96, _⟩ => ⟨S_, .f32⟩
  | .hbm, ⟨97, _⟩ => ⟨S2048, .f32⟩
  | .hbm, ⟨98, _⟩ => ⟨S1x2048, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S3x2048, .f32⟩
  | .hbm, ⟨103, _⟩ => ⟨S3x2048, .f32⟩
  | .hbm, ⟨104, _⟩ => ⟨S_, .f32⟩
  | .hbm, ⟨105, _⟩ => ⟨S8194x2048, .f32⟩
  | .hbm, ⟨106, _⟩ => ⟨S8194x2048, .f32⟩
  | .hbm, ⟨107, _⟩ => ⟨S8192x2048, .f32⟩
  | .hbm, ⟨108, _⟩ => ⟨S_, .f32⟩
  | .hbm, ⟨109, _⟩ => ⟨S2048, .f32⟩
  | .hbm, ⟨110, _⟩ => ⟨S1x2048, .f32⟩
  | .hbm, ⟨111, _⟩ => ⟨S8192x2048, .f32⟩
  | .hbm, ⟨112, _⟩ => ⟨S8192x2048, .f32⟩
  | .hbm, ⟨113, _⟩ => ⟨S_, .f32⟩
  | .hbm, ⟨114, _⟩ => ⟨S3x2048, .f32⟩
  | .hbm, ⟨115, _⟩ => ⟨S3x2048, .f32⟩
  | .hbm, ⟨116, _⟩ => ⟨S_, .f32⟩
  | .hbm, ⟨117, _⟩ => ⟨S8194x2048, .f32⟩
  | .hbm, ⟨118, _⟩ => ⟨S8194x2048, .f32⟩
  | .hbm, ⟨119, _⟩ => ⟨S2x2048, .f32⟩
  | .hbm, ⟨120, _⟩ => ⟨S8192x2048, .f32⟩
  | .hbm, ⟨121, _⟩ => ⟨S8192x2048, .f32⟩
  | .hbm, ⟨122, _⟩ => ⟨S8192x2048, .f32⟩
  | .hbm, ⟨123, _⟩ => ⟨S1x8192x2048, .f32⟩
  | .hbm, ⟨124, _⟩ => ⟨S1x8192x2048, .f32⟩
  | .hbm, ⟨125, _⟩ => ⟨S1x8192x2048, .f32⟩
  | .hbm, ⟨126, _⟩ => ⟨S3x8192x2048, .f32⟩
  | .hbm, ⟨127, _⟩ => ⟨S3x8192x2048, .bf16⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_10 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_11 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_14 : Ref sig .tc := ⟨.hbm, 101, rfl⟩
abbrev main_v82 : Ref sig .tc := ⟨.hbm, 102, rfl⟩
abbrev main_v83 : Ref sig .tc := ⟨.hbm, 103, rfl⟩
abbrev main_cst_15 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_16 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_17 : Ref sig .tc := ⟨.hbm, 113, rfl⟩
abbrev main_v91 : Ref sig .tc := ⟨.hbm, 114, rfl⟩
abbrev main_v92 : Ref sig .tc := ⟨.hbm, 115, rfl⟩
abbrev main_cst_18 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩

abbrev nD : Nat := 1
abbrev τ : Topo := Topo.v7x

variable {F : FTy → Type} [FloatOps F]
-- ==== Kernel46.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference46Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel47.lean ====
abbrev S8192x5632 : Shape := ⟨2, ![8192, 5632]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference47Ideal.lean ====
abbrev S8192x5632 : Shape := ⟨2, ![8192, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Kernel52.lean ====
abbrev S4x2048 : Shape := ⟨2, ![4, 2048]⟩
abbrev S4x4x768 : Shape := ⟨3, ![4, 4, 768]⟩
abbrev S4x3072 : Shape := ⟨2, ![4, 3072]⟩
abbrev S4x32 : Shape := ⟨2, ![4, 32]⟩
abbrev S4x3x512 : Shape := ⟨3, ![4, 3, 512]⟩
abbrev S2048 : Shape := ⟨1, ![2048]⟩
abbrev S8192 : Shape := ⟨1, ![8192]⟩
abbrev S12288 : Shape := ⟨1, ![12288]⟩
abbrev S128 : Shape := ⟨1, ![128]⟩
abbrev S6144 : Shape := ⟨1, ![6144]⟩
abbrev S76160 : Shape := ⟨1, ![76160]⟩
abbrev S_ : Shape := ⟨0, ![]⟩
abbrev S76800 : Shape := ⟨1, ![76800]⟩
abbrev S600x128 : Shape := ⟨2, ![600, 128]⟩

abbrev nBuf : Space → Nat
  | .hbm => 119
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x4x768, .f32⟩
  | .hbm, ⟨2, _⟩ => ⟨S4x3072, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x2048, .f32⟩
  | .hbm, ⟨7, _⟩ => ⟨S4x3x512, .f32⟩
  | .hbm, ⟨8, _⟩ => ⟨S4x2048, .f32⟩
  | .hbm, ⟨9, _⟩ => ⟨S2048, .f32⟩
  | .hbm, ⟨10, _⟩ => ⟨S4x2048, .f32⟩
  | .hbm, ⟨11, _⟩ => ⟨S4x2048, .f32⟩
  | .hbm, ⟨12, _⟩ => ⟨S2048, .f32⟩
  | .hbm, ⟨13, _⟩ => ⟨S4x2048, .f32⟩
  | .hbm, ⟨14, _⟩ => ⟨S4x4x768, .f32⟩
  | .hbm, ⟨15, _⟩ => ⟨S4x3072, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S4x2048, .f32⟩
  | .hbm, ⟨20, _⟩ => ⟨S4x3x512, .f32⟩
  | .hbm, ⟨21, _⟩ => ⟨S4x2048, .f32⟩
  | .hbm, ⟨22, _⟩ => ⟨S2048, .f32⟩
  | .hbm, ⟨23, _⟩ => ⟨S4x2048, .f32⟩
  | .hbm, ⟨24, _⟩ => ⟨S4x2048, .f32⟩
  | .hbm, ⟨25, _⟩ => ⟨S2048, .f32⟩
  | .hbm, ⟨26, _⟩ => ⟨S4x2048, .f32⟩
  | .hbm, ⟨27, _⟩ => ⟨S4x4x768, .f32⟩
  | .hbm, ⟨28, _⟩ => ⟨S4x3072, .f32⟩
  | .hbm, ⟨29, _⟩ => ⟨S4x32, .f32⟩
  | .hbm, ⟨30, _⟩ => ⟨S4x32, .f32⟩
  | .hbm, ⟨31, _⟩ => ⟨S4x32, .f32⟩
  | .hbm, ⟨32, _⟩ => ⟨S4x2048, .f32⟩
  | .hbm, ⟨33, _⟩ => ⟨S4x3x512, .f32⟩
  | .hbm, ⟨34, _⟩ => ⟨S4x2048, .f32⟩
  | .hbm, ⟨35, _⟩ => ⟨S2048, .f32⟩
  | .hbm, ⟨36, _⟩ => ⟨S4x2048, .f32⟩
  | .hbm, ⟨37, _⟩ => ⟨S4x2048, .f32⟩
  | .hbm, ⟨38, _⟩ => ⟨S2048, .f32⟩
  | .hbm, ⟨39, _⟩ => ⟨S4x2048, .f32⟩
  | .hbm, ⟨40, _⟩ => ⟨S4x4x768, .f32⟩
  | .hbm, ⟨41, _⟩ => ⟨S4x3072, .f32⟩
  | .hbm, ⟨42, _⟩ => ⟨S4x32, .f32⟩
  | .hbm, ⟨43, _⟩ => ⟨S4x32, .f32⟩
  | .hbm, ⟨44, _⟩ => ⟨S4x32, .f32⟩
  | .hbm, ⟨45, _⟩ => ⟨S4x2048, .f32⟩
  | .hbm, ⟨46, _⟩ => ⟨S4x3x512, .f32⟩
  | .hbm, ⟨47, _⟩ => ⟨S4x2048, .f32⟩
  | .hbm, ⟨48, _⟩ => ⟨S2048, .f32⟩
  | .hbm, ⟨49, _⟩ => ⟨S4x2048, .f32⟩
  | .hbm, ⟨50, _⟩ => ⟨S4x2048, .f32⟩
  | .hbm, ⟨51, _⟩ => ⟨S2048, .f32⟩
  | .hbm, ⟨52, _⟩ => ⟨S8192, .f32⟩
  | .hbm, ⟨53, _⟩ => ⟨S12288, .f32⟩
  | .hbm, ⟨54, _⟩ => ⟨S12288, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S8192, .f32⟩
  | .hbm, ⟨59, _⟩ => ⟨S6144, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S76160, .f32⟩
  | .hbm, ⟨64, _⟩ => ⟨S_, .i32⟩
  | .hbm, ⟨65, _⟩ => ⟨S_, .f32⟩
  | .hbm, ⟨66, _⟩ => ⟨S76800, .f32⟩
  | .hbm, ⟨67, _⟩ => ⟨S600x128, .f32⟩
  | .hbm, ⟨68, _⟩ => ⟨S8192, .f32⟩
  | .hbm, ⟨69, _⟩ => ⟨S12288, .f32⟩
  | .hbm, ⟨70, _⟩ => ⟨S12288, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S8192, .f32⟩
  | .hbm, ⟨75, _⟩ => ⟨S6144, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S76160, .f32⟩
  | .hbm, ⟨80, _⟩ => ⟨S_, .i32⟩
  | .hbm, ⟨81, _⟩ => ⟨S_, .f32⟩
  | .hbm, ⟨82, _⟩ => ⟨S76800, .f32⟩
  | .hbm, ⟨83, _⟩ => ⟨S600x128, .f32⟩
  | .hbm, ⟨84, _⟩ => ⟨S8192, .f32⟩
  | .hbm, ⟨85, _⟩ => ⟨S12288, .f32⟩
  | .hbm, ⟨86, _⟩ => ⟨S12288, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S8192, .f32⟩
  | .hbm, ⟨91, _⟩ => ⟨S6144, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S76160, .f32⟩
  | .hbm, ⟨96, _⟩ => ⟨S_, .i32⟩
  | .hbm, ⟨97, _⟩ => ⟨S_, .f32⟩
  | .hbm, ⟨98, _⟩ => ⟨S76800, .f32⟩
  | .hbm, ⟨99, _⟩ => ⟨S600x128, .f32⟩
  | .hbm, ⟨100, _⟩ => ⟨S8192, .f32⟩
  | .hbm, ⟨101, _⟩ => ⟨S12288, .f32⟩
  | .hbm, ⟨102, _⟩ => ⟨S12288, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S8192, .f32⟩
  | .hbm, ⟨107, _⟩ => ⟨S6144, .f32⟩
  | .hbm, ⟨108, _⟩ => ⟨S8192, .f32⟩
  | .hbm, ⟨109, _⟩ => ⟨S8192, .f32⟩
  | .hbm, ⟨110, _⟩ => ⟨S8192, .f32⟩
  | .hbm, ⟨111, _⟩ => ⟨S76160, .f32⟩
  | .hbm, ⟨112, _⟩ => ⟨S_, .i32⟩
  | .hbm, ⟨113, _⟩ => ⟨S_, .f32⟩
  | .hbm, ⟨114, _⟩ => ⟨S76800, .f32⟩
  | .hbm, ⟨115, _⟩ => ⟨S600x128, .f32⟩
  | .hbm, ⟨116, _⟩ => ⟨S600x128, .f32⟩
  | .hbm, ⟨117, _⟩ => ⟨S600x128, .f32⟩
  | .hbm, ⟨118, _⟩ => ⟨S600x128, .f32⟩
  | .local _ .vmem, ⟨0, _⟩ => ⟨S600x128, .f32⟩
  | .local _ .vmem, ⟨1, _⟩ => ⟨S600x128, .f32⟩
  | .local _ .vmem, ⟨2, _⟩ => ⟨S600x128, .f32⟩
  | .local _ .vmem, ⟨3, _⟩ => ⟨S600x128, .f32⟩
  | .local _ .vmem, ⟨4, _⟩ => ⟨S600x128, .f32⟩
  | .local _ .vmem, ⟨5, _⟩ => ⟨S600x128, .f32⟩
  | .local _ .vmem, ⟨6, _⟩ => ⟨S600x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_c : Ref sig .tc := ⟨.hbm, 64, rfl⟩
abbrev main_call0_v0 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_c_0 : Ref sig .tc := ⟨.hbm, 80, rfl⟩
abbrev main_call1_v0 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_c_1 : Ref sig .tc := ⟨.hbm, 96, rfl⟩
abbrev main_call2_v0 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_c_2 : Ref sig .tc := ⟨.hbm, 112, rfl⟩
abbrev main_call3_v0 : Ref sig .tc := ⟨.hbm, 113, rfl⟩
abbrev main_v54 : Ref sig .tc := ⟨.hbm, 114, rfl⟩
abbrev main_v55 : Ref sig .tc := ⟨.hbm, 115, rfl⟩
abbrev main_v56_0 : Ref sig .tc := ⟨.hbm, 116, rfl⟩
abbrev main_v56_1 : Ref sig .tc := ⟨.hbm, 117, rfl⟩
abbrev main_v56_2 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S600x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S600x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S600x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S600x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S600x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S600x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S600x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference52Ideal.lean ====
abbrev S4x2048 : Shape := ⟨2, ![4, 2048]⟩
abbrev S4x4x768 : Shape := ⟨3, ![4, 4, 768]⟩
abbrev S4x3072 : Shape := ⟨2, ![4, 3072]⟩
abbrev S4x32 : Shape := ⟨2, ![4, 32]⟩
abbrev S4x3x512 : Shape := ⟨3, ![4, 3, 512]⟩
abbrev S2048 : Shape := ⟨1, ![2048]⟩
abbrev S_ : Shape := ⟨0, ![]⟩
abbrev S8192 : Shape := ⟨1, ![8192]⟩
abbrev S12288 : Shape := ⟨1, ![12288]⟩
abbrev S128 : Shape := ⟨1, ![128]⟩
abbrev S6144 : Shape := ⟨1, ![6144]⟩
abbrev S76160 : Shape := ⟨1, ![76160]⟩
abbrev S76800 : Shape := ⟨1, ![76800]⟩
abbrev S600x128 : Shape := ⟨2, ![600, 128]⟩

abbrev nBuf : Space → Nat
  | .hbm => 529
  | .vmem => 0
  | .smem => 0
  | _ => 0

abbrev hbmTy0_0 (i : Nat) : BufTy := match i % 128 with
  | 0 => ⟨S4x2048, .f32⟩
  | 1 => ⟨S4x4x768, .f32⟩
  | 2 => ⟨S4x3072, .f32⟩
  | 3 => ⟨S4x32, .f32⟩
  | 4 => ⟨S4x32, .f32⟩
  | 5 => ⟨S4x32, .f32⟩
  | 6 => ⟨S4x2048, .f32⟩
  | 7 => ⟨S4x3x512, .f32⟩
  | 8 => ⟨S4x2048, .f32⟩
  | 9 => ⟨S2048, .f32⟩
  | 10 => ⟨S4x2048, .f32⟩
  | 11 => ⟨S4x2048, .f32⟩
  | 12 => ⟨S2048, .f32⟩
  | 13 => ⟨S4x2048, .f32⟩
  | 14 => ⟨S4x4x768, .f32⟩
  | 15 => ⟨S4x3072, .f32⟩
  | 16 => ⟨S4x32, .f32⟩
  | 17 => ⟨S4x32, .f32⟩
  | 18 => ⟨S4x32, .f32⟩
  | 19 => ⟨S4x2048, .f32⟩
  | 20 => ⟨S4x3x512, .f32⟩
  | 21 => ⟨S4x2048, .f32⟩
  | 22 => ⟨S2048, .f32⟩
  | 23 => ⟨S4x2048, .f32⟩
  | 24 => ⟨S4x2048, .f32⟩
  | 25 => ⟨S2048, .f32⟩
  | 26 => ⟨S4x2048, .f32⟩
  | 27 => ⟨S4x4x768, .f32⟩
  | 28 => ⟨S4x3072, .f32⟩
  | 29 => ⟨S4x32, .f32⟩
  | 30 => ⟨S4x32, .f32⟩
  | 31 => ⟨S4x32, .f32⟩
  | 32 => ⟨S4x2048, .f32⟩
  | 33 => ⟨S4x3x512, .f32⟩
  | 34 => ⟨S4x2048, .f32⟩
  | 35 => ⟨S2048, .f32⟩
  | 36 => ⟨S4x2048, .f32⟩
  | 37 => ⟨S4x2048, .f32⟩
  | 38 => ⟨S2048, .f32⟩
  | 39 => ⟨S4x2048, .f32⟩
  | 40 => ⟨S4x4x768, .f32⟩
  | 41 => ⟨S4x3072, .f32⟩
  | 42 => ⟨S4x32, .f32⟩
  | 43 => ⟨S4x32, .f32⟩
  | 44 => ⟨S4x32, .f32⟩
  | 45 => ⟨S4x2048, .f32⟩
  | 46 => ⟨S4x3x512, .f32⟩
  | 47 => ⟨S4x2048, .f32⟩
  | 48 => ⟨S2048, .f32⟩
  | 49 => ⟨S4x2048, .f32⟩
  | 50 => ⟨S4x2048, .f32⟩
  | 51 => ⟨S2048, .f32⟩
  | 52 => ⟨S_, .f32⟩
  | 53 => ⟨S4x2048, .f32⟩
  | 54 => ⟨S4x2048, .f32⟩
  | 55 => ⟨S_, .f32⟩
  | 56 => ⟨S4x2048, .f32⟩
  | 57 => ⟨S4x2048, .f32⟩
  | 58 => ⟨S4x2048, .f32⟩
  | 59 => ⟨S_, .f32⟩
  | 60 => ⟨S4x2048, .f32⟩
  | 61 => ⟨S4x2048, .f32⟩
  | 62 => ⟨S4x2048, .f32⟩
  | 63 => ⟨S_, .f32⟩
  | 64 => ⟨S4x2048, .f32⟩
  | 65 => ⟨S4x2048, .f32⟩
  | 66 => ⟨S4x2048, .f32⟩
  | 67 => ⟨S_, .f32⟩
  | 68 => ⟨S4x2048, .f32⟩
  | 69 => ⟨S4x2048, .f32⟩
  | 70 => ⟨S_, .f32⟩
  | 71 => ⟨S4x2048, .f32⟩
  | 72 => ⟨S4x2048, .f32⟩
  | 73 => ⟨S4x2048, .f32⟩
  | 74 => ⟨S_, .f32⟩
  | 75 => ⟨S4x2048, .f32⟩
  | 76 => ⟨S4x2048, .f32⟩
  | 77 => ⟨S4x2048, .f32⟩
  | 78 => ⟨S_, .f32⟩
  | 79 => ⟨S4x2048, .f32⟩
  | 80 => ⟨S4x2048, .f32⟩
  | 81 => ⟨S4x2048, .f32⟩
  | 82 => ⟨S_, .f32⟩
  | 83 => ⟨S4x2048, .f32⟩
  | 84 => ⟨S4x2048, .f32⟩
  | 85 => ⟨S_, .f32⟩
  | 86 => ⟨S4x4x768, .f32⟩
  | 87 => ⟨S4x4x768, .f32⟩
  | 88 => ⟨S_, .f32⟩
  | 89 => ⟨S4x4x768, .f32⟩
  | 90 => ⟨S4x4x768, .f32⟩
  | 91 => ⟨S4x4x768, .f32⟩
  | 92 => ⟨S_, .f32⟩
  | 93 => ⟨S4x4x768, .f32⟩
  | 94 => ⟨S4x4x768, .f32⟩
  | 95 => ⟨S4x4x768, .f32⟩
  | 96 => ⟨S_, .f32⟩
  | 97 => ⟨S4x4x768, .f32⟩
  | 98 => ⟨S4x4x768, .f32⟩
  | 99 => ⟨S4x4x768, .f32⟩
  | 100 => ⟨S_, .f32⟩
  | 101 => ⟨S4x4x768, .f32⟩
  | 102 => ⟨S4x4x768, .f32⟩
  | 103 => ⟨S_, .f32⟩
  | 104 => ⟨S4x4x768, .f32⟩
  | 105 => ⟨S4x4x768, .f32⟩
  | 106 => ⟨S4x4x768, .f32⟩
  | 107 => ⟨S_, .f32⟩
  | 108 => ⟨S4x4x768, .f32⟩
  | 109 => ⟨S4x4x768, .f32⟩
  | 110 => ⟨S4x4x768, .f32⟩
  | 111 => ⟨S_, .f32⟩
  | 112 => ⟨S4x4x768, .f32⟩
  | 113 => ⟨S4x4x768, .f32⟩
  | 114 => ⟨S4x4x768, .f32⟩
  | 115 => ⟨S_, .f32⟩
  | 116 => ⟨S4x4x768, .f32⟩
  | 117 => ⟨S4x4x768, .f32⟩
  | 118 => ⟨S_, .f32⟩
  | 119 => ⟨S4x3072, .f32⟩
  | 120 => ⟨S4x3072, .f32⟩
  | 121 => ⟨S_, .f32⟩
  | 122 => ⟨S4x3072, .f32⟩
  | 123 => ⟨S4x3072, .f32⟩
  | 124 => ⟨S4x3072, .f32⟩
  | 125 => ⟨S_, .f32⟩
  | 126 => ⟨S4x3072, .f32⟩
  | 127 => ⟨S4x3072, .f32⟩
  | _ => ⟨S4x2048, .f32⟩

abbrev hbmTy0_1 (i : Nat) : BufTy := match i % 128 with
  | 0 => ⟨S4x3072, .f32⟩
  | 1 => ⟨S_, .f32⟩
  | 2 => ⟨S4x3072, .f32⟩
  | 3 => ⟨S4x3072, .f32⟩
  | 4 => ⟨S4x3072, .f32⟩
  | 5 => ⟨S_, .f32⟩
  | 6 => ⟨S4x3072, .f32⟩
  | 7 => ⟨S4x3072, .f32⟩
  | 8 => ⟨S_, .f32⟩
  | 9 => ⟨S4x3072, .f32⟩
  | 10 => ⟨S4x3072, .f32⟩
  | 11 => ⟨S4x3072, .f32⟩
  | 12 => ⟨S_, .f32⟩
  | 13 => ⟨S4x3072, .f32⟩
  | 14 => ⟨S4x3072, .f32⟩
  | 15 => ⟨S4x3072, .f32⟩
  | 16 => ⟨S_, .f32⟩
  | 17 => ⟨S4x3072, .f32⟩
  | 18 => ⟨S4x3072, .f32⟩
  | 19 => ⟨S4x3072, .f32⟩
  | 20 => ⟨S_, .f32⟩
  | 21 => ⟨S4x3072, .f32⟩
  | 22 => ⟨S4x3072, .f32⟩
  | 23 => ⟨S_, .f32⟩
  | 24 => ⟨S4x32, .f32⟩
  | 25 => ⟨S4x32, .f32⟩
  | 26 => ⟨S_, .f32⟩
  | 27 => ⟨S4x32, .f32⟩
  | 28 => ⟨S4x32, .f32⟩
  | 29 => ⟨S4x32, .f32⟩
  | 30 => ⟨S_, .f32⟩
  | 31 => ⟨S4x32, .f32⟩
  | 32 => ⟨S4x32, .f32⟩
  | 33 => ⟨S4x32, .f32⟩
  | 34 => ⟨S_, .f32⟩
  | 35 => ⟨S4x32, .f32⟩
  | 36 => ⟨S4x32, .f32⟩
  | 37 => ⟨S4x32, .f32⟩
  | 38 => ⟨S_, .f32⟩
  | 39 => ⟨S4x32, .f32⟩
  | 40 => ⟨S4x32, .f32⟩
  | 41 => ⟨S_, .f32⟩
  | 42 => ⟨S4x32, .f32⟩
  | 43 => ⟨S4x32, .f32⟩
  | 44 => ⟨S4x32, .f32⟩
  | 45 => ⟨S_, .f32⟩
  | 46 => ⟨S4x32, .f32⟩
  | 47 => ⟨S4x32, .f32⟩
  | 48 => ⟨S4x32, .f32⟩
  | 49 => ⟨S_, .f32⟩
  | 50 => ⟨S4x32, .f32⟩
  | 51 => ⟨S4x32, .f32⟩
  | 52 => ⟨S4x32, .f32⟩
  | 53 => ⟨S_, .f32⟩
  | 54 => ⟨S4x32, .f32⟩
  | 55 => ⟨S4x32, .f32⟩
  | 56 => ⟨S_, .f32⟩
  | 57 => ⟨S4x32, .f32⟩
  | 58 => ⟨S4x32, .f32⟩
  | 59 => ⟨S_, .f32⟩
  | 60 => ⟨S4x32, .f32⟩
  | 61 => ⟨S4x32, .f32⟩
  | 62 => ⟨S4x32, .f32⟩
  | 63 => ⟨S_, .f32⟩
  | 64 => ⟨S4x32, .f32⟩
  | 65 => ⟨S4x32, .f32⟩
  | 66 => ⟨S4x32, .f32⟩
  | 67 => ⟨S_, .f32⟩
  | 68 => ⟨S4x32, .f32⟩
  | 69 => ⟨S4x32, .f32⟩
  | 70 => ⟨S4x32, .f32⟩
  | 71 => ⟨S_, .f32⟩
  | 72 => ⟨S4x32, .f32⟩
  | 73 => ⟨S4x32, .f32⟩
  | 74 => ⟨S_, .f32⟩
  | 75 => ⟨S4x32, .f32⟩
  | 76 => ⟨S4x32, .f32⟩
  | 77 => ⟨S4x32, .f32⟩
  | 78 => ⟨S_, .f32⟩
  | 79 => ⟨S4x32, .f32⟩
  | 80 => ⟨S4x32, .f32⟩
  | 81 => ⟨S4x32, .f32⟩
  | 82 => ⟨S_, .f32⟩
  | 83 => ⟨S4x32, .f32⟩
  | 84 => ⟨S4x32, .f32⟩
  | 85 => ⟨S4x32, .f32⟩
  | 86 => ⟨S_, .f32⟩
  | 87 => ⟨S4x32, .f32⟩
  | 88 => ⟨S4x32, .f32⟩
  | 89 => ⟨S_, .f32⟩
  | 90 => ⟨S4x32, .f32⟩
  | 91 => ⟨S4x32, .f32⟩
  | 92 => ⟨S_, .f32⟩
  | 93 => ⟨S4x32, .f32⟩
  | 94 => ⟨S4x32, .f32⟩
  | 95 => ⟨S4x32, .f32⟩
  | 96 => ⟨S_, .f32⟩
  | 97 => ⟨S4x32, .f32⟩
  | 98 => ⟨S4x32, .f32⟩
  | 99 => ⟨S4x32, .f32⟩
  | 100 => ⟨S_, .f32⟩
  | 101 => ⟨S4x32, .f32⟩
  | 102 => ⟨S4x32, .f32⟩
  | 103 => ⟨S4x32, .f32⟩
  | 104 => ⟨S_, .f32⟩
  | 105 => ⟨S4x32, .f32⟩
  | 106 => ⟨S4x32, .f32⟩
  | 107 => ⟨S_, .f32⟩
  | 108 => ⟨S4x32, .f32⟩
  | 109 => ⟨S4x32, .f32⟩
  | 110 => ⟨S4x32, .f32⟩
  | 111 => ⟨S_, .f32⟩
  | 112 => ⟨S4x32, .f32⟩
  | 113 => ⟨S4x32, .f32⟩
  | 114 => ⟨S4x32, .f32⟩
  | 115 => ⟨S_, .f32⟩
  | 116 => ⟨S4x32, .f32⟩
  | 117 => ⟨S4x32, .f32⟩
  | 118 => ⟨S4x32, .f32⟩
  | 119 => ⟨S_, .f32⟩
  | 120 => ⟨S4x32, .f32⟩
  | 121 => ⟨S4x32, .f32⟩
  | 122 => ⟨S_, .f32⟩
  | 123 => ⟨S4x2048, .f32⟩
  | 124 => ⟨S4x2048, .f32⟩
  | 125 => ⟨S_, .f32⟩
  | 126 => ⟨S4x2048, .f32⟩
  | 127 => ⟨S4x2048, .f32⟩
  | _ => ⟨S4x2048, .f32⟩

abbrev hbmTy0_2 (i : Nat) : BufTy := match i % 128 with
  | 0 => ⟨S4x2048, .f32⟩
  | 1 => ⟨S_, .f32⟩
  | 2 => ⟨S4x2048, .f32⟩
  | 3 => ⟨S4x2048, .f32⟩
  | 4 => ⟨S4x2048, .f32⟩
  | 5 => ⟨S_, .f32⟩
  | 6 => ⟨S4x2048, .f32⟩
  | 7 => ⟨S4x2048, .f32⟩
  | 8 => ⟨S4x2048, .f32⟩
  | 9 => ⟨S_, .f32⟩
  | 10 => ⟨S4x2048, .f32⟩
  | 11 => ⟨S4x2048, .f32⟩
  | 12 => ⟨S_, .f32⟩
  | 13 => ⟨S4x2048, .f32⟩
  | 14 => ⟨S4x2048, .f32⟩
  | 15 => ⟨S4x2048, .f32⟩
  | 16 => ⟨S_, .f32⟩
  | 17 => ⟨S4x2048, .f32⟩
  | 18 => ⟨S4x2048, .f32⟩
  | 19 => ⟨S4x2048, .f32⟩
  | 20 => ⟨S_, .f32⟩
  | 21 => ⟨S4x2048, .f32⟩
  | 22 => ⟨S4x2048, .f32⟩
  | 23 => ⟨S4x2048, .f32⟩
  | 24 => ⟨S_, .f32⟩
  | 25 => ⟨S4x2048, .f32⟩
  | 26 => ⟨S4x2048, .f32⟩
  | 27 => ⟨S_, .f32⟩
  | 28 => ⟨S4x3x512, .f32⟩
  | 29 => ⟨S4x3x512, .f32⟩
  | 30 => ⟨S_, .f32⟩
  | 31 => ⟨S4x3x512, .f32⟩
  | 32 => ⟨S4x3x512, .f32⟩
  | 33 => ⟨S4x3x512, .f32⟩
  | 34 => ⟨S_, .f32⟩
  | 35 => ⟨S4x3x512, .f32⟩
  | 36 => ⟨S4x3x512, .f32⟩
  | 37 => ⟨S4x3x512, .f32⟩
  | 38 => ⟨S_, .f32⟩
  | 39 => ⟨S4x3x512, .f32⟩
  | 40 => ⟨S4x3x512, .f32⟩
  | 41 => ⟨S4x3x512, .f32⟩
  | 42 => ⟨S_, .f32⟩
  | 43 => ⟨S4x3x512, .f32⟩
  | 44 => ⟨S4x3x512, .f32⟩
  | 45 => ⟨S_, .f32⟩
  | 46 => ⟨S4x3x512, .f32⟩
  | 47 => ⟨S4x3x512, .f32⟩
  | 48 => ⟨S4x3x512, .f32⟩
  | 49 => ⟨S_, .f32⟩
  | 50 => ⟨S4x3x512, .f32⟩
  | 51 => ⟨S4x3x512, .f32⟩
  | 52 => ⟨S4x3x512, .f32⟩
  | 53 => ⟨S_, .f32⟩
  | 54 => ⟨S4x3x512, .f32⟩
  | 55 => ⟨S4x3x512, .f32⟩
  | 56 => ⟨S4x3x512, .f32⟩
  | 57 => ⟨S_, .f32⟩
  | 58 => ⟨S4x3x512, .f32⟩
  | 59 => ⟨S4x3x512, .f32⟩
  | 60 => ⟨S_, .f32⟩
  | 61 => ⟨S4x2048, .f32⟩
  | 62 => ⟨S4x2048, .f32⟩
  | 63 => ⟨S_, .f32⟩
  | 64 => ⟨S4x2048, .f32⟩
  | 65 => ⟨S4x2048, .f32⟩
  | 66 => ⟨S4x2048, .f32⟩
  | 67 => ⟨S_, .f32⟩
  | 68 => ⟨S4x2048, .f32⟩
  | 69 => ⟨S4x2048, .f32⟩
  | 70 => ⟨S4x2048, .f32⟩
  | 71 => ⟨S_, .f32⟩
  | 72 => ⟨S4x2048, .f32⟩
  | 73 => ⟨S4x2048, .f32⟩
  | 74 => ⟨S4x2048, .f32⟩
  | 75 => ⟨S_, .f32⟩
  | 76 => ⟨S4x2048, .f32⟩
  | 77 => ⟨S4x2048, .f32⟩
  | 78 => ⟨S_, .f32⟩
  | 79 => ⟨S4x2048, .f32⟩
  | 80 => ⟨S4x2048, .f32⟩
  | 81 => ⟨S4x2048, .f32⟩
  | 82 => ⟨S_, .f32⟩
  | 83 => ⟨S4x2048, .f32⟩
  | 84 => ⟨S4x2048, .f32⟩
  | 85 => ⟨S4x2048, .f32⟩
  | 86 => ⟨S_, .f32⟩
  | 87 => ⟨S4x2048, .f32⟩
  | 88 => ⟨S4x2048, .f32⟩
  | 89 => ⟨S4x2048, .f32⟩
  | 90 => ⟨S_, .f32⟩
  | 91 => ⟨S4x2048, .f32⟩
  | 92 => ⟨S4x2048, .f32⟩
  | 93 => ⟨S_, .f32⟩
  | 94 => ⟨S2048, .f32⟩
  | 95 => ⟨S2048, .f32⟩
  | 96 => ⟨S_, .f32⟩
  | 97 => ⟨S2048, .f32⟩
  | 98 => ⟨S2048, .f32⟩
  | 99 => ⟨S2048, .f32⟩
  | 100 => ⟨S_, .f32⟩
  | 101 => ⟨S2048, .f32⟩
  | 102 => ⟨S2048, .f32⟩
  | 103 => ⟨S2048, .f32⟩
  | 104 => ⟨S_, .f32⟩
  | 105 => ⟨S2048, .f32⟩
  | 106 => ⟨S2048, .f32⟩
  | 107 => ⟨S2048, .f32⟩
  | 108 => ⟨S_, .f32⟩
  | 109 => ⟨S2048, .f32⟩
  | 110 => ⟨S2048, .f32⟩
  | 111 => ⟨S_, .f32⟩
  | 112 => ⟨S2048, .f32⟩
  | 113 => ⟨S2048, .f32⟩
  | 114 => ⟨S2048, .f32⟩
  | 115 => ⟨S_, .f32⟩
  | 116 => ⟨S2048, .f32⟩
  | 117 => ⟨S2048, .f32⟩
  | 118 => ⟨S2048, .f32⟩
  | 119 => ⟨S_, .f32⟩
  | 120 => ⟨S2048, .f32⟩
  | 121 => ⟨S2048, .f32⟩
  | 122 => ⟨S2048, .f32⟩
  | 123 => ⟨S_, .f32⟩
  | 124 => ⟨S2048, .f32⟩
  | 125 => ⟨S2048, .f32⟩
  | 126 => ⟨S_, .f32⟩
  | 127 => ⟨S4x2048, .f32⟩
  | _ => ⟨S4x2048, .f32⟩

abbrev hbmTy0_3 (i : Nat) : BufTy := match i % 128 with
  | 0 => ⟨S4x2048, .f32⟩
  | 1 => ⟨S_, .f32⟩
  | 2 => ⟨S4x2048, .f32⟩
  | 3 => ⟨S4x2048, .f32⟩
  | 4 => ⟨S4x2048, .f32⟩
  | 5 => ⟨S_, .f32⟩
  | 6 => ⟨S4x2048, .f32⟩
  | 7 => ⟨S4x2048, .f32⟩
  | 8 => ⟨S4x2048, .f32⟩
  | 9 => ⟨S_, .f32⟩
  | 10 => ⟨S4x2048, .f32⟩
  | 11 => ⟨S4x2048, .f32⟩
  | 12 => ⟨S4x2048, .f32⟩
  | 13 => ⟨S_, .f32⟩
  | 14 => ⟨S4x2048, .f32⟩
  | 15 => ⟨S4x2048, .f32⟩
  | 16 => ⟨S_, .f32⟩
  | 17 => ⟨S4x2048, .f32⟩
  | 18 => ⟨S4x2048, .f32⟩
  | 19 => ⟨S4x2048, .f32⟩
  | 20 => ⟨S_, .f32⟩
  | 21 => ⟨S4x2048, .f32⟩
  | 22 => ⟨S4x2048, .f32⟩
  | 23 => ⟨S4x2048, .f32⟩
  | 24 => ⟨S_, .f32⟩
  | 25 => ⟨S4x2048, .f32⟩
  | 26 => ⟨S4x2048, .f32⟩
  | 27 => ⟨S4x2048, .f32⟩
  | 28 => ⟨S_, .f32⟩
  | 29 => ⟨S4x2048, .f32⟩
  | 30 => ⟨S4x2048, .f32⟩
  | 31 => ⟨S_, .f32⟩
  | 32 => ⟨S4x2048, .f32⟩
  | 33 => ⟨S4x2048, .f32⟩
  | 34 => ⟨S_, .f32⟩
  | 35 => ⟨S4x2048, .f32⟩
  | 36 => ⟨S4x2048, .f32⟩
  | 37 => ⟨S4x2048, .f32⟩
  | 38 => ⟨S_, .f32⟩
  | 39 => ⟨S4x2048, .f32⟩
  | 40 => ⟨S4x2048, .f32⟩
  | 41 => ⟨S4x2048, .f32⟩
  | 42 => ⟨S_, .f32⟩
  | 43 => ⟨S4x2048, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S_, .f32⟩
  | 50 => ⟨S4x2048, .f32⟩
  | 51 => ⟨S4x2048, .f32⟩
  | 52 => ⟨S4x2048, .f32⟩
  | 53 => ⟨S_, .f32⟩
  | 54 => ⟨S4x2048, .f32⟩
  | 55 => ⟨S4x2048, .f32⟩
  | 56 => ⟨S4x2048, .f32⟩
  | 57 => ⟨S_, .f32⟩
  | 58 => ⟨S4x2048, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S_, .f32⟩
  | 65 => ⟨S2048, .f32⟩
  | 66 => ⟨S2048, .f32⟩
  | 67 => ⟨S_, .f32⟩
  | 68 => ⟨S2048, .f32⟩
  | 69 => ⟨S2048, .f32⟩
  | 70 => ⟨S2048, .f32⟩
  | 71 => ⟨S_, .f32⟩
  | 72 => ⟨S2048, .f32⟩
  | 73 => ⟨S2048, .f32⟩
  | 74 => ⟨S2048, .f32⟩
  | 75 => ⟨S_, .f32⟩
  | 76 => ⟨S2048, .f32⟩
  | 77 => ⟨S2048, .f32⟩
  | 78 => ⟨S2048, .f32⟩
  | 79 => ⟨S_, .f32⟩
  | 80 => ⟨S2048, .f32⟩
  | 81 => ⟨S2048, .f32⟩
  | 82 => ⟨S_, .f32⟩
  | 83 => ⟨S2048, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048, .f32⟩
  | 90 => ⟨S_, .f32⟩
  | 91 => ⟨S2048, .f32⟩
  | 92 => ⟨S2048, .f32⟩
  | 93 => ⟨S2048, .f32⟩
  | 94 => ⟨S_, .f32⟩
  | 95 => ⟨S2048, .f32⟩
  | 96 => ⟨S2048, .f32⟩
  | 97 => ⟨S8192, .f32⟩
  | 98 => ⟨S12288, .f32⟩
  | 99 => ⟨S12288, .f32⟩
  | 100 => ⟨S128, .f32⟩
  | 101 => ⟨S128, .f32⟩
  | 102 => ⟨S128, .f32⟩
  | 103 => ⟨S8192, .f32⟩
  | 104 => ⟨S6144, .f32⟩
  | 105 => ⟨S8192, .f32⟩
  | 106 => ⟨S8192, .f32⟩
  | 107 => ⟨S8192, .f32⟩
  | 108 => ⟨S76160, .f32⟩
  | 109 => ⟨S_, .i32⟩
  | 110 => ⟨S_, .f32⟩
  | 111 => ⟨S76800, .f32⟩
  | 112 => ⟨S600x128, .f32⟩
  | 113 => ⟨S8192, .f32⟩
  | 114 => ⟨S12288, .f32⟩
  | 115 => ⟨S12288, .f32⟩
  | 116 => ⟨S128, .f32⟩
  | 117 => ⟨S128, .f32⟩
  | 118 => ⟨S128, .f32⟩
  | 119 => ⟨S8192, .f32⟩
  | 120 => ⟨S6144, .f32⟩
  | 121 => ⟨S8192, .f32⟩
  | 122 => ⟨S8192, .f32⟩
  | 123 => ⟨S8192, .f32⟩
  | 124 => ⟨S76160, .f32⟩
  | 125 => ⟨S_, .i32⟩
  | 126 => ⟨S_, .f32⟩
  | 127 => ⟨S76800, .f32⟩
  | _ => ⟨S4x2048, .f32⟩

abbrev hbmTy0_4 (i : Nat) : BufTy := match i % 128 with
  | 0 => ⟨S600x128, .f32⟩
  | 1 => ⟨S8192, .f32⟩
  | 2 => ⟨S12288, .f32⟩
  | 3 => ⟨S12288, .f32⟩
  | 4 => ⟨S128, .f32⟩
  | 5 => ⟨S128, .f32⟩
  | 6 => ⟨S128, .f32⟩
  | 7 => ⟨S8192, .f32⟩
  | 8 => ⟨S6144, .f32⟩
  | 9 => ⟨S8192, .f32⟩
  | 10 => ⟨S8192, .f32⟩
  | 11 => ⟨S8192, .f32⟩
  | 12 => ⟨S76160, .f32⟩
  | 13 => ⟨S_, .i32⟩
  | 14 => ⟨S_, .f32⟩
  | 15 => ⟨S76800, .f32⟩
  | 16 => ⟨S600x128, .f32⟩
  | _ => ⟨S4x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩
abbrev main_v312 : Ref sig .tc := ⟨.hbm, 481, rfl⟩
abbrev main_v313 : Ref sig .tc := ⟨.hbm, 482, rfl⟩
abbrev main_v314 : Ref sig .tc := ⟨.hbm, 483, rfl⟩
abbrev main_v315 : Ref sig .tc := ⟨.hbm, 484, rfl⟩
abbrev main_v316 : Ref sig .tc := ⟨.hbm, 485, rfl⟩
abbrev main_v317 : Ref sig .tc := ⟨.hbm, 486, rfl⟩
abbrev main_v318 : Ref sig .tc := ⟨.hbm, 487, rfl⟩
abbrev main_v319 : Ref sig .tc := ⟨.hbm, 488, rfl⟩
abbrev main_v320 : Ref sig .tc := ⟨.hbm, 489, rfl⟩
abbrev main_v321 : Ref sig .tc := ⟨.hbm, 490, rfl⟩
abbrev main_v322 : Ref sig .tc := ⟨.hbm, 491, rfl⟩
abbrev main_v323 : Ref sig .tc := ⟨.hbm, 492, rfl⟩
abbrev main_c : Ref sig .tc := ⟨.hbm, 493, rfl⟩
abbrev main_call0_v0 : Ref sig .tc := ⟨.hbm, 494, rfl⟩
abbrev main_v324 : Ref sig .tc := ⟨.hbm, 495, rfl⟩
abbrev main_v325 : Ref sig .tc := ⟨.hbm, 496, rfl⟩
abbrev main_v326 : Ref sig .tc := ⟨.hbm, 497, rfl⟩
abbrev main_v327 : Ref sig .tc := ⟨.hbm, 498, rfl⟩
abbrev main_v328 : Ref sig .tc := ⟨.hbm, 499, rfl⟩
abbrev main_v329 : Ref sig .tc := ⟨.hbm, 500, rfl⟩
abbrev main_v330 : Ref sig .tc := ⟨.hbm, 501, rfl⟩
abbrev main_v331 : Ref sig .tc := ⟨.hbm, 502, rfl⟩
abbrev main_v332 : Ref sig .tc := ⟨.hbm, 503, rfl⟩
abbrev main_v333 : Ref sig .tc := ⟨.hbm, 504, rfl⟩
abbrev main_v334 : Ref sig .tc := ⟨.hbm, 505, rfl⟩
abbrev main_v335 : Ref sig .tc := ⟨.hbm, 506, rfl⟩
abbrev main_v336 : Ref sig .tc := ⟨.hbm, 507, rfl⟩
abbrev main_v337 : Ref sig .tc := ⟨.hbm, 508, rfl⟩
abbrev main_c_116 : Ref sig .tc := ⟨.hbm, 509, rfl⟩
abbrev main_call1_v0 : Ref sig .tc := ⟨.hbm, 510, rfl⟩
abbrev main_v338 : Ref sig .tc := ⟨.hbm, 511, rfl⟩
abbrev main_v339 : Ref sig .tc := ⟨.hbm, 512, rfl⟩
abbrev main_v340 : Ref sig .tc := ⟨.hbm, 513, rfl⟩
abbrev main_v341 : Ref sig .tc := ⟨.hbm, 514, rfl⟩
abbrev main_v342 : Ref sig .tc := ⟨.hbm, 515, rfl⟩
abbrev main_v343 : Ref sig .tc := ⟨.hbm, 516, rfl⟩
abbrev main_v344 : Ref sig .tc := ⟨.hbm, 517, rfl⟩
abbrev main_v345 : Ref sig .tc := ⟨.hbm, 518, rfl⟩
abbrev main_v346 : Ref sig .tc := ⟨.hbm, 519, rfl⟩
abbrev main_v347 : Ref sig .tc := ⟨.hbm, 520, rfl⟩
abbrev main_v348 : Ref sig .tc := ⟨.hbm, 521, rfl⟩
abbrev main_v349 : Ref sig .tc := ⟨.hbm, 522, rfl⟩
abbrev main_v350 : Ref sig .tc := ⟨.hbm, 523, rfl⟩
abbrev main_v351 : Ref sig .tc := ⟨.hbm, 524, rfl⟩
abbrev main_c_117 : Ref sig .tc := ⟨.hbm, 525, rfl⟩
abbrev main_call2_v0 : Ref sig .tc := ⟨.hbm, 526, rfl⟩
abbrev main_v352 : Ref sig .tc := ⟨.hbm, 527, rfl⟩
abbrev main_v353 : Ref sig .tc := ⟨.hbm, 528, rfl⟩

abbrev nD : Nat := 1
abbrev τ : Topo := Topo.v7x

variable {F : FTy → Type} [FloatOps F]
-- ==== Proof.Adam.lean ====
/-
  One weight's step: the two running means and the change they make, and a stack of layers with one layer new.
-/
module

public import Idealize.ShloMosaic.Lib.Pointwise

@[expose] public section

noncomputable section

namespace Cert.Adam

open Idealize.ShloMosaic

/-- The running mean of the gradient. -/
def mean (m g : EReal) : EReal :=
  Ideal.ofBits .f32 0x3F666666#32 * m + Ideal.ofBits .f32 0x3DCCCCCD#32 * g

/-- The running mean of the gradient's square. -/
def square (v g : EReal) : EReal :=
  Ideal.ofBits .f32 0x3F7FBE77#32 * v + Ideal.ofBits .f32 0x3A83126F#32 * (g * g)

/-- The change of the weight: both means divided by what they have summed of their weights, and the decay. -/
def change (w g m v : EReal) : EReal :=
  Ideal.ofBits .f32 0xBA83126F#32
    * (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

end Cert.Adam

end
-- ==== Proof.AdamDown.lean ====
/-
  The step of the layers' down projection, for the first layer: its results are put in front of the other layers'.
-/
module

public import proofs.«01_k».proof.Defs
public import proofs.«01_k».proof.Proof.Gen.Kernel41.Frame
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Adam
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference41Ideal.Value

open Idealize.ShloMosaic Idealize.ShloMosaic.TcCoe Idealize.SL.Sem
open Cert.Reference41Ideal Cert.Reference41Ideal.Gen Cert.Adam

/-- A layer in front of the last three of a stack. -/
def front (a : FVec Ideal S1408x2048 .f32) (s : FVec Ideal S4x1408x2048 .f32) : FVec Ideal S4x1408x2048 .f32 :=
  concatenate S4x1408x2048 0 [⟨S1x1408x2048, (broadcastInDim S1x1408x2048 ![1, 2] bcast_S1408x2048_S1x1408x2048_1_2 a)⟩, ⟨S3x1408x2048, (extractStridedSlice S3x1408x2048 ![1, 0, 0] s slices_S4x1408x2048_S3x1408x2048_1_0_0)⟩] concatenates_S1x1408x2048_S3x1408x2048_S4x1408x2048_d0

/-- The first layer of a stack. -/
def layer (s : FVec Ideal S4x1408x2048 .f32) : FVec Ideal S1408x2048 .f32 :=
  shapeCast _ (extractStridedSlice S1x1408x2048 ![0, 0, 0] s slices_S4x1408x2048_S1x1408x2048_0_0_0) shapeCasts_S1x1408x2048_S1408x2048

theorem front_first (a : FVec Ideal S1408x2048 .f32) (s : FVec Ideal S4x1408x2048 .f32) (r : Fin 1408) (k : Fin 2048) :
    front a s (ix3 0 r k) = a (ix2 r k) := by
  pointwise [front]

theorem front_other (a : FVec Ideal S1408x2048 .f32) (s : FVec Ideal S4x1408x2048 .f32) (l : Fin 4) (h : ¬(l : ℕ) = 0) (r : Fin 1408) (k : Fin 2048) :
    front a s (ix3 l r k) = s (ix3 l r k) := by
  obtain ⟨p, rfl⟩ : ∃ p : Fin 3, l = p.succ := ⟨l.pred fun e => h (by rw [e]; rfl), (Fin.succ_pred _ _).symm⟩
  pointwise [front]
  rw [dif_neg (by simp)]
  exact congrArg (fun l => s (ix3 l r k)) (Fin.ext (by simp [Nat.add_comm]))

theorem layer_at (s : FVec Ideal S4x1408x2048 .f32) (r : Fin 1408) (k : Fin 2048) : layer s (ix2 r k) = s (ix3 0 r k) := by
  pointwise [layer]

/-- The two running means and the change, from the first layers. -/
def newM (m : FVec Ideal S4x1408x2048 .f32) (g : FVec Ideal S1408x2048 .f32) : FVec Ideal S1408x2048 .f32 :=
  addf (mulf (broadcastInDim S1408x2048 ![] bcast_S_S1408x2048 (constant S_ .f32 0x3F666666#32)) (layer m)) (mulf (broadcastInDim S1408x2048 ![] bcast_S_S1408x2048 (constant S_ .f32 0x3DCCCCCD#32)) g)

def newV (v : FVec Ideal S4x1408x2048 .f32) (g : FVec Ideal S1408x2048 .f32) : FVec Ideal S1408x2048 .f32 :=
  addf (mulf (broadcastInDim S1408x2048 ![] bcast_S_S1408x2048 (constant S_ .f32 0x3F7FBE77#32)) (layer v)) (mulf (broadcastInDim S1408x2048 ![] bcast_S_S1408x2048 (constant S_ .f32 0x3A83126F#32)) (mulf g g))

def delta (w m v : FVec Ideal S4x1408x2048 .f32) (g : FVec Ideal S1408x2048 .f32) : FVec Ideal S1408x2048 .f32 :=
  mulf (broadcastInDim S1408x2048 ![] bcast_S_S1408x2048 (constant S_ .f32 0xBA83126F#32)) (addf (Host.divf (Host.divf (newM m g) (broadcastInDim S1408x2048 ![] bcast_S_S1408x2048 (constant S_ .f32 0x3F26BD02#32))) (addf (Host.sqrt (Host.divf (newV v g) (broadcastInDim S1408x2048 ![] bcast_S_S1408x2048 (constant S_ .f32 0x3C231ACC#32)))) (broadcastInDim S1408x2048 ![] bcast_S_S1408x2048 (constant S_ .f32 0x322BCC77#32)))) (mulf (broadcastInDim S1408x2048 ![] bcast_S_S1408x2048 (constant S_ .f32 0x3C23D70A#32)) (layer w)))

theorem newM_at (m : FVec Ideal S4x1408x2048 .f32) (g : FVec Ideal S1408x2048 .f32) (r : Fin 1408) (k : Fin 2048) :
    newM m g (ix2 r k) = mean (m (ix3 0 r k)) (g (ix2 r k)) := by
  rw [← layer_at m r k]
  rfl

theorem newV_at (v : FVec Ideal S4x1408x2048 .f32) (g : FVec Ideal S1408x2048 .f32) (r : Fin 1408) (k : Fin 2048) :
    newV v g (ix2 r k) = square (v (ix3 0 r k)) (g (ix2 r k)) := by
  rw [← layer_at v r k]
  rfl

theorem delta_at (w m v : FVec Ideal S4x1408x2048 .f32) (g : FVec Ideal S1408x2048 .f32) (r : Fin 1408) (k : Fin 2048) :
    delta w m v g (ix2 r k) = change (w (ix3 0 r k)) (g (ix2 r k)) (m (ix3 0 r k)) (v (ix3 0 r k)) := by
  rw [← layer_at w r k, ← layer_at m r k, ← layer_at v r k]
  rfl

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v32) = front (m (c.tc.loc main_arg3)) (m (c.tc.loc main_arg4))
      ∧ r.2.mem (c.tc.loc main_v35) = front (delta (m (c.tc.loc main_arg0)) (m (c.tc.loc main_arg1)) (m (c.tc.loc main_arg2)) (m (c.tc.loc main_arg3))) (m (c.tc.loc main_arg5))
      ∧ r.2.mem (c.tc.loc main_v38) = front (newM (m (c.tc.loc main_arg1)) (m (c.tc.loc main_arg3))) (m (c.tc.loc main_arg6))
      ∧ r.2.mem (c.tc.loc main_v41) = front (newV (m (c.tc.loc main_arg2)) (m (c.tc.loc main_arg3))) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨(h c).1.trans rfl, (h c).2.1.trans rfl, (h c).2.2.1.trans rfl, (h c).2.2.2.1.trans rfl, (h c).2.2.2.2⟩)
    (run (F := Ideal) m ρ)

/-- The reference runs and leaves its arguments. -/
theorem frame_ref : Cert.quiescent_Reference41Ideal := fun m ρ _ =>
  (θ_run defs _ _).mono (fun r h => ⟨fun c => (h c).2.2.2.2, sem_eq_zero_of_no_sems (by decide) r.2⟩)
    (run (F := Ideal) m ρ)

end Cert.Reference41Ideal.Value

/-! ## The kernel -/

namespace Cert.Kernel41Ideal.Value

open Idealize.ShloMosaic Idealize.ShloMosaic.TcCoe Idealize.SL.Sem
open Idealize.ShloMosaic.Pipeline (Dat)
open Cert.Kernel41Ideal Cert.Kernel41Ideal.Gen Cert.Adam
open Cert.Reference41Ideal.Value (front front_first front_other newM newV delta newM_at newV_at delta_at)

variable (m : (ℓ : Loc nD τ sig) → Buf (Elt Ideal) ℓ)

/-- The weights, the two running means, the first layer's gradient. -/
abbrev aW (c : Dev nD) : FVec Ideal S4x1408x2048 .f32 := m ((c : Thread nD τ).loc main_arg0)
abbrev aM (c : Dev nD) : FVec Ideal S4x1408x2048 .f32 := m ((c : Thread nD τ).loc main_arg1)
abbrev aV (c : Dev nD) : FVec Ideal S4x1408x2048 .f32 := m ((c : Thread nD τ).loc main_arg2)
abbrev aG (c : Dev nD) : FVec Ideal S1408x2048 .f32 := m ((c : Thread nD τ).loc main_arg3)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- Every point writes its block back. -/
theorem flushes : ∀ t : Fin cfg0.N, (cfg0.win 4).flush t = true ∧ (cfg0.win 5).flush t = true ∧ (cfg0.win 6).flush t = true
    ∧ (cfg0.win 7).flush t = true :=
  (by decide +kernel : ∀ t : Fin grid0.N, _)

theorem lt_points (t : Fin cfg0.N) : t.val < 11 := lt_of_lt_of_eq t.isLt N_0

/-- The grid point whose blocks hold row `r`. -/
def point (r : Fin 1408) : Fin cfg0.N := ⟨r.val / 128, lt_of_lt_of_eq (by omega) N_0.symm⟩

/-- The blocks of the four inputs at grid point `t`. -/
abbrev bW (c : Dev nD) (t : Fin cfg0.N) : FVec Ideal S1x128x2048 .f32 := iblk m c 0 t
abbrev bM (c : Dev nD) (t : Fin cfg0.N) : FVec Ideal S1x128x2048 .f32 := iblk m c 1 t
abbrev bV (c : Dev nD) (t : Fin cfg0.N) : FVec Ideal S1x128x2048 .f32 := iblk m c 2 t
abbrev bG (c : Dev nD) (t : Fin cfg0.N) : FVec Ideal S128x2048 .f32 := iblk m c 3 t

theorem V_w (c : Dev nD) : V m c main_arg0 = aW m c := rfl
theorem V_m (c : Dev nD) : V m c main_arg1 = aM m c := rfl
theorem V_v (c : Dev nD) : V m c main_arg2 = aV m c := rfl
theorem V_g (c : Dev nD) : V m c main_arg3 = aG m c := rfl

theorem row_w (c : Dev nD) (t : Fin cfg0.N) (r : Fin 128) (k : Fin 2048) (r' : Fin 1408) (hR : (r' : ℕ) = t.val * 128 + r) :
    bW m c t (ix3 0 r k) = aW m c (ix3 0 r' k) := by
  rw [← V_w]
  show iblk m c 0 t (ix3 0 r k) = V m c main_arg0 (ix3 0 r' k)
  blk_point [iblk, idx t]

theorem row_m (c : Dev nD) (t : Fin cfg0.N) (r : Fin 128) (k : Fin 2048) (r' : Fin 1408) (hR : (r' : ℕ) = t.val * 128 + r) :
    bM m c t (ix3 0 r k) = aM m c (ix3 0 r' k) := by
  rw [← V_m]
  show iblk m c 1 t (ix3 0 r k) = V m c main_arg1 (ix3 0 r' k)
  blk_point [iblk, idx t]

theorem row_v (c : Dev nD) (t : Fin cfg0.N) (r : Fin 128) (k : Fin 2048) (r' : Fin 1408) (hR : (r' : ℕ) = t.val * 128 + r) :
    bV m c t (ix3 0 r k) = aV m c (ix3 0 r' k) := by
  rw [← V_v]
  show iblk m c 2 t (ix3 0 r k) = V m c main_arg2 (ix3 0 r' k)
  blk_point [iblk, idx t]

theorem row_g (c : Dev nD) (t : Fin cfg0.N) (r : Fin 128) (k : Fin 2048) (r' : Fin 1408) (hR : (r' : ℕ) = t.val * 128 + r) :
    bG m c t (ix2 r k) = aG m c (ix2 r' k) := by
  rw [← V_g]
  show iblk m c 3 t (ix2 r k) = V m c main_arg3 (ix2 r' k)
  blk_point [iblk, idx t]

theorem mean_at (g : FVec Ideal S128x2048 .f32) (b : FVec Ideal S1x128x2048 .f32) (r : Fin 128) (k : Fin 2048) :
    k0_pay4 (F := Ideal) g b (ix2 r k) = mean (b (ix3 0 r k)) (g (ix2 r k)) := by
  pointwise [k0_pay4, mean]

theorem square_at (g : FVec Ideal S128x2048 .f32) (b : FVec Ideal S1x128x2048 .f32) (r : Fin 128) (k : Fin 2048) :
    k0_pay5 (F := Ideal) g b (ix2 r k) = square (b (ix3 0 r k)) (g (ix2 r k)) := by
  pointwise [k0_pay5, square]

theorem change_at (g : FVec Ideal S128x2048 .f32) (w b s : FVec Ideal S1x128x2048 .f32) (r : Fin 128) (k : Fin 2048) :
    k0_pay6 (F := Ideal) g w b s (ix2 r k) = change (w (ix3 0 r k)) (g (ix2 r k)) (b (ix3 0 r k)) (s (ix3 0 r k)) := by
  pointwise [k0_pay6, k0_pay5, k0_pay4, change, mean, square]

theorem out_g (c : Dev nD) (t : Fin cfg0.N) (r : Fin 128) (k : Fin 2048) (r' : Fin 1408) (hR : (r' : ℕ) = t.val * 128 + r) :
    (outsAt0 m c t).1 (ix3 0 r k) = (aG m c : FVec Ideal S1408x2048 .f32) (ix2 r' k) := by
  refine Eq.trans ?_ (row_g m c t r k r' hR)
  rw [outsAt0]
  frame_out
  pointwise [k0_pay7]

/-- The whole array: the first layer new, the others as they were given. -/
theorem final_g (c : Dev nD) : (dats m 0 c).arrAt 4 (cfgs 0).N
    = front (aG m c) (m ((c : Thread nD τ).loc main_arg4)) := by
  funext j
  obtain ⟨l, r, k, rfl⟩ : ∃ (l : Fin 4) (r : Fin 1408) (k : Fin 2048), j = ix3 l r k := ⟨j 0, j 1, j 2, by blk_ext⟩
  by_cases h : (l : ℕ) = 0
  · obtain rfl : l = 0 := Fin.ext h
    have e : (ix3 0 r k : S4x1408x2048.Idx) = ((cfg0.win 4).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 4 (cfgs 0).N) e) ?_
    refine ((dats m 0 c).arrAt_emb_eq_flushed 4 disjoint4 (point r) ((flushes (point r)).1) _).trans ?_
    refine Eq.trans ?_ (out_g m c (point r) ⟨r.val % 128, by omega⟩ k r (by show (r : ℕ) = r.val / 128 * 128 + r.val % 128; omega))
    blk_simp
    rw [after0_4]
  · rw [front_other _ _ l h]
    refine (entry4 m c _ fun t _ hm => ?_).trans rfl
    obtain ⟨y, _, hy⟩ := Finset.mem_map.mp hm
    refine h ?_
    have e0 : ((((cfg0.win 4).blk t).view.emb y) 0 : ℕ) = 0 := by
      blk_simp [idx t]
    rw [hy] at e0
    exact e0

theorem out_d (c : Dev nD) (t : Fin cfg0.N) (r : Fin 128) (k : Fin 2048) (r' : Fin 1408) (hR : (r' : ℕ) = t.val * 128 + r) :
    (outsAt0 m c t).2.1 (ix3 0 r k) = (delta (aW m c) (aM m c) (aV m c) (aG m c) : FVec Ideal S1408x2048 .f32) (ix2 r' k) := by
  have e : k0_pay1 (F := Ideal) (k0_pay6 (F := Ideal) (bG m c t) (bW m c t) (bM m c t) (bV m c t)) (ix3 0 r k) = (k0_pay6 (F := Ideal) (bG m c t) (bW m c t) (bM m c t) (bV m c t)) (ix2 r k) := by
    generalize (k0_pay6 (F := Ideal) (bG m c t) (bW m c t) (bM m c t) (bV m c t)) = x
    pointwise [k0_pay1]
  rw [change_at, row_g m c t r k r' hR, row_w m c t r k r' hR, row_m m c t r k r' hR, row_v m c t r k r' hR] at e
  rw [delta_at, ← e, outsAt0]
  frame_out

/-- The whole array: the first layer new, the others as they were given. -/
theorem final_d (c : Dev nD) : (dats m 0 c).arrAt 5 (cfgs 0).N
    = front (delta (aW m c) (aM m c) (aV m c) (aG m c)) (m ((c : Thread nD τ).loc main_arg5)) := by
  funext j
  obtain ⟨l, r, k, rfl⟩ : ∃ (l : Fin 4) (r : Fin 1408) (k : Fin 2048), j = ix3 l r k := ⟨j 0, j 1, j 2, by blk_ext⟩
  by_cases h : (l : ℕ) = 0
  · obtain rfl : l = 0 := Fin.ext h
    have e : (ix3 0 r k : S4x1408x2048.Idx) = ((cfg0.win 5).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 5 (cfgs 0).N) e) ?_
    refine ((dats m 0 c).arrAt_emb_eq_flushed 5 disjoint5 (point r) ((flushes (point r)).2.1) _).trans ?_
    refine Eq.trans ?_ (out_d m c (point r) ⟨r.val % 128, by omega⟩ k r (by show (r : ℕ) = r.val / 128 * 128 + r.val % 128; omega))
    blk_simp
    rw [after0_5]
  · rw [front_other _ _ l h]
    refine (entry5 m c _ fun t _ hm => ?_).trans rfl
    obtain ⟨y, _, hy⟩ := Finset.mem_map.mp hm
    refine h ?_
    have e0 : ((((cfg0.win 5).blk t).view.emb y) 0 : ℕ) = 0 := by
      blk_simp [idx t]
    rw [hy] at e0
    exact e0

theorem out_m (c : Dev nD) (t : Fin cfg0.N) (r : Fin 128) (k : Fin 2048) (r' : Fin 1408) (hR : (r' : ℕ) = t.val * 128 + r) :
    (outsAt0 m c t).2.2.1 (ix3 0 r k) = (newM (aM m c) (aG m c) : FVec Ideal S1408x2048 .f32) (ix2 r' k) := by
  have e : k0_pay2 (F := Ideal) (k0_pay4 (F := Ideal) (bG m c t) (bM m c t)) (ix3 0 r k) = (k0_pay4 (F := Ideal) (bG m c t) (bM m c t)) (ix2 r k) := by
    generalize (k0_pay4 (F := Ideal) (bG m c t) (bM m c t)) = x
    pointwise [k0_pay2]
  rw [mean_at, row_g m c t r k r' hR, row_m m c t r k r' hR] at e
  rw [newM_at, ← e, outsAt0]
  frame_out

/-- The whole array: the first layer new, the others as they were given. -/
theorem final_m (c : Dev nD) : (dats m 0 c).arrAt 6 (cfgs 0).N
    = front (newM (aM m c) (aG m c)) (m ((c : Thread nD τ).loc main_arg6)) := by
  funext j
  obtain ⟨l, r, k, rfl⟩ : ∃ (l : Fin 4) (r : Fin 1408) (k : Fin 2048), j = ix3 l r k := ⟨j 0, j 1, j 2, by blk_ext⟩
  by_cases h : (l : ℕ) = 0
  · obtain rfl : l = 0 := Fin.ext h
    have e : (ix3 0 r k : S4x1408x2048.Idx) = ((cfg0.win 6).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 6 (cfgs 0).N) e) ?_
    refine ((dats m 0 c).arrAt_emb_eq_flushed 6 disjoint6 (point r) ((flushes (point r)).2.2.1) _).trans ?_
    refine Eq.trans ?_ (out_m m c (point r) ⟨r.val % 128, by omega⟩ k r (by show (r : ℕ) = r.val / 128 * 128 + r.val % 128; omega))
    blk_simp
    rw [after0_6]
  · rw [front_other _ _ l h]
    refine (entry6 m c _ fun t _ hm => ?_).trans rfl
    obtain ⟨y, _, hy⟩ := Finset.mem_map.mp hm
    refine h ?_
    have e0 : ((((cfg0.win 6).blk t).view.emb y) 0 : ℕ) = 0 := by
      blk_simp [idx t]
    rw [hy] at e0
    exact e0

theorem out_v (c : Dev nD) (t : Fin cfg0.N) (r : Fin 128) (k : Fin 2048) (r' : Fin 1408) (hR : (r' : ℕ) = t.val * 128 + r) :
    (outsAt0 m c t).2.2.2 (ix3 0 r k) = (newV (aV m c) (aG m c) : FVec Ideal S1408x2048 .f32) (ix2 r' k) := by
  have e : k0_pay3 (F := Ideal) (k0_pay5 (F := Ideal) (bG m c t) (bV m c t)) (ix3 0 r k) = (k0_pay5 (F := Ideal) (bG m c t) (bV m c t)) (ix2 r k) := by
    generalize (k0_pay5 (F := Ideal) (bG m c t) (bV m c t)) = x
    pointwise [k0_pay3]
  rw [square_at, row_g m c t r k r' hR, row_v m c t r k r' hR] at e
  rw [newV_at, ← e, outsAt0]
  frame_out

/-- The whole array: the first layer new, the others as they were given. -/
theorem final_v (c : Dev nD) : (dats m 0 c).arrAt 7 (cfgs 0).N
    = front (newV (aV m c) (aG m c)) (m ((c : Thread nD τ).loc main_arg7)) := by
  funext j
  obtain ⟨l, r, k, rfl⟩ : ∃ (l : Fin 4) (r : Fin 1408) (k : Fin 2048), j = ix3 l r k := ⟨j 0, j 1, j 2, by blk_ext⟩
  by_cases h : (l : ℕ) = 0
  · obtain rfl : l = 0 := Fin.ext h
    have e : (ix3 0 r k : S4x1408x2048.Idx) = ((cfg0.win 7).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 7 (cfgs 0).N) e) ?_
    refine ((dats m 0 c).arrAt_emb_eq_flushed 7 disjoint7 (point r) ((flushes (point r)).2.2.2) _).trans ?_
    refine Eq.trans ?_ (out_v m c (point r) ⟨r.val % 128, by omega⟩ k r (by show (r : ℕ) = r.val / 128 * 128 + r.val % 128; omega))
    blk_simp
    rw [after0_7]
  · rw [front_other _ _ l h]
    refine (entry7 m c _ fun t _ hm => ?_).trans rfl
    obtain ⟨y, _, hy⟩ := Finset.mem_map.mp hm
    refine h ?_
    have e0 : ((((cfg0.win 7).blk t).view.emb y) 0 : ℕ) = 0 := by
      blk_simp [idx t]
    rw [hy] at e0
    exact e0

/-- Kernel and reference leave the same stacks. -/
theorem same : Cert.algebraic_Kernel41Ideal_Reference41Ideal := by
  pair_intro
  · run_from Cert.Kernel41Ideal.Value.run_blocks m g
  · run_from Cert.Reference41Ideal.Value.run_ref m' g'
    · exact (final_g m c).symm
    · exact (final_d m c).symm
    · exact (final_m m c).symm
    · exact (final_v m c).symm

end Cert.Kernel41Ideal.Value

end
-- ==== Proof.AdamGate.lean ====
/-
  The step of the layers' gate and up projections, for the first layer: its results are put in front of the other layers'.
-/
module

public import proofs.«01_k».proof.Defs
public import proofs.«01_k».proof.Proof.Gen.Kernel40.Frame
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Adam
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference40Ideal.Value

open Idealize.ShloMosaic Idealize.ShloMosaic.TcCoe Idealize.SL.Sem
open Cert.Reference40Ideal Cert.Reference40Ideal.Gen Cert.Adam

/-- A layer in front of the last three of a stack. -/
def front (a : FVec Ideal S2048x1408 .f32) (s : FVec Ideal S4x2048x1408 .f32) : FVec Ideal S4x2048x1408 .f32 :=
  concatenate S4x2048x1408 0 [⟨S1x2048x1408, (broadcastInDim S1x2048x1408 ![1, 2] bcast_S2048x1408_S1x2048x1408_1_2 a)⟩, ⟨S3x2048x1408, (extractStridedSlice S3x2048x1408 ![1, 0, 0] s slices_S4x2048x1408_S3x2048x1408_1_0_0)⟩] concatenates_S1x2048x1408_S3x2048x1408_S4x2048x1408_d0

/-- The first layer of a stack. -/
def layer (s : FVec Ideal S4x2048x1408 .f32) : FVec Ideal S2048x1408 .f32 :=
  shapeCast _ (extractStridedSlice S1x2048x1408 ![0, 0, 0] s slices_S4x2048x1408_S1x2048x1408_0_0_0) shapeCasts_S1x2048x1408_S2048x1408

theorem front_first (a : FVec Ideal S2048x1408 .f32) (s : FVec Ideal S4x2048x1408 .f32) (r : Fin 2048) (k : Fin 1408) :
    front a s (ix3 0 r k) = a (ix2 r k) := by
  pointwise [front]

theorem front_other (a : FVec Ideal S2048x1408 .f32) (s : FVec Ideal S4x2048x1408 .f32) (l : Fin 4) (h : ¬(l : ℕ) = 0) (r : Fin 2048) (k : Fin 1408) :
    front a s (ix3 l r k) = s (ix3 l r k) := by
  obtain ⟨p, rfl⟩ : ∃ p : Fin 3, l = p.succ := ⟨l.pred fun e => h (by rw [e]; rfl), (Fin.succ_pred _ _).symm⟩
  pointwise [front]
  rw [dif_neg (by simp)]
  exact congrArg (fun l => s (ix3 l r k)) (Fin.ext (by simp [Nat.add_comm]))

theorem layer_at (s : FVec Ideal S4x2048x1408 .f32) (r : Fin 2048) (k : Fin 1408) : layer s (ix2 r k) = s (ix3 0 r k) := by
  pointwise [layer]

/-- The two running means and the change, from the first layers. -/
def newM (m : FVec Ideal S4x2048x1408 .f32) (g : FVec Ideal S2048x1408 .f32) : FVec Ideal S2048x1408 .f32 :=
  addf (mulf (broadcastInDim S2048x1408 ![] bcast_S_S2048x1408 (constant S_ .f32 0x3F666666#32)) (layer m)) (mulf (broadcastInDim S2048x1408 ![] bcast_S_S2048x1408 (constant S_ .f32 0x3DCCCCCD#32)) g)

def newV (v : FVec Ideal S4x2048x1408 .f32) (g : FVec Ideal S2048x1408 .f32) : FVec Ideal S2048x1408 .f32 :=
  addf (mulf (broadcastInDim S2048x1408 ![] bcast_S_S2048x1408 (constant S_ .f32 0x3F7FBE77#32)) (layer v)) (mulf (broadcastInDim S2048x1408 ![] bcast_S_S2048x1408 (constant S_ .f32 0x3A83126F#32)) (mulf g g))

def delta (w m v : FVec Ideal S4x2048x1408 .f32) (g : FVec Ideal S2048x1408 .f32) : FVec Ideal S2048x1408 .f32 :=
  mulf (broadcastInDim S2048x1408 ![] bcast_S_S2048x1408 (constant S_ .f32 0xBA83126F#32)) (addf (Host.divf (Host.divf (newM m g) (broadcastInDim S2048x1408 ![] bcast_S_S2048x1408 (constant S_ .f32 0x3F26BD02#32))) (addf (Host.sqrt (Host.divf (newV v g) (broadcastInDim S2048x1408 ![] bcast_S_S2048x1408 (constant S_ .f32 0x3C231ACC#32)))) (broadcastInDim S2048x1408 ![] bcast_S_S2048x1408 (constant S_ .f32 0x322BCC77#32)))) (mulf (broadcastInDim S2048x1408 ![] bcast_S_S2048x1408 (constant S_ .f32 0x3C23D70A#32)) (layer w)))

theorem newM_at (m : FVec Ideal S4x2048x1408 .f32) (g : FVec Ideal S2048x1408 .f32) (r : Fin 2048) (k : Fin 1408) :
    newM m g (ix2 r k) = mean (m (ix3 0 r k)) (g (ix2 r k)) := by
  rw [← layer_at m r k]
  rfl

theorem newV_at (v : FVec Ideal S4x2048x1408 .f32) (g : FVec Ideal S2048x1408 .f32) (r : Fin 2048) (k : Fin 1408) :
    newV v g (ix2 r k) = square (v (ix3 0 r k)) (g (ix2 r k)) := by
  rw [← layer_at v r k]
  rfl

theorem delta_at (w m v : FVec Ideal S4x2048x1408 .f32) (g : FVec Ideal S2048x1408 .f32) (r : Fin 2048) (k : Fin 1408) :
    delta w m v g (ix2 r k) = change (w (ix3 0 r k)) (g (ix2 r k)) (m (ix3 0 r k)) (v (ix3 0 r k)) := by
  rw [← layer_at w r k, ← layer_at m r k, ← layer_at v r k]
  rfl

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v32) = front (m (c.tc.loc main_arg3)) (m (c.tc.loc main_arg4))
      ∧ r.2.mem (c.tc.loc main_v35) = front (delta (m (c.tc.loc main_arg0)) (m (c.tc.loc main_arg1)) (m (c.tc.loc main_arg2)) (m (c.tc.loc main_arg3))) (m (c.tc.loc main_arg5))
      ∧ r.2.mem (c.tc.loc main_v38) = front (newM (m (c.tc.loc main_arg1)) (m (c.tc.loc main_arg3))) (m (c.tc.loc main_arg6))
      ∧ r.2.mem (c.tc.loc main_v41) = front (newV (m (c.tc.loc main_arg2)) (m (c.tc.loc main_arg3))) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨(h c).1.trans rfl, (h c).2.1.trans rfl, (h c).2.2.1.trans rfl, (h c).2.2.2.1.trans rfl, (h c).2.2.2.2⟩)
    (run (F := Ideal) m ρ)

/-- The reference runs and leaves its arguments. -/
theorem frame_ref : Cert.quiescent_Reference40Ideal := fun m ρ _ =>
  (θ_run defs _ _).mono (fun r h => ⟨fun c => (h c).2.2.2.2, sem_eq_zero_of_no_sems (by decide) r.2⟩)
    (run (F := Ideal) m ρ)

end Cert.Reference40Ideal.Value

/-! ## The kernel -/

namespace Cert.Kernel40Ideal.Value

open Idealize.ShloMosaic Idealize.ShloMosaic.TcCoe Idealize.SL.Sem
open Idealize.ShloMosaic.Pipeline (Dat)
open Cert.Kernel40Ideal Cert.Kernel40Ideal.Gen Cert.Adam
open Cert.Reference40Ideal.Value (front front_first front_other newM newV delta newM_at newV_at delta_at)

variable (m : (ℓ : Loc nD τ sig) → Buf (Elt Ideal) ℓ)

/-- The weights, the two running means, the first layer's gradient. -/
abbrev aW (c : Dev nD) : FVec Ideal S4x2048x1408 .f32 := m ((c : Thread nD τ).loc main_arg0)
abbrev aM (c : Dev nD) : FVec Ideal S4x2048x1408 .f32 := m ((c : Thread nD τ).loc main_arg1)
abbrev aV (c : Dev nD) : FVec Ideal S4x2048x1408 .f32 := m ((c : Thread nD τ).loc main_arg2)
abbrev aG (c : Dev nD) : FVec Ideal S2048x1408 .f32 := m ((c : Thread nD τ).loc main_arg3)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- Every point writes its block back. -/
theorem flushes : ∀ t : Fin cfg0.N, (cfg0.win 4).flush t = true ∧ (cfg0.win 5).flush t = true ∧ (cfg0.win 6).flush t = true
    ∧ (cfg0.win 7).flush t = true :=
  (by decide +kernel : ∀ t : Fin grid0.N, _)

theorem lt_points (t : Fin cfg0.N) : t.val < 16 := lt_of_lt_of_eq t.isLt N_0

/-- The grid point whose blocks hold row `r`. -/
def point (r : Fin 2048) : Fin cfg0.N := ⟨r.val / 128, lt_of_lt_of_eq (by omega) N_0.symm⟩

/-- The blocks of the four inputs at grid point `t`. -/
abbrev bW (c : Dev nD) (t : Fin cfg0.N) : FVec Ideal S1x128x1408 .f32 := iblk m c 0 t
abbrev bM (c : Dev nD) (t : Fin cfg0.N) : FVec Ideal S1x128x1408 .f32 := iblk m c 1 t
abbrev bV (c : Dev nD) (t : Fin cfg0.N) : FVec Ideal S1x128x1408 .f32 := iblk m c 2 t
abbrev bG (c : Dev nD) (t : Fin cfg0.N) : FVec Ideal S128x1408 .f32 := iblk m c 3 t

theorem V_w (c : Dev nD) : V m c main_arg0 = aW m c := rfl
theorem V_m (c : Dev nD) : V m c main_arg1 = aM m c := rfl
theorem V_v (c : Dev nD) : V m c main_arg2 = aV m c := rfl
theorem V_g (c : Dev nD) : V m c main_arg3 = aG m c := rfl

theorem row_w (c : Dev nD) (t : Fin cfg0.N) (r : Fin 128) (k : Fin 1408) (r' : Fin 2048) (hR : (r' : ℕ) = t.val * 128 + r) :
    bW m c t (ix3 0 r k) = aW m c (ix3 0 r' k) := by
  rw [← V_w]
  show iblk m c 0 t (ix3 0 r k) = V m c main_arg0 (ix3 0 r' k)
  blk_point [iblk, idx t]

theorem row_m (c : Dev nD) (t : Fin cfg0.N) (r : Fin 128) (k : Fin 1408) (r' : Fin 2048) (hR : (r' : ℕ) = t.val * 128 + r) :
    bM m c t (ix3 0 r k) = aM m c (ix3 0 r' k) := by
  rw [← V_m]
  show iblk m c 1 t (ix3 0 r k) = V m c main_arg1 (ix3 0 r' k)
  blk_point [iblk, idx t]

theorem row_v (c : Dev nD) (t : Fin cfg0.N) (r : Fin 128) (k : Fin 1408) (r' : Fin 2048) (hR : (r' : ℕ) = t.val * 128 + r) :
    bV m c t (ix3 0 r k) = aV m c (ix3 0 r' k) := by
  rw [← V_v]
  show iblk m c 2 t (ix3 0 r k) = V m c main_arg2 (ix3 0 r' k)
  blk_point [iblk, idx t]

theorem row_g (c : Dev nD) (t : Fin cfg0.N) (r : Fin 128) (k : Fin 1408) (r' : Fin 2048) (hR : (r' : ℕ) = t.val * 128 + r) :
    bG m c t (ix2 r k) = aG m c (ix2 r' k) := by
  rw [← V_g]
  show iblk m c 3 t (ix2 r k) = V m c main_arg3 (ix2 r' k)
  blk_point [iblk, idx t]

theorem mean_at (g : FVec Ideal S128x1408 .f32) (b : FVec Ideal S1x128x1408 .f32) (r : Fin 128) (k : Fin 1408) :
    k0_pay4 (F := Ideal) g b (ix2 r k) = mean (b (ix3 0 r k)) (g (ix2 r k)) := by
  pointwise [k0_pay4, mean]

theorem square_at (g : FVec Ideal S128x1408 .f32) (b : FVec Ideal S1x128x1408 .f32) (r : Fin 128) (k : Fin 1408) :
    k0_pay5 (F := Ideal) g b (ix2 r k) = square (b (ix3 0 r k)) (g (ix2 r k)) := by
  pointwise [k0_pay5, square]

theorem change_at (g : FVec Ideal S128x1408 .f32) (w b s : FVec Ideal S1x128x1408 .f32) (r : Fin 128) (k : Fin 1408) :
    k0_pay6 (F := Ideal) g w b s (ix2 r k) = change (w (ix3 0 r k)) (g (ix2 r k)) (b (ix3 0 r k)) (s (ix3 0 r k)) := by
  pointwise [k0_pay6, k0_pay5, k0_pay4, change, mean, square]

theorem out_g (c : Dev nD) (t : Fin cfg0.N) (r : Fin 128) (k : Fin 1408) (r' : Fin 2048) (hR : (r' : ℕ) = t.val * 128 + r) :
    (outsAt0 m c t).1 (ix3 0 r k) = (aG m c : FVec Ideal S2048x1408 .f32) (ix2 r' k) := by
  refine Eq.trans ?_ (row_g m c t r k r' hR)
  rw [outsAt0]
  frame_out
  pointwise [k0_pay7]

/-- The whole array: the first layer new, the others as they were given. -/
theorem final_g (c : Dev nD) : (dats m 0 c).arrAt 4 (cfgs 0).N
    = front (aG m c) (m ((c : Thread nD τ).loc main_arg4)) := by
  funext j
  obtain ⟨l, r, k, rfl⟩ : ∃ (l : Fin 4) (r : Fin 2048) (k : Fin 1408), j = ix3 l r k := ⟨j 0, j 1, j 2, by blk_ext⟩
  by_cases h : (l : ℕ) = 0
  · obtain rfl : l = 0 := Fin.ext h
    have e : (ix3 0 r k : S4x2048x1408.Idx) = ((cfg0.win 4).blk (point r)).view.emb (ix3 0 ⟨r.val % 128, by omega⟩ k : S1x128x1408.Idx) := by
      have hp := idx (point r)
      simp only [point] at hp
      blk_ext [hp, point]
    rw [front_first]
    refine Eq.trans (congrArg ((dats m 0 c).arrAt 4 (cfgs 0).N) e) ?_
    refine ((dats m 0 c).arrAt_emb_eq_flushed 4 disjoint4 (point r) ((flushes (point r)).1) _).trans ?_
    refine Eq.trans ?_ (out_g m c (point r) ⟨r.val % 128, by omega⟩ k r (by show (r : ℕ) = r.val / 128 * 128 + r.val % 128; omega))
    blk_simp
    rw [after0_4]
  · rw [front_other _ _ l h]
    refine (entry4 m c _ fun t _ hm => ?_).trans rfl
    obtain ⟨y, _, hy⟩ := Finset.mem_map.mp hm
    refine h ?_
    have e0 : ((((cfg0.win 4).blk t).view.emb y) 0 : ℕ) = 0 := by
      blk_simp [idx t]
    rw [hy] at e0
    exact e0

theorem out_d (c : Dev nD) (t : Fin cfg0.N) (r : Fin 128) (k : Fin 1408) (r' : Fin 2048) (hR : (r' : ℕ) = t.val * 128 + r) :
    (outsAt0 m c t).2.1 (ix3 0 r k) = (delta (aW m c) (aM m c) (aV m c) (aG m c) : FVec Ideal S2048x1408 .f32) (ix2 r' k) := by
  have e : k0_pay1 (F := Ideal) (k0_pay6 (F := Ideal) (bG m c t) (bW m c t) (bM m c t) (bV m c t)) (ix3 0 r k) = (k0_pay6 (F := Ideal) (bG m c t) (bW m c t) (bM m c t) (bV m c t)) (ix2 r k) := by
    generalize (k0_pay6 (F := Ideal) (bG m c t) (bW m c t) (bM m c t) (bV m c t)) = x
    pointwise [k0_pay1]
  rw [change_at, row_g m c t r k r' hR, row_w m c t r k r' hR, row_m m c t r k r' hR, row_v m c t r k r' hR] at e
  rw [delta_at, ← e, outsAt0]
  frame_out

/-- The whole array: the first layer new, the others as they were given. -/
theorem final_d (c : Dev nD) : (dats m 0 c).arrAt 5 (cfgs 0).N
    = front (delta (aW m c) (aM m c) (aV m c) (aG m c)) (m ((c : Thread nD τ).loc main_arg5)) := by
  funext j
  obtain ⟨l, r, k, rfl⟩ : ∃ (l : Fin 4) (r : Fin 2048) (k : Fin 1408), j = ix3 l r k := ⟨j 0, j 1, j 2, by blk_ext⟩
  by_cases h : (l : ℕ) = 0
  · obtain rfl : l = 0 := Fin.ext h
    have e : (ix3 0 r k : S4x2048x1408.Idx) = ((cfg0.win 5).blk (point r)).view.emb (ix3 0 ⟨r.val % 128, by omega⟩ k : S1x128x1408.Idx) := by
      have hp := idx (point r)
      simp only [point] at hp
      blk_ext [hp, point]
    rw [front_first]
    refine Eq.trans (congrArg ((dats m 0 c).arrAt 5 (cfgs 0).N) e) ?_
    refine ((dats m 0 c).arrAt_emb_eq_flushed 5 disjoint5 (point r) ((flushes (point r)).2.1) _).trans ?_
    refine Eq.trans ?_ (out_d m c (point r) ⟨r.val % 128, by omega⟩ k r (by show (r : ℕ) = r.val / 128 * 128 + r.val % 128; omega))
    blk_simp
    rw [after0_5]
  · rw [front_other _ _ l h]
    refine (entry5 m c _ fun t _ hm => ?_).trans rfl
    obtain ⟨y, _, hy⟩ := Finset.mem_map.mp hm
    refine h ?_
    have e0 : ((((cfg0.win 5).blk t).view.emb y) 0 : ℕ) = 0 := by
      blk_simp [idx t]
    rw [hy] at e0
    exact e0

theorem out_m (c : Dev nD) (t : Fin cfg0.N) (r : Fin 128) (k : Fin 1408) (r' : Fin 2048) (hR : (r' : ℕ) = t.val * 128 + r) :
    (outsAt0 m c t).2.2.1 (ix3 0 r k) = (newM (aM m c) (aG m c) : FVec Ideal S2048x1408 .f32) (ix2 r' k) := by
  have e : k0_pay2 (F := Ideal) (k0_pay4 (F := Ideal) (bG m c t) (bM m c t)) (ix3 0 r k) = (k0_pay4 (F := Ideal) (bG m c t) (bM m c t)) (ix2 r k) := by
    generalize (k0_pay4 (F := Ideal) (bG m c t) (bM m c t)) = x
    pointwise [k0_pay2]
  rw [mean_at, row_g m c t r k r' hR, row_m m c t r k r' hR] at e
  rw [newM_at, ← e, outsAt0]
  frame_out

/-- The whole array: the first layer new, the others as they were given. -/
theorem final_m (c : Dev nD) : (dats m 0 c).arrAt 6 (cfgs 0).N
    = front (newM (aM m c) (aG m c)) (m ((c : Thread nD τ).loc main_arg6)) := by
  funext j
  obtain ⟨l, r, k, rfl⟩ : ∃ (l : Fin 4) (r : Fin 2048) (k : Fin 1408), j = ix3 l r k := ⟨j 0, j 1, j 2, by blk_ext⟩
  by_cases h : (l : ℕ) = 0
  · obtain rfl : l = 0 := Fin.ext h
    have e : (ix3 0 r k : S4x2048x1408.Idx) = ((cfg0.win 6).blk (point r)).view.emb (ix3 0 ⟨r.val % 128, by omega⟩ k : S1x128x1408.Idx) := by
      have hp := idx (point r)
      simp only [point] at hp
      blk_ext [hp, point]
    rw [front_first]
    refine Eq.trans (congrArg ((dats m 0 c).arrAt 6 (cfgs 0).N) e) ?_
    refine ((dats m 0 c).arrAt_emb_eq_flushed 6 disjoint6 (point r) ((flushes (point r)).2.2.1) _).trans ?_
    refine Eq.trans ?_ (out_m m c (point r) ⟨r.val % 128, by omega⟩ k r (by show (r : ℕ) = r.val / 128 * 128 + r.val % 128; omega))
    blk_simp
    rw [after0_6]
  · rw [front_other _ _ l h]
    refine (entry6 m c _ fun t _ hm => ?_).trans rfl
    obtain ⟨y, _, hy⟩ := Finset.mem_map.mp hm
    refine h ?_
    have e0 : ((((cfg0.win 6).blk t).view.emb y) 0 : ℕ) = 0 := by
      blk_simp [idx t]
    rw [hy] at e0
    exact e0

theorem out_v (c : Dev nD) (t : Fin cfg0.N) (r : Fin 128) (k : Fin 1408) (r' : Fin 2048) (hR : (r' : ℕ) = t.val * 128 + r) :
    (outsAt0 m c t).2.2.2 (ix3 0 r k) = (newV (aV m c) (aG m c) : FVec Ideal S2048x1408 .f32) (ix2 r' k) := by
  have e : k0_pay3 (F := Ideal) (k0_pay5 (F := Ideal) (bG m c t) (bV m c t)) (ix3 0 r k) = (k0_pay5 (F := Ideal) (bG m c t) (bV m c t)) (ix2 r k) := by
    generalize (k0_pay5 (F := Ideal) (bG m c t) (bV m c t)) = x
    pointwise [k0_pay3]
  rw [square_at, row_g m c t r k r' hR, row_v m c t r k r' hR] at e
  rw [newV_at, ← e, outsAt0]
  frame_out

/-- The whole array: the first layer new, the others as they were given. -/
theorem final_v (c : Dev nD) : (dats m 0 c).arrAt 7 (cfgs 0).N
    = front (newV (aV m c) (aG m c)) (m ((c : Thread nD τ).loc main_arg7)) := by
  funext j
  obtain ⟨l, r, k, rfl⟩ : ∃ (l : Fin 4) (r : Fin 2048) (k : Fin 1408), j = ix3 l r k := ⟨j 0, j 1, j 2, by blk_ext⟩
  by_cases h : (l : ℕ) = 0
  · obtain rfl : l = 0 := Fin.ext h
    have e : (ix3 0 r k : S4x2048x1408.Idx) = ((cfg0.win 7).blk (point r)).view.emb (ix3 0 ⟨r.val % 128, by omega⟩ k : S1x128x1408.Idx) := by
      have hp := idx (point r)
      simp only [point] at hp
      blk_ext [hp, point]
    rw [front_first]
    refine Eq.trans (congrArg ((dats m 0 c).arrAt 7 (cfgs 0).N) e) ?_
    refine ((dats m 0 c).arrAt_emb_eq_flushed 7 disjoint7 (point r) ((flushes (point r)).2.2.2) _).trans ?_
    refine Eq.trans ?_ (out_v m c (point r) ⟨r.val % 128, by omega⟩ k r (by show (r : ℕ) = r.val / 128 * 128 + r.val % 128; omega))
    blk_simp
    rw [after0_7]
  · rw [front_other _ _ l h]
    refine (entry7 m c _ fun t _ hm => ?_).trans rfl
    obtain ⟨y, _, hy⟩ := Finset.mem_map.mp hm
    refine h ?_
    have e0 : ((((cfg0.win 7).blk t).view.emb y) 0 : ℕ) = 0 := by
      blk_simp [idx t]
    rw [hy] at e0
    exact e0

/-- Kernel and reference leave the same stacks. -/
theorem same : Cert.algebraic_Kernel40Ideal_Reference40Ideal := by
  pair_intro
  · run_from Cert.Kernel40Ideal.Value.run_blocks m g
  · run_from Cert.Reference40Ideal.Value.run_ref m' g'
    · exact (final_g m c).symm
    · exact (final_d m c).symm
    · exact (final_m m c).symm
    · exact (final_v m c).symm

end Cert.Kernel40Ideal.Value

end
-- ==== Proof.AdamHead.lean ====
/-
  The step of the layers' attention projections, for the first layer: its results are put in front of the other layers'.
-/
module

public import proofs.«01_k».proof.Defs
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Adam
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference39Ideal.Value

open Idealize.ShloMosaic Idealize.ShloMosaic.TcCoe Idealize.SL.Sem
open Cert.Reference39Ideal Cert.Reference39Ideal.Gen Cert.Adam

/-- A layer in front of the last three of a stack. -/
def front (a : FVec Ideal S512x512 .f32) (s : FVec Ideal S4x512x512 .f32) : FVec Ideal S4x512x512 .f32 :=
  concatenate S4x512x512 0 [⟨S1x512x512, (broadcastInDim S1x512x512 ![1, 2] bcast_S512x512_S1x512x512_1_2 a)⟩, ⟨S3x512x512, (extractStridedSlice S3x512x512 ![1, 0, 0] s slices_S4x512x512_S3x512x512_1_0_0)⟩] concatenates_S1x512x512_S3x512x512_S4x512x512_d0

/-- The first layer of a stack. -/
def layer (s : FVec Ideal S4x512x512 .f32) : FVec Ideal S512x512 .f32 :=
  shapeCast _ (extractStridedSlice S1x512x512 ![0, 0, 0] s slices_S4x512x512_S1x512x512_0_0_0) shapeCasts_S1x512x512_S512x512

theorem front_first (a : FVec Ideal S512x512 .f32) (s : FVec Ideal S4x512x512 .f32) (r : Fin 512) (k : Fin 512) :
    front a s (ix3 0 r k) = a (ix2 r k) := by
  pointwise [front]

theorem front_other (a : FVec Ideal S512x512 .f32) (s : FVec Ideal S4x512x512 .f32) (l : Fin 4) (h : ¬(l : ℕ) = 0) (r : Fin 512) (k : Fin 512) :
    front a s (ix3 l r k) = s (ix3 l r k) := by
  obtain ⟨p, rfl⟩ : ∃ p : Fin 3, l = p.succ := ⟨l.pred fun e => h (by rw [e]; rfl), (Fin.succ_pred _ _).symm⟩
  pointwise [front]
  rw [dif_neg (by simp)]
  exact congrArg (fun l => s (ix3 l r k)) (Fin.ext (by simp [Nat.add_comm]))

theorem layer_at (s : FVec Ideal S4x512x512 .f32) (r : Fin 512) (k : Fin 512) : layer s (ix2 r k) = s (ix3 0 r k) := by
  pointwise [layer]

/-- The two running means and the change, from the first layers. -/
def newM (m : FVec Ideal S4x512x512 .f32) (g : FVec Ideal S512x512 .f32) : FVec Ideal S512x512 .f32 :=
  addf (mulf (broadcastInDim S512x512 ![] bcast_S_S512x512 (constant S_ .f32 0x3F666666#32)) (layer m)) (mulf (broadcastInDim S512x512 ![] bcast_S_S512x512 (constant S_ .f32 0x3DCCCCCD#32)) g)

def newV (v : FVec Ideal S4x512x512 .f32) (g : FVec Ideal S512x512 .f32) : FVec Ideal S512x512 .f32 :=
  addf (mulf (broadcastInDim S512x512 ![] bcast_S_S512x512 (constant S_ .f32 0x3F7FBE77#32)) (layer v)) (mulf (broadcastInDim S512x512 ![] bcast_S_S512x512 (constant S_ .f32 0x3A83126F#32)) (mulf g g))

def delta (w m v : FVec Ideal S4x512x512 .f32) (g : FVec Ideal S512x512 .f32) : FVec Ideal S512x512 .f32 :=
  mulf (broadcastInDim S512x512 ![] bcast_S_S512x512 (constant S_ .f32 0xBA83126F#32)) (addf (Host.divf (Host.divf (newM m g) (broadcastInDim S512x512 ![] bcast_S_S512x512 (constant S_ .f32 0x3F26BD02#32))) (addf (Host.sqrt (Host.divf (newV v g) (broadcastInDim S512x512 ![] bcast_S_S512x512 (constant S_ .f32 0x3C231ACC#32)))) (broadcastInDim S512x512 ![] bcast_S_S512x512 (constant S_ .f32 0x322BCC77#32)))) (mulf (broadcastInDim S512x512 ![] bcast_S_S512x512 (constant S_ .f32 0x3C23D70A#32)) (layer w)))

theorem newM_at (m : FVec Ideal S4x512x512 .f32) (g : FVec Ideal S512x512 .f32) (r : Fin 512) (k : Fin 512) :
    newM m g (ix2 r k) = mean (m (ix3 0 r k)) (g (ix2 r k)) := by
  rw [← layer_at m r k]
  rfl

theorem newV_at (v : FVec Ideal S4x512x512 .f32) (g : FVec Ideal S512x512 .f32) (r : Fin 512) (k : Fin 512) :
    newV v g (ix2 r k) = square (v (ix3 0 r k)) (g (ix2 r k)) := by
  rw [← layer_at v r k]
  rfl

theorem delta_at (w m v : FVec Ideal S4x512x512 .f32) (g : FVec Ideal S512x512 .f32) (r : Fin 512) (k : Fin 512) :
    delta w m v g (ix2 r k) = change (w (ix3 0 r k)) (g (ix2 r k)) (m (ix3 0 r k)) (v (ix3 0 r k)) := by
  rw [← layer_at w r k, ← layer_at m r k, ← layer_at v r k]
  rfl

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v32) = front (m (c.tc.loc main_arg3)) (m (c.tc.loc main_arg4))
      ∧ r.2.mem (c.tc.loc main_v35) = front (delta (m (c.tc.loc main_arg0)) (m (c.tc.loc main_arg1)) (m (c.tc.loc main_arg2)) (m (c.tc.loc main_arg3))) (m (c.tc.loc main_arg5))
      ∧ r.2.mem (c.tc.loc main_v38) = front (newM (m (c.tc.loc main_arg1)) (m (c.tc.loc main_arg3))) (m (c.tc.loc main_arg6))
      ∧ r.2.mem (c.tc.loc main_v41) = front (newV (m (c.tc.loc main_arg2)) (m (c.tc.loc main_arg3))) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨(h c).1.trans rfl, (h c).2.1.trans rfl, (h c).2.2.1.trans rfl, (h c).2.2.2.1.trans rfl, (h c).2.2.2.2⟩)
    (run (F := Ideal) m ρ)

/-- The reference runs and leaves its arguments. -/
theorem frame_ref : Cert.quiescent_Reference39Ideal := fun m ρ _ =>
  (θ_run defs _ _).mono (fun r h => ⟨fun c => (h c).2.2.2.2, sem_eq_zero_of_no_sems (by decide) r.2⟩)
    (run (F := Ideal) m ρ)

end Cert.Reference39Ideal.Value

/-! ## The kernel -/

namespace Cert.Kernel39Ideal.Value

open Idealize.ShloMosaic Idealize.ShloMosaic.TcCoe Idealize.SL.Sem
open Idealize.ShloMosaic.Pipeline (Dat)
open Cert.Kernel39Ideal Cert.Kernel39Ideal.Gen Cert.Adam
open Cert.Reference39Ideal.Value (front front_first front_other newM newV delta newM_at newV_at delta_at)

variable (m : (ℓ : Loc nD τ sig) → Buf (Elt Ideal) ℓ)

/-- The weights, the two running means, the first layer's gradient. -/
abbrev aW (c : Dev nD) : FVec Ideal S4x512x512 .f32 := m ((c : Thread nD τ).loc main_arg0)
abbrev aM (c : Dev nD) : FVec Ideal S4x512x512 .f32 := m ((c : Thread nD τ).loc main_arg1)
abbrev aV (c : Dev nD) : FVec Ideal S4x512x512 .f32 := m ((c : Thread nD τ).loc main_arg2)
abbrev aG (c : Dev nD) : FVec Ideal S512x512 .f32 := m ((c : Thread nD τ).loc main_arg3)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- Every point writes its block back. -/
theorem flushes : ∀ t : Fin cfg0.N, (cfg0.win 4).flush t = true ∧ (cfg0.win 5).flush t = true ∧ (cfg0.win 6).flush t = true
    ∧ (cfg0.win 7).flush t = true :=
  (by decide +kernel : ∀ t : Fin grid0.N, _)

theorem lt_points (t : Fin cfg0.N) : t.val < 4 := lt_of_lt_of_eq t.isLt N_0

/-- The grid point whose blocks hold row `r`. -/
def point (r : Fin 512) : Fin cfg0.N := ⟨r.val / 128, lt_of_lt_of_eq (by omega) N_0.symm⟩

/-- The blocks of the four inputs at grid point `t`. -/
abbrev bW (c : Dev nD) (t : Fin cfg0.N) : FVec Ideal S1x128x512 .f32 := iblk m c 0 t
abbrev bM (c : Dev nD) (t : Fin cfg0.N) : FVec Ideal S1x128x512 .f32 := iblk m c 1 t
abbrev bV (c : Dev nD) (t : Fin cfg0.N) : FVec Ideal S1x128x512 .f32 := iblk m c 2 t
abbrev bG (c : Dev nD) (t : Fin cfg0.N) : FVec Ideal S128x512 .f32 := iblk m c 3 t

theorem V_w (c : Dev nD) : V m c main_arg0 = aW m c := rfl
theorem V_m (c : Dev nD) : V m c main_arg1 = aM m c := rfl
theorem V_v (c : Dev nD) : V m c main_arg2 = aV m c := rfl
theorem V_g (c : Dev nD) : V m c main_arg3 = aG m c := rfl

theorem row_w (c : Dev nD) (t : Fin cfg0.N) (r : Fin 128) (k : Fin 512) (r' : Fin 512) (hR : (r' : ℕ) = t.val * 128 + r) :
    bW m c t (ix3 0 r k) = aW m c (ix3 0 r' k) := by
  rw [← V_w]
  show iblk m c 0 t (ix3 0 r k) = V m c main_arg0 (ix3 0 r' k)
  blk_point [iblk, idx t]

theorem row_m (c : Dev nD) (t : Fin cfg0.N) (r : Fin 128) (k : Fin 512) (r' : Fin 512) (hR : (r' : ℕ) = t.val * 128 + r) :
    bM m c t (ix3 0 r k) = aM m c (ix3 0 r' k) := by
  rw [← V_m]
  show iblk m c 1 t (ix3 0 r k) = V m c main_arg1 (ix3 0 r' k)
  blk_point [iblk, idx t]

theorem row_v (c : Dev nD) (t : Fin cfg0.N) (r : Fin 128) (k : Fin 512) (r' : Fin 512) (hR : (r' : ℕ) = t.val * 128 + r) :
    bV m c t (ix3 0 r k) = aV m c (ix3 0 r' k) := by
  rw [← V_v]
  show iblk m c 2 t (ix3 0 r k) = V m c main_arg2 (ix3 0 r' k)
  blk_point [iblk, idx t]

theorem row_g (c : Dev nD) (t : Fin cfg0.N) (r : Fin 128) (k : Fin 512) (r' : Fin 512) (hR : (r' : ℕ) = t.val * 128 + r) :
    bG m c t (ix2 r k) = aG m c (ix2 r' k) := by
  rw [← V_g]
  show iblk m c 3 t (ix2 r k) = V m c main_arg3 (ix2 r' k)
  blk_point [iblk, idx t]

theorem mean_at (g : FVec Ideal S128x512 .f32) (b : FVec Ideal S1x128x512 .f32) (r : Fin 128) (k : Fin 512) :
    k0_pay4 (F := Ideal) g b (ix2 r k) = mean (b (ix3 0 r k)) (g (ix2 r k)) := by
  pointwise [k0_pay4, mean]

theorem square_at (g : FVec Ideal S128x512 .f32) (b : FVec Ideal S1x128x512 .f32) (r : Fin 128) (k : Fin 512) :
    k0_pay5 (F := Ideal) g b (ix2 r k) = square (b (ix3 0 r k)) (g (ix2 r k)) := by
  pointwise [k0_pay5, square]

theorem change_at (g : FVec Ideal S128x512 .f32) (w b s : FVec Ideal S1x128x512 .f32) (r : Fin 128) (k : Fin 512) :
    k0_pay6 (F := Ideal) g w b s (ix2 r k) = change (w (ix3 0 r k)) (g (ix2 r k)) (b (ix3 0 r k)) (s (ix3 0 r k)) := by
  pointwise [k0_pay6, k0_pay5, k0_pay4, change, mean, square]

theorem out_g (c : Dev nD) (t : Fin cfg0.N) (r : Fin 128) (k : Fin 512) (r' : Fin 512) (hR : (r' : ℕ) = t.val * 128 + r) :
    (outsAt0 m c t).1 (ix3 0 r k) = (aG m c : FVec Ideal S512x512 .f32) (ix2 r' k) := by
  refine Eq.trans ?_ (row_g m c t r k r' hR)
  rw [outsAt0]
  frame_out
  pointwise [k0_pay7]

/-- The whole array: the first layer new, the others as they were given. -/
theorem final_g (c : Dev nD) : (dats m 0 c).arrAt 4 (cfgs 0).N
    = front (aG m c) (m ((c : Thread nD τ).loc main_arg4)) := by
  funext j
  obtain ⟨l, r, k, rfl⟩ : ∃ (l : Fin 4) (r : Fin 512) (k : Fin 512), j = ix3 l r k := ⟨j 0, j 1, j 2, by blk_ext⟩
  by_cases h : (l : ℕ) = 0
  · obtain rfl : l = 0 := Fin.ext h
    have e : (ix3 0 r k : S4x512x512.Idx) = ((cfg0.win 4).blk (point r)).view.emb (ix3 0 ⟨r.val % 128, by omega⟩ k : S1x128x512.Idx) := by
      have hp := idx (point r)
      simp only [point] at hp
      blk_ext [hp, point]
    rw [front_first]
    refine Eq.trans (congrArg ((dats m 0 c).arrAt 4 (cfgs 0).N) e) ?_
    refine ((dats m 0 c).arrAt_emb_eq_flushed 4 disjoint4 (point r) ((flushes (point r)).1) _).trans ?_
    refine Eq.trans ?_ (out_g m c (point r) ⟨r.val % 128, by omega⟩ k r (by show (r : ℕ) = r.val / 128 * 128 + r.val % 128; omega))
    blk_simp
    rw [after0_4]
  · rw [front_other _ _ l h]
    refine (entry4 m c _ fun t _ hm => ?_).trans rfl
    obtain ⟨y, _, hy⟩ := Finset.mem_map.mp hm
    refine h ?_
    have e0 : ((((cfg0.win 4).blk t).view.emb y) 0 : ℕ) = 0 := by
      blk_simp [idx t]
    rw [hy] at e0
    exact e0

theorem out_d (c : Dev nD) (t : Fin cfg0.N) (r : Fin 128) (k : Fin 512) (r' : Fin 512) (hR : (r' : ℕ) = t.val * 128 + r) :
    (outsAt0 m c t).2.1 (ix3 0 r k) = (delta (aW m c) (aM m c) (aV m c) (aG m c) : FVec Ideal S512x512 .f32) (ix2 r' k) := by
  have e : k0_pay1 (F := Ideal) (k0_pay6 (F := Ideal) (bG m c t) (bW m c t) (bM m c t) (bV m c t)) (ix3 0 r k) = (k0_pay6 (F := Ideal) (bG m c t) (bW m c t) (bM m c t) (bV m c t)) (ix2 r k) := by
    generalize (k0_pay6 (F := Ideal) (bG m c t) (bW m c t) (bM m c t) (bV m c t)) = x
    pointwise [k0_pay1]
  rw [change_at, row_g m c t r k r' hR, row_w m c t r k r' hR, row_m m c t r k r' hR, row_v m c t r k r' hR] at e
  rw [delta_at, ← e, outsAt0]
  frame_out

/-- The whole array: the first layer new, the others as they were given. -/
theorem final_d (c : Dev nD) : (dats m 0 c).arrAt 5 (cfgs 0).N
    = front (delta (aW m c) (aM m c) (aV m c) (aG m c)) (m ((c : Thread nD τ).loc main_arg5)) := by
  funext j
  obtain ⟨l, r, k, rfl⟩ : ∃ (l : Fin 4) (r : Fin 512) (k : Fin 512), j = ix3 l r k := ⟨j 0, j 1, j 2, by blk_ext⟩
  by_cases h : (l : ℕ) = 0
  · obtain rfl : l = 0 := Fin.ext h
    have e : (ix3 0 r k : S4x512x512.Idx) = ((cfg0.win 5).blk (point r)).view.emb (ix3 0 ⟨r.val % 128, by omega⟩ k : S1x128x512.Idx) := by
      have hp := idx (point r)
      simp only [point] at hp
      blk_ext [hp, point]
    rw [front_first]
    refine Eq.trans (congrArg ((dats m 0 c).arrAt 5 (cfgs 0).N) e) ?_
    refine ((dats m 0 c).arrAt_emb_eq_flushed 5 disjoint5 (point r) ((flushes (point r)).2.1) _).trans ?_
    refine Eq.trans ?_ (out_d m c (point r) ⟨r.val % 128, by omega⟩ k r (by show (r : ℕ) = r.val / 128 * 128 + r.val % 128; omega))
    blk_simp
    rw [after0_5]
  · rw [front_other _ _ l h]
    refine (entry5 m c _ fun t _ hm => ?_).trans rfl
    obtain ⟨y, _, hy⟩ := Finset.mem_map.mp hm
    refine h ?_
    have e0 : ((((cfg0.win 5).blk t).view.emb y) 0 : ℕ) = 0 := by
      blk_simp [idx t]
    rw [hy] at e0
    exact e0

theorem out_m (c : Dev nD) (t : Fin cfg0.N) (r : Fin 128) (k : Fin 512) (r' : Fin 512) (hR : (r' : ℕ) = t.val * 128 + r) :
    (outsAt0 m c t).2.2.1 (ix3 0 r k) = (newM (aM m c) (aG m c) : FVec Ideal S512x512 .f32) (ix2 r' k) := by
  have e : k0_pay2 (F := Ideal) (k0_pay4 (F := Ideal) (bG m c t) (bM m c t)) (ix3 0 r k) = (k0_pay4 (F := Ideal) (bG m c t) (bM m c t)) (ix2 r k) := by
    generalize (k0_pay4 (F := Ideal) (bG m c t) (bM m c t)) = x
    pointwise [k0_pay2]
  rw [mean_at, row_g m c t r k r' hR, row_m m c t r k r' hR] at e
  rw [newM_at, ← e, outsAt0]
  frame_out

/-- The whole array: the first layer new, the others as they were given. -/
theorem final_m (c : Dev nD) : (dats m 0 c).arrAt 6 (cfgs 0).N
    = front (newM (aM m c) (aG m c)) (m ((c : Thread nD τ).loc main_arg6)) := by
  funext j
  obtain ⟨l, r, k, rfl⟩ : ∃ (l : Fin 4) (r : Fin 512) (k : Fin 512), j = ix3 l r k := ⟨j 0, j 1, j 2, by blk_ext⟩
  by_cases h : (l : ℕ) = 0
  · obtain rfl : l = 0 := Fin.ext h
    have e : (ix3 0 r k : S4x512x512.Idx) = ((cfg0.win 6).blk (point r)).view.emb (ix3 0 ⟨r.val % 128, by omega⟩ k : S1x128x512.Idx) := by
      have hp := idx (point r)
      simp only [point] at hp
      blk_ext [hp, point]
    rw [front_first]
    refine Eq.trans (congrArg ((dats m 0 c).arrAt 6 (cfgs 0).N) e) ?_
    refine ((dats m 0 c).arrAt_emb_eq_flushed 6 disjoint6 (point r) ((flushes (point r)).2.2.1) _).trans ?_
    refine Eq.trans ?_ (out_m m c (point r) ⟨r.val % 128, by omega⟩ k r (by show (r : ℕ) = r.val / 128 * 128 + r.val % 128; omega))
    blk_simp
    rw [after0_6]
  · rw [front_other _ _ l h]
    refine (entry6 m c _ fun t _ hm => ?_).trans rfl
    obtain ⟨y, _, hy⟩ := Finset.mem_map.mp hm
    refine h ?_
    have e0 : ((((cfg0.win 6).blk t).view.emb y) 0 : ℕ) = 0 := by
      blk_simp [idx t]
    rw [hy] at e0
    exact e0

theorem out_v (c : Dev nD) (t : Fin cfg0.N) (r : Fin 128) (k : Fin 512) (r' : Fin 512) (hR : (r' : ℕ) = t.val * 128 + r) :
    (outsAt0 m c t).2.2.2 (ix3 0 r k) = (newV (aV m c) (aG m c) : FVec Ideal S512x512 .f32) (ix2 r' k) := by
  have e : k0_pay3 (F := Ideal) (k0_pay5 (F := Ideal) (bG m c t) (bV m c t)) (ix3 0 r k) = (k0_pay5 (F := Ideal) (bG m c t) (bV m c t)) (ix2 r k) := by
    generalize (k0_pay5 (F := Ideal) (bG m c t) (bV m c t)) = x
    pointwise [k0_pay3]
  rw [square_at, row_g m c t r k r' hR, row_v m c t r k r' hR] at e
  rw [newV_at, ← e, outsAt0]
  frame_out

/-- The whole array: the first layer new, the others as they were given. -/
theorem final_v (c : Dev nD) : (dats m 0 c).arrAt 7 (cfgs 0).N
    = front (newV (aV m c) (aG m c)) (m ((c : Thread nD τ).loc main_arg7)) := by
  funext j
  obtain ⟨l, r, k, rfl⟩ : ∃ (l : Fin 4) (r : Fin 512) (k : Fin 512), j = ix3 l r k := ⟨j 0, j 1, j 2, by blk_ext⟩
  by_cases h : (l : ℕ) = 0
  · obtain rfl : l = 0 := Fin.ext h
    have e : (ix3 0 r k : S4x512x512.Idx) = ((cfg0.win 7).blk (point r)).view.emb (ix3 0 ⟨r.val % 128, by omega⟩ k : S1x128x512.Idx) := by
      have hp := idx (point r)
      simp only [point] at hp
      blk_ext [hp, point]
    rw [front_first]
    refine Eq.trans (congrArg ((dats m 0 c).arrAt 7 (cfgs 0).N) e) ?_
    refine ((dats m 0 c).arrAt_emb_eq_flushed 7 disjoint7 (point r) ((flushes (point r)).2.2.2) _).trans ?_
    refine Eq.trans ?_ (out_v m c (point r) ⟨r.val % 128, by omega⟩ k r (by show (r : ℕ) = r.val / 128 * 128 + r.val % 128; omega))
    blk_simp
    rw [after0_7]
  · rw [front_other _ _ l h]
    refine (entry7 m c _ fun t _ hm => ?_).trans rfl
    obtain ⟨y, _, hy⟩ := Finset.mem_map.mp hm
    refine h ?_
    have e0 : ((((cfg0.win 7).blk t).view.emb y) 0 : ℕ) = 0 := by
      blk_simp [idx t]
    rw [hy] at e0
    exact e0

/-- Kernel and reference leave the same stacks. -/
theorem same : Cert.algebraic_Kernel39Ideal_Reference39Ideal := by
  pair_intro
  · run_from Cert.Kernel39Ideal.Value.run_blocks m g
  · run_from Cert.Reference39Ideal.Value.run_ref m' g'
    · exact (final_g m c).symm
    · exact (final_d m c).symm
    · exact (final_m m c).symm
    · exact (final_v m c).symm

end Cert.Kernel39Ideal.Value

end
-- ==== Proof.AdamIn.lean ====
/-
  The step of the layers' input projection, for the first layer: its results are put in front of the other layers'.
-/
module

public import proofs.«01_k».proof.Defs
public import proofs.«01_k».proof.Proof.Gen.Kernel43.Frame
public import proofs.«01_k».proof.Proof.Gen.Kernel43Ideal.Frame
public import proofs.«01_k».proof.Proof.Gen.Kernel43Ideal.Value
public import proofs.«01_k».proof.Proof.Gen.Reference43Ideal.Run
public import proofs.«01_k».proof.Proof.Adam
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference43Ideal.Value

open Idealize.ShloMosaic Idealize.ShloMosaic.TcCoe Idealize.SL.Sem
open Cert.Reference43Ideal Cert.Reference43Ideal.Gen Cert.Adam

/-- A layer in front of the last three of a stack. -/
def front (a : FVec Ideal S2048x2824 .f32) (s : FVec Ideal S4x2048x2824 .f32) : FVec Ideal S4x2048x2824 .f32 :=
  concatenate S4x2048x2824 0 [⟨S1x2048x2824, (broadcastInDim S1x2048x2824 ![1, 2] bcast_S2048x2824_S1x2048x2824_1_2 a)⟩, ⟨S3x2048x2824, (extractStridedSlice S3x2048x2824 ![1, 0, 0] s slices_S4x2048x2824_S3x2048x2824_1_0_0)⟩] concatenates_S1x2048x2824_S3x2048x2824_S4x2048x2824_d0

/-- The first layer of a stack. -/
def layer (s : FVec Ideal S4x2048x2824 .f32) : FVec Ideal S2048x2824 .f32 :=
  shapeCast _ (extractStridedSlice S1x2048x2824 ![0, 0, 0] s slices_S4x2048x2824_S1x2048x2824_0_0_0) shapeCasts_S1x2048x2824_S2048x2824

theorem front_first (a : FVec Ideal S2048x2824 .f32) (s : FVec Ideal S4x2048x2824 .f32) (r : Fin 2048) (k : Fin 2824) :
    front a s (ix3 0 r k) = a (ix2 r k) := by
  pointwise [front]

theorem front_other (a : FVec Ideal S2048x2824 .f32) (s : FVec Ideal S4x2048x2824 .f32) (l : Fin 4) (h : ¬(l : ℕ) = 0) (r : Fin 2048) (k : Fin 2824) :
    front a s (ix3 l r k) = s (ix3 l r k) := by
  obtain ⟨p, rfl⟩ : ∃ p : Fin 3, l = p.succ := ⟨l.pred fun e => h (by rw [e]; rfl), (Fin.succ_pred _ _).symm⟩
  pointwise [front]
  rw [dif_neg (by simp)]
  exact congrArg (fun l => s (ix3 l r k)) (Fin.ext (by simp [Nat.add_comm]))

theorem layer_at (s : FVec Ideal S4x2048x2824 .f32) (r : Fin 2048) (k : Fin 2824) : layer s (ix2 r k) = s (ix3 0 r k) := by
  pointwise [layer]

/-- The two running means and the change, from the first layers. -/
def newM (m : FVec Ideal S4x2048x2824 .f32) (g : FVec Ideal S2048x2824 .f32) : FVec Ideal S2048x2824 .f32 :=
  addf (mulf (broadcastInDim S2048x2824 ![] bcast_S_S2048x2824 (constant S_ .f32 0x3F666666#32)) (layer m)) (mulf (broadcastInDim S2048x2824 ![] bcast_S_S2048x2824 (constant S_ .f32 0x3DCCCCCD#32)) g)

def newV (v : FVec Ideal S4x2048x2824 .f32) (g : FVec Ideal S2048x2824 .f32) : FVec Ideal S2048x2824 .f32 :=
  addf (mulf (broadcastInDim S2048x2824 ![] bcast_S_S2048x2824 (constant S_ .f32 0x3F7FBE77#32)) (layer v)) (mulf (broadcastInDim S2048x2824 ![] bcast_S_S2048x2824 (constant S_ .f32 0x3A83126F#32)) (mulf g g))

def delta (w m v : FVec Ideal S4x2048x2824 .f32) (g : FVec Ideal S2048x2824 .f32) : FVec Ideal S2048x2824 .f32 :=
  mulf (broadcastInDim S2048x2824 ![] bcast_S_S2048x2824 (constant S_ .f32 0xBA83126F#32)) (addf (Host.divf (Host.divf (newM m g) (broadcastInDim S2048x2824 ![] bcast_S_S2048x2824 (constant S_ .f32 0x3F26BD02#32))) (addf (Host.sqrt (Host.divf (newV v g) (broadcastInDim S2048x2824 ![] bcast_S_S2048x2824 (constant S_ .f32 0x3C231ACC#32)))) (broadcastInDim S2048x2824 ![] bcast_S_S2048x2824 (constant S_ .f32 0x322BCC77#32)))) (mulf (broadcastInDim S2048x2824 ![] bcast_S_S2048x2824 (constant S_ .f32 0x3C23D70A#32)) (layer w)))

theorem newM_at (m : FVec Ideal S4x2048x2824 .f32) (g : FVec Ideal S2048x2824 .f32) (r : Fin 2048) (k : Fin 2824) :
    newM m g (ix2 r k) = mean (m (ix3 0 r k)) (g (ix2 r k)) := by
  rw [← layer_at m r k]
  rfl

theorem newV_at (v : FVec Ideal S4x2048x2824 .f32) (g : FVec Ideal S2048x2824 .f32) (r : Fin 2048) (k : Fin 2824) :
    newV v g (ix2 r k) = square (v (ix3 0 r k)) (g (ix2 r k)) := by
  rw [← layer_at v r k]
  rfl

theorem delta_at (w m v : FVec Ideal S4x2048x2824 .f32) (g : FVec Ideal S2048x2824 .f32) (r : Fin 2048) (k : Fin 2824) :
    delta w m v g (ix2 r k) = change (w (ix3 0 r k)) (g (ix2 r k)) (m (ix3 0 r k)) (v (ix3 0 r k)) := by
  rw [← layer_at w r k, ← layer_at m r k, ← layer_at v r k]
  rfl

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v32) = front (m (c.tc.loc main_arg3)) (m (c.tc.loc main_arg4))
      ∧ r.2.mem (c.tc.loc main_v35) = front (delta (m (c.tc.loc main_arg0)) (m (c.tc.loc main_arg1)) (m (c.tc.loc main_arg2)) (m (c.tc.loc main_arg3))) (m (c.tc.loc main_arg5))
      ∧ r.2.mem (c.tc.loc main_v38) = front (newM (m (c.tc.loc main_arg1)) (m (c.tc.loc main_arg3))) (m (c.tc.loc main_arg6))
      ∧ r.2.mem (c.tc.loc main_v41) = front (newV (m (c.tc.loc main_arg2)) (m (c.tc.loc main_arg3))) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨(h c).1.trans rfl, (h c).2.1.trans rfl, (h c).2.2.1.trans rfl, (h c).2.2.2.1.trans rfl, (h c).2.2.2.2⟩)
    (run (F := Ideal) m ρ)

/-- The reference runs and leaves its arguments. -/
theorem frame_ref : Cert.quiescent_Reference43Ideal := fun m ρ _ =>
  (θ_run defs _ _).mono (fun r h => ⟨fun c => (h c).2.2.2.2, sem_eq_zero_of_no_sems (by decide) r.2⟩)
    (run (F := Ideal) m ρ)

end Cert.Reference43Ideal.Value

/-! ## The kernel -/

namespace Cert.Kernel43Ideal.Value

open Idealize.ShloMosaic Idealize.ShloMosaic.TcCoe Idealize.SL.Sem
open Idealize.ShloMosaic.Pipeline (Dat)
open Cert.Kernel43Ideal Cert.Kernel43Ideal.Gen Cert.Adam
open Cert.Reference43Ideal.Value (front front_first front_other newM newV delta newM_at newV_at delta_at)

variable (m : (ℓ : Loc nD τ sig) → Buf (Elt Ideal) ℓ)

/-- The weights, the two running means, the first layer's gradient. -/
abbrev aW (c : Dev nD) : FVec Ideal S4x2048x2824 .f32 := m ((c : Thread nD τ).loc main_arg0)
abbrev aM (c : Dev nD) : FVec Ideal S4x2048x2824 .f32 := m ((c : Thread nD τ).loc main_arg1)
abbrev aV (c : Dev nD) : FVec Ideal S4x2048x2824 .f32 := m ((c : Thread nD τ).loc main_arg2)
abbrev aG (c : Dev nD) : FVec Ideal S2048x2824 .f32 := m ((c : Thread nD τ).loc main_arg3)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- Every point writes its block back. -/
theorem flushes : ∀ t : Fin cfg0.N, (cfg0.win 4).flush t = true ∧ (cfg0.win 5).flush t = true ∧ (cfg0.win 6).flush t = true
    ∧ (cfg0.win 7).flush t = true :=
  (by decide +kernel : ∀ t : Fin grid0.N, _)

theorem lt_points (t : Fin cfg0.N) : t.val < 16 := lt_of_lt_of_eq t.isLt N_0

/-- The grid point whose blocks hold row `r`. -/
def point (r : Fin 2048) : Fin cfg0.N := ⟨r.val / 128, lt_of_lt_of_eq (by omega) N_0.symm⟩

/-- The blocks of the four inputs at grid point `t`. -/
abbrev bW (c : Dev nD) (t : Fin cfg0.N) : FVec Ideal S1x128x2824 .f32 := iblk m c 0 t
abbrev bM (c : Dev nD) (t : Fin cfg0.N) : FVec Ideal S1x128x2824 .f32 := iblk m c 1 t
abbrev bV (c : Dev nD) (t : Fin cfg0.N) : FVec Ideal S1x128x2824 .f32 := iblk m c 2 t
abbrev bG (c : Dev nD) (t : Fin cfg0.N) : FVec Ideal S128x2824 .f32 := iblk m c 3 t

theorem V_w (c : Dev nD) : V m c main_arg0 = aW m c := rfl
theorem V_m (c : Dev nD) : V m c main_arg1 = aM m c := rfl
theorem V_v (c : Dev nD) : V m c main_arg2 = aV m c := rfl
theorem V_g (c : Dev nD) : V m c main_arg3 = aG m c := rfl

theorem row_w (c : Dev nD) (t : Fin cfg0.N) (r : Fin 128) (k : Fin 2824) (r' : Fin 2048) (hR : (r' : ℕ) = t.val * 128 + r) :
    bW m c t (ix3 0 r k) = aW m c (ix3 0 r' k) := by
  rw [← V_w]
  show iblk m c 0 t (ix3 0 r k) = V m c main_arg0 (ix3 0 r' k)
  blk_point [iblk, idx t]

theorem row_m (c : Dev nD) (t : Fin cfg0.N) (r : Fin 128) (k : Fin 2824) (r' : Fin 2048) (hR : (r' : ℕ) = t.val * 128 + r) :
    bM m c t (ix3 0 r k) = aM m c (ix3 0 r' k) := by
  rw [← V_m]
  show iblk m c 1 t (ix3 0 r k) = V m c main_arg1 (ix3 0 r' k)
  blk_point [iblk, idx t]

theorem row_v (c : Dev nD) (t : Fin cfg0.N) (r : Fin 128) (k : Fin 2824) (r' : Fin 2048) (hR : (r' : ℕ) = t.val * 128 + r) :
    bV m c t (ix3 0 r k) = aV m c (ix3 0 r' k) := by
  rw [← V_v]
  show iblk m c 2 t (ix3 0 r k) = V m c main_arg2 (ix3 0 r' k)
  blk_point [iblk, idx t]

theorem row_g (c : Dev nD) (t : Fin cfg0.N) (r : Fin 128) (k : Fin 2824) (r' : Fin 2048) (hR : (r' : ℕ) = t.val * 128 + r) :
    bG m c t (ix2 r k) = aG m c (ix2 r' k) := by
  rw [← V_g]
  show iblk m c 3 t (ix2 r k) = V m c main_arg3 (ix2 r' k)
  blk_point [iblk, idx t]

theorem mean_at (g : FVec Ideal S128x2824 .f32) (b : FVec Ideal S1x128x2824 .f32) (r : Fin 128) (k : Fin 2824) :
    k0_pay4 (F := Ideal) g b (ix2 r k) = mean (b (ix3 0 r k)) (g (ix2 r k)) := by
  pointwise [k0_pay4, mean]

theorem square_at (g : FVec Ideal S128x2824 .f32) (b : FVec Ideal S1x128x2824 .f32) (r : Fin 128) (k : Fin 2824) :
    k0_pay5 (F := Ideal) g b (ix2 r k) = square (b (ix3 0 r k)) (g (ix2 r k)) := by
  pointwise [k0_pay5, square]

theorem change_at (g : FVec Ideal S128x2824 .f32) (w b s : FVec Ideal S1x128x2824 .f32) (r : Fin 128) (k : Fin 2824) :
    k0_pay6 (F := Ideal) g w b s (ix2 r k) = change (w (ix3 0 r k)) (g (ix2 r k)) (b (ix3 0 r k)) (s (ix3 0 r k)) := by
  pointwise [k0_pay6, k0_pay5, k0_pay4, change, mean, square]

theorem out_g (c : Dev nD) (t : Fin cfg0.N) (r : Fin 128) (k : Fin 2824) (r' : Fin 2048) (hR : (r' : ℕ) = t.val * 128 + r) :
    (outsAt0 m c t).1 (ix3 0 r k) = (aG m c : FVec Ideal S2048x2824 .f32) (ix2 r' k) := by
  refine Eq.trans ?_ (row_g m c t r k r' hR)
  rw [outsAt0]
  frame_out
  pointwise [k0_pay7]

/-- The whole array: the first layer new, the others as they were given. -/
theorem final_g (c : Dev nD) : (dats m 0 c).arrAt 4 (cfgs 0).N
    = front (aG m c) (m ((c : Thread nD τ).loc main_arg4)) := by
  funext j
  obtain ⟨l, r, k, rfl⟩ : ∃ (l : Fin 4) (r : Fin 2048) (k : Fin 2824), j = ix3 l r k := ⟨j 0, j 1, j 2, by blk_ext⟩
  by_cases h : (l : ℕ) = 0
  · obtain rfl : l = 0 := Fin.ext h
    have e : (ix3 0 r k : S4x2048x2824.Idx) = ((cfg0.win 4).blk (point r)).view.emb (ix3 0 ⟨r.val % 128, by omega⟩ k : S1x128x2824.Idx) := by
      have hp := idx (point r)
      simp only [point] at hp
      blk_ext [hp, point]
    rw [front_first]
    refine Eq.trans (congrArg ((dats m 0 c).arrAt 4 (cfgs 0).N) e) ?_
    refine ((dats m 0 c).arrAt_emb_eq_flushed 4 disjoint4 (point r) ((flushes (point r)).1) _).trans ?_
    refine Eq.trans ?_ (out_g m c (point r) ⟨r.val % 128, by omega⟩ k r (by show (r : ℕ) = r.val / 128 * 128 + r.val % 128; omega))
    blk_simp
    rw [after0_4]
  · rw [front_other _ _ l h]
    refine (entry4 m c _ fun t _ hm => ?_).trans rfl
    obtain ⟨y, _, hy⟩ := Finset.mem_map.mp hm
    refine h ?_
    have e0 : ((((cfg0.win 4).blk t).view.emb y) 0 : ℕ) = 0 := by
      blk_simp [idx t]
    rw [hy] at e0
    exact e0

theorem out_d (c : Dev nD) (t : Fin cfg0.N) (r : Fin 128) (k : Fin 2824) (r' : Fin 2048) (hR : (r' : ℕ) = t.val * 128 + r) :
    (outsAt0 m c t).2.1 (ix3 0 r k) = (delta (aW m c) (aM m c) (aV m c) (aG m c) : FVec Ideal S2048x2824 .f32) (ix2 r' k) := by
  have e : k0_pay1 (F := Ideal) (k0_pay6 (F := Ideal) (bG m c t) (bW m c t) (bM m c t) (bV m c t)) (ix3 0 r k) = (k0_pay6 (F := Ideal) (bG m c t) (bW m c t) (bM m c t) (bV m c t)) (ix2 r k) := by
    generalize (k0_pay6 (F := Ideal) (bG m c t) (bW m c t) (bM m c t) (bV m c t)) = x
    pointwise [k0_pay1]
  rw [change_at, row_g m c t r k r' hR, row_w m c t r k r' hR, row_m m c t r k r' hR, row_v m c t r k r' hR] at e
  rw [delta_at, ← e, outsAt0]
  frame_out

/-- The whole array: the first layer new, the others as they were given. -/
theorem final_d (c : Dev nD) : (dats m 0 c).arrAt 5 (cfgs 0).N
    = front (delta (aW m c) (aM m c) (aV m c) (aG m c)) (m ((c : Thread nD τ).loc main_arg5)) := by
  funext j
  obtain ⟨l, r, k, rfl⟩ : ∃ (l : Fin 4) (r : Fin 2048) (k : Fin 2824), j = ix3 l r k := ⟨j 0, j 1, j 2, by blk_ext⟩
  by_cases h : (l : ℕ) = 0
  · obtain rfl : l = 0 := Fin.ext h
    have e : (ix3 0 r k : S4x2048x2824.Idx) = ((cfg0.win 5).blk (point r)).view.emb (ix3 0 ⟨r.val % 128, by omega⟩ k : S1x128x2824.Idx) := by
      have hp := idx (point r)
      simp only [point] at hp
      blk_ext [hp, point]
    rw [front_first]
    refine Eq.trans (congrArg ((dats m 0 c).arrAt 5 (cfgs 0).N) e) ?_
    refine ((dats m 0 c).arrAt_emb_eq_flushed 5 disjoint5 (point r) ((flushes (point r)).2.1) _).trans ?_
    refine Eq.trans ?_ (out_d m c (point r) ⟨r.val % 128, by omega⟩ k r (by show (r : ℕ) = r.val / 128 * 128 + r.val % 128; omega))
    blk_simp
    rw [after0_5]
  · rw [front_other _ _ l h]
    refine (entry5 m c _ fun t _ hm => ?_).trans rfl
    obtain ⟨y, _, hy⟩ := Finset.mem_map.mp hm
    refine h ?_
    have e0 : ((((cfg0.win 5).blk t).view.emb y) 0 : ℕ) = 0 := by
      blk_simp [idx t]
    rw [hy] at e0
    exact e0

theorem out_m (c : Dev nD) (t : Fin cfg0.N) (r : Fin 128) (k : Fin 2824) (r' : Fin 2048) (hR : (r' : ℕ) = t.val * 128 + r) :
    (outsAt0 m c t).2.2.1 (ix3 0 r k) = (newM (aM m c) (aG m c) : FVec Ideal S2048x2824 .f32) (ix2 r' k) := by
  have e : k0_pay2 (F := Ideal) (k0_pay4 (F := Ideal) (bG m c t) (bM m c t)) (ix3 0 r k) = (k0_pay4 (F := Ideal) (bG m c t) (bM m c t)) (ix2 r k) := by
    generalize (k0_pay4 (F := Ideal) (bG m c t) (bM m c t)) = x
    pointwise [k0_pay2]
  rw [mean_at, row_g m c t r k r' hR, row_m m c t r k r' hR] at e
  rw [newM_at, ← e, outsAt0]
  frame_out

/-- The whole array: the first layer new, the others as they were given. -/
theorem final_m (c : Dev nD) : (dats m 0 c).arrAt 6 (cfgs 0).N
    = front (newM (aM m c) (aG m c)) (m ((c : Thread nD τ).loc main_arg6)) := by
  funext j
  obtain ⟨l, r, k, rfl⟩ : ∃ (l : Fin 4) (r : Fin 2048) (k : Fin 2824), j = ix3 l r k := ⟨j 0, j 1, j 2, by blk_ext⟩
  by_cases h : (l : ℕ) = 0
  · obtain rfl : l = 0 := Fin.ext h
    have e : (ix3 0 r k : S4x2048x2824.Idx) = ((cfg0.win 6).blk (point r)).view.emb (ix3 0 ⟨r.val % 128, by omega⟩ k : S1x128x2824.Idx) := by
      have hp := idx (point r)
      simp only [point] at hp
      blk_ext [hp, point]
    rw [front_first]
    refine Eq.trans (congrArg ((dats m 0 c).arrAt 6 (cfgs 0).N) e) ?_
    refine ((dats m 0 c).arrAt_emb_eq_flushed 6 disjoint6 (point r) ((flushes (point r)).2.2.1) _).trans ?_
    refine Eq.trans ?_ (out_m m c (point r) ⟨r.val % 128, by omega⟩ k r (by show (r : ℕ) = r.val / 128 * 128 + r.val % 128; omega))
    blk_simp
    rw [after0_6]
  · rw [front_other _ _ l h]
    refine (entry6 m c _ fun t _ hm => ?_).trans rfl
    obtain ⟨y, _, hy⟩ := Finset.mem_map.mp hm
    refine h ?_
    have e0 : ((((cfg0.win 6).blk t).view.emb y) 0 : ℕ) = 0 := by
      blk_simp [idx t]
    rw [hy] at e0
    exact e0

theorem out_v (c : Dev nD) (t : Fin cfg0.N) (r : Fin 128) (k : Fin 2824) (r' : Fin 2048) (hR : (r' : ℕ) = t.val * 128 + r) :
    (outsAt0 m c t).2.2.2 (ix3 0 r k) = (newV (aV m c) (aG m c) : FVec Ideal S2048x2824 .f32) (ix2 r' k) := by
  have e : k0_pay3 (F := Ideal) (k0_pay5 (F := Ideal) (bG m c t) (bV m c t)) (ix3 0 r k) = (k0_pay5 (F := Ideal) (bG m c t) (bV m c t)) (ix2 r k) := by
    generalize (k0_pay5 (F := Ideal) (bG m c t) (bV m c t)) = x
    pointwise [k0_pay3]
  rw [square_at, row_g m c t r k r' hR, row_v m c t r k r' hR] at e
  rw [newV_at, ← e, outsAt0]
  frame_out

/-- The whole array: the first layer new, the others as they were given. -/
theorem final_v (c : Dev nD) : (dats m 0 c).arrAt 7 (cfgs 0).N
    = front (newV (aV m c) (aG m c)) (m ((c : Thread nD τ).loc main_arg7)) := by
  funext j
  obtain ⟨l, r, k, rfl⟩ : ∃ (l : Fin 4) (r : Fin 2048) (k : Fin 2824), j = ix3 l r k := ⟨j 0, j 1, j 2, by blk_ext⟩
  by_cases h : (l : ℕ) = 0
  · obtain rfl : l = 0 := Fin.ext h
    have e : (ix3 0 r k : S4x2048x2824.Idx) = ((cfg0.win 7).blk (point r)).view.emb (ix3 0 ⟨r.val % 128, by omega⟩ k : S1x128x2824.Idx) := by
      have hp := idx (point r)
      simp only [point] at hp
      blk_ext [hp, point]
    rw [front_first]
    refine Eq.trans (congrArg ((dats m 0 c).arrAt 7 (cfgs 0).N) e) ?_
    refine ((dats m 0 c).arrAt_emb_eq_flushed 7 disjoint7 (point r) ((flushes (point r)).2.2.2) _).trans ?_
    refine Eq.trans ?_ (out_v m c (point r) ⟨r.val % 128, by omega⟩ k r (by show (r : ℕ) = r.val / 128 * 128 + r.val % 128; omega))
    blk_simp
    rw [after0_7]
  · rw [front_other _ _ l h]
    refine (entry7 m c _ fun t _ hm => ?_).trans rfl
    obtain ⟨y, _, hy⟩ := Finset.mem_map.mp hm
    refine h ?_
    have e0 : ((((cfg0.win 7).blk t).view.emb y) 0 : ℕ) = 0 := by
      blk_simp [idx t]
    rw [hy] at e0
    exact e0

/-- Kernel and reference leave the same stacks. -/
theorem same : Cert.algebraic_Kernel43Ideal_Reference43Ideal := by
  pair_intro
  · run_from Cert.Kernel43Ideal.Value.run_blocks m g
  · run_from Cert.Reference43Ideal.Value.run_ref m' g'
    · exact (final_g m c).symm
    · exact (final_d m c).symm
    · exact (final_m m c).symm
    · exact (final_v m c).symm

end Cert.Kernel43Ideal.Value

end
-- ==== Proof.AdamOut.lean ====
/-
  The step of the layers' output projection, for the first layer: its results are put in front of the other layers'.
-/
module

public import proofs.«01_k».proof.Defs
public import proofs.«01_k».proof.Proof.Gen.Kernel42.Frame
public import proofs.«01_k».proof.Proof.Gen.Kernel42Ideal.Frame
public import proofs.«01_k».proof.Proof.Gen.Kernel42Ideal.Value
public import proofs.«01_k».proof.Proof.Gen.Reference42Ideal.Run
public import proofs.«01_k».proof.Proof.Adam
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference42Ideal.Value

open Idealize.ShloMosaic Idealize.ShloMosaic.TcCoe Idealize.SL.Sem
open Cert.Reference42Ideal Cert.Reference42Ideal.Gen Cert.Adam

/-- A layer in front of the last three of a stack. -/
def front (a : FVec Ideal S1024x2048 .f32) (s : FVec Ideal S4x1024x2048 .f32) : FVec Ideal S4x1024x2048 .f32 :=
  concatenate S4x1024x2048 0 [⟨S1x1024x2048, (broadcastInDim S1x1024x2048 ![1, 2] bcast_S1024x2048_S1x1024x2048_1_2 a)⟩, ⟨S3x1024x2048, (extractStridedSlice S3x1024x2048 ![1, 0, 0] s slices_S4x1024x2048_S3x1024x2048_1_0_0)⟩] concatenates_S1x1024x2048_S3x1024x2048_S4x1024x2048_d0

/-- The first layer of a stack. -/
def layer (s : FVec Ideal S4x1024x2048 .f32) : FVec Ideal S1024x2048 .f32 :=
  shapeCast _ (extractStridedSlice S1x1024x2048 ![0, 0, 0] s slices_S4x1024x2048_S1x1024x2048_0_0_0) shapeCasts_S1x1024x2048_S1024x2048

theorem front_first (a : FVec Ideal S1024x2048 .f32) (s : FVec Ideal S4x1024x2048 .f32) (r : Fin 1024) (k : Fin 2048) :
    front a s (ix3 0 r k) = a (ix2 r k) := by
  pointwise [front]

theorem front_other (a : FVec Ideal S1024x2048 .f32) (s : FVec Ideal S4x1024x2048 .f32) (l : Fin 4) (h : ¬(l : ℕ) = 0) (r : Fin 1024) (k : Fin 2048) :
    front a s (ix3 l r k) = s (ix3 l r k) := by
  obtain ⟨p, rfl⟩ : ∃ p : Fin 3, l = p.succ := ⟨l.pred fun e => h (by rw [e]; rfl), (Fin.succ_pred _ _).symm⟩
  pointwise [front]
  rw [dif_neg (by simp)]
  exact congrArg (fun l => s (ix3 l r k)) (Fin.ext (by simp [Nat.add_comm]))

theorem layer_at (s : FVec Ideal S4x1024x2048 .f32) (r : Fin 1024) (k : Fin 2048) : layer s (ix2 r k) = s (ix3 0 r k) := by
  pointwise [layer]

/-- The two running means and the change, from the first layers. -/
def newM (m : FVec Ideal S4x1024x2048 .f32) (g : FVec Ideal S1024x2048 .f32) : FVec Ideal S1024x2048 .f32 :=
  addf (mulf (broadcastInDim S1024x2048 ![] bcast_S_S1024x2048 (constant S_ .f32 0x3F666666#32)) (layer m)) (mulf (broadcastInDim S1024x2048 ![] bcast_S_S1024x2048 (constant S_ .f32 0x3DCCCCCD#32)) g)

def newV (v : FVec Ideal S4x1024x2048 .f32) (g : FVec Ideal S1024x2048 .f32) : FVec Ideal S1024x2048 .f32 :=
  addf (mulf (broadcastInDim S1024x2048 ![] bcast_S_S1024x2048 (constant S_ .f32 0x3F7FBE77#32)) (layer v)) (mulf (broadcastInDim S1024x2048 ![] bcast_S_S1024x2048 (constant S_ .f32 0x3A83126F#32)) (mulf g g))

def delta (w m v : FVec Ideal S4x1024x2048 .f32) (g : FVec Ideal S1024x2048 .f32) : FVec Ideal S1024x2048 .f32 :=
  mulf (broadcastInDim S1024x2048 ![] bcast_S_S1024x2048 (constant S_ .f32 0xBA83126F#32)) (addf (Host.divf (Host.divf (newM m g) (broadcastInDim S1024x2048 ![] bcast_S_S1024x2048 (constant S_ .f32 0x3F26BD02#32))) (addf (Host.sqrt (Host.divf (newV v g) (broadcastInDim S1024x2048 ![] bcast_S_S1024x2048 (constant S_ .f32 0x3C231ACC#32)))) (broadcastInDim S1024x2048 ![] bcast_S_S1024x2048 (constant S_ .f32 0x322BCC77#32)))) (mulf (broadcastInDim S1024x2048 ![] bcast_S_S1024x2048 (constant S_ .f32 0x3C23D70A#32)) (layer w)))

theorem newM_at (m : FVec Ideal S4x1024x2048 .f32) (g : FVec Ideal S1024x2048 .f32) (r : Fin 1024) (k : Fin 2048) :
    newM m g (ix2 r k) = mean (m (ix3 0 r k)) (g (ix2 r k)) := by
  rw [← layer_at m r k]
  rfl

theorem newV_at (v : FVec Ideal S4x1024x2048 .f32) (g : FVec Ideal S1024x2048 .f32) (r : Fin 1024) (k : Fin 2048) :
    newV v g (ix2 r k) = square (v (ix3 0 r k)) (g (ix2 r k)) := by
  rw [← layer_at v r k]
  rfl

theorem delta_at (w m v : FVec Ideal S4x1024x2048 .f32) (g : FVec Ideal S1024x2048 .f32) (r : Fin 1024) (k : Fin 2048) :
    delta w m v g (ix2 r k) = change (w (ix3 0 r k)) (g (ix2 r k)) (m (ix3 0 r k)) (v (ix3 0 r k)) := by
  rw [← layer_at w r k, ← layer_at m r k, ← layer_at v r k]
  rfl

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v32) = front (m (c.tc.loc main_arg3)) (m (c.tc.loc main_arg4))
      ∧ r.2.mem (c.tc.loc main_v35) = front (delta (m (c.tc.loc main_arg0)) (m (c.tc.loc main_arg1)) (m (c.tc.loc main_arg2)) (m (c.tc.loc main_arg3))) (m (c.tc.loc main_arg5))
      ∧ r.2.mem (c.tc.loc main_v38) = front (newM (m (c.tc.loc main_arg1)) (m (c.tc.loc main_arg3))) (m (c.tc.loc main_arg6))
      ∧ r.2.mem (c.tc.loc main_v41) = front (newV (m (c.tc.loc main_arg2)) (m (c.tc.loc main_arg3))) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun r h c => ⟨(h c).1.trans rfl, (h c).2.1.trans rfl, (h c).2.2.1.trans rfl, (h c).2.2.2.1.trans rfl, (h c).2.2.2.2⟩)
    (run (F := Ideal) m ρ)

/-- The reference runs and leaves its arguments. -/
theorem frame_ref : Cert.quiescent_Reference42Ideal := fun m ρ _ =>
  (θ_run defs _ _).mono (fun r h => ⟨fun c => (h c).2.2.2.2, sem_eq_zero_of_no_sems (by decide) r.2⟩)
    (run (F := Ideal) m ρ)

end Cert.Reference42Ideal.Value

/-! ## The kernel -/

namespace Cert.Kernel42Ideal.Value

open Idealize.ShloMosaic Idealize.ShloMosaic.TcCoe Idealize.SL.Sem
open Idealize.ShloMosaic.Pipeline (Dat)
open Cert.Kernel42Ideal Cert.Kernel42Ideal.Gen Cert.Adam
open Cert.Reference42Ideal.Value (front front_first front_other newM newV delta newM_at newV_at delta_at)

variable (m : (ℓ : Loc nD τ sig) → Buf (Elt Ideal) ℓ)

/-- The weights, the two running means, the first layer's gradient. -/
abbrev aW (c : Dev nD) : FVec Ideal S4x1024x2048 .f32 := m ((c : Thread nD τ).loc main_arg0)
abbrev aM (c : Dev nD) : FVec Ideal S4x1024x2048 .f32 := m ((c : Thread nD τ).loc main_arg1)
abbrev aV (c : Dev nD) : FVec Ideal S4x1024x2048 .f32 := m ((c : Thread nD τ).loc main_arg2)
abbrev aG (c : Dev nD) : FVec Ideal S1024x2048 .f32 := m ((c : Thread nD τ).loc main_arg3)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- Every point writes its block back. -/
theorem flushes : ∀ t : Fin cfg0.N, (cfg0.win 4).flush t = true ∧ (cfg0.win 5).flush t = true ∧ (cfg0.win 6).flush t = true
    ∧ (cfg0.win 7).flush t = true :=
  (by decide +kernel : ∀ t : Fin grid0.N, _)

theorem lt_points (t : Fin cfg0.N) : t.val < 8 := lt_of_lt_of_eq t.isLt N_0

/-- The grid point whose blocks hold row `r`. -/
def point (r : Fin 1024) : Fin cfg0.N := ⟨r.val / 128, lt_of_lt_of_eq (by omega) N_0.symm⟩

/-- The blocks of the four inputs at grid point `t`. -/
abbrev bW (c : Dev nD) (t : Fin cfg0.N) : FVec Ideal S1x128x2048 .f32 := iblk m c 0 t
abbrev bM (c : Dev nD) (t : Fin cfg0.N) : FVec Ideal S1x128x2048 .f32 := iblk m c 1 t
abbrev bV (c : Dev nD) (t : Fin cfg0.N) : FVec Ideal S1x128x2048 .f32 := iblk m c 2 t
abbrev bG (c : Dev nD) (t : Fin cfg0.N) : FVec Ideal S128x2048 .f32 := iblk m c 3 t

theorem V_w (c : Dev nD) : V m c main_arg0 = aW m c := rfl
theorem V_m (c : Dev nD) : V m c main_arg1 = aM m c := rfl
theorem V_v (c : Dev nD) : V m c main_arg2 = aV m c := rfl
theorem V_g (c : Dev nD) : V m c main_arg3 = aG m c := rfl

theorem row_w (c : Dev nD) (t : Fin cfg0.N) (r : Fin 128) (k : Fin 2048) (r' : Fin 1024) (hR : (r' : ℕ) = t.val * 128 + r) :
    bW m c t (ix3 0 r k) = aW m c (ix3 0 r' k) := by
  rw [← V_w]
  show iblk m c 0 t (ix3 0 r k) = V m c main_arg0 (ix3 0 r' k)
  blk_point [iblk, idx t]

theorem row_m (c : Dev nD) (t : Fin cfg0.N) (r : Fin 128) (k : Fin 2048) (r' : Fin 1024) (hR : (r' : ℕ) = t.val * 128 + r) :
    bM m c t (ix3 0 r k) = aM m c (ix3 0 r' k) := by
  rw [← V_m]
  show iblk m c 1 t (ix3 0 r k) = V m c main_arg1 (ix3 0 r' k)
  blk_point [iblk, idx t]

theorem row_v (c : Dev nD) (t : Fin cfg0.N) (r : Fin 128) (k : Fin 2048) (r' : Fin 1024) (hR : (r' : ℕ) = t.val * 128 + r) :
    bV m c t (ix3 0 r k) = aV m c (ix3 0 r' k) := by
  rw [← V_v]
  show iblk m c 2 t (ix3 0 r k) = V m c main_arg2 (ix3 0 r' k)
  blk_point [iblk, idx t]

theorem row_g (c : Dev nD) (t : Fin cfg0.N) (r : Fin 128) (k : Fin 2048) (r' : Fin 1024) (hR : (r' : ℕ) = t.val * 128 + r) :
    bG m c t (ix2 r k) = aG m c (ix2 r' k) := by
  rw [← V_g]
  show iblk m c 3 t (ix2 r k) = V m c main_arg3 (ix2 r' k)
  blk_point [iblk, idx t]

theorem mean_at (g : FVec Ideal S128x2048 .f32) (b : FVec Ideal S1x128x2048 .f32) (r : Fin 128) (k : Fin 2048) :
    k0_pay4 (F := Ideal) g b (ix2 r k) = mean (b (ix3 0 r k)) (g (ix2 r k)) := by
  pointwise [k0_pay4, mean]

theorem square_at (g : FVec Ideal S128x2048 .f32) (b : FVec Ideal S1x128x2048 .f32) (r : Fin 128) (k : Fin 2048) :
    k0_pay5 (F := Ideal) g b (ix2 r k) = square (b (ix3 0 r k)) (g (ix2 r k)) := by
  pointwise [k0_pay5, square]

theorem change_at (g : FVec Ideal S128x2048 .f32) (w b s : FVec Ideal S1x128x2048 .f32) (r : Fin 128) (k : Fin 2048) :
    k0_pay6 (F := Ideal) g w b s (ix2 r k) = change (w (ix3 0 r k)) (g (ix2 r k)) (b (ix3 0 r k)) (s (ix3 0 r k)) := by
  pointwise [k0_pay6, k0_pay5, k0_pay4, change, mean, square]

theorem out_g (c : Dev nD) (t : Fin cfg0.N) (r : Fin 128) (k : Fin 2048) (r' : Fin 1024) (hR : (r' : ℕ) = t.val * 128 + r) :
    (outsAt0 m c t).1 (ix3 0 r k) = (aG m c : FVec Ideal S1024x2048 .f32) (ix2 r' k) := by
  refine Eq.trans ?_ (row_g m c t r k r' hR)
  rw [outsAt0]
  frame_out
  pointwise [k0_pay7]

/-- The whole array: the first layer new, the others as they were given. -/
theorem final_g (c : Dev nD) : (dats m 0 c).arrAt 4 (cfgs 0).N
    = front (aG m c) (m ((c : Thread nD τ).loc main_arg4)) := by
  funext j
  obtain ⟨l, r, k, rfl⟩ : ∃ (l : Fin 4) (r : Fin 1024) (k : Fin 2048), j = ix3 l r k := ⟨j 0, j 1, j 2, by blk_ext⟩
  by_cases h : (l : ℕ) = 0
  · obtain rfl : l = 0 := Fin.ext h
    have e : (ix3 0 r k : S4x1024x2048.Idx) = ((cfg0.win 4).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 4 (cfgs 0).N) e) ?_
    refine ((dats m 0 c).arrAt_emb_eq_flushed 4 disjoint4 (point r) ((flushes (point r)).1) _).trans ?_
    refine Eq.trans ?_ (out_g m c (point r) ⟨r.val % 128, by omega⟩ k r (by show (r : ℕ) = r.val / 128 * 128 + r.val % 128; omega))
    blk_simp
    rw [after0_4]
  · rw [front_other _ _ l h]
    refine (entry4 m c _ fun t _ hm => ?_).trans rfl
    obtain ⟨y, _, hy⟩ := Finset.mem_map.mp hm
    refine h ?_
    have e0 : ((((cfg0.win 4).blk t).view.emb y) 0 : ℕ) = 0 := by
      blk_simp [idx t]
    rw [hy] at e0
    exact e0

theorem out_d (c : Dev nD) (t : Fin cfg0.N) (r : Fin 128) (k : Fin 2048) (r' : Fin 1024) (hR : (r' : ℕ) = t.val * 128 + r) :
    (outsAt0 m c t).2.1 (ix3 0 r k) = (delta (aW m c) (aM m c) (aV m c) (aG m c) : FVec Ideal S1024x2048 .f32) (ix2 r' k) := by
  have e : k0_pay1 (F := Ideal) (k0_pay6 (F := Ideal) (bG m c t) (bW m c t) (bM m c t) (bV m c t)) (ix3 0 r k) = (k0_pay6 (F := Ideal) (bG m c t) (bW m c t) (bM m c t) (bV m c t)) (ix2 r k) := by
    generalize (k0_pay6 (F := Ideal) (bG m c t) (bW m c t) (bM m c t) (bV m c t)) = x
    pointwise [k0_pay1]
  rw [change_at, row_g m c t r k r' hR, row_w m c t r k r' hR, row_m m c t r k r' hR, row_v m c t r k r' hR] at e
  rw [delta_at, ← e, outsAt0]
  frame_out

/-- The whole array: the first layer new, the others as they were given. -/
theorem final_d (c : Dev nD) : (dats m 0 c).arrAt 5 (cfgs 0).N
    = front (delta (aW m c) (aM m c) (aV m c) (aG m c)) (m ((c : Thread nD τ).loc main_arg5)) := by
  funext j
  obtain ⟨l, r, k, rfl⟩ : ∃ (l : Fin 4) (r : Fin 1024) (k : Fin 2048), j = ix3 l r k := ⟨j 0, j 1, j 2, by blk_ext⟩
  by_cases h : (l : ℕ) = 0
  · obtain rfl : l = 0 := Fin.ext h
    have e : (ix3 0 r k : S4x1024x2048.Idx) = ((cfg0.win 5).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 5 (cfgs 0).N) e) ?_
    refine ((dats m 0 c).arrAt_emb_eq_flushed 5 disjoint5 (point r) ((flushes (point r)).2.1) _).trans ?_
    refine Eq.trans ?_ (out_d m c (point r) ⟨r.val % 128, by omega⟩ k r (by show (r : ℕ) = r.val / 128 * 128 + r.val % 128; omega))
    blk_simp
    rw [after0_5]
  · rw [front_other _ _ l h]
    refine (entry5 m c _ fun t _ hm => ?_).trans rfl
    obtain ⟨y, _, hy⟩ := Finset.mem_map.mp hm
    refine h ?_
    have e0 : ((((cfg0.win 5).blk t).view.emb y) 0 : ℕ) = 0 := by
      blk_simp [idx t]
    rw [hy] at e0
    exact e0

theorem out_m (c : Dev nD) (t : Fin cfg0.N) (r : Fin 128) (k : Fin 2048) (r' : Fin 1024) (hR : (r' : ℕ) = t.val * 128 + r) :
    (outsAt0 m c t).2.2.1 (ix3 0 r k) = (newM (aM m c) (aG m c) : FVec Ideal S1024x2048 .f32) (ix2 r' k) := by
  have e : k0_pay2 (F := Ideal) (k0_pay4 (F := Ideal) (bG m c t) (bM m c t)) (ix3 0 r k) = (k0_pay4 (F := Ideal) (bG m c t) (bM m c t)) (ix2 r k) := by
    generalize (k0_pay4 (F := Ideal) (bG m c t) (bM m c t)) = x
    pointwise [k0_pay2]
  rw [mean_at, row_g m c t r k r' hR, row_m m c t r k r' hR] at e
  rw [newM_at, ← e, outsAt0]
  frame_out

/-- The whole array: the first layer new, the others as they were given. -/
theorem final_m (c : Dev nD) : (dats m 0 c).arrAt 6 (cfgs 0).N
    = front (newM (aM m c) (aG m c)) (m ((c : Thread nD τ).loc main_arg6)) := by
  funext j
  obtain ⟨l, r, k, rfl⟩ : ∃ (l : Fin 4) (r : Fin 1024) (k : Fin 2048), j = ix3 l r k := ⟨j 0, j 1, j 2, by blk_ext⟩
  by_cases h : (l : ℕ) = 0
  · obtain rfl : l = 0 := Fin.ext h
    have e : (ix3 0 r k : S4x1024x2048.Idx) = ((cfg0.win 6).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 6 (cfgs 0).N) e) ?_
    refine ((dats m 0 c).arrAt_emb_eq_flushed 6 disjoint6 (point r) ((flushes (point r)).2.2.1) _).trans ?_
    refine Eq.trans ?_ (out_m m c (point r) ⟨r.val % 128, by omega⟩ k r (by show (r : ℕ) = r.val / 128 * 128 + r.val % 128; omega))
    blk_simp
    rw [after0_6]
  · rw [front_other _ _ l h]
    refine (entry6 m c _ fun t _ hm => ?_).trans rfl
    obtain ⟨y, _, hy⟩ := Finset.mem_map.mp hm
    refine h ?_
    have e0 : ((((cfg0.win 6).blk t).view.emb y) 0 : ℕ) = 0 := by
      blk_simp [idx t]
    rw [hy] at e0
    exact e0

theorem out_v (c : Dev nD) (t : Fin cfg0.N) (r : Fin 128) (k : Fin 2048) (r' : Fin 1024) (hR : (r' : ℕ) = t.val * 128 + r) :
    (outsAt0 m c t).2.2.2 (ix3 0 r k) = (newV (aV m c) (aG m c) : FVec Ideal S1024x2048 .f32) (ix2 r' k) := by
  have e : k0_pay3 (F := Ideal) (k0_pay5 (F := Ideal) (bG m c t) (bV m c t)) (ix3 0 r k) = (k0_pay5 (F := Ideal) (bG m c t) (bV m c t)) (ix2 r k) := by
    generalize (k0_pay5 (F := Ideal) (bG m c t) (bV m c t)) = x
    pointwise [k0_pay3]
  rw [square_at, row_g m c t r k r' hR, row_v m c t r k r' hR] at e
  rw [newV_at, ← e, outsAt0]
  frame_out

/-- The whole array: the first layer new, the others as they were given. -/
theorem final_v (c : Dev nD) : (dats m 0 c).arrAt 7 (cfgs 0).N
    = front (newV (aV m c) (aG m c)) (m ((c : Thread nD τ).loc main_arg7)) := by
  funext j
  obtain ⟨l, r, k, rfl⟩ : ∃ (l : Fin 4) (r : Fin 1024) (k : Fin 2048), j = ix3 l r k := ⟨j 0, j 1, j 2, by blk_ext⟩
  by_cases h : (l : ℕ) = 0
  · obtain rfl : l = 0 := Fin.ext h
    have e : (ix3 0 r k : S4x1024x2048.Idx) = ((cfg0.win 7).blk (point r)).view.emb (ix3 0 ⟨r.val % 128, by omega⟩ k : S1x128x2048.Idx) := by
      have hp := idx (point r)
      simp only [point] at hp
      blk_ext [hp, point]
    rw [front_first]
    refine Eq.trans (congrArg ((dats m 0 c).arrAt 7 (cfgs 0).N) e) ?_
    refine ((dats m 0 c).arrAt_emb_eq_flushed 7 disjoint7 (point r) ((flushes (point r)).2.2.2) _).trans ?_
    refine Eq.trans ?_ (out_v m c (point r) ⟨r.val % 128, by omega⟩ k r (by show (r : ℕ) = r.val / 128 * 128 + r.val % 128; omega))
    blk_simp
    rw [after0_7]
  · rw [front_other _ _ l h]
    refine (entry7 m c _ fun t _ hm => ?_).trans rfl
    obtain ⟨y, _, hy⟩ := Finset.mem_map.mp hm
    refine h ?_
    have e0 : ((((cfg0.win 7).blk t).view.emb y) 0 : ℕ) = 0 := by
      blk_simp [idx t]
    rw [hy] at e0
    exact e0

/-- Kernel and reference leave the same stacks. -/
theorem same : Cert.algebraic_Kernel42Ideal_Reference42Ideal := by
  pair_intro
  · run_from Cert.Kernel42Ideal.Value.run_blocks m g
  · run_from Cert.Reference42Ideal.Value.run_ref m' g'
    · exact (final_g m c).symm
    · exact (final_d m c).symm
    · exact (final_m m c).symm
    · exact (final_v m c).symm

end Cert.Kernel42Ideal.Value

end
-- ==== Proof.Softmax.lean ====
/-
  One row of the gradient of an attention with a softmax, as sums over the extended reals.

  `prob s` is the softmax of a row `s` of scores the way a blockwise program computes it (the reciprocal of the sum is
  taken once and multiplied in), `quot s` the way the plain program does (each term divided by the sum). `grad` and
  `grad'` are the two forms of the row's gradient. For finite scores they agree, whatever the upstream gradient `dp` is,
  infinities included: the sum of exponentials is then a positive real, and multiplying by a positive real distributes
  over every sum of extended reals.
-/
module

public import Idealize.ShloMosaic.PureOps.Ideal
public import Mathlib.Data.EReal.Inv

@[expose] public section

noncomputable section

namespace Cert.Softmax

open Idealize.ShloMosaic

/-- The exponentials of a row, its largest entry subtracted first. -/
def expo {n : ℕ} (s : Fin n → EReal) (j : Fin n) : EReal := Ideal.exp (s j - Finset.univ.fold max ⊥ s)

/-- The row's probabilities: each exponential times the reciprocal of their sum. -/
def prob {n : ℕ} (s : Fin n → EReal) (j : Fin n) : EReal := expo s j * Ideal.div 1 (∑ l, expo s l)

/-- The row's probabilities: each exponential divided by their sum. -/
def quot {n : ℕ} (s : Fin n → EReal) (j : Fin n) : EReal := Ideal.div (expo s j) (∑ l, expo s l)

/-- The gradient of the row's scores from the gradient `dp` of its probabilities: probability times what `dp` exceeds
    its mean by. -/
def grad {n : ℕ} (s dp : Fin n → EReal) (j : Fin n) : EReal := prob s j * (dp j - ∑ l, dp l * prob s l)

/-- The same gradient as the derivative of a quotient: `dp / Σ`, less `Σ dp·e / Σ²`, times the exponential. -/
def grad' {n : ℕ} (s dp : Fin n → EReal) (j : Fin n) : EReal :=
  (Ideal.div (dp j) (∑ l, expo s l)
    + -∑ l, dp l * Ideal.div 1 ((∑ l, expo s l) * ∑ l, expo s l) * expo s l) * expo s j

/-- The real sum, taken among the extended reals. -/
theorem coe_sum {n : ℕ} (g : Fin n → ℝ) : ((∑ j, g j : ℝ) : EReal) = ∑ j, (g j : EReal) := by
  have key : ∀ S : Finset (Fin n), ((∑ j ∈ S, g j : ℝ) : EReal) = ∑ j ∈ S, (g j : EReal) := by
    intro S
    induction S using Finset.induction_on with
    | empty => simp
    | insert a S ha ih => rw [Finset.sum_insert ha, Finset.sum_insert ha, EReal.coe_add, ih]
  exact key _

/-- A finite sum of reals is a real. -/
theorem exists_sum {n : ℕ} (f : Fin n → EReal) (h : ∀ j, ∃ r : ℝ, f j = r) : ∃ r : ℝ, ∑ j, f j = r := by
  choose g hg using h
  exact ⟨∑ j, g j, by rw [coe_sum]; exact Finset.sum_congr rfl fun j _ => hg j⟩

/-- The largest of finitely many reals, over a nonempty row, is a real. -/
theorem exists_max {n : ℕ} (s : Fin (n + 1) → EReal) (h : ∀ j, ∃ r : ℝ, s j = r) :
    ∃ r : ℝ, Finset.univ.fold max ⊥ s = r := by
  have hb : Finset.univ.fold max ⊥ s = Finset.univ.sup s := rfl
  obtain ⟨j, _, hj⟩ := Finset.exists_mem_eq_sup Finset.univ ⟨0, Finset.mem_univ _⟩ s
  obtain ⟨r, hr⟩ := h j
  exact ⟨r, by rw [hb, hj, hr]⟩

/-- Of finite scores every exponential is a positive real. -/
theorem exists_expo {n : ℕ} (s : Fin (n + 1) → EReal) (h : ∀ j, ∃ r : ℝ, s j = r) (j : Fin (n + 1)) :
    ∃ r : ℝ, 0 < r ∧ expo s j = r := by
  obtain ⟨a, ha⟩ := exists_max s h
  obtain ⟨r, hr⟩ := h j
  exact ⟨Real.exp (r - a), Real.exp_pos _, by rw [expo, ha, hr, ← EReal.coe_sub, Ideal.exp_coe]⟩

/-- … and so is their sum. -/
theorem exists_total {n : ℕ} (s : Fin (n + 1) → EReal) (h : ∀ j, ∃ r : ℝ, s j = r) :
    ∃ r : ℝ, 0 < r ∧ ∑ l, expo s l = r := by
  choose g hpos hg using exists_expo s h
  exact ⟨∑ l, g l, Finset.sum_pos (fun l _ => hpos l) ⟨0, Finset.mem_univ _⟩,
    by rw [coe_sum]; exact Finset.sum_congr rfl fun l _ => hg l⟩

/-- A nonnegative real goes into a sum of extended reals. -/
theorem mul_sum_of_nonneg {n : ℕ} (c : ℝ) (hc : 0 ≤ c) (f : Fin n → EReal) : (c : EReal) * ∑ l, f l = ∑ l, (c : EReal) * f l := by
  have key : ∀ S : Finset (Fin n), (c : EReal) * ∑ l ∈ S, f l = ∑ l ∈ S, (c : EReal) * f l := by
    intro S
    induction S using Finset.induction_on with
    | empty => simp
    | insert a S ha ih =>
      rw [Finset.sum_insert ha, Finset.sum_insert ha,
        EReal.left_distrib_of_nonneg_of_ne_top (EReal.coe_nonneg.mpr hc) (EReal.coe_ne_top c), ih]
  exact key _

/-- Dividing by the sum is multiplying by its reciprocal. -/
theorem quot_eq_prob {n : ℕ} (s : Fin (n + 1) → EReal) (h : ∀ j, ∃ r : ℝ, s j = r) (j : Fin (n + 1)) : quot s j = prob s j := by
  obtain ⟨S, hS, hSe⟩ := exists_total s h
  rw [quot, prob, hSe, Ideal.div_coe hS.ne', Ideal.div_coe hS.ne', one_mul]

/-- THE TWO GRADIENTS AGREE, for finite scores and any upstream gradient. -/
theorem grad'_eq_grad {n : ℕ} (s dp : Fin (n + 1) → EReal) (h : ∀ j, ∃ r : ℝ, s j = r) (j : Fin (n + 1)) :
    grad' s dp j = grad s dp j := by
  obtain ⟨S, hS, hSe⟩ := exists_total s h
  have hc : (0 : ℝ) ≤ 1 / S := (one_div_pos.mpr hS).le
  have hcE : (0 : EReal) ≤ ((1 / S : ℝ) : EReal) := EReal.coe_nonneg.mpr hc
  have hp : ∀ l, prob s l = expo s l * ((1 / S : ℝ) : EReal) := fun l => by
    rw [prob, hSe, Ideal.div_coe hS.ne', one_mul]
  have hsum : (∑ l, dp l * Ideal.div 1 ((∑ l, expo s l) * ∑ l, expo s l) * expo s l)
      = ((1 / S : ℝ) : EReal) * ∑ l, dp l * prob s l := by
    rw [mul_sum_of_nonneg _ hc]
    refine Finset.sum_congr rfl fun l _ => ?_
    rw [hp, hSe, ← EReal.coe_mul, Ideal.div_coe (mul_pos hS hS).ne', one_mul,
      show (1 / (S * S) : ℝ) = (1 / S) * (1 / S) by field_simp, EReal.coe_mul]
    ac_rfl
  rw [grad', grad, hsum, hSe, Ideal.div_coe hS.ne', hp j, mul_comm (dp j), ← mul_neg,
    ← EReal.left_distrib_of_nonneg_of_ne_top hcE (EReal.coe_ne_top _), ← sub_eq_add_neg]
  ac_rfl

end Cert.Softmax

end
-- ==== Proof.Heads.lean ====
/-
  What the body of the attention's gradient computes for one of its four heads, entry by entry.

  A head works on tiles of 128 lanes: `q`, `o` (the queries and the upstream gradient, 512 rows) and `k`, `v` (the
  memory, 256 rows). Its scores are `(q · k) · scale`; the gradient of the scores is `Softmax.grad` of them times the
  scale; `dq`, `dk` and `dv` are its products with the keys, the queries and the upstream gradient. The same three
  formulas serve the four heads, which the program spells with different intermediate values.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Softmax

open Idealize.ShloMosaic

/-- The scale of the scores, 128^(-1/2) as a float. -/
def scale : EReal := Ideal.ofBits .f32 0x3DB504F3#32

/-- The scores of one query against the memory. -/
def score (q : Fin 128 → EReal) (k : Fin 256 → Fin 128 → EReal) (l : Fin 256) : EReal := (∑ d, q d * k l d) * scale

/-- The gradient of that query's probabilities. -/
def dprob (o : Fin 128 → EReal) (v : Fin 256 → Fin 128 → EReal) (l : Fin 256) : EReal := ∑ d, o d * v l d

/-- The gradient of that query's products with the keys. -/
def dscore (q : Fin 128 → EReal) (k v : Fin 256 → Fin 128 → EReal) (o : Fin 128 → EReal) (l : Fin 256) : EReal :=
  grad (score q k) (dprob o v) l * scale

/-- The pattern of −∞ is −∞. -/
theorem ofBits_neg_inf : Ideal.ofBits .f32 0xFF800000#32 = ⊥ := by simp [Ideal.ofBits, Ideal.ieee]

end Cert.Softmax

namespace Cert.KernelIdeal.Value

open Idealize.ShloMosaic Idealize.ShloMosaic.TcCoe Idealize.SL.Sem Cert.Softmax
open Cert.KernelIdeal Cert.KernelIdeal.Gen

variable (q : Vec Ideal S512x128 .bf16) (k v : Vec Ideal S256x128 .bf16) (o : Vec Ideal S512x128 .bf16)

/-- A row of a tile. -/
abbrev row {n : ℕ} (x : Vec Ideal ⟨2, ![n, 128]⟩ .bf16) (r : Fin n) : Fin 128 → EReal := fun d => x (ix2 r d)

/-- First head: probabilities. -/
theorem prob0 (r : Fin 512) (j : Fin 256) : k0_pay8 (F := Ideal) q k (ix2 r j) = prob (score (row q r) (row k)) j := by
  pointwise [k0_pay8]; simp only [ofBits_neg_inf]; rfl

/-- First head: gradient of the scores. -/
theorem dscore0 (r : Fin 512) (j : Fin 256) :
    k0_pay10 (F := Ideal) q k v o (ix2 r j) = dscore (row q r) (row k) (row v) (row o r) j := by
  pointwise [k0_pay10, prob0]; rfl

/-- First head: gradient of the values. -/
theorem dv0 (l : Fin 256) (d : Fin 128) :
    k0_pay9 (F := Ideal) q k o (ix2 l d) = ∑ r : Fin 512, prob (score (row q r) (row k)) l * o (ix2 r d) := by
  pointwise [k0_pay9, prob0]

/-- First head: gradient of the queries. -/
theorem dq0 (r : Fin 512) (d : Fin 128) :
    k0_pay11 (F := Ideal) q k v o (ix2 r d) = ∑ j, dscore (row q r) (row k) (row v) (row o r) j * k (ix2 j d) := by
  pointwise [k0_pay11, dscore0]

/-- First head: gradient of the keys. -/
theorem dk0 (l : Fin 256) (d : Fin 128) :
    k0_pay12 (F := Ideal) q k v o (ix2 l d) = ∑ r : Fin 512, dscore (row q r) (row k) (row v) (row o r) l * q (ix2 r d) := by
  pointwise [k0_pay12, dscore0]

/-- Second head: probabilities. -/
theorem prob1 (r : Fin 512) (j : Fin 256) : k0_pay13 (F := Ideal) q k (ix2 r j) = prob (score (row q r) (row k)) j := by
  pointwise [k0_pay13]; simp only [ofBits_neg_inf]; rfl

/-- Second head: gradient of the scores. -/
theorem dscore1 (r : Fin 512) (j : Fin 256) :
    k0_pay15 (F := Ideal) q k v o (ix2 r j) = dscore (row q r) (row k) (row v) (row o r) j := by
  pointwise [k0_pay15, prob1]; rfl

/-- Second head: gradient of the values. -/
theorem dv1 (l : Fin 256) (d : Fin 128) :
    k0_pay14 (F := Ideal) q k o (ix2 l d) = ∑ r : Fin 512, prob (score (row q r) (row k)) l * o (ix2 r d) := by
  pointwise [k0_pay14, prob1]

/-- Second head: gradient of the queries. -/
theorem dq1 (r : Fin 512) (d : Fin 128) :
    k0_pay16 (F := Ideal) q k v o (ix2 r d) = ∑ j, dscore (row q r) (row k) (row v) (row o r) j * k (ix2 j d) := by
  pointwise [k0_pay16, dscore1]

/-- Second head: gradient of the keys. -/
theorem dk1 (l : Fin 256) (d : Fin 128) :
    k0_pay17 (F := Ideal) q k v o (ix2 l d) = ∑ r : Fin 512, dscore (row q r) (row k) (row v) (row o r) l * q (ix2 r d) := by
  pointwise [k0_pay17, dscore1]

/-- Third head: probabilities, from its scores. -/
theorem prob2 (r : Fin 512) (j : Fin 256) :
    k0_pay19 (F := Ideal) (k0_pay18 q k) (ix2 r j) = prob (score (row q r) (row k)) j := by
  pointwise [k0_pay18, k0_pay19]; simp only [ofBits_neg_inf]; rfl

/-- Third head: gradient of the scores. -/
theorem dscore2 (r : Fin 512) (j : Fin 256) :
    k0_pay21 (F := Ideal) v o (k0_pay18 q k) (ix2 r j) = dscore (row q r) (row k) (row v) (row o r) j := by
  pointwise [k0_pay21, prob2]; rfl

/-- Third head: gradient of the values. -/
theorem dv2 (l : Fin 256) (d : Fin 128) :
    k0_pay20 (F := Ideal) o (k0_pay18 q k) (ix2 l d) = ∑ r : Fin 512, prob (score (row q r) (row k)) l * o (ix2 r d) := by
  pointwise [k0_pay20, prob2]

/-- Third head: gradient of the queries. -/
theorem dq2 (r : Fin 512) (d : Fin 128) :
    k0_pay22 (F := Ideal) k v o (k0_pay18 q k) (ix2 r d)
      = ∑ j, dscore (row q r) (row k) (row v) (row o r) j * k (ix2 j d) := by
  pointwise [k0_pay22, dscore2]

/-- Third head: gradient of the keys. -/
theorem dk2 (l : Fin 256) (d : Fin 128) :
    k0_pay23 (F := Ideal) q v o (k0_pay18 q k) (ix2 l d)
      = ∑ r : Fin 512, dscore (row q r) (row k) (row v) (row o r) l * q (ix2 r d) := by
  pointwise [k0_pay23, dscore2]

/-- Fourth head: probabilities, from its exponentials and their sum. -/
theorem prob3 (r : Fin 512) (j : Fin 256) :
    k0_pay1 (F := Ideal) (k0_pay24 q k) (k0_pay25 q k) (ix2 r j) = prob (score (row q r) (row k)) j := by
  pointwise [k0_pay1, k0_pay24, k0_pay25]; simp only [ofBits_neg_inf]; rfl

/-- Fourth head: gradient of the scores. -/
theorem dscore3 (r : Fin 512) (j : Fin 256) :
    k0_pay2 (F := Ideal) v o (k0_pay24 q k) (k0_pay25 q k) (ix2 r j) = dscore (row q r) (row k) (row v) (row o r) j := by
  pointwise [k0_pay2, prob3]; rfl

/-! ## The four heads side by side -/

/-- The lanes of the head that lane `c` belongs to. -/
def lane (x : Fin 512 → EReal) (c : Fin 512) (d : Fin 128) : EReal := x ⟨c / 128 * 128 + d, by omega⟩

/-- One row of the gradient of the queries, all heads. -/
def DQ (q : Fin 512 → EReal) (k v : Fin 256 → Fin 512 → EReal) (o : Fin 512 → EReal) (c : Fin 512) : EReal :=
  ∑ j, dscore (lane q c) (fun l => lane (k l) c) (fun l => lane (v l) c) (lane o c) j * k j c

/-- One query's part of the gradient of the keys. -/
def DK (q : Fin 512 → EReal) (k v : Fin 256 → Fin 512 → EReal) (o : Fin 512 → EReal) (l : Fin 256) (c : Fin 512) : EReal :=
  dscore (lane q c) (fun l => lane (k l) c) (fun l => lane (v l) c) (lane o c) l * q c

/-- One query's part of the gradient of the values. -/
def DV (q : Fin 512 → EReal) (k : Fin 256 → Fin 512 → EReal) (o : Fin 512 → EReal) (l : Fin 256) (c : Fin 512) : EReal :=
  prob (score (lane q c) (fun l => lane (k l) c)) l * o c

/-- `x` is head `h`'s tile of lanes of the block `X`. -/
def Tile {n : ℕ} (h : ℕ) (x : Vec Ideal ⟨2, ![n, 128]⟩ .bf16) (X : Vec Ideal ⟨2, ![n, 512]⟩ .bf16) : Prop :=
  ∀ (r : Fin n) (d : Fin 128) (hlt : h * 128 + d < 512), x (ix2 r d) = X (ix2 r ⟨h * 128 + d, hlt⟩)

/-- A row of a block. -/
abbrev brow {n : ℕ} (X : Vec Ideal ⟨2, ![n, 512]⟩ .bf16) (r : Fin n) : Fin 512 → EReal := fun c => X (ix2 r c)

theorem Tile.row_eq {n : ℕ} {h : ℕ} {x : Vec Ideal ⟨2, ![n, 128]⟩ .bf16} {X : Vec Ideal ⟨2, ![n, 512]⟩ .bf16}
    (hx : Tile h x X) (c : Fin 512) (hc : (c : ℕ) / 128 = h) (r : Fin n) : row x r = lane (brow X r) c := by
  subst hc
  funext d
  exact hx r d (by omega)

theorem Tile.at {n : ℕ} {h : ℕ} {x : Vec Ideal ⟨2, ![n, 128]⟩ .bf16} {X : Vec Ideal ⟨2, ![n, 512]⟩ .bf16}
    (hx : Tile h x X) (c : Fin 512) (d : Fin 128) (hc : (c : ℕ) = h * 128 + d) (r : Fin n) : x (ix2 r d) = X (ix2 r c) := by
  rw [hx r d (by omega)]
  exact congrArg X (congrArg (ix2 r) (Fin.ext hc.symm))

section
variable {q0 q1 q2 q3 o0 o1 o2 o3 : Vec Ideal S512x128 .bf16} {k0 k1 k2 k3 v0 v1 v2 v3 : Vec Ideal S256x128 .bf16}
variable {Q O : Vec Ideal S512x512 .bf16} {K V : Vec Ideal S256x512 .bf16}

/-- One head's sum for the gradient of the queries is the sum over the block, at that head's lanes. -/
theorem DQ_of_tile {h : ℕ} (hq : Tile h q0 Q) (hk : Tile h k0 K) (hv : Tile h v0 V) (ho : Tile h o0 O) (r : Fin 512)
    (c : Fin 512) (d : Fin 128) (hc : (c : ℕ) = h * 128 + d) :
    (∑ j, dscore (row q0 r) (row k0) (row v0) (row o0 r) j * k0 (ix2 j d)) = DQ (brow Q r) (brow K) (brow V) (brow O r) c := by
  have hh : (c : ℕ) / 128 = h := by omega
  rw [DQ, show row k0 = fun l => lane (brow K l) c from funext (hk.row_eq c hh),
    show row v0 = fun l => lane (brow V l) c from funext (hv.row_eq c hh), hq.row_eq c hh, ho.row_eq c hh]
  exact Finset.sum_congr rfl fun j _ => congrArg _ (hk.at c d hc j)

/-- One head's sum for the gradient of the keys. -/
theorem DK_of_tile {h : ℕ} (hq : Tile h q0 Q) (hk : Tile h k0 K) (hv : Tile h v0 V) (ho : Tile h o0 O) (l : Fin 256)
    (c : Fin 512) (d : Fin 128) (hc : (c : ℕ) = h * 128 + d) :
    (∑ r : Fin 512, dscore (row q0 r) (row k0) (row v0) (row o0 r) l * q0 (ix2 r d))
      = ∑ r : Fin 512, DK (brow Q r) (brow K) (brow V) (brow O r) l c := by
  have hh : (c : ℕ) / 128 = h := by omega
  refine Finset.sum_congr rfl fun r _ => ?_
  rw [DK, show row k0 = fun l => lane (brow K l) c from funext (hk.row_eq c hh),
    show row v0 = fun l => lane (brow V l) c from funext (hv.row_eq c hh), hq.row_eq c hh, ho.row_eq c hh]
  exact congrArg _ (hq.at c d hc r)

/-- One head's sum for the gradient of the values. -/
theorem DV_of_tile {h : ℕ} (hq : Tile h q0 Q) (hk : Tile h k0 K) (ho : Tile h o0 O) (l : Fin 256)
    (c : Fin 512) (d : Fin 128) (hc : (c : ℕ) = h * 128 + d) :
    (∑ r : Fin 512, prob (score (row q0 r) (row k0)) l * o0 (ix2 r d))
      = ∑ r : Fin 512, DV (brow Q r) (brow K) (brow O r) l c := by
  have hh : (c : ℕ) / 128 = h := by omega
  refine Finset.sum_congr rfl fun r _ => ?_
  rw [DV, show row k0 = fun l => lane (brow K l) c from funext (hk.row_eq c hh), hq.row_eq c hh]
  exact congrArg _ (ho.at c d hc r)

/-- THE BLOCK OF THE GRADIENT OF THE QUERIES. -/
theorem block_dq (hq0 : Tile 0 q0 Q) (hk0 : Tile 0 k0 K) (hv0 : Tile 0 v0 V) (ho0 : Tile 0 o0 O)
    (hq1 : Tile 1 q1 Q) (hk1 : Tile 1 k1 K) (hv1 : Tile 1 v1 V) (ho1 : Tile 1 o1 O)
    (hq2 : Tile 2 q2 Q) (hk2 : Tile 2 k2 K) (hv2 : Tile 2 v2 V) (ho2 : Tile 2 o2 O)
    (hq3 : Tile 3 q3 Q) (hk3 : Tile 3 k3 K) (hv3 : Tile 3 v3 V) (ho3 : Tile 3 o3 O) (r : Fin 512) (c : Fin 512) :
    k0_pay3 (F := Ideal) (k0_pay11 q0 k0 v0 o0) (k0_pay16 q1 k1 v1 o1) (k0_pay22 k2 v2 o2 (k0_pay18 q2 k2)) k3 v3 o3
        (k0_pay24 q3 k3) (k0_pay25 q3 k3) (ix2 r c)
      = DQ (brow Q r) (brow K) (brow V) (brow O r) c := by
  pointwise [k0_pay3, dq0, dq1, dq2, dscore3]
  by_cases h0 : (c : ℕ) < 128
  · rw [dif_pos h0]; exact DQ_of_tile hq0 hk0 hv0 ho0 r c _ (by simp)
  rw [dif_neg h0]
  by_cases h1 : (c : ℕ) - 128 < 128
  · rw [dif_pos h1]; exact DQ_of_tile hq1 hk1 hv1 ho1 r c _ (by simp; omega)
  rw [dif_neg h1]
  by_cases h2 : (c : ℕ) - 128 - 128 < 128
  · rw [dif_pos h2]; exact DQ_of_tile hq2 hk2 hv2 ho2 r c _ (by simp; omega)
  rw [dif_neg h2]
  exact DQ_of_tile hq3 hk3 hv3 ho3 r c _ (by simp; omega)

/-- THE BLOCK'S PART OF THE GRADIENT OF THE KEYS. -/
theorem block_dk (hq0 : Tile 0 q0 Q) (hk0 : Tile 0 k0 K) (hv0 : Tile 0 v0 V) (ho0 : Tile 0 o0 O)
    (hq1 : Tile 1 q1 Q) (hk1 : Tile 1 k1 K) (hv1 : Tile 1 v1 V) (ho1 : Tile 1 o1 O)
    (hq2 : Tile 2 q2 Q) (hk2 : Tile 2 k2 K) (hv2 : Tile 2 v2 V) (ho2 : Tile 2 o2 O)
    (hq3 : Tile 3 q3 Q) (hk3 : Tile 3 k3 K) (hv3 : Tile 3 v3 V) (ho3 : Tile 3 o3 O) (l : Fin 256) (c : Fin 512) :
    k0_pay4 (F := Ideal) (k0_pay12 q0 k0 v0 o0) (k0_pay17 q1 k1 v1 o1) (k0_pay23 q2 v2 o2 (k0_pay18 q2 k2)) q3 v3 o3
        (k0_pay24 q3 k3) (k0_pay25 q3 k3) (ix2 l c)
      = ∑ r : Fin 512, DK (brow Q r) (brow K) (brow V) (brow O r) l c := by
  pointwise [k0_pay4, dk0, dk1, dk2, dscore3]
  by_cases h0 : (c : ℕ) < 128
  · rw [dif_pos h0]; exact DK_of_tile hq0 hk0 hv0 ho0 l c _ (by simp)
  rw [dif_neg h0]
  by_cases h1 : (c : ℕ) - 128 < 128
  · rw [dif_pos h1]; exact DK_of_tile hq1 hk1 hv1 ho1 l c _ (by simp; omega)
  rw [dif_neg h1]
  by_cases h2 : (c : ℕ) - 128 - 128 < 128
  · rw [dif_pos h2]; exact DK_of_tile hq2 hk2 hv2 ho2 l c _ (by simp; omega)
  rw [dif_neg h2]
  exact DK_of_tile hq3 hk3 hv3 ho3 l c _ (by simp; omega)

/-- THE BLOCK'S PART OF THE GRADIENT OF THE VALUES. -/
theorem block_dv (hq0 : Tile 0 q0 Q) (hk0 : Tile 0 k0 K) (ho0 : Tile 0 o0 O)
    (hq1 : Tile 1 q1 Q) (hk1 : Tile 1 k1 K) (ho1 : Tile 1 o1 O)
    (hq2 : Tile 2 q2 Q) (hk2 : Tile 2 k2 K) (ho2 : Tile 2 o2 O)
    (hq3 : Tile 3 q3 Q) (hk3 : Tile 3 k3 K) (ho3 : Tile 3 o3 O) (l : Fin 256) (c : Fin 512) :
    k0_pay5 (F := Ideal) (k0_pay9 q0 k0 o0) (k0_pay14 q1 k1 o1) (k0_pay20 o2 (k0_pay18 q2 k2)) o3
        (k0_pay24 q3 k3) (k0_pay25 q3 k3) (ix2 l c)
      = ∑ r : Fin 512, DV (brow Q r) (brow K) (brow O r) l c := by
  pointwise [k0_pay5, dv0, dv1, dv2, prob3]
  by_cases h0 : (c : ℕ) < 128
  · rw [dif_pos h0]; exact DV_of_tile hq0 hk0 ho0 l c _ (by simp)
  rw [dif_neg h0]
  by_cases h1 : (c : ℕ) - 128 < 128
  · rw [dif_pos h1]; exact DV_of_tile hq1 hk1 ho1 l c _ (by simp; omega)
  rw [dif_neg h1]
  by_cases h2 : (c : ℕ) - 128 - 128 < 128
  · rw [dif_pos h2]; exact DV_of_tile hq2 hk2 ho2 l c _ (by simp; omega)
  rw [dif_neg h2]
  exact DV_of_tile hq3 hk3 ho3 l c _ (by simp; omega)

end

end Cert.KernelIdeal.Value

end
-- ==== Proof.Arrays.lean ====
/-
  What the three result arrays of the kernel hold at the end: the gradient of the queries row by row, and the
  gradients of the keys and of the values as sums over all 8192 queries, gathered over the sixteen blocks of 512.
-/
module

public import proofs.«01_k».proof.Proof.Gen.KernelIdeal.Frame
public import proofs.«01_k».proof.Proof.Heads
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Softmax

variable (m : (ℓ : Loc nD τ sig) → Buf (Elt Ideal) ℓ)

/-- The queries as the call is given them. -/
abbrev aQ (c : Dev nD) : Vec Ideal S8192x512 .bf16 := m ((c : Thread nD τ).loc main_arg0)
/-- The memory's keys. -/
abbrev aK (c : Dev nD) : Vec Ideal S256x512 .bf16 := m ((c : Thread nD τ).loc main_arg1)
/-- The memory's values. -/
abbrev aV (c : Dev nD) : Vec Ideal S256x512 .bf16 := m ((c : Thread nD τ).loc main_arg2)
/-- The upstream gradient. -/
abbrev aO (c : Dev nD) : Vec Ideal S8192x512 .bf16 := m ((c : Thread nD τ).loc main_arg3)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The grid has sixteen points. -/
theorem lt16 (t : Fin cfg0.N) : t.val < 16 := lt_of_lt_of_eq t.isLt N_0

/-- The blocks of the four inputs at grid point `t`. -/
abbrev bQ (c : Dev nD) (t : Fin cfg0.N) : Vec Ideal S512x512 .bf16 := iblk m c 0 t
abbrev bK (c : Dev nD) (t : Fin cfg0.N) : Vec Ideal S256x512 .bf16 := iblk m c 1 t
abbrev bV (c : Dev nD) (t : Fin cfg0.N) : Vec Ideal S256x512 .bf16 := iblk m c 2 t
abbrev bO (c : Dev nD) (t : Fin cfg0.N) : Vec Ideal S512x512 .bf16 := iblk m c 3 t

/-- Row `r` of the block of queries at point `t` is row `512 t + r` of the array. -/
theorem row_Q (c : Dev nD) (t : Fin cfg0.N) (r : Fin 512) (R : Fin 8192) (hR : (R : ℕ) = t.val * 512 + r) :
    brow (bQ m c t) r = brow (aQ m c) R := by
  funext d
  show iblk m c 0 t (ix2 r d) = m ((c : Thread nD τ).loc main_arg0) (ix2 R d)
  blk_point [iblk, V, idx t]

theorem row_O (c : Dev nD) (t : Fin cfg0.N) (r : Fin 512) (R : Fin 8192) (hR : (R : ℕ) = t.val * 512 + r) :
    brow (bO m c t) r = brow (aO m c) R := by
  funext d
  show iblk m c 3 t (ix2 r d) = m ((c : Thread nD τ).loc main_arg3) (ix2 R d)
  blk_point [iblk, V, idx t]

theorem rows_K (c : Dev nD) (t : Fin cfg0.N) : brow (bK m c t) = brow (aK m c) := by
  funext r d
  blk_point [iblk, V, idx t]

theorem rows_V (c : Dev nD) (t : Fin cfg0.N) : brow (bV m c t) = brow (aV m c) := by
  funext r d
  blk_point [iblk, V, idx t]

/-- The gradient of the queries that point `t` writes. -/
theorem out_dq (c : Dev nD) (t : Fin cfg0.N) (j : S512x512.Idx) : (outsAt0 m c t.val t.isLt).1 j
    = DQ (brow (bQ m c t) (j 0)) (brow (bK m c t)) (brow (bV m c t)) (brow (bO m c t) (j 0)) (j 1) := by
  obtain ⟨l, d, rfl⟩ : ∃ (l : Fin 512) (d : Fin 512), j = ix2 l d := ⟨j 0, j 1, by blk_ext⟩
  by_cases h : t.val % 16 = 0
  · have := lt16 t
    rw [outsAt0_A m c t h (by omega)]
    frame_out
    refine block_dq ?_ ?_ ?_ ?_ ?_ ?_ ?_ ?_ ?_ ?_ ?_ ?_ ?_ ?_ ?_ ?_ l d <;> (intro r d hd; pointwise; blk_ext)
  · rw [outsAt0_B m c t h (by omega)]
    frame_out
    refine block_dq ?_ ?_ ?_ ?_ ?_ ?_ ?_ ?_ ?_ ?_ ?_ ?_ ?_ ?_ ?_ ?_ l d <;> (intro r d hd; pointwise; blk_ext)

/-- THE GRADIENT OF THE QUERIES. -/
theorem final_dq (c : Dev nD) : (dats m 0 c).arrAt 4 (cfgs 0).N
    = fun j => DQ (brow (aQ m c) (j 0)) (brow (aK m c)) (brow (aV m c)) (brow (aO m c) (j 0)) (j 1) := by
  refine (dats m 0 c).arrAt_eq_of_covers 4 _ (by decide +kernel) fun t _ y => ?_
  blk_simp
  rw [after0_4]
  refine (out_dq m c t y).trans ?_
  rw [rows_K, rows_V, row_Q m c t (y 0) ((win0_4.blk t).view.emb y 0) (by blk_simp [idx t]),
    row_O m c t (y 0) ((win0_4.blk t).view.emb y 0) (by blk_simp [idx t])]
  exact congrArg _ (Fin.ext (by blk_simp [idx t]))

/-- The part of the gradient of the keys that point `t` adds. -/
def partK (c : Dev nD) (t : Fin cfg0.N) (j : S256x512.Idx) : EReal :=
  ∑ r : Fin 512, DK (brow (bQ m c t) r) (brow (bK m c t)) (brow (bV m c t)) (brow (bO m c t) r) (j 0) (j 1)

/-- The first point leaves its own part. -/
theorem outK_A (c : Dev nD) (t : Fin cfg0.N) (h : t.val % 16 = 0) (j : S256x512.Idx) :
    (outsAt0 m c t.val t.isLt).2.1 j = 0 + partK m c t j := by
  have := lt16 t
  rw [outsAt0_A m c t h (by omega), zero_add]
  frame_out
  obtain ⟨l, d, rfl⟩ : ∃ (l : Fin 256) (d : Fin 512), j = ix2 l d := ⟨j 0, j 1, by blk_ext⟩
  refine block_dk ?_ ?_ ?_ ?_ ?_ ?_ ?_ ?_ ?_ ?_ ?_ ?_ ?_ ?_ ?_ ?_ l d <;> (intro r d hd; pointwise; blk_ext)

/-- A later point adds its part to what the point before left. -/
theorem outK_B (c : Dev nD) (t : Fin cfg0.N) (h : ¬t.val % 16 = 0) (j : S256x512.Idx) :
    (outsAt0 m c t.val t.isLt).2.1 j
      = (outsAt0 m c (t.val - 1) (Nat.lt_of_le_of_lt (Nat.sub_le _ _) t.isLt)).2.1 j + partK m c t j := by
  rw [outsAt0_B m c t h (by omega)]
  frame_out
  obtain ⟨l, d, rfl⟩ : ∃ (l : Fin 256) (d : Fin 512), j = ix2 l d := ⟨j 0, j 1, by blk_ext⟩
  pointwise [k0_pay6]
  refine congrArg _ ?_
  refine block_dk ?_ ?_ ?_ ?_ ?_ ?_ ?_ ?_ ?_ ?_ ?_ ?_ ?_ ?_ ?_ ?_ l d <;> (intro r d hd; pointwise; blk_ext)

/-- THE GRADIENT OF THE KEYS: the parts of all queries. -/
theorem final_dk (c : Dev nD) : (dats m 0 c).arrAt 5 (cfgs 0).N
    = fun j => ∑ R : Fin 8192, DK (brow (aQ m c) R) (brow (aK m c)) (brow (aV m c)) (brow (aO m c) R) (j 0) (j 1) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0) (partK m c)
    (fun t h j => outK_A m c t h j) (fun t h j => outK_B m c t h j) (le_of_eq N_0) t0_15 rfl j, zero_add]
  refine Fin.sum_mul_add_congr fun t r hl => ?_
  rw [rows_K, rows_V, row_Q m c t r ⟨_, hl⟩ rfl, row_O m c t r ⟨_, hl⟩ rfl]

/-- The part of the gradient of the values that point `t` adds. -/
def partV (c : Dev nD) (t : Fin cfg0.N) (j : S256x512.Idx) : EReal :=
  ∑ r : Fin 512, DV (brow (bQ m c t) r) (brow (bK m c t)) (brow (bO m c t) r) (j 0) (j 1)

/-- The first point leaves its own part. -/
theorem outV_A (c : Dev nD) (t : Fin cfg0.N) (h : t.val % 16 = 0) (j : S256x512.Idx) :
    (outsAt0 m c t.val t.isLt).2.2 j = 0 + partV m c t j := by
  have := lt16 t
  rw [outsAt0_A m c t h (by omega), zero_add]
  frame_out
  obtain ⟨l, d, rfl⟩ : ∃ (l : Fin 256) (d : Fin 512), j = ix2 l d := ⟨j 0, j 1, by blk_ext⟩
  refine block_dv ?_ ?_ ?_ ?_ ?_ ?_ ?_ ?_ ?_ ?_ ?_ ?_ l d <;> (intro r d hd; pointwise; blk_ext)

/-- A later point adds its part to what the point before left. -/
theorem outV_B (c : Dev nD) (t : Fin cfg0.N) (h : ¬t.val % 16 = 0) (j : S256x512.Idx) :
    (outsAt0 m c t.val t.isLt).2.2 j
      = (outsAt0 m c (t.val - 1) (Nat.lt_of_le_of_lt (Nat.sub_le _ _) t.isLt)).2.2 j + partV m c t j := by
  rw [outsAt0_B m c t h (by omega)]
  frame_out
  obtain ⟨l, d, rfl⟩ : ∃ (l : Fin 256) (d : Fin 512), j = ix2 l d := ⟨j 0, j 1, by blk_ext⟩
  pointwise [k0_pay7]
  refine congrArg _ ?_
  refine block_dv ?_ ?_ ?_ ?_ ?_ ?_ ?_ ?_ ?_ ?_ ?_ ?_ l d <;> (intro r d hd; pointwise; blk_ext)

/-- THE GRADIENT OF THE VALUES: the parts of all queries. -/
theorem final_dv (c : Dev nD) : (dats m 0 c).arrAt 6 (cfgs 0).N
    = fun j => ∑ R : Fin 8192, DV (brow (aQ m c) R) (brow (aK m c)) (brow (aO m c) R) (j 0) (j 1) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) (partV m c)
    (fun t h j => outV_A m c t h j) (fun t h j => outV_B m c t h j) (le_of_eq N_0) t0_15 rfl j, zero_add]
  refine Fin.sum_mul_add_congr fun t r hl => ?_
  rw [rows_K, row_Q m c t r ⟨_, hl⟩ rfl, row_O m c t r ⟨_, hl⟩ rfl]

end Cert.KernelIdeal.Value

end
-- ==== Proof.Gates.lean ====
/-
  Facts about the extended reals that the gradients of a gate and of a norm need.
-/
module

public import Idealize.ShloMosaic.PureOps.Ideal
public import Mathlib.Data.EReal.Inv
public import Mathlib.Analysis.Complex.Trigonometric
public import Mathlib.Tactic.Ring
public import Mathlib.Tactic.FieldSimp
public import Mathlib.Tactic.Linarith

@[expose] public section

noncomputable section

namespace Cert.Gates

open Idealize.ShloMosaic

/-! ## The logistic function by way of `tanh` -/

/-- Half of `tanh (x / 2)` and a half is the logistic function. -/
theorem half_tanh_real (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  rw [h1]
  have p := Real.exp_pos (1 / 2 * r)
  have q := Real.exp_pos (-(1 / 2 * r))
  generalize Real.exp (1 / 2 * r) = a at *
  generalize Real.exp (-(1 / 2 * r)) = b at *
  have hb : b = a⁻¹ := eq_inv_of_mul_eq_one_right h2
  subst hb
  field_simp
  ring

/-- The same among the extended reals, the infinities included. -/
theorem half_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, ← EReal.coe_one, ← EReal.coe_neg,
      ← EReal.coe_mul, ← EReal.coe_add]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, half_tanh_real]

/-! ## The gradient of `x · logistic x` -/

/-- A gate's gradient, factored or expanded: for a finite upstream gradient `d` and any gate `g`. -/
theorem silu_grad (d : ℝ) (g : EReal) :
    (d : EReal) * (Ideal.logistic g * (1 + g * (1 - Ideal.logistic g)))
      = d * Ideal.logistic g + g * d * (Ideal.logistic g * (1 - Ideal.logistic g)) := by
  induction g using EReal.rec with
  | bot => rw [Ideal.logistic_bot]; simp
  | top =>
    rw [Ideal.logistic_top]
    have h : (1 : EReal) - 1 = 0 := by rw [← EReal.coe_one, ← EReal.coe_sub]; simp
    rw [h]; simp
  | coe r =>
    rw [Ideal.logistic_coe]
    generalize (1 + Real.exp (-r))⁻¹ = s
    norm_cast
    ring

/-! ## The gradient of a root-mean-square norm -/

theorem coe_sum {n : ℕ} (g : Fin n → ℝ) : ((∑ j, g j : ℝ) : EReal) = ∑ j, (g j : EReal) := by
  have key : ∀ S : Finset (Fin n), ((∑ j ∈ S, g j : ℝ) : EReal) = ∑ j ∈ S, (g j : EReal) := by
    intro S
    induction S using Finset.induction_on with
    | empty => simp
    | insert a S ha ih => rw [Finset.sum_insert ha, Finset.sum_insert ha, EReal.coe_add, ih]
  exact key _

theorem div_coe (a b : ℝ) (h : b ≠ 0) : Ideal.div (a : EReal) (b : EReal) = ((a / b : ℝ) : EReal) := by
  rw [Ideal.div, if_neg (by exact_mod_cast h), ← EReal.coe_inv, ← EReal.coe_mul, div_eq_mul_inv]

/-- A row's mean square and `e`. -/
def meanSq {n : ℕ} (N e : ℝ) (x : Fin n → EReal) : EReal := Ideal.div (∑ k, x k * x k) N + e

/-- The gradient of a row `x` of a norm from the gradient `w` of the normed row: what `w` exceeds the row's share of it. -/
def normGrad {n : ℕ} (N e : ℝ) (x w : Fin n → EReal) (i : Fin n) : EReal :=
  Ideal.rsqrt (meanSq N e x) * (w i - x i * Ideal.rsqrt (meanSq N e x)
    * Ideal.div (∑ k, w k * (x k * Ideal.rsqrt (meanSq N e x))) N)

/-- The same gradient's second part, as the derivative of the reciprocal square root. -/
def normPart {n : ℕ} (N e : ℝ) (x w : Fin n → EReal) : EReal :=
  Ideal.div ((∑ k, x k * w k) * (((-1 / 2 : ℝ) : EReal) * Ideal.div (Ideal.rsqrt (meanSq N e x)) (meanSq N e x))) N

/-- The mean square of finite numbers is a positive number. -/
theorem meanSq_coe {n : ℕ} (N e : ℝ) (hN : 0 < N) (he : 0 < e) (a : Fin n → ℝ) :
    ∃ s : ℝ, 0 < s ∧ meanSq N e (fun k => (a k : EReal)) = s := by
  refine ⟨(∑ k, a k * a k) / N + e, ?_, ?_⟩
  · have : 0 ≤ ∑ k, a k * a k := Finset.sum_nonneg fun k _ => mul_self_nonneg _
    positivity
  · rw [meanSq, EReal.coe_add, ← div_coe _ _ hN.ne', coe_sum]
    simp only [EReal.coe_mul]

/-- A nonnegative factor goes into a sum, infinities included. -/
theorem mul_sum {n : ℕ} (q : ℝ) (hq : 0 ≤ q) (f : Fin n → EReal) : (q : EReal) * ∑ k, f k = ∑ k, (q : EReal) * f k := by
  have key : ∀ S : Finset (Fin n), (q : EReal) * ∑ k ∈ S, f k = ∑ k ∈ S, (q : EReal) * f k := by
    intro S
    induction S using Finset.induction_on with
    | empty => simp
    | insert a S ha ih => rw [Finset.sum_insert ha, Finset.sum_insert ha, EReal.left_distrib_of_nonneg_of_ne_top (by exact_mod_cast hq) (EReal.coe_ne_top q), ih]
  exact key _

/-- A row with an infinite entry has an infinite mean square. -/
theorem meanSq_top {n : ℕ} (N e : ℝ) (hN : 0 < N) (x : Fin n → EReal) (k : Fin n) (hk : ∀ r : ℝ, x k ≠ r) : meanSq N e x = ⊤ := by
  have hx (j : Fin n) : 0 ≤ x j * x j := by
    rcases le_total 0 (x j) with h | h
    · exact EReal.mul_nonneg h h
    · rw [← neg_mul_neg]
      have h' : 0 ≤ -x j := EReal.neg_nonneg.mpr h
      exact EReal.mul_nonneg h' h'
  have ht : x k * x k = ⊤ := by
    generalize x k = v at hk
    induction v using EReal.rec with
    | bot => simp
    | top => simp
    | coe y => exact absurd rfl (hk y)
  have hs : ∑ j, x j * x j = ⊤ := top_le_iff.mp (ht ▸ Finset.single_le_sum (f := fun j => x j * x j) (fun j _ => hx j) (Finset.mem_univ k))
  rw [meanSq, hs, Ideal.div, if_neg (by exact_mod_cast hN.ne'), ← EReal.coe_inv, EReal.top_mul_coe_of_pos (inv_pos.mpr hN)]
  exact EReal.top_add_coe e

/-- The two forms of the gradient agree, for infinite entries too. -/
theorem normGrad_eq {n : ℕ} (N e : ℝ) (hN : 0 < N) (he : 0 < e) (x w : Fin n → EReal) (i : Fin n) :
    normGrad N e x w i
      = w i * Ideal.rsqrt (meanSq N e x) + (x i * normPart N e x w + normPart N e x w * x i) := by
  by_cases hx : ∀ k, ∃ r : ℝ, x k = r
  · choose a ha using hx
    obtain rfl : x = fun k => (a k : EReal) := funext ha
    obtain ⟨s, hs, h⟩ := meanSq_coe N e hN he a
    have hq : Ideal.rsqrt (s : EReal) = (((Real.sqrt s)⁻¹ : ℝ) : EReal) := by
      rw [Ideal.rsqrt_coe, if_neg (not_lt.mpr hs.le), if_neg hs.ne']
    have hr : (Real.sqrt s)⁻¹ * (Real.sqrt s)⁻¹ = s⁻¹ := by
      rw [← mul_inv, Real.mul_self_sqrt hs.le]
    have hp : 0 < (Real.sqrt s)⁻¹ := inv_pos.mpr (Real.sqrt_pos.mpr hs)
    rw [normGrad, normPart, h, hq]
    generalize (Real.sqrt s)⁻¹ = q at *
    have e1 : (∑ k, w k * ((a k : EReal) * (q : EReal))) = (q : EReal) * ∑ k, (a k : EReal) * w k := by
      rw [mul_sum q hp.le]
      exact Finset.sum_congr rfl fun k _ => by rw [mul_comm, mul_comm (a k : EReal) (q : EReal), mul_assoc]
    rw [e1, div_coe _ _ hs.ne']
    generalize (∑ k, (a k : EReal) * w k) = t
    have hd (v : EReal) : Ideal.div v (N : EReal) = v * ((N⁻¹ : ℝ) : EReal) := by
      rw [Ideal.div, if_neg (by exact_mod_cast hN.ne'), ← EReal.coe_inv]
    have hn : 0 ≤ q * q * q * N⁻¹ * (1 / 2) := by positivity
    have hc (v : EReal) : ((q * q * q * N⁻¹ : ℝ) : EReal) * v
        = ((q * q * q * N⁻¹ * (1 / 2) : ℝ) : EReal) * v + ((q * q * q * N⁻¹ * (1 / 2) : ℝ) : EReal) * v := by
      rw [← EReal.right_distrib_of_nonneg (by exact_mod_cast hn) (by exact_mod_cast hn), ← EReal.coe_add, ← mul_add, add_halves, mul_one]
    have e2 : (a i : EReal) * (t * (((-1 / 2 : ℝ) : EReal) * ((q / s : ℝ) : EReal)) * ((N⁻¹ : ℝ) : EReal))
        = ((q * q * q * N⁻¹ * (1 / 2) : ℝ) : EReal) * -((a i : EReal) * t) := by
      have hm : (-1 / 2 * (q / s) * N⁻¹ : ℝ) = -(q * q * q * N⁻¹ * (1 / 2)) := by
        rw [div_eq_mul_inv q s, ← hr]; ring
      rw [← EReal.coe_mul, mul_assoc t, ← EReal.coe_mul, hm, ← mul_assoc, EReal.coe_neg, mul_comm, neg_mul, mul_neg]
    have e3 : (q : EReal) * -((a i : EReal) * (q : EReal) * ((q : EReal) * t * ((N⁻¹ : ℝ) : EReal)))
        = ((q * q * q * N⁻¹ : ℝ) : EReal) * -((a i : EReal) * t) := by
      rw [mul_neg, mul_neg]
      refine congrArg (- ·) ?_
      simp only [EReal.coe_mul]
      ac_rfl
    rw [hd, hd, sub_eq_add_neg, EReal.left_distrib_of_nonneg_of_ne_top (by exact_mod_cast hp.le) (EReal.coe_ne_top q), e3, mul_comm (t * _ * _) (a i : EReal), e2, hc, mul_comm (w i)]
  · obtain ⟨k, hk⟩ : ∃ k, ∀ r : ℝ, x k ≠ r := by
      by_contra hn
      exact hx fun k => by
        by_contra hk
        exact hn ⟨k, fun r e => hk ⟨r, e⟩⟩
    have h0 : Ideal.rsqrt (⊤ : EReal) = 0 := Ideal.rsqrt_top
    have h1 : Ideal.div (0 : EReal) ⊤ = 0 := by simp [Ideal.div]
    have h2 : Ideal.div (0 : EReal) (N : EReal) = 0 := by
      rw [Ideal.div, if_neg (by exact_mod_cast hN.ne'), zero_mul]
    rw [normGrad, normPart, meanSq_top N e hN x k hk, h0, h1]
    simp [h2]

end Cert.Gates

end
-- ==== Proof.ConvRef.lean ====
/-
  The short convolution and its gate, backwards: the reference's gradients.
-/
module

public import proofs.«01_k».proof.Defs
public import proofs.«01_k».proof.Proof.Gen.Reference37Ideal.Run
public import proofs.«01_k».proof.Proof.Gates
public import proofs.«01_k».proof.Proof.Gen.Pre_finite_conv
public import Idealize.ShloMosaic.Lib.Claim
public import Idealize.ShloMosaic.Lib.Quiescent
public import Idealize.ShloMosaic.Lib.KernelVsHost
public import Idealize.ShloMosaic.Lib.Pointwise

@[expose] public section

set_option maxRecDepth 16384

noncomputable section

/-! ## One column of the convolution -/

namespace Cert.Conv

open Idealize.ShloMosaic

theorem half : Ideal.ofBits .f32 0x3F000000#32 = ((1 / 2 : ℝ) : EReal) := by
  simp [Ideal.ofBits, Ideal.ieee]
  rw [← EReal.coe_mul]
  norm_num

theorem one : Ideal.ofBits .f32 0x3F800000#32 = 1 := by
  simp [Ideal.ofBits, Ideal.ieee]
  rw [← EReal.coe_one, ← EReal.coe_mul]
  norm_num

/-- A column with zeros past its end. -/
def past (f : Fin 8192 → EReal) (p : ℕ) : EReal := if h : p < 8192 then f ⟨p, h⟩ else 0

/-- A column with three zeros in front of it. -/
def back (f : Fin 8192 → EReal) (p : ℕ) : EReal := if p < 3 then 0 else past f (p - 3)

theorem past_mul (f : Fin 8192 → EReal) (a : EReal) (p : ℕ) : past (fun r => f r * a) p = past f p * a := by
  unfold past
  split_ifs with h
  · rfl
  · rw [zero_mul]

/-- The four taps and the bias at a row. -/
def taps (x : Fin 8192 → EReal) (w : Fin 4 → EReal) (b : EReal) (p : ℕ) : EReal :=
  w 3 * back x (p + 3) + w 2 * back x (p + 2) + w 1 * back x (p + 1) + w 0 * back x p + b

/-- The derivative of the gate. -/
def slope (v : EReal) : EReal := Ideal.logistic v * (1 + v * (1 - Ideal.logistic v))

/-- The gradient of the taps' sum. -/
def inner (d x : Fin 8192 → EReal) (w : Fin 4 → EReal) (b : EReal) (r : Fin 8192) : EReal := d r * slope (taps x w b r)

/-- The gradient of the column, and of a tap. -/
def dcol (d x : Fin 8192 → EReal) (w : Fin 4 → EReal) (b : EReal) (p : ℕ) : EReal :=
  w 3 * past (inner d x w b) p + w 2 * past (inner d x w b) (p + 1) + w 1 * past (inner d x w b) (p + 2) + w 0 * past (inner d x w b) (p + 3)
def dtap (d x : Fin 8192 → EReal) (w : Fin 4 → EReal) (b : EReal) (j : ℕ) : EReal := ∑ r : Fin 8192, inner d x w b r * back x (r + j)

end Cert.Conv

/-! ## The precondition -/

namespace Cert.Pre_finite_conv

open Idealize.ShloMosaic Cert.Pre_finite_conv

/-- An entry whose size is below +∞ is a real number. -/
theorem real_of_lt (x : EReal) (h : BitVec.ofBool (decide (max x (-x) < Ideal.ofBits .f32 0x7F800000#32)) = 1#1) :
    ∃ y : ℝ, x = y := by
  have e : Ideal.ofBits .f32 0x7F800000#32 = ⊤ := by simp [Ideal.ofBits, Ideal.ieee]
  rw [e] at h
  have h' : max x (-x) < ⊤ := by
    by_contra hn
    rw [decide_eq_false hn] at h
    exact absurd h (by decide)
  induction x using EReal.rec with
  | bot => simp at h'
  | top => simp at h'
  | coe y => exact ⟨y, rfl⟩

theorem real_d (D X : FVec Ideal S8192x3072 .bf16) (W : FVec Ideal S4x3072 .f32) (B : FVec Ideal S1x3072 .f32)
    (e : fn (F := Ideal) D X W B = fun _ => 1#1) (r : Fin 8192) (k : Fin 3072) : ∃ x : ℝ, D (ix2 r k) = x := by
  have e : fn (F := Ideal) D X W B (ix2 r k) = 1#1 := congrFun e _
  revert e
  pointwise [fn]
  exact real_of_lt _

end Cert.Pre_finite_conv

/-! ## The reference -/

namespace Cert.Reference37Ideal.Value

open Idealize.ShloMosaic Idealize.ShloMosaic.TcCoe Idealize.SL.Sem
open Cert.Reference37Ideal Cert.Reference37Ideal.Gen Cert.Gates Cert.Conv

/-- The rows with three rows of zeros in front of them. -/
def behind (x : FVec Ideal S8192x3072 .bf16) : FVec Ideal S8195x3072 .f32 :=
  concatenate S8195x3072 0 [⟨S3x3072, (broadcastInDim S3x3072 ![] bcast_S_S3x3072 (constant S_ .f32 0x00000000#32))⟩, ⟨S8192x3072, (extf .f32 x bitsLt_bf16_f32)⟩] concatenates_S3x3072_S8192x3072_S8195x3072_d0

theorem behind_at (x : FVec Ideal S8192x3072 .bf16) (p : Fin 8195) (k : Fin 3072) :
    behind x (ix2 p k) = back (fun r => x (ix2 r k)) p := by
  unfold back past
  pointwise [behind]
  split_ifs with h h'
  · first | rfl | exact Ideal.ofBits_zero_f32
  · have h3 : p.val - 3 < 8192 := by omega
    rw [dif_pos h3]
  · exact absurd rfl ‹_›

/-- The rows a tap reads, and the tap's weights. -/
def rows0 (x : FVec Ideal S8192x3072 .bf16) : FVec Ideal S8192x3072 .f32 := extractStridedSlice S8192x3072 ![0, 0] (behind x) slices_S8195x3072_S8192x3072_0_0
def tap0 (w : FVec Ideal S4x3072 .f32) : FVec Ideal S8192x3072 .f32 := broadcastInDim S8192x3072 ![0, 1] bcast_S1x3072_S8192x3072_0_1 (extractStridedSlice S1x3072 ![0, 0] w slices_S4x3072_S1x3072_0_0)
def rows1 (x : FVec Ideal S8192x3072 .bf16) : FVec Ideal S8192x3072 .f32 := extractStridedSlice S8192x3072 ![1, 0] (behind x) slices_S8195x3072_S8192x3072_1_0
def tap1 (w : FVec Ideal S4x3072 .f32) : FVec Ideal S8192x3072 .f32 := broadcastInDim S8192x3072 ![0, 1] bcast_S1x3072_S8192x3072_0_1 (extractStridedSlice S1x3072 ![1, 0] w slices_S4x3072_S1x3072_1_0)
def rows2 (x : FVec Ideal S8192x3072 .bf16) : FVec Ideal S8192x3072 .f32 := extractStridedSlice S8192x3072 ![2, 0] (behind x) slices_S8195x3072_S8192x3072_2_0
def tap2 (w : FVec Ideal S4x3072 .f32) : FVec Ideal S8192x3072 .f32 := broadcastInDim S8192x3072 ![0, 1] bcast_S1x3072_S8192x3072_0_1 (extractStridedSlice S1x3072 ![2, 0] w slices_S4x3072_S1x3072_2_0)
def rows3 (x : FVec Ideal S8192x3072 .bf16) : FVec Ideal S8192x3072 .f32 := extractStridedSlice S8192x3072 ![3, 0] (behind x) slices_S8195x3072_S8192x3072_3_0
def tap3 (w : FVec Ideal S4x3072 .f32) : FVec Ideal S8192x3072 .f32 := broadcastInDim S8192x3072 ![0, 1] bcast_S1x3072_S8192x3072_0_1 (extractStridedSlice S1x3072 ![3, 0] w slices_S4x3072_S1x3072_3_0)

theorem rows0_at (x : FVec Ideal S8192x3072 .bf16) (r : Fin 8192) (k : Fin 3072) :
    rows0 x (ix2 r k) = back (fun r => x (ix2 r k)) (r.val) := by
  refine Eq.trans ?_ (behind_at x ⟨r.val, by omega⟩ k)
  generalize hb : behind x = b
  rw [rows0, hb]
  clear hb
  pointwise []

theorem tap0_at (w : FVec Ideal S4x3072 .f32) (r : Fin 8192) (k : Fin 3072) : tap0 w (ix2 r k) = w (ix2 0 k) := by
  pointwise [tap0]

theorem rows1_at (x : FVec Ideal S8192x3072 .bf16) (r : Fin 8192) (k : Fin 3072) :
    rows1 x (ix2 r k) = back (fun r => x (ix2 r k)) (r.val + 1) := by
  refine Eq.trans ?_ (behind_at x ⟨r.val + 1, by omega⟩ k)
  generalize hb : behind x = b
  rw [rows1, hb]
  clear hb
  pointwise []
  exact congrArg (fun p => b (ix2 p k)) (Fin.ext (Nat.add_comm _ _))

theorem tap1_at (w : FVec Ideal S4x3072 .f32) (r : Fin 8192) (k : Fin 3072) : tap1 w (ix2 r k) = w (ix2 1 k) := by
  pointwise [tap1]

theorem rows2_at (x : FVec Ideal S8192x3072 .bf16) (r : Fin 8192) (k : Fin 3072) :
    rows2 x (ix2 r k) = back (fun r => x (ix2 r k)) (r.val + 2) := by
  refine Eq.trans ?_ (behind_at x ⟨r.val + 2, by omega⟩ k)
  generalize hb : behind x = b
  rw [rows2, hb]
  clear hb
  pointwise []
  exact congrArg (fun p => b (ix2 p k)) (Fin.ext (Nat.add_comm _ _))

theorem tap2_at (w : FVec Ideal S4x3072 .f32) (r : Fin 8192) (k : Fin 3072) : tap2 w (ix2 r k) = w (ix2 2 k) := by
  pointwise [tap2]

theorem rows3_at (x : FVec Ideal S8192x3072 .bf16) (r : Fin 8192) (k : Fin 3072) :
    rows3 x (ix2 r k) = back (fun r => x (ix2 r k)) (r.val + 3) := by
  refine Eq.trans ?_ (behind_at x ⟨r.val + 3, by omega⟩ k)
  generalize hb : behind x = b
  rw [rows3, hb]
  clear hb
  pointwise []
  exact congrArg (fun p => b (ix2 p k)) (Fin.ext (Nat.add_comm _ _))

theorem tap3_at (w : FVec Ideal S4x3072 .f32) (r : Fin 8192) (k : Fin 3072) : tap3 w (ix2 r k) = w (ix2 3 k) := by
  pointwise [tap3]

variable (d x : FVec Ideal S8192x3072 .bf16) (w : FVec Ideal S4x3072 .f32) (b : FVec Ideal S1x3072 .f32)

/-- The taps' sum, its logistic, and the gradient that goes into it. -/
def sums : FVec Ideal S8192x3072 .f32 :=
  addf (addf (addf (addf (addf (broadcastInDim S8192x3072 ![] bcast_S_S8192x3072 (constant S_ .f32 0x00000000#32)) (mulf (rows0 x) (tap0 w))) (mulf (rows1 x) (tap1 w))) (mulf (rows2 x) (tap2 w))) (mulf (rows3 x) (tap3 w))) (broadcastInDim S8192x3072 ![0, 1] bcast_S1x3072_S8192x3072_0_1 b)
def gate (v : FVec Ideal S8192x3072 .f32) : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf v)))
def into (v : FVec Ideal S8192x3072 .f32) : FVec Ideal S8192x3072 .f32 :=
  addf (mulf (extf .f32 d bitsLt_bf16_f32) (gate v)) (mulf (mulf v (extf .f32 d bitsLt_bf16_f32)) (mulf (gate v) (subf (broadcastInDim S8192x3072 ![] bcast_S_S8192x3072 (constant S_ .f32 0x3F800000#32)) (gate v))))

/-- A row of zeros but for the one tap's, and rows put further down. -/
def only0 (v : FVec Ideal S8192x3072 .f32) : FVec Ideal S4x3072 .f32 := pad S4x3072 ![0, 0] ![3, 0] ![0, 0] (shapeCast _ (Host.reduceAdd (mulf (rows0 x) v) (constant S_ .f32 0x00000000#32) reducesTo_S8192x3072_S3072_d0 h_S_) shapeCasts_S3072_S1x3072) (constant S_ .f32 0x00000000#32) pads_S1x3072_S4x3072_030_000 h_S_
def down0 (v : FVec Ideal S8192x3072 .f32) : FVec Ideal S8195x3072 .f32 := pad S8195x3072 ![0, 0] ![3, 0] ![0, 0] (mulf v (tap0 w)) (constant S_ .f32 0x00000000#32) pads_S8192x3072_S8195x3072_030_000 h_S_
def only1 (v : FVec Ideal S8192x3072 .f32) : FVec Ideal S4x3072 .f32 := pad S4x3072 ![1, 0] ![2, 0] ![0, 0] (shapeCast _ (Host.reduceAdd (mulf (rows1 x) v) (constant S_ .f32 0x00000000#32) reducesTo_S8192x3072_S3072_d0 h_S_) shapeCasts_S3072_S1x3072) (constant S_ .f32 0x00000000#32) pads_S1x3072_S4x3072_120_000 h_S_
def down1 (v : FVec Ideal S8192x3072 .f32) : FVec Ideal S8195x3072 .f32 := pad S8195x3072 ![1, 0] ![2, 0] ![0, 0] (mulf v (tap1 w)) (constant S_ .f32 0x00000000#32) pads_S8192x3072_S8195x3072_120_000 h_S_
def only2 (v : FVec Ideal S8192x3072 .f32) : FVec Ideal S4x3072 .f32 := pad S4x3072 ![2, 0] ![1, 0] ![0, 0] (shapeCast _ (Host.reduceAdd (mulf (rows2 x) v) (constant S_ .f32 0x00000000#32) reducesTo_S8192x3072_S3072_d0 h_S_) shapeCasts_S3072_S1x3072) (constant S_ .f32 0x00000000#32) pads_S1x3072_S4x3072_210_000 h_S_
def down2 (v : FVec Ideal S8192x3072 .f32) : FVec Ideal S8195x3072 .f32 := pad S8195x3072 ![2, 0] ![1, 0] ![0, 0] (mulf v (tap2 w)) (constant S_ .f32 0x00000000#32) pads_S8192x3072_S8195x3072_210_000 h_S_
def only3 (v : FVec Ideal S8192x3072 .f32) : FVec Ideal S4x3072 .f32 := pad S4x3072 ![3, 0] ![0, 0] ![0, 0] (shapeCast _ (Host.reduceAdd (mulf (rows3 x) v) (constant S_ .f32 0x00000000#32) reducesTo_S8192x3072_S3072_d0 h_S_) shapeCasts_S3072_S1x3072) (constant S_ .f32 0x00000000#32) pads_S1x3072_S4x3072_300_000 h_S_
def down3 (v : FVec Ideal S8192x3072 .f32) : FVec Ideal S8195x3072 .f32 := pad S8195x3072 ![3, 0] ![0, 0] ![0, 0] (mulf v (tap3 w)) (constant S_ .f32 0x00000000#32) pads_S8192x3072_S8195x3072_300_000 h_S_

/-- The three gradients. -/
def refX : FVec Ideal S8192x3072 .bf16 :=
  truncf .bf16 (extractStridedSlice S8192x3072 ![3, 0] (addf (addf (addf (down3 w (into d (sums x w b))) (down2 w (into d (sums x w b)))) (down1 w (into d (sums x w b)))) (down0 w (into d (sums x w b)))) slices_S8195x3072_S8192x3072_3_0) bitsLt_bf16_f32
def refW : FVec Ideal S4x3072 .f32 :=
  addf (addf (addf (only3 x (into d (sums x w b))) (only2 x (into d (sums x w b)))) (only1 x (into d (sums x w b)))) (only0 x (into d (sums x w b)))
def refB : FVec Ideal S1x3072 .f32 :=
  shapeCast _ (Host.reduceAdd (into d (sums x w b)) (constant S_ .f32 0x00000000#32) reducesTo_S8192x3072_S3072_d0 h_S_) shapeCasts_S3072_S1x3072

theorem gate_at (v : FVec Ideal S8192x3072 .f32) (j : S8192x3072.Idx) : gate v j = Ideal.logistic (v j) := by
  pointwise [gate, Ideal.logistic, one]

theorem sums_at (r : Fin 8192) (k : Fin 3072) :
    sums x w b (ix2 r k) = taps (fun r => x (ix2 r k)) (fun j => w (ix2 j k)) (b (ix2 0 k)) r := by
  have e : sums x w b (ix2 r k)
      = Ideal.ofBits .f32 0x00000000#32 + rows0 x (ix2 r k) * tap0 w (ix2 r k) + rows1 x (ix2 r k) * tap1 w (ix2 r k)
        + rows2 x (ix2 r k) * tap2 w (ix2 r k) + rows3 x (ix2 r k) * tap3 w (ix2 r k) + b (ix2 0 k) := by
    generalize h0 : rows0 x = a0
    generalize h1 : rows1 x = a1
    generalize h2 : rows2 x = a2
    generalize h3 : rows3 x = a3
    generalize g0 : tap0 w = c0
    generalize g1 : tap1 w = c1
    generalize g2 : tap2 w = c2
    generalize g3 : tap3 w = c3
    rw [sums, h0, h1, h2, h3, g0, g1, g2, g3]
    clear h0 h1 h2 h3 g0 g1 g2 g3
    pointwise []
  rw [e, rows0_at, rows1_at, rows2_at, rows3_at, tap0_at, tap1_at, tap2_at, tap3_at, Ideal.ofBits_zero_f32, zero_add, taps]
  simp only [mul_comm (w _ : EReal)]
  refine congrArg (· + (b (ix2 0 k) : EReal)) ?_
  ac_rfl

/-- For a finite upstream gradient. -/
theorem into_at (h : ∀ r k, ∃ a : ℝ, d (ix2 r k) = a) (r : Fin 8192) (k : Fin 3072) : into d (sums x w b) (ix2 r k)
    = Cert.Conv.inner (fun r => d (ix2 r k)) (fun r => x (ix2 r k)) (fun j => w (ix2 j k)) (b (ix2 0 k)) r := by
  obtain ⟨a, ha⟩ := h r k
  have e : into d (sums x w b) (ix2 r k)
      = (d (ix2 r k) : EReal) * gate (sums x w b) (ix2 r k)
        + sums x w b (ix2 r k) * d (ix2 r k) * (gate (sums x w b) (ix2 r k) * (Ideal.ofBits .f32 0x3F800000#32 - gate (sums x w b) (ix2 r k))) := rfl
  rw [e, gate_at, one, sums_at, Cert.Conv.inner, Cert.Conv.slope]
  simp only [ha]
  exact (silu_grad a _).symm

theorem down0_at (v : FVec Ideal S8192x3072 .f32) (r : Fin 8192) (k : Fin 3072) :
    down0 w v (ix2 ⟨r.val + 3, by omega⟩ k) = past (fun r => v (ix2 r k)) (r.val + 3) * (w (ix2 0 k) : EReal) := by
  rw [← past_mul]
  have e (r : Fin 8192) : (v (ix2 r k) : EReal) * w (ix2 0 k) = mulf v (tap0 w) (ix2 r k) :=
    congrArg (fun a : EReal => (v (ix2 r k) : EReal) * a) (tap0_at w r k).symm
  simp only [e]
  generalize hu : mulf v (tap0 w) = u
  rw [down0, hu]
  unfold past
  split_ifs with h
  · refine pad_apply_of_inside _ _ _ u _ _ _ _ (ix2 ⟨r.val + 3, h⟩ k) fun a => ?_
    fin_cases a
    · show r.val + 3 = 0 + (r.val + 3) * (0 + 1)
      omega
    · show k.val = 0 + k.val * (0 + 1)
      omega
  · refine (pad_apply_of_not_inside _ _ _ u _ _ _ _ 0 fun hn => ?_).trans Ideal.ofBits_zero_f32
    have h3 : (r.val + 3 - 0) / (0 + 1) < 8192 := hn.2.2
    omega

theorem only0_at (v : FVec Ideal S8192x3072 .f32) (i : Fin 4) (k : Fin 3072) :
    only0 x v (ix2 i k) = if (i : ℕ) = 0 then ∑ r : Fin 8192, (v (ix2 r k) : EReal) * back (fun r => x (ix2 r k)) (r.val + 0) else 0 := by
  have e (r : Fin 8192) : (v (ix2 r k) : EReal) * back (fun r => x (ix2 r k)) (r.val + 0) = mulf (rows0 x) v (ix2 r k) :=
    (mul_comm _ _).trans (congrArg (fun a : EReal => a * (v (ix2 r k) : EReal)) (rows0_at x r k).symm)
  simp only [e]
  generalize hu : mulf (rows0 x) v = u
  rw [only0, hu]
  clear hu e
  split_ifs with h
  · refine (pad_apply_of_inside _ _ _ _ _ _ _ _ (ix2 0 k) fun a => ?_).trans ?_
    · fin_cases a
      · show i.val = 0 + 0 * (0 + 1)
        omega
      · show k.val = 0 + k.val * (0 + 1)
        omega
    · pointwise []
  · refine (pad_apply_of_not_inside _ _ _ _ _ _ _ _ 0 fun hn => ?_).trans Ideal.ofBits_zero_f32
    have h1 : 0 ≤ i.val := hn.1
    have h3 : (i.val - 0) / (0 + 1) < 1 := hn.2.2
    omega

theorem down1_at (v : FVec Ideal S8192x3072 .f32) (r : Fin 8192) (k : Fin 3072) :
    down1 w v (ix2 ⟨r.val + 3, by omega⟩ k) = past (fun r => v (ix2 r k)) (r.val + 2) * (w (ix2 1 k) : EReal) := by
  rw [← past_mul]
  have e (r : Fin 8192) : (v (ix2 r k) : EReal) * w (ix2 1 k) = mulf v (tap1 w) (ix2 r k) :=
    congrArg (fun a : EReal => (v (ix2 r k) : EReal) * a) (tap1_at w r k).symm
  simp only [e]
  generalize hu : mulf v (tap1 w) = u
  rw [down1, hu]
  unfold past
  split_ifs with h
  · refine pad_apply_of_inside _ _ _ u _ _ _ _ (ix2 ⟨r.val + 2, h⟩ k) fun a => ?_
    fin_cases a
    · show r.val + 3 = 1 + (r.val + 2) * (0 + 1)
      omega
    · show k.val = 0 + k.val * (0 + 1)
      omega
  · refine (pad_apply_of_not_inside _ _ _ u _ _ _ _ 0 fun hn => ?_).trans Ideal.ofBits_zero_f32
    have h3 : (r.val + 3 - 1) / (0 + 1) < 8192 := hn.2.2
    omega

theorem only1_at (v : FVec Ideal S8192x3072 .f32) (i : Fin 4) (k : Fin 3072) :
    only1 x v (ix2 i k) = if (i : ℕ) = 1 then ∑ r : Fin 8192, (v (ix2 r k) : EReal) * back (fun r => x (ix2 r k)) (r.val + 1) else 0 := by
  have e (r : Fin 8192) : (v (ix2 r k) : EReal) * back (fun r => x (ix2 r k)) (r.val + 1) = mulf (rows1 x) v (ix2 r k) :=
    (mul_comm _ _).trans (congrArg (fun a : EReal => a * (v (ix2 r k) : EReal)) (rows1_at x r k).symm)
  simp only [e]
  generalize hu : mulf (rows1 x) v = u
  rw [only1, hu]
  clear hu e
  split_ifs with h
  · refine (pad_apply_of_inside _ _ _ _ _ _ _ _ (ix2 0 k) fun a => ?_).trans ?_
    · fin_cases a
      · show i.val = 1 + 0 * (0 + 1)
        omega
      · show k.val = 0 + k.val * (0 + 1)
        omega
    · pointwise []
  · refine (pad_apply_of_not_inside _ _ _ _ _ _ _ _ 0 fun hn => ?_).trans Ideal.ofBits_zero_f32
    have h1 : 1 ≤ i.val := hn.1
    have h3 : (i.val - 1) / (0 + 1) < 1 := hn.2.2
    omega

theorem down2_at (v : FVec Ideal S8192x3072 .f32) (r : Fin 8192) (k : Fin 3072) :
    down2 w v (ix2 ⟨r.val + 3, by omega⟩ k) = past (fun r => v (ix2 r k)) (r.val + 1) * (w (ix2 2 k) : EReal) := by
  rw [← past_mul]
  have e (r : Fin 8192) : (v (ix2 r k) : EReal) * w (ix2 2 k) = mulf v (tap2 w) (ix2 r k) :=
    congrArg (fun a : EReal => (v (ix2 r k) : EReal) * a) (tap2_at w r k).symm
  simp only [e]
  generalize hu : mulf v (tap2 w) = u
  rw [down2, hu]
  unfold past
  split_ifs with h
  · refine pad_apply_of_inside _ _ _ u _ _ _ _ (ix2 ⟨r.val + 1, h⟩ k) fun a => ?_
    fin_cases a
    · show r.val + 3 = 2 + (r.val + 1) * (0 + 1)
      omega
    · show k.val = 0 + k.val * (0 + 1)
      omega
  · refine (pad_apply_of_not_inside _ _ _ u _ _ _ _ 0 fun hn => ?_).trans Ideal.ofBits_zero_f32
    have h3 : (r.val + 3 - 2) / (0 + 1) < 8192 := hn.2.2
    omega

theorem only2_at (v : FVec Ideal S8192x3072 .f32) (i : Fin 4) (k : Fin 3072) :
    only2 x v (ix2 i k) = if (i : ℕ) = 2 then ∑ r : Fin 8192, (v (ix2 r k) : EReal) * back (fun r => x (ix2 r k)) (r.val + 2) else 0 := by
  have e (r : Fin 8192) : (v (ix2 r k) : EReal) * back (fun r => x (ix2 r k)) (r.val + 2) = mulf (rows2 x) v (ix2 r k) :=
    (mul_comm _ _).trans (congrArg (fun a : EReal => a * (v (ix2 r k) : EReal)) (rows2_at x r k).symm)
  simp only [e]
  generalize hu : mulf (rows2 x) v = u
  rw [only2, hu]
  clear hu e
  split_ifs with h
  · refine (pad_apply_of_inside _ _ _ _ _ _ _ _ (ix2 0 k) fun a => ?_).trans ?_
    · fin_cases a
      · show i.val = 2 + 0 * (0 + 1)
        omega
      · show k.val = 0 + k.val * (0 + 1)
        omega
    · pointwise []
  · refine (pad_apply_of_not_inside _ _ _ _ _ _ _ _ 0 fun hn => ?_).trans Ideal.ofBits_zero_f32
    have h1 : 2 ≤ i.val := hn.1
    have h3 : (i.val - 2) / (0 + 1) < 1 := hn.2.2
    omega

theorem down3_at (v : FVec Ideal S8192x3072 .f32) (r : Fin 8192) (k : Fin 3072) :
    down3 w v (ix2 ⟨r.val + 3, by omega⟩ k) = past (fun r => v (ix2 r k)) (r.val) * (w (ix2 3 k) : EReal) := by
  rw [← past_mul]
  have e (r : Fin 8192) : (v (ix2 r k) : EReal) * w (ix2 3 k) = mulf v (tap3 w) (ix2 r k) :=
    congrArg (fun a : EReal => (v (ix2 r k) : EReal) * a) (tap3_at w r k).symm
  simp only [e]
  generalize hu : mulf v (tap3 w) = u
  rw [down3, hu]
  unfold past
  split_ifs with h
  · refine pad_apply_of_inside _ _ _ u _ _ _ _ (ix2 ⟨r.val, h⟩ k) fun a => ?_
    fin_cases a
    · show r.val + 3 = 3 + (r.val) * (0 + 1)
      omega
    · show k.val = 0 + k.val * (0 + 1)
      omega
  · exact absurd r.isLt h

theorem only3_at (v : FVec Ideal S8192x3072 .f32) (i : Fin 4) (k : Fin 3072) :
    only3 x v (ix2 i k) = if (i : ℕ) = 3 then ∑ r : Fin 8192, (v (ix2 r k) : EReal) * back (fun r => x (ix2 r k)) (r.val + 3) else 0 := by
  have e (r : Fin 8192) : (v (ix2 r k) : EReal) * back (fun r => x (ix2 r k)) (r.val + 3) = mulf (rows3 x) v (ix2 r k) :=
    (mul_comm _ _).trans (congrArg (fun a : EReal => a * (v (ix2 r k) : EReal)) (rows3_at x r k).symm)
  simp only [e]
  generalize hu : mulf (rows3 x) v = u
  rw [only3, hu]
  clear hu e
  split_ifs with h
  · refine (pad_apply_of_inside _ _ _ _ _ _ _ _ (ix2 0 k) fun a => ?_).trans ?_
    · fin_cases a
      · show i.val = 3 + 0 * (0 + 1)
        omega
      · show k.val = 0 + k.val * (0 + 1)
        omega
    · pointwise []
  · refine (pad_apply_of_not_inside _ _ _ _ _ _ _ _ 0 fun hn => ?_).trans Ideal.ofBits_zero_f32
    have h1 : 3 ≤ i.val := hn.1
    have h3 : (i.val - 3) / (0 + 1) < 1 := hn.2.2
    omega

theorem refX_at (h : ∀ r k, ∃ a : ℝ, d (ix2 r k) = a) (r : Fin 8192) (k : Fin 3072) : refX d x w b (ix2 r k)
    = dcol (fun r => d (ix2 r k)) (fun r => x (ix2 r k)) (fun j => w (ix2 j k)) (b (ix2 0 k)) r := by
  have e : refX d x w b (ix2 r k)
      = down3 w (into d (sums x w b)) (ix2 ⟨r.val + 3, by omega⟩ k) + down2 w (into d (sums x w b)) (ix2 ⟨r.val + 3, by omega⟩ k)
        + down1 w (into d (sums x w b)) (ix2 ⟨r.val + 3, by omega⟩ k) + down0 w (into d (sums x w b)) (ix2 ⟨r.val + 3, by omega⟩ k) := by
    generalize h0 : down0 w (into d (sums x w b)) = a0
    generalize h1 : down1 w (into d (sums x w b)) = a1
    generalize h2 : down2 w (into d (sums x w b)) = a2
    generalize h3 : down3 w (into d (sums x w b)) = a3
    rw [refX, h0, h1, h2, h3]
    clear h0 h1 h2 h3
    pointwise []
    simp only [Nat.add_comm]
  rw [e, down0_at, down1_at, down2_at, down3_at, dcol]
  simp only [into_at d x w b h, mul_comm (w _ : EReal)]

theorem refW_at (h : ∀ r k, ∃ a : ℝ, d (ix2 r k) = a) (j : Fin 4) (k : Fin 3072) : refW d x w b (ix2 j k)
    = dtap (fun r => d (ix2 r k)) (fun r => x (ix2 r k)) (fun j => w (ix2 j k)) (b (ix2 0 k)) j := by
  have e : refW d x w b (ix2 j k) = only3 x (into d (sums x w b)) (ix2 j k) + only2 x (into d (sums x w b)) (ix2 j k)
      + only1 x (into d (sums x w b)) (ix2 j k) + only0 x (into d (sums x w b)) (ix2 j k) := rfl
  rw [e, only0_at, only1_at, only2_at, only3_at, dtap]
  simp only [into_at d x w b h]
  fin_cases j <;> simp

theorem refB_at (h : ∀ r k, ∃ a : ℝ, d (ix2 r k) = a) (k : Fin 3072) : refB d x w b (ix2 0 k)
    = ∑ r : Fin 8192, Cert.Conv.inner (fun r => d (ix2 r k)) (fun r => x (ix2 r k)) (fun j => w (ix2 j k)) (b (ix2 0 k)) r := by
  simp only [← into_at d x w b h]
  generalize hu : into d (sums x w b) = u
  rw [refB, hu]
  clear hu
  pointwise []

set_option maxHeartbeats 4000000 in
/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v68) = refX (m (c.tc.loc main_arg0)) (m (c.tc.loc main_arg1)) (m (c.tc.loc main_arg2)) (m (c.tc.loc main_arg3))
      ∧ r.2.mem (c.tc.loc main_v63) = refW (m (c.tc.loc main_arg0)) (m (c.tc.loc main_arg1)) (m (c.tc.loc main_arg2)) (m (c.tc.loc main_arg3))
      ∧ r.2.mem (c.tc.loc main_v31) = refB (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans rfl, (h c).2.1.trans rfl, (h c).2.2.1.trans rfl, (h c).2.2.2⟩)
    (run (F := Ideal) m ρ)

/-- The reference runs and leaves its arguments. -/
theorem frame_ref : Cert.quiescent_Reference37Ideal := fun m ρ _ =>
  (θ_run defs _ _).mono (fun r h => ⟨fun c => (h c).2.2.2, sem_eq_zero_of_no_sems (by decide) r.2⟩)
    (run (F := Ideal) m ρ)

end Cert.Reference37Ideal.Value

end
-- ==== Proof.ConvGrad.lean ====
/-
  The short convolution and its gate, backwards: the kernel's gradients are the reference's.
-/
module

public import proofs.«01_k».proof.Defs
public import proofs.«01_k».proof.Proof.Gen.Kernel37Ideal.Value
public import proofs.«01_k».proof.Proof.ConvRef
public import Idealize.ShloMosaic.Lib.Quiescent
public import Idealize.ShloMosaic.Lib.Pipeline.ValueKit
public import Idealize.ShloMosaic.Lib.Pipeline.ReadBack
public import Idealize.ShloMosaic.Lib.Claim
public import Idealize.ShloMosaic.Lib.KernelVsHost
public import Idealize.ShloMosaic.Lib.Pointwise

@[expose] public section

set_option maxRecDepth 16384

noncomputable section

namespace Cert.Conv

open Idealize.ShloMosaic

theorem past_row (f : Fin 8192 → EReal) (R : Fin 8192) (p : ℕ) (h : p = R) : past f p = f R := by
  subst h
  exact dif_pos R.isLt

theorem past_end (f : Fin 8192 → EReal) (p : ℕ) (h : 8192 ≤ p) : past f p = 0 := dif_neg (by omega)

theorem back_front (f : Fin 8192 → EReal) (p : ℕ) (h : p < 3) : back f p = 0 := if_pos h

theorem back_row (f : Fin 8192 → EReal) (R : Fin 8192) (p : ℕ) (h : p = R + 3) : back f p = f R :=
  (if_neg (by omega)).trans (past_row f R _ (by omega))

theorem back_end (f : Fin 8192 → EReal) (p : ℕ) (h : 8195 ≤ p) : back f p = 0 :=
  (if_neg (by omega)).trans (past_end f _ (by omega))

end Cert.Conv

namespace Cert.Kernel37Ideal.Value

open Idealize.ShloMosaic Idealize.ShloMosaic.TcCoe Idealize.SL.Sem
open Idealize.ShloMosaic.Pipeline (Dat)
open Cert.Kernel37Ideal Cert.Kernel37Ideal.Gen Cert.Gates Cert.Conv
open Cert.Reference37Ideal.Value (refX refW refB refX_at refW_at refB_at)

/-! ## What the kernel's parts are at an entry -/

section Payloads

theorem cat_at (a : FVec Ideal S16x768 .f32) (b : FVec Ideal S256x768 .f32) (d : FVec Ideal S16x768 .f32) (e : Fin 288) (k : Fin 768) :
    concatenate S288x768 0 [⟨S16x768, a⟩, ⟨S256x768, b⟩, ⟨S16x768, d⟩] concatenates_S16x768_S256x768_S16x768_S288x768_d0 (ix2 e k)
      = if h : e.val < 16 then a (ix2 ⟨e.val, h⟩ k)
        else if h' : e.val < 272 then b (ix2 ⟨e.val - 16, by omega⟩ k) else d (ix2 ⟨e.val - 272, by omega⟩ k) := by
  split_ifs with h h'
  · refine concatenate_apply_piece (t := S288x768) 0 [⟨S16x768, a⟩, ⟨S256x768, b⟩, ⟨S16x768, d⟩] _ _ 0 (by simp) S16x768 a rfl rfl 0 rfl (ix2 ⟨e.val, h⟩ k) (fun b hb => ?_) ?_
    · fin_cases b
      · exact absurd rfl hb
      · rfl
    · show 0 + e.val = e.val
      omega
  · refine concatenate_apply_piece (t := S288x768) 0 [⟨S16x768, a⟩, ⟨S256x768, b⟩, ⟨S16x768, d⟩] _ _ 1 (by simp) S256x768 b rfl rfl 16 rfl (ix2 ⟨e.val - 16, by omega⟩ k) (fun b hb => ?_) ?_
    · fin_cases b
      · exact absurd rfl hb
      · rfl
    · show 16 + (e.val - 16) = e.val
      omega
  · refine concatenate_apply_piece (t := S288x768) 0 [⟨S16x768, a⟩, ⟨S256x768, b⟩, ⟨S16x768, d⟩] _ _ 2 (by simp) S16x768 d rfl rfl 272 rfl (ix2 ⟨e.val - 272, by omega⟩ k) (fun b hb => ?_) ?_
    · fin_cases b
      · exact absurd rfl hb
      · rfl
    · show 272 + (e.val - 272) = e.val
      omega

theorem cat4_0 (a b d f : FVec Ideal S1x768 .f32) (k : Fin 768) :
    concatenate S4x768 0 [⟨S1x768, a⟩, ⟨S1x768, b⟩, ⟨S1x768, d⟩, ⟨S1x768, f⟩] concatenates_S1x768_S1x768_S1x768_S1x768_S4x768_d0 (ix2 0 k) = a (ix2 0 k) := by
  refine concatenate_apply_piece (t := S4x768) 0 [⟨S1x768, a⟩, ⟨S1x768, b⟩, ⟨S1x768, d⟩, ⟨S1x768, f⟩] _ (ix2 0 k) 0 (by simp) S1x768 a rfl rfl 0 rfl (ix2 0 k) (fun b hb => ?_) rfl
  fin_cases b
  · exact absurd rfl hb
  · rfl

theorem cat4_1 (a b d f : FVec Ideal S1x768 .f32) (k : Fin 768) :
    concatenate S4x768 0 [⟨S1x768, a⟩, ⟨S1x768, b⟩, ⟨S1x768, d⟩, ⟨S1x768, f⟩] concatenates_S1x768_S1x768_S1x768_S1x768_S4x768_d0 (ix2 1 k) = b (ix2 0 k) := by
  refine concatenate_apply_piece (t := S4x768) 0 [⟨S1x768, a⟩, ⟨S1x768, b⟩, ⟨S1x768, d⟩, ⟨S1x768, f⟩] _ (ix2 1 k) 1 (by simp) S1x768 b rfl rfl 1 rfl (ix2 0 k) (fun b hb => ?_) rfl
  fin_cases b
  · exact absurd rfl hb
  · rfl

theorem cat4_2 (a b d f : FVec Ideal S1x768 .f32) (k : Fin 768) :
    concatenate S4x768 0 [⟨S1x768, a⟩, ⟨S1x768, b⟩, ⟨S1x768, d⟩, ⟨S1x768, f⟩] concatenates_S1x768_S1x768_S1x768_S1x768_S4x768_d0 (ix2 2 k) = d (ix2 0 k) := by
  refine concatenate_apply_piece (t := S4x768) 0 [⟨S1x768, a⟩, ⟨S1x768, b⟩, ⟨S1x768, d⟩, ⟨S1x768, f⟩] _ (ix2 2 k) 2 (by simp) S1x768 d rfl rfl 2 rfl (ix2 0 k) (fun b hb => ?_) rfl
  fin_cases b
  · exact absurd rfl hb
  · rfl

theorem cat4_3 (a b d f : FVec Ideal S1x768 .f32) (k : Fin 768) :
    concatenate S4x768 0 [⟨S1x768, a⟩, ⟨S1x768, b⟩, ⟨S1x768, d⟩, ⟨S1x768, f⟩] concatenates_S1x768_S1x768_S1x768_S1x768_S4x768_d0 (ix2 3 k) = f (ix2 0 k) := by
  refine concatenate_apply_piece (t := S4x768) 0 [⟨S1x768, a⟩, ⟨S1x768, b⟩, ⟨S1x768, d⟩, ⟨S1x768, f⟩] _ (ix2 3 k) 3 (by simp) S1x768 f rfl rfl 3 rfl (ix2 0 k) (fun b hb => ?_) rfl
  fin_cases b
  · exact absurd rfl hb
  · rfl

theorem rot_at (s : BitVec 32) (n : ℕ) (hs : s.toNat = n) (x : FVec Ideal S288x768 .f32) (e e' : Fin 288) (k : Fin 768)
    (h : e'.val = (e.val + 288 - n % 288) % 288) : dynamicRotate 0 s none x rotates_S288x768_d0 (ix2 e k) = x (ix2 e' k) := by
  refine dynamicRotate_apply _ _ _ _ _ _ fun b => ?_
  fin_cases b
  · refine Eq.trans ?_ (if_pos rfl).symm
    show e'.val = (e.val + 288 - s.toNat % 288) % 288
    rw [hs, h]
  · exact (if_neg (by decide)).symm

theorem pay9_at (i : grid0.Coords) (w : FVec Ideal S4x768 .f32) (p q : FVec Ideal S16x768 .bf16) (x : FVec Ideal S256x768 .bf16)
    (b : FVec Ideal S1x768 .f32) (e : Fin 288) (he : 3 ≤ e.val) (k : Fin 768) :
    k0_pay9 (F := Ideal) i w p x q b (ix2 e k)
      = w (ix2 3 k) * k0_pay5 (F := Ideal) i p x q (ix2 e k) + w (ix2 2 k) * k0_pay5 (F := Ideal) i p x q (ix2 ⟨e.val - 1, by omega⟩ k)
        + w (ix2 1 k) * k0_pay5 (F := Ideal) i p x q (ix2 ⟨e.val - 2, by omega⟩ k)
        + w (ix2 0 k) * k0_pay5 (F := Ideal) i p x q (ix2 ⟨e.val - 3, by omega⟩ k) + b (ix2 0 k) := by
  have h6 : k0_pay6 (F := Ideal) i p x q (ix2 e k) = k0_pay5 (F := Ideal) i p x q (ix2 ⟨e.val - 1, by omega⟩ k) :=
    rot_at 1#32 1 rfl (k0_pay5 (F := Ideal) i p x q) e ⟨e.val - 1, by omega⟩ k (by show e.val - 1 = _; omega)
  have h7 : k0_pay7 (F := Ideal) i p x q (ix2 e k) = k0_pay5 (F := Ideal) i p x q (ix2 ⟨e.val - 2, by omega⟩ k) :=
    rot_at 2#32 2 rfl (k0_pay5 (F := Ideal) i p x q) e ⟨e.val - 2, by omega⟩ k (by show e.val - 2 = _; omega)
  have h8 : k0_pay8 (F := Ideal) i p x q (ix2 e k) = k0_pay5 (F := Ideal) i p x q (ix2 ⟨e.val - 3, by omega⟩ k) :=
    rot_at 3#32 3 rfl (k0_pay5 (F := Ideal) i p x q) e ⟨e.val - 3, by omega⟩ k (by show e.val - 3 = _; omega)
  rw [← h6, ← h7, ← h8, k0_pay9]
  generalize k0_pay5 (F := Ideal) i p x q = y5
  generalize k0_pay6 (F := Ideal) i p x q = y6
  generalize k0_pay7 (F := Ideal) i p x q = y7
  generalize k0_pay8 (F := Ideal) i p x q = y8
  clear h6 h7 h8
  pointwise []

theorem pay12_at (v : BitVec 1) (s : FVec Ideal S288x768 .f32) (o : FVec Ideal S16x768 .f32) (d : FVec Ideal S256x768 .f32)
    (q : FVec Ideal S16x768 .bf16) (e : Fin 288) (he : 16 ≤ e.val) (k : Fin 768) :
    k0_pay12 (F := Ideal) v s o d q (ix2 e k)
      = (if h' : e.val < 272 then (d (ix2 ⟨e.val - 16, by omega⟩ k) : EReal)
          else if v = 1#1 then 0 else q (ix2 ⟨e.val - 272, by omega⟩ k)) * slope (s (ix2 e k)) := by
  have h0 : k0_pay12 (F := Ideal) v s o d q (ix2 e k)
      = concatenate S288x768 0 [⟨S16x768, o⟩, ⟨S256x768, d⟩, ⟨S16x768, Scalar.select v (broadcast S16x768 (Scalar.ofBits (F := Ideal) .f32 0x00000000#32)) (extf .f32 q bitsLt_bf16_f32)⟩] concatenates_S16x768_S256x768_S16x768_S288x768_d0 (ix2 e k)
        * ((Ideal.ofBits .f32 0x3F000000#32 * Ideal.tanh (Ideal.ofBits .f32 0x3F000000#32 * s (ix2 e k)) + Ideal.ofBits .f32 0x3F000000#32)
          * (Ideal.ofBits .f32 0x3F800000#32 + s (ix2 e k) * (Ideal.ofBits .f32 0x3F800000#32
            - (Ideal.ofBits .f32 0x3F000000#32 * Ideal.tanh (Ideal.ofBits .f32 0x3F000000#32 * s (ix2 e k)) + Ideal.ofBits .f32 0x3F000000#32)))) := rfl
  rw [h0, cat_at, dif_neg (by omega), half, one, half_tanh, Cert.Conv.slope]
  refine congrArg (· * (_ : EReal)) ?_
  split_ifs with h1 h2
  · rfl
  · rw [h2]
    exact Ideal.ofBits_zero_f32
  · rw [show Scalar.select v (broadcast S16x768 (Scalar.ofBits (F := Ideal) .f32 0x00000000#32)) (extf .f32 q bitsLt_bf16_f32) = extf .f32 q bitsLt_bf16_f32 from if_neg h2]
    rfl

theorem pay13_at (v : BitVec 1) (w : FVec Ideal S4x768 .f32) (s : FVec Ideal S288x768 .f32) (o : FVec Ideal S16x768 .f32) (d : FVec Ideal S256x768 .f32)
    (q : FVec Ideal S16x768 .bf16) (r : Fin 256) (k : Fin 768) :
    k0_pay13 (F := Ideal) v w s o d q (ix2 r k)
      = w (ix2 3 k) * k0_pay12 (F := Ideal) v s o d q (ix2 ⟨16 + r.val, by omega⟩ k)
        + w (ix2 2 k) * k0_pay12 (F := Ideal) v s o d q (ix2 ⟨17 + r.val, by omega⟩ k)
        + w (ix2 1 k) * k0_pay12 (F := Ideal) v s o d q (ix2 ⟨18 + r.val, by omega⟩ k)
        + w (ix2 0 k) * k0_pay12 (F := Ideal) v s o d q (ix2 ⟨19 + r.val, by omega⟩ k) := by
  rw [k0_pay13]
  generalize k0_pay12 (F := Ideal) v s o d q = y
  rw [← rot_at 287#32 287 rfl y ⟨16 + r.val, by omega⟩ ⟨17 + r.val, by omega⟩ k (by show 17 + r.val = (16 + r.val + 288 - 287 % 288) % 288; omega),
    ← rot_at 286#32 286 rfl y ⟨16 + r.val, by omega⟩ ⟨18 + r.val, by omega⟩ k (by show 18 + r.val = (16 + r.val + 288 - 286 % 288) % 288; omega),
    ← rot_at 285#32 285 rfl y ⟨16 + r.val, by omega⟩ ⟨19 + r.val, by omega⟩ k (by show 19 + r.val = (16 + r.val + 288 - 285 % 288) % 288; omega)]
  generalize dynamicRotate 0 287#32 none y rotates_S288x768_d0 = y1
  generalize dynamicRotate 0 286#32 none y rotates_S288x768_d0 = y2
  generalize dynamicRotate 0 285#32 none y rotates_S288x768_d0 = y3
  pointwise []

theorem pay14_at (v : BitVec 1) (s : FVec Ideal S288x768 .f32) (o : FVec Ideal S16x768 .f32) (d : FVec Ideal S256x768 .f32)
    (q : FVec Ideal S16x768 .bf16) (r : Fin 256) (k : Fin 768) :
    k0_pay14 (F := Ideal) v s o d q (ix2 r k) = k0_pay12 (F := Ideal) v s o d q (ix2 ⟨16 + r.val, by omega⟩ k) := by
  rw [k0_pay14]
  generalize k0_pay12 (F := Ideal) v s o d q = y
  pointwise []

theorem pay15_at (v : BitVec 1) (x s : FVec Ideal S288x768 .f32) (o : FVec Ideal S16x768 .f32) (d : FVec Ideal S256x768 .f32)
    (q : FVec Ideal S16x768 .bf16) (k : Fin 768) :
    k0_pay15 (F := Ideal) v x s o d q (ix2 0 k)
      = ∑ l : Fin 256, (k0_pay14 (F := Ideal) v s o d q (ix2 l k) : EReal) * x (ix2 ⟨16 + l.val, by omega⟩ k) := by
  rw [k0_pay15]
  generalize k0_pay14 (F := Ideal) v s o d q = y
  pointwise []

theorem pay1_0 (x0 x1 x2 : FVec Ideal S288x768 .f32) (g : FVec Ideal S256x768 .f32) (u : FVec Ideal S1x768 .f32) (k : Fin 768) :
    k0_pay1 (F := Ideal) x0 x1 x2 g u (ix2 0 k) = u (ix2 0 k) := by
  refine (cat4_0 _ _ _ _ k).trans ?_
  rfl

theorem pay1_1 (x0 x1 x2 : FVec Ideal S288x768 .f32) (g : FVec Ideal S256x768 .f32) (u : FVec Ideal S1x768 .f32) (k : Fin 768) :
    k0_pay1 (F := Ideal) x0 x1 x2 g u (ix2 1 k) = ∑ l : Fin 256, (g (ix2 l k) : EReal) * x2 (ix2 ⟨16 + l.val, by omega⟩ k) := by
  refine (cat4_1 _ _ _ _ k).trans ?_
  pointwise []

theorem pay1_2 (x0 x1 x2 : FVec Ideal S288x768 .f32) (g : FVec Ideal S256x768 .f32) (u : FVec Ideal S1x768 .f32) (k : Fin 768) :
    k0_pay1 (F := Ideal) x0 x1 x2 g u (ix2 2 k) = ∑ l : Fin 256, (g (ix2 l k) : EReal) * x1 (ix2 ⟨16 + l.val, by omega⟩ k) := by
  refine (cat4_2 _ _ _ _ k).trans ?_
  pointwise []

theorem pay1_3 (x0 x1 x2 : FVec Ideal S288x768 .f32) (g : FVec Ideal S256x768 .f32) (u : FVec Ideal S1x768 .f32) (k : Fin 768) :
    k0_pay1 (F := Ideal) x0 x1 x2 g u (ix2 3 k) = ∑ l : Fin 256, (g (ix2 l k) : EReal) * x0 (ix2 ⟨16 + l.val, by omega⟩ k) := by
  refine (cat4_3 _ _ _ _ k).trans ?_
  pointwise []

theorem pay2_at (g : FVec Ideal S256x768 .f32) (k : Fin 768) : k0_pay2 (F := Ideal) g (ix2 0 k) = ∑ l : Fin 256, (g (ix2 l k) : EReal) := by
  pointwise [k0_pay2]

theorem pay3_at (x0 x1 x2 : FVec Ideal S288x768 .f32) (g : FVec Ideal S256x768 .f32) (u : FVec Ideal S1x768 .f32) (a : FVec Ideal S4x768 .f32) (j : Fin 4) (k : Fin 768) :
    k0_pay3 (F := Ideal) x0 x1 x2 g u a (ix2 j k) = a (ix2 j k) + k0_pay1 (F := Ideal) x0 x1 x2 g u (ix2 j k) := by
  rw [k0_pay3]
  generalize k0_pay1 (F := Ideal) x0 x1 x2 g u = y
  pointwise []

theorem pay4_at (g : FVec Ideal S256x768 .f32) (a : FVec Ideal S1x768 .f32) (k : Fin 768) :
    k0_pay4 (F := Ideal) g a (ix2 0 k) = a (ix2 0 k) + k0_pay2 (F := Ideal) g (ix2 0 k) := by
  rw [k0_pay4]
  generalize k0_pay2 (F := Ideal) g = y
  pointwise []

end Payloads

/-! ## The blocks -/

variable (m : (ℓ : Loc nD τ sig) → Buf (Elt Ideal) ℓ)

/-- The upstream gradient, the rows, the taps and the bias as the call is given them. -/
abbrev aD (c : Dev nD) : FVec Ideal S8192x3072 .bf16 := m ((c : Thread nD τ).loc main_arg0)
abbrev aX (c : Dev nD) : FVec Ideal S8192x3072 .bf16 := m ((c : Thread nD τ).loc main_arg1)
abbrev aW (c : Dev nD) : FVec Ideal S4x3072 .f32 := m ((c : Thread nD τ).loc main_arg2)
abbrev aB (c : Dev nD) : FVec Ideal S1x3072 .f32 := m ((c : Thread nD τ).loc main_arg3)

theorem idx : ∀ t : Fin cfg0.N, win0_0.index t = ![t.val % 32, t.val / 32] ∧ win0_1.index t = ![min ((t.val % 32 + 1) * 16) 511, t.val / 32]
    ∧ win0_2.index t = ![t.val % 32, t.val / 32] ∧ win0_3.index t = ![t.val % 32 * 16 - 1, t.val / 32]
    ∧ win0_4.index t = ![min ((t.val % 32 + 1) * 16) 511, t.val / 32]
    ∧ win0_5.index t = ![0, t.val / 32] ∧ win0_6.index t = ![0, t.val / 32] ∧ win0_7.index t = ![t.val % 32, t.val / 32]
    ∧ win0_8.index t = ![0, t.val / 32] ∧ win0_9.index t = ![0, t.val / 32] :=
  (by decide +kernel : ∀ t : Fin grid0.N, _)

/-- Whether the point's rows are the last ones, and whether they are not the first. -/
abbrev isLast (t : Fin cfg0.N) : BitVec 1 := Scalar.cmpi .eq (BitVec.ofNat 32 ((grid0.coords t) 1).val) 31#32
abbrev notFirst (t : Fin cfg0.N) : BitVec 1 := Scalar.cmpi .sgt (BitVec.ofNat 32 ((grid0.coords t) 1).val) 0#32

theorem last_iff : ∀ t : Fin cfg0.N, isLast t = 1#1 ↔ t.val % 32 = 31 :=
  (by decide +kernel : ∀ t : Fin grid0.N, (Scalar.cmpi .eq (BitVec.ofNat 32 ((grid0.coords t) 1).val) 31#32 : BitVec 1) = 1#1 ↔ t.val % 32 = 31)
theorem first_iff : ∀ t : Fin cfg0.N, notFirst t = 1#1 ↔ ¬t.val % 32 = 0 :=
  (by decide +kernel : ∀ t : Fin grid0.N, (Scalar.cmpi .sgt (BitVec.ofNat 32 ((grid0.coords t) 1).val) 0#32 : BitVec 1) = 1#1 ↔ ¬t.val % 32 = 0)

theorem lt128 (t : Fin cfg0.N) : t.val < 128 := lt_of_lt_of_eq t.isLt N_0

/-- The column of the whole arrays that is a block's column `k`, and the row that is its row `l`. -/
def col (t : Fin cfg0.N) (k : Fin 768) : Fin 3072 := ⟨t.val / 32 * 768 + k.val, by have := lt128 t; omega⟩
def at_ (t : Fin cfg0.N) (l : Fin 256) : Fin 8192 := ⟨t.val % 32 * 256 + l.val, by omega⟩

/-- The blocks of the inputs at grid point `t`: the gradient and its next rows; the rows, those before and those after; the taps; the bias. -/
abbrev bD (c : Dev nD) (t : Fin cfg0.N) : FVec Ideal S256x768 .bf16 := iblk m c 0 t
abbrev bE (c : Dev nD) (t : Fin cfg0.N) : FVec Ideal S16x768 .bf16 := iblk m c 1 t
abbrev bX (c : Dev nD) (t : Fin cfg0.N) : FVec Ideal S256x768 .bf16 := iblk m c 2 t
abbrev bP (c : Dev nD) (t : Fin cfg0.N) : FVec Ideal S16x768 .bf16 := iblk m c 3 t
abbrev bQ (c : Dev nD) (t : Fin cfg0.N) : FVec Ideal S16x768 .bf16 := iblk m c 4 t
abbrev bW (c : Dev nD) (t : Fin cfg0.N) : FVec Ideal S4x768 .f32 := iblk m c 5 t
abbrev bB (c : Dev nD) (t : Fin cfg0.N) : FVec Ideal S1x768 .f32 := iblk m c 6 t

theorem blk_d (c : Dev nD) (t : Fin cfg0.N) (l : Fin 256) (k : Fin 768) (R : Fin 8192) (hR : R.val = t.val % 32 * 256 + l.val) :
    bD m c t (ix2 l k) = aD m c (ix2 R (col t k)) := by
  show iblk m c 0 t (ix2 l k) = m ((c : Thread nD τ).loc main_arg0) (ix2 R (col t k))
  have := lt128 t
  blk_point [iblk, V, idx t, col]

theorem blk_e (c : Dev nD) (t : Fin cfg0.N) (h : ¬t.val % 32 = 31) (l : Fin 16) (k : Fin 768) (R : Fin 8192) (hR : R.val = t.val % 32 * 256 + 256 + l.val) :
    bE m c t (ix2 l k) = aD m c (ix2 R (col t k)) := by
  show iblk m c 1 t (ix2 l k) = m ((c : Thread nD τ).loc main_arg0) (ix2 R (col t k))
  have := lt128 t
  blk_point [iblk, V, idx t, col]

theorem blk_x (c : Dev nD) (t : Fin cfg0.N) (l : Fin 256) (k : Fin 768) (R : Fin 8192) (hR : R.val = t.val % 32 * 256 + l.val) :
    bX m c t (ix2 l k) = aX m c (ix2 R (col t k)) := by
  show iblk m c 2 t (ix2 l k) = m ((c : Thread nD τ).loc main_arg1) (ix2 R (col t k))
  have := lt128 t
  blk_point [iblk, V, idx t, col]

theorem blk_p (c : Dev nD) (t : Fin cfg0.N) (h : ¬t.val % 32 = 0) (l : Fin 16) (k : Fin 768) (R : Fin 8192) (hR : R.val + 16 = t.val % 32 * 256 + l.val) :
    bP m c t (ix2 l k) = aX m c (ix2 R (col t k)) := by
  show iblk m c 3 t (ix2 l k) = m ((c : Thread nD τ).loc main_arg1) (ix2 R (col t k))
  have := lt128 t
  blk_point [iblk, V, idx t, col]

theorem blk_q (c : Dev nD) (t : Fin cfg0.N) (h : ¬t.val % 32 = 31) (l : Fin 16) (k : Fin 768) (R : Fin 8192) (hR : R.val = t.val % 32 * 256 + 256 + l.val) :
    bQ m c t (ix2 l k) = aX m c (ix2 R (col t k)) := by
  show iblk m c 4 t (ix2 l k) = m ((c : Thread nD τ).loc main_arg1) (ix2 R (col t k))
  have := lt128 t
  blk_point [iblk, V, idx t, col]

theorem blk_w (c : Dev nD) (t : Fin cfg0.N) (j : Fin 4) (k : Fin 768) : bW m c t (ix2 j k) = aW m c (ix2 j (col t k)) := by
  show iblk m c 5 t (ix2 j k) = m ((c : Thread nD τ).loc main_arg2) (ix2 j (col t k))
  blk_point [iblk, V, idx t, col]

theorem blk_b (c : Dev nD) (t : Fin cfg0.N) (k : Fin 768) : bB m c t (ix2 0 k) = aB m c (ix2 0 (col t k)) := by
  show iblk m c 6 t (ix2 0 k) = m ((c : Thread nD τ).loc main_arg3) (ix2 0 (col t k))
  blk_point [iblk, V, idx t, col]

/-- The columns of the arguments, and the gradient of the taps' sum in a column. -/
def xc (c : Dev nD) (k : Fin 3072) (r : Fin 8192) : EReal := aX m c (ix2 r k)
def dc (c : Dev nD) (k : Fin 3072) (r : Fin 8192) : EReal := aD m c (ix2 r k)
def wc (c : Dev nD) (k : Fin 3072) (j : Fin 4) : EReal := aW m c (ix2 j k)
def bc (c : Dev nD) (k : Fin 3072) : EReal := aB m c (ix2 0 k)
def inn (c : Dev nD) (k : Fin 3072) : Fin 8192 → EReal := Cert.Conv.inner (dc m c k) (xc m c k) (wc m c k) (bc m c k)

/-- The rows the point works on, the taps' sums and their gradients: sixteen rows before its own and sixteen behind. -/
abbrev eX (c : Dev nD) (t : Fin cfg0.N) : FVec Ideal S288x768 .f32 := k0_pay5 (F := Ideal) (grid0.coords t) (bP m c t) (bX m c t) (bQ m c t)
abbrev eV (c : Dev nD) (t : Fin cfg0.N) : FVec Ideal S288x768 .f32 :=
  k0_pay9 (F := Ideal) (grid0.coords t) (bW m c t) (bP m c t) (bX m c t) (bQ m c t) (bB m c t)
abbrev eP (c : Dev nD) (t : Fin cfg0.N) : FVec Ideal S288x768 .f32 :=
  k0_pay12 (F := Ideal) (isLast t) (eV m c t) (k0_pay10 (F := Ideal)) (k0_pay11 (F := Ideal) (bD m c t)) (bE m c t)
abbrev eG (c : Dev nD) (t : Fin cfg0.N) : FVec Ideal S256x768 .f32 :=
  k0_pay14 (F := Ideal) (isLast t) (eV m c t) (k0_pay10 (F := Ideal)) (k0_pay11 (F := Ideal) (bD m c t)) (bE m c t)

theorem eX_at (c : Dev nD) (t : Fin cfg0.N) (e : Fin 288) (he : 13 ≤ e.val) (k : Fin 768) :
    eX m c t (ix2 e k) = back (xc m c (col t k)) (t.val % 32 * 256 + e.val - 13) := by
  have h5 : eX m c t = concatenate S288x768 0 [⟨S16x768, Scalar.select (notFirst t) (extf .f32 (bP m c t) bitsLt_bf16_f32) (broadcast S16x768 (Scalar.ofBits (F := Ideal) .f32 0x00000000#32))⟩,
      ⟨S256x768, extf .f32 (bX m c t) bitsLt_bf16_f32⟩,
      ⟨S16x768, Scalar.select (isLast t) (broadcast S16x768 (Scalar.ofBits (F := Ideal) .f32 0x00000000#32)) (extf .f32 (bQ m c t) bitsLt_bf16_f32)⟩]
      concatenates_S16x768_S256x768_S16x768_S288x768_d0 := rfl
  rw [h5, cat_at]
  by_cases h1 : e.val < 16
  · rw [dif_pos h1]
    by_cases h0 : t.val % 32 = 0
    · rw [back_front _ _ (by omega),
        show Scalar.select (notFirst t) (extf .f32 (bP m c t) bitsLt_bf16_f32) (broadcast S16x768 (Scalar.ofBits (F := Ideal) .f32 0x00000000#32))
          = broadcast S16x768 (Scalar.ofBits (F := Ideal) .f32 0x00000000#32) from if_neg fun h => (first_iff t).mp h h0]
      exact Ideal.ofBits_zero_f32
    · rw [show Scalar.select (notFirst t) (extf .f32 (bP m c t) bitsLt_bf16_f32) (broadcast S16x768 (Scalar.ofBits (F := Ideal) .f32 0x00000000#32))
          = extf .f32 (bP m c t) bitsLt_bf16_f32 from if_pos ((first_iff t).mpr h0)]
      rw [back_row _ ⟨t.val % 32 * 256 + e.val - 16, by omega⟩ _ (by show _ = t.val % 32 * 256 + e.val - 16 + 3; omega)]
      exact blk_p m c t h0 _ k _ (by show t.val % 32 * 256 + e.val - 16 + 16 = t.val % 32 * 256 + e.val; omega)
  · rw [dif_neg h1]
    by_cases h2 : e.val < 272
    · rw [dif_pos h2, back_row _ ⟨t.val % 32 * 256 + e.val - 16, by omega⟩ _ (by show _ = t.val % 32 * 256 + e.val - 16 + 3; omega)]
      exact blk_x m c t _ k _ (by show t.val % 32 * 256 + e.val - 16 = t.val % 32 * 256 + (e.val - 16); omega)
    · rw [dif_neg h2]
      by_cases h0 : t.val % 32 = 31
      · rw [back_end _ _ (by omega),
          show Scalar.select (isLast t) (broadcast S16x768 (Scalar.ofBits (F := Ideal) .f32 0x00000000#32)) (extf .f32 (bQ m c t) bitsLt_bf16_f32)
            = broadcast S16x768 (Scalar.ofBits (F := Ideal) .f32 0x00000000#32) from if_pos ((last_iff t).mpr h0)]
        exact Ideal.ofBits_zero_f32
      · rw [show Scalar.select (isLast t) (broadcast S16x768 (Scalar.ofBits (F := Ideal) .f32 0x00000000#32)) (extf .f32 (bQ m c t) bitsLt_bf16_f32)
            = extf .f32 (bQ m c t) bitsLt_bf16_f32 from if_neg fun h => h0 ((last_iff t).mp h)]
        rw [back_row _ ⟨t.val % 32 * 256 + e.val - 16, by omega⟩ _ (by show _ = t.val % 32 * 256 + e.val - 16 + 3; omega)]
        exact blk_q m c t h0 _ k _ (by show t.val % 32 * 256 + e.val - 16 = t.val % 32 * 256 + 256 + (e.val - 272); omega)

theorem eV_at (c : Dev nD) (t : Fin cfg0.N) (e : Fin 288) (he : 16 ≤ e.val) (k : Fin 768) :
    eV m c t (ix2 e k) = taps (xc m c (col t k)) (wc m c (col t k)) (bc m c (col t k)) (t.val % 32 * 256 + e.val - 16) := by
  refine (pay9_at _ _ _ _ _ _ e (by omega) k).trans ?_
  have q0 : k0_pay5 (F := Ideal) (grid0.coords t) (bP m c t) (bX m c t) (bQ m c t) (ix2 e k) = _ := eX_at m c t e (by omega) k
  have q1 : k0_pay5 (F := Ideal) (grid0.coords t) (bP m c t) (bX m c t) (bQ m c t) (ix2 ⟨e.val - 1, by omega⟩ k) = _ := eX_at m c t ⟨e.val - 1, by omega⟩ (by show 13 ≤ e.val - 1; omega) k
  have q2 : k0_pay5 (F := Ideal) (grid0.coords t) (bP m c t) (bX m c t) (bQ m c t) (ix2 ⟨e.val - 2, by omega⟩ k) = _ := eX_at m c t ⟨e.val - 2, by omega⟩ (by show 13 ≤ e.val - 2; omega) k
  have q3 : k0_pay5 (F := Ideal) (grid0.coords t) (bP m c t) (bX m c t) (bQ m c t) (ix2 ⟨e.val - 3, by omega⟩ k) = _ := eX_at m c t ⟨e.val - 3, by omega⟩ (by show 13 ≤ e.val - 3; omega) k
  rw [q0, q1, q2, q3, taps, blk_w, blk_w, blk_w, blk_w, blk_b]
  have e0 : t.val % 32 * 256 + e.val - 13 = t.val % 32 * 256 + e.val - 16 + 3 := by omega
  have e1 : t.val % 32 * 256 + (e.val - 1) - 13 = t.val % 32 * 256 + e.val - 16 + 2 := by omega
  have e2 : t.val % 32 * 256 + (e.val - 2) - 13 = t.val % 32 * 256 + e.val - 16 + 1 := by omega
  have e3 : t.val % 32 * 256 + (e.val - 3) - 13 = t.val % 32 * 256 + e.val - 16 := by omega
  simp only [e0, e1, e2, e3]
  rfl

theorem eP_at (c : Dev nD) (t : Fin cfg0.N) (e : Fin 288) (he : 16 ≤ e.val) (k : Fin 768) :
    eP m c t (ix2 e k) = past (inn m c (col t k)) (t.val % 32 * 256 + e.val - 16) := by
  refine (pay12_at _ _ _ _ _ e he k).trans ?_
  rw [eV_at m c t e he k]
  by_cases h0 : t.val % 32 = 31 ∧ 272 ≤ e.val
  · rw [dif_neg (by omega), if_pos ((last_iff t).mpr h0.1), zero_mul, past_end _ _ (by omega)]
  · rw [past_row _ ⟨t.val % 32 * 256 + e.val - 16, by omega⟩ _ rfl, inn, Cert.Conv.inner]
    refine congrArg (· * (_ : EReal)) ?_
    split_ifs with h1 h2
    · exact blk_d m c t _ k _ (by show t.val % 32 * 256 + e.val - 16 = t.val % 32 * 256 + (e.val - 16); omega)
    · exact absurd ⟨(last_iff t).mp h2, by omega⟩ h0
    · exact blk_e m c t (fun h => h2 ((last_iff t).mpr h)) _ k _ (by show t.val % 32 * 256 + e.val - 16 = t.val % 32 * 256 + 256 + (e.val - 272); omega)

theorem eG_at (c : Dev nD) (t : Fin cfg0.N) (l : Fin 256) (k : Fin 768) : eG m c t (ix2 l k) = inn m c (col t k) (at_ t l) := by
  refine (pay14_at _ _ _ _ _ l k).trans ((eP_at m c t ⟨16 + l.val, by omega⟩ (by show 16 ≤ 16 + l.val; omega) k).trans ?_)
  exact past_row _ _ _ (by show t.val % 32 * 256 + (16 + l.val) - 16 = t.val % 32 * 256 + l.val; omega)

/-! ## The gradient of the rows -/

theorem out_x (c : Dev nD) (t : Fin cfg0.N) (j : S256x768.Idx) : (outsAt0 m c t.val t.isLt).1 j
    = k0_pay13 (F := Ideal) (isLast t) (bW m c t) (eV m c t) (k0_pay10 (F := Ideal)) (k0_pay11 (F := Ideal) (bD m c t)) (bE m c t) j := by
  by_cases h : t.val % 32 = 0
  · rw [outsAt0_A m c t h (by omega)]
    frame_out
  · rw [outsAt0_B m c t h (by omega)]
    frame_out

theorem block_x (c : Dev nD) (t : Fin cfg0.N) (l : Fin 256) (k : Fin 768) :
    k0_pay13 (F := Ideal) (isLast t) (bW m c t) (eV m c t) (k0_pay10 (F := Ideal)) (k0_pay11 (F := Ideal) (bD m c t)) (bE m c t) (ix2 l k)
      = dcol (dc m c (col t k)) (xc m c (col t k)) (wc m c (col t k)) (bc m c (col t k)) (at_ t l) := by
  refine (pay13_at _ _ _ _ _ _ l k).trans ?_
  have q0 : k0_pay12 (F := Ideal) (isLast t) (eV m c t) (k0_pay10 (F := Ideal)) (k0_pay11 (F := Ideal) (bD m c t)) (bE m c t) (ix2 ⟨16 + l.val, by omega⟩ k) = _ := eP_at m c t ⟨16 + l.val, by omega⟩ (by show 16 ≤ 16 + l.val; omega) k
  have q1 : k0_pay12 (F := Ideal) (isLast t) (eV m c t) (k0_pay10 (F := Ideal)) (k0_pay11 (F := Ideal) (bD m c t)) (bE m c t) (ix2 ⟨17 + l.val, by omega⟩ k) = _ := eP_at m c t ⟨17 + l.val, by omega⟩ (by show 16 ≤ 17 + l.val; omega) k
  have q2 : k0_pay12 (F := Ideal) (isLast t) (eV m c t) (k0_pay10 (F := Ideal)) (k0_pay11 (F := Ideal) (bD m c t)) (bE m c t) (ix2 ⟨18 + l.val, by omega⟩ k) = _ := eP_at m c t ⟨18 + l.val, by omega⟩ (by show 16 ≤ 18 + l.val; omega) k
  have q3 : k0_pay12 (F := Ideal) (isLast t) (eV m c t) (k0_pay10 (F := Ideal)) (k0_pay11 (F := Ideal) (bD m c t)) (bE m c t) (ix2 ⟨19 + l.val, by omega⟩ k) = _ := eP_at m c t ⟨19 + l.val, by omega⟩ (by show 16 ≤ 19 + l.val; omega) k
  rw [q0, q1, q2, q3, dcol, blk_w, blk_w, blk_w, blk_w]
  have e0 : t.val % 32 * 256 + (16 + l.val) - 16 = (at_ t l).val := by show _ = t.val % 32 * 256 + l.val; omega
  have e1 : t.val % 32 * 256 + (17 + l.val) - 16 = (at_ t l).val + 1 := by show _ = t.val % 32 * 256 + l.val + 1; omega
  have e2 : t.val % 32 * 256 + (18 + l.val) - 16 = (at_ t l).val + 2 := by show _ = t.val % 32 * 256 + l.val + 2; omega
  have e3 : t.val % 32 * 256 + (19 + l.val) - 16 = (at_ t l).val + 3 := by show _ = t.val % 32 * 256 + l.val + 3; omega
  simp only [e0, e1, e2, e3]
  rfl

/-- The upstream gradient is finite. -/
abbrev Finite (c : Dev nD) : Prop := ∀ (r : Fin 8192) (k : Fin 3072), ∃ a : ℝ, aD m c (ix2 r k) = a

theorem final_x (c : Dev nD) (h : Finite m c) : (dats m 0 c).arrAt 7 (cfgs 0).N = refX (aD m c) (aX m c) (aW m c) (aB m c) := by
  refine (dats m 0 c).arrAt_eq_of_covers 7 _ (by decide +kernel) fun t _ y => ?_
  blk_simp
  rw [after0_7]
  refine (out_x m c t y).trans ?_
  obtain ⟨l, k, rfl⟩ : ∃ (l : Fin 256) (k : Fin 768), y = ix2 l k := ⟨y 0, y 1, by blk_ext⟩
  refine (block_x m c t l k).trans ?_
  refine Eq.trans ?_ ((refX_at (aD m c) (aX m c) (aW m c) (aB m c) h (at_ t l) (col t k)).symm.trans
    (congrArg (refX (aD m c) (aX m c) (aW m c) (aB m c)) ?_))
  · rfl
  · blk_ext [idx t, at_, col]

/-! ## The gradients of the taps and of the bias -/

/-- What point `t` adds to the taps' gradient, and to the bias's. -/
def gainW (c : Dev nD) (t : Fin cfg0.N) (j : S4x768.Idx) : EReal :=
  ∑ l : Fin 256, inn m c (col t (j 1)) (at_ t l) * back (xc m c (col t (j 1))) ((at_ t l).val + (j 0).val)
def gainB (c : Dev nD) (t : Fin cfg0.N) (j : S1x768.Idx) : EReal := ∑ l : Fin 256, inn m c (col t (j 1)) (at_ t l)

/-- The taps' part as the kernel computes it. -/
abbrev eW (c : Dev nD) (t : Fin cfg0.N) : FVec Ideal S4x768 .f32 :=
  k0_pay1 (F := Ideal) (eX m c t) (k0_pay6 (F := Ideal) (grid0.coords t) (bP m c t) (bX m c t) (bQ m c t))
    (k0_pay7 (F := Ideal) (grid0.coords t) (bP m c t) (bX m c t) (bQ m c t)) (eG m c t)
    (k0_pay15 (F := Ideal) (isLast t) (k0_pay8 (F := Ideal) (grid0.coords t) (bP m c t) (bX m c t) (bQ m c t)) (eV m c t) (k0_pay10 (F := Ideal)) (k0_pay11 (F := Ideal) (bD m c t)) (bE m c t))

/-- A tap's rows, turned down by its distance. -/
theorem turn_at (c : Dev nD) (t : Fin cfg0.N) (s : BitVec 32) (n j : ℕ) (hs : s.toNat = n) (hn : n + j = 3) (l : Fin 256) (k : Fin 768) :
    dynamicRotate 0 s none (eX m c t) rotates_S288x768_d0 (ix2 ⟨16 + l.val, by omega⟩ k) = back (xc m c (col t k)) ((at_ t l).val + j) := by
  rw [rot_at s n hs _ _ ⟨16 + l.val - n, by omega⟩ k (by show 16 + l.val - n = (16 + l.val + 288 - n % 288) % 288; omega),
    eX_at m c t _ (by show 13 ≤ 16 + l.val - n; omega) k]
  refine congrArg (back _) ?_
  show t.val % 32 * 256 + (16 + l.val - n) - 13 = t.val % 32 * 256 + l.val + j
  omega

theorem eW_at (c : Dev nD) (t : Fin cfg0.N) (j : S4x768.Idx) : eW m c t j = gainW m c t j := by
  obtain ⟨i, k, rfl⟩ : ∃ (i : Fin 4) (k : Fin 768), j = ix2 i k := ⟨j 0, j 1, by blk_ext⟩
  fin_cases i
  · refine (pay1_0 _ _ _ _ _ k).trans ((pay15_at _ _ _ _ _ _ k).trans (Finset.sum_congr rfl fun l _ => ?_))
    exact congr (congrArg (fun a b : EReal => a * b) (eG_at m c t l k)) (turn_at m c t 3#32 3 0 rfl rfl l k)
  · refine (pay1_1 _ _ _ _ _ k).trans (Finset.sum_congr rfl fun l _ => ?_)
    exact congr (congrArg (fun a b : EReal => a * b) (eG_at m c t l k)) (turn_at m c t 2#32 2 1 rfl rfl l k)
  · refine (pay1_2 _ _ _ _ _ k).trans (Finset.sum_congr rfl fun l _ => ?_)
    exact congr (congrArg (fun a b : EReal => a * b) (eG_at m c t l k)) (turn_at m c t 1#32 1 2 rfl rfl l k)
  · refine (pay1_3 _ _ _ _ _ k).trans (Finset.sum_congr rfl fun l _ => ?_)
    refine congr (congrArg (fun a b : EReal => a * b) (eG_at m c t l k)) ((eX_at m c t _ (by show 13 ≤ 16 + l.val; omega) k).trans (congrArg (back _) ?_))
    show t.val % 32 * 256 + (16 + l.val) - 13 = t.val % 32 * 256 + l.val + 3
    omega

theorem eB_at (c : Dev nD) (t : Fin cfg0.N) (k : Fin 768) : k0_pay2 (F := Ideal) (eG m c t) (ix2 0 k) = gainB m c t (ix2 0 k) :=
  (pay2_at _ k).trans (Finset.sum_congr rfl fun l _ => eG_at m c t l k)

theorem outW_A (c : Dev nD) (t : Fin cfg0.N) (h : t.val % 32 = 0) (j : S4x768.Idx) :
    (outsAt0 m c t.val t.isLt).2.1 j = 0 + gainW m c t j := by
  rw [outsAt0_A m c t h (by omega), zero_add]
  frame_out
  exact eW_at m c t j

theorem outW_B (c : Dev nD) (t : Fin cfg0.N) (h : ¬t.val % 32 = 0) (j : S4x768.Idx) :
    (outsAt0 m c t.val t.isLt).2.1 j
      = (outsAt0 m c (t.val - 1) (Nat.lt_of_le_of_lt (Nat.sub_le _ _) t.isLt)).2.1 j + gainW m c t j := by
  rw [outsAt0_B m c t h (by omega)]
  frame_out
  obtain ⟨i, k, rfl⟩ : ∃ (i : Fin 4) (k : Fin 768), j = ix2 i k := ⟨j 0, j 1, by blk_ext⟩
  exact (pay3_at _ _ _ _ _ _ i k).trans (congrArg (fun v : EReal => (outsAt0 m c (t.val - 1) (Nat.lt_of_le_of_lt (Nat.sub_le _ _) t.isLt)).2.1 (ix2 i k) + v)
    (eW_at m c t (ix2 i k)))

theorem outB_A (c : Dev nD) (t : Fin cfg0.N) (h : t.val % 32 = 0) (j : S1x768.Idx) :
    (outsAt0 m c t.val t.isLt).2.2 j = 0 + gainB m c t j := by
  rw [outsAt0_A m c t h (by omega), zero_add]
  frame_out
  obtain ⟨i, k, rfl⟩ : ∃ (i : Fin 1) (k : Fin 768), j = ix2 i k := ⟨j 0, j 1, by blk_ext⟩
  obtain rfl : i = 0 := Subsingleton.elim _ _
  exact eB_at m c t k

theorem outB_B (c : Dev nD) (t : Fin cfg0.N) (h : ¬t.val % 32 = 0) (j : S1x768.Idx) :
    (outsAt0 m c t.val t.isLt).2.2 j
      = (outsAt0 m c (t.val - 1) (Nat.lt_of_le_of_lt (Nat.sub_le _ _) t.isLt)).2.2 j + gainB m c t j := by
  rw [outsAt0_B m c t h (by omega)]
  frame_out
  obtain ⟨i, k, rfl⟩ : ∃ (i : Fin 1) (k : Fin 768), j = ix2 i k := ⟨j 0, j 1, by blk_ext⟩
  obtain rfl : i = 0 := Subsingleton.elim _ _
  exact (pay4_at _ _ k).trans (congrArg (fun v : EReal => (outsAt0 m c (t.val - 1) (Nat.lt_of_le_of_lt (Nat.sub_le _ _) t.isLt)).2.2 (ix2 0 k) + v)
    (eB_at m c t k))

/-- The points that add to a column's sums work on the same columns, block of rows after block of rows. -/
theorem run_col (t : Fin cfg0.N) (hl : t.val % 32 = 32 - 1) (s : Fin 32) (k : Fin 768) :
    col ⟨32 * (t.val / 32) + s.val, Pipeline.run_point_lt_of_flush t hl s⟩ k = col t k := Fin.ext (by
  show (32 * (t.val / 32) + s.val) / 32 * 768 + k.val = t.val / 32 * 768 + k.val
  omega)

theorem run_row (t : Fin cfg0.N) (hl : t.val % 32 = 32 - 1) (s : Fin 32) (l : Fin 256) (h : s.val * 256 + l.val < 8192) :
    at_ ⟨32 * (t.val / 32) + s.val, Pipeline.run_point_lt_of_flush t hl s⟩ l = ⟨s.val * 256 + l.val, h⟩ := Fin.ext (by
  show (32 * (t.val / 32) + s.val) % 32 * 256 + l.val = s.val * 256 + l.val
  omega)

theorem sum_w (c : Dev nD) (h : Finite m c) (t : Fin cfg0.N) (hl : t.val % 32 = 32 - 1) (j : Fin 4) (k : Fin 768) :
    ∑ s : Fin 32, gainW m c ⟨32 * (t.val / 32) + s.val, Pipeline.run_point_lt_of_flush t hl s⟩ (ix2 j k)
      = refW (aD m c) (aX m c) (aW m c) (aB m c) (ix2 j (col t k)) := by
  have e (s : Fin 32) : gainW m c ⟨32 * (t.val / 32) + s.val, Pipeline.run_point_lt_of_flush t hl s⟩ (ix2 j k)
      = ∑ l : Fin 256, inn m c (col ⟨32 * (t.val / 32) + s.val, Pipeline.run_point_lt_of_flush t hl s⟩ k) (at_ ⟨32 * (t.val / 32) + s.val, Pipeline.run_point_lt_of_flush t hl s⟩ l)
          * back (xc m c (col ⟨32 * (t.val / 32) + s.val, Pipeline.run_point_lt_of_flush t hl s⟩ k)) ((at_ ⟨32 * (t.val / 32) + s.val, Pipeline.run_point_lt_of_flush t hl s⟩ l).val + j.val) := rfl
  rw [refW_at _ _ _ _ h, dtap]
  simp only [e]
  refine Fin.sum_mul_add_congr fun s l hl' => ?_
  rw [run_col t hl s k, run_row t hl s l hl']
  rfl

theorem sum_b (c : Dev nD) (h : Finite m c) (t : Fin cfg0.N) (hl : t.val % 32 = 32 - 1) (k : Fin 768) :
    ∑ s : Fin 32, gainB m c ⟨32 * (t.val / 32) + s.val, Pipeline.run_point_lt_of_flush t hl s⟩ (ix2 0 k)
      = refB (aD m c) (aX m c) (aW m c) (aB m c) (ix2 0 (col t k)) := by
  have e (s : Fin 32) : gainB m c ⟨32 * (t.val / 32) + s.val, Pipeline.run_point_lt_of_flush t hl s⟩ (ix2 0 k)
      = ∑ l : Fin 256, inn m c (col ⟨32 * (t.val / 32) + s.val, Pipeline.run_point_lt_of_flush t hl s⟩ k) (at_ ⟨32 * (t.val / 32) + s.val, Pipeline.run_point_lt_of_flush t hl s⟩ l) := rfl
  rw [refB_at _ _ _ _ h]
  simp only [e]
  refine Fin.sum_mul_add_congr fun s l hl' => ?_
  rw [run_col t hl s k, run_row t hl s l hl']
  rfl

theorem final_w (c : Dev nD) (h : Finite m c) : (dats m 0 c).arrAt 8 (cfgs 0).N = refW (aD m c) (aX m c) (aW m c) (aB m c) := by
  refine (dats m 0 c).arrAt_eq_of_covers 8 _ (by decide +kernel) fun t hf y => ?_
  blk_simp
  have hl : t.val % 32 = 32 - 1 := (flush0_8 t).mp hf
  rw [after0_8, Pipeline.eq_sum_fin_of_reset_step_apply_of_flush (fun n h => (outsAt0 m c n h).2.1) 32 (fun _ => 0) (gainW m c)
    (fun t h j => outW_A m c t h j) (fun t h j => outW_B m c t h j) t hl _, zero_add]
  obtain ⟨j, k, rfl⟩ : ∃ (j : Fin 4) (k : Fin 768), y = ix2 j k := ⟨y 0, y 1, by blk_ext⟩
  refine (sum_w m c h t hl j k).trans (congrArg (refW (aD m c) (aX m c) (aW m c) (aB m c)) ?_)
  blk_ext [idx t, col]

theorem final_b (c : Dev nD) (h : Finite m c) : (dats m 0 c).arrAt 9 (cfgs 0).N = refB (aD m c) (aX m c) (aW m c) (aB m c) := by
  refine (dats m 0 c).arrAt_eq_of_covers 9 _ (by decide +kernel) fun t hf y => ?_
  blk_simp
  have hl : t.val % 32 = 32 - 1 := (flush0_9 t).mp hf
  rw [after0_9, Pipeline.eq_sum_fin_of_reset_step_apply_of_flush (fun n h => (outsAt0 m c n h).2.2) 32 (fun _ => 0) (gainB m c)
    (fun t h j => outB_A m c t h j) (fun t h j => outB_B m c t h j) t hl _, zero_add]
  obtain ⟨j, k, rfl⟩ : ∃ (j : Fin 1) (k : Fin 768), y = ix2 j k := ⟨y 0, y 1, by blk_ext⟩
  obtain rfl : j = 0 := Subsingleton.elim _ _
  refine (sum_b m c h t hl k).trans (congrArg (refB (aD m c) (aX m c) (aW m c) (aB m c)) ?_)
  blk_ext [idx t, col]

/-- Kernel and reference leave the same gradients. -/
theorem same : Cert.algebraic_Kernel37Ideal_Reference37Ideal_pre_finite_conv := by
  pair_intro
  · run_from Cert.Kernel37Ideal.Value.run_blocks m g
  · have H (c : Dev nD) : Finite m c :=
      fun r k => Cert.Pre_finite_conv.real_d _ _ _ _ (hpre c) r k
    run_from Cert.Reference37Ideal.Value.run_ref m' g'
    · exact (final_x m c (H c)).symm
    · exact (final_w m c (H c)).symm
    · exact (final_b m c (H c)).symm

end Cert.Kernel37Ideal.Value

end
-- ==== Proof.DAct.lean ====
/-
  The gradient of the feed-forward block's activations: the upstream gradient times the transpose of the down projection.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

/-! ## The reference -/

namespace Cert.Reference4Ideal.Value

open Idealize.ShloMosaic Idealize.ShloMosaic.TcCoe Idealize.SL.Sem
open Cert.Reference4Ideal Cert.Reference4Ideal.Gen

/-- The reference's result. -/
def ref (O : Vec Ideal S8192x2048 .bf16) (W : Vec Ideal S5632x2048 .bf16) : FVec Ideal S8192x5632 .bf16 :=
  truncf .bf16 (Host.dotGeneral dot_S8192x2048_S5632x2048_S8192x5632_1_1_0_0_n_n none (extf .f32 O bitsLt_bf16_f32)
    (extf .f32 W bitsLt_bf16_f32)) bitsLt_bf16_f32

theorem ref_at (O : Vec Ideal S8192x2048 .bf16) (W : Vec Ideal S5632x2048 .bf16) (j : S8192x5632.Idx) :
    ref O W j = ∑ l : Fin 2048, (O (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v5) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference4Ideal := fun m ρ _ =>
  (θ_run defs _ _).mono (fun r h => ⟨fun c => (h c).2, sem_eq_zero_of_no_sems (by decide) r.2⟩)
    (run (F := Ideal) m ρ)

end Cert.Reference4Ideal.Value

/-! ## The kernel -/

namespace Cert.Kernel4Ideal.Value

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

theorem pay_at (w : Vec Ideal S1408x2048 .bf16) (o : Vec Ideal S1024x2048 .bf16) (j : S1024x1408.Idx) :
    k0_pay1 (F := Ideal) w o j = ∑ l : Fin 2048, (o (ix2 (j 0) l) : EReal) * w (ix2 (j 1) l) := by
  pointwise [k0_pay1]

/-- The result array, block by block. -/
theorem final (c : Dev nD) : (dats m 0 c).arrAt 2 (cfgs 0).N
    = Cert.Reference4Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference4Ideal.Value.ref_at]
  refine Fin.sum_fin_congr fun l => ?_
  blk_point [iblk, V, idx t]

/-- Kernel and reference leave the same gradient. -/
theorem same : Cert.algebraic_Kernel4Ideal_Reference4Ideal := by
  pair_intro
  · run_from Cert.Kernel4Ideal.Value.run_blocks m g
  · run_from Cert.Reference4Ideal.Value.run_ref m' g'
    · exact (final m c).symm

end Cert.Kernel4Ideal.Value

end
-- ==== Proof.DMix.lean ====
/-
  The gradient of the mixers' output: the upstream gradient times the transpose of the output projection.
-/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference10Ideal.Value

open Idealize.ShloMosaic Idealize.ShloMosaic.TcCoe Idealize.SL.Sem
open Cert.Reference10Ideal Cert.Reference10Ideal.Gen

/-- The reference's result. -/
def ref (A : Vec Ideal S8192x2048 .bf16) (W : Vec Ideal S4096x2048 .bf16) : FVec Ideal S8192x4096 .bf16 :=
  truncf .bf16 (Host.dotGeneral dot_S8192x2048_S4096x2048_S8192x4096_1_1_0_0_n_n none (extf .f32 A bitsLt_bf16_f32) (extf .f32 W bitsLt_bf16_f32)) bitsLt_bf16_f32

theorem ref_at (A : Vec Ideal S8192x2048 .bf16) (W : Vec Ideal S4096x2048 .bf16) (j : S8192x4096.Idx) :
    ref A W j = ∑ l : Fin 2048, (A (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v5) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference10Ideal := fun m ρ _ =>
  (θ_run defs _ _).mono (fun r h => ⟨fun c => (h c).2, sem_eq_zero_of_no_sems (by decide) r.2⟩)
    (run (F := Ideal) m ρ)

end Cert.Reference10Ideal.Value

/-! ## The kernel -/

namespace Cert.Kernel10Ideal.Value

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

theorem idx : ∀ t : Fin cfg0.N, win0_0.index t = ![t.val / 4, 0]
    ∧ win0_1.index t = ![t.val % 4, 0]
    ∧ win0_2.index t = ![t.val / 4, t.val % 4] :=
  (by decide +kernel : ∀ t : Fin grid0.N, _)

theorem pay_at (w : Vec Ideal S1024x2048 .bf16) (a : Vec Ideal S1024x2048 .bf16) (j : S1024x1024.Idx) :
    k0_pay1 (F := Ideal) w a j
      = (∑ l : Fin 2048, (a (ix2 (j 0) l) : EReal) * w (ix2 (j 1) l)) := by
  pointwise [k0_pay1]

/-- The result array, block by block. -/
theorem final (c : Dev nD) : (dats m 0 c).arrAt 2 (cfgs 0).N
    = Cert.Reference10Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference10Ideal.Value.ref_at]
  refine Fin.sum_fin_congr fun l => ?_
  blk_point [iblk, V, idx t]

/-- Kernel and reference leave the same gradient. -/
theorem same : Cert.algebraic_Kernel10Ideal_Reference10Ideal := by
  pair_intro
  · run_from Cert.Kernel10Ideal.Value.run_blocks m g
  · run_from Cert.Reference10Ideal.Value.run_ref m' g'
    · exact (final m c).symm

end Cert.Kernel10Ideal.Value

end
-- ==== Proof.DO.lean ====
/-
  The gradient of the memory attention's output.
-/
module

public import proofs.«01_k».proof.Defs
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference24Ideal.Value

open Idealize.ShloMosaic Idealize.ShloMosaic.TcCoe Idealize.SL.Sem
open Cert.Reference24Ideal Cert.Reference24Ideal.Gen

/-- The whole matrix, of its four shards. -/
def cols (W : Vec Ideal S4x512x512 .bf16) : FVec Ideal S512x2048 .f32 :=
  concatenate S512x2048 1
    [⟨S512x512, shapeCast _ (extractStridedSlice S1x512x512 ![0, 0, 0] (extf .f32 W bitsLt_bf16_f32)
        slices_S4x512x512_S1x512x512_0_0_0) shapeCasts_S1x512x512_S512x512⟩,
      ⟨S512x512, shapeCast _ (extractStridedSlice S1x512x512 ![1, 0, 0] (extf .f32 W bitsLt_bf16_f32)
        slices_S4x512x512_S1x512x512_1_0_0) shapeCasts_S1x512x512_S512x512⟩,
      ⟨S512x512, shapeCast _ (extractStridedSlice S1x512x512 ![2, 0, 0] (extf .f32 W bitsLt_bf16_f32)
        slices_S4x512x512_S1x512x512_2_0_0) shapeCasts_S1x512x512_S512x512⟩,
      ⟨S512x512, shapeCast _ (extractStridedSlice S1x512x512 ![3, 0, 0] (extf .f32 W bitsLt_bf16_f32)
        slices_S4x512x512_S1x512x512_3_0_0) shapeCasts_S1x512x512_S512x512⟩]
    concatenates_S512x512_S512x512_S512x512_S512x512_S512x2048_d1

theorem cols_at (W : Vec Ideal S4x512x512 .bf16) (i : Fin 512) (l : Fin 2048) :
    cols W (ix2 i l) = (W (ix3 ⟨l / 512, by omega⟩ i ⟨l % 512, by omega⟩) : EReal) := by
  pointwise [cols]
  blk_point []

/-- The reference's result. -/
def ref (A : Vec Ideal S8192x2048 .bf16) (W : Vec Ideal S4x512x512 .bf16) : FVec Ideal S8192x512 .bf16 :=
  truncf .bf16 (Host.dotGeneral dot_S8192x2048_S512x2048_S8192x512_1_1_0_0_n_n none (extf .f32 A bitsLt_bf16_f32) (cols W)) bitsLt_bf16_f32

theorem ref_at (A : Vec Ideal S8192x2048 .bf16) (W : Vec Ideal S4x512x512 .bf16) (j : S8192x512.Idx) :
    ref A W j = ∑ l : Fin 2048, (A (ix2 (j 0) l) : EReal) * W (ix3 ⟨l / 512, by omega⟩ (j 1) ⟨l % 512, by omega⟩) := by
  pointwise [ref, cols_at]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v14) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference24Ideal := fun m ρ _ =>
  (θ_run defs _ _).mono (fun r h => ⟨fun c => (h c).2, sem_eq_zero_of_no_sems (by decide) r.2⟩)
    (run (F := Ideal) m ρ)

end Cert.Reference24Ideal.Value

/-! ## The kernel -/

namespace Cert.Kernel24Ideal.Value

open Idealize.ShloMosaic Idealize.ShloMosaic.TcCoe Idealize.SL.Sem
open Idealize.ShloMosaic.Pipeline (Dat)
open Cert.Kernel24Ideal Cert.Kernel24Ideal.Gen

variable (m : (ℓ : Loc nD τ sig) → Buf (Elt Ideal) ℓ)

theorem idx : ∀ t : Fin cfg0.N, win0_0.index t = ![t.val / 1, 0]
    ∧ win0_1.index t = ![0, t.val % 1, 0]
    ∧ win0_2.index t = ![t.val / 1, t.val % 1] :=
  (by decide +kernel : ∀ t : Fin grid0.N, _)

theorem pay_at (w : Vec Ideal S4x512x512 .bf16) (a : Vec Ideal S512x2048 .bf16) (j : S512x512.Idx) :
    k0_pay1 (F := Ideal) (View.ld w r0_0) (View.ld w r0_1) (View.ld w r0_2) (View.ld w r0_3) a j
      = (∑ l : Fin 2048, (a (ix2 (j 0) l) : EReal) * w (ix3 ⟨l / 512, by omega⟩ (j 1) ⟨l % 512, by omega⟩)) := by
  pointwise [k0_pay1]
  blk_point []

/-- The result array, block by block. -/
theorem final (c : Dev nD) : (dats m 0 c).arrAt 2 (cfgs 0).N
    = Cert.Reference24Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference24Ideal.Value.ref_at]
  refine Fin.sum_fin_congr fun l => ?_
  blk_point [iblk, V, idx t]

/-- Kernel and reference leave the same gradient. -/
theorem same : Cert.algebraic_Kernel24Ideal_Reference24Ideal := by
  pair_intro
  · run_from Cert.Kernel24Ideal.Value.run_blocks m g
  · run_from Cert.Reference24Ideal.Value.run_ref m' g'
    · exact (final m c).symm

end Cert.Kernel24Ideal.Value

end
-- ==== Proof.Dhn1d.lean ====
/-
  The gradient of the mixers' input through the step sizes, added to the others.
-/
module

public import proofs.«01_k».proof.Defs
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference32Ideal.Value

open Idealize.ShloMosaic Idealize.ShloMosaic.TcCoe Idealize.SL.Sem
open Cert.Reference32Ideal Cert.Reference32Ideal.Gen

/-- The reference's result. -/
def ref (A : FVec Ideal S8192x128 .f32) (W : Vec Ideal S2048x128 .bf16) (X : Vec Ideal S8192x2048 .f32) : FVec Ideal S8192x2048 .f32 :=
  addf X (Host.dotGeneral dot_S8192x128_S2048x128_S8192x2048_1_1_0_0_n_n none A (extf .f32 W bitsLt_bf16_f32))

theorem ref_at (A : FVec Ideal S8192x128 .f32) (W : Vec Ideal S2048x128 .bf16) (X : Vec Ideal S8192x2048 .f32) (j : S8192x2048.Idx) :
    ref A W X j = (X j : EReal) + ∑ l : Fin 128, (A (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v4) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference32Ideal := fun m ρ _ =>
  (θ_run defs _ _).mono (fun r h => ⟨fun c => (h c).2, sem_eq_zero_of_no_sems (by decide) r.2⟩)
    (run (F := Ideal) m ρ)

end Cert.Reference32Ideal.Value

/-! ## The kernel -/

namespace Cert.Kernel32Ideal.Value

open Idealize.ShloMosaic Idealize.ShloMosaic.TcCoe Idealize.SL.Sem
open Idealize.ShloMosaic.Pipeline (Dat)
open Cert.Kernel32Ideal Cert.Kernel32Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2]
    ∧ win0_3.index t = ![t.val / 2, t.val % 2] :=
  (by decide +kernel : ∀ t : Fin grid0.N, _)

theorem pay_at (w : Vec Ideal S1024x128 .bf16) (a : Vec Ideal S1024x128 .f32) (x : Vec Ideal S1024x1024 .f32) (j : S1024x1024.Idx) :
    k0_pay1 (F := Ideal) w a x j
      = (∑ l : Fin 128, (a (ix2 (j 0) l) : EReal) * w (ix2 (j 1) l)) + (x j : EReal) := by
  pointwise [k0_pay1]

/-- The result array, block by block. -/
theorem final (c : Dev nD) : (dats m 0 c).arrAt 3 (cfgs 0).N
    = Cert.Reference32Ideal.Value.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_at, Cert.Reference32Ideal.Value.ref_at, add_comm]
  refine congrArg₂ (fun a b : EReal => a + b) ?_ ?_
  · blk_point [iblk, V, idx t]
  · refine Fin.sum_fin_congr fun l => ?_
    blk_point [iblk, V, idx t]

/-- Kernel and reference leave the same gradient. -/
theorem same : Cert.algebraic_Kernel32Ideal_Reference32Ideal := by
  pair_intro
  · run_from Cert.Kernel32Ideal.Value.run_blocks m g
  · run_from Cert.Reference32Ideal.Value.run_ref m' g'
    · exact (final m c).symm

end Cert.Kernel32Ideal.Value

end
-- ==== Proof.Dhn1s.lean ====
/-
  The gradient of the mixers' input through the short convolution, added to the others,
  gathered over three blocks of columns in a buffer that is carried from point to point.
-/
module

public import proofs.«01_k».proof.Defs
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference17Ideal.Value

open Idealize.ShloMosaic Idealize.ShloMosaic.TcCoe Idealize.SL.Sem
open Cert.Reference17Ideal Cert.Reference17Ideal.Gen

/-- The whole matrix, of its three shards. -/
def cols (W : Vec Ideal S3x8192x2048 .bf16) : FVec Ideal S8192x6144 .f32 :=
  concatenate S8192x6144 1
    [⟨S8192x2048, shapeCast _ (extractStridedSlice S1x8192x2048 ![0, 0, 0] (extf .f32 W bitsLt_bf16_f32)
        slices_S3x8192x2048_S1x8192x2048_0_0_0) shapeCasts_S1x8192x2048_S8192x2048⟩,
      ⟨S8192x2048, shapeCast _ (extractStridedSlice S1x8192x2048 ![1, 0, 0] (extf .f32 W bitsLt_bf16_f32)
        slices_S3x8192x2048_S1x8192x2048_1_0_0) shapeCasts_S1x8192x2048_S8192x2048⟩,
      ⟨S8192x2048, shapeCast _ (extractStridedSlice S1x8192x2048 ![2, 0, 0] (extf .f32 W bitsLt_bf16_f32)
        slices_S3x8192x2048_S1x8192x2048_2_0_0) shapeCasts_S1x8192x2048_S8192x2048⟩]
    concatenates_S8192x2048_S8192x2048_S8192x2048_S8192x6144_d1

theorem cols_at (W : Vec Ideal S3x8192x2048 .bf16) (i : Fin 8192) (l : Fin 6144) :
    cols W (ix2 i l) = (W (ix3 ⟨l / 2048, by omega⟩ i ⟨l % 2048, by omega⟩) : EReal) := by
  pointwise [cols]
  blk_point []

/-- The reference's result. -/
def ref (A : Vec Ideal S3x8192x2048 .bf16) (W : Vec Ideal S2048x6144 .bf16) (X : Vec Ideal S8192x2048 .f32) : FVec Ideal S8192x2048 .f32 :=
  addf X (Host.dotGeneral dot_S8192x6144_S2048x6144_S8192x2048_1_1_0_0_n_n none (cols A) (extf .f32 W bitsLt_bf16_f32))

theorem ref_at (A : Vec Ideal S3x8192x2048 .bf16) (W : Vec Ideal S2048x6144 .bf16) (X : Vec Ideal S8192x2048 .f32) (j : S8192x2048.Idx) :
    ref A W X j = (X j : EReal) + ∑ l : Fin 6144, (A (ix3 ⟨l / 2048, by omega⟩ (j 0) ⟨l % 2048, by omega⟩) : EReal)
      * W (ix2 (j 1) l) := by
  pointwise [ref, cols_at]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v12) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference17Ideal := fun m ρ _ =>
  (θ_run defs _ _).mono (fun r h => ⟨fun c => (h c).2, sem_eq_zero_of_no_sems (by decide) r.2⟩)
    (run (F := Ideal) m ρ)

end Cert.Reference17Ideal.Value

/-! ## The kernel -/

namespace Cert.Kernel17Ideal.Value

open Idealize.ShloMosaic Idealize.ShloMosaic.TcCoe Idealize.SL.Sem
open Idealize.ShloMosaic.Pipeline (Dat)
open Cert.Kernel17Ideal Cert.Kernel17Ideal.Gen

variable (m : (ℓ : Loc nD τ sig) → Buf (Elt Ideal) ℓ)

theorem idx : ∀ t : Fin cfg0.N, win0_0.index t = ![t.val % 3, t.val / 6, 0]
    ∧ win0_1.index t = ![t.val / 3 % 2, t.val % 3]
    ∧ win0_2.index t = ![t.val / 6, t.val / 3 % 2]
    ∧ win0_3.index t = ![t.val / 6, t.val / 3 % 2] :=
  (by decide +kernel : ∀ t : Fin grid0.N, _)

/-- One block's share of the product. -/
def part (w : Vec Ideal S1024x2048 .bf16) (a : Vec Ideal S1x1024x2048 .bf16) (j : S1024x1024.Idx) : EReal :=
  ∑ l : Fin 2048, (a (ix3 0 (j 0) l) : EReal) * w (ix2 (j 1) l)

theorem first_at (w : Vec Ideal S1024x2048 .bf16) (a : Vec Ideal S1x1024x2048 .bf16) (j : S1024x1024.Idx) :
    k0_pay2 (F := Ideal) w a j = part w a j := by
  pointwise [k0_pay2, k0_pay1, part]

theorem next_at (w : Vec Ideal S1024x2048 .bf16) (a : Vec Ideal S1x1024x2048 .bf16) (s : Vec Ideal S1024x1024 .f32)
    (j : S1024x1024.Idx) : k0_pay3 (F := Ideal) w a s j = (s j : EReal) + part w a j := by
  pointwise [k0_pay3, k0_pay1, part]

theorem last_at (s x : Vec Ideal S1024x1024 .f32) (j : S1024x1024.Idx) : k0_pay4 (F := Ideal) s x j = (x j : EReal) + s j := by
  pointwise [k0_pay4]
  exact add_comm _ _

/-- What the carried buffer gains at grid point `p`. -/
def gain (c : Dev nD) (p : Fin cfg0.N) (j : S1024x1024.Idx) : EReal := part (iblk m c 1 p) (iblk m c 0 p) j

theorem reset (c : Dev nD) (t : Fin cfg0.N) (h : t.val % 3 = 0) (j : S1024x1024.Idx) :
    (outsAt0 m c t.val t.isLt).2 j = gain m c t j := by
  rw [outsAt0_A m c t h (by omega) (by omega)]
  frame_out
  rw [first_at]
  rfl

theorem step (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + gain m c t j := by
  by_cases h3 : t.val % 3 = 2
  · rw [outsAt0_C m c t h (by omega) h3]
    frame_out
    rw [next_at, read_unread_whole]
    rfl
  · rw [outsAt0_B m c t h (by omega) h3]
    frame_out
    rw [next_at, read_unread_whole]
    rfl

/-- An entry of what there is already. -/
def entry (x : Vec Ideal S1024x1024 .f32) (j : S1024x1024.Idx) : EReal := x j

/-- At the last point of a run the output is what there is already plus the carried buffer. -/
theorem out_last (c : Dev nD) (t : Fin cfg0.N) (h3 : t.val % 3 = 2) (j : S1024x1024.Idx) :
    (outsAt0 m c t.val t.isLt).1 j = entry (iblk m c 2 t) j + (outsAt0 m c t.val t.isLt).2 j := by
  rw [outsAt0_C m c t (by omega) (by omega) h3]
  frame_out
  rw [last_at]
  rfl

/-- The result array, block by block. -/
theorem final (c : Dev nD) : (dats m 0 c).arrAt 3 (cfgs 0).N
    = Cert.Reference17Ideal.Value.ref (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3, out_last m c t ((flush0_3 t).mp hf), Pipeline.eq_sum_fin_of_reset_step_apply_of_flush
    (fun n h => (outsAt0 m c n h).2) 3 (fun _ => 0) (gain m c) (fun t h j => (reset m c t h j).trans (zero_add _).symm)
    (fun t h j => step m c t h j) t ((flush0_3 t).mp hf) _, zero_add, Cert.Reference17Ideal.Value.ref_at]
  refine congrArg₂ (fun a b : EReal => a + b) ?_ ?_
  · blk_point [entry, iblk, V, idx t]
  refine Fin.sum_mul_add_congr fun s l hl => ?_
  blk_point [iblk, V, idx t, idx ⟨_, Pipeline.run_point_lt_of_flush t ((flush0_3 t).mp hf) s⟩]

/-- Kernel and reference leave the same gradient. -/
theorem same : Cert.algebraic_Kernel17Ideal_Reference17Ideal := by
  pair_intro
  · run_from Cert.Kernel17Ideal.Value.run_blocks m g
  · run_from Cert.Reference17Ideal.Value.run_ref m' g'
    · exact (final m c).symm

end Cert.Kernel17Ideal.Value

end
-- ==== Proof.Dhn1x.lean ====
/-
  The gradient of the mixers' input through the state-space channels, added to the one through the gate.
-/
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference16Ideal.Value

open Idealize.ShloMosaic Idealize.ShloMosaic.TcCoe Idealize.SL.Sem
open Cert.Reference16Ideal Cert.Reference16Ideal.Gen

/-- The reference's result. -/
def ref (A : Vec Ideal S8192x3072 .bf16) (W : Vec Ideal S2048x3072 .bf16) (X : Vec Ideal S8192x2048 .f32) : FVec Ideal S8192x2048 .f32 :=
  addf X (Host.dotGeneral dot_S8192x3072_S2048x3072_S8192x2048_1_1_0_0_n_n none (extf .f32 A bitsLt_bf16_f32) (extf .f32 W bitsLt_bf16_f32))

theorem ref_at (A : Vec Ideal S8192x3072 .bf16) (W : Vec Ideal S2048x3072 .bf16) (X : Vec Ideal S8192x2048 .f32) (j : S8192x2048.Idx) :
    ref A W X j = (X j : EReal) + ∑ l : Fin 3072, (A (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v5) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference16Ideal := fun m ρ _ =>
  (θ_run defs _ _).mono (fun r h => ⟨fun c => (h c).2, sem_eq_zero_of_no_sems (by decide) r.2⟩)
    (run (F := Ideal) m ρ)

end Cert.Reference16Ideal.Value

/-! ## The kernel -/

namespace Cert.Kernel16Ideal.Value

open Idealize.ShloMosaic Idealize.ShloMosaic.TcCoe Idealize.SL.Sem
open Idealize.ShloMosaic.Pipeline (Dat)
open Cert.Kernel16Ideal Cert.Kernel16Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2]
    ∧ win0_3.index t = ![t.val / 2, t.val % 2] :=
  (by decide +kernel : ∀ t : Fin grid0.N, _)

theorem pay_at (w : Vec Ideal S1024x3072 .bf16) (a : Vec Ideal S1024x3072 .bf16) (x : Vec Ideal S1024x1024 .f32) (j : S1024x1024.Idx) :
    k0_pay1 (F := Ideal) w a x j
      = (∑ l : Fin 3072, (a (ix2 (j 0) l) : EReal) * w (ix2 (j 1) l)) + (x j : EReal) := by
  pointwise [k0_pay1]

/-- The result array, block by block. -/
theorem final (c : Dev nD) : (dats m 0 c).arrAt 3 (cfgs 0).N
    = Cert.Reference16Ideal.Value.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_at, Cert.Reference16Ideal.Value.ref_at, add_comm]
  refine congrArg₂ (fun a b : EReal => a + b) ?_ ?_
  · blk_point [iblk, V, idx t]
  · refine Fin.sum_fin_congr fun l => ?_
    blk_point [iblk, V, idx t]

/-- Kernel and reference leave the same gradient. -/
theorem same : Cert.algebraic_Kernel16Ideal_Reference16Ideal := by
  pair_intro
  · run_from Cert.Kernel16Ideal.Value.run_blocks m g
  · run_from Cert.Reference16Ideal.Value.run_ref m' g'
    · exact (final m c).symm

end Cert.Kernel16Ideal.Value

end
-- ==== Proof.Dhn1z.lean ====
/-
  The gradient of the mixers' input through the gate.
-/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference15Ideal.Value

open Idealize.ShloMosaic Idealize.ShloMosaic.TcCoe Idealize.SL.Sem
open Cert.Reference15Ideal Cert.Reference15Ideal.Gen

/-- The reference's result. -/
def ref (A : Vec Ideal S8192x2048 .bf16) (W : Vec Ideal S2048x2048 .bf16) : FVec Ideal S8192x2048 .f32 :=
  Host.dotGeneral dot_S8192x2048_S2048x2048_S8192x2048_1_1_0_0_n_n none (extf .f32 A bitsLt_bf16_f32) (extf .f32 W bitsLt_bf16_f32)

theorem ref_at (A : Vec Ideal S8192x2048 .bf16) (W : Vec Ideal S2048x2048 .bf16) (j : S8192x2048.Idx) :
    ref A W j = ∑ l : Fin 2048, (A (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v4) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference15Ideal := fun m ρ _ =>
  (θ_run defs _ _).mono (fun r h => ⟨fun c => (h c).2, sem_eq_zero_of_no_sems (by decide) r.2⟩)
    (run (F := Ideal) m ρ)

end Cert.Reference15Ideal.Value

/-! ## The kernel -/

namespace Cert.Kernel15Ideal.Value

open Idealize.ShloMosaic Idealize.ShloMosaic.TcCoe Idealize.SL.Sem
open Idealize.ShloMosaic.Pipeline (Dat)
open Cert.Kernel15Ideal Cert.Kernel15Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

theorem pay_at (w : Vec Ideal S1024x2048 .bf16) (a : Vec Ideal S1024x2048 .bf16) (j : S1024x1024.Idx) :
    k0_pay1 (F := Ideal) w a j
      = (∑ l : Fin 2048, (a (ix2 (j 0) l) : EReal) * w (ix2 (j 1) l)) := by
  pointwise [k0_pay1]

/-- The result array, block by block. -/
theorem final (c : Dev nD) : (dats m 0 c).arrAt 2 (cfgs 0).N
    = Cert.Reference15Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference15Ideal.Value.ref_at]
  refine Fin.sum_fin_congr fun l => ?_
  blk_point [iblk, V, idx t]

/-- Kernel and reference leave the same gradient. -/
theorem same : Cert.algebraic_Kernel15Ideal_Reference15Ideal := by
  pair_intro
  · run_from Cert.Kernel15Ideal.Value.run_blocks m g
  · run_from Cert.Reference15Ideal.Value.run_ref m' g'
    · exact (final m c).symm

end Cert.Kernel15Ideal.Value

end
-- ==== Proof.Dhn2.lean ====
/-
  The gradient of the memory attention's input.
-/
module

public import proofs.«01_k».proof.Defs
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference28Ideal.Value

open Idealize.ShloMosaic Idealize.ShloMosaic.TcCoe Idealize.SL.Sem
open Cert.Reference28Ideal Cert.Reference28Ideal.Gen

/-- The reference's result. -/
def ref (A : Vec Ideal S8192x512 .bf16) (W : Vec Ideal S2048x512 .bf16) : FVec Ideal S8192x2048 .f32 :=
  Host.dotGeneral dot_S8192x512_S2048x512_S8192x2048_1_1_0_0_n_n none (extf .f32 A bitsLt_bf16_f32) (extf .f32 W bitsLt_bf16_f32)

theorem ref_at (A : Vec Ideal S8192x512 .bf16) (W : Vec Ideal S2048x512 .bf16) (j : S8192x2048.Idx) :
    ref A W j = ∑ l : Fin 512, (A (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v4) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference28Ideal := fun m ρ _ =>
  (θ_run defs _ _).mono (fun r h => ⟨fun c => (h c).2, sem_eq_zero_of_no_sems (by decide) r.2⟩)
    (run (F := Ideal) m ρ)

end Cert.Reference28Ideal.Value

/-! ## The kernel -/

namespace Cert.Kernel28Ideal.Value

open Idealize.ShloMosaic Idealize.ShloMosaic.TcCoe Idealize.SL.Sem
open Idealize.ShloMosaic.Pipeline (Dat)
open Cert.Kernel28Ideal Cert.Kernel28Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

theorem pay_at (w : Vec Ideal S1024x512 .bf16) (a : Vec Ideal S1024x512 .bf16) (j : S1024x1024.Idx) :
    k0_pay1 (F := Ideal) w a j
      = (∑ l : Fin 512, (a (ix2 (j 0) l) : EReal) * w (ix2 (j 1) l)) := by
  pointwise [k0_pay1]

/-- The result array, block by block. -/
theorem final (c : Dev nD) : (dats m 0 c).arrAt 2 (cfgs 0).N
    = Cert.Reference28Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference28Ideal.Value.ref_at]
  refine Fin.sum_fin_congr fun l => ?_
  blk_point [iblk, V, idx t]

/-- Kernel and reference leave the same gradient. -/
theorem same : Cert.algebraic_Kernel28Ideal_Reference28Ideal := by
  pair_intro
  · run_from Cert.Kernel28Ideal.Value.run_blocks m g
  · run_from Cert.Reference28Ideal.Value.run_ref m' g'
    · exact (final m c).symm

end Cert.Kernel28Ideal.Value

end
-- ==== Proof.DhnGate.lean ====
/-
  The gradient of the feed-forward block's input through the gate projection.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

/-! ## The reference -/

namespace Cert.Reference6Ideal.Value

open Idealize.ShloMosaic Idealize.ShloMosaic.TcCoe Idealize.SL.Sem
open Cert.Reference6Ideal Cert.Reference6Ideal.Gen

/-- The whole weight, of its four shards. -/
def cols (W : Vec Ideal S4x2048x1408 .bf16) : FVec Ideal S2048x5632 .f32 :=
  concatenate S2048x5632 1
    [⟨S2048x1408, shapeCast _ (extractStridedSlice S1x2048x1408 ![0, 0, 0] (extf .f32 W bitsLt_bf16_f32)
        slices_S4x2048x1408_S1x2048x1408_0_0_0) shapeCasts_S1x2048x1408_S2048x1408⟩,
      ⟨S2048x1408, shapeCast _ (extractStridedSlice S1x2048x1408 ![1, 0, 0] (extf .f32 W bitsLt_bf16_f32)
        slices_S4x2048x1408_S1x2048x1408_1_0_0) shapeCasts_S1x2048x1408_S2048x1408⟩,
      ⟨S2048x1408, shapeCast _ (extractStridedSlice S1x2048x1408 ![2, 0, 0] (extf .f32 W bitsLt_bf16_f32)
        slices_S4x2048x1408_S1x2048x1408_2_0_0) shapeCasts_S1x2048x1408_S2048x1408⟩,
      ⟨S2048x1408, shapeCast _ (extractStridedSlice S1x2048x1408 ![3, 0, 0] (extf .f32 W bitsLt_bf16_f32)
        slices_S4x2048x1408_S1x2048x1408_3_0_0) shapeCasts_S1x2048x1408_S2048x1408⟩]
    concatenates_S2048x1408_S2048x1408_S2048x1408_S2048x1408_S2048x5632_d1

theorem cols_at (W : Vec Ideal S4x2048x1408 .bf16) (i : Fin 2048) (l : Fin 5632) :
    cols W (ix2 i l) = (W (ix3 ⟨l / 1408, by omega⟩ i ⟨l % 1408, by omega⟩) : EReal) := by
  pointwise [cols]
  blk_point []

/-- The reference's result. -/
def ref (G : Vec Ideal S8192x5632 .bf16) (W : Vec Ideal S4x2048x1408 .bf16) : FVec Ideal S8192x2048 .f32 :=
  (Host.dotGeneral dot_S8192x5632_S2048x5632_S8192x2048_1_1_0_0_n_n none (extf .f32 G bitsLt_bf16_f32) (cols W))

theorem ref_at (G : Vec Ideal S8192x5632 .bf16) (W : Vec Ideal S4x2048x1408 .bf16) (j : S8192x2048.Idx) :
    ref G W j = ∑ l : Fin 5632, (G (ix2 (j 0) l) : EReal) * W (ix3 ⟨l / 1408, by omega⟩ (j 1) ⟨l % 1408, by omega⟩) := by
  pointwise [ref, cols_at]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v13) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference6Ideal := fun m ρ _ =>
  (θ_run defs _ _).mono (fun r h => ⟨fun c => (h c).2, sem_eq_zero_of_no_sems (by decide) r.2⟩)
    (run (F := Ideal) m ρ)

end Cert.Reference6Ideal.Value

/-! ## The kernel -/

namespace Cert.Kernel6Ideal.Value

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

theorem idx : ∀ t : Fin cfg0.N, win0_0.index t = ![t.val / 4, 0] ∧ win0_1.index t = ![0, t.val % 4, 0]
    ∧ win0_2.index t = ![t.val / 4, t.val % 4] :=
  (by decide +kernel : ∀ t : Fin grid0.N, _)

theorem pay_at (w : Vec Ideal S4x512x1408 .bf16) (g : Vec Ideal S512x5632 .bf16) (j : S512x512.Idx) :
    k0_pay1 (F := Ideal) (View.ld w r0_0) (View.ld w r0_1) (View.ld w r0_2) (View.ld w r0_3) g j
      = (∑ l : Fin 5632, (g (ix2 (j 0) l) : EReal) * w (ix3 ⟨l / 1408, by omega⟩ (j 1) ⟨l % 1408, by omega⟩)) := by
  pointwise [k0_pay1]
  blk_point []

/-- The result array, block by block. -/
theorem final (c : Dev nD) : (dats m 0 c).arrAt 2 (cfgs 0).N
    = Cert.Reference6Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference6Ideal.Value.ref_at]
  skip
  · refine Fin.sum_fin_congr fun l => ?_
    blk_point [iblk, V, idx t]

/-- Kernel and reference leave the same gradient. -/
theorem same : Cert.algebraic_Kernel6Ideal_Reference6Ideal := by
  pair_intro
  · run_from Cert.Kernel6Ideal.Value.run_blocks m g
  · run_from Cert.Reference6Ideal.Value.run_ref m' g'
    · exact (final m c).symm

end Cert.Kernel6Ideal.Value

end
-- ==== Proof.DhnUp.lean ====
/-
  The gradient of the feed-forward block's input through the up projection, added to the one through the gate.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

/-! ## The reference -/

namespace Cert.Reference5Ideal.Value

open Idealize.ShloMosaic Idealize.ShloMosaic.TcCoe Idealize.SL.Sem
open Cert.Reference5Ideal Cert.Reference5Ideal.Gen

/-- The whole weight, of its four shards. -/
def cols (W : Vec Ideal S4x2048x1408 .bf16) : FVec Ideal S2048x5632 .f32 :=
  concatenate S2048x5632 1
    [⟨S2048x1408, shapeCast _ (extractStridedSlice S1x2048x1408 ![0, 0, 0] (extf .f32 W bitsLt_bf16_f32)
        slices_S4x2048x1408_S1x2048x1408_0_0_0) shapeCasts_S1x2048x1408_S2048x1408⟩,
      ⟨S2048x1408, shapeCast _ (extractStridedSlice S1x2048x1408 ![1, 0, 0] (extf .f32 W bitsLt_bf16_f32)
        slices_S4x2048x1408_S1x2048x1408_1_0_0) shapeCasts_S1x2048x1408_S2048x1408⟩,
      ⟨S2048x1408, shapeCast _ (extractStridedSlice S1x2048x1408 ![2, 0, 0] (extf .f32 W bitsLt_bf16_f32)
        slices_S4x2048x1408_S1x2048x1408_2_0_0) shapeCasts_S1x2048x1408_S2048x1408⟩,
      ⟨S2048x1408, shapeCast _ (extractStridedSlice S1x2048x1408 ![3, 0, 0] (extf .f32 W bitsLt_bf16_f32)
        slices_S4x2048x1408_S1x2048x1408_3_0_0) shapeCasts_S1x2048x1408_S2048x1408⟩]
    concatenates_S2048x1408_S2048x1408_S2048x1408_S2048x1408_S2048x5632_d1

theorem cols_at (W : Vec Ideal S4x2048x1408 .bf16) (i : Fin 2048) (l : Fin 5632) :
    cols W (ix2 i l) = (W (ix3 ⟨l / 1408, by omega⟩ i ⟨l % 1408, by omega⟩) : EReal) := by
  pointwise [cols]
  blk_point []

/-- The reference's result. -/
def ref (G : Vec Ideal S8192x5632 .bf16) (W : Vec Ideal S4x2048x1408 .bf16) (D : Vec Ideal S8192x2048 .f32) : FVec Ideal S8192x2048 .f32 :=
  addf D (Host.dotGeneral dot_S8192x5632_S2048x5632_S8192x2048_1_1_0_0_n_n none (extf .f32 G bitsLt_bf16_f32) (cols W))

theorem ref_at (G : Vec Ideal S8192x5632 .bf16) (W : Vec Ideal S4x2048x1408 .bf16) (D : Vec Ideal S8192x2048 .f32) (j : S8192x2048.Idx) :
    ref G W D j = (D j : EReal) + ∑ l : Fin 5632, (G (ix2 (j 0) l) : EReal) * W (ix3 ⟨l / 1408, by omega⟩ (j 1) ⟨l % 1408, by omega⟩) := by
  pointwise [ref, cols_at]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v14) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference5Ideal := fun m ρ _ =>
  (θ_run defs _ _).mono (fun r h => ⟨fun c => (h c).2, sem_eq_zero_of_no_sems (by decide) r.2⟩)
    (run (F := Ideal) m ρ)

end Cert.Reference5Ideal.Value

/-! ## The kernel -/

namespace Cert.Kernel5Ideal.Value

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

theorem idx : ∀ t : Fin cfg0.N, win0_0.index t = ![t.val / 4, 0] ∧ win0_1.index t = ![0, t.val % 4, 0]
    ∧ win0_2.index t = ![t.val / 4, t.val % 4]
    ∧ win0_3.index t = ![t.val / 4, t.val % 4] :=
  (by decide +kernel : ∀ t : Fin grid0.N, _)

theorem pay_at (w : Vec Ideal S4x512x1408 .bf16) (g : Vec Ideal S512x5632 .bf16) (d : Vec Ideal S512x512 .f32) (j : S512x512.Idx) :
    k0_pay1 (F := Ideal) (View.ld w r0_0) (View.ld w r0_1) (View.ld w r0_2) (View.ld w r0_3) g d j
      = (∑ l : Fin 5632, (g (ix2 (j 0) l) : EReal) * w (ix3 ⟨l / 1408, by omega⟩ (j 1) ⟨l % 1408, by omega⟩)) + (d j : EReal) := by
  pointwise [k0_pay1]
  blk_point []

/-- The result array, block by block. -/
theorem final (c : Dev nD) : (dats m 0 c).arrAt 3 (cfgs 0).N
    = Cert.Reference5Ideal.Value.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_at, Cert.Reference5Ideal.Value.ref_at, add_comm]
  refine congrArg₂ (fun a b : EReal => a + b) ?_ ?_
  · blk_point [iblk, V, idx t]
  · refine Fin.sum_fin_congr fun l => ?_
    blk_point [iblk, V, idx t]

/-- Kernel and reference leave the same gradient. -/
theorem same : Cert.algebraic_Kernel5Ideal_Reference5Ideal := by
  pair_intro
  · run_from Cert.Kernel5Ideal.Value.run_blocks m g
  · run_from Cert.Reference5Ideal.Value.run_ref m' g'
    · exact (final m c).symm

end Cert.Kernel5Ideal.Value

end
-- ==== Proof.Dmemn.lean ====
/-
  The gradient of the memory through the keys (or the values), added to what is there.
-/
module

public import proofs.«01_k».proof.Defs
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference30Ideal.Value

open Idealize.ShloMosaic Idealize.ShloMosaic.TcCoe Idealize.SL.Sem
open Cert.Reference30Ideal Cert.Reference30Ideal.Gen

/-- The reference's result. -/
def ref (A : FVec Ideal S256x512 .f32) (W : Vec Ideal S2048x512 .bf16) (X : Vec Ideal S256x2048 .f32) : FVec Ideal S256x2048 .f32 :=
  addf X (Host.dotGeneral dot_S256x512_S2048x512_S256x2048_1_1_0_0_n_n none A (extf .f32 W bitsLt_bf16_f32))

theorem ref_at (A : FVec Ideal S256x512 .f32) (W : Vec Ideal S2048x512 .bf16) (X : Vec Ideal S256x2048 .f32) (j : S256x2048.Idx) :
    ref A W X j = (X j : EReal) + ∑ l : Fin 512, (A (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v4) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference30Ideal := fun m ρ _ =>
  (θ_run defs _ _).mono (fun r h => ⟨fun c => (h c).2, sem_eq_zero_of_no_sems (by decide) r.2⟩)
    (run (F := Ideal) m ρ)

end Cert.Reference30Ideal.Value

/-! ## The kernel -/

namespace Cert.Kernel30Ideal.Value

open Idealize.ShloMosaic Idealize.ShloMosaic.TcCoe Idealize.SL.Sem
open Idealize.ShloMosaic.Pipeline (Dat)
open Cert.Kernel30Ideal Cert.Kernel30Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2]
    ∧ win0_3.index t = ![t.val / 2, t.val % 2] :=
  (by decide +kernel : ∀ t : Fin grid0.N, _)

theorem pay_at (w : Vec Ideal S1024x512 .bf16) (a : Vec Ideal S256x512 .f32) (x : Vec Ideal S256x1024 .f32) (j : S256x1024.Idx) :
    k0_pay1 (F := Ideal) w a x j
      = (∑ l : Fin 512, (a (ix2 (j 0) l) : EReal) * w (ix2 (j 1) l)) + (x j : EReal) := by
  pointwise [k0_pay1]

/-- The result array, block by block. -/
theorem final (c : Dev nD) : (dats m 0 c).arrAt 3 (cfgs 0).N
    = Cert.Reference30Ideal.Value.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_at, Cert.Reference30Ideal.Value.ref_at, add_comm]
  refine congrArg₂ (fun a b : EReal => a + b) ?_ ?_
  · blk_point [iblk, V, idx t]
  · refine Fin.sum_fin_congr fun l => ?_
    blk_point [iblk, V, idx t]

/-- Kernel and reference leave the same gradient. -/
theorem same : Cert.algebraic_Kernel30Ideal_Reference30Ideal := by
  pair_intro
  · run_from Cert.Kernel30Ideal.Value.run_blocks m g
  · run_from Cert.Reference30Ideal.Value.run_ref m' g'
    · exact (final m c).symm

end Cert.Kernel30Ideal.Value

end
-- ==== Proof.DmemnFirst.lean ====
/-
  The gradient of the memory, first of its summands.
-/
module

public import proofs.«01_k».proof.Defs
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference29Ideal.Value

open Idealize.ShloMosaic Idealize.ShloMosaic.TcCoe Idealize.SL.Sem
open Cert.Reference29Ideal Cert.Reference29Ideal.Gen

/-- The reference's result. -/
def ref (A : FVec Ideal S256x512 .f32) (W : Vec Ideal S2048x512 .bf16) : FVec Ideal S256x2048 .f32 :=
  Host.dotGeneral dot_S256x512_S2048x512_S256x2048_1_1_0_0_n_n none A (extf .f32 W bitsLt_bf16_f32)

theorem ref_at (A : FVec Ideal S256x512 .f32) (W : Vec Ideal S2048x512 .bf16) (j : S256x2048.Idx) :
    ref A W j = ∑ l : Fin 512, (A (ix2 (j 0) l) : EReal) * W (ix2 (j 1) l) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference29Ideal := fun m ρ _ =>
  (θ_run defs _ _).mono (fun r h => ⟨fun c => (h c).2, sem_eq_zero_of_no_sems (by decide) r.2⟩)
    (run (F := Ideal) m ρ)

end Cert.Reference29Ideal.Value

/-! ## The kernel -/

namespace Cert.Kernel29Ideal.Value

open Idealize.ShloMosaic Idealize.ShloMosaic.TcCoe Idealize.SL.Sem
open Idealize.ShloMosaic.Pipeline (Dat)
open Cert.Kernel29Ideal Cert.Kernel29Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

theorem pay_at (w : Vec Ideal S1024x512 .bf16) (a : Vec Ideal S256x512 .f32) (j : S256x1024.Idx) :
    k0_pay1 (F := Ideal) w a j
      = (∑ l : Fin 512, (a (ix2 (j 0) l) : EReal) * w (ix2 (j 1) l)) := by
  pointwise [k0_pay1]

/-- The result array, block by block. -/
theorem final (c : Dev nD) : (dats m 0 c).arrAt 2 (cfgs 0).N
    = Cert.Reference29Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference29Ideal.Value.ref_at]
  refine Fin.sum_fin_congr fun l => ?_
  blk_point [iblk, V, idx t]

/-- Kernel and reference leave the same gradient. -/
theorem same : Cert.algebraic_Kernel29Ideal_Reference29Ideal := by
  pair_intro
  · run_from Cert.Kernel29Ideal.Value.run_blocks m g
  · run_from Cert.Reference29Ideal.Value.run_ref m' g'
    · exact (final m c).symm

end Cert.Kernel29Ideal.Value

end
-- ==== Proof.DwDown.lean ====
/-
  The gradient of the down projection: the activations' transpose times the upstream gradient, gathered over four
  blocks of 2048 tokens in a buffer that is carried from grid point to grid point.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference2Ideal.Value

open Idealize.ShloMosaic Idealize.ShloMosaic.TcCoe Idealize.SL.Sem
open Cert.Reference2Ideal Cert.Reference2Ideal.Gen

/-- The reference's result. -/
def ref (A : Vec Ideal S8192x5632 .bf16) (O : Vec Ideal S8192x2048 .bf16) : FVec Ideal S5632x2048 .bf16 :=
  truncf .bf16 (transpose S5632x2048 [1, 0] (Host.dotGeneral dot_S8192x2048_S8192x5632_S2048x5632_0_0_1_1_n_n none
    (extf .f32 O bitsLt_bf16_f32) (extf .f32 A bitsLt_bf16_f32)) transposes_S2048x5632_S5632x2048_1_0) bitsLt_bf16_f32

theorem ref_at (A : Vec Ideal S8192x5632 .bf16) (O : Vec Ideal S8192x2048 .bf16) (j : S5632x2048.Idx) :
    ref A O j = ∑ l : Fin 8192, (A (ix2 l (j 0)) : EReal) * O (ix2 l (j 1)) := by
  have h : ref A O j = ∑ l : Fin 8192, (O (ix2 l (j 1)) : EReal) * A (ix2 l (j 0)) := by pointwise [ref]
  rw [h]
  exact Finset.sum_congr rfl fun l _ => mul_comm _ _

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v6) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference2Ideal := fun m ρ _ =>
  (θ_run defs _ _).mono (fun r h => ⟨fun c => (h c).2, sem_eq_zero_of_no_sems (by decide) r.2⟩)
    (run (F := Ideal) m ρ)

end Cert.Reference2Ideal.Value

/-! ## The kernel -/

namespace Cert.Kernel2Ideal.Value

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- One block's share of the product. -/
def part (g : Vec Ideal S2048x1024 .bf16) (a : Vec Ideal S2048x1408 .bf16) (j : S1408x1024.Idx) : EReal :=
  ∑ l : Fin 2048, (a (ix2 l (j 0)) : EReal) * g (ix2 l (j 1))

theorem first_at (g : Vec Ideal S2048x1024 .bf16) (a : Vec Ideal S2048x1408 .bf16) (j : S1408x1024.Idx) :
    k0_pay2 (F := Ideal) g a j = part g a j := by
  pointwise [k0_pay2, k0_pay1, part]

theorem next_at (g : Vec Ideal S2048x1024 .bf16) (a : Vec Ideal S2048x1408 .bf16) (s : Vec Ideal S1408x1024 .f32)
    (j : S1408x1024.Idx) : k0_pay3 (F := Ideal) g a s j = (s j : EReal) + part g a j := by
  pointwise [k0_pay3, k0_pay1, part]

theorem last_at (s : Vec Ideal S1408x1024 .f32) (j : S1408x1024.Idx) : k0_pay4 (F := Ideal) s j = (s j : EReal) := by
  pointwise [k0_pay4]

/-- What the carried buffer gains at grid point `p`. -/
def gain (c : Dev nD) (p : Fin cfg0.N) (j : S1408x1024.Idx) : EReal := part (iblk m c 1 p) (iblk m c 0 p) j

theorem reset (c : Dev nD) (t : Fin cfg0.N) (h : t.val % 4 = 0) (j : S1408x1024.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1408x1024.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1408x1024.Idx) :
    (outsAt0 m c t.val t.isLt).1 j = (outsAt0 m c t.val t.isLt).2 j := by
  rw [outsAt0_C m c t (by omega) (by omega) h3]
  frame_out
  rw [last_at]

/-- The result array, block by block. -/
theorem final (c : Dev nD) : (dats m 0 c).arrAt 2 (cfgs 0).N
    = Cert.Reference2Ideal.Value.ref (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add, Cert.Reference2Ideal.Value.ref_at]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel2Ideal_Reference2Ideal := by
  pair_intro
  · run_from Cert.Kernel2Ideal.Value.run_blocks m g
  · run_from Cert.Reference2Ideal.Value.run_ref m' g'
    · exact (final m c).symm

end Cert.Kernel2Ideal.Value

end
-- ==== Proof.DwDt.lean ====
/-
  The gradient of the input projection's part for the step sizes,
  gathered over four blocks of tokens in a buffer that is carried from point to point.
-/
module

public import proofs.«01_k».proof.Defs
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference33Ideal.Value

open Idealize.ShloMosaic Idealize.ShloMosaic.TcCoe Idealize.SL.Sem
open Cert.Reference33Ideal Cert.Reference33Ideal.Gen

/-- The reference's result. -/
def ref (A : Vec Ideal S8192x2048 .bf16) (G : FVec Ideal S8192x128 .f32) : FVec Ideal S2048x128 .bf16 :=
  truncf .bf16 (transpose S2048x128 [1, 0] (Host.dotGeneral dot_S8192x128_S8192x2048_S128x2048_0_0_1_1_n_n none
    G (extf .f32 A bitsLt_bf16_f32)) transposes_S128x2048_S2048x128_1_0) bitsLt_bf16_f32

theorem ref_at (A : Vec Ideal S8192x2048 .bf16) (G : FVec Ideal S8192x128 .f32) (j : S2048x128.Idx) :
    ref A G j = ∑ l : Fin 8192, (A (ix2 l (j 0)) : EReal) * G (ix2 l (j 1)) := by
  have h : ref A G j = ∑ l : Fin 8192, (G (ix2 l (j 1)) : EReal) * A (ix2 l (j 0)) := by pointwise [ref]
  rw [h]
  exact Finset.sum_congr rfl fun l _ => mul_comm _ _

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v5) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference33Ideal := fun m ρ _ =>
  (θ_run defs _ _).mono (fun r h => ⟨fun c => (h c).2, sem_eq_zero_of_no_sems (by decide) r.2⟩)
    (run (F := Ideal) m ρ)

end Cert.Reference33Ideal.Value

/-! ## The kernel -/

namespace Cert.Kernel33Ideal.Value

open Idealize.ShloMosaic Idealize.ShloMosaic.TcCoe Idealize.SL.Sem
open Idealize.ShloMosaic.Pipeline (Dat)
open Cert.Kernel33Ideal Cert.Kernel33Ideal.Gen

variable (m : (ℓ : Loc nD τ sig) → Buf (Elt Ideal) ℓ)

theorem idx : ∀ t : Fin cfg0.N, win0_0.index t = ![t.val % 4, t.val / 4]
    ∧ win0_1.index t = ![t.val % 4, t.val / 4 % 1]
    ∧ win0_2.index t = ![t.val / 4, t.val / 4 % 1] :=
  (by decide +kernel : ∀ t : Fin grid0.N, _)

/-- One block's share of the product. -/
def part (w : Vec Ideal S2048x128 .f32) (a : Vec Ideal S2048x1024 .bf16) (j : S1024x128.Idx) : EReal :=
  ∑ l : Fin 2048, (a (ix2 l (j 0)) : EReal) * w (ix2 l (j 1))

theorem first_at (w : Vec Ideal S2048x128 .f32) (a : Vec Ideal S2048x1024 .bf16) (j : S1024x128.Idx) :
    k0_pay2 (F := Ideal) w a j = part w a j := by
  pointwise [k0_pay2, k0_pay1, part]

theorem next_at (w : Vec Ideal S2048x128 .f32) (a : Vec Ideal S2048x1024 .bf16) (s : Vec Ideal S1024x128 .f32)
    (j : S1024x128.Idx) : k0_pay3 (F := Ideal) w a s j = (s j : EReal) + part w a j := by
  pointwise [k0_pay3, k0_pay1, part]

theorem last_at (s : Vec Ideal S1024x128 .f32) (j : S1024x128.Idx) : k0_pay4 (F := Ideal) s j = (s j : EReal) := by
  pointwise [k0_pay4]

/-- What the carried buffer gains at grid point `p`. -/
def gain (c : Dev nD) (p : Fin cfg0.N) (j : S1024x128.Idx) : EReal := part (iblk m c 1 p) (iblk m c 0 p) j

theorem reset (c : Dev nD) (t : Fin cfg0.N) (h : t.val % 4 = 0) (j : S1024x128.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1024x128.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1024x128.Idx) :
    (outsAt0 m c t.val t.isLt).1 j = (outsAt0 m c t.val t.isLt).2 j := by
  rw [outsAt0_C m c t (by omega) (by omega) h3]
  frame_out
  rw [last_at]

/-- The result array, block by block. -/
theorem final (c : Dev nD) : (dats m 0 c).arrAt 2 (cfgs 0).N
    = Cert.Reference33Ideal.Value.ref (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add, Cert.Reference33Ideal.Value.ref_at]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel33Ideal_Reference33Ideal := by
  pair_intro
  · run_from Cert.Kernel33Ideal.Value.run_blocks m g
  · run_from Cert.Reference33Ideal.Value.run_ref m' g'
    · exact (final m c).symm

end Cert.Kernel33Ideal.Value

end
-- ==== Proof.DwGate.lean ====
/-
  The gradient of the gate (and of the up) projection, four shards of its columns: the input's transpose times the
  gradient of the product, gathered over four blocks of 2048 tokens in a buffer that is carried from point to point.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference3Ideal.Value

open Idealize.ShloMosaic Idealize.ShloMosaic.TcCoe Idealize.SL.Sem
open Cert.Reference3Ideal Cert.Reference3Ideal.Gen

variable (H : Vec Ideal S8192x2048 .bf16) (G : Vec Ideal S8192x5632 .bf16)

/-- The gradient of the whole weight. -/
def whole : FVec Ideal S2048x5632 .f32 :=
  transpose S2048x5632 [1, 0] (Host.dotGeneral dot_S8192x5632_S8192x2048_S5632x2048_0_0_1_1_n_n none
    (extf .f32 G bitsLt_bf16_f32) (extf .f32 H bitsLt_bf16_f32)) transposes_S5632x2048_S2048x5632_1_0

/-- The reference's result: the four shards of its columns. -/
def ref : FVec Ideal S4x2048x1408 .bf16 :=
  truncf .bf16 (concatenate S4x2048x1408 0
    [⟨S1x2048x1408, broadcastInDim S1x2048x1408 ![1, 2] bcast_S2048x1408_S1x2048x1408_1_2
        (extractStridedSlice S2048x1408 ![0, 0] (whole H G) slices_S2048x5632_S2048x1408_0_0)⟩,
      ⟨S1x2048x1408, broadcastInDim S1x2048x1408 ![1, 2] bcast_S2048x1408_S1x2048x1408_1_2
        (extractStridedSlice S2048x1408 ![0, 1408] (whole H G) slices_S2048x5632_S2048x1408_0_1408)⟩,
      ⟨S1x2048x1408, broadcastInDim S1x2048x1408 ![1, 2] bcast_S2048x1408_S1x2048x1408_1_2
        (extractStridedSlice S2048x1408 ![0, 2816] (whole H G) slices_S2048x5632_S2048x1408_0_2816)⟩,
      ⟨S1x2048x1408, broadcastInDim S1x2048x1408 ![1, 2] bcast_S2048x1408_S1x2048x1408_1_2
        (extractStridedSlice S2048x1408 ![0, 4224] (whole H G) slices_S2048x5632_S2048x1408_0_4224)⟩]
    concatenates_S1x2048x1408_S1x2048x1408_S1x2048x1408_S1x2048x1408_S4x2048x1408_d0) bitsLt_bf16_f32

theorem whole_at (i : Fin 2048) (k : Fin 5632) :
    whole H G (ix2 i k) = ∑ l : Fin 8192, (H (ix2 l i) : EReal) * G (ix2 l k) := by
  have h : whole H G (ix2 i k) = ∑ l : Fin 8192, (G (ix2 l k) : EReal) * H (ix2 l i) := by pointwise [whole]
  rw [h]
  exact Finset.sum_congr rfl fun l _ => mul_comm _ _

theorem shard_at (X : FVec Ideal S2048x5632 .f32) (j : S4x2048x1408.Idx) (k : Fin 5632) (hk : (k : ℕ) = j 0 * 1408 + j 2) :
    (truncf .bf16 (concatenate S4x2048x1408 0
    [⟨S1x2048x1408, broadcastInDim S1x2048x1408 ![1, 2] bcast_S2048x1408_S1x2048x1408_1_2
        (extractStridedSlice S2048x1408 ![0, 0] X slices_S2048x5632_S2048x1408_0_0)⟩,
      ⟨S1x2048x1408, broadcastInDim S1x2048x1408 ![1, 2] bcast_S2048x1408_S1x2048x1408_1_2
        (extractStridedSlice S2048x1408 ![0, 1408] X slices_S2048x5632_S2048x1408_0_1408)⟩,
      ⟨S1x2048x1408, broadcastInDim S1x2048x1408 ![1, 2] bcast_S2048x1408_S1x2048x1408_1_2
        (extractStridedSlice S2048x1408 ![0, 2816] X slices_S2048x5632_S2048x1408_0_2816)⟩,
      ⟨S1x2048x1408, broadcastInDim S1x2048x1408 ![1, 2] bcast_S2048x1408_S1x2048x1408_1_2
        (extractStridedSlice S2048x1408 ![0, 4224] X slices_S2048x5632_S2048x1408_0_4224)⟩]
    concatenates_S1x2048x1408_S1x2048x1408_S1x2048x1408_S1x2048x1408_S4x2048x1408_d0) bitsLt_bf16_f32 : FVec Ideal S4x2048x1408 .bf16) j
      = (X (ix2 (j 1) k) : EReal) := by
  pointwise
  blk_point []

theorem ref_at (j : S4x2048x1408.Idx) (k : Fin 5632) (hk : (k : ℕ) = j 0 * 1408 + j 2) :
    ref H G j = ∑ l : Fin 8192, (H (ix2 l (j 1)) : EReal) * G (ix2 l k) :=
  (shard_at (whole H G) j k hk).trans (whole_at H G (j 1) k)

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v24) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference3Ideal := fun m ρ _ =>
  (θ_run defs _ _).mono (fun r h => ⟨fun c => (h c).2, sem_eq_zero_of_no_sems (by decide) r.2⟩)
    (run (F := Ideal) m ρ)

end Cert.Reference3Ideal.Value

/-! ## The kernel -/

namespace Cert.Kernel3Ideal.Value

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

theorem idx : ∀ t : Fin cfg0.N, win0_0.index t = ![t.val % 4, t.val / 16] ∧ win0_1.index t = ![t.val % 4, t.val / 4 % 4]
    ∧ win0_2.index t = ![t.val / 4 % 4, t.val / 16, 0] :=
  (by decide +kernel : ∀ t : Fin grid0.N, _)

/-- One block's share of the product. -/
def part (g : Vec Ideal S2048x1408 .bf16) (a : Vec Ideal S2048x1024 .bf16) (j : S1024x1408.Idx) : EReal :=
  ∑ l : Fin 2048, (a (ix2 l (j 0)) : EReal) * g (ix2 l (j 1))

theorem first_at (g : Vec Ideal S2048x1408 .bf16) (a : Vec Ideal S2048x1024 .bf16) (j : S1024x1408.Idx) :
    k0_pay2 (F := Ideal) g a j = part g a j := by
  pointwise [k0_pay2, k0_pay1, part]

theorem next_at (g : Vec Ideal S2048x1408 .bf16) (a : Vec Ideal S2048x1024 .bf16) (s : Vec Ideal S1024x1408 .f32)
    (j : S1024x1408.Idx) : k0_pay3 (F := Ideal) g a s j = (s j : EReal) + part g a j := by
  pointwise [k0_pay3, k0_pay1, part]

theorem last_at (s : Vec Ideal S1024x1408 .f32) (j : S1x1024x1408.Idx) :
    k0_pay4 (F := Ideal) s j = (s (ix2 (j 1) (j 2)) : EReal) := by
  pointwise [k0_pay4]

/-- What the carried buffer gains at grid point `p`. -/
def gain (c : Dev nD) (p : Fin cfg0.N) (j : S1024x1408.Idx) : EReal := part (iblk m c 1 p) (iblk m c 0 p) j

theorem reset (c : Dev nD) (t : Fin cfg0.N) (h : t.val % 4 = 0) (j : S1024x1408.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1024x1408.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1x1024x1408.Idx) :
    (outsAt0 m c t.val t.isLt).1 j = (outsAt0 m c t.val t.isLt).2 (ix2 (j 1) (j 2)) := by
  rw [outsAt0_C m c t (by omega) (by omega) h3]
  frame_out
  rw [last_at]

/-- The result array, block by block. -/
theorem final (c : Dev nD) : (dats m 0 c).arrAt 2 (cfgs 0).N
    = Cert.Reference3Ideal.Value.ref (m ((c : Thread nD τ).loc main_arg0)) (m ((c : Thread nD τ).loc main_arg1)) := by
  refine (dats m 0 c).arrAt_eq_of_covers 2 _ (by decide +kernel) fun t hf y => ?_
  have ht : t.val < 32 := lt_of_lt_of_eq t.isLt N_0
  have hy : (y 2 : ℕ) < 1408 := (y 2).isLt
  refine Eq.trans ?_ (Cert.Reference3Ideal.Value.ref_at _ _ _ ⟨t.val / 4 % 4 * 1408 + y 2, by omega⟩ (by blk_simp [idx t])).symm
  blk_simp
  rw [after0_2]
  refine (out_last m c t ((flush0_2 t).mp hf) y).trans ?_
  rw [Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel3Ideal_Reference3Ideal := by
  pair_intro
  · run_from Cert.Kernel3Ideal.Value.run_blocks m g
  · run_from Cert.Reference3Ideal.Value.run_ref m' g'
    · exact (final m c).symm

end Cert.Kernel3Ideal.Value

end
-- ==== Proof.DwKv.lean ====
/-
  The gradient of the projection to the keys (and to the values).
-/
module

public import proofs.«01_k».proof.Defs
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference27Ideal.Value

open Idealize.ShloMosaic Idealize.ShloMosaic.TcCoe Idealize.SL.Sem
open Cert.Reference27Ideal Cert.Reference27Ideal.Gen

/-- The reference's result. -/
def ref (A : Vec Ideal S256x2048 .bf16) (G : FVec Ideal S256x512 .f32) : FVec Ideal S2048x512 .bf16 :=
  truncf .bf16 (transpose S2048x512 [1, 0] (Host.dotGeneral dot_S256x512_S256x2048_S512x2048_0_0_1_1_n_n none
    G (extf .f32 A bitsLt_bf16_f32)) transposes_S512x2048_S2048x512_1_0) bitsLt_bf16_f32

theorem ref_at (A : Vec Ideal S256x2048 .bf16) (G : FVec Ideal S256x512 .f32) (j : S2048x512.Idx) :
    ref A G j = ∑ l : Fin 256, (A (ix2 l (j 0)) : EReal) * G (ix2 l (j 1)) := by
  have h : ref A G j = ∑ l : Fin 256, (G (ix2 l (j 1)) : EReal) * A (ix2 l (j 0)) := by pointwise [ref]
  rw [h]
  exact Finset.sum_congr rfl fun l _ => mul_comm _ _

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v5) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference27Ideal := fun m ρ _ =>
  (θ_run defs _ _).mono (fun r h => ⟨fun c => (h c).2, sem_eq_zero_of_no_sems (by decide) r.2⟩)
    (run (F := Ideal) m ρ)

end Cert.Reference27Ideal.Value

/-! ## The kernel -/

namespace Cert.Kernel27Ideal.Value

open Idealize.ShloMosaic Idealize.ShloMosaic.TcCoe Idealize.SL.Sem
open Idealize.ShloMosaic.Pipeline (Dat)
open Cert.Kernel27Ideal Cert.Kernel27Ideal.Gen

variable (m : (ℓ : Loc nD τ sig) → Buf (Elt Ideal) ℓ)

theorem idx : ∀ t : Fin cfg0.N, win0_0.index t = ![0, t.val / 1]
    ∧ win0_1.index t = ![0, t.val % 1]
    ∧ win0_2.index t = ![t.val / 1, t.val % 1] :=
  (by decide +kernel : ∀ t : Fin grid0.N, _)

theorem pay_at (w : Vec Ideal S256x512 .f32) (a : Vec Ideal S256x1024 .bf16) (j : S1024x512.Idx) :
    k0_pay1 (F := Ideal) w a j = ∑ l : Fin 256, (a (ix2 l (j 0)) : EReal) * w (ix2 l (j 1)) := by
  pointwise [k0_pay1]

/-- The result array, block by block. -/
theorem final (c : Dev nD) : (dats m 0 c).arrAt 2 (cfgs 0).N
    = Cert.Reference27Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference27Ideal.Value.ref_at]
  refine Fin.sum_fin_congr fun l => ?_
  blk_point [iblk, V, idx t]

/-- Kernel and reference leave the same gradient. -/
theorem same : Cert.algebraic_Kernel27Ideal_Reference27Ideal := by
  pair_intro
  · run_from Cert.Kernel27Ideal.Value.run_blocks m g
  · run_from Cert.Reference27Ideal.Value.run_ref m' g'
    · exact (final m c).symm

end Cert.Kernel27Ideal.Value

end
-- ==== Proof.DwO.lean ====
/-
  The gradient of the memory attention's output projection, four shards of its columns,
  gathered over four blocks of tokens in a buffer that is carried from point to point.
-/
module

public import proofs.«01_k».proof.Defs
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference25Ideal.Value

open Idealize.ShloMosaic Idealize.ShloMosaic.TcCoe Idealize.SL.Sem
open Cert.Reference25Ideal Cert.Reference25Ideal.Gen

/-- The gradient of the whole weight. -/
def whole (A : Vec Ideal S8192x512 .bf16) (G : Vec Ideal S8192x2048 .bf16) : FVec Ideal S512x2048 .f32 :=
  transpose S512x2048 [1, 0] (Host.dotGeneral dot_S8192x2048_S8192x512_S2048x512_0_0_1_1_n_n none
    (extf .f32 G bitsLt_bf16_f32) (extf .f32 A bitsLt_bf16_f32)) transposes_S2048x512_S512x2048_1_0

/-- The reference's result: the four shards of its columns. -/
def ref (A : Vec Ideal S8192x512 .bf16) (G : Vec Ideal S8192x2048 .bf16) : FVec Ideal S4x512x512 .bf16 :=
  truncf .bf16 (concatenate S4x512x512 0
    [⟨S1x512x512, broadcastInDim S1x512x512 ![1, 2] bcast_S512x512_S1x512x512_1_2
        (extractStridedSlice S512x512 ![0, 0] (whole A G) slices_S512x2048_S512x512_0_0)⟩,
      ⟨S1x512x512, broadcastInDim S1x512x512 ![1, 2] bcast_S512x512_S1x512x512_1_2
        (extractStridedSlice S512x512 ![0, 512] (whole A G) slices_S512x2048_S512x512_0_512)⟩,
      ⟨S1x512x512, broadcastInDim S1x512x512 ![1, 2] bcast_S512x512_S1x512x512_1_2
        (extractStridedSlice S512x512 ![0, 1024] (whole A G) slices_S512x2048_S512x512_0_1024)⟩,
      ⟨S1x512x512, broadcastInDim S1x512x512 ![1, 2] bcast_S512x512_S1x512x512_1_2
        (extractStridedSlice S512x512 ![0, 1536] (whole A G) slices_S512x2048_S512x512_0_1536)⟩]
    concatenates_S1x512x512_S1x512x512_S1x512x512_S1x512x512_S4x512x512_d0) bitsLt_bf16_f32

theorem whole_at (A : Vec Ideal S8192x512 .bf16) (G : Vec Ideal S8192x2048 .bf16) (i : Fin 512) (k : Fin 2048) :
    whole A G (ix2 i k) = ∑ l : Fin 8192, (A (ix2 l i) : EReal) * G (ix2 l k) := by
  have h : whole A G (ix2 i k) = ∑ l : Fin 8192, (G (ix2 l k) : EReal) * A (ix2 l i) := by pointwise [whole]
  rw [h]
  exact Finset.sum_congr rfl fun l _ => mul_comm _ _

theorem shard_at (X : FVec Ideal S512x2048 .f32) (j : S4x512x512.Idx) (k : Fin 2048) (hk : (k : ℕ) = j 0 * 512 + j 2) :
    (truncf .bf16 (concatenate S4x512x512 0
    [⟨S1x512x512, broadcastInDim S1x512x512 ![1, 2] bcast_S512x512_S1x512x512_1_2
        (extractStridedSlice S512x512 ![0, 0] X slices_S512x2048_S512x512_0_0)⟩,
      ⟨S1x512x512, broadcastInDim S1x512x512 ![1, 2] bcast_S512x512_S1x512x512_1_2
        (extractStridedSlice S512x512 ![0, 512] X slices_S512x2048_S512x512_0_512)⟩,
      ⟨S1x512x512, broadcastInDim S1x512x512 ![1, 2] bcast_S512x512_S1x512x512_1_2
        (extractStridedSlice S512x512 ![0, 1024] X slices_S512x2048_S512x512_0_1024)⟩,
      ⟨S1x512x512, broadcastInDim S1x512x512 ![1, 2] bcast_S512x512_S1x512x512_1_2
        (extractStridedSlice S512x512 ![0, 1536] X slices_S512x2048_S512x512_0_1536)⟩]
    concatenates_S1x512x512_S1x512x512_S1x512x512_S1x512x512_S4x512x512_d0) bitsLt_bf16_f32 : FVec Ideal S4x512x512 .bf16) j
      = (X (ix2 (j 1) k) : EReal) := by
  pointwise
  blk_point []

theorem ref_at (A : Vec Ideal S8192x512 .bf16) (G : Vec Ideal S8192x2048 .bf16) (j : S4x512x512.Idx) (k : Fin 2048) (hk : (k : ℕ) = j 0 * 512 + j 2) :
    ref A G j = ∑ l : Fin 8192, (A (ix2 l (j 1)) : EReal) * G (ix2 l k) :=
  (shard_at (whole A G) j k hk).trans (whole_at A G (j 1) k)

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v24) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference25Ideal := fun m ρ _ =>
  (θ_run defs _ _).mono (fun r h => ⟨fun c => (h c).2, sem_eq_zero_of_no_sems (by decide) r.2⟩)
    (run (F := Ideal) m ρ)

end Cert.Reference25Ideal.Value

/-! ## The kernel -/

namespace Cert.Kernel25Ideal.Value

open Idealize.ShloMosaic Idealize.ShloMosaic.TcCoe Idealize.SL.Sem
open Idealize.ShloMosaic.Pipeline (Dat)
open Cert.Kernel25Ideal Cert.Kernel25Ideal.Gen

variable (m : (ℓ : Loc nD τ sig) → Buf (Elt Ideal) ℓ)

theorem idx : ∀ t : Fin cfg0.N, win0_0.index t = ![t.val % 4, t.val / 16]
    ∧ win0_1.index t = ![t.val % 4, t.val / 4 % 4]
    ∧ win0_2.index t = ![t.val / 4 % 4, t.val / 16, 0] :=
  (by decide +kernel : ∀ t : Fin grid0.N, _)

/-- One block's share of the product. -/
def part (w : Vec Ideal S2048x512 .bf16) (a : Vec Ideal S2048x512 .bf16) (j : S512x512.Idx) : EReal :=
  ∑ l : Fin 2048, (a (ix2 l (j 0)) : EReal) * w (ix2 l (j 1))

theorem first_at (w : Vec Ideal S2048x512 .bf16) (a : Vec Ideal S2048x512 .bf16) (j : S512x512.Idx) :
    k0_pay2 (F := Ideal) w a j = part w a j := by
  pointwise [k0_pay2, k0_pay1, part]

theorem next_at (w : Vec Ideal S2048x512 .bf16) (a : Vec Ideal S2048x512 .bf16) (s : Vec Ideal S512x512 .f32)
    (j : S512x512.Idx) : k0_pay3 (F := Ideal) w a s j = (s j : EReal) + part w a j := by
  pointwise [k0_pay3, k0_pay1, part]

theorem last_at (s : Vec Ideal S512x512 .f32) (j : S1x512x512.Idx) : k0_pay4 (F := Ideal) s j = (s (ix2 (j 1) (j 2)) : EReal) := by
  pointwise [k0_pay4]

/-- What the carried buffer gains at grid point `p`. -/
def gain (c : Dev nD) (p : Fin cfg0.N) (j : S512x512.Idx) : EReal := part (iblk m c 1 p) (iblk m c 0 p) j

theorem reset (c : Dev nD) (t : Fin cfg0.N) (h : t.val % 4 = 0) (j : S512x512.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S512x512.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1x512x512.Idx) :
    (outsAt0 m c t.val t.isLt).1 j = (outsAt0 m c t.val t.isLt).2 (ix2 (j 1) (j 2)) := by
  rw [outsAt0_C m c t (by omega) (by omega) h3]
  frame_out
  rw [last_at]

/-- The result array, block by block. -/
theorem final (c : Dev nD) : (dats m 0 c).arrAt 2 (cfgs 0).N
    = Cert.Reference25Ideal.Value.ref (m ((c : Thread nD τ).loc main_arg0)) (m ((c : Thread nD τ).loc main_arg1)) := by
  refine (dats m 0 c).arrAt_eq_of_covers 2 _ (by decide +kernel) fun t hf y => ?_
  have ht : t.val < 16 := lt_of_lt_of_eq t.isLt N_0
  have hy : (y 2 : ℕ) < 512 := (y 2).isLt
  refine Eq.trans ?_ (Cert.Reference25Ideal.Value.ref_at _ _ _ ⟨t.val / 4 % 4 * 512 + y 2, by omega⟩ (by blk_simp [idx t])).symm
  blk_simp
  rw [after0_2]
  refine (out_last m c t ((flush0_2 t).mp hf) y).trans ?_
  rw [Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel25Ideal_Reference25Ideal := by
  pair_intro
  · run_from Cert.Kernel25Ideal.Value.run_blocks m g
  · run_from Cert.Reference25Ideal.Value.run_ref m' g'
    · exact (final m c).symm

end Cert.Kernel25Ideal.Value

end
-- ==== Proof.DwOut.lean ====
/-
  The gradient of the output projection,
  gathered over four blocks of tokens in a buffer that is carried from point to point.
-/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference11Ideal.Value

open Idealize.ShloMosaic Idealize.ShloMosaic.TcCoe Idealize.SL.Sem
open Cert.Reference11Ideal Cert.Reference11Ideal.Gen

/-- The reference's result. -/
def ref (A : Vec Ideal S8192x4096 .bf16) (G : Vec Ideal S8192x2048 .bf16) : FVec Ideal S4096x2048 .bf16 :=
  truncf .bf16 (transpose S4096x2048 [1, 0] (Host.dotGeneral dot_S8192x2048_S8192x4096_S2048x4096_0_0_1_1_n_n none
    (extf .f32 G bitsLt_bf16_f32) (extf .f32 A bitsLt_bf16_f32)) transposes_S2048x4096_S4096x2048_1_0) bitsLt_bf16_f32

theorem ref_at (A : Vec Ideal S8192x4096 .bf16) (G : Vec Ideal S8192x2048 .bf16) (j : S4096x2048.Idx) :
    ref A G j = ∑ l : Fin 8192, (A (ix2 l (j 0)) : EReal) * G (ix2 l (j 1)) := by
  have h : ref A G j = ∑ l : Fin 8192, (G (ix2 l (j 1)) : EReal) * A (ix2 l (j 0)) := by pointwise [ref]
  rw [h]
  exact Finset.sum_congr rfl fun l _ => mul_comm _ _

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v6) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference11Ideal := fun m ρ _ =>
  (θ_run defs _ _).mono (fun r h => ⟨fun c => (h c).2, sem_eq_zero_of_no_sems (by decide) r.2⟩)
    (run (F := Ideal) m ρ)

end Cert.Reference11Ideal.Value

/-! ## The kernel -/

namespace Cert.Kernel11Ideal.Value

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- One block's share of the product. -/
def part (w : Vec Ideal S2048x1024 .bf16) (a : Vec Ideal S2048x1024 .bf16) (j : S1024x1024.Idx) : EReal :=
  ∑ l : Fin 2048, (a (ix2 l (j 0)) : EReal) * w (ix2 l (j 1))

theorem first_at (w : Vec Ideal S2048x1024 .bf16) (a : Vec Ideal S2048x1024 .bf16) (j : S1024x1024.Idx) :
    k0_pay2 (F := Ideal) w a j = part w a j := by
  pointwise [k0_pay2, k0_pay1, part]

theorem next_at (w : Vec Ideal S2048x1024 .bf16) (a : Vec Ideal S2048x1024 .bf16) (s : Vec Ideal S1024x1024 .f32)
    (j : S1024x1024.Idx) : k0_pay3 (F := Ideal) w a s j = (s j : EReal) + part w a j := by
  pointwise [k0_pay3, k0_pay1, part]

theorem last_at (s : Vec Ideal S1024x1024 .f32) (j : S1024x1024.Idx) : k0_pay4 (F := Ideal) s j = (s j : EReal) := by
  pointwise [k0_pay4]

/-- What the carried buffer gains at grid point `p`. -/
def gain (c : Dev nD) (p : Fin cfg0.N) (j : S1024x1024.Idx) : EReal := part (iblk m c 1 p) (iblk m c 0 p) j

theorem reset (c : Dev nD) (t : Fin cfg0.N) (h : t.val % 4 = 0) (j : S1024x1024.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1024x1024.Idx) :
    (outsAt0 m c t.val t.isLt).1 j = (outsAt0 m c t.val t.isLt).2 j := by
  rw [outsAt0_C m c t (by omega) (by omega) h3]
  frame_out
  rw [last_at]

/-- The result array, block by block. -/
theorem final (c : Dev nD) : (dats m 0 c).arrAt 2 (cfgs 0).N
    = Cert.Reference11Ideal.Value.ref (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add, Cert.Reference11Ideal.Value.ref_at]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel11Ideal_Reference11Ideal := by
  pair_intro
  · run_from Cert.Kernel11Ideal.Value.run_blocks m g
  · run_from Cert.Reference11Ideal.Value.run_ref m' g'
    · exact (final m c).symm

end Cert.Kernel11Ideal.Value

end
-- ==== Proof.DwQ.lean ====
/-
  The gradient of the projection to the queries,
  gathered over four blocks of tokens in a buffer that is carried from point to point.
-/
module

public import proofs.«01_k».proof.Defs
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference26Ideal.Value

open Idealize.ShloMosaic Idealize.ShloMosaic.TcCoe Idealize.SL.Sem
open Cert.Reference26Ideal Cert.Reference26Ideal.Gen

/-- The reference's result. -/
def ref (A : Vec Ideal S8192x2048 .bf16) (G : Vec Ideal S8192x512 .bf16) : FVec Ideal S2048x512 .bf16 :=
  truncf .bf16 (transpose S2048x512 [1, 0] (Host.dotGeneral dot_S8192x512_S8192x2048_S512x2048_0_0_1_1_n_n none
    (extf .f32 G bitsLt_bf16_f32) (extf .f32 A bitsLt_bf16_f32)) transposes_S512x2048_S2048x512_1_0) bitsLt_bf16_f32

theorem ref_at (A : Vec Ideal S8192x2048 .bf16) (G : Vec Ideal S8192x512 .bf16) (j : S2048x512.Idx) :
    ref A G j = ∑ l : Fin 8192, (A (ix2 l (j 0)) : EReal) * G (ix2 l (j 1)) := by
  have h : ref A G j = ∑ l : Fin 8192, (G (ix2 l (j 1)) : EReal) * A (ix2 l (j 0)) := by pointwise [ref]
  rw [h]
  exact Finset.sum_congr rfl fun l _ => mul_comm _ _

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v6) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference26Ideal := fun m ρ _ =>
  (θ_run defs _ _).mono (fun r h => ⟨fun c => (h c).2, sem_eq_zero_of_no_sems (by decide) r.2⟩)
    (run (F := Ideal) m ρ)

end Cert.Reference26Ideal.Value

/-! ## The kernel -/

namespace Cert.Kernel26Ideal.Value

open Idealize.ShloMosaic Idealize.ShloMosaic.TcCoe Idealize.SL.Sem
open Idealize.ShloMosaic.Pipeline (Dat)
open Cert.Kernel26Ideal Cert.Kernel26Ideal.Gen

variable (m : (ℓ : Loc nD τ sig) → Buf (Elt Ideal) ℓ)

theorem idx : ∀ t : Fin cfg0.N, win0_0.index t = ![t.val % 4, t.val / 4]
    ∧ win0_1.index t = ![t.val % 4, t.val / 4 % 1]
    ∧ win0_2.index t = ![t.val / 4, t.val / 4 % 1] :=
  (by decide +kernel : ∀ t : Fin grid0.N, _)

/-- One block's share of the product. -/
def part (w : Vec Ideal S2048x512 .bf16) (a : Vec Ideal S2048x1024 .bf16) (j : S1024x512.Idx) : EReal :=
  ∑ l : Fin 2048, (a (ix2 l (j 0)) : EReal) * w (ix2 l (j 1))

theorem first_at (w : Vec Ideal S2048x512 .bf16) (a : Vec Ideal S2048x1024 .bf16) (j : S1024x512.Idx) :
    k0_pay2 (F := Ideal) w a j = part w a j := by
  pointwise [k0_pay2, k0_pay1, part]

theorem next_at (w : Vec Ideal S2048x512 .bf16) (a : Vec Ideal S2048x1024 .bf16) (s : Vec Ideal S1024x512 .f32)
    (j : S1024x512.Idx) : k0_pay3 (F := Ideal) w a s j = (s j : EReal) + part w a j := by
  pointwise [k0_pay3, k0_pay1, part]

theorem last_at (s : Vec Ideal S1024x512 .f32) (j : S1024x512.Idx) : k0_pay4 (F := Ideal) s j = (s j : EReal) := by
  pointwise [k0_pay4]

/-- What the carried buffer gains at grid point `p`. -/
def gain (c : Dev nD) (p : Fin cfg0.N) (j : S1024x512.Idx) : EReal := part (iblk m c 1 p) (iblk m c 0 p) j

theorem reset (c : Dev nD) (t : Fin cfg0.N) (h : t.val % 4 = 0) (j : S1024x512.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1024x512.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1024x512.Idx) :
    (outsAt0 m c t.val t.isLt).1 j = (outsAt0 m c t.val t.isLt).2 j := by
  rw [outsAt0_C m c t (by omega) (by omega) h3]
  frame_out
  rw [last_at]

/-- The result array, block by block. -/
theorem final (c : Dev nD) : (dats m 0 c).arrAt 2 (cfgs 0).N
    = Cert.Reference26Ideal.Value.ref (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add, Cert.Reference26Ideal.Value.ref_at]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel26Ideal_Reference26Ideal := by
  pair_intro
  · run_from Cert.Kernel26Ideal.Value.run_blocks m g
  · run_from Cert.Reference26Ideal.Value.run_ref m' g'
    · exact (final m c).symm

end Cert.Kernel26Ideal.Value

end
-- ==== Proof.DwS.lean ====
/-
  The gradient of the input projection's part for the short convolution, the upstream gradient in three parts of columns,
  gathered over four blocks of tokens in a buffer that is carried from point to point.
-/
module

public import proofs.«01_k».proof.Defs
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference20Ideal.Value

open Idealize.ShloMosaic Idealize.ShloMosaic.TcCoe Idealize.SL.Sem
open Cert.Reference20Ideal Cert.Reference20Ideal.Gen

/-- The whole matrix, of its three shards. -/
def cols (W : Vec Ideal S3x8192x2048 .bf16) : FVec Ideal S8192x6144 .f32 :=
  concatenate S8192x6144 1
    [⟨S8192x2048, shapeCast _ (extractStridedSlice S1x8192x2048 ![0, 0, 0] (extf .f32 W bitsLt_bf16_f32)
        slices_S3x8192x2048_S1x8192x2048_0_0_0) shapeCasts_S1x8192x2048_S8192x2048⟩,
      ⟨S8192x2048, shapeCast _ (extractStridedSlice S1x8192x2048 ![1, 0, 0] (extf .f32 W bitsLt_bf16_f32)
        slices_S3x8192x2048_S1x8192x2048_1_0_0) shapeCasts_S1x8192x2048_S8192x2048⟩,
      ⟨S8192x2048, shapeCast _ (extractStridedSlice S1x8192x2048 ![2, 0, 0] (extf .f32 W bitsLt_bf16_f32)
        slices_S3x8192x2048_S1x8192x2048_2_0_0) shapeCasts_S1x8192x2048_S8192x2048⟩]
    concatenates_S8192x2048_S8192x2048_S8192x2048_S8192x6144_d1

theorem cols_at (W : Vec Ideal S3x8192x2048 .bf16) (i : Fin 8192) (l : Fin 6144) :
    cols W (ix2 i l) = (W (ix3 ⟨l / 2048, by omega⟩ i ⟨l % 2048, by omega⟩) : EReal) := by
  pointwise [cols]
  blk_point []

/-- The reference's result. -/
def ref (A : Vec Ideal S8192x2048 .bf16) (G : Vec Ideal S3x8192x2048 .bf16) : FVec Ideal S2048x6144 .bf16 :=
  truncf .bf16 (transpose S2048x6144 [1, 0] (Host.dotGeneral dot_S8192x6144_S8192x2048_S6144x2048_0_0_1_1_n_n none
    (cols G) (extf .f32 A bitsLt_bf16_f32)) transposes_S6144x2048_S2048x6144_1_0) bitsLt_bf16_f32

theorem ref_at (A : Vec Ideal S8192x2048 .bf16) (G : Vec Ideal S3x8192x2048 .bf16) (j : S2048x6144.Idx) (p : Fin 3) (k : Fin 2048)
    (hk : (j 1 : ℕ) = p * 2048 + k) :
    ref A G j = ∑ l : Fin 8192, (A (ix2 l (j 0)) : EReal) * G (ix3 p l k) := by
  have h : ref A G j = ∑ l : Fin 8192, (cols G (ix2 l (j 1)) : EReal) * A (ix2 l (j 0)) := by pointwise [ref]
  rw [h]
  refine Finset.sum_congr rfl fun l _ => ?_
  refine (congrArg (fun v : EReal => v * A (ix2 l (j 0))) (cols_at G l (j 1))).trans ?_
  rw [mul_comm]
  blk_point []

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v13) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference20Ideal := fun m ρ _ =>
  (θ_run defs _ _).mono (fun r h => ⟨fun c => (h c).2, sem_eq_zero_of_no_sems (by decide) r.2⟩)
    (run (F := Ideal) m ρ)

end Cert.Reference20Ideal.Value

/-! ## The kernel -/

namespace Cert.Kernel20Ideal.Value

open Idealize.ShloMosaic Idealize.ShloMosaic.TcCoe Idealize.SL.Sem
open Idealize.ShloMosaic.Pipeline (Dat)
open Cert.Kernel20Ideal Cert.Kernel20Ideal.Gen

variable (m : (ℓ : Loc nD τ sig) → Buf (Elt Ideal) ℓ)

theorem idx : ∀ t : Fin cfg0.N, win0_0.index t = ![t.val % 4, t.val / 24]
    ∧ win0_1.index t = ![t.val / 4 % 6 / 2, t.val % 4, t.val / 4 % 2]
    ∧ win0_2.index t = ![t.val / 24, t.val / 4 % 6] :=
  (by decide +kernel : ∀ t : Fin grid0.N, _)

/-- One block's share of the product. -/
def part (w : Vec Ideal S1x2048x1024 .bf16) (a : Vec Ideal S2048x1024 .bf16) (j : S1024x1024.Idx) : EReal :=
  ∑ l : Fin 2048, (a (ix2 l (j 0)) : EReal) * w (ix3 0 l (j 1))

theorem first_at (w : Vec Ideal S1x2048x1024 .bf16) (a : Vec Ideal S2048x1024 .bf16) (j : S1024x1024.Idx) :
    k0_pay2 (F := Ideal) w a j = part w a j := by
  pointwise [k0_pay2, k0_pay1, part]

theorem next_at (w : Vec Ideal S1x2048x1024 .bf16) (a : Vec Ideal S2048x1024 .bf16) (s : Vec Ideal S1024x1024 .f32)
    (j : S1024x1024.Idx) : k0_pay3 (F := Ideal) w a s j = (s j : EReal) + part w a j := by
  pointwise [k0_pay3, k0_pay1, part]

theorem last_at (s : Vec Ideal S1024x1024 .f32) (j : S1024x1024.Idx) : k0_pay4 (F := Ideal) s j = (s j : EReal) := by
  pointwise [k0_pay4]

/-- What the carried buffer gains at grid point `p`. -/
def gain (c : Dev nD) (p : Fin cfg0.N) (j : S1024x1024.Idx) : EReal := part (iblk m c 1 p) (iblk m c 0 p) j

theorem reset (c : Dev nD) (t : Fin cfg0.N) (h : t.val % 4 = 0) (j : S1024x1024.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1024x1024.Idx) :
    (outsAt0 m c t.val t.isLt).1 j = (outsAt0 m c t.val t.isLt).2 j := by
  rw [outsAt0_C m c t (by omega) (by omega) h3]
  frame_out
  rw [last_at]

/-- The result array, block by block. -/
theorem final (c : Dev nD) : (dats m 0 c).arrAt 2 (cfgs 0).N
    = Cert.Reference20Ideal.Value.ref (m ((c : Thread nD τ).loc main_arg0)) (m ((c : Thread nD τ).loc main_arg1)) := by
  refine (dats m 0 c).arrAt_eq_of_covers 2 _ (by decide +kernel) fun t hf y => ?_
  have ht : t.val < 48 := lt_of_lt_of_eq t.isLt N_0
  have hy : (y 1 : ℕ) < 1024 := (y 1).isLt
  refine Eq.trans ?_ (Cert.Reference20Ideal.Value.ref_at _ _ _ ⟨t.val / 4 % 6 / 2, by omega⟩ ⟨t.val / 4 % 2 * 1024 + y 1, by omega⟩
    (by blk_simp [idx t]; dsimp only; omega)).symm
  blk_simp
  rw [after0_2, out_last m c t ((flush0_2 t).mp hf), Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel20Ideal_Reference20Ideal := by
  pair_intro
  · run_from Cert.Kernel20Ideal.Value.run_blocks m g
  · run_from Cert.Reference20Ideal.Value.run_ref m' g'
    · exact (final m c).symm

end Cert.Kernel20Ideal.Value

end
-- ==== Proof.DwXbc.lean ====
/-
  The gradient of the input projection's part for the state-space channels,
  gathered over four blocks of tokens in a buffer that is carried from point to point.
-/
module

public import proofs.«01_k».proof.Defs
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference19Ideal.Value

open Idealize.ShloMosaic Idealize.ShloMosaic.TcCoe Idealize.SL.Sem
open Cert.Reference19Ideal Cert.Reference19Ideal.Gen

/-- The reference's result. -/
def ref (A : Vec Ideal S8192x2048 .bf16) (G : Vec Ideal S8192x3072 .bf16) : FVec Ideal S2048x3072 .bf16 :=
  truncf .bf16 (transpose S2048x3072 [1, 0] (Host.dotGeneral dot_S8192x3072_S8192x2048_S3072x2048_0_0_1_1_n_n none
    (extf .f32 G bitsLt_bf16_f32) (extf .f32 A bitsLt_bf16_f32)) transposes_S3072x2048_S2048x3072_1_0) bitsLt_bf16_f32

theorem ref_at (A : Vec Ideal S8192x2048 .bf16) (G : Vec Ideal S8192x3072 .bf16) (j : S2048x3072.Idx) :
    ref A G j = ∑ l : Fin 8192, (A (ix2 l (j 0)) : EReal) * G (ix2 l (j 1)) := by
  have h : ref A G j = ∑ l : Fin 8192, (G (ix2 l (j 1)) : EReal) * A (ix2 l (j 0)) := by pointwise [ref]
  rw [h]
  exact Finset.sum_congr rfl fun l _ => mul_comm _ _

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v6) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference19Ideal := fun m ρ _ =>
  (θ_run defs _ _).mono (fun r h => ⟨fun c => (h c).2, sem_eq_zero_of_no_sems (by decide) r.2⟩)
    (run (F := Ideal) m ρ)

end Cert.Reference19Ideal.Value

/-! ## The kernel -/

namespace Cert.Kernel19Ideal.Value

open Idealize.ShloMosaic Idealize.ShloMosaic.TcCoe Idealize.SL.Sem
open Idealize.ShloMosaic.Pipeline (Dat)
open Cert.Kernel19Ideal Cert.Kernel19Ideal.Gen

variable (m : (ℓ : Loc nD τ sig) → Buf (Elt Ideal) ℓ)

theorem idx : ∀ t : Fin cfg0.N, win0_0.index t = ![t.val % 4, t.val / 12]
    ∧ win0_1.index t = ![t.val % 4, t.val / 4 % 3]
    ∧ win0_2.index t = ![t.val / 12, t.val / 4 % 3] :=
  (by decide +kernel : ∀ t : Fin grid0.N, _)

/-- One block's share of the product. -/
def part (w : Vec Ideal S2048x1024 .bf16) (a : Vec Ideal S2048x1024 .bf16) (j : S1024x1024.Idx) : EReal :=
  ∑ l : Fin 2048, (a (ix2 l (j 0)) : EReal) * w (ix2 l (j 1))

theorem first_at (w : Vec Ideal S2048x1024 .bf16) (a : Vec Ideal S2048x1024 .bf16) (j : S1024x1024.Idx) :
    k0_pay2 (F := Ideal) w a j = part w a j := by
  pointwise [k0_pay2, k0_pay1, part]

theorem next_at (w : Vec Ideal S2048x1024 .bf16) (a : Vec Ideal S2048x1024 .bf16) (s : Vec Ideal S1024x1024 .f32)
    (j : S1024x1024.Idx) : k0_pay3 (F := Ideal) w a s j = (s j : EReal) + part w a j := by
  pointwise [k0_pay3, k0_pay1, part]

theorem last_at (s : Vec Ideal S1024x1024 .f32) (j : S1024x1024.Idx) : k0_pay4 (F := Ideal) s j = (s j : EReal) := by
  pointwise [k0_pay4]

/-- What the carried buffer gains at grid point `p`. -/
def gain (c : Dev nD) (p : Fin cfg0.N) (j : S1024x1024.Idx) : EReal := part (iblk m c 1 p) (iblk m c 0 p) j

theorem reset (c : Dev nD) (t : Fin cfg0.N) (h : t.val % 4 = 0) (j : S1024x1024.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1024x1024.Idx) :
    (outsAt0 m c t.val t.isLt).1 j = (outsAt0 m c t.val t.isLt).2 j := by
  rw [outsAt0_C m c t (by omega) (by omega) h3]
  frame_out
  rw [last_at]

/-- The result array, block by block. -/
theorem final (c : Dev nD) : (dats m 0 c).arrAt 2 (cfgs 0).N
    = Cert.Reference19Ideal.Value.ref (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add, Cert.Reference19Ideal.Value.ref_at]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel19Ideal_Reference19Ideal := by
  pair_intro
  · run_from Cert.Kernel19Ideal.Value.run_blocks m g
  · run_from Cert.Reference19Ideal.Value.run_ref m' g'
    · exact (final m c).symm

end Cert.Kernel19Ideal.Value

end
-- ==== Proof.DwZ.lean ====
/-
  The gradient of the input projection's part for the gate,
  gathered over four blocks of tokens in a buffer that is carried from point to point.
-/
module

public import proofs.«01_k».proof.Defs
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference18Ideal.Value

open Idealize.ShloMosaic Idealize.ShloMosaic.TcCoe Idealize.SL.Sem
open Cert.Reference18Ideal Cert.Reference18Ideal.Gen

/-- The reference's result. -/
def ref (A : Vec Ideal S8192x2048 .bf16) (G : Vec Ideal S8192x2048 .bf16) : FVec Ideal S2048x2048 .bf16 :=
  truncf .bf16 (transpose S2048x2048 [1, 0] (Host.dotGeneral dot_S8192x2048_S8192x2048_S2048x2048_0_0_1_1_n_n none
    (extf .f32 G bitsLt_bf16_f32) (extf .f32 A bitsLt_bf16_f32)) transposes_S2048x2048_S2048x2048_1_0) bitsLt_bf16_f32

theorem ref_at (A : Vec Ideal S8192x2048 .bf16) (G : Vec Ideal S8192x2048 .bf16) (j : S2048x2048.Idx) :
    ref A G j = ∑ l : Fin 8192, (A (ix2 l (j 0)) : EReal) * G (ix2 l (j 1)) := by
  have h : ref A G j = ∑ l : Fin 8192, (G (ix2 l (j 1)) : EReal) * A (ix2 l (j 0)) := by pointwise [ref]
  rw [h]
  exact Finset.sum_congr rfl fun l _ => mul_comm _ _

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v6) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference18Ideal := fun m ρ _ =>
  (θ_run defs _ _).mono (fun r h => ⟨fun c => (h c).2, sem_eq_zero_of_no_sems (by decide) r.2⟩)
    (run (F := Ideal) m ρ)

end Cert.Reference18Ideal.Value

/-! ## The kernel -/

namespace Cert.Kernel18Ideal.Value

open Idealize.ShloMosaic Idealize.ShloMosaic.TcCoe Idealize.SL.Sem
open Idealize.ShloMosaic.Pipeline (Dat)
open Cert.Kernel18Ideal Cert.Kernel18Ideal.Gen

variable (m : (ℓ : Loc nD τ sig) → Buf (Elt Ideal) ℓ)

theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- One block's share of the product. -/
def part (w : Vec Ideal S2048x1024 .bf16) (a : Vec Ideal S2048x1024 .bf16) (j : S1024x1024.Idx) : EReal :=
  ∑ l : Fin 2048, (a (ix2 l (j 0)) : EReal) * w (ix2 l (j 1))

theorem first_at (w : Vec Ideal S2048x1024 .bf16) (a : Vec Ideal S2048x1024 .bf16) (j : S1024x1024.Idx) :
    k0_pay2 (F := Ideal) w a j = part w a j := by
  pointwise [k0_pay2, k0_pay1, part]

theorem next_at (w : Vec Ideal S2048x1024 .bf16) (a : Vec Ideal S2048x1024 .bf16) (s : Vec Ideal S1024x1024 .f32)
    (j : S1024x1024.Idx) : k0_pay3 (F := Ideal) w a s j = (s j : EReal) + part w a j := by
  pointwise [k0_pay3, k0_pay1, part]

theorem last_at (s : Vec Ideal S1024x1024 .f32) (j : S1024x1024.Idx) : k0_pay4 (F := Ideal) s j = (s j : EReal) := by
  pointwise [k0_pay4]

/-- What the carried buffer gains at grid point `p`. -/
def gain (c : Dev nD) (p : Fin cfg0.N) (j : S1024x1024.Idx) : EReal := part (iblk m c 1 p) (iblk m c 0 p) j

theorem reset (c : Dev nD) (t : Fin cfg0.N) (h : t.val % 4 = 0) (j : S1024x1024.Idx) :
    (outsAt0 m c t.val t.isLt).2 j = gain m c t j := by
  rw [outsAt0_A m c t h (by omega) (by omega)]
  frame_out
  rw [first_at]
  rfl

theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + gain m c t j := by
  by_cases h3 : t.val % 4 = 3
  · rw [outsAt0_C m c t h (by omega) h3]
    frame_out
    rw [next_at, read_unread_whole]
    rfl
  · rw [outsAt0_B m c t h (by omega) h3]
    frame_out
    rw [next_at, read_unread_whole]
    rfl

/-- At the last point of a run the output is the carried buffer. -/
theorem out_last (c : Dev nD) (t : Fin cfg0.N) (h3 : t.val % 4 = 3) (j : S1024x1024.Idx) :
    (outsAt0 m c t.val t.isLt).1 j = (outsAt0 m c t.val t.isLt).2 j := by
  rw [outsAt0_C m c t (by omega) (by omega) h3]
  frame_out
  rw [last_at]

/-- The result array, block by block. -/
theorem final (c : Dev nD) : (dats m 0 c).arrAt 2 (cfgs 0).N
    = Cert.Reference18Ideal.Value.ref (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush
    (fun n h => (outsAt0 m c n h).2) 4 (fun _ => 0) (gain m c) (fun t h j => (reset m c t h j).trans (zero_add _).symm)
    (fun t h j => step m c t h j) t ((flush0_2 t).mp hf) _, zero_add, Cert.Reference18Ideal.Value.ref_at]
  refine Fin.sum_mul_add_congr fun s l hl => ?_
  blk_point [iblk, V, idx t, idx ⟨_, Pipeline.run_point_lt_of_flush t ((flush0_2 t).mp hf) s⟩]

/-- Kernel and reference leave the same gradient. -/
theorem same : Cert.algebraic_Kernel18Ideal_Reference18Ideal := by
  pair_intro
  · run_from Cert.Kernel18Ideal.Value.run_blocks m g
  · run_from Cert.Reference18Ideal.Value.run_ref m' g'
    · exact (final m c).symm

end Cert.Kernel18Ideal.Value

end
-- ==== Proof.Ref.lean ====
/-
  What the reference's three results hold, entry by entry.
-/
module

public import proofs.«01_k».proof.Proof.Gen.ReferenceIdeal.Run
public import proofs.«01_k».proof.Proof.Heads
public import Idealize.ShloMosaic.Lib.Pointwise
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Softmax

/-! ## The reference's tensors, one by one -/

variable (Q O : Vec Ideal S8192x512 .bf16) (K V : Vec Ideal S256x512 .bf16)
variable (s e dp : FVec Ideal S4x8192x256 .f32)

/-- The queries head by head. -/
def headQ : FVec Ideal S8192x4x128 .f32 := shapeCast _ (extf .f32 Q bitsLt_bf16_f32) shapeCasts_S8192x512_S8192x4x128

/-- The memory head by head. -/
def headK : FVec Ideal S256x4x128 .f32 := shapeCast _ (extf .f32 K bitsLt_bf16_f32) shapeCasts_S256x512_S256x4x128

/-- The scaled scores. -/
def scores : FVec Ideal S4x8192x256 .f32 :=
  mulf (Host.dotGeneral dot_S8192x4x128_S256x4x128_S4x8192x256_2_2_0_0_1_1 none (headQ Q) (headK K))
    (broadcastInDim S4x8192x256 ![] bcast_S_S4x8192x256 (constant S_ .f32 0x3DB504F3#32))

/-- The largest score of each query. -/
def maxs : FVec Ideal S4x8192 .f32 :=
  Host.reduce FloatOps.maximumf s (constant S_ .f32 0xFF800000#32) reducesTo_S4x8192x256_S4x8192_d2 h_S_

/-- The same, at least −∞, with a unit axis. -/
def tops : FVec Ideal S4x8192x1 .f32 :=
  broadcastInDim S4x8192x1 ![0, 1] bcast_S4x8192_S4x8192x1_0_1
    (maximumf (broadcastInDim S4x8192 ![] bcast_S_S4x8192 (constant S_ .f32 0xFF800000#32)) (maxs s))

/-- The exponentials. -/
def expos : FVec Ideal S4x8192x256 .f32 :=
  Host.exp (subf s (broadcastInDim S4x8192x256 ![0, 1, 2] bcast_S4x8192x1_S4x8192x256_0_1_2 (tops s)))

/-- Their sums. -/
def totals : FVec Ideal S4x8192x1 .f32 :=
  broadcastInDim S4x8192x1 ![0, 1] bcast_S4x8192_S4x8192x1_0_1
    (Host.reduceAdd e (constant S_ .f32 0x00000000#32) reducesTo_S4x8192x256_S4x8192_d2 h_S_)

/-- The probabilities. -/
def probs : FVec Ideal S4x8192x256 .f32 :=
  Host.divf e (broadcastInDim S4x8192x256 ![0, 1, 2] bcast_S4x8192x1_S4x8192x256_0_1_2 (totals e))

/-- The upstream gradient, head by head, queries last. -/
def headO : FVec Ideal S4x128x8192 .f32 :=
  transpose S4x128x8192 [1, 2, 0] (headQ O) transposes_S8192x4x128_S4x128x8192_1_2_0

/-- The gradient of the probabilities. -/
def dprobs : FVec Ideal S4x8192x256 .f32 :=
  Host.dotGeneral dot_S4x128x8192_S256x4x128_S4x8192x256_1_2_2_0_0_1 none (headO O) (headK V)

/-- The correction of a row's gradient: minus the sum of `dp / Σ² · e`. -/
def corr : FVec Ideal S4x8192x256 .f32 :=
  broadcastInDim S4x8192x256 ![0, 1] bcast_S4x8192_S4x8192x256_0_1
    (Host.reduceAdd (Host.negf (shapeCast S4x8192x1 (Host.reduceAdd
        (mulf (mulf dp (broadcastInDim S4x8192x256 ![0, 1, 2] bcast_S4x8192x1_S4x8192x256_0_1_2
          (Host.divf (broadcastInDim S4x8192x1 ![] bcast_S_S4x8192x1 (constant S_ .f32 0x3F800000#32)) (mulf (totals e) (totals e))))) e)
        (constant S_ .f32 0x00000000#32) reducesTo_S4x8192x256_S4x8192_d2 h_S_) shapeCasts_S4x8192_S4x8192x1))
      (constant S_ .f32 0x00000000#32) reducesTo_S4x8192x1_S4x8192_d2 h_S_)

/-- The gradient of the products with the keys. -/
def dscores : FVec Ideal S4x8192x256 .f32 :=
  mulf (mulf (addf (Host.divf dp (broadcastInDim S4x8192x256 ![0, 1, 2] bcast_S4x8192x1_S4x8192x256_0_1_2 (totals e))) (corr e dp)) e)
    (broadcastInDim S4x8192x256 ![] bcast_S_S4x8192x256 (constant S_ .f32 0x3DB504F3#32))

/-- The gradient of the queries. -/
def refDq : FVec Ideal S8192x512 .bf16 :=
  truncf .bf16 (shapeCast S8192x512 (transpose S8192x4x128 [1, 0, 2]
    (Host.dotGeneral dot_S4x8192x256_S256x4x128_S4x8192x128_2_0_1_2_0_1 none
      (dscores (expos (scores Q K)) (dprobs O V)) (headK K)) transposes_S4x8192x128_S8192x4x128_1_0_2)
    shapeCasts_S8192x4x128_S8192x512) bitsLt_bf16_f32

/-- The gradient of the keys. -/
def refDk : FVec Ideal S256x512 .f32 :=
  shapeCast S256x512 (transpose S256x4x128 [1, 0, 2]
    (Host.dotGeneral dot_S4x8192x256_S8192x4x128_S4x256x128_1_0_2_2_0_1 none
      (dscores (expos (scores Q K)) (dprobs O V)) (headQ Q)) transposes_S4x256x128_S256x4x128_1_0_2)
    shapeCasts_S256x4x128_S256x512

/-- The gradient of the values. -/
def refDv : FVec Ideal S256x512 .f32 :=
  shapeCast S256x512 (transpose S256x4x128 [2, 0, 1]
    (Host.dotGeneral dot_S4x128x8192_S4x8192x256_S4x128x256_2_1_1_2_0_0 none
      (headO O) (probs (expos (scores Q K)))) transposes_S4x128x256_S256x4x128_2_0_1)
    shapeCasts_S256x4x128_S256x512

/-! ## Their entries -/

theorem headQ_at (r : Fin 8192) (h : Fin 4) (d : Fin 128) :
    headQ Q (ix3 r h d) = Q (ix2 r ⟨h * 128 + d, by omega⟩) := by pointwise [headQ]; try blk_ext

theorem headK_at (r : Fin 256) (h : Fin 4) (d : Fin 128) :
    headK K (ix3 r h d) = K (ix2 r ⟨h * 128 + d, by omega⟩) := by pointwise [headK]; try blk_ext

/-- Head `h`'s lanes of a row. -/
abbrev hrow {n : ℕ} (X : Vec Ideal ⟨2, ![n, 512]⟩ .bf16) (h : Fin 4) (r : Fin n) (d : Fin 128) : EReal :=
  X (ix2 r ⟨h * 128 + d, by omega⟩)

theorem scores_at (h : Fin 4) (r : Fin 8192) (l : Fin 256) :
    scores Q K (ix3 h r l) = score (hrow Q h r) (hrow K h) l := by
  pointwise [scores, headQ_at, headK_at]; rfl

theorem dprobs_at (h : Fin 4) (r : Fin 8192) (l : Fin 256) :
    dprobs O V (ix3 h r l) = dprob (hrow O h r) (hrow V h) l := by
  pointwise [dprobs, headO, headQ_at, headK_at]; try rfl

theorem maxs_at (h : Fin 4) (r : Fin 8192) : maxs s (ix2 h r) = Finset.univ.fold max ⊥ fun j => s (ix3 h r j) := by
  pointwise [maxs]; rw [ofBits_neg_inf]

theorem lower_at (h : Fin 4) (r : Fin 8192) :
    broadcastInDim S4x8192 ![] bcast_S_S4x8192 (constant (F := Ideal) S_ .f32 0xFF800000#32) (ix2 h r) = ⊥ := by
  pointwise; rw [ofBits_neg_inf]

theorem larger_at (x y : FVec Ideal S4x8192 .f32) (h : Fin 4) (r : Fin 8192) (z : Fin 1) :
    broadcastInDim S4x8192x1 ![0, 1] bcast_S4x8192_S4x8192x1_0_1 (maximumf x y) (ix3 h r z) = max (x (ix2 h r)) (y (ix2 h r)) := by
  pointwise

theorem tops_at (h : Fin 4) (r : Fin 8192) (z : Fin 1) :
    tops s (ix3 h r z) = Finset.univ.fold max ⊥ fun j => s (ix3 h r j) := by
  unfold tops
  rw [larger_at, lower_at, maxs_at]
  exact bot_sup_eq _

theorem expos_at (h : Fin 4) (r : Fin 8192) (l : Fin 256) :
    expos s (ix3 h r l) = expo (fun j => s (ix3 h r j)) l := by
  pointwise [expos, tops_at]; rw [expo]

theorem totals_at (h : Fin 4) (r : Fin 8192) (z : Fin 1) :
    totals e (ix3 h r z) = ∑ l : Fin 256, e (ix3 h r l) := by
  pointwise [totals]

theorem corr_at (h : Fin 4) (r : Fin 8192) (l : Fin 256) :
    corr e dp (ix3 h r l) = -∑ j : Fin 256, dp (ix3 h r j)
      * Ideal.div 1 ((∑ l : Fin 256, e (ix3 h r l)) * ∑ l : Fin 256, e (ix3 h r l)) * e (ix3 h r j) := by
  pointwise [corr, totals_at]; rw [Fin.sum_univ_one]

theorem dscores_at (h : Fin 4) (r : Fin 8192) (l : Fin 256) :
    dscores (expos s) dp (ix3 h r l) = grad' (fun j => s (ix3 h r j)) (fun j => dp (ix3 h r j)) l * scale := by
  pointwise [dscores, totals_at, corr_at, expos_at]; rfl

theorem probs_at (h : Fin 4) (r : Fin 8192) (l : Fin 256) :
    probs (expos s) (ix3 h r l) = quot (fun j => s (ix3 h r j)) l := by
  pointwise [probs, totals_at, expos_at]; rfl

variable (m : (ℓ : Loc nD τ sig) → Buf (Elt Ideal) ℓ)

theorem res0 (c : Dev nD) : res_out0 (F := Ideal) m c
    = refDq (m ((c : Thread nD τ).loc main_arg0)) (m ((c : Thread nD τ).loc main_arg3)) (m ((c : Thread nD τ).loc main_arg1))
        (m ((c : Thread nD τ).loc main_arg2)) := rfl

theorem res1 (c : Dev nD) : res_out1 (F := Ideal) m c
    = refDk (m ((c : Thread nD τ).loc main_arg0)) (m ((c : Thread nD τ).loc main_arg3)) (m ((c : Thread nD τ).loc main_arg1))
        (m ((c : Thread nD τ).loc main_arg2)) := rfl

end Cert.ReferenceIdeal.Value

end
-- ==== Proof.Equation.lean ====
/-
  The reference's results are the kernel's: with finite queries and keys every score is a real number, so that the
  derivative of the quotient is the softmax's own gradient.
-/
module

public import proofs.«01_k».proof.Proof.Ref
public import proofs.«01_k».proof.Proof.Arrays

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Softmax
open Cert.KernelIdeal.Value (brow lane DQ DK DV)

variable {Q O : Vec Ideal S8192x512 .bf16} {K V : Vec Ideal S256x512 .bf16}

/-- Products of finite rows and a finite scale are finite. -/
theorem score_real (q : Fin 128 → EReal) (k : Fin 256 → Fin 128 → EReal) (hq : ∀ d, ∃ x : ℝ, q d = x)
    (hk : ∀ l d, ∃ x : ℝ, k l d = x) (l : Fin 256) : ∃ x : ℝ, score q k l = x := by
  choose a ha using hq
  choose b hb using hk
  obtain ⟨x, hx⟩ := exists_sum (fun d => q d * k l d) fun d => ⟨a d * b l d, by rw [ha, hb, EReal.coe_mul]⟩
  obtain ⟨y, hy⟩ : ∃ y : ℝ, scale = y := by
    simp only [scale, Ideal.ofBits, Ideal.ieee]
    rw [if_neg (by decide), if_neg (by decide)]
    exact ⟨_, rfl⟩
  exact ⟨x * y, by rw [score, hx, hy, EReal.coe_mul]⟩

/-- A head's scores of finite queries and keys are finite. -/
theorem head_real (hQ : ∀ i, ∃ x : ℝ, Q i = x) (hK : ∀ i, ∃ x : ℝ, K i = x) (h : Fin 4) (r : Fin 8192) (j : Fin 256) :
    ∃ x : ℝ, score (hrow Q h r) (hrow K h) j = x :=
  score_real _ _ (fun _ => hQ _) (fun _ _ => hK _) j

/-- THE GRADIENT OF THE QUERIES. -/
theorem refDq_eq (hQ : ∀ i, ∃ x : ℝ, Q i = x) (hK : ∀ i, ∃ x : ℝ, K i = x) :
    refDq Q O K V = fun j => DQ (brow Q (j 0)) (brow K) (brow V) (brow O (j 0)) (j 1) := by
  funext j
  obtain ⟨r, c, rfl⟩ : ∃ (r : Fin 8192) (c : Fin 512), j = ix2 r c := ⟨j 0, j 1, by blk_ext⟩
  pointwise [refDq, dscores_at, headK_at, scores_at, dprobs_at]
  refine Finset.sum_congr rfl fun l _ => ?_
  rw [grad'_eq_grad _ _ (head_real hQ hK _ r)]
  exact congrArg _ (by blk_ext)

theorem refDk_eq (hQ : ∀ i, ∃ x : ℝ, Q i = x) (hK : ∀ i, ∃ x : ℝ, K i = x) :
    refDk Q O K V = fun j => ∑ R : Fin 8192, DK (brow Q R) (brow K) (brow V) (brow O R) (j 0) (j 1) := by
  funext j
  obtain ⟨r, c, rfl⟩ : ∃ (r : Fin 256) (c : Fin 512), j = ix2 r c := ⟨j 0, j 1, by blk_ext⟩
  pointwise [refDk, dscores_at, headQ_at, scores_at, dprobs_at]
  refine Finset.sum_congr rfl fun x _ => ?_
  rw [grad'_eq_grad _ _ (head_real hQ hK _ x)]
  exact congrArg _ (by blk_ext)

theorem refDv_eq (hQ : ∀ i, ∃ x : ℝ, Q i = x) (hK : ∀ i, ∃ x : ℝ, K i = x) :
    refDv Q O K = fun j => ∑ R : Fin 8192, DV (brow Q R) (brow K) (brow O R) (j 0) (j 1) := by
  funext j
  obtain ⟨r, c, rfl⟩ : ∃ (r : Fin 256) (c : Fin 512), j = ix2 r c := ⟨j 0, j 1, by blk_ext⟩
  pointwise [refDv, probs_at, headO, headQ_at, scores_at]
  refine Finset.sum_congr rfl fun x _ => ?_
  rw [quot_eq_prob _ (head_real hQ hK _ x), mul_comm]
  exact congrArg _ (by blk_ext)

end Cert.ReferenceIdeal.Value

end
-- ==== Proof.FfDown.lean ====
/-
  The feed-forward block's down projection, added to the stream.
-/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference8Ideal.Value

open Idealize.ShloMosaic Idealize.ShloMosaic.TcCoe Idealize.SL.Sem
open Cert.Reference8Ideal Cert.Reference8Ideal.Gen

/-- The reference's result. -/
def ref (A : Vec Ideal S8192x5632 .bf16) (W : Vec Ideal S5632x2048 .bf16) (X : Vec Ideal S8192x2048 .f32) : FVec Ideal S8192x2048 .f32 :=
  addf X (Host.dotGeneral dot_S8192x5632_S5632x2048_S8192x2048_1_0_0_1_n_n none (extf .f32 A bitsLt_bf16_f32) (extf .f32 W bitsLt_bf16_f32))

theorem ref_at (A : Vec Ideal S8192x5632 .bf16) (W : Vec Ideal S5632x2048 .bf16) (X : Vec Ideal S8192x2048 .f32) (j : S8192x2048.Idx) :
    ref A W X j = (X j : EReal) + ∑ l : Fin 5632, (A (ix2 (j 0) l) : EReal) * W (ix2 l (j 1)) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference8Ideal := fun m ρ _ =>
  (θ_run defs _ _).mono (fun r h => ⟨fun c => (h c).2, sem_eq_zero_of_no_sems (by decide) r.2⟩)
    (run (F := Ideal) m ρ)

end Cert.Reference8Ideal.Value

/-! ## The kernel -/

namespace Cert.Kernel8Ideal.Value

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

theorem pay_at (w : Vec Ideal S5632x1024 .bf16) (a : Vec Ideal S512x5632 .bf16) (x : Vec Ideal S512x1024 .f32) (j : S512x1024.Idx) :
    k0_pay1 (F := Ideal) w a x j
      = (∑ l : Fin 5632, (a (ix2 (j 0) l) : EReal) * w (ix2 l (j 1))) + (x j : EReal) := by
  pointwise [k0_pay1]

/-- The result array, block by block. -/
theorem final (c : Dev nD) : (dats m 0 c).arrAt 3 (cfgs 0).N
    = Cert.Reference8Ideal.Value.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_at, Cert.Reference8Ideal.Value.ref_at, add_comm]
  refine congrArg₂ (fun a b : EReal => a + b) ?_ ?_
  · blk_point [iblk, V, idx t]
  · refine Fin.sum_fin_congr fun l => ?_
    blk_point [iblk, V, idx t]

/-- Kernel and reference leave the same projection. -/
theorem same : Cert.algebraic_Kernel8Ideal_Reference8Ideal := by
  pair_intro
  · run_from Cert.Kernel8Ideal.Value.run_blocks m g
  · run_from Cert.Reference8Ideal.Value.run_ref m' g'
    · exact (final m c).symm

end Cert.Kernel8Ideal.Value

end
-- ==== Proof.FfGate.lean ====
/-
  The feed-forward block's gate (and up) projection, its weight given as four shards of its columns.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference7Ideal.Value

open Idealize.ShloMosaic Idealize.ShloMosaic.TcCoe Idealize.SL.Sem
open Cert.Reference7Ideal Cert.Reference7Ideal.Gen

/-- The whole matrix, of its four shards. -/
def cols (W : Vec Ideal S4x2048x1408 .bf16) : FVec Ideal S2048x5632 .f32 :=
  concatenate S2048x5632 1
    [⟨S2048x1408, shapeCast _ (extractStridedSlice S1x2048x1408 ![0, 0, 0] (extf .f32 W bitsLt_bf16_f32)
        slices_S4x2048x1408_S1x2048x1408_0_0_0) shapeCasts_S1x2048x1408_S2048x1408⟩,
      ⟨S2048x1408, shapeCast _ (extractStridedSlice S1x2048x1408 ![1, 0, 0] (extf .f32 W bitsLt_bf16_f32)
        slices_S4x2048x1408_S1x2048x1408_1_0_0) shapeCasts_S1x2048x1408_S2048x1408⟩,
      ⟨S2048x1408, shapeCast _ (extractStridedSlice S1x2048x1408 ![2, 0, 0] (extf .f32 W bitsLt_bf16_f32)
        slices_S4x2048x1408_S1x2048x1408_2_0_0) shapeCasts_S1x2048x1408_S2048x1408⟩,
      ⟨S2048x1408, shapeCast _ (extractStridedSlice S1x2048x1408 ![3, 0, 0] (extf .f32 W bitsLt_bf16_f32)
        slices_S4x2048x1408_S1x2048x1408_3_0_0) shapeCasts_S1x2048x1408_S2048x1408⟩]
    concatenates_S2048x1408_S2048x1408_S2048x1408_S2048x1408_S2048x5632_d1

theorem cols_at (W : Vec Ideal S4x2048x1408 .bf16) (i : Fin 2048) (l : Fin 5632) :
    cols W (ix2 i l) = (W (ix3 ⟨l / 1408, by omega⟩ i ⟨l % 1408, by omega⟩) : EReal) := by
  pointwise [cols]
  blk_point []

theorem idx_lt (j : S8192x5632.Idx) : (j 1 : ℕ) / 1408 < 4 := by
  have h : (j 1 : ℕ) < 5632 := (j 1).isLt
  omega

/-- The reference's result. -/
def ref (A : Vec Ideal S8192x2048 .bf16) (W : Vec Ideal S4x2048x1408 .bf16) : FVec Ideal S8192x5632 .bf16 :=
  truncf .bf16 (Host.dotGeneral dot_S8192x2048_S2048x5632_S8192x5632_1_0_0_1_n_n none (extf .f32 A bitsLt_bf16_f32) (cols W)) bitsLt_bf16_f32

theorem ref_at (A : Vec Ideal S8192x2048 .bf16) (W : Vec Ideal S4x2048x1408 .bf16) (j : S8192x5632.Idx) :
    ref A W j = ∑ l : Fin 2048, (A (ix2 (j 0) l) : EReal) * W (ix3 ⟨j 1 / 1408, idx_lt j⟩ l ⟨j 1 % 1408, Nat.mod_lt _ (by decide)⟩) := by
  pointwise [ref, cols_at]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v12) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference7Ideal := fun m ρ _ =>
  (θ_run defs _ _).mono (fun r h => ⟨fun c => (h c).2, sem_eq_zero_of_no_sems (by decide) r.2⟩)
    (run (F := Ideal) m ρ)

end Cert.Reference7Ideal.Value

/-! ## The kernel -/

namespace Cert.Kernel7Ideal.Value

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

theorem idx : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

theorem pay_at (w : Vec Ideal S1x2048x1408 .bf16) (a : Vec Ideal S1024x2048 .bf16) (j : S1024x1408.Idx) :
    k0_pay1 (F := Ideal) w a j
      = (∑ l : Fin 2048, (a (ix2 (j 0) l) : EReal) * w (ix3 0 l (j 1))) := by
  pointwise [k0_pay1]

/-- The result array, block by block. -/
theorem final (c : Dev nD) : (dats m 0 c).arrAt 2 (cfgs 0).N
    = Cert.Reference7Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference7Ideal.Value.ref_at]
  refine Fin.sum_fin_congr fun l => ?_
  blk_point [iblk, V, idx t]

/-- Kernel and reference leave the same projection. -/
theorem same : Cert.algebraic_Kernel7Ideal_Reference7Ideal := by
  pair_intro
  · run_from Cert.Kernel7Ideal.Value.run_blocks m g
  · run_from Cert.Reference7Ideal.Value.run_ref m' g'
    · exact (final m c).symm

end Cert.Kernel7Ideal.Value

end
-- ==== Proof.Finite.lean ====
/-
  What the precondition says: every query and every key is a real number.
-/
module

public import proofs.«01_k».proof.Proof.Gen.Pre_finite_qk
public import Idealize.ShloMosaic.Lib.Pointwise
public import Idealize.ShloMosaic.Lib.Pipeline.ValueKit

@[expose] public section

set_option maxRecDepth 16384

noncomputable section

namespace Cert.Pre_finite_qk

open Idealize.ShloMosaic Cert.Pre_finite_qk

/-- An entry whose size is below +∞ is a real number. -/
theorem real_of_lt (x : EReal) (h : BitVec.ofBool (decide (max x (-x) < Ideal.ofBits .f32 0x7F800000#32)) = 1#1) :
    ∃ y : ℝ, x = y := by
  have e : Ideal.ofBits .f32 0x7F800000#32 = ⊤ := by simp [Ideal.ofBits, Ideal.ieee]
  rw [e] at h
  have h' : max x (-x) < ⊤ := by
    by_contra hn
    rw [decide_eq_false hn] at h
    exact absurd h (by decide)
  induction x using EReal.rec with
  | bot => simp at h'
  | top => simp at h'
  | coe y => exact ⟨y, rfl⟩

variable (Q O : FVec Ideal S8192x512 .bf16) (K V : FVec Ideal S256x512 .bf16)

theorem real_Q (h : fn (F := Ideal) Q K V O = fun _ => 1#1) (i : S8192x512.Idx) : ∃ x : ℝ, Q i = x := by
  obtain ⟨r, d, rfl⟩ : ∃ (r : Fin 8192) (d : Fin 512), i = ix2 r d := ⟨i 0, i 1, by blk_ext⟩
  have e : fn (F := Ideal) Q K V O (ix2 ⟨r, by omega⟩ d) = 1#1 := congrFun h _
  revert e
  pointwise [fn]
  exact real_of_lt _

theorem real_K (h : fn (F := Ideal) Q K V O = fun _ => 1#1) (i : S256x512.Idx) : ∃ x : ℝ, K i = x := by
  obtain ⟨r, d, rfl⟩ : ∃ (r : Fin 256) (d : Fin 512), i = ix2 r d := ⟨i 0, i 1, by blk_ext⟩
  have e : fn (F := Ideal) Q K V O (ix2 ⟨8192 + r, by omega⟩ d) = 1#1 := congrFun h _
  revert e
  pointwise [fn]
  exact real_of_lt _

end Cert.Pre_finite_qk

end
-- ==== Proof.GateFwd.lean ====
/-
  The gated linear unit, forwards.
-/
module

public import proofs.«01_k».proof.Defs
public import proofs.«01_k».proof.Proof.Gen.Kernel47.Frame
public import proofs.«01_k».proof.Proof.Gen.Kernel47Ideal.Frame
public import proofs.«01_k».proof.Proof.Gen.Kernel47Ideal.Value
public import proofs.«01_k».proof.Proof.Gen.Reference47Ideal.Run
public import proofs.«01_k».proof.Proof.Gates
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference47Ideal.Value

open Idealize.ShloMosaic Idealize.ShloMosaic.TcCoe Idealize.SL.Sem
open Cert.Reference47Ideal Cert.Reference47Ideal.Gen

/-- `silu g * u`. -/
def ref (g u : FVec Ideal S8192x5632 .bf16) : FVec Ideal S8192x5632 .bf16 :=
  truncf .bf16 (mulf (mulf (extf .f32 g bitsLt_bf16_f32) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 g bitsLt_bf16_f32)))))) (extf .f32 u bitsLt_bf16_f32)) bitsLt_bf16_f32

theorem one : Ideal.ofBits .f32 0x3F800000#32 = 1 := by
  simp [Ideal.ofBits, Ideal.ieee]
  rw [← EReal.coe_one, ← EReal.coe_mul]
  norm_num

theorem ref_at (g u : FVec Ideal S8192x5632 .bf16) (j : S8192x5632.Idx) :
    ref g u j = (g j : EReal) * Ideal.logistic (g j) * u j := by
  pointwise [ref, Ideal.logistic, one]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v4) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference47Ideal := fun m ρ _ =>
  (θ_run defs _ _).mono (fun r h => ⟨fun c => (h c).2, sem_eq_zero_of_no_sems (by decide) r.2⟩)
    (run (F := Ideal) m ρ)

end Cert.Reference47Ideal.Value

/-! ## The kernel -/

namespace Cert.Kernel47Ideal.Value

open Idealize.ShloMosaic Idealize.ShloMosaic.TcCoe Idealize.SL.Sem
open Idealize.ShloMosaic.Pipeline (Dat)
open Cert.Kernel47Ideal Cert.Kernel47Ideal.Gen

open Cert.Reference47Ideal.Value (ref ref_at)

theorem half : Ideal.ofBits .f32 0x3F000000#32 = ((1 / 2 : ℝ) : EReal) := by
  simp [Ideal.ofBits, Ideal.ieee]
  rw [← EReal.coe_mul]
  norm_num

/-- The logistic as the kernel writes it, by way of the hyperbolic tangent. -/
theorem gate_eq (g u : FVec Ideal S8192x5632 .bf16) : G2 (F := Ideal) g u = ref g u := by
  funext j
  have e : G2 (F := Ideal) g u j = (g j : EReal) * Ideal.logistic (g j) * u j := by
    rw [← Cert.Gates.half_tanh, ← half]
    rfl
  rw [e, ref_at]

/-- Kernel and reference leave the same gated rows. -/
theorem same : Cert.algebraic_Kernel47Ideal_Reference47Ideal := by
  pair_intro
  · run_from Cert.Kernel47Ideal.Value.run m g
  · run_from Cert.Reference47Ideal.Value.run_ref m' g'
    · exact (gate_eq _ _).symm

end Cert.Kernel47Ideal.Value

end
-- ==== Proof.GateGrad.lean ====
/-
  The gradient of the gated linear unit: of `silu g · u` with respect to both factors.
-/
module

public import proofs.«01_k».proof.Defs
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gates
public import proofs.«01_k».proof.Proof.Gen.Pre_finite_gate
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The precondition -/

namespace Cert.Pre_finite_gate

open Idealize.ShloMosaic Cert.Pre_finite_gate

/-- An entry whose size is below +∞ is a real number. -/
theorem real_of_lt (x : EReal) (h : BitVec.ofBool (decide (max x (-x) < Ideal.ofBits .f32 0x7F800000#32)) = 1#1) :
    ∃ y : ℝ, x = y := by
  have e : Ideal.ofBits .f32 0x7F800000#32 = ⊤ := by simp [Ideal.ofBits, Ideal.ieee]
  rw [e] at h
  have h' : max x (-x) < ⊤ := by
    by_contra hn
    rw [decide_eq_false hn] at h
    exact absurd h (by decide)
  induction x using EReal.rec with
  | bot => simp at h'
  | top => simp at h'
  | coe y => exact ⟨y, rfl⟩

/-- The gradient of the gate's output is a real number in every entry. -/
theorem real_at (g u d : FVec Ideal S8192x5632 .bf16) (h : fn (F := Ideal) g u d = fun _ => 1#1) (i : S8192x5632.Idx) :
    ∃ x : ℝ, (u i : EReal) * d i = x := by
  have e : fn (F := Ideal) g u d i = 1#1 := congrFun h _
  revert e
  pointwise [fn]
  exact real_of_lt _

end Cert.Pre_finite_gate

/-! ## The reference -/

namespace Cert.Reference35Ideal.Value

open Idealize.ShloMosaic Idealize.ShloMosaic.TcCoe Idealize.SL.Sem
open Cert.Reference35Ideal Cert.Reference35Ideal.Gen

/-- The gradient with respect to the gate. -/
def refG (g u d : Vec Ideal S8192x5632 .bf16) : FVec Ideal S8192x5632 .bf16 :=
  truncf .bf16 (addf (mulf (mulf (extf .f32 d bitsLt_bf16_f32) (extf .f32 u bitsLt_bf16_f32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 g bitsLt_bf16_f32)))))) (mulf (mulf (extf .f32 g bitsLt_bf16_f32) (mulf (extf .f32 d bitsLt_bf16_f32) (extf .f32 u bitsLt_bf16_f32))) (mulf (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 g bitsLt_bf16_f32))))) (subf (broadcastInDim S8192x5632 ![] bcast_S_S8192x5632 (constant S_ .f32 0x3F800000#32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 g bitsLt_bf16_f32))))))))) bitsLt_bf16_f32

/-- The gradient with respect to the other factor. -/
def refU (g d : Vec Ideal S8192x5632 .bf16) : FVec Ideal S8192x5632 .bf16 :=
  truncf .bf16 (mulf (mulf (extf .f32 g bitsLt_bf16_f32) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 g bitsLt_bf16_f32)))))) (extf .f32 d bitsLt_bf16_f32)) bitsLt_bf16_f32

theorem one : Ideal.ofBits .f32 0x3F800000#32 = 1 := by
  simp [Ideal.ofBits, Ideal.ieee]
  rw [← EReal.coe_one, ← EReal.coe_mul]
  norm_num

theorem refG_at (g u d : Vec Ideal S8192x5632 .bf16) (j : S8192x5632.Idx) :
    refG g u d j = (d j : EReal) * u j * Ideal.logistic (g j)
      + (g j : EReal) * ((d j : EReal) * u j) * (Ideal.logistic (g j) * (1 - Ideal.logistic (g j))) := by
  pointwise [refG, Ideal.logistic, one]

theorem refU_at (g d : Vec Ideal S8192x5632 .bf16) (j : S8192x5632.Idx) :
    refU g d j = (g j : EReal) * Ideal.logistic (g j) * d j := by
  pointwise [refU, Ideal.logistic, one]

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v8) = refG (m (c.tc.loc main_arg0)) (m (c.tc.loc main_arg1)) (m (c.tc.loc main_arg2))
      ∧ r.2.mem (c.tc.loc main_v9) = refU (m (c.tc.loc main_arg0)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2.1.trans rfl, (h c).2.2⟩)
    (run (F := Ideal) m ρ)

/-- The reference runs and leaves its arguments. -/
theorem frame_ref : Cert.quiescent_Reference35Ideal := fun m ρ _ =>
  (θ_run defs _ _).mono (fun r h => ⟨fun c => (h c).2.2, sem_eq_zero_of_no_sems (by decide) r.2⟩)
    (run (F := Ideal) m ρ)

end Cert.Reference35Ideal.Value

/-! ## The kernel -/

namespace Cert.Kernel35Ideal.Value

open Idealize.ShloMosaic Idealize.ShloMosaic.TcCoe Idealize.SL.Sem
open Idealize.ShloMosaic.Pipeline (Dat)
open Cert.Kernel35Ideal Cert.Kernel35Ideal.Gen
open Cert.Reference35Ideal.Value (refG refU refG_at refU_at one)

theorem half : Ideal.ofBits .f32 0x3F000000#32 = ((1 / 2 : ℝ) : EReal) := by
  simp [Ideal.ofBits, Ideal.ieee]
  rw [← EReal.coe_mul]
  norm_num

/-- The gate's gradient as the kernel writes it, for a finite `d · u`. -/
theorem gate_eq (g u d : Vec Ideal S8192x5632 .bf16) (j : S8192x5632.Idx) (h : ∃ x : ℝ, (u j : EReal) * d j = x) :
    G3 (F := Ideal) g u d j = refG g u d j := by
  have e : G3 (F := Ideal) g u d j = (d j : EReal) * u j * (Ideal.logistic (g j) * (1 + (g j : EReal) * (1 - Ideal.logistic (g j)))) := by
    rw [← Cert.Gates.half_tanh, ← half, ← one]
    rfl
  obtain ⟨x, hx⟩ := h
  rw [e, refG_at, mul_comm (d j : EReal) (u j), hx]
  exact Cert.Gates.silu_grad x _

theorem factor_eq (g d : Vec Ideal S8192x5632 .bf16) : G4 (F := Ideal) g d = refU g d := by
  funext j
  have e : G4 (F := Ideal) g d j = (d j : EReal) * g j * Ideal.logistic (g j) := by
    rw [← Cert.Gates.half_tanh, ← half]
    rfl
  rw [e, refU_at, mul_comm (d j : EReal) (g j), mul_assoc, mul_assoc, mul_comm (d j : EReal)]

/-- Kernel and reference leave the same two gradients. -/
theorem same : Cert.algebraic_Kernel35Ideal_Reference35Ideal_pre_finite_gate := by
  pair_intro
  · run_from Cert.Kernel35Ideal.Value.run m g
  · run_from Cert.Reference35Ideal.Value.run_ref m' g'
    · exact funext fun j => (gate_eq _ _ _ j (Cert.Pre_finite_gate.real_at _ _ _ (hpre c) j)).symm
    · exact (factor_eq _ _).symm

end Cert.Kernel35Ideal.Value

end
-- ==== Proof.MixRef.lean ====
/-
  The gated norm behind the scan and the skip's factor: the reference's gradients.
-/
module

public import proofs.«01_k».proof.Defs
public import proofs.«01_k».proof.Proof.Gen.Reference34Ideal.Run
public import proofs.«01_k».proof.Proof.Gates
public import proofs.«01_k».proof.Proof.Gen.Pre_finite_mix
public import Idealize.ShloMosaic.Lib.Claim
public import Idealize.ShloMosaic.Lib.Quiescent
public import Idealize.ShloMosaic.Lib.Pointwise

@[expose] public section

set_option maxRecDepth 16384

noncomputable section

namespace Cert.Mix

open Idealize.ShloMosaic

/-- A group's column among the columns of all groups. -/
def col (G : Fin 4) (d : Fin 512) : Fin 2048 := ⟨G.val * 512 + d.val, by omega⟩

/-- Every column is some group's. -/
theorem col_surj (k : Fin 2048) : ∃ G d, k = col G d :=
  ⟨⟨k.val / 512, by omega⟩, ⟨k.val % 512, by omega⟩, Fin.ext (by show k.val = k.val / 512 * 512 + k.val % 512; omega)⟩

/-- The norm's regulariser. -/
def eps : ℝ := 10995116 / 2 ^ 40

theorem ceps : Ideal.ofBits .f32 0x3727C5AC#32 = ((eps : ℝ) : EReal) := by
  simp [Ideal.ofBits, Ideal.ieee, eps]
  rw [← EReal.coe_mul]
  norm_num

theorem c512 : Ideal.ofBits .f32 0x44000000#32 = ((512 : ℝ) : EReal) := by
  simp [Ideal.ofBits, Ideal.ieee]
  rw [← EReal.coe_mul]
  norm_num

theorem cmhalf : Ideal.ofBits .f32 0xBF000000#32 = ((-1 / 2 : ℝ) : EReal) := by
  simp [Ideal.ofBits, Ideal.ieee]
  rw [← EReal.coe_mul, ← EReal.coe_neg]
  norm_num

theorem half : Ideal.ofBits .f32 0x3F000000#32 = ((1 / 2 : ℝ) : EReal) := by
  simp [Ideal.ofBits, Ideal.ieee]
  rw [← EReal.coe_mul]
  norm_num

theorem one : Ideal.ofBits .f32 0x3F800000#32 = 1 := by
  simp [Ideal.ofBits, Ideal.ieee]
  rw [← EReal.coe_one, ← EReal.coe_mul]
  norm_num

end Cert.Mix

/-! ## The precondition -/

namespace Cert.Pre_finite_mix

open Idealize.ShloMosaic Cert.Pre_finite_mix

/-- An entry whose size is below +∞ is a real number. -/
theorem real_of_lt (x : EReal) (h : BitVec.ofBool (decide (max x (-x) < Ideal.ofBits .f32 0x7F800000#32)) = 1#1) :
    ∃ y : ℝ, x = y := by
  have e : Ideal.ofBits .f32 0x7F800000#32 = ⊤ := by simp [Ideal.ofBits, Ideal.ieee]
  rw [e] at h
  have h' : max x (-x) < ⊤ := by
    by_contra hn
    rw [decide_eq_false hn] at h
    exact absurd h (by decide)
  induction x using EReal.rec with
  | bot => simp at h'
  | top => simp at h'
  | coe y => exact ⟨y, rfl⟩

variable (X : FVec Ideal S8192x3072 .bf16) (A B : FVec Ideal S4x8192x128 .f32) (C : FVec Ideal S128x8192 .f32)
variable (Z Y : FVec Ideal S8192x2048 .bf16) (S : FVec Ideal S32x16x128x128 .f32) (M : FVec Ideal S8192x4096 .bf16)
variable (K N : FVec Ideal S1x2048 .f32)

theorem real_up (e : fn (F := Ideal) X A B C Z Y S M K N = fun _ => 1#1) (r : Fin 8192) (d : Fin 2048) :
    ∃ x : ℝ, (M (ix2 r ⟨d, by omega⟩) : EReal) * N (ix2 0 d) = x := by
  have e : fn (F := Ideal) X A B C Z Y S M K N (ix2 r d) = 1#1 := congrFun e _
  revert e
  pointwise [fn]
  exact real_of_lt _

end Cert.Pre_finite_mix

/-! ## The reference -/

namespace Cert.Reference34Ideal.Value

open Idealize.ShloMosaic Idealize.ShloMosaic.TcCoe Idealize.SL.Sem
open Cert.Reference34Ideal Cert.Reference34Ideal.Gen Cert.Gates Cert.Mix

/-- The gate's logistic, its product with the gate, and the gated scan. -/
def gate (z : FVec Ideal S8192x2048 .bf16) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 z bitsLt_bf16_f32))))
def silu (z : FVec Ideal S8192x2048 .bf16) : FVec Ideal S8192x2048 .f32 := mulf (extf .f32 z bitsLt_bf16_f32) (gate z)
def gated (z y : FVec Ideal S8192x2048 .bf16) : FVec Ideal S8192x2048 .f32 := mulf (extf .f32 y bitsLt_bf16_f32) (silu z)

/-- The columns by group, and back. -/
def split (v : FVec Ideal S8192x2048 .f32) : FVec Ideal S8192x4x512 .f32 := shapeCast _ v shapeCasts_S8192x2048_S8192x4x512
def join (v : FVec Ideal S8192x4x512 .f32) : FVec Ideal S8192x2048 .f32 := shapeCast _ v shapeCasts_S8192x4x512_S8192x2048

/-- A group's mean square with the regulariser, its reciprocal root, and the normed group. -/
def square (v : FVec Ideal S8192x4x512 .f32) : FVec Ideal S8192x4x1 .f32 :=
  addf (Host.divf (broadcastInDim S8192x4x1 ![0, 1] bcast_S8192x4_S8192x4x1_0_1 (Host.reduceAdd (mulf v v) (constant S_ .f32 0x00000000#32) reducesTo_S8192x4x512_S8192x4_d2 h_S_)) (broadcastInDim S8192x4x1 ![] bcast_S_S8192x4x1 (constant S_ .f32 0x44000000#32))) (broadcastInDim S8192x4x1 ![] bcast_S_S8192x4x1 (constant S_ .f32 0x3727C5AC#32))
def root (v : FVec Ideal S8192x4x512 .f32) : FVec Ideal S8192x4x512 .f32 :=
  broadcastInDim S8192x4x512 ![0, 1, 2] bcast_S8192x4x1_S8192x4x512_0_1_2 (Host.rsqrt (square v))
def normed (v : FVec Ideal S8192x4x512 .f32) : FVec Ideal S8192x4x512 .f32 := mulf v (root v)

/-- The mixer's gradient at the scan's columns, and times the gain. -/
def dmix (dm : FVec Ideal S8192x4096 .bf16) : FVec Ideal S8192x2048 .f32 :=
  extractStridedSlice S8192x2048 ![0, 0] (extf .f32 dm bitsLt_bf16_f32) slices_S8192x4096_S8192x2048_0_0
def up (dm : FVec Ideal S8192x4096 .bf16) (nw : FVec Ideal S1x2048 .f32) : FVec Ideal S8192x2048 .f32 :=
  mulf (dmix dm) (broadcastInDim S8192x2048 ![0, 1] bcast_S1x2048_S8192x2048_0_1 nw)

/-- The part of the norm's gradient that comes by way of its root. -/
def share (v w : FVec Ideal S8192x4x512 .f32) : FVec Ideal S8192x4x512 .f32 :=
  broadcastInDim S8192x4x512 ![0, 1] bcast_S8192x4_S8192x4x512_0_1 (Host.reduceAdd (Host.divf (mulf (shapeCast _ (Host.reduceAdd (mulf v w) (constant S_ .f32 0x00000000#32) reducesTo_S8192x4x512_S8192x4_d2 h_S_) shapeCasts_S8192x4_S8192x4x1) (mulf (broadcastInDim S8192x4x1 ![] bcast_S_S8192x4x1 (constant S_ .f32 0xBF000000#32)) (Host.divf (Host.rsqrt (square v)) (square v)))) (broadcastInDim S8192x4x1 ![] bcast_S_S8192x4x1 (constant S_ .f32 0x44000000#32))) (constant S_ .f32 0x00000000#32) reducesTo_S8192x4x1_S8192x4_d2 h_S_)

/-- The gradient of the groups from that of the normed groups. -/
def grad (v w : FVec Ideal S8192x4x512 .f32) : FVec Ideal S8192x4x512 .f32 :=
  addf (addf (mulf w (root v)) (mulf v (share v w))) (mulf (share v w) v)

variable (xc : FVec Ideal S8192x3072 .bf16) (z y : FVec Ideal S8192x2048 .bf16) (dm : FVec Ideal S8192x4096 .bf16)
variable (nw : FVec Ideal S1x2048 .f32)

/-- The gradient of the gated scan. -/
def dyg : FVec Ideal S8192x2048 .f32 := join (grad (split (gated z y)) (split (up dm nw)))

/-- The three gradients. -/
def refZ : FVec Ideal S8192x2048 .bf16 :=
  truncf .bf16 (addf (mulf (mulf (extf .f32 y bitsLt_bf16_f32) (dyg z y dm nw)) (gate z)) (mulf (mulf (extf .f32 z bitsLt_bf16_f32) (mulf (extf .f32 y bitsLt_bf16_f32) (dyg z y dm nw))) (mulf (gate z) (subf (broadcastInDim S8192x2048 ![] bcast_S_S8192x2048 (constant S_ .f32 0x3F800000#32)) (gate z))))) bitsLt_bf16_f32
def refS : FVec Ideal S1x2048 .f32 :=
  shapeCast _ (Host.reduceAdd (mulf (shapeCast _ (extractStridedSlice S8192x4x512 ![0, 0, 0] (shapeCast _ (extf .f32 xc bitsLt_bf16_f32) shapeCasts_S8192x3072_S8192x4x768) slices_S8192x4x768_S8192x4x512_0_0_0) shapeCasts_S8192x4x512_S8192x2048) (mulf (dyg z y dm nw) (silu z))) (constant S_ .f32 0x00000000#32) reducesTo_S8192x2048_S2048_d0 h_S_) shapeCasts_S2048_S1x2048
def refN : FVec Ideal S1x2048 .f32 :=
  shapeCast _ (Host.reduceAdd (mulf (join (normed (split (gated z y)))) (dmix dm)) (constant S_ .f32 0x00000000#32) reducesTo_S8192x2048_S2048_d0 h_S_) shapeCasts_S2048_S1x2048

theorem sig_at (j : S8192x2048.Idx) : gate z j = Ideal.logistic (z j) := by
  pointwise [gate, Ideal.logistic, one]

theorem silu_at (j : S8192x2048.Idx) : silu z j = (z j : EReal) * Ideal.logistic (z j) := by
  rw [← sig_at]
  rfl

/-- The gated scan at one row of one group. -/
def row (r : Fin 8192) (G : Fin 4) (d : Fin 512) : EReal :=
  (y (ix2 r (col G d)) : EReal) * ((z (ix2 r (col G d)) : EReal) * Ideal.logistic (z (ix2 r (col G d))))

/-- The normed group's gradient there. -/
def upRow (r : Fin 8192) (G : Fin 4) (d : Fin 512) : EReal :=
  (dm (ix2 r ⟨(col G d).val, by omega⟩) : EReal) * nw (ix2 0 (col G d))

theorem split_at (v : FVec Ideal S8192x2048 .f32) (r : Fin 8192) (G : Fin 4) (d : Fin 512) :
    split v (ix3 r G d) = v (ix2 r (col G d)) := by
  pointwise [split]
  rfl

theorem join_at (v : FVec Ideal S8192x4x512 .f32) (r : Fin 8192) (G : Fin 4) (d : Fin 512) :
    join v (ix2 r (col G d)) = v (ix3 r G d) := by
  pointwise [join, col]

theorem gated_at (r : Fin 8192) (G : Fin 4) (d : Fin 512) : split (gated z y) (ix3 r G d) = row z y r G d := by
  rw [split_at, row, ← silu_at]
  rfl

theorem up_at (r : Fin 8192) (G : Fin 4) (d : Fin 512) : split (up dm nw) (ix3 r G d) = upRow dm nw r G d := by
  rw [split_at, upRow]
  pointwise [up, dmix]

theorem root_at (v : FVec Ideal S8192x4x512 .f32) (r : Fin 8192) (G : Fin 4) (d : Fin 512) :
    root v (ix3 r G d) = Ideal.rsqrt (meanSq 512 eps fun k => v (ix3 r G k)) := by
  rw [meanSq, ← c512, ← ceps]
  pointwise [root, square]

theorem share_at (v w : FVec Ideal S8192x4x512 .f32) (r : Fin 8192) (G : Fin 4) (d : Fin 512) :
    share v w (ix3 r G d) = normPart 512 eps (fun k => v (ix3 r G k)) (fun k => w (ix3 r G k)) := by
  rw [normPart, meanSq, ← c512, ← ceps, ← cmhalf]
  pointwise [share, square]
  rw [Fin.sum_univ_one]

theorem dyg_at (r : Fin 8192) (G : Fin 4) (d : Fin 512) : dyg z y dm nw (ix2 r (col G d))
    = upRow dm nw r G d * Ideal.rsqrt (meanSq 512 eps (row z y r G))
      + row z y r G d * normPart 512 eps (row z y r G) (upRow dm nw r G)
      + normPart 512 eps (row z y r G) (upRow dm nw r G) * row z y r G d := by
  have e : grad (split (gated z y)) (split (up dm nw)) (ix3 r G d)
      = split (up dm nw) (ix3 r G d) * root (split (gated z y)) (ix3 r G d)
        + split (gated z y) (ix3 r G d) * share (split (gated z y)) (split (up dm nw)) (ix3 r G d)
        + share (split (gated z y)) (split (up dm nw)) (ix3 r G d) * split (gated z y) (ix3 r G d) := rfl
  rw [dyg, join_at, e, root_at, share_at]
  simp only [gated_at, up_at]

theorem refZ_at (j : S8192x2048.Idx) : refZ z y dm nw j
    = (y j : EReal) * dyg z y dm nw j * Ideal.logistic (z j)
      + (z j : EReal) * ((y j : EReal) * dyg z y dm nw j) * (Ideal.logistic (z j) * (1 - Ideal.logistic (z j))) := by
  rw [← sig_at, ← one]
  rfl

theorem refS_at (G : Fin 4) (d : Fin 512) : refS xc z y dm nw (ix2 0 (col G d))
    = ∑ r : Fin 8192, (xc (ix2 r ⟨G.val * 768 + d.val, by omega⟩) : EReal)
        * (dyg z y dm nw (ix2 r (col G d)) * ((z (ix2 r (col G d)) : EReal) * Ideal.logistic (z (ix2 r (col G d))))) := by
  simp only [← silu_at]
  generalize hu : dyg z y dm nw = u
  generalize hv : silu z = v
  rw [refS, hu, hv]
  clear hu hv
  pointwise [col]

theorem refN_at (G : Fin 4) (d : Fin 512) : refN z y dm (ix2 0 (col G d))
    = ∑ r : Fin 8192, row z y r G d * Ideal.rsqrt (meanSq 512 eps (row z y r G)) * (dm (ix2 r ⟨(col G d).val, by omega⟩) : EReal) := by
  have e (r : Fin 8192) : join (normed (split (gated z y))) (ix2 r (col G d))
      = row z y r G d * Ideal.rsqrt (meanSq 512 eps (row z y r G)) := by
    have e' : normed (split (gated z y)) (ix3 r G d) = split (gated z y) (ix3 r G d) * root (split (gated z y)) (ix3 r G d) := rfl
    rw [join_at, e', root_at]
    simp only [gated_at]
  simp only [← e]
  generalize hu : join (normed (split (gated z y))) = u
  rw [refN, hu]
  clear hu e
  pointwise [dmix]

set_option maxHeartbeats 4000000 in
/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v56) = refZ (m (c.tc.loc main_arg4)) (m (c.tc.loc main_arg5)) (m (c.tc.loc main_arg7)) (m (c.tc.loc main_arg9))
      ∧ r.2.mem (c.tc.loc main_v55) = refS (m (c.tc.loc main_arg0)) (m (c.tc.loc main_arg4)) (m (c.tc.loc main_arg5)) (m (c.tc.loc main_arg7)) (m (c.tc.loc main_arg9))
      ∧ r.2.mem (c.tc.loc main_v29) = refN (m (c.tc.loc main_arg4)) (m (c.tc.loc main_arg5)) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) :=
  (θ_run defs _ _).mono (fun r h c => ⟨(h c).1.trans rfl, (h c).2.1.trans rfl, (h c).2.2.1.trans rfl, (h c).2.2.2⟩)
    (run (F := Ideal) m ρ)

/-- The reference runs and leaves its arguments. -/
theorem frame_ref : Cert.quiescent_Reference34Ideal := fun m ρ _ =>
  (θ_run defs _ _).mono (fun r h => ⟨fun c => (h c).2.2.2, sem_eq_zero_of_no_sems (by decide) r.2⟩)
    (run (F := Ideal) m ρ)

end Cert.Reference34Ideal.Value

end
-- ==== Proof.MixGrad.lean ====
/-
  The gated norm behind the scan: its gradients, from the scan's backward call, and the gradient of the skip's factor.
-/
module

public import proofs.«01_k».proof.Defs
public import proofs.«01_k».proof.Proof.Gen.Kernel34.Frame
public import proofs.«01_k».proof.Proof.Gen.Kernel34Ideal.Frame
public import proofs.«01_k».proof.Proof.Gen.Kernel34Ideal.Value
public import proofs.«01_k».proof.Proof.MixRef
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The kernel -/

namespace Cert.Kernel34Ideal.Value

open Idealize.ShloMosaic Idealize.ShloMosaic.TcCoe Idealize.SL.Sem
open Idealize.ShloMosaic.Pipeline (Dat)
open Cert.Kernel34Ideal Cert.Kernel34Ideal.Gen Cert.Gates Cert.Mix
open Cert.Reference34Ideal.Value (refZ refS refN dyg row upRow dyg_at refZ_at refS_at refN_at)

variable (m : (ℓ : Loc nD τ sig) → Buf (Elt Ideal) ℓ)

/-- The convolved channels, the gate, the scan, the mixer's gradient and the gain as the call is given them. -/
abbrev aX (c : Dev nD) : FVec Ideal S8192x3072 .bf16 := m ((c : Thread nD τ).loc main_arg0)
abbrev aZ (c : Dev nD) : FVec Ideal S8192x2048 .bf16 := m ((c : Thread nD τ).loc main_arg4)
abbrev aY (c : Dev nD) : FVec Ideal S8192x2048 .bf16 := m ((c : Thread nD τ).loc main_arg5)
abbrev aM (c : Dev nD) : FVec Ideal S8192x4096 .bf16 := m ((c : Thread nD τ).loc main_arg7)
abbrev aN (c : Dev nD) : FVec Ideal S1x2048 .f32 := m ((c : Thread nD τ).loc main_arg9)

theorem idx : ∀ t : Fin cfg0.N, win0_0.index t = ![31 - t.val % 32, t.val / 32] ∧ win0_4.index t = ![31 - t.val % 32, t.val / 32]
    ∧ win0_5.index t = ![31 - t.val % 32, t.val / 32] ∧ win0_7.index t = ![31 - t.val % 32, t.val / 32]
    ∧ win0_9.index t = ![0, t.val / 32] ∧ win0_11.index t = ![31 - t.val % 32, t.val / 32]
    ∧ win0_14.index t = ![0, t.val / 32] ∧ win0_15.index t = ![0, t.val / 32] :=
  (by decide +kernel : ∀ t : Fin grid0.N, _)

theorem lt128 (t : Fin cfg0.N) : t.val < 128 := lt_of_lt_of_eq t.isLt N_0

/-- The group of a grid point, and the row of the whole array that is its block's row `l`. -/
def grp (t : Fin cfg0.N) : Fin 4 := ⟨t.val / 32, by have := lt128 t; omega⟩
def at_ (t : Fin cfg0.N) (l : Fin 256) : Fin 8192 := ⟨(31 - t.val % 32) * 256 + l.val, by omega⟩

/-- The blocks of the inputs at grid point `t`. -/
abbrev bX (c : Dev nD) (t : Fin cfg0.N) : FVec Ideal S256x768 .bf16 := iblk m c 0 t
abbrev bZ (c : Dev nD) (t : Fin cfg0.N) : FVec Ideal S256x512 .bf16 := iblk m c 4 t
abbrev bY (c : Dev nD) (t : Fin cfg0.N) : FVec Ideal S256x512 .bf16 := iblk m c 5 t
abbrev bM (c : Dev nD) (t : Fin cfg0.N) : FVec Ideal S256x512 .bf16 := iblk m c 7 t
abbrev bN (c : Dev nD) (t : Fin cfg0.N) : FVec Ideal S1x512 .f32 := iblk m c 9 t

theorem blk_x (c : Dev nD) (t : Fin cfg0.N) (l : Fin 256) (d : Fin 512) :
    bX m c t (ix2 l ⟨d.val, by omega⟩) = aX m c (ix2 (at_ t l) ⟨(grp t).val * 768 + d.val, by omega⟩) := by
  show iblk m c 0 t (ix2 l ⟨d.val, by omega⟩) = m ((c : Thread nD τ).loc main_arg0) (ix2 (at_ t l) ⟨(grp t).val * 768 + d.val, by omega⟩)
  blk_point [iblk, V, idx t, at_, grp]

theorem blk_z (c : Dev nD) (t : Fin cfg0.N) (l : Fin 256) (d : Fin 512) :
    bZ m c t (ix2 l d) = aZ m c (ix2 (at_ t l) (col (grp t) d)) := by
  show iblk m c 4 t (ix2 l d) = m ((c : Thread nD τ).loc main_arg4) (ix2 (at_ t l) (col (grp t) d))
  blk_point [iblk, V, idx t, at_, grp, col]

theorem blk_y (c : Dev nD) (t : Fin cfg0.N) (l : Fin 256) (d : Fin 512) :
    bY m c t (ix2 l d) = aY m c (ix2 (at_ t l) (col (grp t) d)) := by
  show iblk m c 5 t (ix2 l d) = m ((c : Thread nD τ).loc main_arg5) (ix2 (at_ t l) (col (grp t) d))
  blk_point [iblk, V, idx t, at_, grp, col]

theorem blk_m (c : Dev nD) (t : Fin cfg0.N) (l : Fin 256) (d : Fin 512) :
    bM m c t (ix2 l d) = aM m c (ix2 (at_ t l) ⟨(col (grp t) d).val, by omega⟩) := by
  show iblk m c 7 t (ix2 l d) = m ((c : Thread nD τ).loc main_arg7) (ix2 (at_ t l) ⟨(col (grp t) d).val, by omega⟩)
  blk_point [iblk, V, idx t, at_, grp, col]

theorem blk_n (c : Dev nD) (t : Fin cfg0.N) (d : Fin 512) : bN m c t (ix2 0 d) = aN m c (ix2 0 (col (grp t) d)) := by
  show iblk m c 9 t (ix2 0 d) = m ((c : Thread nD τ).loc main_arg9) (ix2 0 (col (grp t) d))
  blk_point [iblk, V, idx t, grp, col]

section Payloads

variable (y z d : FVec Ideal S256x512 .bf16) (n : FVec Ideal S1x512 .f32) (x : FVec Ideal S256x768 .bf16)

/-- A block's row of the gated scan, and of the normed group's gradient. -/
def bRow (l : Fin 256) (k : Fin 512) : EReal := (y (ix2 l k) : EReal) * ((z (ix2 l k) : EReal) * Ideal.logistic (z (ix2 l k)))
def bUp (l : Fin 256) (k : Fin 512) : EReal := (d (ix2 l k) : EReal) * n (ix2 0 k)

theorem pay13_at (j : S256x512.Idx) : k0_pay13 (F := Ideal) z j = Ideal.logistic (z j) := by
  rw [← half_tanh, ← half]
  rfl

theorem pay14_at (j : S256x512.Idx) : k0_pay14 (F := Ideal) z j = (z j : EReal) * Ideal.logistic (z j) := by
  rw [← pay13_at]
  rfl

theorem pay15_at (l : Fin 256) (k : Fin 512) : k0_pay15 (F := Ideal) y z (ix2 l k) = bRow y z l k := by
  rw [bRow, ← pay14_at]
  rfl

theorem pay16_at (l : Fin 256) (o : Fin 1) : k0_pay16 (F := Ideal) y z (ix2 l o) = Ideal.rsqrt (meanSq 512 eps (bRow y z l)) := by
  have e : meanSq 512 eps (bRow y z l) = meanSq 512 eps fun k => k0_pay15 (F := Ideal) y z (ix2 l k) := by
    simp only [pay15_at]
  rw [e, meanSq, ← c512, ← ceps]
  generalize hv : k0_pay15 (F := Ideal) y z = v
  unfold k0_pay16
  rw [hv]
  clear e hv
  pointwise []

theorem pay17_at (l : Fin 256) (k : Fin 512) :
    k0_pay17 (F := Ideal) y z (ix2 l k) = bRow y z l k * Ideal.rsqrt (meanSq 512 eps (bRow y z l)) := by
  rw [← pay15_at, ← pay16_at y z l 0]
  generalize hv : k0_pay15 (F := Ideal) y z = v
  generalize hw : k0_pay16 (F := Ideal) y z = w
  unfold k0_pay17
  rw [hv, hw]
  clear hv hw
  pointwise []

theorem pay20_at (l : Fin 256) (k : Fin 512) :
    k0_pay20 (F := Ideal) n (k0_pay12 (F := Ideal) d) (k0_pay16 (F := Ideal) y z) (k0_pay17 (F := Ideal) y z) (ix2 l k)
      = normGrad 512 eps (bRow y z l) (bUp d n l) k := by
  rw [normGrad]
  simp only [← pay17_at]
  rw [← pay16_at y z l 0, ← c512]
  simp only [bUp]
  generalize k0_pay16 (F := Ideal) y z = w
  generalize k0_pay17 (F := Ideal) y z = v
  pointwise [k0_pay20, k0_pay12]

/-- The gate's gradient, before it is written back. -/
theorem pay22_at (l : Fin 256) (k : Fin 512) :
    k0_pay22 (F := Ideal) (k0_pay10 (F := Ideal) y) (k0_pay11 (F := Ideal) z) n (k0_pay12 (F := Ideal) d) (k0_pay13 (F := Ideal) z)
        (k0_pay16 (F := Ideal) y z) (k0_pay17 (F := Ideal) y z) (ix2 l k)
      = normGrad 512 eps (bRow y z l) (bUp d n l) k * (y (ix2 l k) : EReal)
        * (Ideal.logistic (z (ix2 l k)) * (1 + (z (ix2 l k) : EReal) * (1 - Ideal.logistic (z (ix2 l k))))) := by
  rw [← pay20_at, ← pay13_at, ← one]
  rfl

/-- What a point adds to the gradients of the gain and of the skip's factor. -/
def partN (l : Fin 256) (k : Fin 512) : EReal := (d (ix2 l k) : EReal) * (bRow y z l k * Ideal.rsqrt (meanSq 512 eps (bRow y z l)))
def partS (l : Fin 256) (k : Fin 512) : EReal :=
  normGrad 512 eps (bRow y z l) (bUp d n l) k * ((z (ix2 l k) : EReal) * Ideal.logistic (z (ix2 l k))) * (x (ix2 l ⟨k.val, by omega⟩) : EReal)

theorem pay18_at (a : FVec Ideal S1x512 .f32) : k0_pay18 (F := Ideal) a = a := by
  funext j
  obtain ⟨l, k, rfl⟩ : ∃ (l : Fin 1) (k : Fin 512), j = ix2 l k := ⟨j 0, j 1, by blk_ext⟩
  pointwise [k0_pay18]

theorem pay19_at (a : FVec Ideal S1x512 .f32) (k : Fin 512) :
    k0_pay19 (F := Ideal) (k0_pay12 (F := Ideal) d) (k0_pay17 (F := Ideal) y z) a (ix2 0 k) = a (ix2 0 k) + ∑ l : Fin 256, partN y z d l k := by
  simp only [partN, ← pay17_at]
  generalize k0_pay17 (F := Ideal) y z = v
  pointwise [k0_pay19, k0_pay12]

theorem pay23_at (a : FVec Ideal S1x512 .f32) (k : Fin 512) :
    k0_pay23 (F := Ideal) (k0_pay6 (F := Ideal) x) n (k0_pay12 (F := Ideal) d) (k0_pay14 (F := Ideal) z)
        (k0_pay16 (F := Ideal) y z) (k0_pay17 (F := Ideal) y z) a (ix2 0 k)
      = a (ix2 0 k) + ∑ l : Fin 256, partS y z d n x l k := by
  simp only [partS, ← pay20_at, ← pay14_at]
  generalize hw : k0_pay20 (F := Ideal) n (k0_pay12 (F := Ideal) d) (k0_pay16 (F := Ideal) y z) (k0_pay17 (F := Ideal) y z) = w
  generalize hv : k0_pay14 (F := Ideal) z = v
  unfold k0_pay23 k0_pay21
  rw [hw]
  clear hw hv
  pointwise [k0_pay6]

end Payloads

/-- What point `t` writes into the gate's gradient. -/
theorem out_z (c : Dev nD) (t : Fin cfg0.N) (j : S256x512.Idx) : (outsAt0 m c t.val t.isLt).2.1 j
    = k0_pay22 (F := Ideal) (k0_pay10 (F := Ideal) (bY m c t)) (k0_pay11 (F := Ideal) (bZ m c t)) (bN m c t) (k0_pay12 (F := Ideal) (bM m c t)) (k0_pay13 (F := Ideal) (bZ m c t)) (k0_pay16 (F := Ideal) (bY m c t) (bZ m c t)) (k0_pay17 (F := Ideal) (bY m c t) (bZ m c t)) j := by
  by_cases h : t.val % 32 = 0
  · rw [outsAt0_A m c t h]
    frame_out
  · rw [outsAt0_B m c t h]
    frame_out

/-- What it adds to the other two. -/
def gainS (c : Dev nD) (t : Fin cfg0.N) (j : S1x512.Idx) : EReal :=
  ∑ l : Fin 256, partS (bY m c t) (bZ m c t) (bM m c t) (bN m c t) (bX m c t) l (j 1)
def gainN (c : Dev nD) (t : Fin cfg0.N) (j : S1x512.Idx) : EReal :=
  ∑ l : Fin 256, partN (bY m c t) (bZ m c t) (bM m c t) l (j 1)

theorem outS_A (c : Dev nD) (t : Fin cfg0.N) (h : t.val % 32 = 0) (j : S1x512.Idx) :
    (outsAt0 m c t.val t.isLt).2.2.2.2.1 j = 0 + gainS m c t j := by
  obtain ⟨l, d, rfl⟩ : ∃ (l : Fin 1) (d : Fin 512), j = ix2 l d := ⟨j 0, j 1, by blk_ext⟩
  obtain rfl : l = 0 := Subsingleton.elim _ _
  rw [outsAt0_A m c t h]
  frame_out
  refine (pay23_at (bY m c t) (bZ m c t) (bM m c t) (bN m c t) (bX m c t) (k0_pay4 (F := Ideal)) d).trans ?_
  refine congrArg (· + gainS m c t (ix2 0 d)) ?_
  exact Ideal.ofBits_zero_f32

theorem outS_B (c : Dev nD) (t : Fin cfg0.N) (h : ¬t.val % 32 = 0) (j : S1x512.Idx) :
    (outsAt0 m c t.val t.isLt).2.2.2.2.1 j = (outsAt0 m c (t.val - 1) (Nat.lt_of_le_of_lt (Nat.sub_le _ _) t.isLt)).2.2.2.2.1 j + gainS m c t j := by
  obtain ⟨l, d, rfl⟩ : ∃ (l : Fin 1) (d : Fin 512), j = ix2 l d := ⟨j 0, j 1, by blk_ext⟩
  obtain rfl : l = 0 := Subsingleton.elim _ _
  rw [outsAt0_B m c t h]
  frame_out
  exact pay23_at (bY m c t) (bZ m c t) (bM m c t) (bN m c t) (bX m c t) (outsAt0 m c (t.val - 1) (Nat.lt_of_le_of_lt (Nat.sub_le _ _) t.isLt)).2.2.2.2.1 d

theorem outN_A (c : Dev nD) (t : Fin cfg0.N) (h : t.val % 32 = 0) (j : S1x512.Idx) :
    (outsAt0 m c t.val t.isLt).2.2.2.2.2.1 j = 0 + gainN m c t j := by
  obtain ⟨l, d, rfl⟩ : ∃ (l : Fin 1) (d : Fin 512), j = ix2 l d := ⟨j 0, j 1, by blk_ext⟩
  obtain rfl : l = 0 := Subsingleton.elim _ _
  rw [outsAt0_A m c t h]
  frame_out
  rw [pay18_at]
  refine (pay19_at (bY m c t) (bZ m c t) (bM m c t) (k0_pay5 (F := Ideal)) d).trans ?_
  refine congrArg (· + gainN m c t (ix2 0 d)) ?_
  exact Ideal.ofBits_zero_f32

theorem outN_B (c : Dev nD) (t : Fin cfg0.N) (h : ¬t.val % 32 = 0) (j : S1x512.Idx) :
    (outsAt0 m c t.val t.isLt).2.2.2.2.2.1 j = (outsAt0 m c (t.val - 1) (Nat.lt_of_le_of_lt (Nat.sub_le _ _) t.isLt)).2.2.2.2.2.1 j + gainN m c t j := by
  obtain ⟨l, d, rfl⟩ : ∃ (l : Fin 1) (d : Fin 512), j = ix2 l d := ⟨j 0, j 1, by blk_ext⟩
  obtain rfl : l = 0 := Subsingleton.elim _ _
  rw [outsAt0_B m c t h]
  frame_out
  rw [pay18_at]
  exact pay19_at (bY m c t) (bZ m c t) (bM m c t) (outsAt0 m c (t.val - 1) (Nat.lt_of_le_of_lt (Nat.sub_le _ _) t.isLt)).2.2.2.2.2.1 d

/-! ### The blocks in the whole arrays -/

theorem row_eq (c : Dev nD) (t : Fin cfg0.N) (l : Fin 256) : bRow (bY m c t) (bZ m c t) l = row (aZ m c) (aY m c) (at_ t l) (grp t) := by
  funext k
  rw [bRow, row, blk_y, blk_z]

theorem up_eq (c : Dev nD) (t : Fin cfg0.N) (l : Fin 256) : bUp (bM m c t) (bN m c t) l = upRow (aM m c) (aN m c) (at_ t l) (grp t) := by
  funext k
  rw [bUp, upRow, blk_m, blk_n]

/-- The gradient of the normed scan is a number. -/
def Finite (c : Dev nD) : Prop := ∀ r G d, ∃ x : ℝ, upRow (aM m c) (aN m c) r G d = x

/-- The norm's gradient in the two forms. -/
theorem grad_eq (c : Dev nD) (t : Fin cfg0.N) (l : Fin 256) (k : Fin 512) :
    normGrad 512 eps (bRow (bY m c t) (bZ m c t) l) (bUp (bM m c t) (bN m c t) l) k
      = dyg (aZ m c) (aY m c) (aM m c) (aN m c) (ix2 (at_ t l) (col (grp t) k)) := by
  rw [row_eq, up_eq, dyg_at, normGrad_eq 512 eps (by norm_num) (by norm_num [eps]), add_assoc]

/-- The norm's gradient is a number, and 0 where the scan is infinite and its gate is not 0. -/
theorem real_grad (c : Dev nD) (h : Finite m c) (r : Fin 8192) (G : Fin 4) (k : Fin 512) :
    dyg (aZ m c) (aY m c) (aM m c) (aN m c) (ix2 r (col G k)) = 0
      ∨ (∃ x : ℝ, dyg (aZ m c) (aY m c) (aM m c) (aN m c) (ix2 r (col G k)) = x) ∧ ∃ x : ℝ, row (aZ m c) (aY m c) r G k = x := by
  rw [dyg_at]
  choose b hb using h r G
  have e2 : upRow (aM m c) (aN m c) r G = fun k => (b k : EReal) := funext hb
  by_cases hx : ∀ k, ∃ x : ℝ, row (aZ m c) (aY m c) r G k = x
  · refine Or.inr ⟨?_, hx k⟩
    choose a ha using hx
    obtain ⟨s, hs, e⟩ := meanSq_coe 512 eps (by norm_num) (by norm_num [eps]) a
    have e1 : row (aZ m c) (aY m c) r G = fun k => (a k : EReal) := funext ha
    have e3 : (∑ k, (a k : EReal) * (b k : EReal)) = ((∑ k, a k * b k : ℝ) : EReal) := by
      rw [coe_sum]; simp only [EReal.coe_mul]
    rw [e1, e2, normPart, e, Ideal.rsqrt_coe, if_neg (not_lt.mpr hs.le), if_neg hs.ne', e3, div_coe _ _ hs.ne', ← EReal.coe_mul,
      ← EReal.coe_mul, ← EReal.coe_mul, div_coe _ _ (by norm_num)]
    exact ⟨_, by norm_cast⟩
  · obtain ⟨k', hk⟩ : ∃ k, ∀ x : ℝ, row (aZ m c) (aY m c) r G k ≠ x := by
      by_contra hn
      exact hx fun k => by
        by_contra hk
        exact hn ⟨k, fun x e => hk ⟨x, e⟩⟩
    have h1 : Ideal.div (0 : EReal) ⊤ = 0 := by simp [Ideal.div]
    have h2 : Ideal.div (0 : EReal) ((512 : ℝ) : EReal) = 0 := by
      rw [Ideal.div, if_neg (by exact_mod_cast (by norm_num : (512 : ℝ) ≠ 0)), zero_mul]
    refine Or.inl ?_
    rw [normPart, meanSq_top 512 eps (by norm_num) _ k' hk, Ideal.rsqrt_top, h1]
    simp [h2]

/-- The gate's gradient in the two forms, where its output's gradient is a number or 0 as above. -/
theorem gate_eq (d y z : EReal) (h : d = 0 ∨ (∃ x : ℝ, d = x) ∧ ∃ x : ℝ, y * (z * Ideal.logistic z) = x) :
    y * d * (Ideal.logistic z * (1 + z * (1 - Ideal.logistic z)))
      = y * d * Ideal.logistic z + z * (y * d) * (Ideal.logistic z * (1 - Ideal.logistic z)) := by
  rcases h with rfl | ⟨⟨a, rfl⟩, v, hv⟩
  · simp
  · by_cases hy : ∃ b : ℝ, y = b
    · obtain ⟨b, rfl⟩ := hy
      rw [← EReal.coe_mul]
      exact silu_grad _ _
    · have hz : z * Ideal.logistic z = 0 := by
        by_contra hn
        have ht : y = ⊤ ∨ y = ⊥ := by
          induction y using EReal.rec with
          | bot => exact Or.inr rfl
          | top => exact Or.inl rfl
          | coe b => exact absurd ⟨b, rfl⟩ hy
        rcases lt_or_gt_of_ne hn with hl | hl <;> rcases ht with rfl | rfl
        · rw [EReal.top_mul_of_neg hl] at hv
          exact EReal.bot_ne_coe v hv
        · rw [EReal.bot_mul_of_neg hl] at hv
          exact EReal.top_ne_coe v hv
        · rw [EReal.top_mul_of_pos hl] at hv
          exact EReal.top_ne_coe v hv
        · rw [EReal.bot_mul_of_pos hl] at hv
          exact EReal.bot_ne_coe v hv
      induction z using EReal.rec with
      | bot => rw [Ideal.logistic_bot]; simp
      | top => rw [Ideal.logistic_top] at hz; simp at hz
      | coe w =>
        rw [Ideal.logistic_coe, ← EReal.coe_mul] at hz
        have hp : (1 + Real.exp (-w))⁻¹ ≠ 0 := by positivity
        have hw : w = 0 := (mul_eq_zero.mp (by exact_mod_cast hz : w * (1 + Real.exp (-w))⁻¹ = 0)).resolve_right hp
        rw [hw]
        simp

theorem final_z (c : Dev nD) (h : Finite m c) : (dats m 0 c).arrAt 11 (cfgs 0).N = refZ (aZ m c) (aY m c) (aM m c) (aN m c) := by
  refine (dats m 0 c).arrAt_eq_of_covers 11 _ (by decide +kernel) fun t _ y => ?_
  blk_simp
  rw [after0_11]
  refine (out_z m c t y).trans ?_
  obtain ⟨l, d, rfl⟩ : ∃ (l : Fin 256) (d : Fin 512), y = ix2 l d := ⟨y 0, y 1, by blk_ext⟩
  rw [pay22_at, grad_eq m c, blk_y, blk_z, mul_comm (dyg _ _ _ _ _)]
  refine Eq.trans ?_ ((refZ_at (aZ m c) (aY m c) (aM m c) (aN m c) (ix2 (at_ t l) (col (grp t) d))).symm.trans
    (congrArg (refZ (aZ m c) (aY m c) (aM m c) (aN m c)) ?_))
  · exact gate_eq _ _ _ (real_grad m c h (at_ t l) (grp t) d)
  · blk_ext [idx t, at_, grp, col]

/-- The thirty-two blocks of rows, last first, are all the rows. -/
theorem sum_rows (f : Fin 8192 → EReal) (q : Fin cfg0.N → Fin 256 → Fin 8192) (p : Fin 32 → Fin cfg0.N)
    (hq : ∀ s l, ((q (p s) l : Fin 8192) : ℕ) = (31 - s.val) * 256 + l.val) :
    ∑ s : Fin 32, ∑ l : Fin 256, f (q (p s) l) = ∑ r : Fin 8192, f r := by
  rw [← Equiv.sum_comp Fin.revPerm]
  refine Fin.sum_mul_add_congr fun s l hl => ?_
  refine congrArg f (Fin.ext ?_)
  rw [hq]
  simp [Fin.rev]
  omega

theorem sum_s (c : Dev nD) (t : Fin cfg0.N) (hl : t.val % 32 = 32 - 1) (d : Fin 512) :
    ∑ s : Fin 32, gainS m c ⟨32 * (t.val / 32) + s.val, Pipeline.run_point_lt_of_flush t hl s⟩ (ix2 0 d)
      = refS (aX m c) (aZ m c) (aY m c) (aM m c) (aN m c) (ix2 0 (col (grp t) d)) := by
  have hg (s : Fin 32) : grp ⟨32 * (t.val / 32) + s.val, Pipeline.run_point_lt_of_flush t hl s⟩ = grp t := Fin.ext (by
    show (32 * (t.val / 32) + s.val) / 32 = t.val / 32
    omega)
  rw [refS_at]
  refine Eq.trans ?_ (sum_rows _ at_ (fun s => ⟨32 * (t.val / 32) + s.val, Pipeline.run_point_lt_of_flush t hl s⟩) fun s l => ?_)
  · refine Finset.sum_congr rfl fun s _ => Finset.sum_congr rfl fun l _ => ?_
    show partS (bY m c _) (bZ m c _) (bM m c _) (bN m c _) (bX m c _) l d = _
    unfold partS
    rw [grad_eq m c, blk_z, blk_x, mul_comm]
    simp only [hg]
  · show (31 - (32 * (t.val / 32) + s.val) % 32) * 256 + l.val = _
    omega

theorem final_s (c : Dev nD) : (dats m 0 c).arrAt 14 (cfgs 0).N = refS (aX m c) (aZ m c) (aY m c) (aM m c) (aN m c) := by
  refine (dats m 0 c).arrAt_eq_of_covers 14 _ (by decide +kernel) fun t hf y => ?_
  blk_simp
  have hl : t.val % 32 = 32 - 1 := (flush0_14 t).mp hf
  rw [after0_14, Pipeline.eq_sum_fin_of_reset_step_apply_of_flush (fun n h => (outsAt0 m c n h).2.2.2.2.1) 32 (fun _ => 0) (gainS m c)
    (fun t h j => outS_A m c t h j) (fun t h j => outS_B m c t h j) t hl _, zero_add]
  obtain ⟨o, d, rfl⟩ : ∃ (o : Fin 1) (d : Fin 512), y = ix2 o d := ⟨y 0, y 1, by blk_ext⟩
  obtain rfl : o = 0 := Subsingleton.elim _ _
  refine (sum_s m c t hl d).trans (congrArg (refS (aX m c) (aZ m c) (aY m c) (aM m c) (aN m c)) ?_)
  blk_ext [idx t, grp, col]

theorem sum_n (c : Dev nD) (t : Fin cfg0.N) (hl : t.val % 32 = 32 - 1) (d : Fin 512) :
    ∑ s : Fin 32, gainN m c ⟨32 * (t.val / 32) + s.val, Pipeline.run_point_lt_of_flush t hl s⟩ (ix2 0 d)
      = refN (aZ m c) (aY m c) (aM m c) (ix2 0 (col (grp t) d)) := by
  have hg (s : Fin 32) : grp ⟨32 * (t.val / 32) + s.val, Pipeline.run_point_lt_of_flush t hl s⟩ = grp t := Fin.ext (by
    show (32 * (t.val / 32) + s.val) / 32 = t.val / 32
    omega)
  rw [refN_at]
  refine Eq.trans ?_ (sum_rows _ at_ (fun s => ⟨32 * (t.val / 32) + s.val, Pipeline.run_point_lt_of_flush t hl s⟩) fun s l => ?_)
  · refine Finset.sum_congr rfl fun s _ => Finset.sum_congr rfl fun l _ => ?_
    show partN (bY m c _) (bZ m c _) (bM m c _) l d = _
    unfold partN
    rw [row_eq, blk_m, mul_comm]
    simp only [hg]
  · show (31 - (32 * (t.val / 32) + s.val) % 32) * 256 + l.val = _
    omega

theorem final_n (c : Dev nD) : (dats m 0 c).arrAt 15 (cfgs 0).N = refN (aZ m c) (aY m c) (aM m c) := by
  refine (dats m 0 c).arrAt_eq_of_covers 15 _ (by decide +kernel) fun t hf y => ?_
  blk_simp
  have hl : t.val % 32 = 32 - 1 := (flush0_15 t).mp hf
  rw [after0_15, Pipeline.eq_sum_fin_of_reset_step_apply_of_flush (fun n h => (outsAt0 m c n h).2.2.2.2.2.1) 32 (fun _ => 0) (gainN m c)
    (fun t h j => outN_A m c t h j) (fun t h j => outN_B m c t h j) t hl _, zero_add]
  obtain ⟨o, d, rfl⟩ : ∃ (o : Fin 1) (d : Fin 512), y = ix2 o d := ⟨y 0, y 1, by blk_ext⟩
  obtain rfl : o = 0 := Subsingleton.elim _ _
  refine (sum_n m c t hl d).trans (congrArg (refN (aZ m c) (aY m c) (aM m c)) ?_)
  blk_ext [idx t, grp, col]

/-- Kernel and reference leave the same gradients. -/
theorem same : Cert.algebraic_Kernel34Ideal_Reference34Ideal_pre_finite_mix := by
  pair_intro
  · run_from Cert.Kernel34Ideal.Value.run_blocks m g
  · have H (c : Dev nD) : Finite m c :=
      fun r G d => Cert.Pre_finite_mix.real_up _ _ _ _ _ _ _ _ _ _ (hpre c) r (col G d)
    run_from Cert.Reference34Ideal.Value.run_ref m' g'
    · exact (final_z m c (H c)).symm
    · exact (final_s m c).symm
    · exact (final_n m c).symm

end Cert.Kernel34Ideal.Value

end
-- ==== Proof.NormFwd.lean ====
/-
  The root-mean-square norm, forwards.
-/
module

public import proofs.«01_k».proof.Defs
public import proofs.«01_k».proof.Proof.Gen.Kernel46.Frame
public import proofs.«01_k».proof.Proof.Gen.Kernel46Ideal.Frame
public import proofs.«01_k».proof.Proof.Gen.Kernel46Ideal.Value
public import proofs.«01_k».proof.Proof.Gen.Reference46Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference46Ideal.Value

open Idealize.ShloMosaic Idealize.ShloMosaic.TcCoe Idealize.SL.Sem
open Cert.Reference46Ideal Cert.Reference46Ideal.Gen

/-- The normed rows, times the gain. -/
def ref (h : FVec Ideal S8192x2048 .f32) (g : FVec Ideal S1x2048 .f32) : FVec Ideal S8192x2048 .bf16 :=
  truncf .bf16 (mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 g)) bitsLt_bf16_f32

/-- One row, normed. -/
def normed (x g : Fin 2048 → EReal) (d : Fin 2048) : EReal :=
  x d * Ideal.rsqrt (Ideal.div (∑ k, x k * x k) (Ideal.ofBits .f32 0x45000000#32) + Ideal.ofBits .f32 0x3727C5AC#32) * g d

theorem ref_at (h : FVec Ideal S8192x2048 .f32) (g : FVec Ideal S1x2048 .f32) (r : Fin 8192) (d : Fin 2048) :
    ref h g (ix2 r d) = normed (fun k => h (ix2 r k)) (fun k => g (ix2 0 k)) d := by
  rw [normed]
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v12) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference46Ideal := fun m ρ _ =>
  (θ_run defs _ _).mono (fun r h => ⟨fun c => (h c).2, sem_eq_zero_of_no_sems (by decide) r.2⟩)
    (run (F := Ideal) m ρ)

end Cert.Reference46Ideal.Value

/-! ## The kernel -/

namespace Cert.Kernel46Ideal.Value

open Idealize.ShloMosaic Idealize.ShloMosaic.TcCoe Idealize.SL.Sem
open Idealize.ShloMosaic.Pipeline (Dat)
open Cert.Kernel46Ideal Cert.Kernel46Ideal.Gen

open Cert.Reference46Ideal.Value (ref ref_at normed)

theorem pay_at (x : FVec Ideal S512x2048 .f32) (g : FVec Ideal S1x2048 .f32) (l : Fin 512) (d : Fin 2048) :
    k0_pay1 (F := Ideal) x g (ix2 l d) = normed (fun k => x (ix2 l k)) (fun k => g (ix2 0 k)) d := by
  rw [normed]
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The grid has sixteen points. -/
theorem lt16 (t : Fin cfg0.N) : t.val < 16 := lt_of_lt_of_eq t.isLt N_0

/-- The blocks of the two inputs at grid point `t`. -/
abbrev bH (c : Dev nD) (t : Fin cfg0.N) : FVec Ideal S512x2048 .f32 := iblk m c 0 t
abbrev bG (c : Dev nD) (t : Fin cfg0.N) : FVec Ideal S1x2048 .f32 := iblk m c 1 t

theorem row_h (c : Dev nD) (t : Fin cfg0.N) (l : Fin 512) (R : Fin 8192) (hR : (R : ℕ) = t.val * 512 + l) (k : Fin 2048) :
    (bH m c t (ix2 l k) : EReal) = m ((c : Thread nD τ).loc main_arg0) (ix2 R k) := by
  show iblk m c 0 t (ix2 l k) = m ((c : Thread nD τ).loc main_arg0) (ix2 R k)
  blk_point [iblk, V, idx t]

theorem gain (c : Dev nD) (t : Fin cfg0.N) (k : Fin 2048) : (bG m c t (ix2 0 k) : EReal) = m ((c : Thread nD τ).loc main_arg1) (ix2 0 k) := by
  show iblk m c 1 t (ix2 0 k) = m ((c : Thread nD τ).loc main_arg1) (ix2 0 k)
  blk_point [iblk, V, idx t]

/-- The result array, block by block. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨l, d, rfl⟩ : ∃ (l : Fin 512) (d : Fin 2048), y = ix2 l d := ⟨y 0, y 1, by blk_ext⟩
  have := lt16 t
  refine (pay_at (bH m c t) (bG m c t) l d).trans ?_
  refine Eq.trans ?_ ((ref_at (m ((c : Thread nD τ).loc main_arg0)) (m ((c : Thread nD τ).loc main_arg1)) ⟨t.val * 512 + l, by omega⟩ d).symm.trans (congrArg (ref (m ((c : Thread nD τ).loc main_arg0)) (m ((c : Thread nD τ).loc main_arg1))) ?_))
  · simp only [row_h m c t l ⟨t.val * 512 + l, by omega⟩ rfl, gain]
  · blk_ext [idx t]

/-- Kernel and reference leave the same normed rows. -/
theorem same : Cert.algebraic_Kernel46Ideal_Reference46Ideal := by
  pair_intro
  · run_from Cert.Kernel46Ideal.Value.run_blocks m g
  · run_from Cert.Reference46Ideal.Value.run_ref m' g'
    · exact (final m c).symm

end Cert.Kernel46Ideal.Value

end
-- ==== Proof.NormGrad.lean ====
/-
  The gradient of the root-mean-square norm, of its rows and of its gain.
-/
module

public import proofs.«01_k».proof.Defs
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gates
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The two constants -/

namespace Cert.Gates

open Idealize.ShloMosaic

/-- The norm's `1e-5`, as the float that it is. -/
abbrev eps : ℝ := 10995116 / 2 ^ 40

theorem c2048 : Ideal.ofBits .f32 0x45000000#32 = ((2048 : ℝ) : EReal) := by
  simp [Ideal.ofBits, Ideal.ieee]
  rw [← EReal.coe_mul]
  norm_num

theorem ceps : Ideal.ofBits .f32 0x3727C5AC#32 = (eps : EReal) := by
  simp [Ideal.ofBits, Ideal.ieee]
  rw [← EReal.coe_mul]
  norm_num

theorem cmhalf : Ideal.ofBits .f32 0xBF000000#32 = ((-1 / 2 : ℝ) : EReal) := by
  simp [Ideal.ofBits, Ideal.ieee]
  rw [← EReal.coe_mul]
  norm_num

end Cert.Gates

/-! ## The reference -/

namespace Cert.Reference36Ideal.Value

open Idealize.ShloMosaic Idealize.ShloMosaic.TcCoe Idealize.SL.Sem
open Cert.Reference36Ideal Cert.Reference36Ideal.Gen Cert.Gates

/-- The gradient of the rows, with the residual's added. -/
def refH (h : FVec Ideal S8192x2048 .f32) (g : FVec Ideal S1x2048 .f32) (dy dres : FVec Ideal S8192x2048 .f32) : FVec Ideal S8192x2048 .f32 :=
  addf (addf (addf dres (mulf (mulf dy (broadcastInDim S8192x2048 ![0, 1] bcast_S1x2048_S8192x2048_0_1 g)) (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))))))) (mulf h (broadcastInDim S8192x2048 ![0] bcast_S8192_S8192x2048_0 (Host.reduceAdd (Host.divf (mulf (shapeCast _ (Host.reduceAdd (mulf h (mulf dy (broadcastInDim S8192x2048 ![0, 1] bcast_S1x2048_S8192x2048_0_1 g))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))) (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf h (mulf dy (broadcastInDim S8192x2048 ![0, 1] bcast_S1x2048_S8192x2048_0_1 g))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))) (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x1 ![] bcast_S_S8192x1 (constant S_ .f32 0x45000000#32))) (constant S_ .f32 0x00000000#32) reducesTo_S8192x1_S8192_d1 h_S_)) h)

/-- The gradient of the gain. -/
def refG (h : FVec Ideal S8192x2048 .f32) (dy : FVec Ideal S8192x2048 .f32) : FVec Ideal S1x2048 .f32 :=
  shapeCast _ (Host.reduceAdd (mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) dy) (constant S_ .f32 0x00000000#32) reducesTo_S8192x2048_S2048_d0 h_S_) shapeCasts_S2048_S1x2048

variable (h : FVec Ideal S8192x2048 .f32) (g : FVec Ideal S1x2048 .f32) (dy dres : FVec Ideal S8192x2048 .f32)

theorem refH_at (r : Fin 8192) (d : Fin 2048) : refH h g dy dres (ix2 r d) =
    dres (ix2 r d) + (dy (ix2 r d) * g (ix2 0 d)) * Ideal.rsqrt (meanSq 2048 eps fun k => h (ix2 r k))
      + h (ix2 r d) * normPart 2048 eps (fun k => h (ix2 r k)) (fun k => dy (ix2 r k) * g (ix2 0 k))
      + normPart 2048 eps (fun k => h (ix2 r k)) (fun k => dy (ix2 r k) * g (ix2 0 k)) * h (ix2 r d) := by
  rw [normPart, meanSq, ← c2048, ← ceps, ← cmhalf]
  pointwise [refH]
  rw [Fin.sum_univ_one]

theorem refG_at (d : Fin 2048) : refG h dy (ix2 0 d) =
    ∑ r : Fin 8192, (h (ix2 r d) * Ideal.rsqrt (meanSq 2048 eps fun k => h (ix2 r k))) * dy (ix2 r d) := by
  simp only [meanSq, ← c2048, ← ceps]
  pointwise [refG]

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v34) = refH (m (c.tc.loc main_arg0)) (m (c.tc.loc main_arg1)) (m (c.tc.loc main_arg2)) (m (c.tc.loc main_arg3))
      ∧ r.2.mem (c.tc.loc main_v35) = (truncf .bf16 (refH (m (c.tc.loc main_arg0)) (m (c.tc.loc main_arg1)) (m (c.tc.loc main_arg2)) (m (c.tc.loc main_arg3))) bitsLt_bf16_f32 : FVec Ideal S8192x2048 .bf16)
      ∧ r.2.mem (c.tc.loc main_v17) = refG (m (c.tc.loc main_arg0)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans rfl, (h c).2.1.trans rfl, (h c).2.2.1.trans rfl, (h c).2.2.2⟩)
    (run (F := Ideal) m ρ)

/-- The reference runs and leaves its arguments. -/
theorem frame_ref : Cert.quiescent_Reference36Ideal := fun m ρ _ =>
  (θ_run defs _ _).mono (fun r h => ⟨fun c => (h c).2.2.2, sem_eq_zero_of_no_sems (by decide) r.2⟩)
    (run (F := Ideal) m ρ)

end Cert.Reference36Ideal.Value

/-! ## The kernel -/

namespace Cert.Kernel36Ideal.Value

open Idealize.ShloMosaic Idealize.ShloMosaic.TcCoe Idealize.SL.Sem
open Idealize.ShloMosaic.Pipeline (Dat)
open Cert.Kernel36Ideal Cert.Kernel36Ideal.Gen Cert.Gates
open Cert.Reference36Ideal.Value (refH refG refH_at refG_at)

variable (m : (ℓ : Loc nD τ sig) → Buf (Elt Ideal) ℓ)

/-- The rows, the gain, the normed rows' gradient and the residual's as the call is given them. -/
abbrev aH (c : Dev nD) : FVec Ideal S8192x2048 .f32 := m ((c : Thread nD τ).loc main_arg0)
abbrev aG (c : Dev nD) : FVec Ideal S1x2048 .f32 := m ((c : Thread nD τ).loc main_arg1)
abbrev aY (c : Dev nD) : FVec Ideal S8192x2048 .f32 := m ((c : Thread nD τ).loc main_arg2)
abbrev aR (c : Dev nD) : FVec Ideal S8192x2048 .f32 := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The grid has thirty-two points. -/
theorem lt32 (t : Fin cfg0.N) : t.val < 32 := lt_of_lt_of_eq t.isLt N_0

/-- The last of them. -/
def last : Fin cfg0.N := ⟨31, lt_of_lt_of_eq (by decide) N_0.symm⟩

/-- The blocks of the four inputs at grid point `t`. -/
abbrev bH (c : Dev nD) (t : Fin cfg0.N) : FVec Ideal S256x2048 .f32 := iblk m c 0 t
abbrev bG (c : Dev nD) (t : Fin cfg0.N) : FVec Ideal S1x2048 .f32 := iblk m c 1 t
abbrev bY (c : Dev nD) (t : Fin cfg0.N) : FVec Ideal S256x2048 .f32 := iblk m c 2 t
abbrev bR (c : Dev nD) (t : Fin cfg0.N) : FVec Ideal S256x2048 .f32 := iblk m c 3 t

theorem row_h (c : Dev nD) (t : Fin cfg0.N) (r : Fin 256) (R : Fin 8192) (hR : (R : ℕ) = t.val * 256 + r) (k : Fin 2048) :
    bH m c t (ix2 r k) = aH m c (ix2 R k) := by
  show iblk m c 0 t (ix2 r k) = m ((c : Thread nD τ).loc main_arg0) (ix2 R k)
  blk_point [iblk, V, idx t]

theorem row_y (c : Dev nD) (t : Fin cfg0.N) (r : Fin 256) (R : Fin 8192) (hR : (R : ℕ) = t.val * 256 + r) (k : Fin 2048) :
    bY m c t (ix2 r k) = aY m c (ix2 R k) := by
  show iblk m c 2 t (ix2 r k) = m ((c : Thread nD τ).loc main_arg2) (ix2 R k)
  blk_point [iblk, V, idx t]

theorem row_r (c : Dev nD) (t : Fin cfg0.N) (r : Fin 256) (R : Fin 8192) (hR : (R : ℕ) = t.val * 256 + r) (k : Fin 2048) :
    bR m c t (ix2 r k) = aR m c (ix2 R k) := by
  show iblk m c 3 t (ix2 r k) = m ((c : Thread nD τ).loc main_arg3) (ix2 R k)
  blk_point [iblk, V, idx t]

theorem gain (c : Dev nD) (t : Fin cfg0.N) (k : Fin 2048) : bG m c t (ix2 0 k) = aG m c (ix2 0 k) := by
  show iblk m c 1 t (ix2 0 k) = m ((c : Thread nD τ).loc main_arg1) (ix2 0 k)
  blk_point [iblk, V, idx t]

/-- A row's gradient with the residual's. -/
def dH (h dy : Fin 2048 → EReal) (g : Fin 2048 → EReal) (d : Fin 2048) : EReal :=
  normGrad 2048 eps h (fun k => dy k * g k) d

/-- What a row adds to the gradient of the gain. -/
def dG (h dy : Fin 2048 → EReal) (d : Fin 2048) : EReal :=
  dy d * (h d * Ideal.rsqrt (meanSq 2048 eps h))

theorem pay2_at (x : FVec Ideal S256x2048 .f32) (l : Fin 256) (o : Fin 1) :
    k0_pay2 (F := Ideal) x (ix2 l o) = Ideal.rsqrt (meanSq 2048 eps fun k => x (ix2 l k)) := by
  rw [meanSq, ← c2048, ← ceps]
  pointwise [k0_pay2]

theorem pay4_at (x dy r : FVec Ideal S256x2048 .f32) (g : FVec Ideal S1x2048 .f32) (l : Fin 256) (d : Fin 2048) :
    k0_pay4 (F := Ideal) x dy g r (ix2 l d)
      = r (ix2 l d) + dH (fun k => x (ix2 l k)) (fun k => dy (ix2 l k)) (fun k => g (ix2 0 k)) d := by
  rw [dH, normGrad, meanSq, ← c2048, ← ceps]
  pointwise [k0_pay4, k0_pay3, k0_pay2]

theorem pay5_at (x dy r : FVec Ideal S256x2048 .f32) (g : FVec Ideal S1x2048 .f32) (j : S256x2048.Idx) :
    k0_pay5 (F := Ideal) x dy g r j = (k0_pay4 (F := Ideal) x dy g r j : EReal) := rfl

theorem pay6_at (x dy : FVec Ideal S256x2048 .f32) (d : Fin 2048) :
    k0_pay6 (F := Ideal) x dy (ix2 0 d) = ∑ l : Fin 256, dG (fun k => x (ix2 l k)) (fun k => dy (ix2 l k)) d := by
  simp only [dG, meanSq, ← c2048, ← ceps]
  pointwise [k0_pay6, k0_pay3, k0_pay2]

/-- What point `t` writes into the first two results. -/
theorem out_h (c : Dev nD) (t : Fin cfg0.N) (j : S256x2048.Idx) : (outsAt0 m c t.val t.isLt).1 j
    = k0_pay4 (F := Ideal) (bH m c t) (bY m c t) (bG m c t) (bR m c t) j := by
  by_cases h : t.val % 32 = 0
  · have := lt32 t
    rw [outsAt0_A m c t h (by omega)]
    frame_out
  · rw [outsAt0_B m c t h (by omega)]
    frame_out

theorem out_b (c : Dev nD) (t : Fin cfg0.N) (j : S256x2048.Idx) : (outsAt0 m c t.val t.isLt).2.1 j
    = k0_pay5 (F := Ideal) (bH m c t) (bY m c t) (bG m c t) (bR m c t) j := by
  by_cases h : t.val % 32 = 0
  · have := lt32 t
    rw [outsAt0_A m c t h (by omega)]
    frame_out
  · rw [outsAt0_B m c t h (by omega)]
    frame_out

/-- The rows' gradient of the whole array. -/
def rowsH (c : Dev nD) (j : S8192x2048.Idx) : EReal :=
  aR m c (ix2 (j 0) (j 1)) + dH (fun k => aH m c (ix2 (j 0) k)) (fun k => aY m c (ix2 (j 0) k)) (fun k => aG m c (ix2 0 k)) (j 1)

theorem block_h (c : Dev nD) (t : Fin cfg0.N) (r : Fin 256) (R : Fin 8192) (hR : (R : ℕ) = t.val * 256 + r) (d : Fin 2048) :
    k0_pay4 (F := Ideal) (bH m c t) (bY m c t) (bG m c t) (bR m c t) (ix2 r d) = rowsH m c (ix2 R d) := by
  rw [pay4_at]
  simp only [row_h m c t r R hR, row_y m c t r R hR, row_r m c t r R hR, gain]
  rfl

theorem final_h (c : Dev nD) : (dats m 0 c).arrAt 4 (cfgs 0).N = fun j => rowsH m c j := by
  refine (dats m 0 c).arrAt_eq_of_covers 4 _ (by decide +kernel) fun t _ y => ?_
  blk_simp
  rw [after0_4]
  refine (out_h m c t y).trans ?_
  obtain ⟨l, d, rfl⟩ : ∃ (l : Fin 256) (d : Fin 2048), y = ix2 l d := ⟨y 0, y 1, by blk_ext⟩
  have := lt32 t
  refine (block_h m c t l ⟨t.val * 256 + l, by omega⟩ rfl d).trans (congrArg (rowsH m c) ?_)
  blk_ext [idx t]

theorem final_b (c : Dev nD) : (dats m 0 c).arrAt 5 (cfgs 0).N = fun j => rowsH m c j := by
  refine (dats m 0 c).arrAt_eq_of_covers 5 _ (by decide +kernel) fun t _ y => ?_
  blk_simp
  rw [after0_5]
  refine (out_b m c t y).trans ?_
  obtain ⟨l, d, rfl⟩ : ∃ (l : Fin 256) (d : Fin 2048), y = ix2 l d := ⟨y 0, y 1, by blk_ext⟩
  have := lt32 t
  refine (block_h m c t l ⟨t.val * 256 + l, by omega⟩ rfl d).trans (congrArg (rowsH m c) ?_)
  blk_ext [idx t]

/-- The part of the gain's gradient that point `t` adds. -/
def part (c : Dev nD) (t : Fin cfg0.N) (j : S1x2048.Idx) : EReal :=
  ∑ l : Fin 256, dG (fun k => bH m c t (ix2 l k)) (fun k => bY m c t (ix2 l k)) (j 1)

theorem outG_A (c : Dev nD) (t : Fin cfg0.N) (h : t.val % 32 = 0) (j : S1x2048.Idx) :
    (outsAt0 m c t.val t.isLt).2.2 j = 0 + part m c t j := by
  have := lt32 t
  rw [outsAt0_A m c t h (by omega), zero_add]
  frame_out
  obtain ⟨l, d, rfl⟩ : ∃ (l : Fin 1) (d : Fin 2048), j = ix2 l d := ⟨j 0, j 1, by blk_ext⟩
  obtain rfl : l = 0 := Subsingleton.elim _ _
  exact pay6_at _ _ d

theorem outG_B (c : Dev nD) (t : Fin cfg0.N) (h : ¬t.val % 32 = 0) (j : S1x2048.Idx) :
    (outsAt0 m c t.val t.isLt).2.2 j
      = (outsAt0 m c (t.val - 1) (Nat.lt_of_le_of_lt (Nat.sub_le _ _) t.isLt)).2.2 j + part m c t j := by
  rw [outsAt0_B m c t h (by omega)]
  frame_out
  obtain ⟨l, d, rfl⟩ : ∃ (l : Fin 1) (d : Fin 2048), j = ix2 l d := ⟨j 0, j 1, by blk_ext⟩
  obtain rfl : l = 0 := Subsingleton.elim _ _
  refine Eq.trans ?_ (congrArg (fun v : EReal => (outsAt0 m c (t.val - 1) (Nat.lt_of_le_of_lt (Nat.sub_le _ _) t.isLt)).2.2 (ix2 0 d) + v)
    (pay6_at (bH m c t) (bY m c t) d))
  pointwise [k0_pay1]

theorem final_g (c : Dev nD) : (dats m 0 c).arrAt 6 (cfgs 0).N
    = fun j => ∑ R : Fin 8192, dG (fun k => aH m c (ix2 R k)) (fun k => aY m c (ix2 R k)) (j 1) := by
  refine (dats m 0 c).arrAt_eq_of_after_last 6 last (by decide +kernel) _ fun j => ?_
  blk_simp
  rw [after0_6, Pipeline.eq_sum_fin_of_reset_step_apply_last (fun n h => (outsAt0 m c n h).2.2) 32 (fun _ => 0) (part m c)
    (fun t h j => outG_A m c t h j) (fun t h j => outG_B m c t h j) (le_of_eq N_0) last rfl j, zero_add]
  refine Fin.sum_mul_add_congr fun t r hl => ?_
  simp only [row_h m c t r ⟨_, hl⟩ rfl, row_y m c t r ⟨_, hl⟩ rfl]

/-- The reference's gradient is the kernel's. -/
theorem eq_h (h dy dres : FVec Ideal S8192x2048 .f32) (g : FVec Ideal S1x2048 .f32) (r : Fin 8192) (d : Fin 2048) :
    refH h g dy dres (ix2 r d)
      = dres (ix2 r d) + dH (fun k => h (ix2 r k)) (fun k => dy (ix2 r k)) (fun k => g (ix2 0 k)) d := by
  rw [refH_at, dH, normGrad_eq 2048 eps (by norm_num) (by norm_num), add_assoc, add_assoc]

theorem eq_g (h dy : FVec Ideal S8192x2048 .f32) (d : Fin 2048) :
    refG h dy (ix2 0 d) = ∑ R : Fin 8192, dG (fun k => h (ix2 R k)) (fun k => dy (ix2 R k)) d := by
  rw [refG_at]
  exact Finset.sum_congr rfl fun r _ => mul_comm _ _

/-- Kernel and reference leave the same gradients. -/
theorem same : Cert.algebraic_Kernel36Ideal_Reference36Ideal := by
  pair_intro
  · run_from Cert.Kernel36Ideal.Value.run_blocks m g
  · have H (c : Dev nD) (j : S8192x2048.Idx) :
        refH (aH m c) (aG m c) (aY m c) (aR m c) j = rowsH m c j := by
      obtain ⟨r, d, rfl⟩ : ∃ (r : Fin 8192) (d : Fin 2048), j = ix2 r d := ⟨j 0, j 1, by blk_ext⟩
      exact eq_h _ _ _ _ r d
    run_from Cert.Reference36Ideal.Value.run_ref m' g'
    · exact (funext fun j => H c j).trans (final_h m c).symm
    · exact (funext fun j => H c j).trans (final_b m c).symm
    · refine Eq.trans (funext fun j => ?_) (final_g m c).symm
      obtain ⟨l, d, rfl⟩ : ∃ (l : Fin 1) (d : Fin 2048), j = ix2 l d := ⟨j 0, j 1, by blk_ext⟩
      obtain rfl : l = 0 := Subsingleton.elim _ _
      exact eq_g _ _ d

end Cert.Kernel36Ideal.Value

end
-- ==== Proof.OutProj.lean ====
/-
  The mixers' output projection, added to the stream.
-/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference9Ideal.Value

open Idealize.ShloMosaic Idealize.ShloMosaic.TcCoe Idealize.SL.Sem
open Cert.Reference9Ideal Cert.Reference9Ideal.Gen

/-- The reference's result. -/
def ref (A : Vec Ideal S8192x4096 .bf16) (W : Vec Ideal S4096x2048 .bf16) (X : Vec Ideal S8192x2048 .f32) : FVec Ideal S8192x2048 .f32 :=
  addf X (Host.dotGeneral dot_S8192x4096_S4096x2048_S8192x2048_1_0_0_1_n_n none (extf .f32 A bitsLt_bf16_f32) (extf .f32 W bitsLt_bf16_f32))

theorem ref_at (A : Vec Ideal S8192x4096 .bf16) (W : Vec Ideal S4096x2048 .bf16) (X : Vec Ideal S8192x2048 .f32) (j : S8192x2048.Idx) :
    ref A W X j = (X j : EReal) + ∑ l : Fin 4096, (A (ix2 (j 0) l) : EReal) * W (ix2 l (j 1)) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference9Ideal := fun m ρ _ =>
  (θ_run defs _ _).mono (fun r h => ⟨fun c => (h c).2, sem_eq_zero_of_no_sems (by decide) r.2⟩)
    (run (F := Ideal) m ρ)

end Cert.Reference9Ideal.Value

/-! ## The kernel -/

namespace Cert.Kernel9Ideal.Value

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

theorem pay_at (w : Vec Ideal S4096x1024 .bf16) (a : Vec Ideal S512x4096 .bf16) (x : Vec Ideal S512x1024 .f32) (j : S512x1024.Idx) :
    k0_pay1 (F := Ideal) w a x j
      = (∑ l : Fin 4096, (a (ix2 (j 0) l) : EReal) * w (ix2 l (j 1))) + (x j : EReal) := by
  pointwise [k0_pay1]

/-- The result array, block by block. -/
theorem final (c : Dev nD) : (dats m 0 c).arrAt 3 (cfgs 0).N
    = Cert.Reference9Ideal.Value.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_at, Cert.Reference9Ideal.Value.ref_at, add_comm]
  refine congrArg₂ (fun a b : EReal => a + b) ?_ ?_
  · blk_point [iblk, V, idx t]
  · refine Fin.sum_fin_congr fun l => ?_
    blk_point [iblk, V, idx t]

/-- Kernel and reference leave the same projection. -/
theorem same : Cert.algebraic_Kernel9Ideal_Reference9Ideal := by
  pair_intro
  · run_from Cert.Kernel9Ideal.Value.run_blocks m g
  · run_from Cert.Reference9Ideal.Value.run_ref m' g'
    · exact (final m c).symm

end Cert.Kernel9Ideal.Value

end
-- ==== Proof.ProjDt.lean ====
/-
  The input projection's part for the step sizes.
-/
module

public import proofs.«01_k».proof.Defs
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference31Ideal.Value

open Idealize.ShloMosaic Idealize.ShloMosaic.TcCoe Idealize.SL.Sem
open Cert.Reference31Ideal Cert.Reference31Ideal.Gen

/-- The reference's result. -/
def ref (A : Vec Ideal S8192x2048 .bf16) (W : Vec Ideal S2048x128 .bf16) : FVec Ideal S8192x128 .f32 :=
  Host.dotGeneral dot_S8192x2048_S2048x128_S8192x128_1_0_0_1_n_n none (extf .f32 A bitsLt_bf16_f32) (extf .f32 W bitsLt_bf16_f32)

theorem ref_at (A : Vec Ideal S8192x2048 .bf16) (W : Vec Ideal S2048x128 .bf16) (j : S8192x128.Idx) :
    ref A W j = ∑ l : Fin 2048, (A (ix2 (j 0) l) : EReal) * W (ix2 l (j 1)) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v2) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference31Ideal := fun m ρ _ =>
  (θ_run defs _ _).mono (fun r h => ⟨fun c => (h c).2, sem_eq_zero_of_no_sems (by decide) r.2⟩)
    (run (F := Ideal) m ρ)

end Cert.Reference31Ideal.Value

/-! ## The kernel -/

namespace Cert.Kernel31Ideal.Value

open Idealize.ShloMosaic Idealize.ShloMosaic.TcCoe Idealize.SL.Sem
open Idealize.ShloMosaic.Pipeline (Dat)
open Cert.Kernel31Ideal Cert.Kernel31Ideal.Gen

variable (m : (ℓ : Loc nD τ sig) → Buf (Elt Ideal) ℓ)

theorem idx : ∀ t : Fin cfg0.N, win0_0.index t = ![t.val / 1, 0]
    ∧ win0_1.index t = ![0, t.val % 1]
    ∧ win0_2.index t = ![t.val / 1, t.val % 1] :=
  (by decide +kernel : ∀ t : Fin grid0.N, _)

theorem pay_at (w : Vec Ideal S2048x128 .bf16) (a : Vec Ideal S1024x2048 .bf16) (j : S1024x128.Idx) :
    k0_pay1 (F := Ideal) w a j
      = (∑ l : Fin 2048, (a (ix2 (j 0) l) : EReal) * w (ix2 l (j 1))) := by
  pointwise [k0_pay1]

/-- The result array, block by block. -/
theorem final (c : Dev nD) : (dats m 0 c).arrAt 2 (cfgs 0).N
    = Cert.Reference31Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference31Ideal.Value.ref_at]
  refine Fin.sum_fin_congr fun l => ?_
  blk_point [iblk, V, idx t]

/-- Kernel and reference leave the same projection. -/
theorem same : Cert.algebraic_Kernel31Ideal_Reference31Ideal := by
  pair_intro
  · run_from Cert.Kernel31Ideal.Value.run_blocks m g
  · run_from Cert.Reference31Ideal.Value.run_ref m' g'
    · exact (final m c).symm

end Cert.Kernel31Ideal.Value

end
-- ==== Proof.ProjS.lean ====
/-
  The input projection's part for the short convolution, its three parts of columns as three arrays.
-/
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference14Ideal.Value

open Idealize.ShloMosaic Idealize.ShloMosaic.TcCoe Idealize.SL.Sem
open Cert.Reference14Ideal Cert.Reference14Ideal.Gen

/-- The whole projection. -/
def whole (A : Vec Ideal S8192x2048 .bf16) (W : Vec Ideal S2048x6144 .bf16) : FVec Ideal S8192x6144 .f32 :=
  Host.dotGeneral dot_S8192x2048_S2048x6144_S8192x6144_1_0_0_1_n_n none (extf .f32 A bitsLt_bf16_f32)
    (extf .f32 W bitsLt_bf16_f32)

/-- The reference's result: the three parts of its columns. -/
def ref (A : Vec Ideal S8192x2048 .bf16) (W : Vec Ideal S2048x6144 .bf16) : FVec Ideal S3x8192x2048 .bf16 :=
  truncf .bf16 (concatenate S3x8192x2048 0
    [⟨S1x8192x2048, broadcastInDim S1x8192x2048 ![1, 2] bcast_S8192x2048_S1x8192x2048_1_2
        (extractStridedSlice S8192x2048 ![0, 0] (whole A W) slices_S8192x6144_S8192x2048_0_0)⟩,
      ⟨S1x8192x2048, broadcastInDim S1x8192x2048 ![1, 2] bcast_S8192x2048_S1x8192x2048_1_2
        (extractStridedSlice S8192x2048 ![0, 2048] (whole A W) slices_S8192x6144_S8192x2048_0_2048)⟩,
      ⟨S1x8192x2048, broadcastInDim S1x8192x2048 ![1, 2] bcast_S8192x2048_S1x8192x2048_1_2
        (extractStridedSlice S8192x2048 ![0, 4096] (whole A W) slices_S8192x6144_S8192x2048_0_4096)⟩]
    concatenates_S1x8192x2048_S1x8192x2048_S1x8192x2048_S3x8192x2048_d0) bitsLt_bf16_f32

theorem whole_at (A : Vec Ideal S8192x2048 .bf16) (W : Vec Ideal S2048x6144 .bf16) (i : Fin 8192) (k : Fin 6144) :
    whole A W (ix2 i k) = ∑ l : Fin 2048, (A (ix2 i l) : EReal) * W (ix2 l k) := by
  pointwise [whole]

theorem part_at (X : FVec Ideal S8192x6144 .f32) (j : S3x8192x2048.Idx) (k : Fin 6144) (hk : (k : ℕ) = j 0 * 2048 + j 2) :
    (truncf .bf16 (concatenate S3x8192x2048 0
    [⟨S1x8192x2048, broadcastInDim S1x8192x2048 ![1, 2] bcast_S8192x2048_S1x8192x2048_1_2
        (extractStridedSlice S8192x2048 ![0, 0] X slices_S8192x6144_S8192x2048_0_0)⟩,
      ⟨S1x8192x2048, broadcastInDim S1x8192x2048 ![1, 2] bcast_S8192x2048_S1x8192x2048_1_2
        (extractStridedSlice S8192x2048 ![0, 2048] X slices_S8192x6144_S8192x2048_0_2048)⟩,
      ⟨S1x8192x2048, broadcastInDim S1x8192x2048 ![1, 2] bcast_S8192x2048_S1x8192x2048_1_2
        (extractStridedSlice S8192x2048 ![0, 4096] X slices_S8192x6144_S8192x2048_0_4096)⟩]
    concatenates_S1x8192x2048_S1x8192x2048_S1x8192x2048_S3x8192x2048_d0) bitsLt_bf16_f32 : FVec Ideal S3x8192x2048 .bf16) j
      = (X (ix2 (j 1) k) : EReal) := by
  pointwise
  blk_point []

theorem ref_at (A : Vec Ideal S8192x2048 .bf16) (W : Vec Ideal S2048x6144 .bf16) (j : S3x8192x2048.Idx) (k : Fin 6144) (hk : (k : ℕ) = j 0 * 2048 + j 2) :
    ref A W j = ∑ l : Fin 2048, (A (ix2 (j 1) l) : EReal) * W (ix2 l k) :=
  (part_at (whole A W) j k hk).trans (whole_at A W (j 1) k)

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v10) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference14Ideal := fun m ρ _ =>
  (θ_run defs _ _).mono (fun r h => ⟨fun c => (h c).2, sem_eq_zero_of_no_sems (by decide) r.2⟩)
    (run (F := Ideal) m ρ)

end Cert.Reference14Ideal.Value

/-! ## The kernel -/

namespace Cert.Kernel14Ideal.Value

open Idealize.ShloMosaic Idealize.ShloMosaic.TcCoe Idealize.SL.Sem
open Idealize.ShloMosaic.Pipeline (Dat)
open Cert.Kernel14Ideal Cert.Kernel14Ideal.Gen

variable (m : (ℓ : Loc nD τ sig) → Buf (Elt Ideal) ℓ)

theorem idx : ∀ t : Fin cfg0.N, win0_0.index t = ![t.val / 6, 0]
    ∧ win0_1.index t = ![0, t.val % 6]
    ∧ win0_2.index t = ![t.val % 6 / 2, t.val / 6, t.val % 2] :=
  (by decide +kernel : ∀ t : Fin grid0.N, _)

theorem pay_at (w : Vec Ideal S2048x1024 .bf16) (a : Vec Ideal S1024x2048 .bf16) (j : S1x1024x1024.Idx) :
    k0_pay1 (F := Ideal) w a j = ∑ l : Fin 2048, (a (ix2 (j 1) l) : EReal) * w (ix2 l (j 2)) := by
  pointwise [k0_pay1]

/-- The result array, block by block. -/
theorem final (c : Dev nD) : (dats m 0 c).arrAt 2 (cfgs 0).N
    = Cert.Reference14Ideal.Value.ref (m ((c : Thread nD τ).loc main_arg0)) (m ((c : Thread nD τ).loc main_arg1)) := by
  refine (dats m 0 c).arrAt_eq_of_covers 2 _ (by decide +kernel) fun t _ y => ?_
  have ht : t.val < 48 := lt_of_lt_of_eq t.isLt N_0
  have hy : (y 2 : ℕ) < 1024 := (y 2).isLt
  refine Eq.trans ?_ (Cert.Reference14Ideal.Value.ref_at _ _ _ ⟨t.val % 6 * 1024 + y 2, by omega⟩ (by blk_simp [idx t]; dsimp only; omega)).symm
  blk_simp
  rw [after0_2]
  frame_out
  rw [pay_at]
  refine Fin.sum_fin_congr fun l => ?_
  blk_point [iblk, V, idx t]

/-- Kernel and reference leave the same projection. -/
theorem same : Cert.algebraic_Kernel14Ideal_Reference14Ideal := by
  pair_intro
  · run_from Cert.Kernel14Ideal.Value.run_blocks m g
  · run_from Cert.Reference14Ideal.Value.run_ref m' g'
    · exact (final m c).symm

end Cert.Kernel14Ideal.Value

end
-- ==== Proof.ProjXbc.lean ====
/-
  The input projection's part for the state-space mixer's channels.
-/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference13Ideal.Value

open Idealize.ShloMosaic Idealize.ShloMosaic.TcCoe Idealize.SL.Sem
open Cert.Reference13Ideal Cert.Reference13Ideal.Gen

/-- The reference's result. -/
def ref (A : Vec Ideal S8192x2048 .bf16) (W : Vec Ideal S2048x3072 .bf16) : FVec Ideal S8192x3072 .bf16 :=
  truncf .bf16 (Host.dotGeneral dot_S8192x2048_S2048x3072_S8192x3072_1_0_0_1_n_n none (extf .f32 A bitsLt_bf16_f32) (extf .f32 W bitsLt_bf16_f32)) bitsLt_bf16_f32

theorem ref_at (A : Vec Ideal S8192x2048 .bf16) (W : Vec Ideal S2048x3072 .bf16) (j : S8192x3072.Idx) :
    ref A W j = ∑ l : Fin 2048, (A (ix2 (j 0) l) : EReal) * W (ix2 l (j 1)) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference13Ideal := fun m ρ _ =>
  (θ_run defs _ _).mono (fun r h => ⟨fun c => (h c).2, sem_eq_zero_of_no_sems (by decide) r.2⟩)
    (run (F := Ideal) m ρ)

end Cert.Reference13Ideal.Value

/-! ## The kernel -/

namespace Cert.Kernel13Ideal.Value

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

theorem idx : ∀ t : Fin cfg0.N, win0_0.index t = ![t.val / 3, 0]
    ∧ win0_1.index t = ![0, t.val % 3]
    ∧ win0_2.index t = ![t.val / 3, t.val % 3] :=
  (by decide +kernel : ∀ t : Fin grid0.N, _)

theorem pay_at (w : Vec Ideal S2048x1024 .bf16) (a : Vec Ideal S1024x2048 .bf16) (j : S1024x1024.Idx) :
    k0_pay1 (F := Ideal) w a j
      = (∑ l : Fin 2048, (a (ix2 (j 0) l) : EReal) * w (ix2 l (j 1))) := by
  pointwise [k0_pay1]

/-- The result array, block by block. -/
theorem final (c : Dev nD) : (dats m 0 c).arrAt 2 (cfgs 0).N
    = Cert.Reference13Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference13Ideal.Value.ref_at]
  refine Fin.sum_fin_congr fun l => ?_
  blk_point [iblk, V, idx t]

/-- Kernel and reference leave the same projection. -/
theorem same : Cert.algebraic_Kernel13Ideal_Reference13Ideal := by
  pair_intro
  · run_from Cert.Kernel13Ideal.Value.run_blocks m g
  · run_from Cert.Reference13Ideal.Value.run_ref m' g'
    · exact (final m c).symm

end Cert.Kernel13Ideal.Value

end
-- ==== Proof.ProjZ.lean ====
/-
  The input projection's part for the gate of the state-space mixer.
-/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference12Ideal.Value

open Idealize.ShloMosaic Idealize.ShloMosaic.TcCoe Idealize.SL.Sem
open Cert.Reference12Ideal Cert.Reference12Ideal.Gen

/-- The reference's result. -/
def ref (A : Vec Ideal S8192x2048 .bf16) (W : Vec Ideal S2048x2048 .bf16) : FVec Ideal S8192x2048 .bf16 :=
  truncf .bf16 (Host.dotGeneral dot_S8192x2048_S2048x2048_S8192x2048_1_0_0_1_n_n none (extf .f32 A bitsLt_bf16_f32) (extf .f32 W bitsLt_bf16_f32)) bitsLt_bf16_f32

theorem ref_at (A : Vec Ideal S8192x2048 .bf16) (W : Vec Ideal S2048x2048 .bf16) (j : S8192x2048.Idx) :
    ref A W j = ∑ l : Fin 2048, (A (ix2 (j 0) l) : EReal) * W (ix2 l (j 1)) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference12Ideal := fun m ρ _ =>
  (θ_run defs _ _).mono (fun r h => ⟨fun c => (h c).2, sem_eq_zero_of_no_sems (by decide) r.2⟩)
    (run (F := Ideal) m ρ)

end Cert.Reference12Ideal.Value

/-! ## The kernel -/

namespace Cert.Kernel12Ideal.Value

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

theorem pay_at (w : Vec Ideal S2048x1024 .bf16) (a : Vec Ideal S1024x2048 .bf16) (j : S1024x1024.Idx) :
    k0_pay1 (F := Ideal) w a j
      = (∑ l : Fin 2048, (a (ix2 (j 0) l) : EReal) * w (ix2 l (j 1))) := by
  pointwise [k0_pay1]

/-- The result array, block by block. -/
theorem final (c : Dev nD) : (dats m 0 c).arrAt 2 (cfgs 0).N
    = Cert.Reference12Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference12Ideal.Value.ref_at]
  refine Fin.sum_fin_congr fun l => ?_
  blk_point [iblk, V, idx t]

/-- Kernel and reference leave the same projection. -/
theorem same : Cert.algebraic_Kernel12Ideal_Reference12Ideal := by
  pair_intro
  · run_from Cert.Kernel12Ideal.Value.run_blocks m g
  · run_from Cert.Reference12Ideal.Value.run_ref m' g'
    · exact (final m c).symm

end Cert.Kernel12Ideal.Value

end
-- ==== Proof.ShortRef.lean ====
/-
  The second mixer's short convolution, its gates and its grouped norm, backwards: the reference's gradients.
-/
module

public import proofs.«01_k».proof.Defs
public import proofs.«01_k».proof.Proof.Gen.Reference44Ideal.Run
public import proofs.«01_k».proof.Proof.Gates
public import Idealize.ShloMosaic.Lib.Claim
public import Idealize.ShloMosaic.Lib.Quiescent
public import Idealize.ShloMosaic.Lib.KernelVsHost
public import Idealize.ShloMosaic.Lib.Pointwise

@[expose] public section

set_option maxRecDepth 16384

noncomputable section

namespace Cert.Short

open Idealize.ShloMosaic Cert.Gates

/-- A group's column among the columns of all groups. -/
def col (G : Fin 16) (d : Fin 128) : Fin 2048 := ⟨G.val * 128 + d.val, by omega⟩

/-- Every column is some group's. -/
theorem col_surj (k : Fin 2048) : ∃ G d, k = col G d :=
  ⟨⟨k.val / 128, by omega⟩, ⟨k.val % 128, by omega⟩, Fin.ext (by show k.val = k.val / 128 * 128 + k.val % 128; omega)⟩

/-- The norm's regulariser. -/
def eps : ℝ := 10995116 / 2 ^ 40

theorem ceps : Ideal.ofBits .f32 0x3727C5AC#32 = ((eps : ℝ) : EReal) := by
  simp [Ideal.ofBits, Ideal.ieee, eps]
  rw [← EReal.coe_mul]
  norm_num

theorem c128 : Ideal.ofBits .f32 0x43000000#32 = ((128 : ℝ) : EReal) := by
  simp [Ideal.ofBits, Ideal.ieee]
  rw [← EReal.coe_mul]
  norm_num

theorem cmhalf : Ideal.ofBits .f32 0xBF000000#32 = ((-1 / 2 : ℝ) : EReal) := by
  simp [Ideal.ofBits, Ideal.ieee]
  rw [← EReal.coe_mul, ← EReal.coe_neg]
  norm_num

/-- A column with zeros past its end, and with two zeros in front of it. -/
def past (f : Fin 8192 → EReal) (p : ℕ) : EReal := if h : p < 8192 then f ⟨p, h⟩ else 0
def back (f : Fin 8192 → EReal) (p : ℕ) : EReal := if p < 2 then 0 else past f (p - 2)

theorem past_mul (f : Fin 8192 → EReal) (a : EReal) (p : ℕ) : past (fun r => f r * a) p = past f p * a := by
  unfold past
  split_ifs with h
  · rfl
  · rw [zero_mul]

theorem past_row (f : Fin 8192 → EReal) (R : Fin 8192) (p : ℕ) (h : p = R) : past f p = f R := by
  subst h
  exact dif_pos R.isLt

theorem past_end (f : Fin 8192 → EReal) (p : ℕ) (h : 8192 ≤ p) : past f p = 0 := dif_neg (by omega)

theorem back_front (f : Fin 8192 → EReal) (p : ℕ) (h : p < 2) : back f p = 0 := if_pos h

theorem back_row (f : Fin 8192 → EReal) (R : Fin 8192) (p : ℕ) (h : p = R + 2) : back f p = f R :=
  (if_neg (by omega)).trans (past_row f R _ (by omega))

theorem back_end (f : Fin 8192 → EReal) (p : ℕ) (h : 8194 ≤ p) : back f p = 0 :=
  (if_neg (by omega)).trans (past_end f _ (by omega))

/-- The three taps at a row. -/
def taps (x : Fin 8192 → EReal) (w : Fin 3 → EReal) (p : ℕ) : EReal :=
  w 2 * back x (p + 2) + w 1 * back x (p + 1) + w 0 * back x p

section

/-! The three parts (the input and the two gates), the taps, the gain and the upstream gradient, entry by entry. -/
variable (s : Fin 3 → Fin 8192 → Fin 2048 → EReal) (w : Fin 3 → Fin 2048 → EReal) (n : Fin 2048 → EReal) (g : Fin 8192 → Fin 2048 → EReal)

/-- The gated input, the taps' sum of it, and that gated again. -/
def cu (k : Fin 2048) (r : Fin 8192) : EReal := s 2 r k * s 0 r k
def sum3 (r : Fin 8192) (k : Fin 2048) : EReal := taps (cu s k) (fun j => w j k) r
def row (r : Fin 8192) (G : Fin 16) (d : Fin 128) : EReal := s 1 r (col G d) * sum3 s w r (col G d)

/-- The gradient of the normed group, and of the group. -/
def upRow (r : Fin 8192) (G : Fin 16) (d : Fin 128) : EReal := g r (col G d) * n (col G d)
def dRow (r : Fin 8192) (G : Fin 16) (d : Fin 128) : EReal := normGrad 128 eps (row s w r G) (upRow n g r G) d

/-- The gradient of the taps' sum, of the gated input, and of a tap. -/
def inn (G : Fin 16) (d : Fin 128) (r : Fin 8192) : EReal := dRow s w n g r G d * s 1 r (col G d)
def dcu (G : Fin 16) (d : Fin 128) (p : ℕ) : EReal :=
  w 2 (col G d) * past (inn s w n g G d) p + w 1 (col G d) * past (inn s w n g G d) (p + 1) + w 0 (col G d) * past (inn s w n g G d) (p + 2)
def dtap (G : Fin 16) (d : Fin 128) (j : ℕ) : EReal := ∑ r : Fin 8192, inn s w n g G d r * back (cu s (col G d)) (r + j)

/-- The gradient of the gain. -/
def dgain (G : Fin 16) (d : Fin 128) : EReal :=
  ∑ r : Fin 8192, g r (col G d) * (row s w r G d * Ideal.rsqrt (meanSq 128 eps (row s w r G)))

end

end Cert.Short

/-! ## The reference -/

namespace Cert.Reference44Ideal.Value

open Idealize.ShloMosaic Idealize.ShloMosaic.TcCoe Idealize.SL.Sem
open Cert.Reference44Ideal Cert.Reference44Ideal.Gen Cert.Gates Cert.Short

section Parts

variable (P : FVec Ideal S3x8192x2048 .bf16)

/-- The input, the gate behind the taps and the gate before them. -/
def partU : FVec Ideal S8192x2048 .f32 := shapeCast _ (extractStridedSlice S1x8192x2048 ![0, 0, 0] (extf .f32 P bitsLt_bf16_f32) slices_S3x8192x2048_S1x8192x2048_0_0_0) shapeCasts_S1x8192x2048_S8192x2048
def partB : FVec Ideal S8192x2048 .f32 := shapeCast _ (extractStridedSlice S1x8192x2048 ![1, 0, 0] (extf .f32 P bitsLt_bf16_f32) slices_S3x8192x2048_S1x8192x2048_1_0_0) shapeCasts_S1x8192x2048_S8192x2048
def partC : FVec Ideal S8192x2048 .f32 := shapeCast _ (extractStridedSlice S1x8192x2048 ![2, 0, 0] (extf .f32 P bitsLt_bf16_f32) slices_S3x8192x2048_S1x8192x2048_2_0_0) shapeCasts_S1x8192x2048_S8192x2048

theorem partU_at (r : Fin 8192) (k : Fin 2048) : partU P (ix2 r k) = P (ix3 0 r k) := by
  pointwise [partU]
theorem partB_at (r : Fin 8192) (k : Fin 2048) : partB P (ix2 r k) = P (ix3 1 r k) := by
  pointwise [partB]
theorem partC_at (r : Fin 8192) (k : Fin 2048) : partC P (ix2 r k) = P (ix3 2 r k) := by
  pointwise [partC]

/-- The gated input with two rows of zeros in front of it. -/
def behind : FVec Ideal S8194x2048 .f32 :=
  concatenate S8194x2048 0 [⟨S2x2048, (broadcastInDim S2x2048 ![] bcast_S_S2x2048 (constant S_ .f32 0x00000000#32))⟩, ⟨S8192x2048, (mulf (partC P) (partU P))⟩] concatenates_S2x2048_S8192x2048_S8194x2048_d0

/-- The arguments entry by entry. -/
def ps (i : Fin 3) (r : Fin 8192) (k : Fin 2048) : EReal := P (ix3 i r k)

theorem behind_at (p : Fin 8194) (k : Fin 2048) : behind P (ix2 p k) = back (cu (ps P) k) p := by
  have e (r : Fin 8192) : mulf (partC P) (partU P) (ix2 r k) = cu (ps P) k r :=
    congr (congrArg (fun a b : EReal => a * b) (partC_at P r k)) (partU_at P r k)
  have e' : cu (ps P) k = fun r => mulf (partC P) (partU P) (ix2 r k) := funext fun r => (e r).symm
  rw [e']
  generalize hu : mulf (partC P) (partU P) = u
  unfold back past
  rw [behind, hu]
  clear hu e e'
  pointwise []
  split_ifs with h h'
  · first | rfl | exact Ideal.ofBits_zero_f32
  · have h3 : p.val - 2 < 8192 := by omega
    rw [dif_pos h3]
  · exact absurd rfl ‹_›

def rows0 : FVec Ideal S8192x2048 .f32 := extractStridedSlice S8192x2048 ![0, 0] (behind P) slices_S8194x2048_S8192x2048_0_0

theorem rows0_at (r : Fin 8192) (k : Fin 2048) : rows0 P (ix2 r k) = back (cu (ps P) k) (r.val) := by
  refine Eq.trans ?_ (behind_at P ⟨r.val, by omega⟩ k)
  generalize hb : behind P = b
  rw [rows0, hb]
  clear hb
  pointwise []

def rows1 : FVec Ideal S8192x2048 .f32 := extractStridedSlice S8192x2048 ![1, 0] (behind P) slices_S8194x2048_S8192x2048_1_0

theorem rows1_at (r : Fin 8192) (k : Fin 2048) : rows1 P (ix2 r k) = back (cu (ps P) k) (r.val + 1) := by
  refine Eq.trans ?_ (behind_at P ⟨r.val + 1, by omega⟩ k)
  generalize hb : behind P = b
  rw [rows1, hb]
  clear hb
  pointwise []
  exact congrArg (fun p => b (ix2 p k)) (Fin.ext (Nat.add_comm _ _))

def rows2 : FVec Ideal S8192x2048 .f32 := extractStridedSlice S8192x2048 ![2, 0] (behind P) slices_S8194x2048_S8192x2048_2_0

theorem rows2_at (r : Fin 8192) (k : Fin 2048) : rows2 P (ix2 r k) = back (cu (ps P) k) (r.val + 2) := by
  refine Eq.trans ?_ (behind_at P ⟨r.val + 2, by omega⟩ k)
  generalize hb : behind P = b
  rw [rows2, hb]
  clear hb
  pointwise []
  exact congrArg (fun p => b (ix2 p k)) (Fin.ext (Nat.add_comm _ _))

end Parts

section Taps

variable (W : FVec Ideal S3x2048 .f32)

def ws (j : Fin 3) (k : Fin 2048) : EReal := W (ix2 j k)

def tap0 : FVec Ideal S8192x2048 .f32 := broadcastInDim S8192x2048 ![0, 1] bcast_S1x2048_S8192x2048_0_1 (extractStridedSlice S1x2048 ![0, 0] W slices_S3x2048_S1x2048_0_0)

theorem tap0_at (r : Fin 8192) (k : Fin 2048) : tap0 W (ix2 r k) = W (ix2 0 k) := by
  pointwise [tap0]

def tap1 : FVec Ideal S8192x2048 .f32 := broadcastInDim S8192x2048 ![0, 1] bcast_S1x2048_S8192x2048_0_1 (extractStridedSlice S1x2048 ![1, 0] W slices_S3x2048_S1x2048_1_0)

theorem tap1_at (r : Fin 8192) (k : Fin 2048) : tap1 W (ix2 r k) = W (ix2 1 k) := by
  pointwise [tap1]

def tap2 : FVec Ideal S8192x2048 .f32 := broadcastInDim S8192x2048 ![0, 1] bcast_S1x2048_S8192x2048_0_1 (extractStridedSlice S1x2048 ![2, 0] W slices_S3x2048_S1x2048_2_0)

theorem tap2_at (r : Fin 8192) (k : Fin 2048) : tap2 W (ix2 r k) = W (ix2 2 k) := by
  pointwise [tap2]

end Taps

section Grouped

/-- The columns by group, and back. -/
def split (v : FVec Ideal S8192x2048 .f32) : FVec Ideal S8192x16x128 .f32 := shapeCast _ v shapeCasts_S8192x2048_S8192x16x128
def join (v : FVec Ideal S8192x16x128 .f32) : FVec Ideal S8192x2048 .f32 := shapeCast _ v shapeCasts_S8192x16x128_S8192x2048

/-- A group's mean square with the regulariser, and its reciprocal root. -/
def square (v : FVec Ideal S8192x16x128 .f32) : FVec Ideal S8192x16x1 .f32 :=
  addf (Host.divf (broadcastInDim S8192x16x1 ![0, 1] bcast_S8192x16_S8192x16x1_0_1 (Host.reduceAdd (mulf v v) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x3727C5AC#32))
def root (v : FVec Ideal S8192x16x128 .f32) : FVec Ideal S8192x16x128 .f32 :=
  broadcastInDim S8192x16x128 ![0, 1, 2] bcast_S8192x16x1_S8192x16x128_0_1_2 (Host.rsqrt (square v))

/-- The part of the norm's gradient that comes by way of its root. -/
def share (v w : FVec Ideal S8192x16x128 .f32) : FVec Ideal S8192x16x128 .f32 :=
  broadcastInDim S8192x16x128 ![0, 1] bcast_S8192x16_S8192x16x128_0_1 (Host.reduceAdd (Host.divf (mulf (shapeCast _ (Host.reduceAdd (mulf v w) (constant S_ .f32 0x00000000#32) reducesTo_S8192x16x128_S8192x16_d2 h_S_) shapeCasts_S8192x16_S8192x16x1) (mulf (broadcastInDim S8192x16x1 ![] bcast_S_S8192x16x1 (constant S_ .f32 0xBF000000#32)) (Host.divf (Host.rsqrt (square v)) (square v)))) (broadcastInDim S8192x16x1 ![] bcast_S_S8192x16x1 (constant S_ .f32 0x43000000#32))) (constant S_ .f32 0x00000000#32) reducesTo_S8192x16x1_S8192x16_d2 h_S_)

/-- The gradient of the groups from that of the normed groups. -/
def grad (v w : FVec Ideal S8192x16x128 .f32) : FVec Ideal S8192x16x128 .f32 :=
  addf (addf (mulf w (root v)) (mulf v (share v w))) (mulf (share v w) v)

theorem split_at (v : FVec Ideal S8192x2048 .f32) (r : Fin 8192) (G : Fin 16) (d : Fin 128) :
    split v (ix3 r G d) = v (ix2 r (col G d)) := by
  pointwise [split]
  rfl

theorem join_at (v : FVec Ideal S8192x16x128 .f32) (r : Fin 8192) (G : Fin 16) (d : Fin 128) :
    join v (ix2 r (col G d)) = v (ix3 r G d) := by
  pointwise [join, col]

theorem root_at (v : FVec Ideal S8192x16x128 .f32) (r : Fin 8192) (G : Fin 16) (d : Fin 128) :
    root v (ix3 r G d) = Ideal.rsqrt (meanSq 128 eps fun k => v (ix3 r G k)) := by
  rw [meanSq, ← c128, ← ceps]
  pointwise [root, square]

theorem share_at (v w : FVec Ideal S8192x16x128 .f32) (r : Fin 8192) (G : Fin 16) (d : Fin 128) :
    share v w (ix3 r G d) = normPart 128 eps (fun k => v (ix3 r G k)) (fun k => w (ix3 r G k)) := by
  rw [normPart, meanSq, ← c128, ← ceps, ← cmhalf]
  pointwise [share, square]
  rw [Fin.sum_univ_one]

theorem grad_at (v w : FVec Ideal S8192x16x128 .f32) (r : Fin 8192) (G : Fin 16) (d : Fin 128) :
    grad v w (ix3 r G d) = normGrad 128 eps (fun k => v (ix3 r G k)) (fun k => w (ix3 r G k)) d := by
  have e : grad v w (ix3 r G d) = w (ix3 r G d) * root v (ix3 r G d) + v (ix3 r G d) * share v w (ix3 r G d)
      + share v w (ix3 r G d) * v (ix3 r G d) := rfl
  rw [e, root_at, share_at, normGrad_eq 128 eps (by norm_num) (by rw [eps]; norm_num), mul_comm (normPart _ _ _ _), add_assoc]

end Grouped

/-- A row of zeros but for the one tap's, and rows put further down. -/
def only0 (u : FVec Ideal S8192x2048 .f32) : FVec Ideal S3x2048 .f32 := pad S3x2048 ![0, 0] ![2, 0] ![0, 0] (shapeCast _ (Host.reduceAdd u (constant S_ .f32 0x00000000#32) reducesTo_S8192x2048_S2048_d0 h_S_) shapeCasts_S2048_S1x2048) (constant S_ .f32 0x00000000#32) pads_S1x2048_S3x2048_020_000 h_S_
def down0 (u : FVec Ideal S8192x2048 .f32) : FVec Ideal S8194x2048 .f32 := pad S8194x2048 ![0, 0] ![2, 0] ![0, 0] u (constant S_ .f32 0x00000000#32) pads_S8192x2048_S8194x2048_020_000 h_S_
def only1 (u : FVec Ideal S8192x2048 .f32) : FVec Ideal S3x2048 .f32 := pad S3x2048 ![1, 0] ![1, 0] ![0, 0] (shapeCast _ (Host.reduceAdd u (constant S_ .f32 0x00000000#32) reducesTo_S8192x2048_S2048_d0 h_S_) shapeCasts_S2048_S1x2048) (constant S_ .f32 0x00000000#32) pads_S1x2048_S3x2048_110_000 h_S_
def down1 (u : FVec Ideal S8192x2048 .f32) : FVec Ideal S8194x2048 .f32 := pad S8194x2048 ![1, 0] ![1, 0] ![0, 0] u (constant S_ .f32 0x00000000#32) pads_S8192x2048_S8194x2048_110_000 h_S_
def only2 (u : FVec Ideal S8192x2048 .f32) : FVec Ideal S3x2048 .f32 := pad S3x2048 ![2, 0] ![0, 0] ![0, 0] (shapeCast _ (Host.reduceAdd u (constant S_ .f32 0x00000000#32) reducesTo_S8192x2048_S2048_d0 h_S_) shapeCasts_S2048_S1x2048) (constant S_ .f32 0x00000000#32) pads_S1x2048_S3x2048_200_000 h_S_
def down2 (u : FVec Ideal S8192x2048 .f32) : FVec Ideal S8194x2048 .f32 := pad S8194x2048 ![2, 0] ![0, 0] ![0, 0] u (constant S_ .f32 0x00000000#32) pads_S8192x2048_S8194x2048_200_000 h_S_

theorem down0_at (u : FVec Ideal S8192x2048 .f32) (r : Fin 8192) (k : Fin 2048) :
    down0 u (ix2 ⟨r.val + 2, by omega⟩ k) = past (fun r => u (ix2 r k)) (r.val + 2) := by
  rw [down0]
  unfold past
  split_ifs with h
  · refine pad_apply_of_inside _ _ _ u _ _ _ _ (ix2 ⟨r.val + 2, h⟩ k) fun a => ?_
    fin_cases a
    · show r.val + 2 = 0 + (r.val + 2) * (0 + 1)
      omega
    · show k.val = 0 + k.val * (0 + 1)
      omega
  · refine (pad_apply_of_not_inside _ _ _ u _ _ _ _ 0 fun hn => ?_).trans Ideal.ofBits_zero_f32
    have h3 : (r.val + 2 - 0) / (0 + 1) < 8192 := hn.2.2
    omega

theorem only0_at (u : FVec Ideal S8192x2048 .f32) (i : Fin 3) (k : Fin 2048) :
    only0 u (ix2 i k) = if (i : ℕ) = 0 then ∑ r : Fin 8192, (u (ix2 r k) : EReal) else 0 := by
  rw [only0]
  split_ifs with h
  · refine (pad_apply_of_inside _ _ _ _ _ _ _ _ (ix2 0 k) fun a => ?_).trans ?_
    · fin_cases a
      · show i.val = 0 + 0 * (0 + 1)
        omega
      · show k.val = 0 + k.val * (0 + 1)
        omega
    · pointwise []
  · refine (pad_apply_of_not_inside _ _ _ _ _ _ _ _ 0 fun hn => ?_).trans Ideal.ofBits_zero_f32
    have h1 : 0 ≤ i.val := hn.1
    have h3 : (i.val - 0) / (0 + 1) < 1 := hn.2.2
    omega

theorem down1_at (u : FVec Ideal S8192x2048 .f32) (r : Fin 8192) (k : Fin 2048) :
    down1 u (ix2 ⟨r.val + 2, by omega⟩ k) = past (fun r => u (ix2 r k)) (r.val + 1) := by
  rw [down1]
  unfold past
  split_ifs with h
  · refine pad_apply_of_inside _ _ _ u _ _ _ _ (ix2 ⟨r.val + 1, h⟩ k) fun a => ?_
    fin_cases a
    · show r.val + 2 = 1 + (r.val + 1) * (0 + 1)
      omega
    · show k.val = 0 + k.val * (0 + 1)
      omega
  · refine (pad_apply_of_not_inside _ _ _ u _ _ _ _ 0 fun hn => ?_).trans Ideal.ofBits_zero_f32
    have h3 : (r.val + 2 - 1) / (0 + 1) < 8192 := hn.2.2
    omega

theorem only1_at (u : FVec Ideal S8192x2048 .f32) (i : Fin 3) (k : Fin 2048) :
    only1 u (ix2 i k) = if (i : ℕ) = 1 then ∑ r : Fin 8192, (u (ix2 r k) : EReal) else 0 := by
  rw [only1]
  split_ifs with h
  · refine (pad_apply_of_inside _ _ _ _ _ _ _ _ (ix2 0 k) fun a => ?_).trans ?_
    · fin_cases a
      · show i.val = 1 + 0 * (0 + 1)
        omega
      · show k.val = 0 + k.val * (0 + 1)
        omega
    · pointwise []
  · refine (pad_apply_of_not_inside _ _ _ _ _ _ _ _ 0 fun hn => ?_).trans Ideal.ofBits_zero_f32
    have h1 : 1 ≤ i.val := hn.1
    have h3 : (i.val - 1) / (0 + 1) < 1 := hn.2.2
    omega

theorem down2_at (u : FVec Ideal S8192x2048 .f32) (r : Fin 8192) (k : Fin 2048) :
    down2 u (ix2 ⟨r.val + 2, by omega⟩ k) = past (fun r => u (ix2 r k)) (r.val) := by
  rw [down2]
  unfold past
  split_ifs with h
  · refine pad_apply_of_inside _ _ _ u _ _ _ _ (ix2 ⟨r.val, h⟩ k) fun a => ?_
    fin_cases a
    · show r.val + 2 = 2 + (r.val) * (0 + 1)
      omega
    · show k.val = 0 + k.val * (0 + 1)
      omega
  · exact absurd r.isLt h

theorem only2_at (u : FVec Ideal S8192x2048 .f32) (i : Fin 3) (k : Fin 2048) :
    only2 u (ix2 i k) = if (i : ℕ) = 2 then ∑ r : Fin 8192, (u (ix2 r k) : EReal) else 0 := by
  rw [only2]
  split_ifs with h
  · refine (pad_apply_of_inside _ _ _ _ _ _ _ _ (ix2 0 k) fun a => ?_).trans ?_
    · fin_cases a
      · show i.val = 2 + 0 * (0 + 1)
        omega
      · show k.val = 0 + k.val * (0 + 1)
        omega
    · pointwise []
  · refine (pad_apply_of_not_inside _ _ _ _ _ _ _ _ 0 fun hn => ?_).trans Ideal.ofBits_zero_f32
    have h1 : 2 ≤ i.val := hn.1
    have h3 : (i.val - 2) / (0 + 1) < 1 := hn.2.2
    omega

variable (P : FVec Ideal S3x8192x2048 .bf16) (W : FVec Ideal S3x2048 .f32) (N : FVec Ideal S1x2048 .f32) (M : FVec Ideal S8192x4096 .bf16)

def ns (k : Fin 2048) : EReal := N (ix2 0 k)
def gs (r : Fin 8192) (k : Fin 2048) : EReal := M (ix2 r ⟨2048 + k.val, by omega⟩)

/-- The taps' sum, the groups, the gradient of the mixer's second half, and of the normed groups. -/
def sums : FVec Ideal S8192x2048 .f32 :=
  addf (addf (addf (broadcastInDim S8192x2048 ![] bcast_S_S8192x2048 (constant S_ .f32 0x00000000#32)) (mulf (rows0 P) (tap0 W))) (mulf (rows1 P) (tap1 W))) (mulf (rows2 P) (tap2 W))
def groups : FVec Ideal S8192x16x128 .f32 := split (mulf (partB P) (sums P W))
def dmix : FVec Ideal S8192x2048 .f32 := extractStridedSlice S8192x2048 ![0, 2048] (extf .f32 M bitsLt_bf16_f32) slices_S8192x4096_S8192x2048_0_2048
def up : FVec Ideal S8192x16x128 .f32 := split (mulf (dmix M) (broadcastInDim S8192x2048 ![0, 1] bcast_S1x2048_S8192x2048_0_1 N))

/-- The gradient of the gated taps' sum, of the taps' sum, and of the gated input. -/
def dv : FVec Ideal S8192x2048 .f32 := join (grad (groups P W) (up N M))
def into : FVec Ideal S8192x2048 .f32 := mulf (partB P) (dv P W N M)
def outOf : FVec Ideal S8192x2048 .f32 :=
  extractStridedSlice S8192x2048 ![2, 0] (addf (addf (down2 (mulf (into P W N M) (tap2 W))) (down1 (mulf (into P W N M) (tap1 W)))) (down0 (mulf (into P W N M) (tap0 W)))) slices_S8194x2048_S8192x2048_2_0

/-- The three gradients. -/
def refP : FVec Ideal S3x8192x2048 .bf16 :=
  truncf .bf16 (concatenate S3x8192x2048 0 [⟨S1x8192x2048, (broadcastInDim S1x8192x2048 ![1, 2] bcast_S8192x2048_S1x8192x2048_1_2 (mulf (partC P) (outOf P W N M)))⟩, ⟨S1x8192x2048, (broadcastInDim S1x8192x2048 ![1, 2] bcast_S8192x2048_S1x8192x2048_1_2 (mulf (dv P W N M) (sums P W)))⟩, ⟨S1x8192x2048, (broadcastInDim S1x8192x2048 ![1, 2] bcast_S8192x2048_S1x8192x2048_1_2 (mulf (outOf P W N M) (partU P)))⟩] concatenates_S1x8192x2048_S1x8192x2048_S1x8192x2048_S3x8192x2048_d0) bitsLt_bf16_f32
def refW : FVec Ideal S3x2048 .f32 :=
  addf (addf (only2 (mulf (rows2 P) (into P W N M))) (only1 (mulf (rows1 P) (into P W N M)))) (only0 (mulf (rows0 P) (into P W N M)))
def refN : FVec Ideal S1x2048 .f32 :=
  shapeCast _ (Host.reduceAdd (mulf (join (mulf (groups P W) (root (groups P W)))) (dmix M)) (constant S_ .f32 0x00000000#32) reducesTo_S8192x2048_S2048_d0 h_S_) shapeCasts_S2048_S1x2048

theorem sums_at (r : Fin 8192) (k : Fin 2048) : sums P W (ix2 r k) = sum3 (ps P) (ws W) r k := by
  have e : sums P W (ix2 r k)
      = Ideal.ofBits .f32 0x00000000#32 + rows0 P (ix2 r k) * tap0 W (ix2 r k) + rows1 P (ix2 r k) * tap1 W (ix2 r k)
        + rows2 P (ix2 r k) * tap2 W (ix2 r k) := rfl
  rw [e, rows0_at, rows1_at, rows2_at, tap0_at, tap1_at, tap2_at, Ideal.ofBits_zero_f32, zero_add, sum3, taps]
  show _ = (W (ix2 2 k) : EReal) * _ + (W (ix2 1 k) : EReal) * _ + (W (ix2 0 k) : EReal) * _
  simp only [mul_comm (W _ : EReal)]
  ac_rfl

theorem groups_at (r : Fin 8192) (G : Fin 16) (d : Fin 128) : groups P W (ix3 r G d) = row (ps P) (ws W) r G d := by
  rw [groups, split_at, row, ← sums_at]
  exact congrArg (fun a : EReal => a * (_ : EReal)) (partB_at P r (col G d))

theorem dmix_at (r : Fin 8192) (k : Fin 2048) : dmix M (ix2 r k) = gs M r k := by
  rw [gs]
  pointwise [dmix]

theorem up_at (r : Fin 8192) (G : Fin 16) (d : Fin 128) : up N M (ix3 r G d) = upRow (ns N) (gs M) r G d := by
  rw [up, split_at, upRow, ← dmix_at, ns]
  generalize dmix M = x
  pointwise []

theorem dv_at (r : Fin 8192) (G : Fin 16) (d : Fin 128) : dv P W N M (ix2 r (col G d)) = dRow (ps P) (ws W) (ns N) (gs M) r G d := by
  rw [dv, join_at, grad_at, dRow]
  simp only [groups_at, up_at]

theorem into_at (r : Fin 8192) (G : Fin 16) (d : Fin 128) : into P W N M (ix2 r (col G d)) = inn (ps P) (ws W) (ns N) (gs M) G d r := by
  rw [inn, ← dv_at, mul_comm]
  exact congrArg (fun a : EReal => a * (_ : EReal)) (partB_at P r (col G d))

theorem outOf_at (r : Fin 8192) (G : Fin 16) (d : Fin 128) : outOf P W N M (ix2 r (col G d)) = dcu (ps P) (ws W) (ns N) (gs M) G d r := by
  have e : outOf P W N M (ix2 r (col G d))
      = down2 (mulf (into P W N M) (tap2 W)) (ix2 ⟨r.val + 2, by omega⟩ (col G d)) + down1 (mulf (into P W N M) (tap1 W)) (ix2 ⟨r.val + 2, by omega⟩ (col G d))
        + down0 (mulf (into P W N M) (tap0 W)) (ix2 ⟨r.val + 2, by omega⟩ (col G d)) := by
    generalize h0 : down0 (mulf (into P W N M) (tap0 W)) = a0
    generalize h1 : down1 (mulf (into P W N M) (tap1 W)) = a1
    generalize h2 : down2 (mulf (into P W N M) (tap2 W)) = a2
    rw [outOf, h0, h1, h2]
    clear h0 h1 h2
    pointwise []
    simp only [Nat.add_comm]
  have i0 : (fun r : Fin 8192 => (mulf (into P W N M) (tap0 W) (ix2 r (col G d)) : EReal)) = fun r => inn (ps P) (ws W) (ns N) (gs M) G d r * (W (ix2 0 (col G d)) : EReal) :=
    funext fun r => congr (congrArg (fun a b : EReal => a * b) (into_at P W N M r G d)) (tap0_at W r (col G d))
  have i1 : (fun r : Fin 8192 => (mulf (into P W N M) (tap1 W) (ix2 r (col G d)) : EReal)) = fun r => inn (ps P) (ws W) (ns N) (gs M) G d r * (W (ix2 1 (col G d)) : EReal) :=
    funext fun r => congr (congrArg (fun a b : EReal => a * b) (into_at P W N M r G d)) (tap1_at W r (col G d))
  have i2 : (fun r : Fin 8192 => (mulf (into P W N M) (tap2 W) (ix2 r (col G d)) : EReal)) = fun r => inn (ps P) (ws W) (ns N) (gs M) G d r * (W (ix2 2 (col G d)) : EReal) :=
    funext fun r => congr (congrArg (fun a b : EReal => a * b) (into_at P W N M r G d)) (tap2_at W r (col G d))
  rw [e, down0_at, down1_at, down2_at, i0, i1, i2, past_mul, past_mul, past_mul, dcu]
  show _ = (W (ix2 2 (col G d)) : EReal) * _ + (W (ix2 1 (col G d)) : EReal) * _ + (W (ix2 0 (col G d)) : EReal) * _
  simp only [mul_comm (W _ : EReal)]

theorem refP_at (i : Fin 3) (r : Fin 8192) (G : Fin 16) (d : Fin 128) : refP P W N M (ix3 i r (col G d))
    = ![ps P 2 r (col G d) * dcu (ps P) (ws W) (ns N) (gs M) G d r, dRow (ps P) (ws W) (ns N) (gs M) r G d * sum3 (ps P) (ws W) r (col G d),
        dcu (ps P) (ws W) (ns N) (gs M) G d r * ps P 0 r (col G d)] i := by
  have e0 : mulf (partC P) (outOf P W N M) (ix2 r (col G d)) = ps P 2 r (col G d) * dcu (ps P) (ws W) (ns N) (gs M) G d r :=
    congr (congrArg (fun a b : EReal => a * b) (partC_at P r (col G d))) (outOf_at P W N M r G d)
  have e1 : mulf (dv P W N M) (sums P W) (ix2 r (col G d)) = dRow (ps P) (ws W) (ns N) (gs M) r G d * sum3 (ps P) (ws W) r (col G d) :=
    congr (congrArg (fun a b : EReal => a * b) (dv_at P W N M r G d)) (sums_at P W r (col G d))
  have e2 : mulf (outOf P W N M) (partU P) (ix2 r (col G d)) = dcu (ps P) (ws W) (ns N) (gs M) G d r * ps P 0 r (col G d) :=
    congr (congrArg (fun a b : EReal => a * b) (outOf_at P W N M r G d)) (partU_at P r (col G d))
  rw [← e0, ← e1, ← e2]
  generalize h0 : mulf (partC P) (outOf P W N M) = a0
  generalize h1 : mulf (dv P W N M) (sums P W) = a1
  generalize h2 : mulf (outOf P W N M) (partU P) = a2
  rw [refP, h0, h1, h2]
  clear h0 h1 h2 e0 e1 e2
  fin_cases i
  · pointwise []
  · pointwise []
  · pointwise []

theorem refW_at (j : Fin 3) (G : Fin 16) (d : Fin 128) : refW P W N M (ix2 j (col G d)) = dtap (ps P) (ws W) (ns N) (gs M) G d j := by
  have e : refW P W N M (ix2 j (col G d)) = only2 (mulf (rows2 P) (into P W N M)) (ix2 j (col G d))
      + only1 (mulf (rows1 P) (into P W N M)) (ix2 j (col G d)) + only0 (mulf (rows0 P) (into P W N M)) (ix2 j (col G d)) := rfl
  have i0 (r : Fin 8192) : (mulf (rows0 P) (into P W N M) (ix2 r (col G d)) : EReal) = inn (ps P) (ws W) (ns N) (gs M) G d r * back (cu (ps P) (col G d)) (r.val) :=
    (mul_comm _ _).trans (congr (congrArg (fun a b : EReal => a * b) (into_at P W N M r G d)) (rows0_at P r (col G d)))
  have i1 (r : Fin 8192) : (mulf (rows1 P) (into P W N M) (ix2 r (col G d)) : EReal) = inn (ps P) (ws W) (ns N) (gs M) G d r * back (cu (ps P) (col G d)) (r.val + 1) :=
    (mul_comm _ _).trans (congr (congrArg (fun a b : EReal => a * b) (into_at P W N M r G d)) (rows1_at P r (col G d)))
  have i2 (r : Fin 8192) : (mulf (rows2 P) (into P W N M) (ix2 r (col G d)) : EReal) = inn (ps P) (ws W) (ns N) (gs M) G d r * back (cu (ps P) (col G d)) (r.val + 2) :=
    (mul_comm _ _).trans (congr (congrArg (fun a b : EReal => a * b) (into_at P W N M r G d)) (rows2_at P r (col G d)))
  rw [e, only0_at, only1_at, only2_at, dtap]
  simp only [i0, i1, i2]
  fin_cases j <;> simp

theorem refN_at (G : Fin 16) (d : Fin 128) : refN P W M (ix2 0 (col G d)) = dgain (ps P) (ws W) (gs M) G d := by
  have e (r : Fin 8192) : (mulf (join (mulf (groups P W) (root (groups P W)))) (dmix M) (ix2 r (col G d)) : EReal)
      = gs M r (col G d) * (row (ps P) (ws W) r G d * Ideal.rsqrt (meanSq 128 eps (row (ps P) (ws W) r G))) := by
    have e' : (mulf (join (mulf (groups P W) (root (groups P W)))) (dmix M) (ix2 r (col G d)) : EReal)
      = join (mulf (groups P W) (root (groups P W))) (ix2 r (col G d)) * dmix M (ix2 r (col G d)) := rfl
    have e'' : mulf (groups P W) (root (groups P W)) (ix3 r G d) = groups P W (ix3 r G d) * root (groups P W) (ix3 r G d) := rfl
    rw [e', join_at, e'', root_at, dmix_at, mul_comm]
    simp only [groups_at]
  rw [dgain]
  simp only [← e]
  generalize hu : mulf (join (mulf (groups P W) (root (groups P W)))) (dmix M) = u
  rw [refN, hu]
  clear hu e
  pointwise []

set_option maxHeartbeats 4000000 in
/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v103) = refP (m (c.tc.loc main_arg0)) (m (c.tc.loc main_arg1)) (m (c.tc.loc main_arg2)) (m (c.tc.loc main_arg3))
      ∧ r.2.mem (c.tc.loc main_v92) = refW (m (c.tc.loc main_arg0)) (m (c.tc.loc main_arg1)) (m (c.tc.loc main_arg2)) (m (c.tc.loc main_arg3))
      ∧ r.2.mem (c.tc.loc main_v49) = refN (m (c.tc.loc main_arg0)) (m (c.tc.loc main_arg1)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans rfl, (h c).2.1.trans rfl, (h c).2.2.1.trans rfl, (h c).2.2.2⟩)
    (run (F := Ideal) m ρ)

/-- The reference runs and leaves its arguments. -/
theorem frame_ref : Cert.quiescent_Reference44Ideal := fun m ρ _ =>
  (θ_run defs _ _).mono (fun r h => ⟨fun c => (h c).2.2.2, sem_eq_zero_of_no_sems (by decide) r.2⟩)
    (run (F := Ideal) m ρ)

end Cert.Reference44Ideal.Value

end
-- ==== Proof.ShortParts.lean ====
/-
  The second mixer's short convolution, backwards: what the kernel's parts are, entry by entry.
-/
module

public import proofs.«01_k».proof.Defs
public import proofs.«01_k».proof.Proof.Gen.Kernel44Ideal.Value
public import proofs.«01_k».proof.Proof.ShortRef
public import Idealize.ShloMosaic.Lib.Quiescent
public import Idealize.ShloMosaic.Lib.Pipeline.ValueKit
public import Idealize.ShloMosaic.Lib.Pipeline.ReadBack
public import Idealize.ShloMosaic.Lib.Claim
public import Idealize.ShloMosaic.Lib.KernelVsHost
public import Idealize.ShloMosaic.Lib.Pointwise

@[expose] public section

set_option maxRecDepth 16384

noncomputable section

namespace Cert.Kernel44Ideal.Value

open Idealize.ShloMosaic Idealize.ShloMosaic.TcCoe Idealize.SL.Sem
open Cert.Kernel44Ideal Cert.Kernel44Ideal.Gen Cert.Gates Cert.Short

/-! ## The groups of a block's columns -/

/-- A group's column among a block's. -/
def bc (q : Fin 8) (d : Fin 128) : Fin 1024 := ⟨q.val * 128 + d.val, by omega⟩

/-- Every column is some group's. -/
theorem bc_surj (k : Fin 1024) : ∃ q d, k = bc q d :=
  ⟨⟨k.val / 128, by omega⟩, ⟨k.val % 128, by omega⟩, Fin.ext (by show k.val = k.val / 128 * 128 + k.val % 128; omega)⟩

/-- One group of the columns. -/
def part (q : Fin 8) (z : FVec Ideal S288x1024 .f32) : FVec Ideal S288x128 .f32 := fun j => z (ix2 (j 0) (bc q (j 1)))

theorem slice_at (o : ℕ) (x : FVec Ideal S288x1024 .f32) (h : S288x1024.Slices ![0, o] S288x128) (e : Fin 288) (d : Fin 128) (k : Fin 1024)
    (hk : k.val = o + d.val) : extractStridedSlice S288x128 ![0, o] x h (ix2 e d) = x (ix2 e k) := by
  pointwise []
  exact congrArg (fun k => x (ix2 e k)) (Fin.ext (by first | exact hk.symm | (simp [hk]) | (simp [hk, Nat.add_comm])))

theorem slice_part (q : Fin 8) (o : ℕ) (ho : o = q.val * 128) (x : FVec Ideal S288x1024 .f32) (h : S288x1024.Slices ![0, o] S288x128) :
    extractStridedSlice S288x128 ![0, o] x h = part q x := by
  funext j
  obtain ⟨e, d, rfl⟩ : ∃ (e : Fin 288) (d : Fin 128), j = ix2 e d := ⟨j 0, j 1, by blk_ext⟩
  exact slice_at o x h e d (bc q d) (by show q.val * 128 + d.val = o + d.val; omega)

theorem cat8_at (p0 p1 p2 p3 p4 p5 p6 p7 : FVec Ideal S288x128 .f32) (q : Fin 8) (e : Fin 288) (d : Fin 128) :
    concatenate S288x1024 1 [⟨S288x128, p0⟩, ⟨S288x128, p1⟩, ⟨S288x128, p2⟩, ⟨S288x128, p3⟩, ⟨S288x128, p4⟩, ⟨S288x128, p5⟩, ⟨S288x128, p6⟩, ⟨S288x128, p7⟩] concatenates_S288x128_S288x128_S288x128_S288x128_S288x128_S288x128_S288x128_S288x128_S288x1024_d1 (ix2 e (bc q d))
      = (![p0, p1, p2, p3, p4, p5, p6, p7] : Fin 8 → FVec Ideal S288x128 .f32) q (ix2 e d) := by
  fin_cases q
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 0 d)) 0 (by simp) S288x128 p0 rfl rfl 0 rfl (ix2 e d) (fun b hb => ?_) ?_
    · fin_cases b
      · rfl
      · exact absurd rfl hb
    · show 0 + d.val = 0 * 128 + d.val
      omega
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 1 d)) 1 (by simp) S288x128 p1 rfl rfl 128 rfl (ix2 e d) (fun b hb => ?_) ?_
    · fin_cases b
      · rfl
      · exact absurd rfl hb
    · show 128 + d.val = 1 * 128 + d.val
      omega
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 2 d)) 2 (by simp) S288x128 p2 rfl rfl 256 rfl (ix2 e d) (fun b hb => ?_) ?_
    · fin_cases b
      · rfl
      · exact absurd rfl hb
    · show 256 + d.val = 2 * 128 + d.val
      omega
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 3 d)) 3 (by simp) S288x128 p3 rfl rfl 384 rfl (ix2 e d) (fun b hb => ?_) ?_
    · fin_cases b
      · rfl
      · exact absurd rfl hb
    · show 384 + d.val = 3 * 128 + d.val
      omega
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 4 d)) 4 (by simp) S288x128 p4 rfl rfl 512 rfl (ix2 e d) (fun b hb => ?_) ?_
    · fin_cases b
      · rfl
      · exact absurd rfl hb
    · show 512 + d.val = 4 * 128 + d.val
      omega
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 5 d)) 5 (by simp) S288x128 p5 rfl rfl 640 rfl (ix2 e d) (fun b hb => ?_) ?_
    · fin_cases b
      · rfl
      · exact absurd rfl hb
    · show 640 + d.val = 5 * 128 + d.val
      omega
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 6 d)) 6 (by simp) S288x128 p6 rfl rfl 768 rfl (ix2 e d) (fun b hb => ?_) ?_
    · fin_cases b
      · rfl
      · exact absurd rfl hb
    · show 768 + d.val = 6 * 128 + d.val
      omega
  · refine concatenate_apply_piece (t := S288x1024) 1 [⟨S288x128, p0⟩, ⟨S288x128, p1⟩, ⟨S288x128, p2⟩, ⟨S288x128, p3⟩, ⟨S288x128, p4⟩, ⟨S288x128, p5⟩, ⟨S288x128, p6⟩, ⟨S288x128, p7⟩] _ (ix2 e (bc 7 d)) 7 (by simp) S288x128 p7 rfl rfl 896 rfl (ix2 e d) (fun b hb => ?_) ?_
    · fin_cases b
      · rfl
      · exact absurd rfl hb
    · show 896 + d.val = 7 * 128 + d.val
      omega

/-- A group's reciprocal root, and its mean, spread over its columns. -/
def rootOf (y : FVec Ideal S288x128 .f32) : FVec Ideal S288x128 .f32 :=
  broadcastTo S288x128 (shapeCast S288x1 (rsqrt (addf (divf (shapeCast S288x1 (multiReduction (F := Ideal) .add [1] S288 (mulf y y) 0x00000000#32 reduces_S288x128_S288 (.inl rfl) rfl) shapeCasts_S288_S288x1) (broadcast S288x1 (Scalar.ofBits .f32 0x43000000#32))) (broadcast S288x1 (Scalar.ofBits .f32 0x3727C5AC#32)))) shapeCasts_S288x1_S288x1) broadcasts_S288x1_S288x128
def meanOf (y : FVec Ideal S288x128 .f32) : FVec Ideal S288x128 .f32 :=
  broadcastTo S288x128 (shapeCast S288x1 (divf (shapeCast S288x1 (multiReduction (F := Ideal) .add [1] S288 y 0x00000000#32 reduces_S288x128_S288 (.inl rfl) rfl) shapeCasts_S288_S288x1) (broadcast S288x1 (Scalar.ofBits .f32 0x43000000#32))) shapeCasts_S288x1_S288x1) broadcasts_S288x1_S288x128

theorem rootOf_at (y : FVec Ideal S288x128 .f32) (e : Fin 288) (d : Fin 128) :
    rootOf y (ix2 e d) = Ideal.rsqrt (meanSq 128 eps fun k => y (ix2 e k)) := by
  rw [meanSq, ← c128, ← ceps]
  pointwise [rootOf]

theorem meanOf_at (y : FVec Ideal S288x128 .f32) (e : Fin 288) (d : Fin 128) :
    meanOf y (ix2 e d) = Ideal.div (∑ k : Fin 128, (y (ix2 e k) : EReal)) (128 : ℝ) := by
  rw [← c128]
  pointwise [meanOf]

/-- The roots and the means of all groups. -/
def roots (z : FVec Ideal S288x1024 .f32) : FVec Ideal S288x1024 .f32 :=
  concatenate S288x1024 1 [⟨S288x128, rootOf (extractStridedSlice S288x128 ![0, 0] z slices_S288x1024_o0_0_S288x128)⟩, ⟨S288x128, rootOf (extractStridedSlice S288x128 ![0, 128] z slices_S288x1024_o0_128_S288x128)⟩, ⟨S288x128, rootOf (extractStridedSlice S288x128 ![0, 256] z slices_S288x1024_o0_256_S288x128)⟩, ⟨S288x128, rootOf (extractStridedSlice S288x128 ![0, 384] z slices_S288x1024_o0_384_S288x128)⟩, ⟨S288x128, rootOf (extractStridedSlice S288x128 ![0, 512] z slices_S288x1024_o0_512_S288x128)⟩, ⟨S288x128, rootOf (extractStridedSlice S288x128 ![0, 640] z slices_S288x1024_o0_640_S288x128)⟩, ⟨S288x128, rootOf (extractStridedSlice S288x128 ![0, 768] z slices_S288x1024_o0_768_S288x128)⟩, ⟨S288x128, rootOf (extractStridedSlice S288x128 ![0, 896] z slices_S288x1024_o0_896_S288x128)⟩] concatenates_S288x128_S288x128_S288x128_S288x128_S288x128_S288x128_S288x128_S288x128_S288x1024_d1
def means (z : FVec Ideal S288x1024 .f32) : FVec Ideal S288x1024 .f32 :=
  concatenate S288x1024 1 [⟨S288x128, meanOf (extractStridedSlice S288x128 ![0, 0] z slices_S288x1024_o0_0_S288x128)⟩, ⟨S288x128, meanOf (extractStridedSlice S288x128 ![0, 128] z slices_S288x1024_o0_128_S288x128)⟩, ⟨S288x128, meanOf (extractStridedSlice S288x128 ![0, 256] z slices_S288x1024_o0_256_S288x128)⟩, ⟨S288x128, meanOf (extractStridedSlice S288x128 ![0, 384] z slices_S288x1024_o0_384_S288x128)⟩, ⟨S288x128, meanOf (extractStridedSlice S288x128 ![0, 512] z slices_S288x1024_o0_512_S288x128)⟩, ⟨S288x128, meanOf (extractStridedSlice S288x128 ![0, 640] z slices_S288x1024_o0_640_S288x128)⟩, ⟨S288x128, meanOf (extractStridedSlice S288x128 ![0, 768] z slices_S288x1024_o0_768_S288x128)⟩, ⟨S288x128, meanOf (extractStridedSlice S288x128 ![0, 896] z slices_S288x1024_o0_896_S288x128)⟩] concatenates_S288x128_S288x128_S288x128_S288x128_S288x128_S288x128_S288x128_S288x128_S288x1024_d1

theorem roots_at (z : FVec Ideal S288x1024 .f32) (e : Fin 288) (q : Fin 8) (d : Fin 128) :
    roots z (ix2 e (bc q d)) = Ideal.rsqrt (meanSq 128 eps fun k => z (ix2 e (bc q k))) := by
  refine (cat8_at _ _ _ _ _ _ _ _ q e d).trans (Eq.trans ?_ (rootOf_at (part q z) e d))
  refine congrFun ?_ (ix2 e d)
  fin_cases q
  · exact congrArg rootOf (slice_part 0 0 rfl z _)
  · exact congrArg rootOf (slice_part 1 128 rfl z _)
  · exact congrArg rootOf (slice_part 2 256 rfl z _)
  · exact congrArg rootOf (slice_part 3 384 rfl z _)
  · exact congrArg rootOf (slice_part 4 512 rfl z _)
  · exact congrArg rootOf (slice_part 5 640 rfl z _)
  · exact congrArg rootOf (slice_part 6 768 rfl z _)
  · exact congrArg rootOf (slice_part 7 896 rfl z _)

theorem means_at (z : FVec Ideal S288x1024 .f32) (e : Fin 288) (q : Fin 8) (d : Fin 128) :
    means z (ix2 e (bc q d)) = Ideal.div (∑ k : Fin 128, (z (ix2 e (bc q k)) : EReal)) (128 : ℝ) := by
  refine (cat8_at _ _ _ _ _ _ _ _ q e d).trans (Eq.trans ?_ (meanOf_at (part q z) e d))
  refine congrFun ?_ (ix2 e d)
  fin_cases q
  · exact congrArg meanOf (slice_part 0 0 rfl z _)
  · exact congrArg meanOf (slice_part 1 128 rfl z _)
  · exact congrArg meanOf (slice_part 2 256 rfl z _)
  · exact congrArg meanOf (slice_part 3 384 rfl z _)
  · exact congrArg meanOf (slice_part 4 512 rfl z _)
  · exact congrArg meanOf (slice_part 5 640 rfl z _)
  · exact congrArg meanOf (slice_part 6 768 rfl z _)
  · exact congrArg meanOf (slice_part 7 896 rfl z _)

/-- The normed groups, their gradient, and from it the groups'. -/
def xh (z : FVec Ideal S288x1024 .f32) : FVec Ideal S288x1024 .f32 := mulf z (roots z)
def dyn (n : FVec Ideal S1x1024 .f32) (o : FVec Ideal S288x1024 .f32) : FVec Ideal S288x1024 .f32 :=
  mulf o (broadcastTo S288x1024 n broadcasts_S1x1024_S288x1024)
def dvv (z : FVec Ideal S288x1024 .f32) (n : FVec Ideal S1x1024 .f32) (o : FVec Ideal S288x1024 .f32) : FVec Ideal S288x1024 .f32 :=
  mulf (roots z) (subf (dyn n o) (mulf (xh z) (means (mulf (dyn n o) (xh z)))))

theorem xh_at (z : FVec Ideal S288x1024 .f32) (e : Fin 288) (q : Fin 8) (d : Fin 128) :
    xh z (ix2 e (bc q d)) = z (ix2 e (bc q d)) * Ideal.rsqrt (meanSq 128 eps fun k => z (ix2 e (bc q k))) := by
  rw [← roots_at z e q d]
  rfl

theorem dyn_at (n : FVec Ideal S1x1024 .f32) (o : FVec Ideal S288x1024 .f32) (e : Fin 288) (k : Fin 1024) :
    dyn n o (ix2 e k) = o (ix2 e k) * n (ix2 0 k) := by
  pointwise [dyn]

theorem dvv_at (z : FVec Ideal S288x1024 .f32) (n : FVec Ideal S1x1024 .f32) (o : FVec Ideal S288x1024 .f32) (e : Fin 288) (q : Fin 8) (d : Fin 128) :
    dvv z n o (ix2 e (bc q d))
      = normGrad 128 eps (fun k => z (ix2 e (bc q k))) (fun k => (o (ix2 e (bc q k)) : EReal) * n (ix2 0 (bc q k))) d := by
  have h : dvv z n o (ix2 e (bc q d)) = roots z (ix2 e (bc q d))
      * (dyn n o (ix2 e (bc q d)) - xh z (ix2 e (bc q d)) * means (mulf (dyn n o) (xh z)) (ix2 e (bc q d))) := rfl
  have h' (k : Fin 128) : mulf (dyn n o) (xh z) (ix2 e (bc q k)) = (dyn n o (ix2 e (bc q k)) : EReal) * xh z (ix2 e (bc q k)) := rfl
  rw [h, roots_at, means_at, normGrad]
  simp only [h', xh_at, dyn_at]

/-! ## Rows before and behind, and the taps -/

theorem cat_at (a : FVec Ideal S16x1024 .f32) (b : FVec Ideal S256x1024 .f32) (d : FVec Ideal S16x1024 .f32) (e : Fin 288) (k : Fin 1024) :
    concatenate S288x1024 0 [⟨S16x1024, a⟩, ⟨S256x1024, b⟩, ⟨S16x1024, d⟩] concatenates_S16x1024_S256x1024_S16x1024_S288x1024_d0 (ix2 e k)
      = if h : e.val < 16 then a (ix2 ⟨e.val, h⟩ k)
        else if h' : e.val < 272 then b (ix2 ⟨e.val - 16, by omega⟩ k) else d (ix2 ⟨e.val - 272, by omega⟩ k) := by
  split_ifs with h h'
  · refine concatenate_apply_piece (t := S288x1024) 0 [⟨S16x1024, a⟩, ⟨S256x1024, b⟩, ⟨S16x1024, d⟩] _ _ 0 (by simp) S16x1024 a rfl rfl 0 rfl (ix2 ⟨e.val, h⟩ k) (fun b hb => ?_) ?_
    · fin_cases b
      · exact absurd rfl hb
      · rfl
    · show 0 + e.val = e.val
      omega
  · refine concatenate_apply_piece (t := S288x1024) 0 [⟨S16x1024, a⟩, ⟨S256x1024, b⟩, ⟨S16x1024, d⟩] _ _ 1 (by simp) S256x1024 b rfl rfl 16 rfl (ix2 ⟨e.val - 16, by omega⟩ k) (fun b hb => ?_) ?_
    · fin_cases b
      · exact absurd rfl hb
      · rfl
    · show 16 + (e.val - 16) = e.val
      omega
  · refine concatenate_apply_piece (t := S288x1024) 0 [⟨S16x1024, a⟩, ⟨S256x1024, b⟩, ⟨S16x1024, d⟩] _ _ 2 (by simp) S16x1024 d rfl rfl 272 rfl (ix2 ⟨e.val - 272, by omega⟩ k) (fun b hb => ?_) ?_
    · fin_cases b
      · exact absurd rfl hb
      · rfl
    · show 272 + (e.val - 272) = e.val
      omega

theorem cat3_0 (a b d : FVec Ideal S1x1024 .f32) (k : Fin 1024) :
    concatenate S3x1024 0 [⟨S1x1024, a⟩, ⟨S1x1024, b⟩, ⟨S1x1024, d⟩] concatenates_S1x1024_S1x1024_S1x1024_S3x1024_d0 (ix2 0 k) = a (ix2 0 k) := by
  refine concatenate_apply_piece (t := S3x1024) 0 [⟨S1x1024, a⟩, ⟨S1x1024, b⟩, ⟨S1x1024, d⟩] _ (ix2 0 k) 0 (by simp) S1x1024 a rfl rfl 0 rfl (ix2 0 k) (fun b hb => ?_) rfl
  fin_cases b
  · exact absurd rfl hb
  · rfl

theorem cat3_1 (a b d : FVec Ideal S1x1024 .f32) (k : Fin 1024) :
    concatenate S3x1024 0 [⟨S1x1024, a⟩, ⟨S1x1024, b⟩, ⟨S1x1024, d⟩] concatenates_S1x1024_S1x1024_S1x1024_S3x1024_d0 (ix2 1 k) = b (ix2 0 k) := by
  refine concatenate_apply_piece (t := S3x1024) 0 [⟨S1x1024, a⟩, ⟨S1x1024, b⟩, ⟨S1x1024, d⟩] _ (ix2 1 k) 1 (by simp) S1x1024 b rfl rfl 1 rfl (ix2 0 k) (fun b hb => ?_) rfl
  fin_cases b
  · exact absurd rfl hb
  · rfl

theorem cat3_2 (a b d : FVec Ideal S1x1024 .f32) (k : Fin 1024) :
    concatenate S3x1024 0 [⟨S1x1024, a⟩, ⟨S1x1024, b⟩, ⟨S1x1024, d⟩] concatenates_S1x1024_S1x1024_S1x1024_S3x1024_d0 (ix2 2 k) = d (ix2 0 k) := by
  refine concatenate_apply_piece (t := S3x1024) 0 [⟨S1x1024, a⟩, ⟨S1x1024, b⟩, ⟨S1x1024, d⟩] _ (ix2 2 k) 2 (by simp) S1x1024 d rfl rfl 2 rfl (ix2 0 k) (fun b hb => ?_) rfl
  fin_cases b
  · exact absurd rfl hb
  · rfl

theorem rot_at (s : BitVec 32) (n : ℕ) (hs : s.toNat = n) (x : FVec Ideal S288x1024 .f32) (e e' : Fin 288) (k : Fin 1024)
    (h : e'.val = (e.val + 288 - n % 288) % 288) : dynamicRotate 0 s none x rotates_S288x1024_d0 (ix2 e k) = x (ix2 e' k) := by
  refine dynamicRotate_apply _ _ _ _ _ _ fun b => ?_
  fin_cases b
  · refine Eq.trans ?_ (if_pos rfl).symm
    show e'.val = (e.val + 288 - s.toNat % 288) % 288
    rw [hs, h]
  · exact (if_neg (by decide)).symm

/-- A tap's weights, spread over the rows. -/
def tapRows (j : ℕ) (w : FVec Ideal S3x1024 .f32) (h : S3x1024.Slices ![j, 0] S1x1024) : FVec Ideal S288x1024 .f32 :=
  broadcastTo S288x1024 (extractStridedSlice S1x1024 ![j, 0] w h) broadcasts_S1x1024_S288x1024

theorem tapRows_0 (w : FVec Ideal S3x1024 .f32) (e : Fin 288) (k : Fin 1024) :
    tapRows 0 w slices_S3x1024_o0_0_S1x1024 (ix2 e k) = w (ix2 0 k) := by
  pointwise [tapRows]

theorem tapRows_1 (w : FVec Ideal S3x1024 .f32) (e : Fin 288) (k : Fin 1024) :
    tapRows 1 w slices_S3x1024_o1_0_S1x1024 (ix2 e k) = w (ix2 1 k) := by
  pointwise [tapRows]

theorem tapRows_2 (w : FVec Ideal S3x1024 .f32) (e : Fin 288) (k : Fin 1024) :
    tapRows 2 w slices_S3x1024_o2_0_S1x1024 (ix2 e k) = w (ix2 2 k) := by
  pointwise [tapRows]

/-- The taps' sum, and the taps' transposed sum. -/
def sum3k (w : FVec Ideal S3x1024 .f32) (y : FVec Ideal S288x1024 .f32) : FVec Ideal S288x1024 .f32 :=
  addf (addf (mulf (tapRows 2 w slices_S3x1024_o2_0_S1x1024) y)
    (mulf (tapRows 1 w slices_S3x1024_o1_0_S1x1024) (dynamicRotate 0 1#32 none y rotates_S288x1024_d0)))
    (mulf (tapRows 0 w slices_S3x1024_o0_0_S1x1024) (dynamicRotate 0 2#32 none y rotates_S288x1024_d0))
def sum3t (w : FVec Ideal S3x1024 .f32) (y : FVec Ideal S288x1024 .f32) : FVec Ideal S288x1024 .f32 :=
  addf (addf (mulf (tapRows 2 w slices_S3x1024_o2_0_S1x1024) y)
    (mulf (tapRows 1 w slices_S3x1024_o1_0_S1x1024) (dynamicRotate 0 287#32 none y rotates_S288x1024_d0)))
    (mulf (tapRows 0 w slices_S3x1024_o0_0_S1x1024) (dynamicRotate 0 286#32 none y rotates_S288x1024_d0))

theorem sum3k_at (w : FVec Ideal S3x1024 .f32) (y : FVec Ideal S288x1024 .f32) (e : Fin 288) (he : 2 ≤ e.val) (k : Fin 1024) :
    sum3k w y (ix2 e k) = w (ix2 2 k) * y (ix2 e k) + w (ix2 1 k) * y (ix2 ⟨e.val - 1, by omega⟩ k) + w (ix2 0 k) * y (ix2 ⟨e.val - 2, by omega⟩ k) := by
  rw [← tapRows_0 w e k, ← tapRows_1 w e k, ← tapRows_2 w e k,
    ← rot_at 1#32 1 rfl y e ⟨e.val - 1, by omega⟩ k (by show e.val - 1 = _; omega),
    ← rot_at 2#32 2 rfl y e ⟨e.val - 2, by omega⟩ k (by show e.val - 2 = _; omega)]
  rfl

theorem sum3t_at (w : FVec Ideal S3x1024 .f32) (y : FVec Ideal S288x1024 .f32) (e : Fin 288) (he : e.val < 286) (k : Fin 1024) :
    sum3t w y (ix2 e k) = w (ix2 2 k) * y (ix2 e k) + w (ix2 1 k) * y (ix2 ⟨e.val + 1, by omega⟩ k) + w (ix2 0 k) * y (ix2 ⟨e.val + 2, by omega⟩ k) := by
  rw [← tapRows_0 w e k, ← tapRows_1 w e k, ← tapRows_2 w e k,
    ← rot_at 287#32 287 rfl y e ⟨e.val + 1, by omega⟩ k (by show e.val + 1 = _; omega),
    ← rot_at 286#32 286 rfl y e ⟨e.val + 2, by omega⟩ k (by show e.val + 2 = _; omega)]
  rfl

/-- The block's own rows. -/
def own (y : FVec Ideal S288x1024 .f32) : FVec Ideal S256x1024 .f32 := extractStridedSlice S256x1024 ![16, 0] y slices_S288x1024_o16_0_S256x1024

theorem own_at (y : FVec Ideal S288x1024 .f32) (l : Fin 256) (k : Fin 1024) : own y (ix2 l k) = y (ix2 ⟨16 + l.val, by omega⟩ k) := by
  pointwise [own]

/-- What is written of the gradient of one of the three parts. -/
def outPart (y : FVec Ideal S288x1024 .f32) : FVec Ideal S1x256x1024 .bf16 :=
  shapeCast S1x256x1024 (truncf .bf16 (own y) bitsLt_bf16_f32) shapeCasts_S256x1024_S1x256x1024

theorem outPart_at (y : FVec Ideal S288x1024 .f32) (l : Fin 256) (k : Fin 1024) : outPart y (ix3 0 l k) = y (ix2 ⟨16 + l.val, by omega⟩ k) := by
  rw [← own_at y l k]
  generalize hu : own y = u
  rw [outPart, hu]
  clear hu
  pointwise []

/-- A sum over the block's own rows. -/
def colSum (y : FVec Ideal S256x1024 .f32) : FVec Ideal S1x1024 .f32 :=
  shapeCast S1x1024 (multiReduction (F := Ideal) .add [0] S1024 y 0x00000000#32 reduces_S256x1024_S1024 (.inl rfl) rfl) shapeCasts_S1024_S1x1024

theorem colSum_at (y : FVec Ideal S256x1024 .f32) (k : Fin 1024) : colSum y (ix2 0 k) = ∑ l : Fin 256, (y (ix2 l k) : EReal) := by
  pointwise [colSum]

/-- What a block adds to the taps' gradient: `y` is the gradient of the taps' sum, `x` the gated input. -/
def tapSums (x y : FVec Ideal S288x1024 .f32) : FVec Ideal S3x1024 .f32 :=
  concatenate S3x1024 0 [⟨S1x1024, colSum (mulf (own y) (own (dynamicRotate 0 2#32 none x rotates_S288x1024_d0)))⟩,
    ⟨S1x1024, colSum (mulf (own y) (own (dynamicRotate 0 1#32 none x rotates_S288x1024_d0)))⟩,
    ⟨S1x1024, colSum (mulf (own y) (own x))⟩] concatenates_S1x1024_S1x1024_S1x1024_S3x1024_d0

theorem tapSums_at (x y : FVec Ideal S288x1024 .f32) (j : Fin 3) (k : Fin 1024) :
    tapSums x y (ix2 j k) = ∑ l : Fin 256, (y (ix2 ⟨16 + l.val, by omega⟩ k) : EReal) * x (ix2 ⟨14 + l.val + j.val, by omega⟩ k) := by
  have h (x : FVec Ideal S288x1024 .f32) (l : Fin 256) : mulf (own y) (own x) (ix2 l k)
      = (y (ix2 ⟨16 + l.val, by omega⟩ k) : EReal) * x (ix2 ⟨16 + l.val, by omega⟩ k) :=
    congr (congrArg (fun a b : EReal => a * b) (own_at y l k)) (own_at x l k)
  fin_cases j
  · refine (cat3_0 _ _ _ k).trans ((colSum_at _ k).trans (Finset.sum_congr rfl fun l _ => (h _ l).trans ?_))
    rw [rot_at 2#32 2 rfl x ⟨16 + l.val, by omega⟩ ⟨14 + l.val, by omega⟩ k (by show 14 + l.val = (16 + l.val + 288 - 2 % 288) % 288; omega)]
    rfl
  · refine (cat3_1 _ _ _ k).trans ((colSum_at _ k).trans (Finset.sum_congr rfl fun l _ => (h _ l).trans ?_))
    rw [rot_at 1#32 1 rfl x ⟨16 + l.val, by omega⟩ ⟨14 + l.val + 1, by omega⟩ k (by show 14 + l.val + 1 = (16 + l.val + 288 - 1 % 288) % 288; omega)]
  · refine (cat3_2 _ _ _ k).trans ((colSum_at _ k).trans (Finset.sum_congr rfl fun l _ => (h _ l).trans ?_))
    refine congrArg (fun e : Fin 288 => (y (ix2 ⟨16 + l.val, by omega⟩ k) : EReal) * x (ix2 e k)) (Fin.ext ?_)
    show 16 + l.val = 14 + l.val + 2
    omega

end Cert.Kernel44Ideal.Value

end
-- ==== Proof.ShortGrad.lean ====
/-
  The second mixer's short convolution, backwards: the kernel's gradients are the reference's.
-/
module

public import proofs.«01_k».proof.Defs
public import proofs.«01_k».proof.Proof.ShortParts
public import Idealize.ShloMosaic.Lib.Quiescent
public import Idealize.ShloMosaic.Lib.Pipeline.ValueKit
public import Idealize.ShloMosaic.Lib.Pipeline.ReadBack
public import Idealize.ShloMosaic.Lib.Claim
public import Idealize.ShloMosaic.Lib.KernelVsHost
public import Idealize.ShloMosaic.Lib.Pointwise

@[expose] public section

set_option maxRecDepth 16384

noncomputable section

namespace Cert.Kernel44Ideal.Value

open Idealize.ShloMosaic Idealize.ShloMosaic.TcCoe Idealize.SL.Sem
open Cert.Kernel44Ideal Cert.Kernel44Ideal.Gen Cert.Gates Cert.Short
open Cert.Reference44Ideal.Value (ps ws ns gs refP refW refN refP_at refW_at refN_at)

variable (m : (ℓ : Loc nD τ sig) → Buf (Elt Ideal) ℓ)

/-! ## The blocks -/

/-- The three parts, the taps, the gain and the upstream gradient as the call is given them. -/
abbrev aP (c : Dev nD) : FVec Ideal S3x8192x2048 .bf16 := m ((c : Thread nD τ).loc main_arg0)
abbrev aW (c : Dev nD) : FVec Ideal S3x2048 .f32 := m ((c : Thread nD τ).loc main_arg1)
abbrev aN (c : Dev nD) : FVec Ideal S1x2048 .f32 := m ((c : Thread nD τ).loc main_arg2)
abbrev aM (c : Dev nD) : FVec Ideal S8192x4096 .bf16 := m ((c : Thread nD τ).loc main_arg3)

theorem idx : ∀ t : Fin cfg0.N, win0_0.index t = ![0, t.val % 32, t.val / 32] ∧ win0_1.index t = ![0, t.val % 32 * 16 - 1, t.val / 32]
    ∧ win0_2.index t = ![0, min ((t.val % 32 + 1) * 16) 511, t.val / 32]
    ∧ win0_3.index t = ![0, t.val / 32] ∧ win0_4.index t = ![0, t.val / 32]
    ∧ win0_5.index t = ![t.val % 32, 2 + t.val / 32] ∧ win0_6.index t = ![min ((t.val % 32 + 1) * 16) 511, 2 + t.val / 32]
    ∧ win0_7.index t = ![0, t.val % 32, t.val / 32] ∧ win0_8.index t = ![0, t.val / 32] ∧ win0_9.index t = ![0, t.val / 32] :=
  (by decide +kernel : ∀ t : Fin grid0.N, _)

/-- Whether the point's rows are the first ones, and whether they are the last. -/
abbrev isFirst (t : Fin cfg0.N) : BitVec 1 := Scalar.cmpi .eq (BitVec.ofNat 32 ((grid0.coords t) 1).val) 0#32
abbrev isLast (t : Fin cfg0.N) : BitVec 1 := Scalar.cmpi .eq (BitVec.ofNat 32 ((grid0.coords t) 1).val) 31#32

theorem first_iff : ∀ t : Fin cfg0.N, isFirst t = 1#1 ↔ t.val % 32 = 0 :=
  (by decide +kernel : ∀ t : Fin grid0.N, (Scalar.cmpi .eq (BitVec.ofNat 32 ((grid0.coords t) 1).val) 0#32 : BitVec 1) = 1#1 ↔ t.val % 32 = 0)
theorem last_iff : ∀ t : Fin cfg0.N, isLast t = 1#1 ↔ t.val % 32 = 31 :=
  (by decide +kernel : ∀ t : Fin grid0.N, (Scalar.cmpi .eq (BitVec.ofNat 32 ((grid0.coords t) 1).val) 31#32 : BitVec 1) = 1#1 ↔ t.val % 32 = 31)

theorem lt64 (t : Fin cfg0.N) : t.val < 64 := lt_of_lt_of_eq t.isLt N_0

/-- The column of the whole arrays that is a block's column `k`, the group that is its group `q`, and the row that is its row `l`. -/
def gc (t : Fin cfg0.N) (k : Fin 1024) : Fin 2048 := ⟨t.val / 32 * 1024 + k.val, by have := lt64 t; omega⟩
def gq (t : Fin cfg0.N) (q : Fin 8) : Fin 16 := ⟨t.val / 32 * 8 + q.val, by have := lt64 t; omega⟩
def at_ (t : Fin cfg0.N) (l : Fin 256) : Fin 8192 := ⟨t.val % 32 * 256 + l.val, by omega⟩

theorem gc_bc (t : Fin cfg0.N) (q : Fin 8) (d : Fin 128) : gc t (bc q d) = Cert.Short.col (gq t q) d := Fin.ext (by
  show t.val / 32 * 1024 + (q.val * 128 + d.val) = (t.val / 32 * 8 + q.val) * 128 + d.val
  omega)

theorem blk_x (c : Dev nD) (t : Fin cfg0.N) (i : Fin 3) (l : Fin 256) (k : Fin 1024) (R : Fin 8192) (hR : R.val = t.val % 32 * 256 + l.val) :
    (iblk m c 0 t : FVec Ideal S3x256x1024 .bf16) (ix3 i l k) = aP m c (ix3 i R (gc t k)) := by
  show iblk m c 0 t (ix3 i l k) = m ((c : Thread nD τ).loc main_arg0) (ix3 i R (gc t k))
  have := lt64 t
  blk_point [iblk, V, idx t, gc]

theorem blk_p (c : Dev nD) (t : Fin cfg0.N) (h : ¬t.val % 32 = 0) (i : Fin 3) (l : Fin 16) (k : Fin 1024) (R : Fin 8192) (hR : R.val + 16 = t.val % 32 * 256 + l.val) :
    (iblk m c 1 t : FVec Ideal S3x16x1024 .bf16) (ix3 i l k) = aP m c (ix3 i R (gc t k)) := by
  show iblk m c 1 t (ix3 i l k) = m ((c : Thread nD τ).loc main_arg0) (ix3 i R (gc t k))
  have := lt64 t
  blk_point [iblk, V, idx t, gc]

theorem blk_q (c : Dev nD) (t : Fin cfg0.N) (h : ¬t.val % 32 = 31) (i : Fin 3) (l : Fin 16) (k : Fin 1024) (R : Fin 8192) (hR : R.val = t.val % 32 * 256 + 256 + l.val) :
    (iblk m c 2 t : FVec Ideal S3x16x1024 .bf16) (ix3 i l k) = aP m c (ix3 i R (gc t k)) := by
  show iblk m c 2 t (ix3 i l k) = m ((c : Thread nD τ).loc main_arg0) (ix3 i R (gc t k))
  have := lt64 t
  blk_point [iblk, V, idx t, gc]

abbrev bW (c : Dev nD) (t : Fin cfg0.N) : FVec Ideal S3x1024 .f32 := iblk m c 3 t
abbrev bN (c : Dev nD) (t : Fin cfg0.N) : FVec Ideal S1x1024 .f32 := iblk m c 4 t
abbrev bM (c : Dev nD) (t : Fin cfg0.N) : FVec Ideal S256x1024 .bf16 := iblk m c 5 t
abbrev bE (c : Dev nD) (t : Fin cfg0.N) : FVec Ideal S16x1024 .bf16 := iblk m c 6 t

theorem blk_w (c : Dev nD) (t : Fin cfg0.N) (j : Fin 3) (k : Fin 1024) : bW m c t (ix2 j k) = ws (aW m c) j (gc t k) := by
  show iblk m c 3 t (ix2 j k) = m ((c : Thread nD τ).loc main_arg1) (ix2 j (gc t k))
  blk_point [iblk, V, idx t, gc]

theorem blk_n (c : Dev nD) (t : Fin cfg0.N) (k : Fin 1024) : bN m c t (ix2 0 k) = ns (aN m c) (gc t k) := by
  show iblk m c 4 t (ix2 0 k) = m ((c : Thread nD τ).loc main_arg2) (ix2 0 (gc t k))
  blk_point [iblk, V, idx t, gc]

theorem blk_m (c : Dev nD) (t : Fin cfg0.N) (l : Fin 256) (k : Fin 1024) (R : Fin 8192) (hR : R.val = t.val % 32 * 256 + l.val) :
    bM m c t (ix2 l k) = gs (aM m c) R (gc t k) := by
  show iblk m c 5 t (ix2 l k) = m ((c : Thread nD τ).loc main_arg3) (ix2 R ⟨2048 + (gc t k).val, _⟩)
  have := lt64 t
  blk_point [iblk, V, idx t, gc]

theorem blk_e (c : Dev nD) (t : Fin cfg0.N) (h : ¬t.val % 32 = 31) (l : Fin 16) (k : Fin 1024) (R : Fin 8192) (hR : R.val = t.val % 32 * 256 + 256 + l.val) :
    bE m c t (ix2 l k) = gs (aM m c) R (gc t k) := by
  show iblk m c 6 t (ix2 l k) = m ((c : Thread nD τ).loc main_arg3) (ix2 R ⟨2048 + (gc t k).val, _⟩)
  have := lt64 t
  blk_point [iblk, V, idx t, gc]

/-- One of the three parts of a block. -/
theorem ld_at {n : ℕ} (X : (⟨3, ![3, n, 1024]⟩ : Shape).Idx → Elt Ideal .bf16) (i : Fin 3) (inb : ∀ a, (![i.val, 0, 0] : Fin 3 → ℕ) a + (![1, n, 1024] : Fin 3 → ℕ) a ≤ (⟨3, ![3, n, 1024]⟩ : Shape).size a)
    (l : Fin n) (k : Fin 1024) :
    View.ld (Val := Elt Ideal) (e' := .bf16) X (Rect.unit (s := ⟨3, ![3, n, 1024]⟩) ![i.val, 0, 0] ![1, n, 1024] inb) (ix3 0 l k) = X (ix3 i l k) := by
  refine View.ld_unit_apply_of (Val := Elt Ideal) (e := .bf16) X _ _ _ _ (ix3 i l k) fun a => ?_
  fin_cases a
  · rfl
  · exact (Nat.zero_add _).symm
  · exact (Nat.zero_add _).symm

/-! ## A block's rows, sixteen before and sixteen behind -/

theorem cast16 (x : FVec Ideal S1x16x1024 .bf16) (l : Fin 16) (k : Fin 1024) :
    extf .f32 (shapeCast S16x1024 x shapeCasts_S1x16x1024_S16x1024) bitsLt_bf16_f32 (ix2 l k) = x (ix3 0 l k) := by
  pointwise []
theorem cast256 (x : FVec Ideal S1x256x1024 .bf16) (l : Fin 256) (k : Fin 1024) :
    extf .f32 (shapeCast S256x1024 x shapeCasts_S1x256x1024_S256x1024) bitsLt_bf16_f32 (ix2 l k) = x (ix3 0 l k) := by
  pointwise []

theorem select_true {s : Shape} {b : BitVec 1} (h : b = 1#1) (x y : FVec Ideal s .f32) : Scalar.select b x y = x := if_pos h
theorem select_false {s : Shape} {b : BitVec 1} (h : ¬b = 1#1) (x y : FVec Ideal s .f32) : Scalar.select b x y = y := if_neg h

theorem ext_at (t : Fin cfg0.N) (p : FVec Ideal S1x16x1024 .bf16) (x : FVec Ideal S1x256x1024 .bf16) (q : FVec Ideal S1x16x1024 .bf16)
    (f : Fin 8192 → EReal) (k : Fin 1024)
    (hp : ¬t.val % 32 = 0 → ∀ (l : Fin 16) (R : Fin 8192), R.val + 16 = t.val % 32 * 256 + l.val → p (ix3 0 l k) = f R)
    (hx : ∀ (l : Fin 256) (R : Fin 8192), R.val = t.val % 32 * 256 + l.val → x (ix3 0 l k) = f R)
    (hq : ¬t.val % 32 = 31 → ∀ (l : Fin 16) (R : Fin 8192), R.val = t.val % 32 * 256 + 256 + l.val → q (ix3 0 l k) = f R)
    (e : Fin 288) (he : 14 ≤ e.val) :
    k0_pay7 (F := Ideal) (isFirst t) (isLast t) p x q (ix2 e k) = back f (t.val % 32 * 256 + e.val - 14) := by
  have h7 : k0_pay7 (F := Ideal) (isFirst t) (isLast t) p x q = concatenate S288x1024 0
      [⟨S16x1024, Scalar.select (isFirst t) (broadcast S16x1024 (Scalar.ofBits (F := Ideal) .f32 0x00000000#32)) (extf .f32 (shapeCast S16x1024 p shapeCasts_S1x16x1024_S16x1024) bitsLt_bf16_f32)⟩,
      ⟨S256x1024, extf .f32 (shapeCast S256x1024 x shapeCasts_S1x256x1024_S256x1024) bitsLt_bf16_f32⟩,
      ⟨S16x1024, Scalar.select (isLast t) (broadcast S16x1024 (Scalar.ofBits (F := Ideal) .f32 0x00000000#32)) (extf .f32 (shapeCast S16x1024 q shapeCasts_S1x16x1024_S16x1024) bitsLt_bf16_f32)⟩]
      concatenates_S16x1024_S256x1024_S16x1024_S288x1024_d0 := rfl
  rw [h7, cat_at]
  by_cases h1 : e.val < 16
  · rw [dif_pos h1]
    by_cases h0 : t.val % 32 = 0
    · rw [back_front _ _ (by omega), select_true ((first_iff t).mpr h0)]
      exact Ideal.ofBits_zero_f32
    · rw [select_false fun h => h0 ((first_iff t).mp h), cast16,
        back_row _ ⟨t.val % 32 * 256 + e.val - 16, by omega⟩ _ (by show _ = t.val % 32 * 256 + e.val - 16 + 2; omega)]
      exact hp h0 _ _ (by show t.val % 32 * 256 + e.val - 16 + 16 = t.val % 32 * 256 + e.val; omega)
  · rw [dif_neg h1]
    by_cases h2 : e.val < 272
    · rw [dif_pos h2, cast256, back_row _ ⟨t.val % 32 * 256 + e.val - 16, by omega⟩ _ (by show _ = t.val % 32 * 256 + e.val - 16 + 2; omega)]
      exact hx _ _ (by show t.val % 32 * 256 + e.val - 16 = t.val % 32 * 256 + (e.val - 16); omega)
    · rw [dif_neg h2]
      by_cases h0 : t.val % 32 = 31
      · rw [back_end _ _ (by omega), select_true ((last_iff t).mpr h0)]
        exact Ideal.ofBits_zero_f32
      · rw [select_false fun h => h0 ((last_iff t).mp h), cast16,
          back_row _ ⟨t.val % 32 * 256 + e.val - 16, by omega⟩ _ (by show _ = t.val % 32 * 256 + e.val - 16 + 2; omega)]
        exact hq h0 _ _ (by show t.val % 32 * 256 + e.val - 16 = t.val % 32 * 256 + 256 + (e.val - 272); omega)

abbrev eU (c : Dev nD) (t : Fin cfg0.N) : FVec Ideal S288x1024 .f32 :=
  k0_pay7 (F := Ideal) (isFirst t) (isLast t) (View.ld (iblk m c 1 t) (Rect.unit ![0, 0, 0] ![1, 16, 1024] inb_S3x16x1024_S1x16x1024_0_0_0))
    (View.ld (iblk m c 0 t) (Rect.unit ![0, 0, 0] ![1, 256, 1024] inb_S3x256x1024_S1x256x1024_0_0_0)) (View.ld (iblk m c 2 t) (Rect.unit ![0, 0, 0] ![1, 16, 1024] inb_S3x16x1024_S1x16x1024_0_0_0))

theorem eU_at (c : Dev nD) (t : Fin cfg0.N) (e : Fin 288) (he : 14 ≤ e.val) (k : Fin 1024) :
    eU m c t (ix2 e k) = back (fun r => ps (aP m c) 0 r (gc t k)) (t.val % 32 * 256 + e.val - 14) :=
  ext_at t _ _ _ _ k (fun h l R hR => (ld_at _ 0 _ l k).trans (blk_p m c t h 0 l k R hR)) (fun l R hR => (ld_at _ 0 _ l k).trans (blk_x m c t 0 l k R hR))
    (fun h l R hR => (ld_at _ 0 _ l k).trans (blk_q m c t h 0 l k R hR)) e he

abbrev eB (c : Dev nD) (t : Fin cfg0.N) : FVec Ideal S288x1024 .f32 :=
  k0_pay7 (F := Ideal) (isFirst t) (isLast t) (View.ld (iblk m c 1 t) (Rect.unit ![1, 0, 0] ![1, 16, 1024] inb_S3x16x1024_S1x16x1024_1_0_0))
    (View.ld (iblk m c 0 t) (Rect.unit ![1, 0, 0] ![1, 256, 1024] inb_S3x256x1024_S1x256x1024_1_0_0)) (View.ld (iblk m c 2 t) (Rect.unit ![1, 0, 0] ![1, 16, 1024] inb_S3x16x1024_S1x16x1024_1_0_0))

theorem eB_at (c : Dev nD) (t : Fin cfg0.N) (e : Fin 288) (he : 14 ≤ e.val) (k : Fin 1024) :
    eB m c t (ix2 e k) = back (fun r => ps (aP m c) 1 r (gc t k)) (t.val % 32 * 256 + e.val - 14) :=
  ext_at t _ _ _ _ k (fun h l R hR => (ld_at _ 1 _ l k).trans (blk_p m c t h 1 l k R hR)) (fun l R hR => (ld_at _ 1 _ l k).trans (blk_x m c t 1 l k R hR))
    (fun h l R hR => (ld_at _ 1 _ l k).trans (blk_q m c t h 1 l k R hR)) e he

abbrev eC (c : Dev nD) (t : Fin cfg0.N) : FVec Ideal S288x1024 .f32 :=
  k0_pay7 (F := Ideal) (isFirst t) (isLast t) (View.ld (iblk m c 1 t) (Rect.unit ![2, 0, 0] ![1, 16, 1024] inb_S3x16x1024_S1x16x1024_2_0_0))
    (View.ld (iblk m c 0 t) (Rect.unit ![2, 0, 0] ![1, 256, 1024] inb_S3x256x1024_S1x256x1024_2_0_0)) (View.ld (iblk m c 2 t) (Rect.unit ![2, 0, 0] ![1, 16, 1024] inb_S3x16x1024_S1x16x1024_2_0_0))

theorem eC_at (c : Dev nD) (t : Fin cfg0.N) (e : Fin 288) (he : 14 ≤ e.val) (k : Fin 1024) :
    eC m c t (ix2 e k) = back (fun r => ps (aP m c) 2 r (gc t k)) (t.val % 32 * 256 + e.val - 14) :=
  ext_at t _ _ _ _ k (fun h l R hR => (ld_at _ 2 _ l k).trans (blk_p m c t h 2 l k R hR)) (fun l R hR => (ld_at _ 2 _ l k).trans (blk_x m c t 2 l k R hR))
    (fun h l R hR => (ld_at _ 2 _ l k).trans (blk_q m c t h 2 l k R hR)) e he

/-- The upstream gradient's rows. -/
abbrev eO (c : Dev nD) (t : Fin cfg0.N) : FVec Ideal S288x1024 .f32 := k0_pay13 (F := Ideal) (isLast t) (bM m c t) (bE m c t)

theorem eO_at (c : Dev nD) (t : Fin cfg0.N) (e : Fin 288) (he : 16 ≤ e.val) (R : Fin 8192) (hR : R.val = t.val % 32 * 256 + e.val - 16) (k : Fin 1024) :
    eO m c t (ix2 e k) = gs (aM m c) R (gc t k) := by
  have h13 : eO m c t = concatenate S288x1024 0 [⟨S16x1024, broadcast S16x1024 (Scalar.ofBits (F := Ideal) .f32 0x00000000#32)⟩,
      ⟨S256x1024, extf .f32 (bM m c t) bitsLt_bf16_f32⟩,
      ⟨S16x1024, Scalar.select (isLast t) (broadcast S16x1024 (Scalar.ofBits (F := Ideal) .f32 0x00000000#32)) (extf .f32 (bE m c t) bitsLt_bf16_f32)⟩]
      concatenates_S16x1024_S256x1024_S16x1024_S288x1024_d0 := rfl
  rw [h13, cat_at, dif_neg (by omega)]
  by_cases h2 : e.val < 272
  · rw [dif_pos h2]
    exact blk_m m c t _ k R (by show R.val = t.val % 32 * 256 + (e.val - 16); omega)
  · have h0 : ¬t.val % 32 = 31 := by
      have := R.isLt
      omega
    rw [dif_neg h2, select_false fun h => h0 ((last_iff t).mp h)]
    exact blk_e m c t h0 _ k R (by show R.val = t.val % 32 * 256 + 256 + (e.val - 272); omega)

/-- The gated input, the taps' sum gated, its gradient, that of the taps' sum, and that of the gated input. -/
abbrev eX (c : Dev nD) (t : Fin cfg0.N) : FVec Ideal S288x1024 .f32 := mulf (eC m c t) (eU m c t)
abbrev eV (c : Dev nD) (t : Fin cfg0.N) : FVec Ideal S288x1024 .f32 := mulf (eB m c t) (sum3k (bW m c t) (eX m c t))
abbrev eR (c : Dev nD) (t : Fin cfg0.N) : FVec Ideal S288x1024 .f32 := dvv (eV m c t) (bN m c t) (eO m c t)
abbrev eD (c : Dev nD) (t : Fin cfg0.N) : FVec Ideal S288x1024 .f32 := mulf (eR m c t) (eB m c t)
abbrev eT (c : Dev nD) (t : Fin cfg0.N) : FVec Ideal S288x1024 .f32 := sum3t (bW m c t) (eD m c t)

theorem back_mul (f g : Fin 8192 → EReal) (p : ℕ) : back (fun r => f r * g r) p = back f p * back g p := by
  unfold back past
  split_ifs
  · rw [zero_mul]
  · rfl
  · rw [zero_mul]

theorem eX_at (c : Dev nD) (t : Fin cfg0.N) (e : Fin 288) (he : 14 ≤ e.val) (k : Fin 1024) :
    eX m c t (ix2 e k) = back (cu (ps (aP m c)) (gc t k)) (t.val % 32 * 256 + e.val - 14) := by
  have h : eX m c t (ix2 e k) = (eC m c t (ix2 e k) : EReal) * eU m c t (ix2 e k) := rfl
  have hu : eU m c t (ix2 e k) = _ := eU_at m c t e he k
  have hc : eC m c t (ix2 e k) = _ := eC_at m c t e he k
  rw [h, hu, hc, ← back_mul]
  rfl

theorem eS_at (c : Dev nD) (t : Fin cfg0.N) (e : Fin 288) (he : 16 ≤ e.val) (k : Fin 1024) :
    sum3k (bW m c t) (eX m c t) (ix2 e k) = taps (cu (ps (aP m c)) (gc t k)) (fun j => ws (aW m c) j (gc t k)) (t.val % 32 * 256 + e.val - 16) := by
  have h0 : eX m c t (ix2 e k) = _ := eX_at m c t e (by omega) k
  have h1 : eX m c t (ix2 ⟨e.val - 1, by omega⟩ k) = _ := eX_at m c t ⟨e.val - 1, by omega⟩ (by show 14 ≤ e.val - 1; omega) k
  have h2 : eX m c t (ix2 ⟨e.val - 2, by omega⟩ k) = _ := eX_at m c t ⟨e.val - 2, by omega⟩ (by show 14 ≤ e.val - 2; omega) k
  rw [sum3k_at _ _ e (by omega) k, h0, h1, h2, blk_w, blk_w, blk_w, taps]
  have a0 : t.val % 32 * 256 + e.val - 14 = t.val % 32 * 256 + e.val - 16 + 2 := by omega
  have a1 : t.val % 32 * 256 + (e.val - 1) - 14 = t.val % 32 * 256 + e.val - 16 + 1 := by omega
  have a2 : t.val % 32 * 256 + (e.val - 2) - 14 = t.val % 32 * 256 + e.val - 16 := by omega
  simp only [a0, a1, a2]

theorem eB_row (c : Dev nD) (t : Fin cfg0.N) (e : Fin 288) (he : 16 ≤ e.val) (R : Fin 8192) (hR : R.val = t.val % 32 * 256 + e.val - 16) (k : Fin 1024) :
    eB m c t (ix2 e k) = ps (aP m c) 1 R (gc t k) :=
  (eB_at m c t e (by omega) k).trans (back_row _ R _ (by omega))

theorem eV_at (c : Dev nD) (t : Fin cfg0.N) (e : Fin 288) (he : 16 ≤ e.val) (R : Fin 8192) (hR : R.val = t.val % 32 * 256 + e.val - 16) (q : Fin 8) (d : Fin 128) :
    eV m c t (ix2 e (bc q d)) = row (ps (aP m c)) (ws (aW m c)) R (gq t q) d := by
  have h : eV m c t (ix2 e (bc q d)) = (eB m c t (ix2 e (bc q d)) : EReal) * sum3k (bW m c t) (eX m c t) (ix2 e (bc q d)) := rfl
  rw [h, eS_at m c t e he, ← hR, row, sum3, ← gc_bc]
  exact congrArg (fun a : EReal => a * _) (eB_row m c t e he R hR (bc q d))

theorem eR_at (c : Dev nD) (t : Fin cfg0.N) (e : Fin 288) (he : 16 ≤ e.val) (R : Fin 8192) (hR : R.val = t.val % 32 * 256 + e.val - 16) (q : Fin 8) (d : Fin 128) :
    eR m c t (ix2 e (bc q d)) = dRow (ps (aP m c)) (ws (aW m c)) (ns (aN m c)) (gs (aM m c)) R (gq t q) d := by
  refine (dvv_at (eV m c t) (bN m c t) (eO m c t) e q d).trans ?_
  rw [dRow]
  refine congrArg₂ (fun z u => normGrad 128 eps z u d) (funext fun k => eV_at m c t e he R hR q k) (funext fun k => ?_)
  rw [upRow, ← gc_bc, blk_n]
  exact congrArg (fun a : EReal => a * _) (eO_at m c t e he R hR (bc q k))

theorem eD_at (c : Dev nD) (t : Fin cfg0.N) (e : Fin 288) (he : 16 ≤ e.val) (q : Fin 8) (d : Fin 128) :
    eD m c t (ix2 e (bc q d)) = past (inn (ps (aP m c)) (ws (aW m c)) (ns (aN m c)) (gs (aM m c)) (gq t q) d) (t.val % 32 * 256 + e.val - 16) := by
  have h : eD m c t (ix2 e (bc q d)) = (eR m c t (ix2 e (bc q d)) : EReal) * eB m c t (ix2 e (bc q d)) := rfl
  by_cases hP : t.val % 32 * 256 + e.val - 16 < 8192
  · have hr : eR m c t (ix2 e (bc q d)) = _ := eR_at m c t e he ⟨_, hP⟩ rfl q d
    have hb : eB m c t (ix2 e (bc q d)) = _ := eB_row m c t e he ⟨_, hP⟩ rfl (bc q d)
    rw [h, hr, hb, past_row _ ⟨_, hP⟩ _ rfl, inn, gc_bc]
  · have hb : eB m c t (ix2 e (bc q d)) = 0 := (eB_at m c t e (by omega) (bc q d)).trans (back_end _ _ (by omega))
    rw [h, hb, mul_zero, past_end _ _ (by omega)]

theorem eT_at (c : Dev nD) (t : Fin cfg0.N) (e : Fin 288) (he : 16 ≤ e.val) (he' : e.val < 286) (q : Fin 8) (d : Fin 128) :
    eT m c t (ix2 e (bc q d)) = dcu (ps (aP m c)) (ws (aW m c)) (ns (aN m c)) (gs (aM m c)) (gq t q) d (t.val % 32 * 256 + e.val - 16) := by
  have h0 : eD m c t (ix2 e (bc q d)) = _ := eD_at m c t e he q d
  have h1 : eD m c t (ix2 ⟨e.val + 1, by omega⟩ (bc q d)) = _ := eD_at m c t ⟨e.val + 1, by omega⟩ (by show 16 ≤ e.val + 1; omega) q d
  have h2 : eD m c t (ix2 ⟨e.val + 2, by omega⟩ (bc q d)) = _ := eD_at m c t ⟨e.val + 2, by omega⟩ (by show 16 ≤ e.val + 2; omega) q d
  refine (sum3t_at _ _ e he' (bc q d)).trans ?_
  rw [h0, h1, h2, blk_w, blk_w, blk_w, gc_bc, dcu]
  have a1 : t.val % 32 * 256 + (e.val + 1) - 16 = t.val % 32 * 256 + e.val - 16 + 1 := by omega
  have a2 : t.val % 32 * 256 + (e.val + 2) - 16 = t.val % 32 * 256 + e.val - 16 + 2 := by omega
  simp only [a1, a2]

/-! ## The gradient of the three parts -/

theorem mem_part (off : Fin 3 → ℕ) (i : Fin 3) (inb : ∀ a, off a + (![1, 256, 1024] : Fin 3 → ℕ) a ≤ S3x256x1024.size a) (l : Fin 256) (k : Fin 1024)
    (ho : off = ![i.val, 0, 0] := by rfl) : (ix3 i l k : S3x256x1024.Idx) ∈ (Rect.unit (s := S3x256x1024) off ![1, 256, 1024] inb).set := by
  subst ho
  refine Rect.mem_set_unit.mpr fun a => ?_
  fin_cases a
  · exact ⟨Nat.le_refl _, Nat.lt_succ_self _⟩
  · exact ⟨Nat.zero_le _, l.isLt.trans_le (Nat.le_add_left _ _)⟩
  · exact ⟨Nat.zero_le _, k.isLt.trans_le (Nat.le_add_left _ _)⟩

theorem piece_at (p : FVec Ideal S1x256x1024 .bf16) (off : Fin 3 → ℕ) (i : Fin 3) (inb : ∀ a, off a + (![1, 256, 1024] : Fin 3 → ℕ) a ≤ S3x256x1024.size a)
    (G : Fin 3 → FVec Ideal S1x256x1024 .bf16) (hG : G i = p) (x : S1x256x1024.Idx) (ho : off = ![i.val, 0, 0] := by rfl) :
    p x = (fun y : S3x256x1024.Idx => G (y 0) (ix3 0 (y 1) (y 2))) ((Rect.unit (s := S3x256x1024) off ![1, 256, 1024] inb).emb x) := by
  subst ho
  obtain ⟨u, l, k, rfl⟩ : ∃ (u : Fin 1) (l : Fin 256) (k : Fin 1024), x = ix3 u l k := ⟨x 0, x 1, x 2, by blk_ext⟩
  obtain rfl : u = 0 := Subsingleton.elim _ _
  have h : (Rect.unit (s := S3x256x1024) ![i.val, 0, 0] ![1, 256, 1024] inb).emb (ix3 0 l k) = ix3 i l k := by
    funext a
    refine Fin.ext ((Rect.idx_unit_val _ _ inb _ a).trans ?_)
    fin_cases a
    · rfl
    · exact Nat.zero_add _
    · exact Nat.zero_add _
  rw [h, ← hG]
  rfl

theorem parts_at (p0 p1 p2 : FVec Ideal S1x256x1024 .bf16) (i : Fin 3) (l : Fin 256) (k : Fin 1024) :
    View.canon (Val := Elt Ideal) (s := S3x256x1024) (e := .bf16)
      [⟨Rect.unit ![2, 0, 0] ![1, 256, 1024] inb_S3x256x1024_S1x256x1024_2_0_0, p2⟩,
       ⟨Rect.unit ![1, 0, 0] ![1, 256, 1024] inb_S3x256x1024_S1x256x1024_1_0_0, p1⟩,
       ⟨Rect.unit ![0, 0, 0] ![1, 256, 1024] inb_S3x256x1024_S1x256x1024_0_0_0, p0⟩] (ix3 i l k)
      = (![p0, p1, p2] : Fin 3 → FVec Ideal S1x256x1024 .bf16) i (ix3 0 l k) := by
  refine View.canon_apply_of_pieces (Val := Elt Ideal) (S := S3x256x1024) (e := .bf16)
    (fun y => (![p0, p1, p2] : Fin 3 → FVec Ideal S1x256x1024 .bf16) (y 0) (ix3 0 (y 1) (y 2))) _ (fun p hp x => ?_) (ix3 i l k) ?_
  · simp only [List.mem_cons, List.not_mem_nil, or_false] at hp
    rcases hp with rfl | rfl | rfl
    · exact piece_at p2 ![2, 0, 0] 2 inb_S3x256x1024_S1x256x1024_2_0_0 (fun i b => (![p0, p1, p2] : Fin 3 → FVec Ideal S1x256x1024 .bf16) i b) rfl x
    · exact piece_at p1 ![1, 0, 0] 1 inb_S3x256x1024_S1x256x1024_1_0_0 (fun i b => (![p0, p1, p2] : Fin 3 → FVec Ideal S1x256x1024 .bf16) i b) rfl x
    · exact piece_at p0 ![0, 0, 0] 0 inb_S3x256x1024_S1x256x1024_0_0_0 (fun i b => (![p0, p1, p2] : Fin 3 → FVec Ideal S1x256x1024 .bf16) i b) rfl x
  · fin_cases i
    · refine ⟨_, List.mem_cons_of_mem _ (List.mem_cons_of_mem _ List.mem_cons_self), mem_part ![0, 0, 0] 0 inb_S3x256x1024_S1x256x1024_0_0_0 l k⟩
    · refine ⟨_, List.mem_cons_of_mem _ List.mem_cons_self, mem_part ![1, 0, 0] 1 inb_S3x256x1024_S1x256x1024_1_0_0 l k⟩
    · refine ⟨_, List.mem_cons_self, mem_part ![2, 0, 0] 2 inb_S3x256x1024_S1x256x1024_2_0_0 l k⟩

/-- What the point writes of the three parts' gradients. -/
abbrev eP (c : Dev nD) (t : Fin cfg0.N) : Fin 3 → FVec Ideal S1x256x1024 .bf16 :=
  ![outPart (mulf (eT m c t) (eC m c t)), outPart (mulf (eR m c t) (sum3k (bW m c t) (eX m c t))), outPart (mulf (eT m c t) (eU m c t))]

theorem out_p (c : Dev nD) (t : Fin cfg0.N) (i : Fin 3) (l : Fin 256) (k : Fin 1024) :
    (outsAt0 m c t.val t.isLt).1 (ix3 i l k) = eP m c t i (ix3 0 l k) := by
  by_cases h : t.val % 32 = 0
  · rw [outsAt0_A m c t h (by omega)]
    frame_out
    exact parts_at (outPart (mulf (eT m c t) (eC m c t))) (outPart (mulf (eR m c t) (sum3k (bW m c t) (eX m c t)))) (outPart (mulf (eT m c t) (eU m c t))) i l k
  · rw [outsAt0_B m c t h (by omega)]
    frame_out
    exact parts_at (outPart (mulf (eT m c t) (eC m c t))) (outPart (mulf (eR m c t) (sum3k (bW m c t) (eX m c t)))) (outPart (mulf (eT m c t) (eU m c t))) i l k

theorem block_p (c : Dev nD) (t : Fin cfg0.N) (i : Fin 3) (l : Fin 256) (q : Fin 8) (d : Fin 128) :
    eP m c t i (ix3 0 l (bc q d)) = refP (aP m c) (aW m c) (aN m c) (aM m c) (ix3 i (at_ t l) (gc t (bc q d))) := by
  rw [gc_bc, refP_at]
  have hP : t.val % 32 * 256 + (16 + l.val) - 16 = (at_ t l).val := by show _ = t.val % 32 * 256 + l.val; omega
  have hT : eT m c t (ix2 ⟨16 + l.val, by omega⟩ (bc q d)) = _ :=
    eT_at m c t ⟨16 + l.val, by omega⟩ (by show 16 ≤ 16 + l.val; omega) (by show 16 + l.val < 286; omega) q d
  have hR : eR m c t (ix2 ⟨16 + l.val, by omega⟩ (bc q d)) = _ :=
    eR_at m c t ⟨16 + l.val, by omega⟩ (by show 16 ≤ 16 + l.val; omega) (at_ t l) hP.symm q d
  have hS : sum3k (bW m c t) (eX m c t) (ix2 ⟨16 + l.val, by omega⟩ (bc q d)) = _ :=
    eS_at m c t ⟨16 + l.val, by omega⟩ (by show 16 ≤ 16 + l.val; omega) (bc q d)
  have hU : eU m c t (ix2 ⟨16 + l.val, by omega⟩ (bc q d)) = _ :=
    (eU_at m c t ⟨16 + l.val, by omega⟩ (by show 14 ≤ 16 + l.val; omega) (bc q d)).trans (back_row _ (at_ t l) _ (by show t.val % 32 * 256 + (16 + l.val) - 14 = t.val % 32 * 256 + l.val + 2; omega))
  have hC : eC m c t (ix2 ⟨16 + l.val, by omega⟩ (bc q d)) = _ :=
    (eC_at m c t ⟨16 + l.val, by omega⟩ (by show 14 ≤ 16 + l.val; omega) (bc q d)).trans (back_row _ (at_ t l) _ (by show t.val % 32 * 256 + (16 + l.val) - 14 = t.val % 32 * 256 + l.val + 2; omega))
  have e (x y : FVec Ideal S288x1024 .f32) : outPart (mulf x y) (ix3 0 l (bc q d))
      = (x (ix2 ⟨16 + l.val, by omega⟩ (bc q d)) : EReal) * y (ix2 ⟨16 + l.val, by omega⟩ (bc q d)) := outPart_at (mulf x y) l (bc q d)
  fin_cases i
  · refine (e (eT m c t) (eC m c t)).trans ?_
    rw [hT, hC, hP, gc_bc]
    exact mul_comm _ _
  · refine (e (eR m c t) _).trans ?_
    rw [hR, hS, hP, gc_bc]
    rfl
  · refine (e (eT m c t) (eU m c t)).trans ?_
    rw [hT, hU, hP, gc_bc]
    rfl

theorem final_p (c : Dev nD) : (dats m 0 c).arrAt 7 (cfgs 0).N = refP (aP m c) (aW m c) (aN m c) (aM m c) := by
  refine (dats m 0 c).arrAt_eq_of_covers 7 _ (by decide +kernel) fun t _ y => ?_
  blk_simp
  rw [after0_7]
  obtain ⟨i, l, k, rfl⟩ : ∃ (i : Fin 3) (l : Fin 256) (k : Fin 1024), y = ix3 i l k := ⟨y 0, y 1, y 2, by blk_ext⟩
  obtain ⟨q, d, rfl⟩ := bc_surj k
  refine (out_p m c t i l (bc q d)).trans ((block_p m c t i l q d).trans (congrArg (refP (aP m c) (aW m c) (aN m c) (aM m c)) ?_))
  blk_ext [idx t, at_, gc]

/-! ## The gradients of the taps and of the gain -/

/-- What point `t` adds to the taps' gradient, and to the gain's. -/
def gainW (c : Dev nD) (t : Fin cfg0.N) (j : S3x1024.Idx) : EReal := tapSums (eX m c t) (eD m c t) j
def gainN (c : Dev nD) (t : Fin cfg0.N) (j : S1x1024.Idx) : EReal := colSum (own (mulf (eO m c t) (xh (eV m c t)))) j

theorem gainW_at (c : Dev nD) (t : Fin cfg0.N) (j : Fin 3) (q : Fin 8) (d : Fin 128) :
    gainW m c t (ix2 j (bc q d)) = ∑ l : Fin 256, inn (ps (aP m c)) (ws (aW m c)) (ns (aN m c)) (gs (aM m c)) (gq t q) d (at_ t l)
      * back (cu (ps (aP m c)) (Cert.Short.col (gq t q) d)) ((at_ t l).val + j.val) := by
  refine (tapSums_at (eX m c t) (eD m c t) j (bc q d)).trans (Finset.sum_congr rfl fun l _ => ?_)
  have hD : eD m c t (ix2 ⟨16 + l.val, by omega⟩ (bc q d)) = _ :=
    (eD_at m c t ⟨16 + l.val, by omega⟩ (by show 16 ≤ 16 + l.val; omega) q d).trans (past_row _ (at_ t l) _ (by show t.val % 32 * 256 + (16 + l.val) - 16 = t.val % 32 * 256 + l.val; omega))
  have hX : eX m c t (ix2 ⟨14 + l.val + j.val, by omega⟩ (bc q d)) = _ :=
    eX_at m c t ⟨14 + l.val + j.val, by omega⟩ (by show 14 ≤ 14 + l.val + j.val; omega) (bc q d)
  rw [hD, hX, gc_bc]
  have hP : t.val % 32 * 256 + (14 + l.val + j.val) - 14 = (at_ t l).val + j.val := by show _ = t.val % 32 * 256 + l.val + j.val; omega
  simp only [hP]

theorem gainN_at (c : Dev nD) (t : Fin cfg0.N) (q : Fin 8) (d : Fin 128) :
    gainN m c t (ix2 0 (bc q d)) = ∑ l : Fin 256, gs (aM m c) (at_ t l) (Cert.Short.col (gq t q) d)
      * (row (ps (aP m c)) (ws (aW m c)) (at_ t l) (gq t q) d * Ideal.rsqrt (meanSq 128 eps (row (ps (aP m c)) (ws (aW m c)) (at_ t l) (gq t q)))) := by
  refine (colSum_at _ (bc q d)).trans (Finset.sum_congr rfl fun l _ => (own_at _ l (bc q d)).trans ?_)
  have h : mulf (eO m c t) (xh (eV m c t)) (ix2 ⟨16 + l.val, by omega⟩ (bc q d))
      = (eO m c t (ix2 ⟨16 + l.val, by omega⟩ (bc q d)) : EReal) * xh (eV m c t) (ix2 ⟨16 + l.val, by omega⟩ (bc q d)) := rfl
  have hP : (at_ t l).val = t.val % 32 * 256 + (16 + l.val) - 16 := by show t.val % 32 * 256 + l.val = _; omega
  have hO : eO m c t (ix2 ⟨16 + l.val, by omega⟩ (bc q d)) = _ := eO_at m c t ⟨16 + l.val, by omega⟩ (by show 16 ≤ 16 + l.val; omega) (at_ t l) hP (bc q d)
  have hV (k : Fin 128) : eV m c t (ix2 ⟨16 + l.val, by omega⟩ (bc q k)) = _ := eV_at m c t ⟨16 + l.val, by omega⟩ (by show 16 ≤ 16 + l.val; omega) (at_ t l) hP q k
  rw [h, hO, gc_bc, xh_at]
  simp only [hV]

theorem outW_A (c : Dev nD) (t : Fin cfg0.N) (h : t.val % 32 = 0) (j : S3x1024.Idx) :
    (outsAt0 m c t.val t.isLt).2.1 j = 0 + gainW m c t j := by
  rw [outsAt0_A m c t h (by omega), zero_add]
  frame_out
  rfl

theorem acc3_at (y a : FVec Ideal S3x1024 .f32) (j : S3x1024.Idx) : addf (shapeCast S3x1024 a shapeCasts_S3x1024_S3x1024) y j = (a j : EReal) + y j := by
  obtain ⟨i, k, rfl⟩ : ∃ (i : Fin 3) (k : Fin 1024), j = ix2 i k := ⟨j 0, j 1, by blk_ext⟩
  pointwise []

theorem acc1_at (y a : FVec Ideal S1x1024 .f32) (j : S1x1024.Idx) : addf (shapeCast S1x1024 a shapeCasts_S1x1024_S1x1024) y j = (a j : EReal) + y j := by
  obtain ⟨i, k, rfl⟩ : ∃ (i : Fin 1) (k : Fin 1024), j = ix2 i k := ⟨j 0, j 1, by blk_ext⟩
  pointwise []

theorem outW_B (c : Dev nD) (t : Fin cfg0.N) (h : ¬t.val % 32 = 0) (j : S3x1024.Idx) :
    (outsAt0 m c t.val t.isLt).2.1 j
      = (outsAt0 m c (t.val - 1) (Nat.lt_of_le_of_lt (Nat.sub_le _ _) t.isLt)).2.1 j + gainW m c t j := by
  rw [outsAt0_B m c t h (by omega)]
  frame_out
  exact acc3_at (tapSums (eX m c t) (eD m c t)) (outsAt0 m c (t.val - 1) (Nat.lt_of_le_of_lt (Nat.sub_le _ _) t.isLt)).2.1 j

theorem outN_A (c : Dev nD) (t : Fin cfg0.N) (h : t.val % 32 = 0) (j : S1x1024.Idx) :
    (outsAt0 m c t.val t.isLt).2.2 j = 0 + gainN m c t j := by
  rw [outsAt0_A m c t h (by omega), zero_add]
  frame_out
  rfl

theorem outN_B (c : Dev nD) (t : Fin cfg0.N) (h : ¬t.val % 32 = 0) (j : S1x1024.Idx) :
    (outsAt0 m c t.val t.isLt).2.2 j
      = (outsAt0 m c (t.val - 1) (Nat.lt_of_le_of_lt (Nat.sub_le _ _) t.isLt)).2.2 j + gainN m c t j := by
  rw [outsAt0_B m c t h (by omega)]
  frame_out
  exact acc1_at (colSum (own (mulf (eO m c t) (xh (eV m c t))))) (outsAt0 m c (t.val - 1) (Nat.lt_of_le_of_lt (Nat.sub_le _ _) t.isLt)).2.2 j

/-- The points that add to a column's sums work on the same columns, block of rows after block of rows. -/
theorem run_col (t : Fin cfg0.N) (hl : t.val % 32 = 32 - 1) (s : Fin 32) (q : Fin 8) :
    gq ⟨32 * (t.val / 32) + s.val, Pipeline.run_point_lt_of_flush t hl s⟩ q = gq t q := Fin.ext (by
  show (32 * (t.val / 32) + s.val) / 32 * 8 + q.val = t.val / 32 * 8 + q.val
  omega)

theorem run_row (t : Fin cfg0.N) (hl : t.val % 32 = 32 - 1) (s : Fin 32) (l : Fin 256) (h : s.val * 256 + l.val < 8192) :
    at_ ⟨32 * (t.val / 32) + s.val, Pipeline.run_point_lt_of_flush t hl s⟩ l = ⟨s.val * 256 + l.val, h⟩ := Fin.ext (by
  show (32 * (t.val / 32) + s.val) % 32 * 256 + l.val = s.val * 256 + l.val
  omega)

theorem sum_w (c : Dev nD) (t : Fin cfg0.N) (hl : t.val % 32 = 32 - 1) (j : Fin 3) (q : Fin 8) (d : Fin 128) :
    ∑ s : Fin 32, gainW m c ⟨32 * (t.val / 32) + s.val, Pipeline.run_point_lt_of_flush t hl s⟩ (ix2 j (bc q d))
      = refW (aP m c) (aW m c) (aN m c) (aM m c) (ix2 j (gc t (bc q d))) := by
  rw [gc_bc, refW_at, dtap]
  simp only [gainW_at]
  refine Fin.sum_mul_add_congr fun s l hl' => ?_
  rw [run_col t hl s q, run_row t hl s l hl']

theorem sum_n (c : Dev nD) (t : Fin cfg0.N) (hl : t.val % 32 = 32 - 1) (q : Fin 8) (d : Fin 128) :
    ∑ s : Fin 32, gainN m c ⟨32 * (t.val / 32) + s.val, Pipeline.run_point_lt_of_flush t hl s⟩ (ix2 0 (bc q d))
      = refN (aP m c) (aW m c) (aM m c) (ix2 0 (gc t (bc q d))) := by
  rw [gc_bc, refN_at, dgain]
  simp only [gainN_at]
  refine Fin.sum_mul_add_congr fun s l hl' => ?_
  rw [run_col t hl s q, run_row t hl s l hl']

theorem final_w (c : Dev nD) : (dats m 0 c).arrAt 8 (cfgs 0).N = refW (aP m c) (aW m c) (aN m c) (aM m c) := by
  refine (dats m 0 c).arrAt_eq_of_covers 8 _ (by decide +kernel) fun t hf y => ?_
  blk_simp
  have hl : t.val % 32 = 32 - 1 := (flush0_8 t).mp hf
  rw [after0_8, Pipeline.eq_sum_fin_of_reset_step_apply_of_flush (fun n h => (outsAt0 m c n h).2.1) 32 (fun _ => 0) (gainW m c)
    (fun t h j => outW_A m c t h j) (fun t h j => outW_B m c t h j) t hl _, zero_add]
  obtain ⟨j, k, rfl⟩ : ∃ (j : Fin 3) (k : Fin 1024), y = ix2 j k := ⟨y 0, y 1, by blk_ext⟩
  obtain ⟨q, d, rfl⟩ := bc_surj k
  refine (sum_w m c t hl j q d).trans (congrArg (refW (aP m c) (aW m c) (aN m c) (aM m c)) ?_)
  blk_ext [idx t, gc]

theorem final_n (c : Dev nD) : (dats m 0 c).arrAt 9 (cfgs 0).N = refN (aP m c) (aW m c) (aM m c) := by
  refine (dats m 0 c).arrAt_eq_of_covers 9 _ (by decide +kernel) fun t hf y => ?_
  blk_simp
  have hl : t.val % 32 = 32 - 1 := (flush0_9 t).mp hf
  rw [after0_9, Pipeline.eq_sum_fin_of_reset_step_apply_of_flush (fun n h => (outsAt0 m c n h).2.2) 32 (fun _ => 0) (gainN m c)
    (fun t h j => outN_A m c t h j) (fun t h j => outN_B m c t h j) t hl _, zero_add]
  obtain ⟨j, k, rfl⟩ : ∃ (j : Fin 1) (k : Fin 1024), y = ix2 j k := ⟨y 0, y 1, by blk_ext⟩
  obtain rfl : j = 0 := Subsingleton.elim _ _
  obtain ⟨q, d, rfl⟩ := bc_surj k
  refine (sum_n m c t hl q d).trans (congrArg (refN (aP m c) (aW m c) (aM m c)) ?_)
  blk_ext [idx t, gc]

/-- Kernel and reference leave the same gradients. -/
theorem same : Cert.algebraic_Kernel44Ideal_Reference44Ideal := by
  pair_intro
  · run_from Cert.Kernel44Ideal.Value.run_blocks m g
  · run_from Cert.Reference44Ideal.Value.run_ref m' g'
    · exact (final_p m c).symm
    · exact (final_w m c).symm
    · exact (final_n m c).symm

end Cert.Kernel44Ideal.Value

end
-- ==== Proof.SmallRef.lean ====
/-
  The step of the thirteen small weights, which lie in one flat array, one after another, with zeros behind.
-/
module

public import proofs.«01_k».proof.Defs
public import proofs.«01_k».proof.Proof.Gen.Kernel52.Frame
public import proofs.«01_k».proof.Proof.Gen.Kernel52Ideal.Frame
public import proofs.«01_k».proof.Proof.Gen.Kernel52Ideal.Value
public import proofs.«01_k».proof.Proof.Gen.Reference52Ideal.Run
public import proofs.«01_k».proof.Proof.Adam
public import Idealize.ShloMosaic.Lib.Claim
public import Idealize.ShloMosaic.Lib.Quiescent
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 65536

noncomputable section

/-! ## A zero stays a zero -/

namespace Cert.Adam

open Idealize.ShloMosaic

theorem mean_zero : mean 0 0 = 0 := by simp [mean]

theorem square_zero : square 0 0 = 0 := by simp [square]

theorem first_ne : Ideal.ofBits .f32 0x3F26BD02#32 ≠ 0 := by
  have e : Ideal.ofBits .f32 0x3F26BD02#32 = ((10927362 / 2 ^ 24 : ℝ) : EReal) := by
    simp [Ideal.ofBits, Ideal.ieee]
    rw [← EReal.coe_mul]
    norm_num
  rw [e, EReal.coe_ne_zero]
  norm_num

theorem second_ne : Ideal.ofBits .f32 0x3C231ACC#32 ≠ 0 := by
  have e : Ideal.ofBits .f32 0x3C231ACC#32 = ((10689228 / 2 ^ 30 : ℝ) : EReal) := by
    simp [Ideal.ofBits, Ideal.ieee]
    rw [← EReal.coe_mul]
    norm_num
  rw [e, EReal.coe_ne_zero]
  norm_num

theorem tiny_ne : Ideal.ofBits .f32 0x322BCC77#32 ≠ 0 := by
  have e : Ideal.ofBits .f32 0x322BCC77#32 = ((11259000 - 1 : ℝ) / 2 ^ 50 : ℝ) := by
    simp [Ideal.ofBits, Ideal.ieee]
    rw [← EReal.coe_mul]
    norm_num
  rw [e, EReal.coe_ne_zero]
  norm_num

theorem sqrt_zero : Ideal.sqrt 0 = 0 := by
  rw [← EReal.coe_zero, Ideal.sqrt_coe]
  simp

theorem change_zero : change 0 0 0 0 = 0 := by
  rw [change, mean_zero, square_zero, Ideal.zero_div first_ne, Ideal.zero_div second_ne, sqrt_zero, zero_add,
    Ideal.zero_div tiny_ne, mul_zero, add_zero, mul_zero]

end Cert.Adam

/-! ## The reference -/

namespace Cert.Reference52Ideal.Value

open Idealize.ShloMosaic Idealize.ShloMosaic.TcCoe Idealize.SL.Sem
open Cert.Reference52Ideal Cert.Reference52Ideal.Gen Cert.Adam

/-- Thirteen arrays one after another. -/
def row (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32) : FVec Ideal S76160 .f32 :=
  concatenate S76160 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩]
    concatenates_S8192_S12288_S12288_S128_S128_S128_S8192_S6144_S8192_S2048_S8192_S8192_S2048_S76160_d0

/-- The value that fills the row up. -/
def fill : FVec Ideal S_ .f32 := sitofp .f32 (constantI S_ 32 0#32)

theorem fill_zero (i : S_.Idx) : fill i = 0 := by
  show ((((0#32 : BitVec 32).toInt : ℤ) : ℝ) : EReal) = 0
  simp

/-- The row, filled up and cut into lines of 128. -/
def lay (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32) : FVec Ideal S600x128 .f32 :=
  shapeCast _ (pad S76800 ![0] ![640] ![0] (row x0 x1 x2 x3 x4 x5 x6 x7 x8 x9 x10 x11 x12) fill pads_S76160_S76800_06400 h_S_) shapeCasts_S76800_S600x128

set_option maxHeartbeats 4000000 in
/-- Every entry of the row is an entry of one of the arrays. -/
theorem row_at (k : Fin 76160) :
    (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x0 j) ∨ (∃ j : S4x4x768.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x1 j) ∨ (∃ j : S4x3072.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x2 j) ∨ (∃ j : S4x32.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x3 j) ∨ (∃ j : S4x32.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x4 j) ∨ (∃ j : S4x32.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x5 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x6 j) ∨ (∃ j : S4x3x512.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x7 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x8 j) ∨ (∃ j : S2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x9 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x10 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x11 j) ∨ (∃ j : S2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), row x0 x1 x2 x3 x4 x5 x6 x7 x8 x9 x10 x11 x12 (ix1 k) = x12 j) := by
  by_cases h0 : k.val < 8192
  · exact Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 0 (by simp) S8192 (shapeCast _ x0 shapeCasts_S4x2048_S8192) rfl rfl 0 (by show ([] : List ℕ).sum = 0; decide +kernel) (ix1 ⟨k.val - 0, by omega⟩) (fun b hb => absurd (Subsingleton.elim _ _) hb) (by show 0 + (k.val - 0) = k.val; omega)).trans rfl⟩
  by_cases h1 : k.val < 20480
  · exact Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 1 (by simp) S12288 (shapeCast _ x1 shapeCasts_S4x4x768_S12288) rfl rfl 8192 (by show ([8192] : List ℕ).sum = 8192; decide +kernel) (ix1 ⟨k.val - 8192, by omega⟩) (fun b hb => absurd (Subsingleton.elim _ _) hb) (by show 8192 + (k.val - 8192) = k.val; omega)).trans rfl⟩
  by_cases h2 : k.val < 32768
  · exact Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 2 (by simp) S12288 (shapeCast _ x2 shapeCasts_S4x3072_S12288) rfl rfl 20480 (by show ([8192, 12288] : List ℕ).sum = 20480; decide +kernel) (ix1 ⟨k.val - 20480, by omega⟩) (fun b hb => absurd (Subsingleton.elim _ _) hb) (by show 20480 + (k.val - 20480) = k.val; omega)).trans rfl⟩
  by_cases h3 : k.val < 32896
  · exact Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 3 (by simp) S128 (shapeCast _ x3 shapeCasts_S4x32_S128) rfl rfl 32768 (by show ([8192, 12288, 12288] : List ℕ).sum = 32768; decide +kernel) (ix1 ⟨k.val - 32768, by omega⟩) (fun b hb => absurd (Subsingleton.elim _ _) hb) (by show 32768 + (k.val - 32768) = k.val; omega)).trans rfl⟩
  by_cases h4 : k.val < 33024
  · exact Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 4 (by simp) S128 (shapeCast _ x4 shapeCasts_S4x32_S128) rfl rfl 32896 (by show ([8192, 12288, 12288, 128] : List ℕ).sum = 32896; decide +kernel) (ix1 ⟨k.val - 32896, by omega⟩) (fun b hb => absurd (Subsingleton.elim _ _) hb) (by show 32896 + (k.val - 32896) = k.val; omega)).trans rfl⟩
  by_cases h5 : k.val < 33152
  · exact Or.inr <| Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 5 (by simp) S128 (shapeCast _ x5 shapeCasts_S4x32_S128) rfl rfl 33024 (by show ([8192, 12288, 12288, 128, 128] : List ℕ).sum = 33024; decide +kernel) (ix1 ⟨k.val - 33024, by omega⟩) (fun b hb => absurd (Subsingleton.elim _ _) hb) (by show 33024 + (k.val - 33024) = k.val; omega)).trans rfl⟩
  by_cases h6 : k.val < 41344
  · exact Or.inr <| Or.inr <| Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 6 (by simp) S8192 (shapeCast _ x6 shapeCasts_S4x2048_S8192) rfl rfl 33152 (by show ([8192, 12288, 12288, 128, 128, 128] : List ℕ).sum = 33152; decide +kernel) (ix1 ⟨k.val - 33152, by omega⟩) (fun b hb => absurd (Subsingleton.elim _ _) hb) (by show 33152 + (k.val - 33152) = k.val; omega)).trans rfl⟩
  by_cases h7 : k.val < 47488
  · exact Or.inr <| Or.inr <| Or.inr <| Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 7 (by simp) S6144 (shapeCast _ x7 shapeCasts_S4x3x512_S6144) rfl rfl 41344 (by show ([8192, 12288, 12288, 128, 128, 128, 8192] : List ℕ).sum = 41344; decide +kernel) (ix1 ⟨k.val - 41344, by omega⟩) (fun b hb => absurd (Subsingleton.elim _ _) hb) (by show 41344 + (k.val - 41344) = k.val; omega)).trans rfl⟩
  by_cases h8 : k.val < 55680
  · exact Or.inr <| Or.inr <| Or.inr <| Or.inr <| Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 8 (by simp) S8192 (shapeCast _ x8 shapeCasts_S4x2048_S8192) rfl rfl 47488 (by show ([8192, 12288, 12288, 128, 128, 128, 8192, 6144] : List ℕ).sum = 47488; decide +kernel) (ix1 ⟨k.val - 47488, by omega⟩) (fun b hb => absurd (Subsingleton.elim _ _) hb) (by show 47488 + (k.val - 47488) = k.val; omega)).trans rfl⟩
  by_cases h9 : k.val < 57728
  · exact Or.inr <| Or.inr <| Or.inr <| Or.inr <| Or.inr <| Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 9 (by simp) S2048 (x9) rfl rfl 55680 (by show ([8192, 12288, 12288, 128, 128, 128, 8192, 6144, 8192] : List ℕ).sum = 55680; decide +kernel) (ix1 ⟨k.val - 55680, by omega⟩) (fun b hb => absurd (Subsingleton.elim _ _) hb) (by show 55680 + (k.val - 55680) = k.val; omega)).trans rfl⟩
  by_cases h10 : k.val < 65920
  · exact Or.inr <| Or.inr <| Or.inr <| Or.inr <| Or.inr <| Or.inr <| Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 10 (by simp) S8192 (shapeCast _ x10 shapeCasts_S4x2048_S8192) rfl rfl 57728 (by show ([8192, 12288, 12288, 128, 128, 128, 8192, 6144, 8192, 2048] : List ℕ).sum = 57728; decide +kernel) (ix1 ⟨k.val - 57728, by omega⟩) (fun b hb => absurd (Subsingleton.elim _ _) hb) (by show 57728 + (k.val - 57728) = k.val; omega)).trans rfl⟩
  by_cases h11 : k.val < 74112
  · exact Or.inr <| Or.inr <| Or.inr <| Or.inr <| Or.inr <| Or.inr <| Or.inr <| Or.inr <| Or.inr <| Or.inr <| Or.inr <| Or.inl ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 11 (by simp) S8192 (shapeCast _ x11 shapeCasts_S4x2048_S8192) rfl rfl 65920 (by show ([8192, 12288, 12288, 128, 128, 128, 8192, 6144, 8192, 2048, 8192] : List ℕ).sum = 65920; decide +kernel) (ix1 ⟨k.val - 65920, by omega⟩) (fun b hb => absurd (Subsingleton.elim _ _) hb) (by show 65920 + (k.val - 65920) = k.val; omega)).trans rfl⟩
  exact Or.inr <| Or.inr <| Or.inr <| Or.inr <| Or.inr <| Or.inr <| Or.inr <| Or.inr <| Or.inr <| Or.inr <| Or.inr <| Or.inr <| ⟨_, fun x0 x1 x2 x3 x4 x5 x6 x7 x8 x9 x10 x11 x12 => (concatenate_apply_piece (t := S76160) 0 [⟨S8192, shapeCast _ x0 shapeCasts_S4x2048_S8192⟩, ⟨S12288, shapeCast _ x1 shapeCasts_S4x4x768_S12288⟩, ⟨S12288, shapeCast _ x2 shapeCasts_S4x3072_S12288⟩, ⟨S128, shapeCast _ x3 shapeCasts_S4x32_S128⟩, ⟨S128, shapeCast _ x4 shapeCasts_S4x32_S128⟩, ⟨S128, shapeCast _ x5 shapeCasts_S4x32_S128⟩, ⟨S8192, shapeCast _ x6 shapeCasts_S4x2048_S8192⟩, ⟨S6144, shapeCast _ x7 shapeCasts_S4x3x512_S6144⟩, ⟨S8192, shapeCast _ x8 shapeCasts_S4x2048_S8192⟩, ⟨S2048, x9⟩, ⟨S8192, shapeCast _ x10 shapeCasts_S4x2048_S8192⟩, ⟨S8192, shapeCast _ x11 shapeCasts_S4x2048_S8192⟩, ⟨S2048, x12⟩] concatenates_S8192_S12288_S12288_S128_S128_S128_S8192_S6144_S8192_S2048_S8192_S8192_S2048_S76160_d0 (ix1 k) 12 (by simp) S2048 (x12) rfl rfl 74112 (by show ([8192, 12288, 12288, 128, 128, 128, 8192, 6144, 8192, 2048, 8192, 8192] : List ℕ).sum = 74112; decide +kernel) (ix1 ⟨k.val - 74112, by omega⟩) (fun b hb => absurd (Subsingleton.elim _ _) hb) (by show 74112 + (k.val - 74112) = k.val; omega)).trans rfl⟩

/-- Every entry of the lines is an entry of one of the arrays, or zero. -/
theorem lay_at (y : S600x128.Idx) :
    (∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = 0) ∨
    (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x0 j) ∨ (∃ j : S4x4x768.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x1 j) ∨ (∃ j : S4x3072.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x2 j) ∨ (∃ j : S4x32.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x3 j) ∨ (∃ j : S4x32.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x4 j) ∨ (∃ j : S4x32.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x5 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x6 j) ∨ (∃ j : S4x3x512.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x7 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x8 j) ∨ (∃ j : S2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x9 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x10 j) ∨ (∃ j : S4x2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x11 j) ∨ (∃ j : S2048.Idx, ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = x12 j) := by
  obtain ⟨n, hn⟩ : ∃ n : Fin 76800, Shape.reshapeEquiv shapeCasts_S76800_S600x128 y = ix1 n :=
    ⟨Shape.reshapeEquiv shapeCasts_S76800_S600x128 y 0, by funext a; obtain rfl : a = 0 := Subsingleton.elim _ _; rfl⟩
  by_cases h : n.val < 76160
  · right
    have e : ∀ (x0 : FVec Ideal S4x2048 .f32) (x1 : FVec Ideal S4x4x768 .f32) (x2 : FVec Ideal S4x3072 .f32) (x3 : FVec Ideal S4x32 .f32) (x4 : FVec Ideal S4x32 .f32) (x5 : FVec Ideal S4x32 .f32) (x6 : FVec Ideal S4x2048 .f32) (x7 : FVec Ideal S4x3x512 .f32) (x8 : FVec Ideal S4x2048 .f32) (x9 : FVec Ideal S2048 .f32) (x10 : FVec Ideal S4x2048 .f32) (x11 : FVec Ideal S4x2048 .f32) (x12 : FVec Ideal S2048 .f32), lay x0 x1 x2 x3 x4 x5 x6 x7 x8 x9 x10 x11 x12 y = row x0 x1 x2 x3 x4 x5 x6 x7 x8 x9 x10 x11 x12 (ix1 ⟨n.val, h⟩) := fun x0 x1 x2 x3 x4 x5 x6 x7 x8 x9 x10 x11 x12 => by
      unfold lay shapeCast
      rw [hn]
      exact pad_apply_of_inside _ _ _ _ _ _ _ _ _ fun a => by
        obtain rfl : a = 0 := Subsingleton.elim _ _
        show n.val = 0 + n.val * (0 + 1)
        omega
    simp only [e]
    exact row_at ⟨n.val, h⟩
  · left
    intro x0 x1 x2 x3 x4 x5 x6 x7 x8 x9 x10 x11 x12
    unfold lay shapeCast
    rw [hn]
    refine (pad_apply_of_not_inside _ _ _ _ _ _ _ _ 0 ?_).trans (fill_zero _)
    show ¬(0 ≤ n.val ∧ (n.val - 0) % (0 + 1) = 0 ∧ (n.val - 0) / (0 + 1) < 76160)
    omega

/-- A function of two entries, taken before or after the laying out. -/
theorem lay_two (f : EReal → EReal → EReal) (hf : f 0 0 = 0) (v0 : FVec Ideal S4x2048 .f32) (v1 : FVec Ideal S4x4x768 .f32) (v2 : FVec Ideal S4x3072 .f32) (v3 : FVec Ideal S4x32 .f32) (v4 : FVec Ideal S4x32 .f32) (v5 : FVec Ideal S4x32 .f32) (v6 : FVec Ideal S4x2048 .f32) (v7 : FVec Ideal S4x3x512 .f32) (v8 : FVec Ideal S4x2048 .f32) (v9 : FVec Ideal S2048 .f32) (v10 : FVec Ideal S4x2048 .f32) (v11 : FVec Ideal S4x2048 .f32) (v12 : FVec Ideal S2048 .f32) (g0 : FVec Ideal S4x2048 .f32) (g1 : FVec Ideal S4x4x768 .f32) (g2 : FVec Ideal S4x3072 .f32) (g3 : FVec Ideal S4x32 .f32) (g4 : FVec Ideal S4x32 .f32) (g5 : FVec Ideal S4x32 .f32) (g6 : FVec Ideal S4x2048 .f32) (g7 : FVec Ideal S4x3x512 .f32) (g8 : FVec Ideal S4x2048 .f32) (g9 : FVec Ideal S2048 .f32) (g10 : FVec Ideal S4x2048 .f32) (g11 : FVec Ideal S4x2048 .f32) (g12 : FVec Ideal S2048 .f32) :
    lay (fun j => f (v0 j) (g0 j)) (fun j => f (v1 j) (g1 j)) (fun j => f (v2 j) (g2 j)) (fun j => f (v3 j) (g3 j)) (fun j => f (v4 j) (g4 j)) (fun j => f (v5 j) (g5 j)) (fun j => f (v6 j) (g6 j)) (fun j => f (v7 j) (g7 j)) (fun j => f (v8 j) (g8 j)) (fun j => f (v9 j) (g9 j)) (fun j => f (v10 j) (g10 j)) (fun j => f (v11 j) (g11 j)) (fun j => f (v12 j) (g12 j)) = fun y => f (lay v0 v1 v2 v3 v4 v5 v6 v7 v8 v9 v10 v11 v12 y) (lay g0 g1 g2 g3 g4 g5 g6 g7 g8 g9 g10 g11 g12 y) := by
  funext y
  rcases lay_at y with h | ⟨j, h⟩ | ⟨j, h⟩ | ⟨j, h⟩ | ⟨j, h⟩ | ⟨j, h⟩ | ⟨j, h⟩ | ⟨j, h⟩ | ⟨j, h⟩ | ⟨j, h⟩ | ⟨j, h⟩ | ⟨j, h⟩ | ⟨j, h⟩ | ⟨j, h⟩ <;> simp only [h, hf]

/-- A function of four entries, likewise. -/
theorem lay_four (f : EReal → EReal → EReal → EReal → EReal) (hf : f 0 0 0 0 = 0) (w0 : FVec Ideal S4x2048 .f32) (w1 : FVec Ideal S4x4x768 .f32) (w2 : FVec Ideal S4x3072 .f32) (w3 : FVec Ideal S4x32 .f32) (w4 : FVec Ideal S4x32 .f32) (w5 : FVec Ideal S4x32 .f32) (w6 : FVec Ideal S4x2048 .f32) (w7 : FVec Ideal S4x3x512 .f32) (w8 : FVec Ideal S4x2048 .f32) (w9 : FVec Ideal S2048 .f32) (w10 : FVec Ideal S4x2048 .f32) (w11 : FVec Ideal S4x2048 .f32) (w12 : FVec Ideal S2048 .f32) (g0 : FVec Ideal S4x2048 .f32) (g1 : FVec Ideal S4x4x768 .f32) (g2 : FVec Ideal S4x3072 .f32) (g3 : FVec Ideal S4x32 .f32) (g4 : FVec Ideal S4x32 .f32) (g5 : FVec Ideal S4x32 .f32) (g6 : FVec Ideal S4x2048 .f32) (g7 : FVec Ideal S4x3x512 .f32) (g8 : FVec Ideal S4x2048 .f32) (g9 : FVec Ideal S2048 .f32) (g10 : FVec Ideal S4x2048 .f32) (g11 : FVec Ideal S4x2048 .f32) (g12 : FVec Ideal S2048 .f32) (m0 : FVec Ideal S4x2048 .f32) (m1 : FVec Ideal S4x4x768 .f32) (m2 : FVec Ideal S4x3072 .f32) (m3 : FVec Ideal S4x32 .f32) (m4 : FVec Ideal S4x32 .f32) (m5 : FVec Ideal S4x32 .f32) (m6 : FVec Ideal S4x2048 .f32) (m7 : FVec Ideal S4x3x512 .f32) (m8 : FVec Ideal S4x2048 .f32) (m9 : FVec Ideal S2048 .f32) (m10 : FVec Ideal S4x2048 .f32) (m11 : FVec Ideal S4x2048 .f32) (m12 : FVec Ideal S2048 .f32) (v0 : FVec Ideal S4x2048 .f32) (v1 : FVec Ideal S4x4x768 .f32) (v2 : FVec Ideal S4x3072 .f32) (v3 : FVec Ideal S4x32 .f32) (v4 : FVec Ideal S4x32 .f32) (v5 : FVec Ideal S4x32 .f32) (v6 : FVec Ideal S4x2048 .f32) (v7 : FVec Ideal S4x3x512 .f32) (v8 : FVec Ideal S4x2048 .f32) (v9 : FVec Ideal S2048 .f32) (v10 : FVec Ideal S4x2048 .f32) (v11 : FVec Ideal S4x2048 .f32) (v12 : FVec Ideal S2048 .f32) :
    lay (fun j => f (w0 j) (g0 j) (m0 j) (v0 j)) (fun j => f (w1 j) (g1 j) (m1 j) (v1 j)) (fun j => f (w2 j) (g2 j) (m2 j) (v2 j)) (fun j => f (w3 j) (g3 j) (m3 j) (v3 j)) (fun j => f (w4 j) (g4 j) (m4 j) (v4 j)) (fun j => f (w5 j) (g5 j) (m5 j) (v5 j)) (fun j => f (w6 j) (g6 j) (m6 j) (v6 j)) (fun j => f (w7 j) (g7 j) (m7 j) (v7 j)) (fun j => f (w8 j) (g8 j) (m8 j) (v8 j)) (fun j => f (w9 j) (g9 j) (m9 j) (v9 j)) (fun j => f (w10 j) (g10 j) (m10 j) (v10 j)) (fun j => f (w11 j) (g11 j) (m11 j) (v11 j)) (fun j => f (w12 j) (g12 j) (m12 j) (v12 j))
      = fun y => f (lay w0 w1 w2 w3 w4 w5 w6 w7 w8 w9 w10 w11 w12 y) (lay g0 g1 g2 g3 g4 g5 g6 g7 g8 g9 g10 g11 g12 y) (lay m0 m1 m2 m3 m4 m5 m6 m7 m8 m9 m10 m11 m12 y) (lay v0 v1 v2 v3 v4 v5 v6 v7 v8 v9 v10 v11 v12 y) := by
  funext y
  rcases lay_at y with h | ⟨j, h⟩ | ⟨j, h⟩ | ⟨j, h⟩ | ⟨j, h⟩ | ⟨j, h⟩ | ⟨j, h⟩ | ⟨j, h⟩ | ⟨j, h⟩ | ⟨j, h⟩ | ⟨j, h⟩ | ⟨j, h⟩ | ⟨j, h⟩ | ⟨j, h⟩ <;> simp only [h, hf]

set_option maxHeartbeats 8000000 in
/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem (c.tc.loc main_v325) = lay (fun j => change ((m (c.tc.loc main_arg0) : FVec Ideal S4x2048 .f32) j) ((m (c.tc.loc main_arg13) : FVec Ideal S4x2048 .f32) j) ((m (c.tc.loc main_arg26) : FVec Ideal S4x2048 .f32) j) ((m (c.tc.loc main_arg39) : FVec Ideal S4x2048 .f32) j)) (fun j => change ((m (c.tc.loc main_arg1) : FVec Ideal S4x4x768 .f32) j) ((m (c.tc.loc main_arg14) : FVec Ideal S4x4x768 .f32) j) ((m (c.tc.loc main_arg27) : FVec Ideal S4x4x768 .f32) j) ((m (c.tc.loc main_arg40) : FVec Ideal S4x4x768 .f32) j)) (fun j => change ((m (c.tc.loc main_arg2) : FVec Ideal S4x3072 .f32) j) ((m (c.tc.loc main_arg15) : FVec Ideal S4x3072 .f32) j) ((m (c.tc.loc main_arg28) : FVec Ideal S4x3072 .f32) j) ((m (c.tc.loc main_arg41) : FVec Ideal S4x3072 .f32) j)) (fun j => change ((m (c.tc.loc main_arg3) : FVec Ideal S4x32 .f32) j) ((m (c.tc.loc main_arg16) : FVec Ideal S4x32 .f32) j) ((m (c.tc.loc main_arg29) : FVec Ideal S4x32 .f32) j) ((m (c.tc.loc main_arg42) : FVec Ideal S4x32 .f32) j)) (fun j => change ((m (c.tc.loc main_arg4) : FVec Ideal S4x32 .f32) j) ((m (c.tc.loc main_arg17) : FVec Ideal S4x32 .f32) j) ((m (c.tc.loc main_arg30) : FVec Ideal S4x32 .f32) j) ((m (c.tc.loc main_arg43) : FVec Ideal S4x32 .f32) j)) (fun j => change ((m (c.tc.loc main_arg5) : FVec Ideal S4x32 .f32) j) ((m (c.tc.loc main_arg18) : FVec Ideal S4x32 .f32) j) ((m (c.tc.loc main_arg31) : FVec Ideal S4x32 .f32) j) ((m (c.tc.loc main_arg44) : FVec Ideal S4x32 .f32) j)) (fun j => change ((m (c.tc.loc main_arg6) : FVec Ideal S4x2048 .f32) j) ((m (c.tc.loc main_arg19) : FVec Ideal S4x2048 .f32) j) ((m (c.tc.loc main_arg32) : FVec Ideal S4x2048 .f32) j) ((m (c.tc.loc main_arg45) : FVec Ideal S4x2048 .f32) j)) (fun j => change ((m (c.tc.loc main_arg7) : FVec Ideal S4x3x512 .f32) j) ((m (c.tc.loc main_arg20) : FVec Ideal S4x3x512 .f32) j) ((m (c.tc.loc main_arg33) : FVec Ideal S4x3x512 .f32) j) ((m (c.tc.loc main_arg46) : FVec Ideal S4x3x512 .f32) j)) (fun j => change ((m (c.tc.loc main_arg8) : FVec Ideal S4x2048 .f32) j) ((m (c.tc.loc main_arg21) : FVec Ideal S4x2048 .f32) j) ((m (c.tc.loc main_arg34) : FVec Ideal S4x2048 .f32) j) ((m (c.tc.loc main_arg47) : FVec Ideal S4x2048 .f32) j)) (fun j => change ((m (c.tc.loc main_arg9) : FVec Ideal S2048 .f32) j) ((m (c.tc.loc main_arg22) : FVec Ideal S2048 .f32) j) ((m (c.tc.loc main_arg35) : FVec Ideal S2048 .f32) j) ((m (c.tc.loc main_arg48) : FVec Ideal S2048 .f32) j)) (fun j => change ((m (c.tc.loc main_arg10) : FVec Ideal S4x2048 .f32) j) ((m (c.tc.loc main_arg23) : FVec Ideal S4x2048 .f32) j) ((m (c.tc.loc main_arg36) : FVec Ideal S4x2048 .f32) j) ((m (c.tc.loc main_arg49) : FVec Ideal S4x2048 .f32) j)) (fun j => change ((m (c.tc.loc main_arg11) : FVec Ideal S4x2048 .f32) j) ((m (c.tc.loc main_arg24) : FVec Ideal S4x2048 .f32) j) ((m (c.tc.loc main_arg37) : FVec Ideal S4x2048 .f32) j) ((m (c.tc.loc main_arg50) : FVec Ideal S4x2048 .f32) j)) (fun j => change ((m (c.tc.loc main_arg12) : FVec Ideal S2048 .f32) j) ((m (c.tc.loc main_arg25) : FVec Ideal S2048 .f32) j) ((m (c.tc.loc main_arg38) : FVec Ideal S2048 .f32) j) ((m (c.tc.loc main_arg51) : FVec Ideal S2048 .f32) j))
      ∧ r.2.mem (c.tc.loc main_v339) = lay (fun j => mean ((m (c.tc.loc main_arg26) : FVec Ideal S4x2048 .f32) j) ((m (c.tc.loc main_arg13) : FVec Ideal S4x2048 .f32) j)) (fun j => mean ((m (c.tc.loc main_arg27) : FVec Ideal S4x4x768 .f32) j) ((m (c.tc.loc main_arg14) : FVec Ideal S4x4x768 .f32) j)) (fun j => mean ((m (c.tc.loc main_arg28) : FVec Ideal S4x3072 .f32) j) ((m (c.tc.loc main_arg15) : FVec Ideal S4x3072 .f32) j)) (fun j => mean ((m (c.tc.loc main_arg29) : FVec Ideal S4x32 .f32) j) ((m (c.tc.loc main_arg16) : FVec Ideal S4x32 .f32) j)) (fun j => mean ((m (c.tc.loc main_arg30) : FVec Ideal S4x32 .f32) j) ((m (c.tc.loc main_arg17) : FVec Ideal S4x32 .f32) j)) (fun j => mean ((m (c.tc.loc main_arg31) : FVec Ideal S4x32 .f32) j) ((m (c.tc.loc main_arg18) : FVec Ideal S4x32 .f32) j)) (fun j => mean ((m (c.tc.loc main_arg32) : FVec Ideal S4x2048 .f32) j) ((m (c.tc.loc main_arg19) : FVec Ideal S4x2048 .f32) j)) (fun j => mean ((m (c.tc.loc main_arg33) : FVec Ideal S4x3x512 .f32) j) ((m (c.tc.loc main_arg20) : FVec Ideal S4x3x512 .f32) j)) (fun j => mean ((m (c.tc.loc main_arg34) : FVec Ideal S4x2048 .f32) j) ((m (c.tc.loc main_arg21) : FVec Ideal S4x2048 .f32) j)) (fun j => mean ((m (c.tc.loc main_arg35) : FVec Ideal S2048 .f32) j) ((m (c.tc.loc main_arg22) : FVec Ideal S2048 .f32) j)) (fun j => mean ((m (c.tc.loc main_arg36) : FVec Ideal S4x2048 .f32) j) ((m (c.tc.loc main_arg23) : FVec Ideal S4x2048 .f32) j)) (fun j => mean ((m (c.tc.loc main_arg37) : FVec Ideal S4x2048 .f32) j) ((m (c.tc.loc main_arg24) : FVec Ideal S4x2048 .f32) j)) (fun j => mean ((m (c.tc.loc main_arg38) : FVec Ideal S2048 .f32) j) ((m (c.tc.loc main_arg25) : FVec Ideal S2048 .f32) j))
      ∧ r.2.mem (c.tc.loc main_v353) = lay (fun j => square ((m (c.tc.loc main_arg39) : FVec Ideal S4x2048 .f32) j) ((m (c.tc.loc main_arg13) : FVec Ideal S4x2048 .f32) j)) (fun j => square ((m (c.tc.loc main_arg40) : FVec Ideal S4x4x768 .f32) j) ((m (c.tc.loc main_arg14) : FVec Ideal S4x4x768 .f32) j)) (fun j => square ((m (c.tc.loc main_arg41) : FVec Ideal S4x3072 .f32) j) ((m (c.tc.loc main_arg15) : FVec Ideal S4x3072 .f32) j)) (fun j => square ((m (c.tc.loc main_arg42) : FVec Ideal S4x32 .f32) j) ((m (c.tc.loc main_arg16) : FVec Ideal S4x32 .f32) j)) (fun j => square ((m (c.tc.loc main_arg43) : FVec Ideal S4x32 .f32) j) ((m (c.tc.loc main_arg17) : FVec Ideal S4x32 .f32) j)) (fun j => square ((m (c.tc.loc main_arg44) : FVec Ideal S4x32 .f32) j) ((m (c.tc.loc main_arg18) : FVec Ideal S4x32 .f32) j)) (fun j => square ((m (c.tc.loc main_arg45) : FVec Ideal S4x2048 .f32) j) ((m (c.tc.loc main_arg19) : FVec Ideal S4x2048 .f32) j)) (fun j => square ((m (c.tc.loc main_arg46) : FVec Ideal S4x3x512 .f32) j) ((m (c.tc.loc main_arg20) : FVec Ideal S4x3x512 .f32) j)) (fun j => square ((m (c.tc.loc main_arg47) : FVec Ideal S4x2048 .f32) j) ((m (c.tc.loc main_arg21) : FVec Ideal S4x2048 .f32) j)) (fun j => square ((m (c.tc.loc main_arg48) : FVec Ideal S2048 .f32) j) ((m (c.tc.loc main_arg22) : FVec Ideal S2048 .f32) j)) (fun j => square ((m (c.tc.loc main_arg49) : FVec Ideal S4x2048 .f32) j) ((m (c.tc.loc main_arg23) : FVec Ideal S4x2048 .f32) j)) (fun j => square ((m (c.tc.loc main_arg50) : FVec Ideal S4x2048 .f32) j) ((m (c.tc.loc main_arg24) : FVec Ideal S4x2048 .f32) j)) (fun j => square ((m (c.tc.loc main_arg51) : FVec Ideal S2048 .f32) j) ((m (c.tc.loc main_arg25) : FVec Ideal S2048 .f32) j))
      ∧ r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) ∧ r.2.mem (c.tc.loc main_arg7) = m (c.tc.loc main_arg7) ∧ r.2.mem (c.tc.loc main_arg8) = m (c.tc.loc main_arg8) ∧ r.2.mem (c.tc.loc main_arg9) = m (c.tc.loc main_arg9) ∧ r.2.mem (c.tc.loc main_arg10) = m (c.tc.loc main_arg10) ∧ r.2.mem (c.tc.loc main_arg11) = m (c.tc.loc main_arg11) ∧ r.2.mem (c.tc.loc main_arg12) = m (c.tc.loc main_arg12) ∧ r.2.mem (c.tc.loc main_arg13) = m (c.tc.loc main_arg13) ∧ r.2.mem (c.tc.loc main_arg14) = m (c.tc.loc main_arg14) ∧ r.2.mem (c.tc.loc main_arg15) = m (c.tc.loc main_arg15) ∧ r.2.mem (c.tc.loc main_arg16) = m (c.tc.loc main_arg16) ∧ r.2.mem (c.tc.loc main_arg17) = m (c.tc.loc main_arg17) ∧ r.2.mem (c.tc.loc main_arg18) = m (c.tc.loc main_arg18) ∧ r.2.mem (c.tc.loc main_arg19) = m (c.tc.loc main_arg19) ∧ r.2.mem (c.tc.loc main_arg20) = m (c.tc.loc main_arg20) ∧ r.2.mem (c.tc.loc main_arg21) = m (c.tc.loc main_arg21) ∧ r.2.mem (c.tc.loc main_arg22) = m (c.tc.loc main_arg22) ∧ r.2.mem (c.tc.loc main_arg23) = m (c.tc.loc main_arg23) ∧ r.2.mem (c.tc.loc main_arg24) = m (c.tc.loc main_arg24) ∧ r.2.mem (c.tc.loc main_arg25) = m (c.tc.loc main_arg25) ∧ r.2.mem (c.tc.loc main_arg26) = m (c.tc.loc main_arg26) ∧ r.2.mem (c.tc.loc main_arg27) = m (c.tc.loc main_arg27) ∧ r.2.mem (c.tc.loc main_arg28) = m (c.tc.loc main_arg28) ∧ r.2.mem (c.tc.loc main_arg29) = m (c.tc.loc main_arg29) ∧ r.2.mem (c.tc.loc main_arg30) = m (c.tc.loc main_arg30) ∧ r.2.mem (c.tc.loc main_arg31) = m (c.tc.loc main_arg31) ∧ r.2.mem (c.tc.loc main_arg32) = m (c.tc.loc main_arg32) ∧ r.2.mem (c.tc.loc main_arg33) = m (c.tc.loc main_arg33) ∧ r.2.mem (c.tc.loc main_arg34) = m (c.tc.loc main_arg34) ∧ r.2.mem (c.tc.loc main_arg35) = m (c.tc.loc main_arg35) ∧ r.2.mem (c.tc.loc main_arg36) = m (c.tc.loc main_arg36) ∧ r.2.mem (c.tc.loc main_arg37) = m (c.tc.loc main_arg37) ∧ r.2.mem (c.tc.loc main_arg38) = m (c.tc.loc main_arg38) ∧ r.2.mem (c.tc.loc main_arg39) = m (c.tc.loc main_arg39) ∧ r.2.mem (c.tc.loc main_arg40) = m (c.tc.loc main_arg40) ∧ r.2.mem (c.tc.loc main_arg41) = m (c.tc.loc main_arg41) ∧ r.2.mem (c.tc.loc main_arg42) = m (c.tc.loc main_arg42) ∧ r.2.mem (c.tc.loc main_arg43) = m (c.tc.loc main_arg43) ∧ r.2.mem (c.tc.loc main_arg44) = m (c.tc.loc main_arg44) ∧ r.2.mem (c.tc.loc main_arg45) = m (c.tc.loc main_arg45) ∧ r.2.mem (c.tc.loc main_arg46) = m (c.tc.loc main_arg46) ∧ r.2.mem (c.tc.loc main_arg47) = m (c.tc.loc main_arg47) ∧ r.2.mem (c.tc.loc main_arg48) = m (c.tc.loc main_arg48) ∧ r.2.mem (c.tc.loc main_arg49) = m (c.tc.loc main_arg49) ∧ r.2.mem (c.tc.loc main_arg50) = m (c.tc.loc main_arg50) ∧ r.2.mem (c.tc.loc main_arg51) = m (c.tc.loc main_arg51)) :=
  (θ_run defs _ _).mono (fun r h c => ⟨(h c).1.trans rfl, (h c).2.1.trans rfl, (h c).2.2.1.trans rfl, (h c).2.2.2⟩)
    (run (F := Ideal) m ρ)

/-- The reference runs and leaves its arguments. -/
theorem frame_ref : Cert.quiescent_Reference52Ideal := fun m ρ _ =>
  (θ_run defs _ _).mono (fun r h => ⟨fun c => (h c).2.2.2, sem_eq_zero_of_no_sems (by decide) r.2⟩)
    (run (F := Ideal) m ρ)

end Cert.Reference52Ideal.Value

end
-- ==== Proof.SmallLaid.lean ====
/-
  The small weights, their gradients and running means as the kernel takes them: each laid out in one array.
-/
module

public import proofs.«01_k».proof.Defs
public import proofs.«01_k».proof.Proof.Gen.Kernel52.Frame
public import proofs.«01_k».proof.Proof.Gen.Kernel52Ideal.Frame
public import proofs.«01_k».proof.Proof.Gen.Kernel52Ideal.Value
public import proofs.«01_k».proof.Proof.Gen.Reference52Ideal.Run
public import proofs.«01_k».proof.Proof.SmallRef
public import Idealize.ShloMosaic.Lib.Claim
public import Idealize.ShloMosaic.Lib.Quiescent
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 65536

noncomputable section

/-! ## The kernel -/

namespace Cert.Kernel52Ideal.Value

open Idealize.ShloMosaic Idealize.ShloMosaic.TcCoe Idealize.SL.Sem
open Idealize.ShloMosaic.Pipeline (Dat)
open Cert.Kernel52Ideal Cert.Kernel52Ideal.Gen Cert.Adam
open Cert.Reference52Ideal.Value (lay lay_two lay_four)

variable (m : (ℓ : Loc nD τ sig) → Buf (Elt Ideal) ℓ)

/-- The weights, laid out. -/
def laidW (c : Dev nD) : FVec Ideal S600x128 .f32 := lay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The gradients, laid out. -/
def laidG (c : Dev nD) : FVec Ideal S600x128 .f32 := lay (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- The means of the gradients, laid out. -/
def laidM (c : Dev nD) : FVec Ideal S600x128 .f32 := lay (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38))

/-- The means of the squares, laid out. -/
def laidV (c : Dev nD) : FVec Ideal S600x128 .f32 := lay (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51))

set_option maxHeartbeats 8000000 in
theorem V_W (c : Dev nD) : V m c main_v13 = laidW m c := rfl

set_option maxHeartbeats 8000000 in
theorem V_G (c : Dev nD) : V m c main_v27 = laidG m c := rfl

set_option maxHeartbeats 8000000 in
theorem V_M (c : Dev nD) : V m c main_v41 = laidM m c := rfl

set_option maxHeartbeats 8000000 in
theorem V_V (c : Dev nD) : V m c main_v55 = laidV m c := rfl

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem blkW (c : Dev nD) (t : Fin cfg0.N) : iblk m c 0 t = laidW m c := by
  rw [← V_W]
  generalize hV : (V m c main_v13 : FVec Ideal S600x128 .f32) = x
  funext y
  obtain ⟨r, k, rfl⟩ : ∃ (r : Fin 600) (k : Fin 128), y = ix2 r k := ⟨y 0, y 1, by blk_ext⟩
  rw [← hV]
  show iblk m c 0 t (ix2 r k) = V m c main_v13 (ix2 r k)
  blk_point [iblk, idx t]

theorem blkG (c : Dev nD) (t : Fin cfg0.N) : iblk m c 1 t = laidG m c := by
  rw [← V_G]
  generalize hV : (V m c main_v27 : FVec Ideal S600x128 .f32) = x
  funext y
  obtain ⟨r, k, rfl⟩ : ∃ (r : Fin 600) (k : Fin 128), y = ix2 r k := ⟨y 0, y 1, by blk_ext⟩
  rw [← hV]
  show iblk m c 1 t (ix2 r k) = V m c main_v27 (ix2 r k)
  blk_point [iblk, idx t]

theorem blkM (c : Dev nD) (t : Fin cfg0.N) : iblk m c 2 t = laidM m c := by
  rw [← V_M]
  generalize hV : (V m c main_v41 : FVec Ideal S600x128 .f32) = x
  funext y
  obtain ⟨r, k, rfl⟩ : ∃ (r : Fin 600) (k : Fin 128), y = ix2 r k := ⟨y 0, y 1, by blk_ext⟩
  rw [← hV]
  show iblk m c 2 t (ix2 r k) = V m c main_v41 (ix2 r k)
  blk_point [iblk, idx t]

theorem blkV (c : Dev nD) (t : Fin cfg0.N) : iblk m c 3 t = laidV m c := by
  rw [← V_V]
  generalize hV : (V m c main_v55 : FVec Ideal S600x128 .f32) = x
  funext y
  obtain ⟨r, k, rfl⟩ : ∃ (r : Fin 600) (k : Fin 128), y = ix2 r k := ⟨y 0, y 1, by blk_ext⟩
  rw [← hV]
  show iblk m c 3 t (ix2 r k) = V m c main_v55 (ix2 r k)
  blk_point [iblk, idx t]

end Cert.Kernel52Ideal.Value

end
-- ==== Proof.SmallStep.lean ====
/-
  The step of the small weights: what the kernel leaves, and that the reference leaves the same.
-/
module

public import proofs.«01_k».proof.Defs
public import proofs.«01_k».proof.Proof.Gen.Kernel52.Frame
public import proofs.«01_k».proof.Proof.Gen.Kernel52Ideal.Frame
public import proofs.«01_k».proof.Proof.Gen.Kernel52Ideal.Value
public import proofs.«01_k».proof.Proof.Gen.Reference52Ideal.Run
public import proofs.«01_k».proof.Proof.SmallLaid
public import Idealize.ShloMosaic.Lib.Claim
public import Idealize.ShloMosaic.Lib.Quiescent
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 65536

noncomputable section

/-! ## The kernel -/

namespace Cert.Kernel52Ideal.Value

open Idealize.ShloMosaic Idealize.ShloMosaic.TcCoe Idealize.SL.Sem
open Idealize.ShloMosaic.Pipeline (Dat)
open Cert.Kernel52Ideal Cert.Kernel52Ideal.Gen Cert.Adam
open Cert.Reference52Ideal.Value (lay lay_two lay_four)

variable (m : (ℓ : Loc nD τ sig) → Buf (Elt Ideal) ℓ)

theorem mean_at (g x : FVec Ideal S600x128 .f32) (r : Fin 600) (k : Fin 128) :
    k0_pay2 (F := Ideal) g x (ix2 r k) = mean (x (ix2 r k)) (g (ix2 r k)) := by
  pointwise [k0_pay2, k0_pay1, mean]

theorem square_at (g x : FVec Ideal S600x128 .f32) (r : Fin 600) (k : Fin 128) :
    k0_pay3 (F := Ideal) g x (ix2 r k) = square (x (ix2 r k)) (g (ix2 r k)) := by
  pointwise [k0_pay3, k0_pay1, square]

theorem change_at (w g x s : FVec Ideal S600x128 .f32) (r : Fin 600) (k : Fin 128) :
    k0_pay4 (F := Ideal) w g x s (ix2 r k) = change (w (ix2 r k)) (g (ix2 r k)) (x (ix2 r k)) (s (ix2 r k)) := by
  pointwise [k0_pay4, k0_pay3, k0_pay2, k0_pay1, change, mean, square]

theorem emb4 (t : Fin cfg0.N) (r : Fin 600) (k : Fin 128) : (win0_4.blk t).view.emb (ix2 r k) = ix2 r k := by
  blk_ext [idx t]

set_option maxHeartbeats 8000000 in
theorem final_d (c : Dev nD) : (dats m 0 c).arrAt 4 (cfgs 0).N
    = (fun y => change (laidW m c y) (laidG m c y) (laidM m c y) (laidV m c y) : FVec Ideal S600x128 .f32) := by
  refine (dats m 0 c).arrAt_eq_of_covers 4 _ (by decide +kernel) fun t _ y => ?_
  obtain ⟨r, k, rfl⟩ : ∃ (r : Fin 600) (k : Fin 128), y = ix2 r k := ⟨y 0, y 1, by blk_ext⟩
  blk_simp
  rw [after0_4, blkW, blkG, blkM, blkV]
  generalize laidW m c = w
  generalize laidG m c = g
  generalize laidM m c = x
  generalize laidV m c = s
  frame_out
  rw [change_at]
  rw [emb4]

theorem emb5 (t : Fin cfg0.N) (r : Fin 600) (k : Fin 128) : (win0_5.blk t).view.emb (ix2 r k) = ix2 r k := by
  blk_ext [idx t]

set_option maxHeartbeats 8000000 in
theorem final_m (c : Dev nD) : (dats m 0 c).arrAt 5 (cfgs 0).N
    = (fun y => mean (laidM m c y) (laidG m c y) : FVec Ideal S600x128 .f32) := by
  refine (dats m 0 c).arrAt_eq_of_covers 5 _ (by decide +kernel) fun t _ y => ?_
  obtain ⟨r, k, rfl⟩ : ∃ (r : Fin 600) (k : Fin 128), y = ix2 r k := ⟨y 0, y 1, by blk_ext⟩
  blk_simp
  rw [after0_5, blkW, blkG, blkM, blkV]
  generalize laidW m c = w
  generalize laidG m c = g
  generalize laidM m c = x
  generalize laidV m c = s
  frame_out
  rw [mean_at]
  rw [emb5]

theorem emb6 (t : Fin cfg0.N) (r : Fin 600) (k : Fin 128) : (win0_6.blk t).view.emb (ix2 r k) = ix2 r k := by
  blk_ext [idx t]

set_option maxHeartbeats 8000000 in
theorem final_v (c : Dev nD) : (dats m 0 c).arrAt 6 (cfgs 0).N
    = (fun y => square (laidV m c y) (laidG m c y) : FVec Ideal S600x128 .f32) := by
  refine (dats m 0 c).arrAt_eq_of_covers 6 _ (by decide +kernel) fun t _ y => ?_
  obtain ⟨r, k, rfl⟩ : ∃ (r : Fin 600) (k : Fin 128), y = ix2 r k := ⟨y 0, y 1, by blk_ext⟩
  blk_simp
  rw [after0_6, blkW, blkG, blkM, blkV]
  generalize laidW m c = w
  generalize laidG m c = g
  generalize laidM m c = x
  generalize laidV m c = s
  frame_out
  rw [square_at]
  rw [emb6]

set_option maxHeartbeats 40000000 in
/-- Kernel and reference leave the same arrays. -/
theorem same : Cert.algebraic_Kernel52Ideal_Reference52Ideal := by
  pair_intro
  · run_from Cert.Kernel52Ideal.Value.run_blocks m g
  · run_from Cert.Reference52Ideal.Value.run_ref m' g'
    · exact (lay_four change change_zero _ _ _ _ _ _ _ _ _ _ _ _ _ _ _ _ _ _ _ _ _ _ _ _ _ _ _ _ _ _ _ _ _ _ _ _ _ _ _ _ _ _ _ _ _ _ _ _ _ _ _ _).trans (final_d m c).symm
    · exact (lay_two mean mean_zero _ _ _ _ _ _ _ _ _ _ _ _ _ _ _ _ _ _ _ _ _ _ _ _ _ _).trans (final_m m c).symm
    · exact (lay_two square square_zero _ _ _ _ _ _ _ _ _ _ _ _ _ _ _ _ _ _ _ _ _ _ _ _ _ _).trans (final_v m c).symm

end Cert.Kernel52Ideal.Value

end
-- ==== Proof.XaKv.lean ====
/-
  The projection of the memory to keys (and to values).
-/
module

public import proofs.«01_k».proof.Defs
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference22Ideal.Value

open Idealize.ShloMosaic Idealize.ShloMosaic.TcCoe Idealize.SL.Sem
open Cert.Reference22Ideal Cert.Reference22Ideal.Gen

/-- The reference's result. -/
def ref (A : Vec Ideal S256x2048 .bf16) (W : Vec Ideal S2048x512 .bf16) : FVec Ideal S256x512 .bf16 :=
  truncf .bf16 (Host.dotGeneral dot_S256x2048_S2048x512_S256x512_1_0_0_1_n_n none (extf .f32 A bitsLt_bf16_f32) (extf .f32 W bitsLt_bf16_f32)) bitsLt_bf16_f32

theorem ref_at (A : Vec Ideal S256x2048 .bf16) (W : Vec Ideal S2048x512 .bf16) (j : S256x512.Idx) :
    ref A W j = ∑ l : Fin 2048, (A (ix2 (j 0) l) : EReal) * W (ix2 l (j 1)) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference22Ideal := fun m ρ _ =>
  (θ_run defs _ _).mono (fun r h => ⟨fun c => (h c).2, sem_eq_zero_of_no_sems (by decide) r.2⟩)
    (run (F := Ideal) m ρ)

end Cert.Reference22Ideal.Value

/-! ## The kernel -/

namespace Cert.Kernel22Ideal.Value

open Idealize.ShloMosaic Idealize.ShloMosaic.TcCoe Idealize.SL.Sem
open Idealize.ShloMosaic.Pipeline (Dat)
open Cert.Kernel22Ideal Cert.Kernel22Ideal.Gen

variable (m : (ℓ : Loc nD τ sig) → Buf (Elt Ideal) ℓ)

theorem idx : ∀ t : Fin cfg0.N, win0_0.index t = ![t.val / 1, 0]
    ∧ win0_1.index t = ![0, t.val % 1]
    ∧ win0_2.index t = ![t.val / 1, t.val % 1] :=
  (by decide +kernel : ∀ t : Fin grid0.N, _)

theorem pay_at (w : Vec Ideal S2048x512 .bf16) (a : Vec Ideal S256x2048 .bf16) (j : S256x512.Idx) :
    k0_pay1 (F := Ideal) w a j
      = (∑ l : Fin 2048, (a (ix2 (j 0) l) : EReal) * w (ix2 l (j 1))) := by
  pointwise [k0_pay1]

/-- The result array, block by block. -/
theorem final (c : Dev nD) : (dats m 0 c).arrAt 2 (cfgs 0).N
    = Cert.Reference22Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference22Ideal.Value.ref_at]
  refine Fin.sum_fin_congr fun l => ?_
  blk_point [iblk, V, idx t]

/-- Kernel and reference leave the same projection. -/
theorem same : Cert.algebraic_Kernel22Ideal_Reference22Ideal := by
  pair_intro
  · run_from Cert.Kernel22Ideal.Value.run_blocks m g
  · run_from Cert.Reference22Ideal.Value.run_ref m' g'
    · exact (final m c).symm

end Cert.Kernel22Ideal.Value

end
-- ==== Proof.XaOut.lean ====
/-
  The memory attention's output projection, added to the stream; its weight comes as four shards of its columns.
-/
module

public import proofs.«01_k».proof.Defs
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference23Ideal.Value

open Idealize.ShloMosaic Idealize.ShloMosaic.TcCoe Idealize.SL.Sem
open Cert.Reference23Ideal Cert.Reference23Ideal.Gen

/-- The whole matrix, of its four shards. -/
def cols (W : Vec Ideal S4x512x512 .bf16) : FVec Ideal S512x2048 .f32 :=
  concatenate S512x2048 1
    [⟨S512x512, shapeCast _ (extractStridedSlice S1x512x512 ![0, 0, 0] (extf .f32 W bitsLt_bf16_f32)
        slices_S4x512x512_S1x512x512_0_0_0) shapeCasts_S1x512x512_S512x512⟩,
      ⟨S512x512, shapeCast _ (extractStridedSlice S1x512x512 ![1, 0, 0] (extf .f32 W bitsLt_bf16_f32)
        slices_S4x512x512_S1x512x512_1_0_0) shapeCasts_S1x512x512_S512x512⟩,
      ⟨S512x512, shapeCast _ (extractStridedSlice S1x512x512 ![2, 0, 0] (extf .f32 W bitsLt_bf16_f32)
        slices_S4x512x512_S1x512x512_2_0_0) shapeCasts_S1x512x512_S512x512⟩,
      ⟨S512x512, shapeCast _ (extractStridedSlice S1x512x512 ![3, 0, 0] (extf .f32 W bitsLt_bf16_f32)
        slices_S4x512x512_S1x512x512_3_0_0) shapeCasts_S1x512x512_S512x512⟩]
    concatenates_S512x512_S512x512_S512x512_S512x512_S512x2048_d1

theorem cols_at (W : Vec Ideal S4x512x512 .bf16) (i : Fin 512) (l : Fin 2048) :
    cols W (ix2 i l) = (W (ix3 ⟨l / 512, by omega⟩ i ⟨l % 512, by omega⟩) : EReal) := by
  pointwise [cols]
  blk_point []

theorem idx_lt (j : S8192x2048.Idx) : (j 1 : ℕ) / 512 < 4 := by
  have h : (j 1 : ℕ) < 2048 := (j 1).isLt
  omega

/-- The reference's result. -/
def ref (A : Vec Ideal S8192x512 .bf16) (W : Vec Ideal S4x512x512 .bf16) (X : Vec Ideal S8192x2048 .f32) : FVec Ideal S8192x2048 .f32 :=
  addf X (Host.dotGeneral dot_S8192x512_S512x2048_S8192x2048_1_0_0_1_n_n none (extf .f32 A bitsLt_bf16_f32) (cols W))

theorem ref_at (A : Vec Ideal S8192x512 .bf16) (W : Vec Ideal S4x512x512 .bf16) (X : Vec Ideal S8192x2048 .f32) (j : S8192x2048.Idx) :
    ref A W X j = (X j : EReal) + ∑ l : Fin 512, (A (ix2 (j 0) l) : EReal) * W (ix3 ⟨j 1 / 512, idx_lt j⟩ l ⟨j 1 % 512, Nat.mod_lt _ (by decide)⟩) := by
  pointwise [ref, cols_at]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v12) = ref (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans rfl, (h c).2⟩)
    (run (F := Ideal) m ρ)

/-- The reference runs and leaves its arguments. -/
theorem frame_ref : Cert.quiescent_Reference23Ideal := fun m ρ _ =>
  (θ_run defs _ _).mono (fun r h => ⟨fun c => (h c).2, sem_eq_zero_of_no_sems (by decide) r.2⟩)
    (run (F := Ideal) m ρ)

end Cert.Reference23Ideal.Value

/-! ## The kernel -/

namespace Cert.Kernel23Ideal.Value

open Idealize.ShloMosaic Idealize.ShloMosaic.TcCoe Idealize.SL.Sem
open Idealize.ShloMosaic.Pipeline (Dat)
open Cert.Kernel23Ideal Cert.Kernel23Ideal.Gen

variable (m : (ℓ : Loc nD τ sig) → Buf (Elt Ideal) ℓ)

theorem idx : ∀ t : Fin cfg0.N, win0_0.index t = ![t.val / 4, 0]
    ∧ win0_1.index t = ![t.val % 4, 0, 0]
    ∧ win0_2.index t = ![t.val / 4, t.val % 4]
    ∧ win0_3.index t = ![t.val / 4, t.val % 4] :=
  (by decide +kernel : ∀ t : Fin grid0.N, _)

theorem pay_at (w : Vec Ideal S1x512x512 .bf16) (a : Vec Ideal S1024x512 .bf16) (x : Vec Ideal S1024x512 .f32) (j : S1024x512.Idx) :
    k0_pay1 (F := Ideal) w a x j
      = (∑ l : Fin 512, (a (ix2 (j 0) l) : EReal) * w (ix3 0 l (j 1))) + (x j : EReal) := by
  pointwise [k0_pay1]

/-- The result array, block by block. -/
theorem final (c : Dev nD) : (dats m 0 c).arrAt 3 (cfgs 0).N
    = Cert.Reference23Ideal.Value.ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [pay_at, Cert.Reference23Ideal.Value.ref_at, add_comm]
  refine congrArg₂ (fun a b : EReal => a + b) ?_ ?_
  · blk_point [iblk, V, idx t]
  · refine Fin.sum_fin_congr fun l => ?_
    blk_point [iblk, V, idx t]

/-- Kernel and reference leave the same projection. -/
theorem same : Cert.algebraic_Kernel23Ideal_Reference23Ideal := by
  pair_intro
  · run_from Cert.Kernel23Ideal.Value.run_blocks m g
  · run_from Cert.Reference23Ideal.Value.run_ref m' g'
    · exact (final m c).symm

end Cert.Kernel23Ideal.Value

end
-- ==== Proof.XaQ.lean ====
/-
  The projection to the memory attention's queries.
-/
module

public import proofs.«01_k».proof.Defs
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference -/

namespace Cert.Reference21Ideal.Value

open Idealize.ShloMosaic Idealize.ShloMosaic.TcCoe Idealize.SL.Sem
open Cert.Reference21Ideal Cert.Reference21Ideal.Gen

/-- The reference's result. -/
def ref (A : Vec Ideal S8192x2048 .bf16) (W : Vec Ideal S2048x512 .bf16) : FVec Ideal S8192x512 .bf16 :=
  truncf .bf16 (Host.dotGeneral dot_S8192x2048_S2048x512_S8192x512_1_0_0_1_n_n none (extf .f32 A bitsLt_bf16_f32) (extf .f32 W bitsLt_bf16_f32)) bitsLt_bf16_f32

theorem ref_at (A : Vec Ideal S8192x2048 .bf16) (W : Vec Ideal S2048x512 .bf16) (j : S8192x512.Idx) :
    ref A W j = ∑ l : Fin 2048, (A (ix2 (j 0) l) : EReal) * W (ix2 l (j 1)) := by
  pointwise [ref]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = ref (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun r h c => ⟨(h c).1.trans rfl, (h c).2⟩)
    (run (F := Ideal) m ρ)

/-- The reference runs and leaves its arguments. -/
theorem frame_ref : Cert.quiescent_Reference21Ideal := fun m ρ _ =>
  (θ_run defs _ _).mono (fun r h => ⟨fun c => (h c).2, sem_eq_zero_of_no_sems (by decide) r.2⟩)
    (run (F := Ideal) m ρ)

end Cert.Reference21Ideal.Value

/-! ## The kernel -/

namespace Cert.Kernel21Ideal.Value

open Idealize.ShloMosaic Idealize.ShloMosaic.TcCoe Idealize.SL.Sem
open Idealize.ShloMosaic.Pipeline (Dat)
open Cert.Kernel21Ideal Cert.Kernel21Ideal.Gen

variable (m : (ℓ : Loc nD τ sig) → Buf (Elt Ideal) ℓ)

theorem idx : ∀ t : Fin cfg0.N, win0_0.index t = ![t.val / 1, 0]
    ∧ win0_1.index t = ![0, t.val % 1]
    ∧ win0_2.index t = ![t.val / 1, t.val % 1] :=
  (by decide +kernel : ∀ t : Fin grid0.N, _)

theorem pay_at (w : Vec Ideal S2048x512 .bf16) (a : Vec Ideal S1024x2048 .bf16) (j : S1024x512.Idx) :
    k0_pay1 (F := Ideal) w a j
      = (∑ l : Fin 2048, (a (ix2 (j 0) l) : EReal) * w (ix2 l (j 1))) := by
  pointwise [k0_pay1]

/-- The result array, block by block. -/
theorem final (c : Dev nD) : (dats m 0 c).arrAt 2 (cfgs 0).N
    = Cert.Reference21Ideal.Value.ref (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, Cert.Reference21Ideal.Value.ref_at]
  refine Fin.sum_fin_congr fun l => ?_
  blk_point [iblk, V, idx t]

/-- Kernel and reference leave the same projection. -/
theorem same : Cert.algebraic_Kernel21Ideal_Reference21Ideal := by
  pair_intro
  · run_from Cert.Kernel21Ideal.Value.run_blocks m g
  · run_from Cert.Reference21Ideal.Value.run_ref m' g'
    · exact (final m c).symm

end Cert.Kernel21Ideal.Value

end
-- ==== Proof.lean ====
/- Every claim of this certificate, put together from the modules of `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Kernel40.Frame
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Kernel41.Frame
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Gen.Kernel42.Frame
public import proofs.«01_k».proof.Proof.Gen.Kernel42Ideal.Frame
public import proofs.«01_k».proof.Proof.Gen.Kernel42Ideal.Value
public import proofs.«01_k».proof.Proof.Gen.Reference42Ideal.Run
public import proofs.«01_k».proof.Proof.Gen.Kernel43.Frame
public import proofs.«01_k».proof.Proof.Gen.Kernel43Ideal.Frame
public import proofs.«01_k».proof.Proof.Gen.Kernel43Ideal.Value
public import proofs.«01_k».proof.Proof.Gen.Reference43Ideal.Run
public import proofs.«01_k».proof.Proof.Gen.Kernel44.Frame
public import proofs.«01_k».proof.Proof.Gen.Kernel44Ideal.Frame
public import proofs.«01_k».proof.Proof.Gen.Kernel44Ideal.Value
public import proofs.«01_k».proof.Proof.Gen.Reference44Ideal.Run
public import proofs.«01_k».proof.Proof.Gen.Kernel46.Frame
public import proofs.«01_k».proof.Proof.Gen.Kernel46Ideal.Frame
public import proofs.«01_k».proof.Proof.Gen.Kernel46Ideal.Value
public import proofs.«01_k».proof.Proof.Gen.Reference46Ideal.Run
public import proofs.«01_k».proof.Proof.Gen.Kernel47.Frame
public import proofs.«01_k».proof.Proof.Gen.Kernel47Ideal.Frame
public import proofs.«01_k».proof.Proof.Gen.Kernel47Ideal.Value
public import proofs.«01_k».proof.Proof.Gen.Reference47Ideal.Run
public import proofs.«01_k».proof.Proof.Gen.Kernel52.Frame
public import proofs.«01_k».proof.Proof.Gen.Kernel52Ideal.Frame
public import proofs.«01_k».proof.Proof.Gen.Kernel52Ideal.Value
public import proofs.«01_k».proof.Proof.Gen.Reference52Ideal.Run
public import proofs.«01_k».proof.Proof.Adam
public import proofs.«01_k».proof.Proof.AdamDown
public import proofs.«01_k».proof.Proof.AdamGate
public import proofs.«01_k».proof.Proof.AdamHead
public import proofs.«01_k».proof.Proof.AdamIn
public import proofs.«01_k».proof.Proof.AdamOut
public import proofs.«01_k».proof.Proof.Arrays
public import proofs.«01_k».proof.Proof.ConvGrad
public import proofs.«01_k».proof.Proof.ConvRef
public import proofs.«01_k».proof.Proof.DAct
public import proofs.«01_k».proof.Proof.DMix
public import proofs.«01_k».proof.Proof.DO
public import proofs.«01_k».proof.Proof.Dhn1d
public import proofs.«01_k».proof.Proof.Dhn1s
public import proofs.«01_k».proof.Proof.Dhn1x
public import proofs.«01_k».proof.Proof.Dhn1z
public import proofs.«01_k».proof.Proof.Dhn2
public import proofs.«01_k».proof.Proof.DhnGate
public import proofs.«01_k».proof.Proof.DhnUp
public import proofs.«01_k».proof.Proof.Dmemn
public import proofs.«01_k».proof.Proof.DmemnFirst
public import proofs.«01_k».proof.Proof.DwDown
public import proofs.«01_k».proof.Proof.DwDt
public import proofs.«01_k».proof.Proof.DwGate
public import proofs.«01_k».proof.Proof.DwKv
public import proofs.«01_k».proof.Proof.DwO
public import proofs.«01_k».proof.Proof.DwOut
public import proofs.«01_k».proof.Proof.DwQ
public import proofs.«01_k».proof.Proof.DwS
public import proofs.«01_k».proof.Proof.DwXbc
public import proofs.«01_k».proof.Proof.DwZ
public import proofs.«01_k».proof.Proof.Equation
public import proofs.«01_k».proof.Proof.FfDown
public import proofs.«01_k».proof.Proof.FfGate
public import proofs.«01_k».proof.Proof.Finite
public import proofs.«01_k».proof.Proof.GateFwd
public import proofs.«01_k».proof.Proof.GateGrad
public import proofs.«01_k».proof.Proof.Gates
public import proofs.«01_k».proof.Proof.Heads
public import proofs.«01_k».proof.Proof.MixGrad
public import proofs.«01_k».proof.Proof.MixRef
public import proofs.«01_k».proof.Proof.NormFwd
public import proofs.«01_k».proof.Proof.NormGrad
public import proofs.«01_k».proof.Proof.OutProj
public import proofs.«01_k».proof.Proof.ProjDt
public import proofs.«01_k».proof.Proof.ProjS
public import proofs.«01_k».proof.Proof.ProjXbc
public import proofs.«01_k».proof.Proof.ProjZ
public import proofs.«01_k».proof.Proof.Ref
public import proofs.«01_k».proof.Proof.ShortGrad
public import proofs.«01_k».proof.Proof.ShortParts
public import proofs.«01_k».proof.Proof.ShortRef
public import proofs.«01_k».proof.Proof.SmallLaid
public import proofs.«01_k».proof.Proof.SmallRef
public import proofs.«01_k».proof.Proof.SmallStep
public import proofs.«01_k».proof.Proof.Softmax
public import proofs.«01_k».proof.Proof.XaKv
public import proofs.«01_k».proof.Proof.XaOut
public import proofs.«01_k».proof.Proof.XaQ
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference runs and leaves its arguments. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

open Cert.ReferenceIdeal.Value in
/-- The reference's run, its three results named. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal)))
      ⟨m, fun _ => 0, ρ⟩ fun r => ∀ c : Dev Cert.ReferenceIdeal.nD,
      r.2.mem (c.tc.loc Cert.ReferenceIdeal.main_v67)
          = refDq (m (c.tc.loc Cert.ReferenceIdeal.main_arg0)) (m (c.tc.loc Cert.ReferenceIdeal.main_arg3))
              (m (c.tc.loc Cert.ReferenceIdeal.main_arg1)) (m (c.tc.loc Cert.ReferenceIdeal.main_arg2))
      ∧ r.2.mem (c.tc.loc Cert.ReferenceIdeal.main_v65)
          = refDk (m (c.tc.loc Cert.ReferenceIdeal.main_arg0)) (m (c.tc.loc Cert.ReferenceIdeal.main_arg3))
              (m (c.tc.loc Cert.ReferenceIdeal.main_arg1)) (m (c.tc.loc Cert.ReferenceIdeal.main_arg2))
      ∧ r.2.mem (c.tc.loc Cert.ReferenceIdeal.main_v64)
          = refDv (m (c.tc.loc Cert.ReferenceIdeal.main_arg0)) (m (c.tc.loc Cert.ReferenceIdeal.main_arg3))
              (m (c.tc.loc Cert.ReferenceIdeal.main_arg1))
      ∧ r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3) :=
  (θ_run Cert.ReferenceIdeal.defs _ _).mono (fun r h c => ⟨(h c).1.trans (res0 m c), (h c).2.1.trans (res1 m c), (h c).2.2⟩)
    (run (F := Ideal) m ρ)

section
open Cert.KernelIdeal Cert.KernelIdeal.Gen Cert.KernelIdeal.Value Cert.ReferenceIdeal.Value

variable (m : (ℓ : Loc Cert.KernelIdeal.nD Cert.KernelIdeal.τ Cert.KernelIdeal.sig) → Buf (Elt Ideal) ℓ)
variable (hpre : Pre_KernelIdeal_finite_qk m) (c : Dev Cert.KernelIdeal.nD)
include hpre

/-- The kernel's gradient of the queries is the reference's. -/
theorem final_q : (dats m 0 c).arrAt 4 (Cert.KernelIdeal.cfgs 0).N = refDq (aQ m c) (aO m c) (aK m c) (aV m c) :=
  (final_dq m c).trans (refDq_eq (Cert.Pre_finite_qk.real_Q _ _ _ _ (hpre c)) (Cert.Pre_finite_qk.real_K _ _ _ _ (hpre c))).symm

/-- The kernel's gradient of the keys is the reference's. -/
theorem final_k : (dats m 0 c).arrAt 5 (Cert.KernelIdeal.cfgs 0).N = refDk (aQ m c) (aO m c) (aK m c) (aV m c) :=
  (final_dk m c).trans (refDk_eq (Cert.Pre_finite_qk.real_Q _ _ _ _ (hpre c)) (Cert.Pre_finite_qk.real_K _ _ _ _ (hpre c))).symm

/-- The kernel's gradient of the values is the reference's. -/
theorem final_v : (dats m 0 c).arrAt 6 (Cert.KernelIdeal.cfgs 0).N = refDv (aQ m c) (aO m c) (aK m c) :=
  (final_dv m c).trans (refDv_eq (Cert.Pre_finite_qk.real_Q _ _ _ _ (hpre c)) (Cert.Pre_finite_qk.real_K _ _ _ _ (hpre c))).symm

end

/-- With finite queries and keys the kernel and the reference leave the same three gradients. -/
theorem gradients : Cert.algebraic_KernelIdeal_ReferenceIdeal_pre_finite_qk := by
  pair_intro
  · run_from Cert.KernelIdeal.Value.run_blocks m g
  · run_from ref_run m' g'
    · exact (final_q m hpre c).symm
    · exact (final_k m hpre c).symm
    · exact (final_v m hpre c).symm

theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, Cert.Kernel18.Gen.facts, Cert.Kernel18Ideal.Gen.facts,
    Cert.Reference18Ideal.Gen.facts, Cert.Kernel19.Gen.facts, Cert.Kernel19Ideal.Gen.facts,
    Cert.Reference19Ideal.Gen.facts, Cert.Kernel20.Gen.facts, Cert.Kernel20Ideal.Gen.facts,
    Cert.Reference20Ideal.Gen.facts, Cert.Kernel21.Gen.facts, Cert.Kernel21Ideal.Gen.facts,
    Cert.Reference21Ideal.Gen.facts, Cert.Kernel22.Gen.facts, Cert.Kernel22Ideal.Gen.facts,
    Cert.Reference22Ideal.Gen.facts, Cert.Kernel23.Gen.facts, Cert.Kernel23Ideal.Gen.facts,
    Cert.Reference23Ideal.Gen.facts, Cert.Kernel24.Gen.facts, Cert.Kernel24Ideal.Gen.facts,
    Cert.Reference24Ideal.Gen.facts, Cert.Kernel25.Gen.facts, Cert.Kernel25Ideal.Gen.facts,
    Cert.Reference25Ideal.Gen.facts, Cert.Kernel26.Gen.facts, Cert.Kernel26Ideal.Gen.facts,
    Cert.Reference26Ideal.Gen.facts, Cert.Kernel27.Gen.facts, Cert.Kernel27Ideal.Gen.facts,
    Cert.Reference27Ideal.Gen.facts, Cert.Kernel28.Gen.facts, Cert.Kernel28Ideal.Gen.facts,
    Cert.Reference28Ideal.Gen.facts, Cert.Kernel29.Gen.facts, Cert.Kernel29Ideal.Gen.facts,
    Cert.Reference29Ideal.Gen.facts, Cert.Kernel30.Gen.facts, Cert.Kernel30Ideal.Gen.facts,
    Cert.Reference30Ideal.Gen.facts, Cert.Kernel31.Gen.facts, Cert.Kernel31Ideal.Gen.facts,
    Cert.Reference31Ideal.Gen.facts, Cert.Kernel32.Gen.facts, Cert.Kernel32Ideal.Gen.facts,
    Cert.Reference32Ideal.Gen.facts, Cert.Kernel33.Gen.facts, Cert.Kernel33Ideal.Gen.facts,
    Cert.Reference33Ideal.Gen.facts, Cert.Kernel34.Gen.facts, Cert.Kernel34Ideal.Gen.facts,
    Cert.Reference34Ideal.Gen.facts, Cert.Kernel35.Gen.facts, Cert.Kernel35Ideal.Gen.facts,
    Cert.Reference35Ideal.Gen.facts, Cert.Kernel36.Gen.facts, Cert.Kernel36Ideal.Gen.facts,
    Cert.Reference36Ideal.Gen.facts, Cert.Kernel37.Gen.facts, Cert.Kernel37Ideal.Gen.facts,
    Cert.Reference37Ideal.Gen.facts, Cert.Kernel39.Gen.facts, Cert.Kernel39Ideal.Gen.facts,
    Cert.Reference39Ideal.Gen.facts, Cert.Kernel40.Gen.facts, Cert.Kernel40Ideal.Gen.facts,
    Cert.Reference40Ideal.Gen.facts, Cert.Kernel41.Gen.facts, Cert.Kernel41Ideal.Gen.facts,
    Cert.Reference41Ideal.Gen.facts, Cert.Kernel42.Gen.facts, Cert.Kernel42Ideal.Gen.facts,
    Cert.Reference42Ideal.Gen.facts, Cert.Kernel43.Gen.facts, Cert.Kernel43Ideal.Gen.facts,
    Cert.Reference43Ideal.Gen.facts, Cert.Kernel44.Gen.facts, Cert.Kernel44Ideal.Gen.facts,
    Cert.Reference44Ideal.Gen.facts, Cert.Kernel46.Gen.facts, Cert.Kernel46Ideal.Gen.facts,
    Cert.Reference46Ideal.Gen.facts, Cert.Kernel47.Gen.facts, Cert.Kernel47Ideal.Gen.facts,
    Cert.Reference47Ideal.Gen.facts, Cert.Kernel52.Gen.facts, Cert.Kernel52Ideal.Gen.facts,
    Cert.Reference52Ideal.Gen.facts, Cert.Pre_finite_qk.Gen.facts, Cert.Pre_finite_mix.Gen.facts,
    Cert.Pre_finite_gate.Gen.facts, Cert.Pre_finite_conv.Gen.facts, ?_⟩
  exact ⟨fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    fun m ρ _ => Cert.Kernel2.Gen.frame m ρ, fun m ρ _ => Cert.Kernel2Ideal.Gen.frame m ρ,
    Cert.Reference2Ideal.Value.frame_ref, fun m ρ _ => Cert.Kernel3.Gen.frame m ρ,
    fun m ρ _ => Cert.Kernel3Ideal.Gen.frame m ρ, Cert.Reference3Ideal.Value.frame_ref,
    fun m ρ _ => Cert.Kernel4.Gen.frame m ρ, fun m ρ _ => Cert.Kernel4Ideal.Gen.frame m ρ,
    Cert.Reference4Ideal.Value.frame_ref, fun m ρ _ => Cert.Kernel5.Gen.frame m ρ,
    fun m ρ _ => Cert.Kernel5Ideal.Gen.frame m ρ, Cert.Reference5Ideal.Value.frame_ref,
    fun m ρ _ => Cert.Kernel6.Gen.frame m ρ, fun m ρ _ => Cert.Kernel6Ideal.Gen.frame m ρ,
    Cert.Reference6Ideal.Value.frame_ref, fun m ρ _ => Cert.Kernel7.Gen.frame m ρ,
    fun m ρ _ => Cert.Kernel7Ideal.Gen.frame m ρ, Cert.Reference7Ideal.Value.frame_ref,
    fun m ρ _ => Cert.Kernel8.Gen.frame m ρ, fun m ρ _ => Cert.Kernel8Ideal.Gen.frame m ρ,
    Cert.Reference8Ideal.Value.frame_ref, fun m ρ _ => Cert.Kernel9.Gen.frame m ρ,
    fun m ρ _ => Cert.Kernel9Ideal.Gen.frame m ρ, Cert.Reference9Ideal.Value.frame_ref,
    fun m ρ _ => Cert.Kernel10.Gen.frame m ρ, fun m ρ _ => Cert.Kernel10Ideal.Gen.frame m ρ,
    Cert.Reference10Ideal.Value.frame_ref, fun m ρ _ => Cert.Kernel11.Gen.frame m ρ,
    fun m ρ _ => Cert.Kernel11Ideal.Gen.frame m ρ, Cert.Reference11Ideal.Value.frame_ref,
    fun m ρ _ => Cert.Kernel12.Gen.frame m ρ, fun m ρ _ => Cert.Kernel12Ideal.Gen.frame m ρ,
    Cert.Reference12Ideal.Value.frame_ref, fun m ρ _ => Cert.Kernel13.Gen.frame m ρ,
    fun m ρ _ => Cert.Kernel13Ideal.Gen.frame m ρ, Cert.Reference13Ideal.Value.frame_ref,
    fun m ρ _ => Cert.Kernel14.Gen.frame m ρ, fun m ρ _ => Cert.Kernel14Ideal.Gen.frame m ρ,
    Cert.Reference14Ideal.Value.frame_ref, fun m ρ _ => Cert.Kernel15.Gen.frame m ρ,
    fun m ρ _ => Cert.Kernel15Ideal.Gen.frame m ρ, Cert.Reference15Ideal.Value.frame_ref,
    fun m ρ _ => Cert.Kernel16.Gen.frame m ρ, fun m ρ _ => Cert.Kernel16Ideal.Gen.frame m ρ,
    Cert.Reference16Ideal.Value.frame_ref, fun m ρ _ => Cert.Kernel17.Gen.frame m ρ,
    fun m ρ _ => Cert.Kernel17Ideal.Gen.frame m ρ, Cert.Reference17Ideal.Value.frame_ref,
    fun m ρ _ => Cert.Kernel18.Gen.frame m ρ, fun m ρ _ => Cert.Kernel18Ideal.Gen.frame m ρ,
    Cert.Reference18Ideal.Value.frame_ref, fun m ρ _ => Cert.Kernel19.Gen.frame m ρ,
    fun m ρ _ => Cert.Kernel19Ideal.Gen.frame m ρ, Cert.Reference19Ideal.Value.frame_ref,
    fun m ρ _ => Cert.Kernel20.Gen.frame m ρ, fun m ρ _ => Cert.Kernel20Ideal.Gen.frame m ρ,
    Cert.Reference20Ideal.Value.frame_ref, fun m ρ _ => Cert.Kernel21.Gen.frame m ρ,
    fun m ρ _ => Cert.Kernel21Ideal.Gen.frame m ρ, Cert.Reference21Ideal.Value.frame_ref,
    fun m ρ _ => Cert.Kernel22.Gen.frame m ρ, fun m ρ _ => Cert.Kernel22Ideal.Gen.frame m ρ,
    Cert.Reference22Ideal.Value.frame_ref, fun m ρ _ => Cert.Kernel23.Gen.frame m ρ,
    fun m ρ _ => Cert.Kernel23Ideal.Gen.frame m ρ, Cert.Reference23Ideal.Value.frame_ref,
    fun m ρ _ => Cert.Kernel24.Gen.frame m ρ, fun m ρ _ => Cert.Kernel24Ideal.Gen.frame m ρ,
    Cert.Reference24Ideal.Value.frame_ref, fun m ρ _ => Cert.Kernel25.Gen.frame m ρ,
    fun m ρ _ => Cert.Kernel25Ideal.Gen.frame m ρ, Cert.Reference25Ideal.Value.frame_ref,
    fun m ρ _ => Cert.Kernel26.Gen.frame m ρ, fun m ρ _ => Cert.Kernel26Ideal.Gen.frame m ρ,
    Cert.Reference26Ideal.Value.frame_ref, fun m ρ _ => Cert.Kernel27.Gen.frame m ρ,
    fun m ρ _ => Cert.Kernel27Ideal.Gen.frame m ρ, Cert.Reference27Ideal.Value.frame_ref,
    fun m ρ _ => Cert.Kernel28.Gen.frame m ρ, fun m ρ _ => Cert.Kernel28Ideal.Gen.frame m ρ,
    Cert.Reference28Ideal.Value.frame_ref, fun m ρ _ => Cert.Kernel29.Gen.frame m ρ,
    fun m ρ _ => Cert.Kernel29Ideal.Gen.frame m ρ, Cert.Reference29Ideal.Value.frame_ref,
    fun m ρ _ => Cert.Kernel30.Gen.frame m ρ, fun m ρ _ => Cert.Kernel30Ideal.Gen.frame m ρ,
    Cert.Reference30Ideal.Value.frame_ref, fun m ρ _ => Cert.Kernel31.Gen.frame m ρ,
    fun m ρ _ => Cert.Kernel31Ideal.Gen.frame m ρ, Cert.Reference31Ideal.Value.frame_ref,
    fun m ρ _ => Cert.Kernel32.Gen.frame m ρ, fun m ρ _ => Cert.Kernel32Ideal.Gen.frame m ρ,
    Cert.Reference32Ideal.Value.frame_ref, fun m ρ _ => Cert.Kernel33.Gen.frame m ρ,
    fun m ρ _ => Cert.Kernel33Ideal.Gen.frame m ρ, Cert.Reference33Ideal.Value.frame_ref,
    fun m ρ _ => Cert.Kernel34.Gen.frame m ρ, fun m ρ _ => Cert.Kernel34Ideal.Gen.frame m ρ,
    fun m ρ _ => Cert.Kernel34Ideal.Gen.frame m ρ, Cert.Reference34Ideal.Value.frame_ref,
    fun m ρ _ => Cert.Reference34Ideal.Value.frame_ref m ρ trivial, fun m ρ _ => Cert.Kernel35.Gen.frame m ρ,
    fun m ρ _ => Cert.Kernel35Ideal.Gen.frame m ρ, fun m ρ _ => Cert.Kernel35Ideal.Gen.frame m ρ,
    Cert.Reference35Ideal.Value.frame_ref, fun m ρ _ => Cert.Reference35Ideal.Value.frame_ref m ρ trivial,
    fun m ρ _ => Cert.Kernel36.Gen.frame m ρ, fun m ρ _ => Cert.Kernel36Ideal.Gen.frame m ρ,
    Cert.Reference36Ideal.Value.frame_ref, fun m ρ _ => Cert.Kernel37.Gen.frame m ρ,
    fun m ρ _ => Cert.Kernel37Ideal.Gen.frame m ρ, fun m ρ _ => Cert.Kernel37Ideal.Gen.frame m ρ,
    Cert.Reference37Ideal.Value.frame_ref, fun m ρ _ => Cert.Reference37Ideal.Value.frame_ref m ρ trivial,
    fun m ρ _ => Cert.Kernel39.Gen.frame m ρ, fun m ρ _ => Cert.Kernel39Ideal.Gen.frame m ρ,
    Cert.Reference39Ideal.Value.frame_ref, fun m ρ _ => Cert.Kernel40.Gen.frame m ρ,
    fun m ρ _ => Cert.Kernel40Ideal.Gen.frame m ρ, Cert.Reference40Ideal.Value.frame_ref,
    fun m ρ _ => Cert.Kernel41.Gen.frame m ρ, fun m ρ _ => Cert.Kernel41Ideal.Gen.frame m ρ,
    Cert.Reference41Ideal.Value.frame_ref, fun m ρ _ => Cert.Kernel42.Gen.frame m ρ,
    fun m ρ _ => Cert.Kernel42Ideal.Gen.frame m ρ, Cert.Reference42Ideal.Value.frame_ref,
    fun m ρ _ => Cert.Kernel43.Gen.frame m ρ, fun m ρ _ => Cert.Kernel43Ideal.Gen.frame m ρ,
    Cert.Reference43Ideal.Value.frame_ref, fun m ρ _ => Cert.Kernel44.Gen.frame m ρ,
    fun m ρ _ => Cert.Kernel44Ideal.Gen.frame m ρ, Cert.Reference44Ideal.Value.frame_ref,
    fun m ρ _ => Cert.Kernel46.Gen.frame m ρ, fun m ρ _ => Cert.Kernel46Ideal.Gen.frame m ρ,
    Cert.Reference46Ideal.Value.frame_ref, fun m ρ _ => Cert.Kernel47.Gen.frame m ρ,
    fun m ρ _ => Cert.Kernel47Ideal.Gen.frame m ρ, Cert.Reference47Ideal.Value.frame_ref,
    fun m ρ _ => Cert.Kernel52.Gen.frame m ρ, fun m ρ _ => Cert.Kernel52Ideal.Gen.frame m ρ,
    Cert.Reference52Ideal.Value.frame_ref, trivial, gradients, trivial, Cert.Kernel2Ideal.Value.same, trivial,
    Cert.Kernel3Ideal.Value.same, trivial, Cert.Kernel4Ideal.Value.same, trivial, Cert.Kernel5Ideal.Value.same,
    trivial, Cert.Kernel6Ideal.Value.same, trivial, Cert.Kernel7Ideal.Value.same, trivial,
    Cert.Kernel8Ideal.Value.same, trivial, Cert.Kernel9Ideal.Value.same, trivial, Cert.Kernel10Ideal.Value.same,
    trivial, Cert.Kernel11Ideal.Value.same, trivial, Cert.Kernel12Ideal.Value.same, trivial,
    Cert.Kernel13Ideal.Value.same, trivial, Cert.Kernel14Ideal.Value.same, trivial, Cert.Kernel15Ideal.Value.same,
    trivial, Cert.Kernel16Ideal.Value.same, trivial, Cert.Kernel17Ideal.Value.same, trivial,
    Cert.Kernel18Ideal.Value.same, trivial, Cert.Kernel19Ideal.Value.same, trivial, Cert.Kernel20Ideal.Value.same,
    trivial, Cert.Kernel21Ideal.Value.same, trivial, Cert.Kernel22Ideal.Value.same, trivial,
    Cert.Kernel23Ideal.Value.same, trivial, Cert.Kernel24Ideal.Value.same, trivial, Cert.Kernel25Ideal.Value.same,
    trivial, Cert.Kernel26Ideal.Value.same, trivial, Cert.Kernel27Ideal.Value.same, trivial,
    Cert.Kernel28Ideal.Value.same, trivial, Cert.Kernel29Ideal.Value.same, trivial, Cert.Kernel30Ideal.Value.same,
    trivial, Cert.Kernel31Ideal.Value.same, trivial, Cert.Kernel32Ideal.Value.same, trivial,
    Cert.Kernel33Ideal.Value.same, trivial, Cert.Kernel34Ideal.Value.same, trivial, Cert.Kernel35Ideal.Value.same,
    trivial, Cert.Kernel36Ideal.Value.same, trivial, Cert.Kernel37Ideal.Value.same, trivial,
    Cert.Kernel39Ideal.Value.same, trivial, Cert.Kernel40Ideal.Value.same, trivial, Cert.Kernel41Ideal.Value.same,
    trivial, Cert.Kernel42Ideal.Value.same, trivial, Cert.Kernel43Ideal.Value.same, trivial,
    Cert.Kernel44Ideal.Value.same, trivial, Cert.Kernel46Ideal.Value.same, trivial, Cert.Kernel47Ideal.Value.same,
    trivial, Cert.Kernel52Ideal.Value.same⟩

end Cert.Proof

end
